-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2.2.2.2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2.2.2.2.2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2.2.2.2.2.2.2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2.2.2.2.2.2.2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)) (v4 : (c : Dev Cert.Kernel4Ideal.nD) → Buf (Elt Ideal) ((c.tc : Thread Cert.Kernel4Ideal.nD Cert.Kernel4Ideal.τ).loc Cert.Kernel4Ideal.main_v32_4)) (v5 : (c : Dev Cert.Kernel4Ideal.nD) → Buf (Elt Ideal) ((c.tc : Thread Cert.Kernel4Ideal.nD Cert.Kernel4Ideal.τ).loc Cert.Kernel4Ideal.main_v32_5)) (v6 : (c : Dev Cert.Kernel4Ideal.nD) → Buf (Elt Ideal) ((c.tc : Thread Cert.Kernel4Ideal.nD Cert.Kernel4Ideal.τ).loc Cert.Kernel4Ideal.main_v32_6)) (v7 : (c : Dev Cert.Kernel4Ideal.nD) → Buf (Elt Ideal) ((c.tc : Thread Cert.Kernel4Ideal.nD Cert.Kernel4Ideal.τ).loc Cert.Kernel4Ideal.main_v32_7)) (v8 : (c : Dev Cert.Kernel4Ideal.nD) → Buf (Elt Ideal) ((c.tc : Thread Cert.Kernel4Ideal.nD Cert.Kernel4Ideal.τ).loc Cert.Kernel4Ideal.main_v32_8)) (v9 : (c : Dev Cert.Kernel4Ideal.nD) → Buf (Elt Ideal) ((c.tc : Thread Cert.Kernel4Ideal.nD Cert.Kernel4Ideal.τ).loc Cert.Kernel4Ideal.main_v32_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_v32_4) = v4 c
          ∧ r.2.mem ((c.tc : Thread Cert.Kernel4Ideal.nD Cert.Kernel4Ideal.τ).loc Cert.Kernel4Ideal.main_v32_5) = v5 c
          ∧ r.2.mem ((c.tc : Thread Cert.Kernel4Ideal.nD Cert.Kernel4Ideal.τ).loc Cert.Kernel4Ideal.main_v32_6) = v6 c
          ∧ r.2.mem ((c.tc : Thread Cert.Kernel4Ideal.nD Cert.Kernel4Ideal.τ).loc Cert.Kernel4Ideal.main_v32_7) = v7 c
          ∧ r.2.mem ((c.tc : Thread Cert.Kernel4Ideal.nD Cert.Kernel4Ideal.τ).loc Cert.Kernel4Ideal.main_v32_8) = v8 c
          ∧ r.2.mem ((c.tc : Thread Cert.Kernel4Ideal.nD Cert.Kernel4Ideal.τ).loc Cert.Kernel4Ideal.main_v32_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v125) = v1 c
          ∧ r.2.mem ((c.tc : Thread Cert.Reference4Ideal.nD Cert.Reference4Ideal.τ).loc Cert.Reference4Ideal.main_v126) = v2 c
          ∧ r.2.mem ((c.tc : Thread Cert.Reference4Ideal.nD Cert.Reference4Ideal.τ).loc Cert.Reference4Ideal.main_v127) = v3 c
          ∧ r.2.mem ((c.tc : Thread Cert.Reference4Ideal.nD Cert.Reference4Ideal.τ).loc Cert.Reference4Ideal.main_v128) = v4 c
          ∧ r.2.mem ((c.tc : Thread Cert.Reference4Ideal.nD Cert.Reference4Ideal.τ).loc Cert.Reference4Ideal.main_v129) = v5 c
          ∧ r.2.mem ((c.tc : Thread Cert.Reference4Ideal.nD Cert.Reference4Ideal.τ).loc Cert.Reference4Ideal.main_v130) = v6 c
          ∧ r.2.mem ((c.tc : Thread Cert.Reference4Ideal.nD Cert.Reference4Ideal.τ).loc Cert.Reference4Ideal.main_v131) = v7 c
          ∧ r.2.mem ((c.tc : Thread Cert.Reference4Ideal.nD Cert.Reference4Ideal.τ).loc Cert.Reference4Ideal.main_v132) = v8 c
          ∧ r.2.mem ((c.tc : Thread Cert.Reference4Ideal.nD Cert.Reference4Ideal.τ).loc Cert.Reference4Ideal.main_v133) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v30_0)) (v1 : (c : Dev Cert.Kernel5Ideal.nD) → Buf (Elt Ideal) ((c.tc : Thread Cert.Kernel5Ideal.nD Cert.Kernel5Ideal.τ).loc Cert.Kernel5Ideal.main_v30_1)) (v2 : (c : Dev Cert.Kernel5Ideal.nD) → Buf (Elt Ideal) ((c.tc : Thread Cert.Kernel5Ideal.nD Cert.Kernel5Ideal.τ).loc Cert.Kernel5Ideal.main_v30_2)) (v3 : (c : Dev Cert.Kernel5Ideal.nD) → Buf (Elt Ideal) ((c.tc : Thread Cert.Kernel5Ideal.nD Cert.Kernel5Ideal.τ).loc Cert.Kernel5Ideal.main_v30_3)) (v4 : (c : Dev Cert.Kernel5Ideal.nD) → Buf (Elt Ideal) ((c.tc : Thread Cert.Kernel5Ideal.nD Cert.Kernel5Ideal.τ).loc Cert.Kernel5Ideal.main_v30_4)) (v5 : (c : Dev Cert.Kernel5Ideal.nD) → Buf (Elt Ideal) ((c.tc : Thread Cert.Kernel5Ideal.nD Cert.Kernel5Ideal.τ).loc Cert.Kernel5Ideal.main_v30_5)) (v6 : (c : Dev Cert.Kernel5Ideal.nD) → Buf (Elt Ideal) ((c.tc : Thread Cert.Kernel5Ideal.nD Cert.Kernel5Ideal.τ).loc Cert.Kernel5Ideal.main_v30_6)) (v7 : (c : Dev Cert.Kernel5Ideal.nD) → Buf (Elt Ideal) ((c.tc : Thread Cert.Kernel5Ideal.nD Cert.Kernel5Ideal.τ).loc Cert.Kernel5Ideal.main_v30_7)) (v8 : (c : Dev Cert.Kernel5Ideal.nD) → Buf (Elt Ideal) ((c.tc : Thread Cert.Kernel5Ideal.nD Cert.Kernel5Ideal.τ).loc Cert.Kernel5Ideal.main_v30_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30_0) = v0 c
          ∧ r.2.mem ((c.tc : Thread Cert.Kernel5Ideal.nD Cert.Kernel5Ideal.τ).loc Cert.Kernel5Ideal.main_v30_1) = v1 c
          ∧ r.2.mem ((c.tc : Thread Cert.Kernel5Ideal.nD Cert.Kernel5Ideal.τ).loc Cert.Kernel5Ideal.main_v30_2) = v2 c
          ∧ r.2.mem ((c.tc : Thread Cert.Kernel5Ideal.nD Cert.Kernel5Ideal.τ).loc Cert.Kernel5Ideal.main_v30_3) = v3 c
          ∧ r.2.mem ((c.tc : Thread Cert.Kernel5Ideal.nD Cert.Kernel5Ideal.τ).loc Cert.Kernel5Ideal.main_v30_4) = v4 c
          ∧ r.2.mem ((c.tc : Thread Cert.Kernel5Ideal.nD Cert.Kernel5Ideal.τ).loc Cert.Kernel5Ideal.main_v30_5) = v5 c
          ∧ r.2.mem ((c.tc : Thread Cert.Kernel5Ideal.nD Cert.Kernel5Ideal.τ).loc Cert.Kernel5Ideal.main_v30_6) = v6 c
          ∧ r.2.mem ((c.tc : Thread Cert.Kernel5Ideal.nD Cert.Kernel5Ideal.τ).loc Cert.Kernel5Ideal.main_v30_7) = v7 c
          ∧ r.2.mem ((c.tc : Thread Cert.Kernel5Ideal.nD Cert.Kernel5Ideal.τ).loc Cert.Kernel5Ideal.main_v30_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v101) = v0 c
          ∧ r.2.mem ((c.tc : Thread Cert.Reference5Ideal.nD Cert.Reference5Ideal.τ).loc Cert.Reference5Ideal.main_v102) = v1 c
          ∧ r.2.mem ((c.tc : Thread Cert.Reference5Ideal.nD Cert.Reference5Ideal.τ).loc Cert.Reference5Ideal.main_v103) = v2 c
          ∧ r.2.mem ((c.tc : Thread Cert.Reference5Ideal.nD Cert.Reference5Ideal.τ).loc Cert.Reference5Ideal.main_v104) = v3 c
          ∧ r.2.mem ((c.tc : Thread Cert.Reference5Ideal.nD Cert.Reference5Ideal.τ).loc Cert.Reference5Ideal.main_v105) = v4 c
          ∧ r.2.mem ((c.tc : Thread Cert.Reference5Ideal.nD Cert.Reference5Ideal.τ).loc Cert.Reference5Ideal.main_v106) = v5 c
          ∧ r.2.mem ((c.tc : Thread Cert.Reference5Ideal.nD Cert.Reference5Ideal.τ).loc Cert.Reference5Ideal.main_v107) = v6 c
          ∧ r.2.mem ((c.tc : Thread Cert.Reference5Ideal.nD Cert.Reference5Ideal.τ).loc Cert.Reference5Ideal.main_v108) = v7 c
          ∧ r.2.mem ((c.tc : Thread Cert.Reference5Ideal.nD Cert.Reference5Ideal.τ).loc Cert.Reference5Ideal.main_v109) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v147) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v147) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite6 : Cert.Pre_finite6.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S16384x512 : Shape := ⟨2, ![16384, 512]⟩
abbrev S2x64 : Shape := ⟨2, ![2, 64]⟩
abbrev S2x128 : Shape := ⟨2, ![2, 128]⟩
abbrev S_ : Shape := ⟨0, ![]⟩
abbrev S1x64 : Shape := ⟨2, ![1, 64]⟩
abbrev S64 : Shape := ⟨1, ![64]⟩

class Facts : Prop where
  bcast_S_S16384x512 : S_.BroadcastsInDim S16384x512 (![] : Fin 0 → Fin S16384x512.rank)
  slices_S2x64_S1x64_0_0 : S2x64.Slices ![0, 0] S1x64
  shapeCasts_S1x64_S64 : S1x64.ShapeCasts S64
  bcast_S_S64 : S_.BroadcastsInDim S64 (![] : Fin 0 → Fin S64.rank)

variable [Facts]

def fn_part1 {F : FTy → Type} [FloatOps F] (main_arg5 : FVec F S2x64 .f32) (main_arg6 : FVec F S2x64 .f32) (main_v2 : IVec S16384x512 1) (main_v5 : IVec S16384x512 1) (main_v8 : IVec S16384x512 1) (main_v13 : IVec S64 1) (main_v18 : IVec S64 1) : IVec S16384x512 1 × IVec S16384x512 1 × IVec S16384x512 1 × IVec S64 1 × IVec S64 1 × IVec S64 1 × IVec S64 1 :=
  let main_v19 : FVec F S1x64 .f32 := (extractStridedSlice S1x64 ![0, 0] · slices_S2x64_S1x64_0_0) main_arg5
  let main_v20 : FVec F S64 .f32 := shapeCast S64 main_v19 shapeCasts_S1x64_S64
  let main_v21 : FVec F S64 .f32 := Host.absf main_v20
  let main_cst_4 : FVec F S_ .f32 := constant S_ .f32 0x7F800000#32
  let main_v22 : FVec F S64 .f32 := broadcastInDim S64 ![] bcast_S_S64 main_cst_4
  let main_v23 : IVec S64 1 := cmpf .olt main_v21 main_v22
  let main_v24 : FVec F S1x64 .f32 := (extractStridedSlice S1x64 ![0, 0] · slices_S2x64_S1x64_0_0) main_arg6
  let main_v25 : FVec F S64 .f32 := shapeCast S64 main_v24 shapeCasts_S1x64_S64
  let main_v26 : FVec F S64 .f32 := Host.absf main_v25
  let main_cst_5 : FVec F S_ .f32 := constant S_ .f32 0x7F800000#32
  let main_v27 : FVec F S64 .f32 := broadcastInDim S64 ![] bcast_S_S64 main_cst_5
  let main_v28 : IVec S64 1 := cmpf .olt main_v26 main_v27
  (main_v2, main_v5, main_v8, main_v13, main_v18, main_v23, main_v28)

def fn {F : FTy → Type} [FloatOps F] (main_arg0 : FVec F S16384x512 .bf16) (main_arg1 : FVec F S16384x512 .bf16) (main_arg2 : FVec F S16384x512 .bf16) (main_arg3 : FVec F S2x64 .f32) (main_arg4 : FVec F S2x64 .f32) (main_arg5 : FVec F S2x64 .f32) (main_arg6 : FVec F S2x64 .f32) (main_arg7 : FVec F S2x128 .f32) : IVec S16384x512 1 × IVec S16384x512 1 × IVec S16384x512 1 × IVec S64 1 × IVec S64 1 × IVec S64 1 × IVec S64 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_v6 : FVec F S16384x512 .bf16 := Host.absf main_arg2
  let main_cst_1 : FVec F S_ .bf16 := constant S_ .bf16 0x7F80#16
  let main_v7 : FVec F S16384x512 .bf16 := broadcastInDim S16384x512 ![] bcast_S_S16384x512 main_cst_1
  let main_v8 : IVec S16384x512 1 := cmpf .olt main_v6 main_v7
  let main_v9 : FVec F S1x64 .f32 := (extractStridedSlice S1x64 ![0, 0] · slices_S2x64_S1x64_0_0) main_arg3
  let main_v10 : FVec F S64 .f32 := shapeCast S64 main_v9 shapeCasts_S1x64_S64
  let main_v11 : FVec F S64 .f32 := Host.absf main_v10
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : FVec F S1x64 .f32 := (extractStridedSlice S1x64 ![0, 0] · slices_S2x64_S1x64_0_0) main_arg4
  let main_v15 : FVec F S64 .f32 := shapeCast S64 main_v14 shapeCasts_S1x64_S64
  let main_v16 : FVec F S64 .f32 := Host.absf main_v15
  let main_cst_3 : FVec F S_ .f32 := constant S_ .f32 0x7F800000#32
  let main_v17 : FVec F S64 .f32 := broadcastInDim S64 ![] bcast_S_S64 main_cst_3
  let main_v18 : IVec S64 1 := cmpf .olt main_v16 main_v17
  fn_part1 (F := F) main_arg5 main_arg6 main_v2 main_v5 main_v8 main_v13 main_v18
-- ==== Pre_finite6.lean ====
abbrev S16384x512 : Shape := ⟨2, ![16384, 512]⟩
abbrev S2x64 : Shape := ⟨2, ![2, 64]⟩
abbrev S2x128 : Shape := ⟨2, ![2, 128]⟩
abbrev S_ : Shape := ⟨0, ![]⟩
abbrev S1x64 : Shape := ⟨2, ![1, 64]⟩
abbrev S64 : Shape := ⟨1, ![64]⟩

class Facts : Prop where
  bcast_S_S16384x512 : S_.BroadcastsInDim S16384x512 (![] : Fin 0 → Fin S16384x512.rank)
  slices_S2x64_S1x64_1_0 : S2x64.Slices ![1, 0] S1x64
  shapeCasts_S1x64_S64 : S1x64.ShapeCasts S64
  bcast_S_S64 : S_.BroadcastsInDim S64 (![] : Fin 0 → Fin S64.rank)

variable [Facts]

def fn_part1 {F : FTy → Type} [FloatOps F] (main_arg5 : FVec F S2x64 .f32) (main_arg6 : FVec F S2x64 .f32) (main_v2 : IVec S16384x512 1) (main_v5 : IVec S16384x512 1) (main_v8 : IVec S16384x512 1) (main_v13 : IVec S64 1) (main_v18 : IVec S64 1) : IVec S16384x512 1 × IVec S16384x512 1 × IVec S16384x512 1 × IVec S64 1 × IVec S64 1 × IVec S64 1 × IVec S64 1 :=
  let main_v19 : FVec F S1x64 .f32 := (extractStridedSlice S1x64 ![1, 0] · slices_S2x64_S1x64_1_0) main_arg5
  let main_v20 : FVec F S64 .f32 := shapeCast S64 main_v19 shapeCasts_S1x64_S64
  let main_v21 : FVec F S64 .f32 := Host.absf main_v20
  let main_cst_4 : FVec F S_ .f32 := constant S_ .f32 0x7F800000#32
  let main_v22 : FVec F S64 .f32 := broadcastInDim S64 ![] bcast_S_S64 main_cst_4
  let main_v23 : IVec S64 1 := cmpf .olt main_v21 main_v22
  let main_v24 : FVec F S1x64 .f32 := (extractStridedSlice S1x64 ![1, 0] · slices_S2x64_S1x64_1_0) main_arg6
  let main_v25 : FVec F S64 .f32 := shapeCast S64 main_v24 shapeCasts_S1x64_S64
  let main_v26 : FVec F S64 .f32 := Host.absf main_v25
  let main_cst_5 : FVec F S_ .f32 := constant S_ .f32 0x7F800000#32
  let main_v27 : FVec F S64 .f32 := broadcastInDim S64 ![] bcast_S_S64 main_cst_5
  let main_v28 : IVec S64 1 := cmpf .olt main_v26 main_v27
  (main_v2, main_v5, main_v8, main_v13, main_v18, main_v23, main_v28)

def fn {F : FTy → Type} [FloatOps F] (main_arg0 : FVec F S16384x512 .bf16) (main_arg1 : FVec F S16384x512 .bf16) (main_arg2 : FVec F S16384x512 .bf16) (main_arg3 : FVec F S2x64 .f32) (main_arg4 : FVec F S2x64 .f32) (main_arg5 : FVec F S2x64 .f32) (main_arg6 : FVec F S2x64 .f32) (main_arg7 : FVec F S2x128 .f32) : IVec S16384x512 1 × IVec S16384x512 1 × IVec S16384x512 1 × IVec S64 1 × IVec S64 1 × IVec S64 1 × IVec S64 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_v6 : FVec F S16384x512 .bf16 := Host.absf main_arg2
  let main_cst_1 : FVec F S_ .bf16 := constant S_ .bf16 0x7F80#16
  let main_v7 : FVec F S16384x512 .bf16 := broadcastInDim S16384x512 ![] bcast_S_S16384x512 main_cst_1
  let main_v8 : IVec S16384x512 1 := cmpf .olt main_v6 main_v7
  let main_v9 : FVec F S1x64 .f32 := (extractStridedSlice S1x64 ![1, 0] · slices_S2x64_S1x64_1_0) main_arg3
  let main_v10 : FVec F S64 .f32 := shapeCast S64 main_v9 shapeCasts_S1x64_S64
  let main_v11 : FVec F S64 .f32 := Host.absf main_v10
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : FVec F S1x64 .f32 := (extractStridedSlice S1x64 ![1, 0] · slices_S2x64_S1x64_1_0) main_arg4
  let main_v15 : FVec F S64 .f32 := shapeCast S64 main_v14 shapeCasts_S1x64_S64
  let main_v16 : FVec F S64 .f32 := Host.absf main_v15
  let main_cst_3 : FVec F S_ .f32 := constant S_ .f32 0x7F800000#32
  let main_v17 : FVec F S64 .f32 := broadcastInDim S64 ![] bcast_S_S64 main_cst_3
  let main_v18 : IVec S64 1 := cmpf .olt main_v16 main_v17
  fn_part1 (F := F) main_arg5 main_arg6 main_v2 main_v5 main_v8 main_v13 main_v18
-- ==== Pre_finite7.lean ====
abbrev S16384x1024 : Shape := ⟨2, ![16384, 1024]⟩
abbrev S16384x512 : Shape := ⟨2, ![16384, 512]⟩
abbrev S16384x3072 : Shape := ⟨2, ![16384, 3072]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S512x2048 : Shape := ⟨2, ![512, 2048]⟩
abbrev S2x3x1024 : Shape := ⟨3, ![2, 3, 1024]⟩
abbrev S_ : Shape := ⟨0, ![]⟩
abbrev S1x3x512 : Shape := ⟨3, ![1, 3, 512]⟩
abbrev S3x512 : Shape := ⟨2, ![3, 512]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S512x1024 : Shape := ⟨2, ![512, 1024]⟩
abbrev S1x1x1024 : Shape := ⟨3, ![1, 1, 1024]⟩
abbrev S1024 : Shape := ⟨1, ![1024]⟩

class Facts : Prop where
  bcast_S_S16384x1024 : S_.BroadcastsInDim S16384x1024 (![] : Fin 0 → Fin S16384x1024.rank)
  bcast_S_S16384x512 : S_.BroadcastsInDim S16384x512 (![] : Fin 0 → Fin S16384x512.rank)
  bcast_S_S16384x3072 : S_.BroadcastsInDim S16384x3072 (![] : Fin 0 → Fin S16384x3072.rank)
  slices_S2x3x512_S1x3x512_0_0_0 : S2x3x512.Slices ![0, 0, 0] S1x3x512
  shapeCasts_S1x3x512_S3x512 : S1x3x512.ShapeCasts S3x512
  bcast_S_S3x512 : S_.BroadcastsInDim S3x512 (![] : Fin 0 → Fin S3x512.rank)
  slices_S2x3x512x1024_S1x3x512x1024_0_0_0_0 : S2x3x512x1024.Slices ![0, 0, 0, 0] S1x3x512x1024
  shapeCasts_S1x3x512x1024_S3x512x1024 : S1x3x512x1024.ShapeCasts S3x512x1024
  bcast_S_S3x512x1024 : S_.BroadcastsInDim S3x512x1024 (![] : Fin 0 → Fin S3x512x1024.rank)
  slices_S2x1024x1024_S1x1024x1024_0_0_0 : S2x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  slices_S512x2048_S512x1024_0_0 : S512x2048.Slices ![0, 0] S512x1024
  bcast_S_S512x1024 : S_.BroadcastsInDim S512x1024 (![] : Fin 0 → Fin S512x1024.rank)
  slices_S2x3x1024_S1x1x1024_0_0_0 : S2x3x1024.Slices ![0, 0, 0] S1x1x1024
  shapeCasts_S1x1x1024_S1024 : S1x1x1024.ShapeCasts S1024
  bcast_S_S1024 : S_.BroadcastsInDim S1024 (![] : Fin 0 → Fin S1024.rank)

variable [Facts]

def fn_part2 {F : FTy → Type} [FloatOps F] (main_arg12 : FVec F S2x3x1024 .f32) (main_arg13 : FVec F S2x3x1024 .f32) (main_v2 : IVec S16384x1024 1) (main_v5 : IVec S16384x512 1) (main_v8 : IVec S16384x512 1) (main_v11 : IVec S16384x512 1) (main_v14 : IVec S16384x512 1) (main_v17 : IVec S16384x3072 1) (main_v22 : IVec S3x512 1) (main_v27 : IVec S3x512x1024 1) (main_v32 : IVec S1024x1024 1) (main_v36 : IVec S512x1024 1) (main_v37 : FVec F S1x1024x1024 .bf16) : IVec S16384x1024 1 × IVec S16384x512 1 × IVec S16384x512 1 × IVec S16384x512 1 × IVec S16384x512 1 × IVec S16384x3072 1 × IVec S3x512 1 × IVec S3x512x1024 1 × IVec S1024x1024 1 × IVec S512x1024 1 × IVec S1024x1024 1 × IVec S1024 1 × IVec S1024 1 :=
  let main_v38 : FVec F S1024x1024 .bf16 := shapeCast S1024x1024 main_v37 shapeCasts_S1x1024x1024_S1024x1024
  let main_v39 : FVec F S1024x1024 .bf16 := Host.absf main_v38
  let main_cst_9 : FVec F S_ .bf16 := constant S_ .bf16 0x7F80#16
  let main_v40 : FVec F S1024x1024 .bf16 := broadcastInDim S1024x1024 ![] bcast_S_S1024x1024 main_cst_9
  let main_v41 : IVec S1024x1024 1 := cmpf .olt main_v39 main_v40
  let main_v42 : FVec F S1x1x1024 .f32 := (extractStridedSlice S1x1x1024 ![0, 0, 0] · slices_S2x3x1024_S1x1x1024_0_0_0) main_arg12
  let main_v43 : FVec F S1024 .f32 := shapeCast S1024 main_v42 shapeCasts_S1x1x1024_S1024
  let main_v44 : FVec F S1024 .f32 := Host.absf main_v43
  let main_cst_10 : FVec F S_ .f32 := constant S_ .f32 0x7F800000#32
  let main_v45 : FVec F S1024 .f32 := broadcastInDim S1024 ![] bcast_S_S1024 main_cst_10
  let main_v46 : IVec S1024 1 := cmpf .olt main_v44 main_v45
  let main_v47 : FVec F S1x1x1024 .f32 := (extractStridedSlice S1x1x1024 ![0, 0, 0] · slices_S2x3x1024_S1x1x1024_0_0_0) main_arg13
  let main_v48 : FVec F S1024 .f32 := shapeCast S1024 main_v47 shapeCasts_S1x1x1024_S1024
  let main_v49 : FVec F S1024 .f32 := Host.absf main_v48
  let main_cst_11 : FVec F S_ .f32 := constant S_ .f32 0x7F800000#32
  let main_v50 : FVec F S1024 .f32 := broadcastInDim S1024 ![] bcast_S_S1024 main_cst_11
  let main_v51 : IVec S1024 1 := cmpf .olt main_v49 main_v50
  (main_v2, main_v5, main_v8, main_v11, main_v14, main_v17, main_v22, main_v27, main_v32, main_v36, main_v41, main_v46, main_v51)

def fn_part1 {F : FTy → Type} [FloatOps F] (main_arg6 : FVec F S2x3x512 .f32) (main_arg7 : FVec F S2x3x512x1024 .bf16) (main_arg8 : FVec F S2x1024x1024 .bf16) (main_arg9 : FVec F S512x2048 .bf16) (main_arg10 : FVec F S2x1024x1024 .bf16) (main_arg12 : FVec F S2x3x1024 .f32) (main_arg13 : FVec F S2x3x1024 .f32) (main_v2 : IVec S16384x1024 1) (main_v5 : IVec S16384x512 1) (main_v8 : IVec S16384x512 1) (main_v11 : IVec S16384x512 1) (main_v14 : IVec S16384x512 1) (main_v17 : IVec S16384x3072 1) : IVec S16384x1024 1 × IVec S16384x512 1 × IVec S16384x512 1 × IVec S16384x512 1 × IVec S16384x512 1 × IVec S16384x3072 1 × IVec S3x512 1 × IVec S3x512x1024 1 × IVec S1024x1024 1 × IVec S512x1024 1 × IVec S1024x1024 1 × IVec S1024 1 × IVec S1024 1 :=
  let main_v18 : FVec F S1x3x512 .f32 := (extractStridedSlice S1x3x512 ![0, 0, 0] · slices_S2x3x512_S1x3x512_0_0_0) main_arg6
  let main_v19 : FVec F S3x512 .f32 := shapeCast S3x512 main_v18 shapeCasts_S1x3x512_S3x512
  let main_v20 : FVec F S3x512 .f32 := Host.absf main_v19
  let main_cst_5 : FVec F S_ .f32 := constant S_ .f32 0x7F800000#32
  let main_v21 : FVec F S3x512 .f32 := broadcastInDim S3x512 ![] bcast_S_S3x512 main_cst_5
  let main_v22 : IVec S3x512 1 := cmpf .olt main_v20 main_v21
  let main_v23 : FVec F S1x3x512x1024 .bf16 := (extractStridedSlice S1x3x512x1024 ![0, 0, 0, 0] · slices_S2x3x512x1024_S1x3x512x1024_0_0_0_0) main_arg7
  let main_v24 : FVec F S3x512x1024 .bf16 := shapeCast S3x512x1024 main_v23 shapeCasts_S1x3x512x1024_S3x512x1024
  let main_v25 : FVec F S3x512x1024 .bf16 := Host.absf main_v24
  let main_cst_6 : FVec F S_ .bf16 := constant S_ .bf16 0x7F80#16
  let main_v26 : FVec F S3x512x1024 .bf16 := broadcastInDim S3x512x1024 ![] bcast_S_S3x512x1024 main_cst_6
  let main_v27 : IVec S3x512x1024 1 := cmpf .olt main_v25 main_v26
  let main_v28 : FVec F S1x1024x1024 .bf16 := (extractStridedSlice S1x1024x1024 ![0, 0, 0] · slices_S2x1024x1024_S1x1024x1024_0_0_0) main_arg8
  let main_v29 : FVec F S1024x1024 .bf16 := shapeCast S1024x1024 main_v28 shapeCasts_S1x1024x1024_S1024x1024
  let main_v30 : FVec F S1024x1024 .bf16 := Host.absf main_v29
  let main_cst_7 : FVec F S_ .bf16 := constant S_ .bf16 0x7F80#16
  let main_v31 : FVec F S1024x1024 .bf16 := broadcastInDim S1024x1024 ![] bcast_S_S1024x1024 main_cst_7
  let main_v32 : IVec S1024x1024 1 := cmpf .olt main_v30 main_v31
  let main_v33 : FVec F S512x1024 .bf16 := (extractStridedSlice S512x1024 ![0, 0] · slices_S512x2048_S512x1024_0_0) main_arg9
  let main_v34 : FVec F S512x1024 .bf16 := Host.absf main_v33
  let main_cst_8 : FVec F S_ .bf16 := constant S_ .bf16 0x7F80#16
  let main_v35 : FVec F S512x1024 .bf16 := broadcastInDim S512x1024 ![] bcast_S_S512x1024 main_cst_8
  let main_v36 : IVec S512x1024 1 := cmpf .olt main_v34 main_v35
  let main_v37 : FVec F S1x1024x1024 .bf16 := (extractStridedSlice S1x1024x1024 ![0, 0, 0] · slices_S2x1024x1024_S1x1024x1024_0_0_0) main_arg10
  fn_part2 (F := F) main_arg12 main_arg13 main_v2 main_v5 main_v8 main_v11 main_v14 main_v17 main_v22 main_v27 main_v32 main_v36 main_v37

def fn {F : FTy → Type} [FloatOps F] (main_arg0 : FVec F S16384x1024 .f32) (main_arg1 : FVec F S16384x512 .bf16) (main_arg2 : FVec F S16384x512 .bf16) (main_arg3 : FVec F S16384x512 .bf16) (main_arg4 : FVec F S16384x512 .bf16) (main_arg5 : FVec F S16384x3072 .bf16) (main_arg6 : FVec F S2x3x512 .f32) (main_arg7 : FVec F S2x3x512x1024 .bf16) (main_arg8 : FVec F S2x1024x1024 .bf16) (main_arg9 : FVec F S512x2048 .bf16) (main_arg10 : FVec F S2x1024x1024 .bf16) (main_arg11 : FVec F S2x1024x1024 .bf16) (main_arg12 : FVec F S2x3x1024 .f32) (main_arg13 : FVec F S2x3x1024 .f32) : IVec S16384x1024 1 × IVec S16384x512 1 × IVec S16384x512 1 × IVec S16384x512 1 × IVec S16384x512 1 × IVec S16384x3072 1 × IVec S3x512 1 × IVec S3x512x1024 1 × IVec S1024x1024 1 × IVec S512x1024 1 × IVec S1024x1024 1 × IVec S1024 1 × IVec S1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_v6 : FVec F S16384x512 .bf16 := Host.absf main_arg2
  let main_cst_1 : FVec F S_ .bf16 := constant S_ .bf16 0x7F80#16
  let main_v7 : FVec F S16384x512 .bf16 := broadcastInDim S16384x512 ![] bcast_S_S16384x512 main_cst_1
  let main_v8 : IVec S16384x512 1 := cmpf .olt main_v6 main_v7
  let main_v9 : FVec F S16384x512 .bf16 := Host.absf main_arg3
  let main_cst_2 : FVec F S_ .bf16 := constant S_ .bf16 0x7F80#16
  let main_v10 : FVec F S16384x512 .bf16 := broadcastInDim S16384x512 ![] bcast_S_S16384x512 main_cst_2
  let main_v11 : IVec S16384x512 1 := cmpf .olt main_v9 main_v10
  let main_v12 : FVec F S16384x512 .bf16 := Host.absf main_arg4
  let main_cst_3 : FVec F S_ .bf16 := constant S_ .bf16 0x7F80#16
  let main_v13 : FVec F S16384x512 .bf16 := broadcastInDim S16384x512 ![] bcast_S_S16384x512 main_cst_3
  let main_v14 : IVec S16384x512 1 := cmpf .olt main_v12 main_v13
  let main_v15 : FVec F S16384x3072 .bf16 := Host.absf main_arg5
  let main_cst_4 : FVec F S_ .bf16 := constant S_ .bf16 0x7F80#16
  let main_v16 : FVec F S16384x3072 .bf16 := broadcastInDim S16384x3072 ![] bcast_S_S16384x3072 main_cst_4
  let main_v17 : IVec S16384x3072 1 := cmpf .olt main_v15 main_v16
  fn_part1 (F := F) main_arg6 main_arg7 main_arg8 main_arg9 main_arg10 main_arg12 main_arg13 main_v2 main_v5 main_v8 main_v11 main_v14 main_v17
-- ==== Pre_finite8.lean ====
abbrev S16384x1024 : Shape := ⟨2, ![16384, 1024]⟩
abbrev S16384x512 : Shape := ⟨2, ![16384, 512]⟩
abbrev S16384x3072 : Shape := ⟨2, ![16384, 3072]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S512x2048 : Shape := ⟨2, ![512, 2048]⟩
abbrev S2x3x1024 : Shape := ⟨3, ![2, 3, 1024]⟩
abbrev S_ : Shape := ⟨0, ![]⟩
abbrev S1x3x512 : Shape := ⟨3, ![1, 3, 512]⟩
abbrev S3x512 : Shape := ⟨2, ![3, 512]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S512x1024 : Shape := ⟨2, ![512, 1024]⟩
abbrev S1x1x1024 : Shape := ⟨3, ![1, 1, 1024]⟩
abbrev S1024 : Shape := ⟨1, ![1024]⟩

class Facts : Prop where
  bcast_S_S16384x1024 : S_.BroadcastsInDim S16384x1024 (![] : Fin 0 → Fin S16384x1024.rank)
  bcast_S_S16384x512 : S_.BroadcastsInDim S16384x512 (![] : Fin 0 → Fin S16384x512.rank)
  bcast_S_S16384x3072 : S_.BroadcastsInDim S16384x3072 (![] : Fin 0 → Fin S16384x3072.rank)
  slices_S2x3x512_S1x3x512_1_0_0 : S2x3x512.Slices ![1, 0, 0] S1x3x512
  shapeCasts_S1x3x512_S3x512 : S1x3x512.ShapeCasts S3x512
  bcast_S_S3x512 : S_.BroadcastsInDim S3x512 (![] : Fin 0 → Fin S3x512.rank)
  slices_S2x3x512x1024_S1x3x512x1024_1_0_0_0 : S2x3x512x1024.Slices ![1, 0, 0, 0] S1x3x512x1024
  shapeCasts_S1x3x512x1024_S3x512x1024 : S1x3x512x1024.ShapeCasts S3x512x1024
  bcast_S_S3x512x1024 : S_.BroadcastsInDim S3x512x1024 (![] : Fin 0 → Fin S3x512x1024.rank)
  slices_S2x1024x1024_S1x1024x1024_1_0_0 : S2x1024x1024.Slices ![1, 0, 0] S1x1024x1024
  shapeCasts_S1x1024x1024_S1024x1024 : S1x1024x1024.ShapeCasts S1024x1024
  bcast_S_S1024x1024 : S_.BroadcastsInDim S1024x1024 (![] : Fin 0 → Fin S1024x1024.rank)
  slices_S512x2048_S512x1024_0_0 : S512x2048.Slices ![0, 0] S512x1024
  bcast_S_S512x1024 : S_.BroadcastsInDim S512x1024 (![] : Fin 0 → Fin S512x1024.rank)
  slices_S2x3x1024_S1x1x1024_1_0_0 : S2x3x1024.Slices ![1, 0, 0] S1x1x1024
  shapeCasts_S1x1x1024_S1024 : S1x1x1024.ShapeCasts S1024
  bcast_S_S1024 : S_.BroadcastsInDim S1024 (![] : Fin 0 → Fin S1024.rank)

variable [Facts]

def fn_part2 {F : FTy → Type} [FloatOps F] (main_arg12 : FVec F S2x3x1024 .f32) (main_arg13 : FVec F S2x3x1024 .f32) (main_v2 : IVec S16384x1024 1) (main_v5 : IVec S16384x512 1) (main_v8 : IVec S16384x512 1) (main_v11 : IVec S16384x512 1) (main_v14 : IVec S16384x512 1) (main_v17 : IVec S16384x3072 1) (main_v22 : IVec S3x512 1) (main_v27 : IVec S3x512x1024 1) (main_v32 : IVec S1024x1024 1) (main_v36 : IVec S512x1024 1) (main_v37 : FVec F S1x1024x1024 .bf16) : IVec S16384x1024 1 × IVec S16384x512 1 × IVec S16384x512 1 × IVec S16384x512 1 × IVec S16384x512 1 × IVec S16384x3072 1 × IVec S3x512 1 × IVec S3x512x1024 1 × IVec S1024x1024 1 × IVec S512x1024 1 × IVec S1024x1024 1 × IVec S1024 1 × IVec S1024 1 :=
  let main_v38 : FVec F S1024x1024 .bf16 := shapeCast S1024x1024 main_v37 shapeCasts_S1x1024x1024_S1024x1024
  let main_v39 : FVec F S1024x1024 .bf16 := Host.absf main_v38
  let main_cst_9 : FVec F S_ .bf16 := constant S_ .bf16 0x7F80#16
  let main_v40 : FVec F S1024x1024 .bf16 := broadcastInDim S1024x1024 ![] bcast_S_S1024x1024 main_cst_9
  let main_v41 : IVec S1024x1024 1 := cmpf .olt main_v39 main_v40
  let main_v42 : FVec F S1x1x1024 .f32 := (extractStridedSlice S1x1x1024 ![1, 0, 0] · slices_S2x3x1024_S1x1x1024_1_0_0) main_arg12
  let main_v43 : FVec F S1024 .f32 := shapeCast S1024 main_v42 shapeCasts_S1x1x1024_S1024
  let main_v44 : FVec F S1024 .f32 := Host.absf main_v43
  let main_cst_10 : FVec F S_ .f32 := constant S_ .f32 0x7F800000#32
  let main_v45 : FVec F S1024 .f32 := broadcastInDim S1024 ![] bcast_S_S1024 main_cst_10
  let main_v46 : IVec S1024 1 := cmpf .olt main_v44 main_v45
  let main_v47 : FVec F S1x1x1024 .f32 := (extractStridedSlice S1x1x1024 ![1, 0, 0] · slices_S2x3x1024_S1x1x1024_1_0_0) main_arg13
  let main_v48 : FVec F S1024 .f32 := shapeCast S1024 main_v47 shapeCasts_S1x1x1024_S1024
  let main_v49 : FVec F S1024 .f32 := Host.absf main_v48
  let main_cst_11 : FVec F S_ .f32 := constant S_ .f32 0x7F800000#32
  let main_v50 : FVec F S1024 .f32 := broadcastInDim S1024 ![] bcast_S_S1024 main_cst_11
  let main_v51 : IVec S1024 1 := cmpf .olt main_v49 main_v50
  (main_v2, main_v5, main_v8, main_v11, main_v14, main_v17, main_v22, main_v27, main_v32, main_v36, main_v41, main_v46, main_v51)

def fn_part1 {F : FTy → Type} [FloatOps F] (main_arg6 : FVec F S2x3x512 .f32) (main_arg7 : FVec F S2x3x512x1024 .bf16) (main_arg8 : FVec F S2x1024x1024 .bf16) (main_arg9 : FVec F S512x2048 .bf16) (main_arg10 : FVec F S2x1024x1024 .bf16) (main_arg12 : FVec F S2x3x1024 .f32) (main_arg13 : FVec F S2x3x1024 .f32) (main_v2 : IVec S16384x1024 1) (main_v5 : IVec S16384x512 1) (main_v8 : IVec S16384x512 1) (main_v11 : IVec S16384x512 1) (main_v14 : IVec S16384x512 1) (main_v17 : IVec S16384x3072 1) : IVec S16384x1024 1 × IVec S16384x512 1 × IVec S16384x512 1 × IVec S16384x512 1 × IVec S16384x512 1 × IVec S16384x3072 1 × IVec S3x512 1 × IVec S3x512x1024 1 × IVec S1024x1024 1 × IVec S512x1024 1 × IVec S1024x1024 1 × IVec S1024 1 × IVec S1024 1 :=
  let main_v18 : FVec F S1x3x512 .f32 := (extractStridedSlice S1x3x512 ![1, 0, 0] · slices_S2x3x512_S1x3x512_1_0_0) main_arg6
  let main_v19 : FVec F S3x512 .f32 := shapeCast S3x512 main_v18 shapeCasts_S1x3x512_S3x512
  let main_v20 : FVec F S3x512 .f32 := Host.absf main_v19
  let main_cst_5 : FVec F S_ .f32 := constant S_ .f32 0x7F800000#32
  let main_v21 : FVec F S3x512 .f32 := broadcastInDim S3x512 ![] bcast_S_S3x512 main_cst_5
  let main_v22 : IVec S3x512 1 := cmpf .olt main_v20 main_v21
  let main_v23 : FVec F S1x3x512x1024 .bf16 := (extractStridedSlice S1x3x512x1024 ![1, 0, 0, 0] · slices_S2x3x512x1024_S1x3x512x1024_1_0_0_0) main_arg7
  let main_v24 : FVec F S3x512x1024 .bf16 := shapeCast S3x512x1024 main_v23 shapeCasts_S1x3x512x1024_S3x512x1024
  let main_v25 : FVec F S3x512x1024 .bf16 := Host.absf main_v24
  let main_cst_6 : FVec F S_ .bf16 := constant S_ .bf16 0x7F80#16
  let main_v26 : FVec F S3x512x1024 .bf16 := broadcastInDim S3x512x1024 ![] bcast_S_S3x512x1024 main_cst_6
  let main_v27 : IVec S3x512x1024 1 := cmpf .olt main_v25 main_v26
  let main_v28 : FVec F S1x1024x1024 .bf16 := (extractStridedSlice S1x1024x1024 ![1, 0, 0] · slices_S2x1024x1024_S1x1024x1024_1_0_0) main_arg8
  let main_v29 : FVec F S1024x1024 .bf16 := shapeCast S1024x1024 main_v28 shapeCasts_S1x1024x1024_S1024x1024
  let main_v30 : FVec F S1024x1024 .bf16 := Host.absf main_v29
  let main_cst_7 : FVec F S_ .bf16 := constant S_ .bf16 0x7F80#16
  let main_v31 : FVec F S1024x1024 .bf16 := broadcastInDim S1024x1024 ![] bcast_S_S1024x1024 main_cst_7
  let main_v32 : IVec S1024x1024 1 := cmpf .olt main_v30 main_v31
  let main_v33 : FVec F S512x1024 .bf16 := (extractStridedSlice S512x1024 ![0, 0] · slices_S512x2048_S512x1024_0_0) main_arg9
  let main_v34 : FVec F S512x1024 .bf16 := Host.absf main_v33
  let main_cst_8 : FVec F S_ .bf16 := constant S_ .bf16 0x7F80#16
  let main_v35 : FVec F S512x1024 .bf16 := broadcastInDim S512x1024 ![] bcast_S_S512x1024 main_cst_8
  let main_v36 : IVec S512x1024 1 := cmpf .olt main_v34 main_v35
  let main_v37 : FVec F S1x1024x1024 .bf16 := (extractStridedSlice S1x1024x1024 ![1, 0, 0] · slices_S2x1024x1024_S1x1024x1024_1_0_0) main_arg10
  fn_part2 (F := F) main_arg12 main_arg13 main_v2 main_v5 main_v8 main_v11 main_v14 main_v17 main_v22 main_v27 main_v32 main_v36 main_v37

def fn {F : FTy → Type} [FloatOps F] (main_arg0 : FVec F S16384x1024 .f32) (main_arg1 : FVec F S16384x512 .bf16) (main_arg2 : FVec F S16384x512 .bf16) (main_arg3 : FVec F S16384x512 .bf16) (main_arg4 : FVec F S16384x512 .bf16) (main_arg5 : FVec F S16384x3072 .bf16) (main_arg6 : FVec F S2x3x512 .f32) (main_arg7 : FVec F S2x3x512x1024 .bf16) (main_arg8 : FVec F S2x1024x1024 .bf16) (main_arg9 : FVec F S512x2048 .bf16) (main_arg10 : FVec F S2x1024x1024 .bf16) (main_arg11 : FVec F S2x1024x1024 .bf16) (main_arg12 : FVec F S2x3x1024 .f32) (main_arg13 : FVec F S2x3x1024 .f32) : IVec S16384x1024 1 × IVec S16384x512 1 × IVec S16384x512 1 × IVec S16384x512 1 × IVec S16384x512 1 × IVec S16384x3072 1 × IVec S3x512 1 × IVec S3x512x1024 1 × IVec S1024x1024 1 × IVec S512x1024 1 × IVec S1024x1024 1 × IVec S1024 1 × IVec S1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_v6 : FVec F S16384x512 .bf16 := Host.absf main_arg2
  let main_cst_1 : FVec F S_ .bf16 := constant S_ .bf16 0x7F80#16
  let main_v7 : FVec F S16384x512 .bf16 := broadcastInDim S16384x512 ![] bcast_S_S16384x512 main_cst_1
  let main_v8 : IVec S16384x512 1 := cmpf .olt main_v6 main_v7
  let main_v9 : FVec F S16384x512 .bf16 := Host.absf main_arg3
  let main_cst_2 : FVec F S_ .bf16 := constant S_ .bf16 0x7F80#16
  let main_v10 : FVec F S16384x512 .bf16 := broadcastInDim S16384x512 ![] bcast_S_S16384x512 main_cst_2
  let main_v11 : IVec S16384x512 1 := cmpf .olt main_v9 main_v10
  let main_v12 : FVec F S16384x512 .bf16 := Host.absf main_arg4
  let main_cst_3 : FVec F S_ .bf16 := constant S_ .bf16 0x7F80#16
  let main_v13 : FVec F S16384x512 .bf16 := broadcastInDim S16384x512 ![] bcast_S_S16384x512 main_cst_3
  let main_v14 : IVec S16384x512 1 := cmpf .olt main_v12 main_v13
  let main_v15 : FVec F S16384x3072 .bf16 := Host.absf main_arg5
  let main_cst_4 : FVec F S_ .bf16 := constant S_ .bf16 0x7F80#16
  let main_v16 : FVec F S16384x3072 .bf16 := broadcastInDim S16384x3072 ![] bcast_S_S16384x3072 main_cst_4
  let main_v17 : IVec S16384x3072 1 := cmpf .olt main_v15 main_v16
  fn_part1 (F := F) main_arg6 main_arg7 main_arg8 main_arg9 main_arg10 main_arg12 main_arg13 main_v2 main_v5 main_v8 main_v11 main_v14 main_v17
-- ==== Kernel.lean ====
abbrev S16384x512 : Shape := ⟨2, ![16384, 512]⟩
abbrev S2x64 : Shape := ⟨2, ![2, 64]⟩
abbrev S2x128 : Shape := ⟨2, ![2, 128]⟩
abbrev S2x1x64 : Shape := ⟨3, ![2, 1, 64]⟩
abbrev S2x1x128 : Shape := ⟨3, ![2, 1, 128]⟩
abbrev S8192x128 : Shape := ⟨2, ![8192, 128]⟩
abbrev S1x1x64 : Shape := ⟨3, ![1, 1, 64]⟩
abbrev S1x1x128 : Shape := ⟨3, ![1, 1, 128]⟩
abbrev S1024x128 : Shape := ⟨2, ![1024, 128]⟩
abbrev S1024x256 : Shape := ⟨2, ![1024, 256]⟩
abbrev S1024x2048 : Shape := ⟨2, ![1024, 2048]⟩
abbrev S512x128 : Shape := ⟨2, ![512, 128]⟩
abbrev S2048x128 : Shape := ⟨2, ![2048, 128]⟩
abbrev S1x64 : Shape := ⟨2, ![1, 64]⟩
abbrev S1 : Shape := ⟨1, ![1]⟩
abbrev S1x1 : Shape := ⟨2, ![1, 1]⟩
abbrev S2048x256 : Shape := ⟨2, ![2048, 256]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x128 : Shape := ⟨2, ![1, 128]⟩

abbrev nBuf : Space → Nat
  | .hbm => 14
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S2x1x64, .f32⟩
  | .hbm, ⟨9, _⟩ => ⟨S2x1x64, .f32⟩
  | .hbm, ⟨10, _⟩ => ⟨S2x1x64, .f32⟩
  | .hbm, ⟨11, _⟩ => ⟨S2x1x64, .f32⟩
  | .hbm, ⟨12, _⟩ => ⟨S2x1x128, .f32⟩
  | .hbm, ⟨13, _⟩ => ⟨S16384x512, .bf16⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x128, .f32⟩
  | .local _ .vmem, ⟨11, _⟩ => ⟨S8192x128, .bf16⟩
  | .local _ .vmem, ⟨12, _⟩ => ⟨S8192x128, .bf16⟩
  | .local _ .vmem, ⟨13, _⟩ => ⟨S1024x128, .bf16⟩
  | .local _ .vmem, ⟨14, _⟩ => ⟨S1024x128, .f32⟩
  | .local _ .vmem, ⟨15, _⟩ => ⟨S1024x256, .f32⟩
  | .local _ .vmem, ⟨16, _⟩ => ⟨S1024x2048, .f32⟩
  | .local _ .vmem, ⟨17, _⟩ => ⟨S1024x2048, .f32⟩
  | .local _ .vmem, ⟨18, _⟩ => ⟨S1024x128, .f32⟩
  | .local _ .vmem, ⟨19, _⟩ => ⟨S1024x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 4], ![false, false]⟩

def k0_mult1 : BitVec 32 :=
  let c0_i32_15 : BitVec 32 := 0#32
  c0_i32_15
@[reducible] def k0_t1_loop : Scf.Loop 32 :=
  let c0_i32_31 : BitVec 32 := 0#32
  let c16_i32 : BitVec 32 := 16#32
  let v83 : BitVec 32 := Scalar.addi c0_i32_31 c16_i32
  let c1_i32 : BitVec 32 := 1#32
  ⟨c0_i32_31, v83, c1_i32⟩
def k0_mult2 (k0_t1 : Fin k0_t1_loop.trips) : BitVec 32 :=
  let c0_i32_31 : BitVec 32 := 0#32
  let c1_i32 : BitVec 32 := 1#32
  let arg18 : BitVec 32 := Scf.iv c0_i32_31 c1_i32 k0_t1
  let c1_i32_213 : BitVec 32 := 1#32
  let v470 : BitVec 32 := Scalar.addi arg18 c1_i32_213
  let c15_i32 : BitVec 32 := 15#32
  let v471 : BitVec 32 := Scalar.minsi v470 c15_i32
  let c512_i32 : BitVec 32 := 512#32
  let v472 : BitVec 32 := Scalar.muli v471 c512_i32
  v472
def k0_off1 (k0_t1 : Fin k0_t1_loop.trips) : Fin 2 → Nat :=
  let c0_i32_31 : BitVec 32 := 0#32
  let c1_i32 : BitVec 32 := 1#32
  let arg18 : BitVec 32 := Scf.iv c0_i32_31 c1_i32 k0_t1
  let c1_i32_213 : BitVec 32 := 1#32
  let v470 : BitVec 32 := Scalar.addi arg18 c1_i32_213
  let c15_i32 : BitVec 32 := 15#32
  let v471 : BitVec 32 := Scalar.minsi v470 c15_i32
  let c512_i32 : BitVec 32 := 512#32
  let v472 : BitVec 32 := Scalar.muli v471 c512_i32
  let v473 : BitVec 32 := v472
  let v474 : Index := Scalar.indexCast v473
  let c0_214 : Index := 0#32
  ![v474.toNat, 0]
def k0_mult3 (k0_t1 : Fin k0_t1_loop.trips) : BitVec 32 :=
  let c0_i32_31 : BitVec 32 := 0#32
  let c1_i32 : BitVec 32 := 1#32
  let arg18 : BitVec 32 := Scf.iv c0_i32_31 c1_i32 k0_t1
  let c512_i32_286 : BitVec 32 := 512#32
  let v633 : BitVec 32 := Scalar.muli arg18 c512_i32_286
  let c0_i32_287 : BitVec 32 := 0#32
  let v634 : BitVec 32 := Scalar.addi v633 c0_i32_287
  v634
def k0_off2 (k0_t1 : Fin k0_t1_loop.trips) (c0_i32_287 : BitVec 32) : Fin 2 → Nat :=
  let c0_i32_31 : BitVec 32 := 0#32
  let c1_i32 : BitVec 32 := 1#32
  let arg18 : BitVec 32 := Scf.iv c0_i32_31 c1_i32 k0_t1
  let c512_i32_286 : BitVec 32 := 512#32
  let v633 : BitVec 32 := Scalar.muli arg18 c512_i32_286
  let v634 : BitVec 32 := Scalar.addi v633 c0_i32_287
  let v635 : BitVec 32 := v634
  let v636 : Index := Scalar.indexCast v635
  let c0_288 : Index := 0#32
  ![v636.toNat, 0]
def k0_mult4 (k0_t1 : Fin k0_t1_loop.trips) : BitVec 32 :=
  let c0_i32_31 : BitVec 32 := 0#32
  let c1_i32 : BitVec 32 := 1#32
  let arg18 : BitVec 32 := Scf.iv c0_i32_31 c1_i32 k0_t1
  let c512_i32_314 : BitVec 32 := 512#32
  let v692 : BitVec 32 := Scalar.muli arg18 c512_i32_314
  let c256_i32 : BitVec 32 := 256#32
  let v693 : BitVec 32 := Scalar.addi v692 c256_i32
  v693
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x512 : Shape := ⟨2, ![16384, 512]⟩
abbrev S2x64 : Shape := ⟨2, ![2, 64]⟩
abbrev S2x128 : Shape := ⟨2, ![2, 128]⟩
abbrev S2x8192x4x2x64 : Shape := ⟨5, ![2, 8192, 4, 2, 64]⟩
abbrev S2x4x2x8192x64 : Shape := ⟨5, ![2, 4, 2, 8192, 64]⟩
abbrev S2x8192x4x128 : Shape := ⟨4, ![2, 8192, 4, 128]⟩
abbrev S2x4x8192x128 : Shape := ⟨4, ![2, 4, 8192, 128]⟩
abbrev S1x64 : Shape := ⟨2, ![1, 64]⟩
abbrev S64 : Shape := ⟨1, ![64]⟩
abbrev S_ : Shape := ⟨0, ![]⟩
abbrev S2x4x2x8192x8192 : Shape := ⟨5, ![2, 4, 2, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S16384x512, .f32⟩
  | .hbm, ⟨9, _⟩ => ⟨S2x8192x4x2x64, .f32⟩
  | .hbm, ⟨10, _⟩ => ⟨S2x4x2x8192x64, .f32⟩
  | .hbm, ⟨11, _⟩ => ⟨S16384x512, .f32⟩
  | .hbm, ⟨12, _⟩ => ⟨S2x8192x4x2x64, .f32⟩
  | .hbm, ⟨13, _⟩ => ⟨S2x4x2x8192x64, .f32⟩
  | .hbm, ⟨14, _⟩ => ⟨S16384x512, .f32⟩
  | .hbm, ⟨15, _⟩ => ⟨S2x8192x4x128, .f32⟩
  | .hbm, ⟨16, _⟩ => ⟨S2x4x8192x128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x4x2x8192x8192, .f32⟩
  | .hbm, ⟨37, _⟩ => ⟨S_, .f32⟩
  | .hbm, ⟨38, _⟩ => ⟨S2x4x2x8192, .f32⟩
  | .hbm, ⟨39, _⟩ => ⟨S_, .f32⟩
  | .hbm, ⟨40, _⟩ => ⟨S2x4x2x8192, .f32⟩
  | .hbm, ⟨41, _⟩ => ⟨S2x4x2x8192, .f32⟩
  | .hbm, ⟨42, _⟩ => ⟨S2x4x2x8192x1, .f32⟩
  | .hbm, ⟨43, _⟩ => ⟨S2x4x2x8192x8192, .f32⟩
  | .hbm, ⟨44, _⟩ => ⟨S2x4x2x8192x8192, .f32⟩
  | .hbm, ⟨45, _⟩ => ⟨S2x4x2x8192x8192, .f32⟩
  | .hbm, ⟨46, _⟩ => ⟨S_, .f32⟩
  | .hbm, ⟨47, _⟩ => ⟨S2x4x2x8192, .f32⟩
  | .hbm, ⟨48, _⟩ => ⟨S2x4x2x8192x1, .f32⟩
  | .hbm, ⟨49, _⟩ => ⟨S2x4x2x8192x8192, .f32⟩
  | .hbm, ⟨50, _⟩ => ⟨S2x4x2x8192x8192, .f32⟩
  | .hbm, ⟨51, _⟩ => ⟨S2x4x1x8192x8192, .f32⟩
  | .hbm, ⟨52, _⟩ => ⟨S2x4x8192x8192, .f32⟩
  | .hbm, ⟨53, _⟩ => ⟨S2x4x1x8192x8192, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x8192x128, .f32⟩
  | .hbm, ⟨59, _⟩ => ⟨S2x4x8192x128, .f32⟩
  | .hbm, ⟨60, _⟩ => ⟨S_, .f32⟩
  | .hbm, ⟨61, _⟩ => ⟨S2x4x8192, .f32⟩
  | .hbm, ⟨62, _⟩ => ⟨S2x4x8192x1, .f32⟩
  | .hbm, ⟨63, _⟩ => ⟨S_, .f32⟩
  | .hbm, ⟨64, _⟩ => ⟨S2x4x8192x1, .f32⟩
  | .hbm, ⟨65, _⟩ => ⟨S2x4x8192x1, .f32⟩
  | .hbm, ⟨66, _⟩ => ⟨S_, .f32⟩
  | .hbm, ⟨67, _⟩ => ⟨S2x4x8192x1, .f32⟩
  | .hbm, ⟨68, _⟩ => ⟨S2x4x8192x1, .f32⟩
  | .hbm, ⟨69, _⟩ => ⟨S2x4x8192x1, .f32⟩
  | .hbm, ⟨70, _⟩ => ⟨S2x4x8192x128, .f32⟩
  | .hbm, ⟨71, _⟩ => ⟨S2x4x8192x128, .f32⟩
  | .hbm, ⟨72, _⟩ => ⟨S1x128, .f32⟩
  | .hbm, ⟨73, _⟩ => ⟨S128, .f32⟩
  | .hbm, ⟨74, _⟩ => ⟨S1x1x1x128, .f32⟩
  | .hbm, ⟨75, _⟩ => ⟨S2x4x8192x128, .f32⟩
  | .hbm, ⟨76, _⟩ => ⟨S2x4x8192x128, .f32⟩
  | .hbm, ⟨77, _⟩ => ⟨S_, .f32⟩
  | .hbm, ⟨78, _⟩ => ⟨S2x4x8192x128, .f32⟩
  | .hbm, ⟨79, _⟩ => ⟨S2x4x8192x128, .f32⟩
  | .hbm, ⟨80, _⟩ => ⟨S2x8192x4x128, .f32⟩
  | .hbm, ⟨81, _⟩ => ⟨S16384x512, .f32⟩
  | .hbm, ⟨82, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S16384x1024 : Shape := ⟨2, ![16384, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2x3x1024 : Shape := ⟨3, ![2, 3, 1024]⟩
abbrev S2x1x2816 : Shape := ⟨3, ![2, 1, 2816]⟩
abbrev S1024x1024 : Shape := ⟨2, ![1024, 1024]⟩
abbrev S8x1024 : Shape := ⟨2, ![8, 1024]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1x3x1024 : Shape := ⟨3, ![1, 3, 1024]⟩
abbrev S1024x2816 : Shape := ⟨2, ![1024, 2816]⟩
abbrev S3x2816 : Shape := ⟨2, ![3, 2816]⟩
abbrev S3x1024 : Shape := ⟨2, ![3, 1024]⟩
abbrev S1x1024 : Shape := ⟨2, ![1, 1024]⟩
abbrev S6x1024 : Shape := ⟨2, ![6, 1024]⟩
abbrev S1x1024x256 : Shape := ⟨3, ![1, 1024, 256]⟩
abbrev S1024x256 : Shape := ⟨2, ![1024, 256]⟩
abbrev S1024x512 : Shape := ⟨2, ![1024, 512]⟩
abbrev S8x512 : Shape := ⟨2, ![8, 512]⟩
abbrev S8x256 : Shape := ⟨2, ![8, 256]⟩
abbrev S1x256 : Shape := ⟨2, ![1, 256]⟩
abbrev S3x256 : Shape := ⟨2, ![3, 256]⟩
abbrev S1x1x256 : Shape := ⟨3, ![1, 1, 256]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .bf16⟩
  | .hbm, ⟨2, _⟩ => ⟨S2x3x2816, .f32⟩
  | .hbm, ⟨3, _⟩ => ⟨S2x2816, .f32⟩
  | .hbm, ⟨4, _⟩ => ⟨S2x2816x1024, .bf16⟩
  | .hbm, ⟨5, _⟩ => ⟨S2x3x1024, .f32⟩
  | .hbm, ⟨6, _⟩ => ⟨S2x3x1024, .f32⟩
  | .hbm, ⟨7, _⟩ => ⟨S2x1x2816, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024x5632, .bf16⟩
  | .local _ .vmem, ⟨7, _⟩ => ⟨S1x3x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x3x1024, .f32⟩
  | .local _ .vmem, ⟨11, _⟩ => ⟨S1x3x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2x3x1024 : Shape := ⟨3, ![2, 3, 1024]⟩
abbrev S2x8192x1024 : Shape := ⟨3, ![2, 8192, 1024]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S_ : Shape := ⟨0, ![]⟩
abbrev S2x1x2816 : Shape := ⟨3, ![2, 1, 2816]⟩
abbrev S2x8191x2816 : Shape := ⟨3, ![2, 8191, 2816]⟩
abbrev S1x1x2816 : Shape := ⟨3, ![1, 1, 2816]⟩
abbrev S2816 : Shape := ⟨1, ![2816]⟩
abbrev S1x2816 : Shape := ⟨2, ![1, 2816]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S2x8192 : Shape := ⟨2, ![2, 8192]⟩
abbrev S2x8192x1 : Shape := ⟨3, ![2, 8192, 1]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .bf16⟩
  | .hbm, ⟨2, _⟩ => ⟨S2x3x2816, .f32⟩
  | .hbm, ⟨3, _⟩ => ⟨S2x2816, .f32⟩
  | .hbm, ⟨4, _⟩ => ⟨S2x2816x1024, .bf16⟩
  | .hbm, ⟨5, _⟩ => ⟨S2x3x1024, .f32⟩
  | .hbm, ⟨6, _⟩ => ⟨S2x3x1024, .f32⟩
  | .hbm, ⟨7, _⟩ => ⟨S2x8192x1024, .f32⟩
  | .hbm, ⟨8, _⟩ => ⟨S1x1024x5632, .bf16⟩
  | .hbm, ⟨9, _⟩ => ⟨S1024x5632, .bf16⟩
  | .hbm, ⟨10, _⟩ => ⟨S1024x5632, .f32⟩
  | .hbm, ⟨11, _⟩ => ⟨S2x8192x5632, .f32⟩
  | .hbm, ⟨12, _⟩ => ⟨S2x8192x2816, .f32⟩
  | .hbm, ⟨13, _⟩ => ⟨S2x8192x2816, .f32⟩
  | .hbm, ⟨14, _⟩ => ⟨S_, .f32⟩
  | .hbm, ⟨15, _⟩ => ⟨S2x1x2816, .f32⟩
  | .hbm, ⟨16, _⟩ => ⟨S2x8191x2816, .f32⟩
  | .hbm, ⟨17, _⟩ => ⟨S2x8192x2816, .f32⟩
  | .hbm, ⟨18, _⟩ => ⟨S2x8191x2816, .f32⟩
  | .hbm, ⟨19, _⟩ => ⟨S2x8192x2816, .f32⟩
  | .hbm, ⟨20, _⟩ => ⟨S1x1x2816, .f32⟩
  | .hbm, ⟨21, _⟩ => ⟨S2816, .f32⟩
  | .hbm, ⟨22, _⟩ => ⟨S1x1x2816, .f32⟩
  | .hbm, ⟨23, _⟩ => ⟨S2x8192x2816, .f32⟩
  | .hbm, ⟨24, _⟩ => ⟨S2x8192x2816, .f32⟩
  | .hbm, ⟨25, _⟩ => ⟨S1x1x2816, .f32⟩
  | .hbm, ⟨26, _⟩ => ⟨S2816, .f32⟩
  | .hbm, ⟨27, _⟩ => ⟨S1x1x2816, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S1x1x2816, .f32⟩
  | .hbm, ⟨32, _⟩ => ⟨S2816, .f32⟩
  | .hbm, ⟨33, _⟩ => ⟨S1x1x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S_, .f32⟩
  | .hbm, ⟨45, _⟩ => ⟨S2x8192x2816, .f32⟩
  | .hbm, ⟨46, _⟩ => ⟨S2x8192x2816, .f32⟩
  | .hbm, ⟨47, _⟩ => ⟨S_, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S1x2816x1024, .bf16⟩
  | .hbm, ⟨53, _⟩ => ⟨S2816x1024, .bf16⟩
  | .hbm, ⟨54, _⟩ => ⟨S2816x1024, .f32⟩
  | .hbm, ⟨55, _⟩ => ⟨S2x8192x1024, .f32⟩
  | .hbm, ⟨56, _⟩ => ⟨S_, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S1024, .f32⟩
  | .hbm, ⟨62, _⟩ => ⟨S1x1x1024, .f32⟩
  | .hbm, ⟨63, _⟩ => ⟨S1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x8192x1, .f32⟩
  | .hbm, ⟨83, _⟩ => ⟨S2x8192x1, .f32⟩
  | .hbm, ⟨84, _⟩ => ⟨S2x8192x1, .f32⟩
  | .hbm, ⟨85, _⟩ => ⟨S2x8192x1024, .f32⟩
  | .hbm, ⟨86, _⟩ => ⟨S2x8192x1024, .f32⟩
  | .hbm, ⟨87, _⟩ => ⟨S1x1x1024, .f32⟩
  | .hbm, ⟨88, _⟩ => ⟨S2x8192x1024, .f32⟩
  | .hbm, ⟨89, _⟩ => ⟨S2x8192x1024, .f32⟩
  | .hbm, ⟨90, _⟩ => ⟨S1x1x1024, .f32⟩
  | .hbm, ⟨91, _⟩ => ⟨S2x8192x1024, .f32⟩
  | .hbm, ⟨92, _⟩ => ⟨S2x8192x1024, .f32⟩
  | .hbm, ⟨93, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_1 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_v55 : Ref sig .tc := ⟨.hbm, 75, rfl⟩
abbrev main_cst_4 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel3.lean ====
abbrev S16384x1024 : Shape := ⟨2, ![16384, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2x3x1024 : Shape := ⟨3, ![2, 3, 1024]⟩
abbrev S2x1x2816 : Shape := ⟨3, ![2, 1, 2816]⟩
abbrev S1024x1024 : Shape := ⟨2, ![1024, 1024]⟩
abbrev S8x1024 : Shape := ⟨2, ![8, 1024]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1x3x1024 : Shape := ⟨3, ![1, 3, 1024]⟩
abbrev S1024x2816 : Shape := ⟨2, ![1024, 2816]⟩
abbrev S3x2816 : Shape := ⟨2, ![3, 2816]⟩
abbrev S3x1024 : Shape := ⟨2, ![3, 1024]⟩
abbrev S1x1024 : Shape := ⟨2, ![1, 1024]⟩
abbrev S6x1024 : Shape := ⟨2, ![6, 1024]⟩
abbrev S1x1024x256 : Shape := ⟨3, ![1, 1024, 256]⟩
abbrev S1024x256 : Shape := ⟨2, ![1024, 256]⟩
abbrev S1024x512 : Shape := ⟨2, ![1024, 512]⟩
abbrev S8x512 : Shape := ⟨2, ![8, 512]⟩
abbrev S8x256 : Shape := ⟨2, ![8, 256]⟩
abbrev S1x256 : Shape := ⟨2, ![1, 256]⟩
abbrev S3x256 : Shape := ⟨2, ![3, 256]⟩
abbrev S1x1x256 : Shape := ⟨3, ![1, 1, 256]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .bf16⟩
  | .hbm, ⟨2, _⟩ => ⟨S2x3x2816, .f32⟩
  | .hbm, ⟨3, _⟩ => ⟨S2x2816, .f32⟩
  | .hbm, ⟨4, _⟩ => ⟨S2x2816x1024, .bf16⟩
  | .hbm, ⟨5, _⟩ => ⟨S2x3x1024, .f32⟩
  | .hbm, ⟨6, _⟩ => ⟨S2x3x1024, .f32⟩
  | .hbm, ⟨7, _⟩ => ⟨S2x1x2816, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024x5632, .bf16⟩
  | .local _ .vmem, ⟨7, _⟩ => ⟨S1x3x2816, .f32⟩
  | .local _ .vmem, ⟨8, _⟩ => ⟨S1x1x2816, .f32⟩
  | .local _ .vmem, ⟨9, _⟩ => ⟨S1x2816x1024, .bf16⟩
  | .local _ .vmem, ⟨10, _⟩ => ⟨S1x3x1024, .f32⟩
  | .local _ .vmem, ⟨11, _⟩ => ⟨S1x3x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2x3x1024 : Shape := ⟨3, ![2, 3, 1024]⟩
abbrev S2x8192x1024 : Shape := ⟨3, ![2, 8192, 1024]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S_ : Shape := ⟨0, ![]⟩
abbrev S2x1x2816 : Shape := ⟨3, ![2, 1, 2816]⟩
abbrev S2x8191x2816 : Shape := ⟨3, ![2, 8191, 2816]⟩
abbrev S1x1x2816 : Shape := ⟨3, ![1, 1, 2816]⟩
abbrev S2816 : Shape := ⟨1, ![2816]⟩
abbrev S1x2816 : Shape := ⟨2, ![1, 2816]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S2x8192 : Shape := ⟨2, ![2, 8192]⟩
abbrev S2x8192x1 : Shape := ⟨3, ![2, 8192, 1]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .bf16⟩
  | .hbm, ⟨2, _⟩ => ⟨S2x3x2816, .f32⟩
  | .hbm, ⟨3, _⟩ => ⟨S2x2816, .f32⟩
  | .hbm, ⟨4, _⟩ => ⟨S2x2816x1024, .bf16⟩
  | .hbm, ⟨5, _⟩ => ⟨S2x3x1024, .f32⟩
  | .hbm, ⟨6, _⟩ => ⟨S2x3x1024, .f32⟩
  | .hbm, ⟨7, _⟩ => ⟨S2x8192x1024, .f32⟩
  | .hbm, ⟨8, _⟩ => ⟨S1x1024x5632, .bf16⟩
  | .hbm, ⟨9, _⟩ => ⟨S1024x5632, .bf16⟩
  | .hbm, ⟨10, _⟩ => ⟨S1024x5632, .f32⟩
  | .hbm, ⟨11, _⟩ => ⟨S2x8192x5632, .f32⟩
  | .hbm, ⟨12, _⟩ => ⟨S2x8192x2816, .f32⟩
  | .hbm, ⟨13, _⟩ => ⟨S2x8192x2816, .f32⟩
  | .hbm, ⟨14, _⟩ => ⟨S_, .f32⟩
  | .hbm, ⟨15, _⟩ => ⟨S2x1x2816, .f32⟩
  | .hbm, ⟨16, _⟩ => ⟨S2x8191x2816, .f32⟩
  | .hbm, ⟨17, _⟩ => ⟨S2x8192x2816, .f32⟩
  | .hbm, ⟨18, _⟩ => ⟨S2x8191x2816, .f32⟩
  | .hbm, ⟨19, _⟩ => ⟨S2x8192x2816, .f32⟩
  | .hbm, ⟨20, _⟩ => ⟨S1x1x2816, .f32⟩
  | .hbm, ⟨21, _⟩ => ⟨S2816, .f32⟩
  | .hbm, ⟨22, _⟩ => ⟨S1x1x2816, .f32⟩
  | .hbm, ⟨23, _⟩ => ⟨S2x8192x2816, .f32⟩
  | .hbm, ⟨24, _⟩ => ⟨S2x8192x2816, .f32⟩
  | .hbm, ⟨25, _⟩ => ⟨S1x1x2816, .f32⟩
  | .hbm, ⟨26, _⟩ => ⟨S2816, .f32⟩
  | .hbm, ⟨27, _⟩ => ⟨S1x1x2816, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S1x1x2816, .f32⟩
  | .hbm, ⟨32, _⟩ => ⟨S2816, .f32⟩
  | .hbm, ⟨33, _⟩ => ⟨S1x1x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S_, .f32⟩
  | .hbm, ⟨45, _⟩ => ⟨S2x8192x2816, .f32⟩
  | .hbm, ⟨46, _⟩ => ⟨S2x8192x2816, .f32⟩
  | .hbm, ⟨47, _⟩ => ⟨S_, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S1x2816x1024, .bf16⟩
  | .hbm, ⟨53, _⟩ => ⟨S2816x1024, .bf16⟩
  | .hbm, ⟨54, _⟩ => ⟨S2816x1024, .f32⟩
  | .hbm, ⟨55, _⟩ => ⟨S2x8192x1024, .f32⟩
  | .hbm, ⟨56, _⟩ => ⟨S_, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S1024, .f32⟩
  | .hbm, ⟨62, _⟩ => ⟨S1x1x1024, .f32⟩
  | .hbm, ⟨63, _⟩ => ⟨S1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x8192x1, .f32⟩
  | .hbm, ⟨83, _⟩ => ⟨S2x8192x1, .f32⟩
  | .hbm, ⟨84, _⟩ => ⟨S2x8192x1, .f32⟩
  | .hbm, ⟨85, _⟩ => ⟨S2x8192x1024, .f32⟩
  | .hbm, ⟨86, _⟩ => ⟨S2x8192x1024, .f32⟩
  | .hbm, ⟨87, _⟩ => ⟨S1x1x1024, .f32⟩
  | .hbm, ⟨88, _⟩ => ⟨S2x8192x1024, .f32⟩
  | .hbm, ⟨89, _⟩ => ⟨S2x8192x1024, .f32⟩
  | .hbm, ⟨90, _⟩ => ⟨S1x1x1024, .f32⟩
  | .hbm, ⟨91, _⟩ => ⟨S2x8192x1024, .f32⟩
  | .hbm, ⟨92, _⟩ => ⟨S2x8192x1024, .f32⟩
  | .hbm, ⟨93, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_1 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_v55 : Ref sig .tc := ⟨.hbm, 75, rfl⟩
abbrev main_cst_4 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S2x1024x7680 : Shape := ⟨3, ![2, 1024, 7680]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x512 : Shape := ⟨2, ![8192, 512]⟩
abbrev S1x1024 : Shape := ⟨2, ![1, 1024]⟩
abbrev S16384x512 : Shape := ⟨2, ![16384, 512]⟩
abbrev S16384x3072 : Shape := ⟨2, ![16384, 3072]⟩
abbrev S512x1024 : Shape := ⟨2, ![512, 1024]⟩
abbrev S1x1024x7680 : Shape := ⟨3, ![1, 1024, 7680]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩
abbrev S512x128 : Shape := ⟨2, ![512, 128]⟩
abbrev S1x1024x512 : Shape := ⟨3, ![1, 1024, 512]⟩
abbrev S1024x512 : Shape := ⟨2, ![1024, 512]⟩
abbrev S1x1024x3072 : Shape := ⟨3, ![1, 1024, 3072]⟩
abbrev S1024x3072 : Shape := ⟨2, ![1024, 3072]⟩

abbrev nBuf : Space → Nat
  | .hbm => 51
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S2x1024x7680, .bf16⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S8192x32, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S8192x512, .f32⟩
  | .hbm, ⟨39, _⟩ => ⟨S1x1024, .f32⟩
  | .hbm, ⟨40, _⟩ => ⟨S1x1024, .f32⟩
  | .hbm, ⟨41, _⟩ => ⟨S16384x1024, .f32⟩
  | .hbm, ⟨42, _⟩ => ⟨S16384x512, .bf16⟩
  | .hbm, ⟨43, _⟩ => ⟨S16384x512, .bf16⟩
  | .hbm, ⟨44, _⟩ => ⟨S16384x512, .bf16⟩
  | .hbm, ⟨45, _⟩ => ⟨S16384x512, .bf16⟩
  | .hbm, ⟨46, _⟩ => ⟨S16384x512, .bf16⟩
  | .hbm, ⟨47, _⟩ => ⟨S16384x512, .bf16⟩
  | .hbm, ⟨48, _⟩ => ⟨S16384x512, .bf16⟩
  | .hbm, ⟨49, _⟩ => ⟨S16384x512, .bf16⟩
  | .hbm, ⟨50, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024x7680, .bf16⟩
  | .local _ .vmem, ⟨5, _⟩ => ⟨S512x512, .f32⟩
  | .local _ .vmem, ⟨6, _⟩ => ⟨S512x512, .f32⟩
  | .local _ .vmem, ⟨7, _⟩ => ⟨S512x1024, .f32⟩
  | .local _ .vmem, ⟨8, _⟩ => ⟨S512x1024, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x3072, .bf16⟩
  | .local _ .vmem, ⟨26, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev main_v32_5 : Ref sig .tc := ⟨.hbm, 46, rfl⟩
abbrev main_v32_6 : Ref sig .tc := ⟨.hbm, 47, rfl⟩
abbrev main_v32_7 : Ref sig .tc := ⟨.hbm, 48, rfl⟩
abbrev main_v32_8 : Ref sig .tc := ⟨.hbm, 49, rfl⟩
abbrev main_v32_9 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x7680 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16384x1024 : Shape := ⟨2, ![16384, 1024]⟩
abbrev S1024 : Shape := ⟨1, ![1024]⟩
abbrev S2x1024x7680 : Shape := ⟨3, ![2, 1024, 7680]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x7680 : Shape := ⟨3, ![1, 1024, 7680]⟩
abbrev S1024x7680 : Shape := ⟨2, ![1024, 7680]⟩
abbrev S16384x7680 : Shape := ⟨2, ![16384, 7680]⟩
abbrev S16384x512 : Shape := ⟨2, ![16384, 512]⟩
abbrev S2x8192x8x64 : Shape := ⟨4, ![2, 8192, 8, 64]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x8x32 : Shape := ⟨4, ![2, 8192, 8, 32]⟩
abbrev S1x8192x1x32 : Shape := ⟨4, ![1, 8192, 1, 32]⟩
abbrev S16384x3072 : Shape := ⟨2, ![16384, 3072]⟩

abbrev nBuf : Space → Nat
  | .hbm => 153
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S2x1024x7680, .bf16⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S16384x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S16384x1024, .f32⟩
  | 20 => ⟨S16384x1024, .f32⟩
  | 21 => ⟨S_, .f32⟩
  | 22 => ⟨S16384x1, .f32⟩
  | 23 => ⟨S16384x1, .f32⟩
  | 24 => ⟨S16384x1, .f32⟩
  | 25 => ⟨S16384x1024, .f32⟩
  | 26 => ⟨S16384x1024, .f32⟩
  | 27 => ⟨S1x1024, .f32⟩
  | 28 => ⟨S16384x1024, .f32⟩
  | 29 => ⟨S16384x1024, .f32⟩
  | 30 => ⟨S1x1024, .f32⟩
  | 31 => ⟨S16384x1024, .f32⟩
  | 32 => ⟨S16384x1024, .f32⟩
  | 33 => ⟨S1x1024x7680, .bf16⟩
  | 34 => ⟨S1024x7680, .bf16⟩
  | 35 => ⟨S1024x7680, .f32⟩
  | 36 => ⟨S16384x7680, .f32⟩
  | 37 => ⟨S16384x512, .f32⟩
  | 38 => ⟨S16384x512, .f32⟩
  | 39 => ⟨S16384x512, .f32⟩
  | 40 => ⟨S16384x512, .f32⟩
  | 41 => ⟨S16384x512, .f32⟩
  | 42 => ⟨S16384x512, .f32⟩
  | 43 => ⟨S16384x512, .f32⟩
  | 44 => ⟨S16384x512, .f32⟩
  | 45 => ⟨S16384x512, .f32⟩
  | 46 => ⟨S2x8192x8x64, .f32⟩
  | 47 => ⟨S8192, .i32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S8192, .f32⟩
  | 60 => ⟨S8192x1, .f32⟩
  | 61 => ⟨S1x32, .f32⟩
  | 62 => ⟨S8192x32, .f32⟩
  | 63 => ⟨S8192x32, .f32⟩
  | 64 => ⟨S8192x32, .f32⟩
  | 65 => ⟨S8192x32, .f32⟩
  | 66 => ⟨S8192x1x32, .f32⟩
  | 67 => ⟨S8192x32, .f32⟩
  | 68 => ⟨S8192x1x32, .f32⟩
  | 69 => ⟨S2x8192x8x32, .f32⟩
  | 70 => ⟨S2x8192x8x32, .f32⟩
  | 71 => ⟨S1x8192x1x32, .f32⟩
  | 72 => ⟨S2x8192x8x32, .f32⟩
  | 73 => ⟨S2x8192x8x32, .f32⟩
  | 74 => ⟨S1x8192x1x32, .f32⟩
  | 75 => ⟨S2x8192x8x32, .f32⟩
  | 76 => ⟨S2x8192x8x32, .f32⟩
  | 77 => ⟨S2x8192x8x32, .f32⟩
  | 78 => ⟨S1x8192x1x32, .f32⟩
  | 79 => ⟨S2x8192x8x32, .f32⟩
  | 80 => ⟨S2x8192x8x32, .f32⟩
  | 81 => ⟨S1x8192x1x32, .f32⟩
  | 82 => ⟨S2x8192x8x32, .f32⟩
  | 83 => ⟨S2x8192x8x32, .f32⟩
  | 84 => ⟨S2x8192x8x32, .f32⟩
  | 85 => ⟨S2x8192x8x64, .f32⟩
  | 86 => ⟨S_, .f32⟩
  | 87 => ⟨S2x8192x8x64, .f32⟩
  | 88 => ⟨S2x8192x8x64, .f32⟩
  | 89 => ⟨S2x8192x8x64, .f32⟩
  | 90 => ⟨S8192, .i32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S8192, .f32⟩
  | 103 => ⟨S8192x1, .f32⟩
  | 104 => ⟨S1x32, .f32⟩
  | 105 => ⟨S8192x32, .f32⟩
  | 106 => ⟨S8192x32, .f32⟩
  | 107 => ⟨S8192x32, .f32⟩
  | 108 => ⟨S8192x32, .f32⟩
  | 109 => ⟨S8192x1x32, .f32⟩
  | 110 => ⟨S8192x32, .f32⟩
  | 111 => ⟨S8192x1x32, .f32⟩
  | 112 => ⟨S2x8192x8x32, .f32⟩
  | 113 => ⟨S2x8192x8x32, .f32⟩
  | 114 => ⟨S1x8192x1x32, .f32⟩
  | 115 => ⟨S2x8192x8x32, .f32⟩
  | 116 => ⟨S2x8192x8x32, .f32⟩
  | 117 => ⟨S1x8192x1x32, .f32⟩
  | 118 => ⟨S2x8192x8x32, .f32⟩
  | 119 => ⟨S2x8192x8x32, .f32⟩
  | 120 => ⟨S2x8192x8x32, .f32⟩
  | 121 => ⟨S1x8192x1x32, .f32⟩
  | 122 => ⟨S2x8192x8x32, .f32⟩
  | 123 => ⟨S2x8192x8x32, .f32⟩
  | 124 => ⟨S1x8192x1x32, .f32⟩
  | 125 => ⟨S2x8192x8x32, .f32⟩
  | 126 => ⟨S2x8192x8x32, .f32⟩
  | 127 => ⟨S2x8192x8x32, .f32⟩
  | _ => ⟨S16384x1024, .f32⟩

abbrev hbmTy0_1 (i : Nat) : BufTy := match i % 128 with
  | 0 => ⟨S2x8192x8x64, .f32⟩
  | 1 => ⟨S16384x512, .f32⟩
  | 2 => ⟨S16384x512, .f32⟩
  | 3 => ⟨S_, .f32⟩
  | 4 => ⟨S16384x512, .f32⟩
  | 5 => ⟨S16384x512, .f32⟩
  | 6 => ⟨S16384x512, .f32⟩
  | 7 => ⟨S16384x3072, .f32⟩
  | 8 => ⟨S16384x3072, .f32⟩
  | 9 => ⟨S16384x3072, .f32⟩
  | 10 => ⟨S_, .f32⟩
  | 11 => ⟨S16384x3072, .f32⟩
  | 12 => ⟨S16384x3072, .f32⟩
  | 13 => ⟨S_, .f32⟩
  | 14 => ⟨S16384x3072, .f32⟩
  | 15 => ⟨S16384x3072, .f32⟩
  | 16 => ⟨S16384x512, .bf16⟩
  | 17 => ⟨S16384x512, .bf16⟩
  | 18 => ⟨S16384x512, .bf16⟩
  | 19 => ⟨S16384x512, .bf16⟩
  | 20 => ⟨S16384x512, .bf16⟩
  | 21 => ⟨S16384x512, .bf16⟩
  | 22 => ⟨S16384x512, .bf16⟩
  | 23 => ⟨S16384x512, .bf16⟩
  | 24 => ⟨S16384x3072, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_7 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_8 : Ref sig .tc := ⟨.hbm, 93, rfl⟩
abbrev main_v80 : Ref sig .tc := ⟨.hbm, 94, rfl⟩
abbrev main_v81 : Ref sig .tc := ⟨.hbm, 95, rfl⟩
abbrev main_cst_9 : Ref sig .tc := ⟨.hbm, 96, rfl⟩
abbrev main_v82 : Ref sig .tc := ⟨.hbm, 97, rfl⟩
abbrev main_v83 : Ref sig .tc := ⟨.hbm, 98, rfl⟩
abbrev main_cst_10 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_11 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_12 : Ref sig .tc := ⟨.hbm, 138, rfl⟩
abbrev main_v121 : Ref sig .tc := ⟨.hbm, 139, rfl⟩
abbrev main_v122 : Ref sig .tc := ⟨.hbm, 140, rfl⟩
abbrev main_cst_13 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩

abbrev nD : Nat := 1
abbrev τ : Topo := Topo.v7x

variable {F : FTy → Type} [FloatOps F]
-- ==== Kernel5.lean ====
abbrev S16384x1024 : Shape := ⟨2, ![16384, 1024]⟩
abbrev S2x1024x7680 : Shape := ⟨3, ![2, 1024, 7680]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x512 : Shape := ⟨2, ![8192, 512]⟩
abbrev S16384x512 : Shape := ⟨2, ![16384, 512]⟩
abbrev S16384x3072 : Shape := ⟨2, ![16384, 3072]⟩
abbrev S512x1024 : Shape := ⟨2, ![512, 1024]⟩
abbrev S1x1024x7680 : Shape := ⟨3, ![1, 1024, 7680]⟩
abbrev S512x512 : Shape := ⟨2, ![512, 512]⟩
abbrev S512x3072 : Shape := ⟨2, ![512, 3072]⟩
abbrev S512x128 : Shape := ⟨2, ![512, 128]⟩
abbrev S1x1024x512 : Shape := ⟨3, ![1, 1024, 512]⟩
abbrev S1024x512 : Shape := ⟨2, ![1024, 512]⟩
abbrev S1x1024x3072 : Shape := ⟨3, ![1, 1024, 3072]⟩
abbrev S1024x3072 : Shape := ⟨2, ![1024, 3072]⟩

abbrev nBuf : Space → Nat
  | .hbm => 46
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x1024x7680, .bf16⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x64, .f32⟩
  | .hbm, ⟨22, _⟩ => ⟨S1x8192x1x64, .f32⟩
  | .hbm, ⟨23, _⟩ => ⟨S1x8192x2x64, .f32⟩
  | .hbm, ⟨24, _⟩ => ⟨S8192x128, .f32⟩
  | .hbm, ⟨25, _⟩ => ⟨S8192x32, .f32⟩
  | .hbm, ⟨26, _⟩ => ⟨S8192x64, .f32⟩
  | .hbm, ⟨27, _⟩ => ⟨S1x8192x1x64, .f32⟩
  | .hbm, ⟨28, _⟩ => ⟨S1x8192x2x64, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | .hbm, ⟨36, _⟩ => ⟨S8192x512, .f32⟩
  | .hbm, ⟨37, _⟩ => ⟨S16384x512, .bf16⟩
  | .hbm, ⟨38, _⟩ => ⟨S16384x512, .bf16⟩
  | .hbm, ⟨39, _⟩ => ⟨S16384x512, .bf16⟩
  | .hbm, ⟨40, _⟩ => ⟨S16384x512, .bf16⟩
  | .hbm, ⟨41, _⟩ => ⟨S16384x512, .bf16⟩
  | .hbm, ⟨42, _⟩ => ⟨S16384x512, .bf16⟩
  | .hbm, ⟨43, _⟩ => ⟨S16384x512, .bf16⟩
  | .hbm, ⟨44, _⟩ => ⟨S16384x512, .bf16⟩
  | .hbm, ⟨45, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024x7680, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x3072, .bf16⟩
  | .local _ .vmem, ⟨22, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev main_v30_4 : Ref sig .tc := ⟨.hbm, 41, rfl⟩
abbrev main_v30_5 : Ref sig .tc := ⟨.hbm, 42, rfl⟩
abbrev main_v30_6 : Ref sig .tc := ⟨.hbm, 43, rfl⟩
abbrev main_v30_7 : Ref sig .tc := ⟨.hbm, 44, rfl⟩
abbrev main_v30_8 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x1024 : Shape := ⟨2, ![16384, 1024]⟩
abbrev S2x1024x7680 : Shape := ⟨3, ![2, 1024, 7680]⟩
abbrev S1x1024x7680 : Shape := ⟨3, ![1, 1024, 7680]⟩
abbrev S1024x7680 : Shape := ⟨2, ![1024, 7680]⟩
abbrev S16384x7680 : Shape := ⟨2, ![16384, 7680]⟩
abbrev S16384x512 : Shape := ⟨2, ![16384, 512]⟩
abbrev S2x8192x8x64 : Shape := ⟨4, ![2, 8192, 8, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x8x32 : Shape := ⟨4, ![2, 8192, 8, 32]⟩
abbrev S1x8192x1x32 : Shape := ⟨4, ![1, 8192, 1, 32]⟩
abbrev S16384x3072 : Shape := ⟨2, ![16384, 3072]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x7680, .bf16⟩
  | .hbm, ⟨2, _⟩ => ⟨S1x1024x7680, .bf16⟩
  | .hbm, ⟨3, _⟩ => ⟨S1024x7680, .bf16⟩
  | .hbm, ⟨4, _⟩ => ⟨S1024x7680, .f32⟩
  | .hbm, ⟨5, _⟩ => ⟨S16384x7680, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S2x8192x8x64, .f32⟩
  | .hbm, ⟨16, _⟩ => ⟨S8192, .i32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S8192, .f32⟩
  | .hbm, ⟨29, _⟩ => ⟨S8192x1, .f32⟩
  | .hbm, ⟨30, _⟩ => ⟨S1x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x1x32, .f32⟩
  | .hbm, ⟨36, _⟩ => ⟨S8192x32, .f32⟩
  | .hbm, ⟨37, _⟩ => ⟨S8192x1x32, .f32⟩
  | .hbm, ⟨38, _⟩ => ⟨S2x8192x8x32, .f32⟩
  | .hbm, ⟨39, _⟩ => ⟨S2x8192x8x32, .f32⟩
  | .hbm, ⟨40, _⟩ => ⟨S1x8192x1x32, .f32⟩
  | .hbm, ⟨41, _⟩ => ⟨S2x8192x8x32, .f32⟩
  | .hbm, ⟨42, _⟩ => ⟨S2x8192x8x32, .f32⟩
  | .hbm, ⟨43, _⟩ => ⟨S1x8192x1x32, .f32⟩
  | .hbm, ⟨44, _⟩ => ⟨S2x8192x8x32, .f32⟩
  | .hbm, ⟨45, _⟩ => ⟨S2x8192x8x32, .f32⟩
  | .hbm, ⟨46, _⟩ => ⟨S2x8192x8x32, .f32⟩
  | .hbm, ⟨47, _⟩ => ⟨S1x8192x1x32, .f32⟩
  | .hbm, ⟨48, _⟩ => ⟨S2x8192x8x32, .f32⟩
  | .hbm, ⟨49, _⟩ => ⟨S2x8192x8x32, .f32⟩
  | .hbm, ⟨50, _⟩ => ⟨S1x8192x1x32, .f32⟩
  | .hbm, ⟨51, _⟩ => ⟨S2x8192x8x32, .f32⟩
  | .hbm, ⟨52, _⟩ => ⟨S2x8192x8x32, .f32⟩
  | .hbm, ⟨53, _⟩ => ⟨S2x8192x8x32, .f32⟩
  | .hbm, ⟨54, _⟩ => ⟨S2x8192x8x64, .f32⟩
  | .hbm, ⟨55, _⟩ => ⟨S_, .f32⟩
  | .hbm, ⟨56, _⟩ => ⟨S2x8192x8x64, .f32⟩
  | .hbm, ⟨57, _⟩ => ⟨S2x8192x8x64, .f32⟩
  | .hbm, ⟨58, _⟩ => ⟨S2x8192x8x64, .f32⟩
  | .hbm, ⟨59, _⟩ => ⟨S8192, .i32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S8192, .f32⟩
  | .hbm, ⟨72, _⟩ => ⟨S8192x1, .f32⟩
  | .hbm, ⟨73, _⟩ => ⟨S1x32, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x1x32, .f32⟩
  | .hbm, ⟨79, _⟩ => ⟨S8192x32, .f32⟩
  | .hbm, ⟨80, _⟩ => ⟨S8192x1x32, .f32⟩
  | .hbm, ⟨81, _⟩ => ⟨S2x8192x8x32, .f32⟩
  | .hbm, ⟨82, _⟩ => ⟨S2x8192x8x32, .f32⟩
  | .hbm, ⟨83, _⟩ => ⟨S1x8192x1x32, .f32⟩
  | .hbm, ⟨84, _⟩ => ⟨S2x8192x8x32, .f32⟩
  | .hbm, ⟨85, _⟩ => ⟨S2x8192x8x32, .f32⟩
  | .hbm, ⟨86, _⟩ => ⟨S1x8192x1x32, .f32⟩
  | .hbm, ⟨87, _⟩ => ⟨S2x8192x8x32, .f32⟩
  | .hbm, ⟨88, _⟩ => ⟨S2x8192x8x32, .f32⟩
  | .hbm, ⟨89, _⟩ => ⟨S2x8192x8x32, .f32⟩
  | .hbm, ⟨90, _⟩ => ⟨S1x8192x1x32, .f32⟩
  | .hbm, ⟨91, _⟩ => ⟨S2x8192x8x32, .f32⟩
  | .hbm, ⟨92, _⟩ => ⟨S2x8192x8x32, .f32⟩
  | .hbm, ⟨93, _⟩ => ⟨S1x8192x1x32, .f32⟩
  | .hbm, ⟨94, _⟩ => ⟨S2x8192x8x32, .f32⟩
  | .hbm, ⟨95, _⟩ => ⟨S2x8192x8x32, .f32⟩
  | .hbm, ⟨96, _⟩ => ⟨S2x8192x8x32, .f32⟩
  | .hbm, ⟨97, _⟩ => ⟨S2x8192x8x64, .f32⟩
  | .hbm, ⟨98, _⟩ => ⟨S16384x512, .f32⟩
  | .hbm, ⟨99, _⟩ => ⟨S16384x512, .f32⟩
  | .hbm, ⟨100, _⟩ => ⟨S_, .f32⟩
  | .hbm, ⟨101, _⟩ => ⟨S16384x512, .f32⟩
  | .hbm, ⟨102, _⟩ => ⟨S16384x512, .f32⟩
  | .hbm, ⟨103, _⟩ => ⟨S16384x512, .f32⟩
  | .hbm, ⟨104, _⟩ => ⟨S16384x3072, .f32⟩
  | .hbm, ⟨105, _⟩ => ⟨S16384x3072, .f32⟩
  | .hbm, ⟨106, _⟩ => ⟨S16384x3072, .f32⟩
  | .hbm, ⟨107, _⟩ => ⟨S_, .f32⟩
  | .hbm, ⟨108, _⟩ => ⟨S16384x3072, .f32⟩
  | .hbm, ⟨109, _⟩ => ⟨S16384x3072, .f32⟩
  | .hbm, ⟨110, _⟩ => ⟨S_, .f32⟩
  | .hbm, ⟨111, _⟩ => ⟨S16384x3072, .f32⟩
  | .hbm, ⟨112, _⟩ => ⟨S16384x3072, .f32⟩
  | .hbm, ⟨113, _⟩ => ⟨S16384x512, .bf16⟩
  | .hbm, ⟨114, _⟩ => ⟨S16384x512, .bf16⟩
  | .hbm, ⟨115, _⟩ => ⟨S16384x512, .bf16⟩
  | .hbm, ⟨116, _⟩ => ⟨S16384x512, .bf16⟩
  | .hbm, ⟨117, _⟩ => ⟨S16384x512, .bf16⟩
  | .hbm, ⟨118, _⟩ => ⟨S16384x512, .bf16⟩
  | .hbm, ⟨119, _⟩ => ⟨S16384x512, .bf16⟩
  | .hbm, ⟨120, _⟩ => ⟨S16384x512, .bf16⟩
  | .hbm, ⟨121, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_2 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_cst_3 : Ref sig .tc := ⟨.hbm, 62, rfl⟩
abbrev main_v56 : Ref sig .tc := ⟨.hbm, 63, rfl⟩
abbrev main_v57 : Ref sig .tc := ⟨.hbm, 64, rfl⟩
abbrev main_cst_4 : Ref sig .tc := ⟨.hbm, 65, rfl⟩
abbrev main_v58 : Ref sig .tc := ⟨.hbm, 66, rfl⟩
abbrev main_v59 : Ref sig .tc := ⟨.hbm, 67, rfl⟩
abbrev main_cst_5 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_cst_6 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_cst_7 : Ref sig .tc := ⟨.hbm, 107, rfl⟩
abbrev main_v97 : Ref sig .tc := ⟨.hbm, 108, rfl⟩
abbrev main_v98 : Ref sig .tc := ⟨.hbm, 109, rfl⟩
abbrev main_cst_8 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩

abbrev nD : Nat := 1
abbrev τ : Topo := Topo.v7x

variable {F : FTy → Type} [FloatOps F]
-- ==== Kernel6.lean ====
abbrev S16384x512 : Shape := ⟨2, ![16384, 512]⟩
abbrev S2x64 : Shape := ⟨2, ![2, 64]⟩
abbrev S2x128 : Shape := ⟨2, ![2, 128]⟩
abbrev S2x1x64 : Shape := ⟨3, ![2, 1, 64]⟩
abbrev S2x1x128 : Shape := ⟨3, ![2, 1, 128]⟩
abbrev S8192x128 : Shape := ⟨2, ![8192, 128]⟩
abbrev S1x1x64 : Shape := ⟨3, ![1, 1, 64]⟩
abbrev S1x1x128 : Shape := ⟨3, ![1, 1, 128]⟩
abbrev S1024x128 : Shape := ⟨2, ![1024, 128]⟩
abbrev S1024x256 : Shape := ⟨2, ![1024, 256]⟩
abbrev S1024x2048 : Shape := ⟨2, ![1024, 2048]⟩
abbrev S512x128 : Shape := ⟨2, ![512, 128]⟩
abbrev S2048x128 : Shape := ⟨2, ![2048, 128]⟩
abbrev S1x64 : Shape := ⟨2, ![1, 64]⟩
abbrev S1 : Shape := ⟨1, ![1]⟩
abbrev S1x1 : Shape := ⟨2, ![1, 1]⟩
abbrev S2048x256 : Shape := ⟨2, ![2048, 256]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x128 : Shape := ⟨2, ![1, 128]⟩

abbrev nBuf : Space → Nat
  | .hbm => 14
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S2x1x64, .f32⟩
  | .hbm, ⟨9, _⟩ => ⟨S2x1x64, .f32⟩
  | .hbm, ⟨10, _⟩ => ⟨S2x1x64, .f32⟩
  | .hbm, ⟨11, _⟩ => ⟨S2x1x64, .f32⟩
  | .hbm, ⟨12, _⟩ => ⟨S2x1x128, .f32⟩
  | .hbm, ⟨13, _⟩ => ⟨S16384x512, .bf16⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x128, .f32⟩
  | .local _ .vmem, ⟨11, _⟩ => ⟨S8192x128, .bf16⟩
  | .local _ .vmem, ⟨12, _⟩ => ⟨S8192x128, .bf16⟩
  | .local _ .vmem, ⟨13, _⟩ => ⟨S1024x128, .bf16⟩
  | .local _ .vmem, ⟨14, _⟩ => ⟨S1024x128, .f32⟩
  | .local _ .vmem, ⟨15, _⟩ => ⟨S1024x256, .f32⟩
  | .local _ .vmem, ⟨16, _⟩ => ⟨S1024x2048, .f32⟩
  | .local _ .vmem, ⟨17, _⟩ => ⟨S1024x2048, .f32⟩
  | .local _ .vmem, ⟨18, _⟩ => ⟨S1024x128, .f32⟩
  | .local _ .vmem, ⟨19, _⟩ => ⟨S1024x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 4], ![false, false]⟩

def k0_mult1 : BitVec 32 :=
  let c0_i32_15 : BitVec 32 := 0#32
  c0_i32_15
@[reducible] def k0_t1_loop : Scf.Loop 32 :=
  let c0_i32_31 : BitVec 32 := 0#32
  let c16_i32 : BitVec 32 := 16#32
  let v83 : BitVec 32 := Scalar.addi c0_i32_31 c16_i32
  let c1_i32 : BitVec 32 := 1#32
  ⟨c0_i32_31, v83, c1_i32⟩
def k0_mult2 (k0_t1 : Fin k0_t1_loop.trips) : BitVec 32 :=
  let c0_i32_31 : BitVec 32 := 0#32
  let c1_i32 : BitVec 32 := 1#32
  let arg18 : BitVec 32 := Scf.iv c0_i32_31 c1_i32 k0_t1
  let c1_i32_213 : BitVec 32 := 1#32
  let v470 : BitVec 32 := Scalar.addi arg18 c1_i32_213
  let c15_i32 : BitVec 32 := 15#32
  let v471 : BitVec 32 := Scalar.minsi v470 c15_i32
  let c512_i32 : BitVec 32 := 512#32
  let v472 : BitVec 32 := Scalar.muli v471 c512_i32
  v472
def k0_off1 (k0_t1 : Fin k0_t1_loop.trips) : Fin 2 → Nat :=
  let c0_i32_31 : BitVec 32 := 0#32
  let c1_i32 : BitVec 32 := 1#32
  let arg18 : BitVec 32 := Scf.iv c0_i32_31 c1_i32 k0_t1
  let c1_i32_213 : BitVec 32 := 1#32
  let v470 : BitVec 32 := Scalar.addi arg18 c1_i32_213
  let c15_i32 : BitVec 32 := 15#32
  let v471 : BitVec 32 := Scalar.minsi v470 c15_i32
  let c512_i32 : BitVec 32 := 512#32
  let v472 : BitVec 32 := Scalar.muli v471 c512_i32
  let v473 : BitVec 32 := v472
  let v474 : Index := Scalar.indexCast v473
  let c0_214 : Index := 0#32
  ![v474.toNat, 0]
def k0_mult3 (k0_t1 : Fin k0_t1_loop.trips) : BitVec 32 :=
  let c0_i32_31 : BitVec 32 := 0#32
  let c1_i32 : BitVec 32 := 1#32
  let arg18 : BitVec 32 := Scf.iv c0_i32_31 c1_i32 k0_t1
  let c512_i32_286 : BitVec 32 := 512#32
  let v633 : BitVec 32 := Scalar.muli arg18 c512_i32_286
  let c0_i32_287 : BitVec 32 := 0#32
  let v634 : BitVec 32 := Scalar.addi v633 c0_i32_287
  v634
def k0_off2 (k0_t1 : Fin k0_t1_loop.trips) (c0_i32_287 : BitVec 32) : Fin 2 → Nat :=
  let c0_i32_31 : BitVec 32 := 0#32
  let c1_i32 : BitVec 32 := 1#32
  let arg18 : BitVec 32 := Scf.iv c0_i32_31 c1_i32 k0_t1
  let c512_i32_286 : BitVec 32 := 512#32
  let v633 : BitVec 32 := Scalar.muli arg18 c512_i32_286
  let v634 : BitVec 32 := Scalar.addi v633 c0_i32_287
  let v635 : BitVec 32 := v634
  let v636 : Index := Scalar.indexCast v635
  let c0_288 : Index := 0#32
  ![v636.toNat, 0]
def k0_mult4 (k0_t1 : Fin k0_t1_loop.trips) : BitVec 32 :=
  let c0_i32_31 : BitVec 32 := 0#32
  let c1_i32 : BitVec 32 := 1#32
  let arg18 : BitVec 32 := Scf.iv c0_i32_31 c1_i32 k0_t1
  let c512_i32_314 : BitVec 32 := 512#32
  let v692 : BitVec 32 := Scalar.muli arg18 c512_i32_314
  let c256_i32 : BitVec 32 := 256#32
  let v693 : BitVec 32 := Scalar.addi v692 c256_i32
  v693
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S16384x512 : Shape := ⟨2, ![16384, 512]⟩
abbrev S2x64 : Shape := ⟨2, ![2, 64]⟩
abbrev S2x128 : Shape := ⟨2, ![2, 128]⟩
abbrev S2x8192x4x2x64 : Shape := ⟨5, ![2, 8192, 4, 2, 64]⟩
abbrev S2x4x2x8192x64 : Shape := ⟨5, ![2, 4, 2, 8192, 64]⟩
abbrev S2x8192x4x128 : Shape := ⟨4, ![2, 8192, 4, 128]⟩
abbrev S2x4x8192x128 : Shape := ⟨4, ![2, 4, 8192, 128]⟩
abbrev S1x64 : Shape := ⟨2, ![1, 64]⟩
abbrev S64 : Shape := ⟨1, ![64]⟩
abbrev S_ : Shape := ⟨0, ![]⟩
abbrev S2x4x2x8192x8192 : Shape := ⟨5, ![2, 4, 2, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S16384x512, .f32⟩
  | .hbm, ⟨9, _⟩ => ⟨S2x8192x4x2x64, .f32⟩
  | .hbm, ⟨10, _⟩ => ⟨S2x4x2x8192x64, .f32⟩
  | .hbm, ⟨11, _⟩ => ⟨S16384x512, .f32⟩
  | .hbm, ⟨12, _⟩ => ⟨S2x8192x4x2x64, .f32⟩
  | .hbm, ⟨13, _⟩ => ⟨S2x4x2x8192x64, .f32⟩
  | .hbm, ⟨14, _⟩ => ⟨S16384x512, .f32⟩
  | .hbm, ⟨15, _⟩ => ⟨S2x8192x4x128, .f32⟩
  | .hbm, ⟨16, _⟩ => ⟨S2x4x8192x128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x4x2x8192x8192, .f32⟩
  | .hbm, ⟨37, _⟩ => ⟨S_, .f32⟩
  | .hbm, ⟨38, _⟩ => ⟨S2x4x2x8192, .f32⟩
  | .hbm, ⟨39, _⟩ => ⟨S_, .f32⟩
  | .hbm, ⟨40, _⟩ => ⟨S2x4x2x8192, .f32⟩
  | .hbm, ⟨41, _⟩ => ⟨S2x4x2x8192, .f32⟩
  | .hbm, ⟨42, _⟩ => ⟨S2x4x2x8192x1, .f32⟩
  | .hbm, ⟨43, _⟩ => ⟨S2x4x2x8192x8192, .f32⟩
  | .hbm, ⟨44, _⟩ => ⟨S2x4x2x8192x8192, .f32⟩
  | .hbm, ⟨45, _⟩ => ⟨S2x4x2x8192x8192, .f32⟩
  | .hbm, ⟨46, _⟩ => ⟨S_, .f32⟩
  | .hbm, ⟨47, _⟩ => ⟨S2x4x2x8192, .f32⟩
  | .hbm, ⟨48, _⟩ => ⟨S2x4x2x8192x1, .f32⟩
  | .hbm, ⟨49, _⟩ => ⟨S2x4x2x8192x8192, .f32⟩
  | .hbm, ⟨50, _⟩ => ⟨S2x4x2x8192x8192, .f32⟩
  | .hbm, ⟨51, _⟩ => ⟨S2x4x1x8192x8192, .f32⟩
  | .hbm, ⟨52, _⟩ => ⟨S2x4x8192x8192, .f32⟩
  | .hbm, ⟨53, _⟩ => ⟨S2x4x1x8192x8192, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x8192x128, .f32⟩
  | .hbm, ⟨59, _⟩ => ⟨S2x4x8192x128, .f32⟩
  | .hbm, ⟨60, _⟩ => ⟨S_, .f32⟩
  | .hbm, ⟨61, _⟩ => ⟨S2x4x8192, .f32⟩
  | .hbm, ⟨62, _⟩ => ⟨S2x4x8192x1, .f32⟩
  | .hbm, ⟨63, _⟩ => ⟨S_, .f32⟩
  | .hbm, ⟨64, _⟩ => ⟨S2x4x8192x1, .f32⟩
  | .hbm, ⟨65, _⟩ => ⟨S2x4x8192x1, .f32⟩
  | .hbm, ⟨66, _⟩ => ⟨S_, .f32⟩
  | .hbm, ⟨67, _⟩ => ⟨S2x4x8192x1, .f32⟩
  | .hbm, ⟨68, _⟩ => ⟨S2x4x8192x1, .f32⟩
  | .hbm, ⟨69, _⟩ => ⟨S2x4x8192x1, .f32⟩
  | .hbm, ⟨70, _⟩ => ⟨S2x4x8192x128, .f32⟩
  | .hbm, ⟨71, _⟩ => ⟨S2x4x8192x128, .f32⟩
  | .hbm, ⟨72, _⟩ => ⟨S1x128, .f32⟩
  | .hbm, ⟨73, _⟩ => ⟨S128, .f32⟩
  | .hbm, ⟨74, _⟩ => ⟨S1x1x1x128, .f32⟩
  | .hbm, ⟨75, _⟩ => ⟨S2x4x8192x128, .f32⟩
  | .hbm, ⟨76, _⟩ => ⟨S2x4x8192x128, .f32⟩
  | .hbm, ⟨77, _⟩ => ⟨S_, .f32⟩
  | .hbm, ⟨78, _⟩ => ⟨S2x4x8192x128, .f32⟩
  | .hbm, ⟨79, _⟩ => ⟨S2x4x8192x128, .f32⟩
  | .hbm, ⟨80, _⟩ => ⟨S2x8192x4x128, .f32⟩
  | .hbm, ⟨81, _⟩ => ⟨S16384x512, .f32⟩
  | .hbm, ⟨82, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel7.lean ====
abbrev S16384x1024 : Shape := ⟨2, ![16384, 1024]⟩
abbrev S16384x512 : Shape := ⟨2, ![16384, 512]⟩
abbrev S16384x3072 : Shape := ⟨2, ![16384, 3072]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S512x2048 : Shape := ⟨2, ![512, 2048]⟩
abbrev S2x3x1024 : Shape := ⟨3, ![2, 3, 1024]⟩
abbrev S512x1024 : Shape := ⟨2, ![512, 1024]⟩
abbrev S512x512 : Shape := ⟨2, ![512, 512]⟩
abbrev S16x512 : Shape := ⟨2, ![16, 512]⟩
abbrev S512x3072 : Shape := ⟨2, ![512, 3072]⟩
abbrev S1x3x512 : Shape := ⟨3, ![1, 3, 512]⟩
abbrev S1x3x512x1024 : Shape := ⟨4, ![1, 3, 512, 1024]⟩
abbrev S1x1024x1024 : Shape := ⟨3, ![1, 1024, 1024]⟩
abbrev S256x1024 : Shape := ⟨2, ![256, 1024]⟩
abbrev S1x3x1024 : Shape := ⟨3, ![1, 3, 1024]⟩
abbrev S1x512 : Shape := ⟨2, ![1, 512]⟩
abbrev S3x512 : Shape := ⟨2, ![3, 512]⟩
abbrev S3x1024 : Shape := ⟨2, ![3, 1024]⟩
abbrev S256x3072 : Shape := ⟨2, ![256, 3072]⟩
abbrev S256x512 : Shape := ⟨2, ![256, 512]⟩
abbrev S1x1x512x1024 : Shape := ⟨4, ![1, 1, 512, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S256x256 : Shape := ⟨2, ![256, 256]⟩

abbrev nBuf : Space → Nat
  | .hbm => 15
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x3072, .bf16⟩
  | .hbm, ⟨6, _⟩ => ⟨S2x3x512, .f32⟩
  | .hbm, ⟨7, _⟩ => ⟨S2x3x512x1024, .bf16⟩
  | .hbm, ⟨8, _⟩ => ⟨S2x1024x1024, .bf16⟩
  | .hbm, ⟨9, _⟩ => ⟨S512x2048, .bf16⟩
  | .hbm, ⟨10, _⟩ => ⟨S2x1024x1024, .bf16⟩
  | .hbm, ⟨11, _⟩ => ⟨S2x1024x1024, .bf16⟩
  | .hbm, ⟨12, _⟩ => ⟨S2x3x1024, .f32⟩
  | .hbm, ⟨13, _⟩ => ⟨S2x3x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x3072, .bf16⟩
  | .local _ .vmem, ⟨15, _⟩ => ⟨S512x3072, .bf16⟩
  | .local _ .vmem, ⟨16, _⟩ => ⟨S1x3x512, .f32⟩
  | .local _ .vmem, ⟨17, _⟩ => ⟨S1x3x512x1024, .bf16⟩
  | .local _ .vmem, ⟨18, _⟩ => ⟨S1x1024x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x1024x1024, .bf16⟩
  | .local _ .vmem, ⟨24, _⟩ => ⟨S1x1024x1024, .bf16⟩
  | .local _ .vmem, ⟨25, _⟩ => ⟨S1x3x1024, .f32⟩
  | .local _ .vmem, ⟨26, _⟩ => ⟨S1x3x1024, .f32⟩
  | .local _ .vmem, ⟨27, _⟩ => ⟨S512x1024, .f32⟩
  | .local _ .vmem, ⟨28, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_12 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x3x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference7Ideal.lean ====
abbrev S16384x1024 : Shape := ⟨2, ![16384, 1024]⟩
abbrev S16384x512 : Shape := ⟨2, ![16384, 512]⟩
abbrev S16384x3072 : Shape := ⟨2, ![16384, 3072]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S512x2048 : Shape := ⟨2, ![512, 2048]⟩
abbrev S2x3x1024 : Shape := ⟨3, ![2, 3, 1024]⟩
abbrev S2x8192x512 : Shape := ⟨3, ![2, 8192, 512]⟩
abbrev S_ : Shape := ⟨0, ![]⟩
abbrev S2x1x512 : Shape := ⟨3, ![2, 1, 512]⟩
abbrev S2x8191x512 : Shape := ⟨3, ![2, 8191, 512]⟩
abbrev S1x1x512 : Shape := ⟨3, ![1, 1, 512]⟩
abbrev S512 : Shape := ⟨1, ![512]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 179
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S16384x512, .bf16⟩
  | 4 => ⟨S16384x512, .bf16⟩
  | 5 => ⟨S16384x3072, .bf16⟩
  | 6 => ⟨S2x3x512, .f32⟩
  | 7 => ⟨S2x3x512x1024, .bf16⟩
  | 8 => ⟨S2x1024x1024, .bf16⟩
  | 9 => ⟨S512x2048, .bf16⟩
  | 10 => ⟨S2x1024x1024, .bf16⟩
  | 11 => ⟨S2x1024x1024, .bf16⟩
  | 12 => ⟨S2x3x1024, .f32⟩
  | 13 => ⟨S2x3x1024, .f32⟩
  | 14 => ⟨S16384x512, .f32⟩
  | 15 => ⟨S2x8192x512, .f32⟩
  | 16 => ⟨S16384x3072, .f32⟩
  | 17 => ⟨S_, .f32⟩
  | 18 => ⟨S2x1x512, .f32⟩
  | 19 => ⟨S2x8191x512, .f32⟩
  | 20 => ⟨S2x8192x512, .f32⟩
  | 21 => ⟨S2x8191x512, .f32⟩
  | 22 => ⟨S2x8192x512, .f32⟩
  | 23 => ⟨S1x1x512, .f32⟩
  | 24 => ⟨S512, .f32⟩
  | 25 => ⟨S1x1x512, .f32⟩
  | 26 => ⟨S2x8192x512, .f32⟩
  | 27 => ⟨S2x8192x512, .f32⟩
  | 28 => ⟨S1x1x512, .f32⟩
  | 29 => ⟨S512, .f32⟩
  | 30 => ⟨S1x1x512, .f32⟩
  | 31 => ⟨S2x8192x512, .f32⟩
  | 32 => ⟨S2x8192x512, .f32⟩
  | 33 => ⟨S2x8192x512, .f32⟩
  | 34 => ⟨S1x1x512, .f32⟩
  | 35 => ⟨S512, .f32⟩
  | 36 => ⟨S1x1x512, .f32⟩
  | 37 => ⟨S2x8192x512, .f32⟩
  | 38 => ⟨S2x8192x512, .f32⟩
  | 39 => ⟨S2x8192x512, .f32⟩
  | 40 => ⟨S16384x512, .f32⟩
  | 41 => ⟨S16384x512, .f32⟩
  | 42 => ⟨S16384x512, .f32⟩
  | 43 => ⟨S16384x1024, .f32⟩
  | 44 => ⟨S16384x512, .f32⟩
  | 45 => ⟨S1x1x512x1024, .bf16⟩
  | 46 => ⟨S512x1024, .bf16⟩
  | 47 => ⟨S512x1024, .f32⟩
  | 48 => ⟨S16384x1024, .f32⟩
  | 49 => ⟨S16384x1024, .f32⟩
  | 50 => ⟨S16384x1024, .f32⟩
  | 51 => ⟨S16384x512, .f32⟩
  | 52 => ⟨S1x1x512x1024, .bf16⟩
  | 53 => ⟨S512x1024, .bf16⟩
  | 54 => ⟨S512x1024, .f32⟩
  | 55 => ⟨S16384x1024, .f32⟩
  | 56 => ⟨S16384x1024, .f32⟩
  | 57 => ⟨S16384x1024, .f32⟩
  | 58 => ⟨S16384x1024, .f32⟩
  | 59 => ⟨S1x1x512x1024, .bf16⟩
  | 60 => ⟨S512x1024, .bf16⟩
  | 61 => ⟨S512x1024, .f32⟩
  | 62 => ⟨S16384x1024, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S1x1024x1024, .bf16⟩
  | 69 => ⟨S1024x1024, .bf16⟩
  | 70 => ⟨S1024x1024, .f32⟩
  | 71 => ⟨S16384x1024, .f32⟩
  | 72 => ⟨S16384x1024, .f32⟩
  | 73 => ⟨S1x1x1024, .f32⟩
  | 74 => ⟨S1024, .f32⟩
  | 75 => ⟨S1x1x1024, .f32⟩
  | 76 => ⟨S1024, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x1024, .f32⟩
  | 84 => ⟨S16384x1024, .f32⟩
  | 85 => ⟨S16384x1024, .f32⟩
  | 86 => ⟨S_, .f32⟩
  | 87 => ⟨S16384, .f32⟩
  | 88 => ⟨S16384x1, .f32⟩
  | 89 => ⟨S_, .f32⟩
  | 90 => ⟨S16384x1, .f32⟩
  | 91 => ⟨S16384x1, .f32⟩
  | 92 => ⟨S16384x1024, .f32⟩
  | 93 => ⟨S16384x1024, .f32⟩
  | 94 => ⟨S_, .f32⟩
  | 95 => ⟨S16384x1, .f32⟩
  | 96 => ⟨S16384x1, .f32⟩
  | 97 => ⟨S16384x1, .f32⟩
  | 98 => ⟨S16384x1024, .f32⟩
  | 99 => ⟨S16384x1024, .f32⟩
  | 100 => ⟨S1x1024, .f32⟩
  | 101 => ⟨S16384x1024, .f32⟩
  | 102 => ⟨S16384x1024, .f32⟩
  | 103 => ⟨S1x1024, .f32⟩
  | 104 => ⟨S16384x1024, .f32⟩
  | 105 => ⟨S16384x1024, .f32⟩
  | 106 => ⟨S1x1024x1024, .bf16⟩
  | 107 => ⟨S1024x1024, .bf16⟩
  | 108 => ⟨S1024x1024, .f32⟩
  | 109 => ⟨S16384x1024, .f32⟩
  | 110 => ⟨S2x8192x4x256, .f32⟩
  | 111 => ⟨S_, .f32⟩
  | 112 => ⟨S2x8192x4x256, .f32⟩
  | 113 => ⟨S2x8192x4x256, .f32⟩
  | 114 => ⟨S512x2048, .f32⟩
  | 115 => ⟨S512x1024, .f32⟩
  | 116 => ⟨S2x256x4x256, .f32⟩
  | 117 => ⟨S512x2048, .f32⟩
  | 118 => ⟨S512x1024, .f32⟩
  | 119 => ⟨S2x256x4x256, .f32⟩
  | 120 => ⟨S2x4x8192x256, .f32⟩
  | 121 => ⟨S_, .f32⟩
  | 122 => ⟨S2x4x8192, .f32⟩
  | 123 => ⟨S_, .f32⟩
  | 124 => ⟨S2x4x8192, .f32⟩
  | 125 => ⟨S2x4x8192, .f32⟩
  | 126 => ⟨S2x4x8192x1, .f32⟩
  | 127 => ⟨S2x4x8192x256, .f32⟩
  | _ => ⟨S16384x1024, .f32⟩

abbrev hbmTy0_1 (i : Nat) : BufTy := match i % 128 with
  | 0 => ⟨S2x4x8192x256, .f32⟩
  | 1 => ⟨S2x4x8192x256, .f32⟩
  | 2 => ⟨S_, .f32⟩
  | 3 => ⟨S2x4x8192, .f32⟩
  | 4 => ⟨S2x4x8192x1, .f32⟩
  | 5 => ⟨S2x4x8192x256, .f32⟩
  | 6 => ⟨S2x4x8192x256, .f32⟩
  | 7 => ⟨S2x4x256x8192, .f32⟩
  | 8 => ⟨S2x8192x4x256, .f32⟩
  | 9 => ⟨S16384x1024, .f32⟩
  | 10 => ⟨S_, .f32⟩
  | 11 => ⟨S16384x1024, .f32⟩
  | 12 => ⟨S16384x1024, .f32⟩
  | 13 => ⟨S1x1024x1024, .bf16⟩
  | 14 => ⟨S1024x1024, .bf16⟩
  | 15 => ⟨S1024x1024, .f32⟩
  | 16 => ⟨S16384x1024, .f32⟩
  | 17 => ⟨S16384x1024, .f32⟩
  | 18 => ⟨S1x1x1024, .f32⟩
  | 19 => ⟨S1024, .f32⟩
  | 20 => ⟨S1x1x1024, .f32⟩
  | 21 => ⟨S1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S16384x1024, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S16384x1024, .f32⟩
  | 38 => ⟨S16384x1024, .f32⟩
  | 39 => ⟨S_, .f32⟩
  | 40 => ⟨S16384x1, .f32⟩
  | 41 => ⟨S16384x1, .f32⟩
  | 42 => ⟨S16384x1, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S1x1024, .f32⟩
  | 49 => ⟨S16384x1024, .f32⟩
  | 50 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_1 : Ref sig .tc := ⟨.hbm, 77, rfl⟩
abbrev main_v61 : Ref sig .tc := ⟨.hbm, 78, rfl⟩
abbrev main_v62 : Ref sig .tc := ⟨.hbm, 79, rfl⟩
abbrev main_cst_2 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_3 : Ref sig .tc := ⟨.hbm, 86, rfl⟩
abbrev main_v68 : Ref sig .tc := ⟨.hbm, 87, rfl⟩
abbrev main_v69 : Ref sig .tc := ⟨.hbm, 88, rfl⟩
abbrev main_cst_4 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_5 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_6 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_7 : Ref sig .tc := ⟨.hbm, 121, rfl⟩
abbrev main_v99 : Ref sig .tc := ⟨.hbm, 122, rfl⟩
abbrev main_cst_8 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_9 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_10 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_11 : Ref sig .tc := ⟨.hbm, 150, rfl⟩
abbrev main_v124 : Ref sig .tc := ⟨.hbm, 151, rfl⟩
abbrev main_v125 : Ref sig .tc := ⟨.hbm, 152, rfl⟩
abbrev main_cst_12 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_13 : Ref sig .tc := ⟨.hbm, 159, rfl⟩
abbrev main_v131 : Ref sig .tc := ⟨.hbm, 160, rfl⟩
abbrev main_v132 : Ref sig .tc := ⟨.hbm, 161, rfl⟩
abbrev main_cst_14 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_15 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩

abbrev nD : Nat := 1
abbrev τ : Topo := Topo.v7x

variable {F : FTy → Type} [FloatOps F]
-- ==== Kernel8.lean ====
abbrev S16384x1024 : Shape := ⟨2, ![16384, 1024]⟩
abbrev S16384x512 : Shape := ⟨2, ![16384, 512]⟩
abbrev S16384x3072 : Shape := ⟨2, ![16384, 3072]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S512x2048 : Shape := ⟨2, ![512, 2048]⟩
abbrev S2x3x1024 : Shape := ⟨3, ![2, 3, 1024]⟩
abbrev S512x1024 : Shape := ⟨2, ![512, 1024]⟩
abbrev S512x512 : Shape := ⟨2, ![512, 512]⟩
abbrev S16x512 : Shape := ⟨2, ![16, 512]⟩
abbrev S512x3072 : Shape := ⟨2, ![512, 3072]⟩
abbrev S1x3x512 : Shape := ⟨3, ![1, 3, 512]⟩
abbrev S1x3x512x1024 : Shape := ⟨4, ![1, 3, 512, 1024]⟩
abbrev S1x1024x1024 : Shape := ⟨3, ![1, 1024, 1024]⟩
abbrev S256x1024 : Shape := ⟨2, ![256, 1024]⟩
abbrev S1x3x1024 : Shape := ⟨3, ![1, 3, 1024]⟩
abbrev S1x512 : Shape := ⟨2, ![1, 512]⟩
abbrev S3x512 : Shape := ⟨2, ![3, 512]⟩
abbrev S3x1024 : Shape := ⟨2, ![3, 1024]⟩
abbrev S256x3072 : Shape := ⟨2, ![256, 3072]⟩
abbrev S256x512 : Shape := ⟨2, ![256, 512]⟩
abbrev S1x1x512x1024 : Shape := ⟨4, ![1, 1, 512, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S256x256 : Shape := ⟨2, ![256, 256]⟩

abbrev nBuf : Space → Nat
  | .hbm => 15
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x3072, .bf16⟩
  | .hbm, ⟨6, _⟩ => ⟨S2x3x512, .f32⟩
  | .hbm, ⟨7, _⟩ => ⟨S2x3x512x1024, .bf16⟩
  | .hbm, ⟨8, _⟩ => ⟨S2x1024x1024, .bf16⟩
  | .hbm, ⟨9, _⟩ => ⟨S512x2048, .bf16⟩
  | .hbm, ⟨10, _⟩ => ⟨S2x1024x1024, .bf16⟩
  | .hbm, ⟨11, _⟩ => ⟨S2x1024x1024, .bf16⟩
  | .hbm, ⟨12, _⟩ => ⟨S2x3x1024, .f32⟩
  | .hbm, ⟨13, _⟩ => ⟨S2x3x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x3072, .bf16⟩
  | .local _ .vmem, ⟨15, _⟩ => ⟨S512x3072, .bf16⟩
  | .local _ .vmem, ⟨16, _⟩ => ⟨S1x3x512, .f32⟩
  | .local _ .vmem, ⟨17, _⟩ => ⟨S1x3x512x1024, .bf16⟩
  | .local _ .vmem, ⟨18, _⟩ => ⟨S1x1024x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x1024x1024, .bf16⟩
  | .local _ .vmem, ⟨24, _⟩ => ⟨S1x1024x1024, .bf16⟩
  | .local _ .vmem, ⟨25, _⟩ => ⟨S1x3x1024, .f32⟩
  | .local _ .vmem, ⟨26, _⟩ => ⟨S1x3x1024, .f32⟩
  | .local _ .vmem, ⟨27, _⟩ => ⟨S512x1024, .f32⟩
  | .local _ .vmem, ⟨28, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_12 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x3x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference8Ideal.lean ====
abbrev S16384x1024 : Shape := ⟨2, ![16384, 1024]⟩
abbrev S16384x512 : Shape := ⟨2, ![16384, 512]⟩
abbrev S16384x3072 : Shape := ⟨2, ![16384, 3072]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S512x2048 : Shape := ⟨2, ![512, 2048]⟩
abbrev S2x3x1024 : Shape := ⟨3, ![2, 3, 1024]⟩
abbrev S2x8192x512 : Shape := ⟨3, ![2, 8192, 512]⟩
abbrev S_ : Shape := ⟨0, ![]⟩
abbrev S2x1x512 : Shape := ⟨3, ![2, 1, 512]⟩
abbrev S2x8191x512 : Shape := ⟨3, ![2, 8191, 512]⟩
abbrev S1x1x512 : Shape := ⟨3, ![1, 1, 512]⟩
abbrev S512 : Shape := ⟨1, ![512]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 179
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S16384x512, .bf16⟩
  | 4 => ⟨S16384x512, .bf16⟩
  | 5 => ⟨S16384x3072, .bf16⟩
  | 6 => ⟨S2x3x512, .f32⟩
  | 7 => ⟨S2x3x512x1024, .bf16⟩
  | 8 => ⟨S2x1024x1024, .bf16⟩
  | 9 => ⟨S512x2048, .bf16⟩
  | 10 => ⟨S2x1024x1024, .bf16⟩
  | 11 => ⟨S2x1024x1024, .bf16⟩
  | 12 => ⟨S2x3x1024, .f32⟩
  | 13 => ⟨S2x3x1024, .f32⟩
  | 14 => ⟨S16384x512, .f32⟩
  | 15 => ⟨S2x8192x512, .f32⟩
  | 16 => ⟨S16384x3072, .f32⟩
  | 17 => ⟨S_, .f32⟩
  | 18 => ⟨S2x1x512, .f32⟩
  | 19 => ⟨S2x8191x512, .f32⟩
  | 20 => ⟨S2x8192x512, .f32⟩
  | 21 => ⟨S2x8191x512, .f32⟩
  | 22 => ⟨S2x8192x512, .f32⟩
  | 23 => ⟨S1x1x512, .f32⟩
  | 24 => ⟨S512, .f32⟩
  | 25 => ⟨S1x1x512, .f32⟩
  | 26 => ⟨S2x8192x512, .f32⟩
  | 27 => ⟨S2x8192x512, .f32⟩
  | 28 => ⟨S1x1x512, .f32⟩
  | 29 => ⟨S512, .f32⟩
  | 30 => ⟨S1x1x512, .f32⟩
  | 31 => ⟨S2x8192x512, .f32⟩
  | 32 => ⟨S2x8192x512, .f32⟩
  | 33 => ⟨S2x8192x512, .f32⟩
  | 34 => ⟨S1x1x512, .f32⟩
  | 35 => ⟨S512, .f32⟩
  | 36 => ⟨S1x1x512, .f32⟩
  | 37 => ⟨S2x8192x512, .f32⟩
  | 38 => ⟨S2x8192x512, .f32⟩
  | 39 => ⟨S2x8192x512, .f32⟩
  | 40 => ⟨S16384x512, .f32⟩
  | 41 => ⟨S16384x512, .f32⟩
  | 42 => ⟨S16384x512, .f32⟩
  | 43 => ⟨S16384x1024, .f32⟩
  | 44 => ⟨S16384x512, .f32⟩
  | 45 => ⟨S1x1x512x1024, .bf16⟩
  | 46 => ⟨S512x1024, .bf16⟩
  | 47 => ⟨S512x1024, .f32⟩
  | 48 => ⟨S16384x1024, .f32⟩
  | 49 => ⟨S16384x1024, .f32⟩
  | 50 => ⟨S16384x1024, .f32⟩
  | 51 => ⟨S16384x512, .f32⟩
  | 52 => ⟨S1x1x512x1024, .bf16⟩
  | 53 => ⟨S512x1024, .bf16⟩
  | 54 => ⟨S512x1024, .f32⟩
  | 55 => ⟨S16384x1024, .f32⟩
  | 56 => ⟨S16384x1024, .f32⟩
  | 57 => ⟨S16384x1024, .f32⟩
  | 58 => ⟨S16384x1024, .f32⟩
  | 59 => ⟨S1x1x512x1024, .bf16⟩
  | 60 => ⟨S512x1024, .bf16⟩
  | 61 => ⟨S512x1024, .f32⟩
  | 62 => ⟨S16384x1024, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S1x1024x1024, .bf16⟩
  | 69 => ⟨S1024x1024, .bf16⟩
  | 70 => ⟨S1024x1024, .f32⟩
  | 71 => ⟨S16384x1024, .f32⟩
  | 72 => ⟨S16384x1024, .f32⟩
  | 73 => ⟨S1x1x1024, .f32⟩
  | 74 => ⟨S1024, .f32⟩
  | 75 => ⟨S1x1x1024, .f32⟩
  | 76 => ⟨S1024, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x1024, .f32⟩
  | 84 => ⟨S16384x1024, .f32⟩
  | 85 => ⟨S16384x1024, .f32⟩
  | 86 => ⟨S_, .f32⟩
  | 87 => ⟨S16384, .f32⟩
  | 88 => ⟨S16384x1, .f32⟩
  | 89 => ⟨S_, .f32⟩
  | 90 => ⟨S16384x1, .f32⟩
  | 91 => ⟨S16384x1, .f32⟩
  | 92 => ⟨S16384x1024, .f32⟩
  | 93 => ⟨S16384x1024, .f32⟩
  | 94 => ⟨S_, .f32⟩
  | 95 => ⟨S16384x1, .f32⟩
  | 96 => ⟨S16384x1, .f32⟩
  | 97 => ⟨S16384x1, .f32⟩
  | 98 => ⟨S16384x1024, .f32⟩
  | 99 => ⟨S16384x1024, .f32⟩
  | 100 => ⟨S1x1024, .f32⟩
  | 101 => ⟨S16384x1024, .f32⟩
  | 102 => ⟨S16384x1024, .f32⟩
  | 103 => ⟨S1x1024, .f32⟩
  | 104 => ⟨S16384x1024, .f32⟩
  | 105 => ⟨S16384x1024, .f32⟩
  | 106 => ⟨S1x1024x1024, .bf16⟩
  | 107 => ⟨S1024x1024, .bf16⟩
  | 108 => ⟨S1024x1024, .f32⟩
  | 109 => ⟨S16384x1024, .f32⟩
  | 110 => ⟨S2x8192x4x256, .f32⟩
  | 111 => ⟨S_, .f32⟩
  | 112 => ⟨S2x8192x4x256, .f32⟩
  | 113 => ⟨S2x8192x4x256, .f32⟩
  | 114 => ⟨S512x2048, .f32⟩
  | 115 => ⟨S512x1024, .f32⟩
  | 116 => ⟨S2x256x4x256, .f32⟩
  | 117 => ⟨S512x2048, .f32⟩
  | 118 => ⟨S512x1024, .f32⟩
  | 119 => ⟨S2x256x4x256, .f32⟩
  | 120 => ⟨S2x4x8192x256, .f32⟩
  | 121 => ⟨S_, .f32⟩
  | 122 => ⟨S2x4x8192, .f32⟩
  | 123 => ⟨S_, .f32⟩
  | 124 => ⟨S2x4x8192, .f32⟩
  | 125 => ⟨S2x4x8192, .f32⟩
  | 126 => ⟨S2x4x8192x1, .f32⟩
  | 127 => ⟨S2x4x8192x256, .f32⟩
  | _ => ⟨S16384x1024, .f32⟩

abbrev hbmTy0_1 (i : Nat) : BufTy := match i % 128 with
  | 0 => ⟨S2x4x8192x256, .f32⟩
  | 1 => ⟨S2x4x8192x256, .f32⟩
  | 2 => ⟨S_, .f32⟩
  | 3 => ⟨S2x4x8192, .f32⟩
  | 4 => ⟨S2x4x8192x1, .f32⟩
  | 5 => ⟨S2x4x8192x256, .f32⟩
  | 6 => ⟨S2x4x8192x256, .f32⟩
  | 7 => ⟨S2x4x256x8192, .f32⟩
  | 8 => ⟨S2x8192x4x256, .f32⟩
  | 9 => ⟨S16384x1024, .f32⟩
  | 10 => ⟨S_, .f32⟩
  | 11 => ⟨S16384x1024, .f32⟩
  | 12 => ⟨S16384x1024, .f32⟩
  | 13 => ⟨S1x1024x1024, .bf16⟩
  | 14 => ⟨S1024x1024, .bf16⟩
  | 15 => ⟨S1024x1024, .f32⟩
  | 16 => ⟨S16384x1024, .f32⟩
  | 17 => ⟨S16384x1024, .f32⟩
  | 18 => ⟨S1x1x1024, .f32⟩
  | 19 => ⟨S1024, .f32⟩
  | 20 => ⟨S1x1x1024, .f32⟩
  | 21 => ⟨S1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S16384x1024, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S16384x1024, .f32⟩
  | 38 => ⟨S16384x1024, .f32⟩
  | 39 => ⟨S_, .f32⟩
  | 40 => ⟨S16384x1, .f32⟩
  | 41 => ⟨S16384x1, .f32⟩
  | 42 => ⟨S16384x1, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S1x1024, .f32⟩
  | 49 => ⟨S16384x1024, .f32⟩
  | 50 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_1 : Ref sig .tc := ⟨.hbm, 77, rfl⟩
abbrev main_v61 : Ref sig .tc := ⟨.hbm, 78, rfl⟩
abbrev main_v62 : Ref sig .tc := ⟨.hbm, 79, rfl⟩
abbrev main_cst_2 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_3 : Ref sig .tc := ⟨.hbm, 86, rfl⟩
abbrev main_v68 : Ref sig .tc := ⟨.hbm, 87, rfl⟩
abbrev main_v69 : Ref sig .tc := ⟨.hbm, 88, rfl⟩
abbrev main_cst_4 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_5 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_6 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_7 : Ref sig .tc := ⟨.hbm, 121, rfl⟩
abbrev main_v99 : Ref sig .tc := ⟨.hbm, 122, rfl⟩
abbrev main_cst_8 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_9 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_10 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_11 : Ref sig .tc := ⟨.hbm, 150, rfl⟩
abbrev main_v124 : Ref sig .tc := ⟨.hbm, 151, rfl⟩
abbrev main_v125 : Ref sig .tc := ⟨.hbm, 152, rfl⟩
abbrev main_cst_12 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_13 : Ref sig .tc := ⟨.hbm, 159, rfl⟩
abbrev main_v131 : Ref sig .tc := ⟨.hbm, 160, rfl⟩
abbrev main_v132 : Ref sig .tc := ⟨.hbm, 161, rfl⟩
abbrev main_cst_14 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_15 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩

abbrev nD : Nat := 1
abbrev τ : Topo := Topo.v7x

variable {F : FTy → Type} [FloatOps F]
-- ==== Kernel9.lean ====
abbrev S512x1024 : Shape := ⟨2, ![512, 1024]⟩
abbrev S2x1024x2048 : Shape := ⟨3, ![2, 1024, 2048]⟩
abbrev S512x2048 : Shape := ⟨2, ![512, 2048]⟩
abbrev S256x1024 : Shape := ⟨2, ![256, 1024]⟩
abbrev S1x1024x2048 : Shape := ⟨3, ![1, 1024, 2048]⟩
abbrev S256x2048 : Shape := ⟨2, ![256, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S2x1024x2048, .bf16⟩
  | .hbm, ⟨2, _⟩ => ⟨S512x2048, .bf16⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S256x2048, .bf16⟩
  | .local _ .vmem, ⟨4, _⟩ => ⟨S256x2048, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S512x1024 : Shape := ⟨2, ![512, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S2x1024x2048, .bf16⟩
  | .hbm, ⟨2, _⟩ => ⟨S1x1024x2048, .bf16⟩
  | .hbm, ⟨3, _⟩ => ⟨S1024x2048, .bf16⟩
  | .hbm, ⟨4, _⟩ => ⟨S1024x2048, .f32⟩
  | .hbm, ⟨5, _⟩ => ⟨S512x2048, .f32⟩
  | .hbm, ⟨6, _⟩ => ⟨S512x2048, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S512x1024 : Shape := ⟨2, ![512, 1024]⟩
abbrev S2x1024x2048 : Shape := ⟨3, ![2, 1024, 2048]⟩
abbrev S512x2048 : Shape := ⟨2, ![512, 2048]⟩
abbrev S256x1024 : Shape := ⟨2, ![256, 1024]⟩
abbrev S1x1024x2048 : Shape := ⟨3, ![1, 1024, 2048]⟩
abbrev S256x2048 : Shape := ⟨2, ![256, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S2x1024x2048, .bf16⟩
  | .hbm, ⟨2, _⟩ => ⟨S512x2048, .bf16⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S256x2048, .bf16⟩
  | .local _ .vmem, ⟨4, _⟩ => ⟨S256x2048, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S512x1024 : Shape := ⟨2, ![512, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S2x1024x2048, .bf16⟩
  | .hbm, ⟨2, _⟩ => ⟨S1x1024x2048, .bf16⟩
  | .hbm, ⟨3, _⟩ => ⟨S1024x2048, .bf16⟩
  | .hbm, ⟨4, _⟩ => ⟨S1024x2048, .f32⟩
  | .hbm, ⟨5, _⟩ => ⟨S512x2048, .f32⟩
  | .hbm, ⟨6, _⟩ => ⟨S512x2048, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Attn.Steps.lean ====
module

public import proofs.«01_k».proof.Proof.Gen.KernelIdeal.Skeleton
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! # The body of the attention call as a sequence of steps

One trip of the kernel's loop handles one tile of 512 query rows.  Here the trip is written as a
sequence of six kinds of steps, each stated once for any buffer, any row offset and any chunk of 256
rows, and the printed trip is shown to be that sequence. -/

/-- A chunk of 256 rows of a 1024-row buffer of scores lies inside it. -/
theorem inbS (c : Fin 4) : ∀ a, (![256 * c.val, 0] : Fin 2 → ℕ) a + S256x2048.size a ≤ S1024x2048.size a := fun a =>
  match a with
  | 0 => by show 256 * c.val + 256 ≤ 1024; omega
  | 1 => by show 0 + 2048 ≤ 2048; omega

/-- A chunk of 256 rows of a 1024-row buffer of row maxima lies inside it. -/
theorem inbX (c : Fin 4) : ∀ a, (![256 * c.val, 0] : Fin 2 → ℕ) a + S256x128.size a ≤ S1024x128.size a := fun a =>
  match a with
  | 0 => by show 256 * c.val + 256 ≤ 1024; omega
  | 1 => by show 0 + 128 ≤ 128; omega

/-- A chunk of 256 rows of the accumulator lies inside it. -/
theorem inbA (c : Fin 4) : ∀ a, (![256 * c.val, 0] : Fin 2 → ℕ) a + S256x256.size a ≤ S1024x256.size a := fun a =>
  match a with
  | 0 => by show 256 * c.val + 256 ≤ 1024; omega
  | 1 => by show 0 + 256 ≤ 256; omega

/-- A block of 2048 keys lies inside the 8192 keys. -/
theorem inbK (j : Fin 4) : ∀ a, (![2048 * j.val, 0] : Fin 2 → ℕ) a + S2048x128.size a ≤ S8192x128.size a := fun a =>
  match a with
  | 0 => by show 2048 * j.val + 2048 ≤ 8192; omega
  | 1 => by show 0 + 128 ≤ 128; omega

/-- One of the two halves of the stacked queries lies inside the stack. -/
theorem inbH (h : Fin 2) : ∀ a, (![512 * h.val, 0] : Fin 2 → ℕ) a + S512x128.size a ≤ S1024x128.size a := fun a =>
  match a with
  | 0 => by show 512 * h.val + 512 ≤ 1024; omega
  | 1 => by show 0 + 128 ≤ 128; omega

/-- A read of a window. -/
def ld {s : Shape} {e : EltTy} (m : Memref sig .tc .vmem s e) (off size : Fin s.rank → ℕ) (inb : ∀ a, off a + size a ≤ s.size a)
    (hl : m.view.LoadsAt (Rect.unit (s := s) off size inb).toLoadRect) :
    Prog (TpuEff nD τ sig (Elt F) Λ₀ .tc) (Vec F (Rect.unit (s := s) off size inb).shape e) :=
  Prog.lift (.load m (Rect.unit (s := s) off size inb).toLoadRect hl)

/-- The scores of the stacked queries against one block of keys, and their maxima per lane. -/
def scores (mq : Memref sig .tc .vmem S1024x128 .bf16) (mk : Memref sig .tc .vmem S8192x128 .bf16)
    (ms : Memref sig .tc .vmem S1024x2048 .f32) (mx : Memref sig .tc .vmem S1024x128 .f32) (j : Fin 4) :
    Prog (TpuEff nD τ sig (Elt F) Λ₀ .tc) PUnit := do
  let q : Vec F S1024x128 .bf16 ← Prog.lift (.load mq (Rect.unit (s := S1024x128) ![0, 0] S1024x128.size inb_S1024x128_S1024x128_0_0).toLoadRect (View.loadsAt_vmem h_S1024x128))
  let k : Vec F S2048x128 .bf16 ← Prog.lift (.load mk (Rect.unit (s := S8192x128) ![2048 * j.val, 0] S2048x128.size (inbK j)).toLoadRect (View.loadsAt_vmem h_S2048x128))
  let _s : Vec F S1024x2048 .f32 ← Prog.lift (.load ms (Rect.unit (s := S1024x2048) ![0, 0] S1024x2048.size inb_S1024x2048_S1024x2048_0_0).toLoadRect (View.loadsAt_vmem h_S1024x2048))
  Prog.lift (.store ms (Rect.unit (s := S1024x2048) ![0, 0] S1024x2048.size inb_S1024x2048_S1024x2048_0_0) (k0_pay3 q k) Finset.univ (View.stores_vmem_bits_univ h_S1024x2048 rfl) (.inl rfl))
  let _x : Vec F S1024x128 .f32 ← Prog.lift (.load mx (Rect.unit (s := S1024x128) ![0, 0] S1024x128.size inb_S1024x128_S1024x128_0_0).toLoadRect (View.loadsAt_vmem h_S1024x128))
  Prog.lift (.store mx (Rect.unit (s := S1024x128) ![0, 0] S1024x128.size inb_S1024x128_S1024x128_0_0) (k0_pay4 q k) Finset.univ (View.stores_vmem_bits_univ h_S1024x128 rfl) (.inl rfl))

/-- One block of values, with a block of ones beside it. -/
def values (mv : Memref sig .tc .vmem S8192x128 .bf16) (ones : FVec F S2048x128 .bf16) (j : Fin 4) :
    Prog (TpuEff nD τ sig (Elt F) Λ₀ .tc) (FVec F S2048x256 .bf16) := do
  let v : Vec F S2048x128 .bf16 ← Prog.lift (.load mv (Rect.unit (s := S8192x128) ![2048 * j.val, 0] S2048x128.size (inbK j)).toLoadRect (View.loadsAt_vmem h_S2048x128))
  pure (k0_pay5 ones v)

/-- The first update of a chunk's running maximum and accumulator: what was there is overwritten. -/
def first (ms : Memref sig .tc .vmem S1024x2048 .f32) (mx mm : Memref sig .tc .vmem S1024x128 .f32)
    (ma : Memref sig .tc .vmem S1024x256 .f32) (vx : FVec F S2048x256 .bf16) (c : Fin 4) :
    Prog (TpuEff nD τ sig (Elt F) Λ₀ .tc) PUnit := do
  let s : Vec F S256x2048 .f32 ← Prog.lift (.load ms (Rect.unit (s := S1024x2048) ![256 * c.val, 0] S256x2048.size (inbS c)).toLoadRect (View.loadsAt_vmem h_S256x2048))
  let x : Vec F S256x128 .f32 ← Prog.lift (.load mx (Rect.unit (s := S1024x128) ![256 * c.val, 0] S256x128.size (inbX c)).toLoadRect (View.loadsAt_vmem h_S256x128))
  let _a : Vec F S256x256 .f32 ← Prog.lift (.load ma (Rect.unit (s := S1024x256) ![256 * c.val, 0] S256x256.size (inbA c)).toLoadRect (View.loadsAt_vmem h_S256x256))
  Prog.lift (.store ma (Rect.unit (s := S1024x256) ![256 * c.val, 0] S256x256.size (inbA c)) (k0_pay7 vx s x) Finset.univ (View.stores_vmem_bits_univ h_S256x256 rfl) (.inl rfl))
  let _m : Vec F S256x128 .f32 ← Prog.lift (.load mm (Rect.unit (s := S1024x128) ![256 * c.val, 0] S256x128.size (inbX c)).toLoadRect (View.loadsAt_vmem h_S256x128))
  Prog.lift (.store mm (Rect.unit (s := S1024x128) ![256 * c.val, 0] S256x128.size (inbX c)) (k0_pay8 x) Finset.univ (View.stores_vmem_bits_univ h_S256x128 rfl) (.inl rfl))

/-- A later update of a chunk's running maximum and accumulator. -/
def later (ms : Memref sig .tc .vmem S1024x2048 .f32) (mx mm : Memref sig .tc .vmem S1024x128 .f32)
    (ma : Memref sig .tc .vmem S1024x256 .f32) (vx : FVec F S2048x256 .bf16) (c : Fin 4) :
    Prog (TpuEff nD τ sig (Elt F) Λ₀ .tc) PUnit := do
  let s : Vec F S256x2048 .f32 ← Prog.lift (.load ms (Rect.unit (s := S1024x2048) ![256 * c.val, 0] S256x2048.size (inbS c)).toLoadRect (View.loadsAt_vmem h_S256x2048))
  let x : Vec F S256x128 .f32 ← Prog.lift (.load mx (Rect.unit (s := S1024x128) ![256 * c.val, 0] S256x128.size (inbX c)).toLoadRect (View.loadsAt_vmem h_S256x128))
  let m : Vec F S256x128 .f32 ← Prog.lift (.load mm (Rect.unit (s := S1024x128) ![256 * c.val, 0] S256x128.size (inbX c)).toLoadRect (View.loadsAt_vmem h_S256x128))
  let a : Vec F S256x256 .f32 ← Prog.lift (.load ma (Rect.unit (s := S1024x256) ![256 * c.val, 0] S256x256.size (inbA c)).toLoadRect (View.loadsAt_vmem h_S256x256))
  let _a : Vec F S256x256 .f32 ← Prog.lift (.load ma (Rect.unit (s := S1024x256) ![256 * c.val, 0] S256x256.size (inbA c)).toLoadRect (View.loadsAt_vmem h_S256x256))
  Prog.lift (.store ma (Rect.unit (s := S1024x256) ![256 * c.val, 0] S256x256.size (inbA c)) (k0_pay99 vx s x m a) Finset.univ (View.stores_vmem_bits_univ h_S256x256 rfl) (.inl rfl))
  let _m : Vec F S256x128 .f32 ← Prog.lift (.load mm (Rect.unit (s := S1024x128) ![256 * c.val, 0] S256x128.size (inbX c)).toLoadRect (View.loadsAt_vmem h_S256x128))
  Prog.lift (.store mm (Rect.unit (s := S1024x128) ![256 * c.val, 0] S256x128.size (inbX c)) (k0_pay100 x m) Finset.univ (View.stores_vmem_bits_univ h_S256x128 rfl) (.inl rfl))

/-- The two masked copies of the query tile, one above the other; the tile starts at `off`. -/
def stack (mq : Memref sig .tc .vmem S8192x128 .bf16) (m : Memref sig .tc .vmem S1024x128 .bf16) (hm : m.IsWhole)
    (v0 : IVec S512x128 32) (off : Fin 2 → ℕ) (inb : ∀ a, off a + S512x128.size a ≤ S8192x128.size a) :
    Prog (TpuEff nD τ sig (Elt F) Λ₀ .tc) PUnit := do
  let q : Vec F S512x128 .bf16 ← Prog.lift (.load mq (Rect.unit (s := S8192x128) off S512x128.size inb).toLoadRect (View.loadsAt_vmem h_S512x128))
  let _u : Vec F S512x128 .bf16 ← Prog.lift (.load m (Rect.unit (s := S1024x128) ![0, 0] S512x128.size inb_S1024x128_S512x128_0_0).toLoadRect (View.loadsAt_vmem h_S512x128))
  Prog.lift (.store m (Rect.unit (s := S1024x128) ![0, 0] S512x128.size inb_S1024x128_S512x128_0_0) (k0_pay67 v0 q) Finset.univ (View.stores_vmem h_S512x128 (hm.storeExact_slice rfl _ packedbf16_S1024x128_S512x128_0_0) (fun _ => rfl)) (.inl rfl))
  let _w : Vec F S512x128 .bf16 ← Prog.lift (.load m (Rect.unit (s := S1024x128) ![512, 0] S512x128.size inb_S1024x128_S512x128_512_0).toLoadRect (View.loadsAt_vmem h_S512x128))
  Prog.lift (.store m (Rect.unit (s := S1024x128) ![512, 0] S512x128.size inb_S1024x128_S512x128_512_0) (k0_pay68 v0 q) Finset.univ (View.stores_vmem h_S512x128 (hm.storeExact_slice rfl _ packedbf16_S1024x128_S512x128_512_0) (fun _ => rfl)) (.inl rfl))

/-- The first half's chunk of row `r`, among the four chunks. -/
def lo (r : Fin 2) : Fin 4 := ⟨r.val, by omega⟩

/-- The second half's chunk of row `r`, among the four chunks. -/
def hi (r : Fin 2) : Fin 4 := ⟨r.val + 2, by omega⟩

/-- The end of 256 rows of the tile: the two normalised accumulators are combined, normalised and written. -/
def finish (ma : Memref sig .tc .vmem S1024x256 .f32) (mg : Memref sig .tc .vmem S1x1x128 .f32)
    (mo : Memref sig .tc .vmem S8192x128 .bf16) (hmo : mo.IsWhole) (lam : FVec F S1x1 .f32) (k0_t1 : Fin k0_t1_loop.trips) (r : Fin 2) :
    Prog (TpuEff nD τ sig (Elt F) Λ₀ .tc) PUnit := do
  let a : Vec F S256x256 .f32 ← Prog.lift (.load ma (Rect.unit (s := S1024x256) ![256 * (lo r).val, 0] S256x256.size (inbA (lo r))).toLoadRect (View.loadsAt_vmem h_S256x256))
  let b : Vec F S256x256 .f32 ← Prog.lift (.load ma (Rect.unit (s := S1024x256) ![256 * (hi r).val, 0] S256x256.size (inbA (hi r))).toLoadRect (View.loadsAt_vmem h_S256x256))
  let g : Vec F S1x1x128 .f32 ← Prog.lift (.load mg (Rect.unit (s := S1x1x128) ![0, 0, 0] S1x1x128.size inb_S1x1x128_S1x1x128_0_0_0).toLoadRect (View.loadsAt_vmem h_S1x1x128))
  let _o : Vec F S256x128 .bf16 ← Prog.lift (.load mo (Rect.unit (s := S8192x128) (k0_off2 k0_t1 (BitVec.ofNat 32 (256 * r.val))) S256x128.size (k0_off2_inb k0_t1 r)).toLoadRect (View.loadsAt_vmem h_S256x128))
  Prog.lift (.store mo (Rect.unit (s := S8192x128) (k0_off2 k0_t1 (BitVec.ofNat 32 (256 * r.val))) S256x128.size (k0_off2_inb k0_t1 r)) (k0_pay101 lam a b g) Finset.univ (View.stores_vmem h_S256x128 (hmo.storeExact_slice rfl _ (k0_off2_packedbf16 k0_t1 r)) (fun _ => rfl)) (.inl rfl))

/-- One trip of the loop, as steps. -/
def trip (arg2 : Memref sig .tc .vmem S8192x128 .bf16) (arg3 : Memref sig .tc .vmem S8192x128 .bf16) (arg4 : Memref sig .tc .vmem S8192x128 .bf16)
    (arg9 : Memref sig .tc .vmem S1x1x128 .f32) (arg10 : Memref sig .tc .vmem S8192x128 .bf16) (harg10 : arg10.IsWhole)
    (arg11 : Memref sig .tc .vmem S1024x128 .bf16) (harg11 : arg11.IsWhole) (arg12 : Memref sig .tc .vmem S1024x128 .f32)
    (arg13 : Memref sig .tc .vmem S1024x256 .f32) (arg14 arg15 : Memref sig .tc .vmem S1024x2048 .f32) (arg16 arg17 : Memref sig .tc .vmem S1024x128 .f32)
    (v0 : IVec S512x128 32) (v7 : FVec F S2048x128 .bf16) (v26 : FVec F S1x1 .f32) (k0_t1 : Fin k0_t1_loop.trips) :
    Prog (TpuEff nD τ sig (Elt F) Λ₀ .tc) Unit := do
  scores arg11 arg3 arg15 arg17 1
  let x0 ← values arg4 v7 0
  first arg14 arg16 arg12 arg13 x0 0
  first arg14 arg16 arg12 arg13 x0 1
  first arg14 arg16 arg12 arg13 x0 2
  first arg14 arg16 arg12 arg13 x0 3
  scores arg11 arg3 arg14 arg16 2
  let x1 ← values arg4 v7 1
  later arg15 arg17 arg12 arg13 x1 0
  later arg15 arg17 arg12 arg13 x1 1
  later arg15 arg17 arg12 arg13 x1 2
  later arg15 arg17 arg12 arg13 x1 3
  scores arg11 arg3 arg15 arg17 3
  let x2 ← values arg4 v7 2
  later arg14 arg16 arg12 arg13 x2 0
  later arg14 arg16 arg12 arg13 x2 1
  later arg14 arg16 arg12 arg13 x2 2
  later arg14 arg16 arg12 arg13 x2 3
  stack arg2 arg11 harg11 v0 (k0_off1 k0_t1) (k0_off1_inb k0_t1)
  scores arg11 arg3 arg14 arg16 0
  let x3 ← values arg4 v7 3
  later arg15 arg17 arg12 arg13 x3 0
  later arg15 arg17 arg12 arg13 x3 1
  later arg15 arg17 arg12 arg13 x3 2
  finish arg13 arg9 arg10 harg10 v26 k0_t1 0
  later arg15 arg17 arg12 arg13 x3 3
  finish arg13 arg9 arg10 harg10 v26 k0_t1 1
  pure ⟨⟩

set_option maxRecDepth 65536 in
set_option maxHeartbeats 4000000 in
/-- The printed trip is the sequence of steps. -/
theorem body_eq_trip (i : grid0.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x128 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x256 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S1024x128 .f32) (harg16 : arg16.IsWhole) (arg17 : Memref sig .tc .vmem S1024x128 .f32) (harg17 : arg17.IsWhole) (v0 : IVec S512x128 32) (v7 : FVec F S2048x128 .bf16) (v26 : FVec F S1x1 .f32) (t : Fin k0_t1_loop.trips) (u : Unit) :
    k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v7 v26 t u
      = trip arg2 arg3 arg4 arg9 arg10 harg10 arg11 harg11 arg12 arg13 arg14 arg15 arg16 arg17 v0 v7 v26 t := by
  simp only [k0_t1_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel,
    trip, scores, values, first, later, stack, finish, Prog.lift, Prog.bind_op, Prog.bind_ret, Prog.pure_eq_ret]
  rfl

set_option maxRecDepth 65536 in
set_option maxHeartbeats 4000000 in
/-- The printed body: the prologue, then the trips. -/
theorem body_eq (i : grid0.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x128 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x256 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S1024x128 .f32) (harg16 : arg16.IsWhole) (arg17 : Memref sig .tc .vmem S1024x128 .f32) (harg17 : arg17.IsWhole) :
    cc0_diff_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (do
      let v8 : Vec F S1x1x64 .f32 ← Prog.lift (.load arg5 (Rect.unit (s := S1x1x64) ![0, 0, 0] S1x1x64.size inb_S1x1x64_S1x1x64_0_0_0).toLoadRect (View.loadsAt_vmem h_S1x1x64))
      let v10 : Vec F S1x1x64 .f32 ← Prog.lift (.load arg6 (Rect.unit (s := S1x1x64) ![0, 0, 0] S1x1x64.size inb_S1x1x64_S1x1x64_0_0_0).toLoadRect (View.loadsAt_vmem h_S1x1x64))
      let v16 : Vec F S1x1x64 .f32 ← Prog.lift (.load arg7 (Rect.unit (s := S1x1x64) ![0, 0, 0] S1x1x64.size inb_S1x1x64_S1x1x64_0_0_0).toLoadRect (View.loadsAt_vmem h_S1x1x64))
      let v18 : Vec F S1x1x64 .f32 ← Prog.lift (.load arg8 (Rect.unit (s := S1x1x64) ![0, 0, 0] S1x1x64.size inb_S1x1x64_S1x1x64_0_0_0).toLoadRect (View.loadsAt_vmem h_S1x1x64))
      stack arg2 arg11 harg11 (iota .tc S512x128 32 [1] iota_S512x128_d1_w32) ![0, 0] inb_S8192x128_S512x128_0_0
      scores arg11 arg3 arg14 arg16 0
      Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iota .tc S512x128 32 [1] iota_S512x128_d1_w32) k0_pay102 (k0_pay103 v8 v10 v16 v18))
      pure ⟨⟩) := by
  simp only [cc0_diff_attention_eq_skeleton, cc0_diff_attention_skel, k0_part17_eq_skeleton, k0_part17_skel, k0_part18_eq_skeleton, k0_part18_skel,
    scores, stack, Prog.lift, Prog.bind_op, Prog.bind_ret, Prog.pure_eq_ret]
  rfl

end Cert.KernelIdeal.Attn
-- ==== Proof.Attn.Triples.lean ====
module

public import proofs.«01_k».proof.Proof.Attn.Steps
public import Idealize.ShloMosaic.Lib.Pipeline.FrameBody
public import Idealize.ShloMosaic.Lib.Ring
public import Idealize.ShloMosaic.Lib.Tactic
public import Idealize.ShloMosaic.Lib.VecWindow
public import Idealize.ShloMosaic.Lib.Pipeline.TableIdle
public import Idealize.ShloMosaic.Lib.ReshapeSlab

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # What each step does to the buffers -/

/-- A load of a window reads the window of the buffer's contents. -/
theorem load_owns {s : Shape} {e : EltTy} {α : Type} (c : Dev nD) {m : Memref sig .tc .vmem s e} {off size : Fin s.rank → ℕ}
    {inb : ∀ a, off a + size a ≤ s.size a} {hl : m.view.LoadsAt (Rect.unit (s := s) off size inb).toLoadRect}
    {k : ((Rect.unit (s := s) off size inb).shape.Idx → Elt F e) → Prog (TpuEff nD τ sig (Elt F) Λ₀ .tc) α} {Q : α → sProp 𝕄} (X : s.Idx → Elt F e) :
    (owns (c : Thread nD τ) m fullShare X : sProp 𝕄)
      ⊢ iprop((owns (c : Thread nD τ) m fullShare X -∗ wp frame (wpE (defs₀ (F := F)) Variants.none (c : Thread nD τ) none) Set.univ (k (VecWindow.window X off size inb)) Q)
          -∗ wp frame (wpE (defs₀ (F := F)) Variants.none (c : Thread nD τ) none) Set.univ (.op (.load m (Rect.unit (s := s) off size inb).toLoadRect hl) k) Q) := by
  rw [owns_eq_rep, ← View.readAt_rep_unit (Val := Elt F) m.view X inb rfl inb]
  exact wp_load Variants.none (c : Thread nD τ) none Set.univ (View.setOn_subset_set _ _)

/-- A store of a window puts the payload over the window of the buffer's contents. -/
theorem store_owns {s : Shape} {e : EltTy} {α : Type} (c : Dev nD) {m : Memref sig .tc .vmem s e} {off size : Fin s.rank → ℕ}
    {inb : ∀ a, off a + size a ≤ s.size a} {w : (Rect.unit (s := s) off size inb).shape.Idx → Elt F e}
    {hx : (m.access (Rect.unit (s := s) off size inb)).Stores Finset.univ} {hm : Finset.univ = Finset.univ ∨ ∀ a, (Rect.unit (s := s) off size inb).stride a = 1}
    {k : PUnit → Prog (TpuEff nD τ sig (Elt F) Λ₀ .tc) α} {Q : α → sProp 𝕄} (X : s.Idx → Elt F e) :
    (owns (c : Thread nD τ) m fullShare X : sProp 𝕄)
      ⊢ iprop((owns (c : Thread nD τ) m fullShare (VecWindow.put X off size w) -∗ wp frame (wpE (defs₀ (F := F)) Variants.none (c : Thread nD τ) none) Set.univ (k ⟨⟩) Q)
          -∗ wp frame (wpE (defs₀ (F := F)) Variants.none (c : Thread nD τ) none) Set.univ (.op (.store m (Rect.unit (s := s) off size inb) w Finset.univ hx hm) k) Q) := by
  rw [owns_eq_rep]
  have hS : (m.access (Rect.unit (s := s) off size inb)).set ⊆ m.view.set :=
    Finset.Subset.trans (Memref.set_access_subset_setOn m _) (View.setOn_subset_set m.view _)
  have h := wp_store_writes₀ (defs := defs₀ (F := F)) Variants.none (c : Thread nD τ) none Set.univ (m := m) (r := Rect.unit (s := s) off size inb)
    (w := w) (hx := hx) (hm := hm) (k := k) (Q := Q) (S := m.view.set) (f := m.view.rep X) hS
  refine h.trans (wand_mono_left (wand_mono_left ?_))
  rw [owns_eq_rep]
  exact pointsTo_rep_of_read _ _ _ _ _ (View.read_writes_rep_unit m.view X inb w rfl)

/-- A window of the whole buffer's sizes is the buffer's contents. -/
theorem window_full {α : Type} {s : Shape} (x : s.Idx → α) (off : Fin s.rank → ℕ) (inb : ∀ a, off a + s.size a ≤ s.size a) :
    VecWindow.window x off s.size inb = x := by
  funext y
  exact congrArg x (funext fun a => Fin.ext (by
    show off a + 1 * (y a).val = (y a).val
    have := inb a
    omega))

/-- A payload of the whole buffer's sizes replaces the contents. -/
theorem put_full {α : Type} {s : Shape} (x : s.Idx → α) (off : Fin s.rank → ℕ) (inb : ∀ a, off a + s.size a ≤ s.size a) (w : s.Idx → α) :
    VecWindow.put x off s.size w = w := by
  have h := VecWindow.window_put_same x off s.size inb w
  rwa [window_full] at h

/-- Block `j` of 2048 rows of the keys or the values. -/
def blockOf (K : Vec F S8192x128 .bf16) (j : Fin 4) : Vec F S2048x128 .bf16 := VecWindow.window (s := S8192x128) K ![2048 * j.val, 0] S2048x128.size (inbK j)
/-- Chunk `r` of 256 rows of a buffer of scores. -/
def chunkS (S : Vec F S1024x2048 .f32) (r : Fin 4) : Vec F S256x2048 .f32 := VecWindow.window (s := S1024x2048) S ![256 * r.val, 0] S256x2048.size (inbS r)
/-- Chunk `r` of 256 rows of a buffer of maxima. -/
def chunkX (X : Vec F S1024x128 .f32) (r : Fin 4) : Vec F S256x128 .f32 := VecWindow.window (s := S1024x128) X ![256 * r.val, 0] S256x128.size (inbX r)
/-- Chunk `r` of 256 rows of an accumulator. -/
def chunkA (A : Vec F S1024x256 .f32) (r : Fin 4) : Vec F S256x256 .f32 := VecWindow.window (s := S1024x256) A ![256 * r.val, 0] S256x256.size (inbA r)

/-- The buffer of running maxima holds `V`, chunk by chunk. -/
def maxs (c : Dev nD) (m : Memref sig .tc .vmem S1024x128 .f32) (V : Fin 4 → Vec F S256x128 .f32) : sProp 𝕄 :=
  iprop(∃ X : Vec F S1024x128 .f32, owns (c : Thread nD τ) m fullShare X ∗ ⌜∀ r, chunkX X r = V r⌝)

/-- The accumulator holds `V`, chunk by chunk. -/
def accs (c : Dev nD) (m : Memref sig .tc .vmem S1024x256 .f32) (V : Fin 4 → Vec F S256x256 .f32) : sProp 𝕄 :=
  iprop(∃ X : Vec F S1024x256 .f32, owns (c : Thread nD τ) m fullShare X ∗ ⌜∀ r, chunkA X r = V r⌝)

theorem maxs_of_owns (c : Dev nD) (m : Memref sig .tc .vmem S1024x128 .f32) (X : Vec F S1024x128 .f32) :
    (owns (c : Thread nD τ) m fullShare X : sProp 𝕄) ⊢ maxs c m (chunkX X) := by
  unfold maxs
  iintro H; iexists X; isplitl; · iexact H
  ipureintro; exact fun _ => rfl

theorem accs_of_owns (c : Dev nD) (m : Memref sig .tc .vmem S1024x256 .f32) (X : Vec F S1024x256 .f32) :
    (owns (c : Thread nD τ) m fullShare X : sProp 𝕄) ⊢ accs c m (chunkA X) := by
  unfold accs
  iintro H; iexists X; isplitl; · iexact H
  ipureintro; exact fun _ => rfl

/-- Writing one chunk of the maxima changes that chunk alone. -/
theorem chunkX_put (X : Vec F S1024x128 .f32) (V : Fin 4 → Vec F S256x128 .f32) (h : ∀ r, chunkX X r = V r) (b : Fin 4) (w : Vec F S256x128 .f32) :
    ∀ r, chunkX (VecWindow.put (s := S1024x128) X ![256 * b.val, 0] S256x128.size w) r = Function.update V b w r := fun r => by
  by_cases e : r = b
  · subst e; rw [Function.update_self]; exact VecWindow.window_put_same (s := S1024x128) X _ _ (inbX r) w
  · rw [Function.update_of_ne e, ← h r]
    refine VecWindow.window_put_of_disjoint (s := S1024x128) X _ _ _ _ (inbX r) w 0 ?_
    have : r.val ≠ b.val := fun q => e (Fin.ext q)
    show 256 * r.val + 256 ≤ 256 * b.val ∨ 256 * b.val + 256 ≤ 256 * r.val
    omega

/-- Writing one chunk of the accumulator changes that chunk alone. -/
theorem chunkA_put (X : Vec F S1024x256 .f32) (V : Fin 4 → Vec F S256x256 .f32) (h : ∀ r, chunkA X r = V r) (b : Fin 4) (w : Vec F S256x256 .f32) :
    ∀ r, chunkA (VecWindow.put (s := S1024x256) X ![256 * b.val, 0] S256x256.size w) r = Function.update V b w r := fun r => by
  by_cases e : r = b
  · subst e; rw [Function.update_self]; exact VecWindow.window_put_same (s := S1024x256) X _ _ (inbA r) w
  · rw [Function.update_of_ne e, ← h r]
    refine VecWindow.window_put_of_disjoint (s := S1024x256) X _ _ _ _ (inbA r) w 0 ?_
    have : r.val ≠ b.val := fun q => e (Fin.ext q)
    show 256 * r.val + 256 ≤ 256 * b.val ∨ 256 * b.val + 256 ≤ 256 * r.val
    omega

/-- The scores step leaves the scores and their lane maxima in its two buffers. -/
theorem wp_scores (c : Dev nD) {mq : Memref sig .tc .vmem S1024x128 .bf16} {mk : Memref sig .tc .vmem S8192x128 .bf16}
    {ms : Memref sig .tc .vmem S1024x2048 .f32} {mx : Memref sig .tc .vmem S1024x128 .f32} (j : Fin 4)
    (Q : Vec F S1024x128 .bf16) (K : Vec F S8192x128 .bf16) (S : Vec F S1024x2048 .f32) (X : Vec F S1024x128 .f32) (Φ : PUnit → sProp 𝕄) :
    iprop(owns (c : Thread nD τ) mq fullShare Q ∗ owns (c : Thread nD τ) mk fullShare K ∗ owns (c : Thread nD τ) ms fullShare S ∗ owns (c : Thread nD τ) mx fullShare X
      ∗ ((owns (c : Thread nD τ) mq fullShare Q ∗ owns (c : Thread nD τ) mk fullShare K ∗ owns (c : Thread nD τ) ms fullShare (k0_pay3 Q (blockOf K j))
          ∗ owns (c : Thread nD τ) mx fullShare (k0_pay4 Q (blockOf K j))) -∗ Φ ⟨⟩))
      ⊢ wp frame (wpE (defs₀ (F := F)) Variants.none (c : Thread nD τ) none) Set.univ (scores mq mk ms mx j) Φ := by
  simp only [scores, Prog.lift, Prog.bind_op, Prog.bind_ret]
  iintro ⟨Hq, Hk, Hs, Hx, HΦ⟩
  iapply (load_owns c Q) $$ Hq; iintro Hq
  iapply (load_owns c K) $$ Hk; iintro Hk
  iapply (load_owns c S) $$ Hs; iintro Hs
  iapply (store_owns c S) $$ Hs; iintro Hs
  iapply (load_owns c X) $$ Hx; iintro Hx
  iapply (store_owns c X) $$ Hx; iintro Hx
  rw [wp_ret]; imodintro
  rw [window_full (s := S1024x128) Q, put_full (s := S1024x2048) S _ inb_S1024x2048_S1024x2048_0_0, put_full (s := S1024x128) X _ inb_S1024x128_S1024x128_0_0]
  iapply HΦ
  isplitl [Hq]; · iexact Hq
  isplitl [Hk]; · iexact Hk
  isplitl [Hs]; · iexact Hs
  iexact Hx

/-- The values step reads a block of values and sets the ones beside it. -/
theorem wp_values (c : Dev nD) {mv : Memref sig .tc .vmem S8192x128 .bf16} (ones : FVec F S2048x128 .bf16) (j : Fin 4)
    (V : Vec F S8192x128 .bf16) (Φ : FVec F S2048x256 .bf16 → sProp 𝕄) :
    iprop(owns (c : Thread nD τ) mv fullShare V ∗ (owns (c : Thread nD τ) mv fullShare V -∗ Φ (k0_pay5 ones (blockOf V j))))
      ⊢ wp frame (wpE (defs₀ (F := F)) Variants.none (c : Thread nD τ) none) Set.univ (values mv ones j) Φ := by
  simp only [values, blockOf, Prog.lift, Prog.bind_op, Prog.bind_ret, Prog.pure_eq_ret]
  iintro ⟨Hv, HΦ⟩
  iapply (load_owns c V) $$ Hv; iintro Hv
  rw [wp_ret]; imodintro
  iapply HΦ $$ Hv

/-- The first update of chunk `b`. -/
theorem wp_first (c : Dev nD) {ms : Memref sig .tc .vmem S1024x2048 .f32} {mx mm : Memref sig .tc .vmem S1024x128 .f32}
    {ma : Memref sig .tc .vmem S1024x256 .f32} (vx : FVec F S2048x256 .bf16) (b : Fin 4)
    (S : Vec F S1024x2048 .f32) (X : Vec F S1024x128 .f32) (V : Fin 4 → Vec F S256x128 .f32) (U : Fin 4 → Vec F S256x256 .f32) (Φ : PUnit → sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X ∗ maxs c mm (Function.update V b (k0_pay8 (chunkX X b)))
          ∗ accs c ma (Function.update U b (k0_pay7 vx (chunkS S b) (chunkX X b)))) -∗ Φ ⟨⟩))
      ⊢ wp frame (wpE (defs₀ (F := F)) Variants.none (c : Thread nD τ) none) Set.univ (first ms mx mm ma vx b) Φ := by
  simp only [first, Prog.lift, Prog.bind_op, Prog.bind_ret, maxs, accs]
  iintro ⟨Hs, Hx, ⟨%M, Hm, %hM⟩, ⟨%A, Ha, %hA⟩, HΦ⟩
  iapply (load_owns c S) $$ Hs; iintro Hs
  iapply (load_owns c X) $$ Hx; iintro Hx
  iapply (load_owns c A) $$ Ha; iintro Ha
  iapply (store_owns c A) $$ Ha; iintro Ha
  iapply (load_owns c M) $$ Hm; iintro Hm
  iapply (store_owns c M) $$ Hm; iintro Hm
  rw [wp_ret]; imodintro
  iapply HΦ
  isplitl [Hs]; · iexact Hs
  isplitl [Hx]; · iexact Hx
  isplitl [Hm]
  · iexists _; isplitl [Hm]; · iexact Hm
    ipureintro; exact chunkX_put M V hM b _
  iexists _; isplitl [Ha]; · iexact Ha
  ipureintro; exact chunkA_put A U hA b _

/-- A later update of chunk `b`. -/
theorem wp_later (c : Dev nD) {ms : Memref sig .tc .vmem S1024x2048 .f32} {mx mm : Memref sig .tc .vmem S1024x128 .f32}
    {ma : Memref sig .tc .vmem S1024x256 .f32} (vx : FVec F S2048x256 .bf16) (b : Fin 4)
    (S : Vec F S1024x2048 .f32) (X : Vec F S1024x128 .f32) (V : Fin 4 → Vec F S256x128 .f32) (U : Fin 4 → Vec F S256x256 .f32) (Φ : PUnit → sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X ∗ maxs c mm (Function.update V b (k0_pay100 (chunkX X b) (V b)))
          ∗ accs c ma (Function.update U b (k0_pay99 vx (chunkS S b) (chunkX X b) (V b) (U b)))) -∗ Φ ⟨⟩))
      ⊢ wp frame (wpE (defs₀ (F := F)) Variants.none (c : Thread nD τ) none) Set.univ (later ms mx mm ma vx b) Φ := by
  simp only [later, Prog.lift, Prog.bind_op, Prog.bind_ret, maxs, accs]
  iintro ⟨Hs, Hx, ⟨%M, Hm, %hM⟩, ⟨%A, Ha, %hA⟩, HΦ⟩
  iapply (load_owns c S) $$ Hs; iintro Hs
  iapply (load_owns c X) $$ Hx; iintro Hx
  iapply (load_owns c M) $$ Hm; iintro Hm
  iapply (load_owns c A) $$ Ha; iintro Ha
  iapply (load_owns c A) $$ Ha; iintro Ha
  iapply (store_owns c A) $$ Ha; iintro Ha
  iapply (load_owns c M) $$ Hm; iintro Hm
  iapply (store_owns c M) $$ Hm; iintro Hm
  rw [wp_ret]; imodintro
  iapply HΦ
  isplitl [Hs]; · iexact Hs
  isplitl [Hx]; · iexact Hx
  isplitl [Hm]
  · iexists _; isplitl [Hm]; · iexact Hm
    ipureintro; rw [← hM b]; exact chunkX_put M V hM b _
  iexists _; isplitl [Ha]; · iexact Ha
  ipureintro; rw [← hM b, ← hA b]; exact chunkA_put A U hA b _

/-- The four updates of a block, chunk after chunk. -/
theorem update_all {α : Fin 4 → Type} (V w : (i : Fin 4) → α i) :
    Function.update (Function.update (Function.update (Function.update V 0 (w 0)) 1 (w 1)) 2 (w 2)) 3 (w 3) = w := by
  funext i; fin_cases i <;> simp [Function.update]

/-- The two masked copies of a query tile, the one for the first head's columns above the one for the second's. -/
def stackOf (v0 : IVec S512x128 32) (q : Vec F S512x128 .bf16) : Vec F S1024x128 .bf16 := fun i =>
  if h : (i 0).val < 512 then k0_pay67 v0 q (fun a => match a with | 0 => ⟨(i 0).val, h⟩ | 1 => ⟨(i 1).val, (i 1).isLt⟩)
  else k0_pay68 v0 q (fun a => match a with | 0 => ⟨(i 0).val - 512, by have := (i 0).isLt; change (i 0).val < 1024 at this; show _ < 512; omega⟩ | 1 => ⟨(i 1).val, (i 1).isLt⟩)

/-- The two half puts of the stack step give the stacked tile. -/
theorem put_put_stack (v0 : IVec S512x128 32) (q : Vec F S512x128 .bf16) (X : Vec F S1024x128 .bf16) :
    VecWindow.put (s := S1024x128) (VecWindow.put (s := S1024x128) X ![0, 0] S512x128.size (k0_pay67 v0 q)) ![512, 0] S512x128.size (k0_pay68 v0 q) = stackOf v0 q := by
  funext i
  have h0 : (i 0).val < 1024 := (i 0).isLt
  have h1 : (i 1).val < 128 := (i 1).isLt
  unfold VecWindow.put stackOf
  by_cases h : (i 0).val < 512
  · rw [dif_neg (fun hh => by have := (hh 0).1; change 512 ≤ (i 0).val at this; omega),
      dif_pos (fun a => match a with
        | 0 => ⟨Nat.zero_le _, by show (i 0).val < 0 + 512; omega⟩
        | 1 => ⟨Nat.zero_le _, by show (i 1).val < 0 + 128; omega⟩), dif_pos h]
    exact congrArg _ (funext fun a => by fin_cases a <;> rfl)
  · rw [dif_pos (fun a => match a with
        | 0 => ⟨by show 512 ≤ (i 0).val; omega, by show (i 0).val < 512 + 512; omega⟩
        | 1 => ⟨Nat.zero_le _, by show (i 1).val < 0 + 128; omega⟩), dif_neg h]
    exact congrArg _ (funext fun a => by fin_cases a <;> rfl)

/-- The stack step leaves the stacked tile in its buffer. -/
theorem wp_stack (c : Dev nD) {mq : Memref sig .tc .vmem S8192x128 .bf16} {m : Memref sig .tc .vmem S1024x128 .bf16} (hm : m.IsWhole)
    (v0 : IVec S512x128 32) (off : Fin 2 → ℕ) (inb : ∀ a, off a + S512x128.size a ≤ S8192x128.size a)
    (q : Vec F S8192x128 .bf16) (X : Vec F S1024x128 .bf16) (Φ : PUnit → sProp 𝕄) :
    iprop(owns (c : Thread nD τ) mq fullShare q ∗ owns (c : Thread nD τ) m fullShare X
      ∗ ((owns (c : Thread nD τ) mq fullShare q ∗ owns (c : Thread nD τ) m fullShare (stackOf v0 (VecWindow.window (s := S8192x128) q off S512x128.size inb))) -∗ Φ ⟨⟩))
      ⊢ wp frame (wpE (defs₀ (F := F)) Variants.none (c : Thread nD τ) none) Set.univ (stack mq m hm v0 off inb) Φ := by
  simp only [stack, Prog.lift, Prog.bind_op, Prog.bind_ret]
  iintro ⟨Hq, Hm, HΦ⟩
  iapply (load_owns c q) $$ Hq; iintro Hq
  iapply (load_owns c X) $$ Hm; iintro Hm
  iapply (store_owns c X) $$ Hm; iintro Hm
  iapply (load_owns c _) $$ Hm; iintro Hm
  iapply (store_owns c _) $$ Hm; iintro Hm
  rw [wp_ret]; imodintro
  rw [put_put_stack]
  iapply HΦ
  isplitl [Hq]; · iexact Hq
  iexact Hm

/-- A block of 256 rows of the result lies inside it. -/
theorem inbO (b : Fin 32) : ∀ a, (![256 * b.val, 0] : Fin 2 → ℕ) a + S256x128.size a ≤ S8192x128.size a := fun a =>
  match a with
  | 0 => by show 256 * b.val + 256 ≤ 8192; omega
  | 1 => by show 0 + 128 ≤ 128; omega

/-- Block `b` of 256 rows of the result. -/
def chunkO (Y : Vec F S8192x128 .bf16) (b : Fin 32) : Vec F S256x128 .bf16 := VecWindow.window (s := S8192x128) Y ![256 * b.val, 0] S256x128.size (inbO b)

/-- The result's buffer holds `O` in its first `n` blocks of 256 rows. -/
def outs (c : Dev nD) (m : Memref sig .tc .vmem S8192x128 .bf16) (O : Fin 32 → Vec F S256x128 .bf16) (n : ℕ) : sProp 𝕄 :=
  iprop(∃ Y : Vec F S8192x128 .bf16, owns (c : Thread nD τ) m fullShare Y ∗ ⌜∀ b : Fin 32, b.val < n → chunkO Y b = O b⌝)

/-- Writing the next block of the result. -/
theorem chunkO_put (Y : Vec F S8192x128 .bf16) (O : Fin 32 → Vec F S256x128 .bf16) (n : Fin 32) (off : Fin 2 → ℕ) (hoff : off = ![256 * n.val, 0])
    (h : ∀ b : Fin 32, b.val < n.val → chunkO Y b = O b) :
    ∀ b : Fin 32, b.val < n.val + 1 → chunkO (VecWindow.put (s := S8192x128) Y off S256x128.size (O n)) b = O b := fun b hb => by
  subst hoff
  by_cases e : b = n
  · subst e; exact VecWindow.window_put_same (s := S8192x128) Y _ _ (inbO b) _
  · have : b.val ≠ n.val := fun q => e (Fin.ext q)
    rw [← h b (by omega)]
    refine VecWindow.window_put_of_disjoint (s := S8192x128) Y _ _ _ _ (inbO b) _ 0 ?_
    show 256 * b.val + 256 ≤ 256 * n.val ∨ 256 * n.val + 256 ≤ 256 * b.val
    omega

/-- The finishing step writes the next block of the result. -/
theorem wp_finish (c : Dev nD) {ma : Memref sig .tc .vmem S1024x256 .f32} {mg : Memref sig .tc .vmem S1x1x128 .f32}
    {mo : Memref sig .tc .vmem S8192x128 .bf16} (hmo : mo.IsWhole) (lam : FVec F S1x1 .f32) (t : Fin k0_t1_loop.trips) (r : Fin 2)
    (U : Fin 4 → Vec F S256x256 .f32) (g : Vec F S1x1x128 .f32) (O : Fin 32 → Vec F S256x128 .bf16) (n : Fin 32)
    (hn : k0_off2 t (BitVec.ofNat 32 (256 * r.val)) = ![256 * n.val, 0]) (hO : k0_pay101 lam (U (lo r)) (U (hi r)) g = O n) (Φ : PUnit → sProp 𝕄) :
    iprop(accs c ma U ∗ owns (c : Thread nD τ) mg fullShare g ∗ outs c mo O n.val
      ∗ ((accs c ma U ∗ owns (c : Thread nD τ) mg fullShare g ∗ outs c mo O (n.val + 1)) -∗ Φ ⟨⟩))
      ⊢ wp frame (wpE (defs₀ (F := F)) Variants.none (c : Thread nD τ) none) Set.univ (finish ma mg mo hmo lam t r) Φ := by
  simp only [finish, Prog.lift, Prog.bind_op, Prog.bind_ret, accs, outs]
  iintro ⟨⟨%A, Ha, %hA⟩, Hg, ⟨%Y, Hy, %hY⟩, HΦ⟩
  iapply (load_owns c A) $$ Ha; iintro Ha
  iapply (load_owns c A) $$ Ha; iintro Ha
  iapply (load_owns c g) $$ Hg; iintro Hg
  iapply (load_owns c Y) $$ Hy; iintro Hy
  iapply (store_owns c Y) $$ Hy; iintro Hy
  rw [wp_ret]; imodintro
  iapply HΦ
  isplitl [Ha]
  · iexists A; isplitl [Ha]; · iexact Ha
    ipureintro; exact hA
  isplitl [Hg]; · iexact Hg
  iexists _; isplitl [Hy]; · iexact Hy
  ipureintro
  rw [window_full (s := S1x1x128) g]
  have e : k0_pay101 lam (chunkA A (lo r)) (chunkA A (hi r)) g = O n := by rw [hA, hA]; exact hO
  change k0_pay101 lam (VecWindow.window (s := S1024x256) A ![256 * (lo r).val, 0] S256x256.size (inbA (lo r))) (VecWindow.window (s := S1024x256) A ![256 * (hi r).val, 0] S256x256.size (inbA (hi r))) g = O n at e
  rw [e]
  exact chunkO_put Y O n _ hn hY

end Cert.KernelIdeal.Attn
-- ==== Proof.Attn.Trip.lean ====
module

public import proofs.«01_k».proof.Proof.Attn.Triples

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # One trip of the loop -/

/-- Three updates in a row, each from the value before it. -/
theorem update_three {α : Type} (V : Fin 4 → α) (f : Fin 4 → α → α) :
    Function.update (Function.update (Function.update V 0 (f 0 (V 0))) 1 (f 1 ((Function.update V 0 (f 0 (V 0))) 1))) 2
      (f 2 ((Function.update (Function.update V 0 (f 0 (V 0))) 1 (f 1 ((Function.update V 0 (f 0 (V 0))) 1))) 2))
      = Function.update (fun r => f r (V r)) 3 (V 3) := by
  funext i; fin_cases i <;> simp [Function.update]

/-- Three updates of the accumulator in a row, the maxima updated beside it. -/
theorem update_three₂ {α β : Type} (V : Fin 4 → α) (U : Fin 4 → β) (f : Fin 4 → α → β → β) (h : Fin 4 → α → α) :
    Function.update (Function.update (Function.update U 0 (f 0 (V 0) (U 0))) 1
        (f 1 ((Function.update V 0 (h 0 (V 0))) 1) ((Function.update U 0 (f 0 (V 0) (U 0))) 1))) 2
      (f 2 ((Function.update (Function.update V 0 (h 0 (V 0))) 1 (h 1 ((Function.update V 0 (h 0 (V 0))) 1))) 2)
        ((Function.update (Function.update U 0 (f 0 (V 0) (U 0))) 1
        (f 1 ((Function.update V 0 (h 0 (V 0))) 1) ((Function.update U 0 (f 0 (V 0) (U 0))) 1))) 2))
      = Function.update (fun r => f r (V r) (U r)) 3 (U 3) := by
  funext i; fin_cases i <;> simp [Function.update]

/-- The first update of all four chunks. -/
theorem wp_first4 (c : Dev nD) {ms : Memref sig .tc .vmem S1024x2048 .f32} {mx mm : Memref sig .tc .vmem S1024x128 .f32}
    {ma : Memref sig .tc .vmem S1024x256 .f32} (vx : FVec F S2048x256 .bf16)
    (S : Vec F S1024x2048 .f32) (X : Vec F S1024x128 .f32) (V : Fin 4 → Vec F S256x128 .f32) (U : Fin 4 → Vec F S256x256 .f32) (Φ : sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X ∗ maxs c mm (fun r => k0_pay8 (chunkX X r))
          ∗ accs c ma (fun r => k0_pay7 vx (chunkS S r) (chunkX X r))) -∗ Φ))
      ⊢ wp frame (wpE (defs₀ (F := F)) Variants.none (c : Thread nD τ) none) Set.univ (first ms mx mm ma vx 0) (fun _ => wp frame (wpE (defs₀ (F := F)) Variants.none (c : Thread nD τ) none) Set.univ (first ms mx mm ma vx 1) (fun _ =>
          wp frame (wpE (defs₀ (F := F)) Variants.none (c : Thread nD τ) none) Set.univ (first ms mx mm ma vx 2) (fun _ => wp frame (wpE (defs₀ (F := F)) Variants.none (c : Thread nD τ) none) Set.univ (first ms mx mm ma vx 3) (fun _ => Φ)))) := by
  iintro ⟨Hs, Hx, Hm, Ha, HΦ⟩
  iapply (wp_first c vx 0 S X _ _ _)
  isplitl [Hs]; · iexact Hs
  isplitl [Hx]; · iexact Hx
  isplitl [Hm]; · iexact Hm
  isplitl [Ha]; · iexact Ha
  iintro ⟨Hs, Hx, Hm, Ha⟩
  iapply (wp_first c vx 1 S X _ _ _)
  isplitl [Hs]; · iexact Hs
  isplitl [Hx]; · iexact Hx
  isplitl [Hm]; · iexact Hm
  isplitl [Ha]; · iexact Ha
  iintro ⟨Hs, Hx, Hm, Ha⟩
  iapply (wp_first c vx 2 S X _ _ _)
  isplitl [Hs]; · iexact Hs
  isplitl [Hx]; · iexact Hx
  isplitl [Hm]; · iexact Hm
  isplitl [Ha]; · iexact Ha
  iintro ⟨Hs, Hx, Hm, Ha⟩
  iapply (wp_first c vx 3 S X _ _ _)
  isplitl [Hs]; · iexact Hs
  isplitl [Hx]; · iexact Hx
  isplitl [Hm]; · iexact Hm
  isplitl [Ha]; · iexact Ha
  iintro ⟨Hs, Hx, Hm, Ha⟩
  have eM := update_all V (fun r => k0_pay8 (chunkX X r))
  have eA := update_all U (fun r => k0_pay7 vx (chunkS S r) (chunkX X r))
  rw [eM, eA]
  iapply HΦ
  isplitl [Hs]; · iexact Hs
  isplitl [Hx]; · iexact Hx
  isplitl [Hm]; · iexact Hm
  iexact Ha

/-- The later update of the first three chunks. -/
theorem wp_later3 (c : Dev nD) {ms : Memref sig .tc .vmem S1024x2048 .f32} {mx mm : Memref sig .tc .vmem S1024x128 .f32}
    {ma : Memref sig .tc .vmem S1024x256 .f32} (vx : FVec F S2048x256 .bf16)
    (S : Vec F S1024x2048 .f32) (X : Vec F S1024x128 .f32) (V : Fin 4 → Vec F S256x128 .f32) (U : Fin 4 → Vec F S256x256 .f32) (Φ : sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X
          ∗ maxs c mm (Function.update (fun r => k0_pay100 (chunkX X r) (V r)) 3 (V 3))
          ∗ accs c ma (Function.update (fun r => k0_pay99 vx (chunkS S r) (chunkX X r) (V r) (U r)) 3 (U 3))) -∗ Φ))
      ⊢ wp frame (wpE (defs₀ (F := F)) Variants.none (c : Thread nD τ) none) Set.univ (later ms mx mm ma vx 0) (fun _ => wp frame (wpE (defs₀ (F := F)) Variants.none (c : Thread nD τ) none) Set.univ (later ms mx mm ma vx 1) (fun _ =>
          wp frame (wpE (defs₀ (F := F)) Variants.none (c : Thread nD τ) none) Set.univ (later ms mx mm ma vx 2) (fun _ => Φ))) := by
  iintro ⟨Hs, Hx, Hm, Ha, HΦ⟩
  iapply (wp_later c vx 0 S X _ _ _)
  isplitl [Hs]; · iexact Hs
  isplitl [Hx]; · iexact Hx
  isplitl [Hm]; · iexact Hm
  isplitl [Ha]; · iexact Ha
  iintro ⟨Hs, Hx, Hm, Ha⟩
  iapply (wp_later c vx 1 S X _ _ _)
  isplitl [Hs]; · iexact Hs
  isplitl [Hx]; · iexact Hx
  isplitl [Hm]; · iexact Hm
  isplitl [Ha]; · iexact Ha
  iintro ⟨Hs, Hx, Hm, Ha⟩
  iapply (wp_later c vx 2 S X _ _ _)
  isplitl [Hs]; · iexact Hs
  isplitl [Hx]; · iexact Hx
  isplitl [Hm]; · iexact Hm
  isplitl [Ha]; · iexact Ha
  iintro ⟨Hs, Hx, Hm, Ha⟩
  have eM := update_three V (fun r v => k0_pay100 (chunkX X r) v)
  have eA := update_three₂ V U (fun r v u => k0_pay99 vx (chunkS S r) (chunkX X r) v u) (fun r v => k0_pay100 (chunkX X r) v)
  rw [eM, eA]
  iapply HΦ
  isplitl [Hs]; · iexact Hs
  isplitl [Hx]; · iexact Hx
  isplitl [Hm]; · iexact Hm
  iexact Ha

/-- The later update of the fourth chunk, after the first three. -/
theorem wp_later_last (c : Dev nD) {ms : Memref sig .tc .vmem S1024x2048 .f32} {mx mm : Memref sig .tc .vmem S1024x128 .f32}
    {ma : Memref sig .tc .vmem S1024x256 .f32} (vx : FVec F S2048x256 .bf16)
    (S : Vec F S1024x2048 .f32) (X : Vec F S1024x128 .f32) (V : Fin 4 → Vec F S256x128 .f32) (U : Fin 4 → Vec F S256x256 .f32) (Φ : PUnit → sProp 𝕄) :
    iprop(owns (c : Thread nD τ) ms fullShare S ∗ owns (c : Thread nD τ) mx fullShare X
          ∗ maxs c mm (Function.update (fun r => k0_pay100 (chunkX X r) (V r)) 3 (V 3))
          ∗ accs c ma (Function.update (fun r => k0_pay99 vx (chunkS S r) (chunkX X r) (V r) (U r)) 3 (U 3))
      ∗ ((owns (c : Thread nD τ) ms fullShare S ∗ owns (c : Thread nD τ) mx fullShare X
          ∗ maxs c mm (fun r => k0_pay100 (chunkX X r) (V r))
          ∗ accs c ma (fun r => k0_pay99 vx (chunkS S r) (chunkX X r) (V r) (U r))) -∗ Φ ⟨⟩))
      ⊢ wp frame (wpE (defs₀ (F := F)) Variants.none (c : Thread nD τ) none) Set.univ (later ms mx mm ma vx 3) Φ := by
  iintro ⟨Hs, Hx, Hm, Ha, HΦ⟩
  iapply (wp_later c vx 3 S X _ _ _)
  isplitl [Hs]; · iexact Hs
  isplitl [Hx]; · iexact Hx
  isplitl [Hm]; · iexact Hm
  isplitl [Ha]; · iexact Ha
  iintro ⟨Hs, Hx, Hm, Ha⟩
  rw [Function.update_self, Function.update_self, Function.update_idem, Function.update_idem]
  have eM := Function.update_eq_self 3 (fun r => k0_pay100 (chunkX X r) (V r))
  have eA := Function.update_eq_self 3 (fun r => k0_pay99 vx (chunkS S r) (chunkX X r) (V r) (U r))
  rw [eM, eA]
  iapply HΦ
  isplitl [Hs]; · iexact Hs
  isplitl [Hx]; · iexact Hx
  isplitl [Hm]; · iexact Hm
  iexact Ha

/-- The later update of all four chunks. -/
theorem wp_later4 (c : Dev nD) {ms : Memref sig .tc .vmem S1024x2048 .f32} {mx mm : Memref sig .tc .vmem S1024x128 .f32}
    {ma : Memref sig .tc .vmem S1024x256 .f32} (vx : FVec F S2048x256 .bf16)
    (S : Vec F S1024x2048 .f32) (X : Vec F S1024x128 .f32) (V : Fin 4 → Vec F S256x128 .f32) (U : Fin 4 → Vec F S256x256 .f32) (Φ : sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X
          ∗ maxs c mm (fun r => k0_pay100 (chunkX X r) (V r))
          ∗ accs c ma (fun r => k0_pay99 vx (chunkS S r) (chunkX X r) (V r) (U r))) -∗ Φ))
      ⊢ wp frame (wpE (defs₀ (F := F)) Variants.none (c : Thread nD τ) none) Set.univ (later ms mx mm ma vx 0) (fun _ => wp frame (wpE (defs₀ (F := F)) Variants.none (c : Thread nD τ) none) Set.univ (later ms mx mm ma vx 1) (fun _ =>
          wp frame (wpE (defs₀ (F := F)) Variants.none (c : Thread nD τ) none) Set.univ (later ms mx mm ma vx 2) (fun _ => wp frame (wpE (defs₀ (F := F)) Variants.none (c : Thread nD τ) none) Set.univ (later ms mx mm ma vx 3) (fun _ => Φ)))) := by
  iintro ⟨Hs, Hx, Hm, Ha, HΦ⟩
  iapply (wp_later3 c vx S X _ _ _)
  isplitl [Hs]; · iexact Hs
  isplitl [Hx]; · iexact Hx
  isplitl [Hm]; · iexact Hm
  isplitl [Ha]; · iexact Ha
  iintro ⟨Hs, Hx, Hm, Ha⟩
  iapply (wp_later_last c vx S X _ _ _)
  isplitl [Hs]; · iexact Hs
  isplitl [Hx]; · iexact Hx
  isplitl [Hm]; · iexact Hm
  isplitl [Ha]; · iexact Ha
  iintro ⟨Hs, Hx, Hm, Ha⟩
  iapply HΦ
  isplitl [Hs]; · iexact Hs
  isplitl [Hx]; · iexact Hx
  isplitl [Hm]; · iexact Hm
  iexact Ha

/-! ## The values of a trip -/

/-- The column of each entry of a tile. -/
def lanes : IVec S512x128 32 := iota .tc S512x128 32 [1] iota_S512x128_d1_w32

/-- Tile `t` of 512 query rows lies inside the queries. -/
theorem inbT (t : Fin 16) : ∀ a, (![512 * t.val, 0] : Fin 2 → ℕ) a + S512x128.size a ≤ S8192x128.size a := fun a =>
  match a with
  | 0 => by show 512 * t.val + 512 ≤ 8192; omega
  | 1 => by show 0 + 128 ≤ 128; omega

/-- Tile `t` of the queries. -/
def tileOf (q : Vec F S8192x128 .bf16) (t : Fin 16) : Vec F S512x128 .bf16 := VecWindow.window (s := S8192x128) q ![512 * t.val, 0] S512x128.size (inbT t)
/-- The stacked tile `t`. -/
def qs (q : Vec F S8192x128 .bf16) (t : Fin 16) : Vec F S1024x128 .bf16 := stackOf lanes (tileOf q t)
/-- The scores of the stacked tile `t` against block `j` of the keys. -/
def sc (q k : Vec F S8192x128 .bf16) (t : Fin 16) (j : Fin 4) : Vec F S1024x2048 .f32 := k0_pay3 (qs q t) (blockOf k j)
/-- Their lane maxima. -/
def mx (q k : Vec F S8192x128 .bf16) (t : Fin 16) (j : Fin 4) : Vec F S1024x128 .f32 := k0_pay4 (qs q t) (blockOf k j)
/-- Block `j` of the values, ones beside it. -/
def vx (v : Vec F S8192x128 .bf16) (j : Fin 4) : FVec F S2048x256 .bf16 := k0_pay5 k0_pay102 (blockOf v j)

/-- The running maximum of chunk `r` after block `n`. -/
def runM (q k : Vec F S8192x128 .bf16) (t : Fin 16) : ℕ → Fin 4 → Vec F S256x128 .f32
  | 0 => fun r => k0_pay8 (chunkX (mx q k t 0) r)
  | n + 1 => fun r => k0_pay100 (chunkX (mx q k t (Fin.ofNat 4 (n + 1))) r) (runM q k t n r)

/-- The accumulator of chunk `r` after block `n`. -/
def runA (q k v : Vec F S8192x128 .bf16) (t : Fin 16) : ℕ → Fin 4 → Vec F S256x256 .f32
  | 0 => fun r => k0_pay7 (vx v 0) (chunkS (sc q k t 0) r) (chunkX (mx q k t 0) r)
  | n + 1 => fun r => k0_pay99 (vx v (Fin.ofNat 4 (n + 1))) (chunkS (sc q k t (Fin.ofNat 4 (n + 1))) r) (chunkX (mx q k t (Fin.ofNat 4 (n + 1))) r)
      (runM q k t n r) (runA q k v t n r)

/-- Rows `256 r …` of tile `t` of the result. -/
def outOf (lam : FVec F S1x1 .f32) (g : Vec F S1x1x128 .f32) (q k v : Vec F S8192x128 .bf16) (t : Fin 16) (r : Fin 2) : Vec F S256x128 .bf16 :=
  k0_pay101 lam (runA q k v t 3 (lo r)) (runA q k v t 3 (hi r)) g

/-- Block `b` of 256 rows of the result. -/
def outBlk (lam : FVec F S1x1 .f32) (g : Vec F S1x1x128 .f32) (q k v : Vec F S8192x128 .bf16) (b : Fin 32) : Vec F S256x128 .bf16 :=
  outOf lam g q k v ⟨b.val / 2, by omega⟩ ⟨b.val % 2, by omega⟩

/-- The tile prepared before trip `n`: the last one again at the end. -/
def tl (n : ℕ) : Fin 16 := ⟨min n 15, by omega⟩

theorem tile_next (q : Vec F S8192x128 .bf16) (t : Fin k0_t1_loop.trips) :
    VecWindow.window (s := S8192x128) q (k0_off1 t) S512x128.size (k0_off1_inb t) = tileOf q (tl (t.val + 1)) := by
  have h := Gen.k0_off1_eq t
  have key : ∀ (off off' : Fin 2 → ℕ) (_ : off = off') (i : ∀ a, off a + S512x128.size a ≤ S8192x128.size a) (i' : ∀ a, off' a + S512x128.size a ≤ S8192x128.size a),
      VecWindow.window (s := S8192x128) q off S512x128.size i = VecWindow.window (s := S8192x128) q off' S512x128.size i' := by
    intro off off' e i i'; subst e; rfl
  exact key _ _ h _ _

/-- What is held before trip `n`. -/
def held (c : Dev nD) (arg2 arg3 arg4 : Memref sig .tc .vmem S8192x128 .bf16) (arg9 : Memref sig .tc .vmem S1x1x128 .f32)
    (arg10 : Memref sig .tc .vmem S8192x128 .bf16) (arg11 : Memref sig .tc .vmem S1024x128 .bf16) (arg12 : Memref sig .tc .vmem S1024x128 .f32)
    (arg13 : Memref sig .tc .vmem S1024x256 .f32) (arg14 arg15 : Memref sig .tc .vmem S1024x2048 .f32) (arg16 arg17 : Memref sig .tc .vmem S1024x128 .f32)
    (lam : FVec F S1x1 .f32) (g : Vec F S1x1x128 .f32) (q k v : Vec F S8192x128 .bf16) (n : ℕ) : sProp 𝕄 :=
  iprop(owns (c : Thread nD τ) arg2 fullShare q ∗ owns (c : Thread nD τ) arg3 fullShare k ∗ owns (c : Thread nD τ) arg4 fullShare v
    ∗ owns (c : Thread nD τ) arg9 fullShare g ∗ outs c arg10 (outBlk lam g q k v) (2 * n)
    ∗ owns (c : Thread nD τ) arg11 fullShare (qs q (tl n)) ∗ (∃ V, maxs c arg12 V) ∗ (∃ U, accs c arg13 U)
    ∗ owns (c : Thread nD τ) arg14 fullShare (sc q k (tl n) 0) ∗ (∃ S : Vec F S1024x2048 .f32, owns (c : Thread nD τ) arg15 fullShare S)
    ∗ owns (c : Thread nD τ) arg16 fullShare (mx q k (tl n) 0) ∗ (∃ X : Vec F S1024x128 .f32, owns (c : Thread nD τ) arg17 fullShare X))

set_option maxHeartbeats 1000000 in
/-- One trip: from what is held before trip `t` to what is held before the next. -/
theorem wp_trip (c : Dev nD) (arg2 arg3 arg4 : Memref sig .tc .vmem S8192x128 .bf16) (arg9 : Memref sig .tc .vmem S1x1x128 .f32)
    (arg10 : Memref sig .tc .vmem S8192x128 .bf16) (harg10 : arg10.IsWhole) (arg11 : Memref sig .tc .vmem S1024x128 .bf16) (harg11 : arg11.IsWhole) (arg12 : Memref sig .tc .vmem S1024x128 .f32)
    (arg13 : Memref sig .tc .vmem S1024x256 .f32) (arg14 arg15 : Memref sig .tc .vmem S1024x2048 .f32) (arg16 arg17 : Memref sig .tc .vmem S1024x128 .f32)
    (lam : FVec F S1x1 .f32) (g : Vec F S1x1x128 .f32) (q k v : Vec F S8192x128 .bf16) (t : Fin k0_t1_loop.trips) :
    held c arg2 arg3 arg4 arg9 arg10 arg11 arg12 arg13 arg14 arg15 arg16 arg17 lam g q k v t.val
      ⊢ wp frame (wpE (defs₀ (F := F)) Variants.none (c : Thread nD τ) none) Set.univ (trip arg2 arg3 arg4 arg9 arg10 harg10 arg11 harg11 arg12 arg13 arg14 arg15 arg16 arg17 lanes k0_pay102 lam t)
          (fun _ => held c arg2 arg3 arg4 arg9 arg10 arg11 arg12 arg13 arg14 arg15 arg16 arg17 lam g q k v (t.val + 1)) := by
  have ht : t.val < 16 := t.isLt
  have hb0 : 2 * t.val < 32 := by omega
  have hb1 : 2 * t.val + 1 < 32 := by omega
  have htl : ∀ (r : ℕ) (hr : r < 2), (⟨(2 * t.val + r) / 2, by omega⟩ : Fin 16) = tl t.val := fun r hr => Fin.ext (by
    show (2 * t.val + r) / 2 = min t.val 15
    omega)
  have hO : ∀ (r : Fin 2) (h : 2 * t.val + r.val < 32), outOf lam g q k v (tl t.val) r = outBlk lam g q k v ⟨2 * t.val + r.val, h⟩ := fun r h => by
    have e : (⟨(2 * t.val + r.val) % 2, by omega⟩ : Fin 2) = r := Fin.ext (by show (2 * t.val + r.val) % 2 = r.val; omega)
    show _ = outOf lam g q k v ⟨(2 * t.val + r.val) / 2, _⟩ ⟨(2 * t.val + r.val) % 2, _⟩
    rw [htl r.val r.isLt, e]
  have hoff : ∀ r : Fin 2, k0_off2 t (BitVec.ofNat 32 (256 * r.val)) = ![256 * (2 * t.val + r.val), 0] := fun r => by
    rw [Gen.k0_off2_eq t r]
    have : 512 * t.val + 256 * r.val = 256 * (2 * t.val + r.val) := by omega
    rw [this]
  unfold trip held
  simp only [wp_bind]
  iintro ⟨Hq, Hk, Hv, Hg, Ho, Hu, ⟨%V, Hm⟩, ⟨%U, Ha⟩, Hs, ⟨%S', Hs'⟩, Hx, ⟨%X', Hx'⟩⟩
  iapply (wp_scores c 1 (qs q _) k _ _ _)
  isplitl [Hu]; · iexact Hu
  isplitl [Hk]; · iexact Hk
  isplitl [Hs']; · iexact Hs'
  isplitl [Hx']; · iexact Hx'
  iintro ⟨Hu, Hk, Hs', Hx'⟩
  iapply (wp_values c k0_pay102 0 v _)
  isplitl [Hv]; · iexact Hv
  iintro Hv
  iapply (wp_first4 c (vx v 0) (sc q k (tl t.val) 0) (mx q k (tl t.val) 0) V U _)
  isplitl [Hs]; · iexact Hs
  isplitl [Hx]; · iexact Hx
  isplitl [Hm]; · iexact Hm
  isplitl [Ha]; · iexact Ha
  iintro ⟨Hs, Hx, Hm, Ha⟩
  iapply (wp_scores c 2 (qs q _) k _ _ _)
  isplitl [Hu]; · iexact Hu
  isplitl [Hk]; · iexact Hk
  isplitl [Hs]; · iexact Hs
  isplitl [Hx]; · iexact Hx
  iintro ⟨Hu, Hk, Hs, Hx⟩
  iapply (wp_values c k0_pay102 1 v _)
  isplitl [Hv]; · iexact Hv
  iintro Hv
  iapply (wp_later4 c (vx v 1) (sc q k (tl t.val) 1) (mx q k (tl t.val) 1) (runM q k (tl t.val) 0) (runA q k v (tl t.val) 0) _)
  isplitl [Hs']; · iexact Hs'
  isplitl [Hx']; · iexact Hx'
  isplitl [Hm]; · iexact Hm
  isplitl [Ha]; · iexact Ha
  iintro ⟨Hs', Hx', Hm, Ha⟩
  iapply (wp_scores c 3 (qs q _) k _ _ _)
  isplitl [Hu]; · iexact Hu
  isplitl [Hk]; · iexact Hk
  isplitl [Hs']; · iexact Hs'
  isplitl [Hx']; · iexact Hx'
  iintro ⟨Hu, Hk, Hs', Hx'⟩
  iapply (wp_values c k0_pay102 2 v _)
  isplitl [Hv]; · iexact Hv
  iintro Hv
  iapply (wp_later4 c (vx v 2) (sc q k (tl t.val) 2) (mx q k (tl t.val) 2) (runM q k (tl t.val) 1) (runA q k v (tl t.val) 1) _)
  isplitl [Hs]; · iexact Hs
  isplitl [Hx]; · iexact Hx
  isplitl [Hm]; · iexact Hm
  isplitl [Ha]; · iexact Ha
  iintro ⟨Hs, Hx, Hm, Ha⟩
  iapply (wp_stack c harg11 lanes _ _ q _ _)
  isplitl [Hq]; · iexact Hq
  isplitl [Hu]; · iexact Hu
  iintro ⟨Hq, Hu⟩
  rw [tile_next]
  iapply (wp_scores c 0 (qs q _) k _ _ _)
  isplitl [Hu]; · iexact Hu
  isplitl [Hk]; · iexact Hk
  isplitl [Hs]; · iexact Hs
  isplitl [Hx]; · iexact Hx
  iintro ⟨Hu, Hk, Hs, Hx⟩
  iapply (wp_values c k0_pay102 3 v _)
  isplitl [Hv]; · iexact Hv
  iintro Hv
  iapply (wp_later3 c (vx v 3) (sc q k (tl t.val) 3) (mx q k (tl t.val) 3) (runM q k (tl t.val) 2) (runA q k v (tl t.val) 2) _)
  isplitl [Hs']; · iexact Hs'
  isplitl [Hx']; · iexact Hx'
  isplitl [Hm]; · iexact Hm
  isplitl [Ha]; · iexact Ha
  iintro ⟨Hs', Hx', Hm, Ha⟩
  iapply (wp_finish c harg10 lam t 0 (Function.update (runA q k v (tl t.val) 3) 3 (runA q k v (tl t.val) 2 3)) g (outBlk lam g q k v) ⟨2 * t.val + 0, hb0⟩ (hoff 0) (by rw [Function.update_of_ne (by decide), Function.update_of_ne (by decide)]; exact hO 0 hb0))
  isplitl [Ha]; · iexact Ha
  isplitl [Hg]; · iexact Hg
  isplitl [Ho]; · iexact Ho
  iintro ⟨Ha, Hg, Ho⟩
  iapply (wp_later_last c (vx v 3) (sc q k (tl t.val) 3) (mx q k (tl t.val) 3) (runM q k (tl t.val) 2) (runA q k v (tl t.val) 2) _)
  isplitl [Hs']; · iexact Hs'
  isplitl [Hx']; · iexact Hx'
  isplitl [Hm]; · iexact Hm
  isplitl [Ha]; · iexact Ha
  iintro ⟨Hs', Hx', Hm, Ha⟩
  iapply (wp_finish c harg10 lam t 1 (runA q k v (tl t.val) 3) g (outBlk lam g q k v) ⟨2 * t.val + 1, hb1⟩ (hoff 1) (hO 1 hb1))
  isplitl [Ha]; · iexact Ha
  isplitl [Hg]; · iexact Hg
  isplitl [Ho]; · iexact Ho
  iintro ⟨Ha, Hg, Ho⟩
  rw [Prog.pure_eq_ret, wp_ret]; imodintro
  isplitl [Hq]; · iexact Hq
  isplitl [Hk]; · iexact Hk
  isplitl [Hv]; · iexact Hv
  isplitl [Hg]; · iexact Hg
  isplitl [Ho]; · iexact Ho
  isplitl [Hu]; · iexact Hu
  isplitl [Hm]; · iexists _; iexact Hm
  isplitl [Ha]; · iexists _; iexact Ha
  isplitl [Hs]; · iexact Hs
  isplitl [Hs']; · iexists _; iexact Hs'
  isplitl [Hx]; · iexact Hx
  iexists _; iexact Hx'

end Cert.KernelIdeal.Attn
-- ==== Proof.Attn.Body.lean ====
module

public import proofs.«01_k».proof.Proof.Attn.Trip

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The body of the attention call -/

/-- The result from its 32 blocks of 256 rows. -/
def outArr (O : Fin 32 → Vec F S256x128 .bf16) : Vec F S8192x128 .bf16 := fun i =>
  O ⟨(i 0).val / 256, by have : (i 0).val < 8192 := (i 0).isLt; omega⟩
    (fun a => match a with | 0 => ⟨(i 0).val % 256, Nat.mod_lt _ (by decide)⟩ | 1 => ⟨(i 1).val, (i 1).isLt⟩)

/-- A buffer whose 32 blocks are known is the result. -/
theorem eq_outArr (Y : Vec F S8192x128 .bf16) (O : Fin 32 → Vec F S256x128 .bf16) (h : ∀ b : Fin 32, b.val < 32 → chunkO Y b = O b) : Y = outArr O := by
  funext i
  have hi : (i 0).val < 8192 := (i 0).isLt
  have e := congrFun (h ⟨(i 0).val / 256, by omega⟩ (by show (i 0).val / 256 < 32; omega))
    (fun a => match a with | 0 => ⟨(i 0).val % 256, Nat.mod_lt _ (by decide)⟩ | 1 => ⟨(i 1).val, (i 1).isLt⟩)
  refine Eq.trans (congrArg Y (funext fun a => Fin.ext ?_)) e
  match a with
  | 0 => show (i 0).val = 256 * ((i 0).val / 256) + 1 * ((i 0).val % 256); omega
  | 1 => show (i 1).val = 0 + 1 * (i 1).val; omega

set_option maxHeartbeats 1000000 in
/-- The loop: sixteen trips. -/
theorem wp_loop (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x128 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x256 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S1024x128 .f32) (harg16 : arg16.IsWhole) (arg17 : Memref sig .tc .vmem S1024x128 .f32) (harg17 : arg17.IsWhole)
    (lam : FVec F S1x1 .f32) (g : Vec F S1x1x128 .f32) (q k v : Vec F S8192x128 .bf16) (Φ : Unit → sProp 𝕄) :
    iprop(held c arg2 arg3 arg4 arg9 arg10 arg11 arg12 arg13 arg14 arg15 arg16 arg17 lam g q k v 0
      ∗ (held c arg2 arg3 arg4 arg9 arg10 arg11 arg12 arg13 arg14 arg15 arg16 arg17 lam g q k v 16 -∗ Φ ⟨⟩))
      ⊢ wp frame (wpE (defs₀ (F := F)) Variants.none (c : Thread nD τ) none) Set.univ (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 lanes k0_pay102 lam)) Φ := by
  have h := Scf.wp_for frame (wpE (defs₀ (F := F)) Variants.none (c : Thread nD τ) none) Set.univ k0_t1_loop.lb k0_t1_loop.ub k0_t1_loop.st k0_t1_ok ()
    (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 lanes k0_pay102 lam)
    (fun n _ => held (F := F) c arg2 arg3 arg4 arg9 arg10 arg11 arg12 arg13 arg14 arg15 arg16 arg17 lam g q k v n)
    (fun t u => by
      rw [body_eq_trip]
      exact wp_trip c arg2 arg3 arg4 arg9 arg10 harg10 arg11 harg11 arg12 arg13 arg14 arg15 arg16 arg17 lam g q k v t) (Q := Φ)
  refine Entails.trans (sep_mono_right ?_) h
  refine forall_intro fun u => ?_
  exact .rfl

set_option maxHeartbeats 1000000 in
/-- The body: from its inputs, and whatever the other buffers hold, to the result. -/
theorem wp_body (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x128 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x256 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S1024x128 .f32) (harg16 : arg16.IsWhole) (arg17 : Memref sig .tc .vmem S1024x128 .f32) (harg17 : arg17.IsWhole)
    (q k v : Vec F S8192x128 .bf16) (l1 l2 l3 l4 : Vec F S1x1x64 .f32) (g : Vec F S1x1x128 .f32) (Φ : PUnit → sProp 𝕄) :
    iprop(owns (c : Thread nD τ) arg2 fullShare q ∗ owns (c : Thread nD τ) arg3 fullShare k ∗ owns (c : Thread nD τ) arg4 fullShare v ∗ owns (c : Thread nD τ) arg5 fullShare l1 ∗ owns (c : Thread nD τ) arg6 fullShare l2 ∗ owns (c : Thread nD τ) arg7 fullShare l3 ∗ owns (c : Thread nD τ) arg8 fullShare l4 ∗ owns (c : Thread nD τ) arg9 fullShare g ∗ (∃ Y : Vec F S8192x128 .bf16, owns (c : Thread nD τ) arg10 fullShare Y) ∗ (∃ X : Vec F S1024x128 .bf16, owns (c : Thread nD τ) arg11 fullShare X) ∗ (∃ X : Vec F S1024x128 .f32, owns (c : Thread nD τ) arg12 fullShare X) ∗ (∃ X : Vec F S1024x256 .f32, owns (c : Thread nD τ) arg13 fullShare X) ∗ (∃ X : Vec F S1024x2048 .f32, owns (c : Thread nD τ) arg14 fullShare X) ∗ (∃ X : Vec F S1024x2048 .f32, owns (c : Thread nD τ) arg15 fullShare X) ∗ (∃ X : Vec F S1024x128 .f32, owns (c : Thread nD τ) arg16 fullShare X) ∗ (∃ X : Vec F S1024x128 .f32, owns (c : Thread nD τ) arg17 fullShare X)
      ∗ ((owns (c : Thread nD τ) arg2 fullShare q ∗ owns (c : Thread nD τ) arg3 fullShare k ∗ owns (c : Thread nD τ) arg4 fullShare v ∗ owns (c : Thread nD τ) arg5 fullShare l1 ∗ owns (c : Thread nD τ) arg6 fullShare l2 ∗ owns (c : Thread nD τ) arg7 fullShare l3 ∗ owns (c : Thread nD τ) arg8 fullShare l4 ∗ owns (c : Thread nD τ) arg9 fullShare g ∗ owns (c : Thread nD τ) arg10 fullShare (outArr (outBlk (k0_pay103 l1 l2 l3 l4) g q k v)) ∗ (∃ X : Vec F S1024x128 .bf16, owns (c : Thread nD τ) arg11 fullShare X) ∗ (∃ X : Vec F S1024x128 .f32, owns (c : Thread nD τ) arg12 fullShare X) ∗ (∃ X : Vec F S1024x256 .f32, owns (c : Thread nD τ) arg13 fullShare X) ∗ (∃ X : Vec F S1024x2048 .f32, owns (c : Thread nD τ) arg14 fullShare X) ∗ (∃ X : Vec F S1024x2048 .f32, owns (c : Thread nD τ) arg15 fullShare X) ∗ (∃ X : Vec F S1024x128 .f32, owns (c : Thread nD τ) arg16 fullShare X) ∗ (∃ X : Vec F S1024x128 .f32, owns (c : Thread nD τ) arg17 fullShare X)) -∗ Φ ⟨⟩))
      ⊢ wp frame (wpE (defs₀ (F := F)) Variants.none (c : Thread nD τ) none) Set.univ (cc0_diff_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Φ := by
  rw [body_eq]
  simp only [Prog.lift, Prog.bind_op, Prog.bind_ret]
  iintro ⟨H2, H3, H4, H5, H6, H7, H8, H9, ⟨%Y, Ho⟩, ⟨%X11, H11⟩, ⟨%X12, H12⟩, ⟨%X13, H13⟩, ⟨%X14, H14⟩, ⟨%X15, H15⟩, ⟨%X16, H16⟩, ⟨%X17, H17⟩, HΦ⟩
  iapply (load_owns c l1) $$ H5; iintro H5
  iapply (load_owns c l2) $$ H6; iintro H6
  iapply (load_owns c l3) $$ H7; iintro H7
  iapply (load_owns c l4) $$ H8; iintro H8
  rw [window_full (s := S1x1x64) l1, window_full (s := S1x1x64) l2, window_full (s := S1x1x64) l3, window_full (s := S1x1x64) l4]
  simp only [wp_bind]
  iapply (wp_stack c harg11 lanes _ _ q X11 _)
  isplitl [H2]; · iexact H2
  isplitl [H11]; · iexact H11
  iintro ⟨H2, H11⟩
  iapply (wp_scores c 0 (qs q (tl 0)) k X14 X16 _)
  isplitl [H11]; · iexact H11
  isplitl [H3]; · iexact H3
  isplitl [H14]; · iexact H14
  isplitl [H16]; · iexact H16
  iintro ⟨H11, H3, H14, H16⟩
  iapply (wp_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay103 l1 l2 l3 l4) g q k v _)
  unfold held
  isplitl [H2 H3 H4 H9 Ho H11 H12 H13 H14 H15 H16 H17]
  · isplitl [H2]; · iexact H2
    isplitl [H3]; · iexact H3
    isplitl [H4]; · iexact H4
    isplitl [H9]; · iexact H9
    isplitl [Ho]
    · unfold outs
      iexists Y; isplitl [Ho]; · iexact Ho
      ipureintro; intro b hb; exact absurd hb (Nat.not_lt_zero _)
    isplitl [H11]; · iexact H11
    isplitl [H12]; · iexists _; iapply (maxs_of_owns c arg12 X12) $$ H12
    isplitl [H13]; · iexists _; iapply (accs_of_owns c arg13 X13) $$ H13
    isplitl [H14]; · iexact H14
    isplitl [H15]; · iexists X15; iexact H15
    isplitl [H16]; · iexact H16
    iexists X17; iexact H17
  unfold outs maxs accs
  iintro ⟨H2, H3, H4, H9, ⟨%Z, Ho, %hZ⟩, H11, ⟨%V, %X12', H12, %_⟩, ⟨%U, %X13', H13, %_⟩, H14, ⟨%X15', H15⟩, H16, ⟨%X17', H17⟩⟩
  rw [Prog.pure_eq_ret, wp_ret]; imodintro
  rw [eq_outArr Z _ hZ]
  iapply HΦ
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ho]; · iexact Ho
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.KernelIdeal.Attn
-- ==== Proof.Attn.Run.lean ====
module

public import proofs.«01_k».proof.Proof.Attn.Body
public import proofs.«01_k».proof.Proof.Gen.KernelIdeal.Frame
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the attention call, and its frame -/

/-- The result's block at a grid point, from the blocks of the inputs there. -/
def out (c : Dev nD) (t : Fin cfg0.N) : Vec F S8192x128 .bf16 :=
  outArr (outBlk (k0_pay103 (iblk m c 3 t) (iblk m c 4 t) (iblk m c 5 t) (iblk m c 6 t)) (iblk m c 7 t) (iblk m c 0 t) (iblk m c 1 t) (iblk m c 2 t))

/-- The proof data of the pipeline: the inputs' blocks stay, the result's block is `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out m c t
  Φ _ := Pipeline.ΦA spec0 c
  q _ := fullShare
  owed _ := 0

theorem A_eq (c : Dev nD) : ∀ w, (dats m 0 c).A w = V m c (Pipeline.arrRef spec0 w) := fun w => by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = out m c t := by dsimp only [dats]

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at point `t`. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2, before_3, before_4, before_5, before_6, before_7]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, show (dats m 0 c).Φ t.castSucc = Pipeline.ΦA spec0 c from rfl]
  unfold Pipeline.ΦA
  rw [scopedRest0_eq]
  simp only [← owns_whole]
  iintro ⟨⟨⟨S0, S1, S2, S3, S4, S5, S6⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_body c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, S0, S1, S2, S3, S4, S5, S6⟩
  isplitl [S0 S1 S2 S3 S4 S5 S6 Hr]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The call of the body at point `t` is the body on the point's buffers. -/
theorem defs₀_row (t : Fin cfg0.N) : defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1000000 in
/-- Every execution ends, with the pipeline's arrays at what the proof data say, every other unscoped buffer as the region found it, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hΦ := fun _ _ => rfl)

/-- The same without the counters. -/
theorem run : θ_run defs (onTc (τ := τ) (main (F := F))) (s₀ m ρ) (Pipeline.FramePost cfgs (dats m) 0 (V m)) :=
  (θ_run defs _ _).mono (fun _ h => h.1) (run_quiescent m ρ)

/-- The frame at any floats: the argument arrays end unchanged, and every counter is zero at the end. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_quiescent m ρ))

end Cert.KernelIdeal.Attn
-- ==== Proof.Ffn.Body.lean ====
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

/-! # The feed-forward body as a function of its blocks -/

/-- A chunk of 256 columns of both projections, for some rows: the value half beside the gate half. -/
def both (xb : FVec F S1024x1024 .bf16) (wu wg : Vec F S1x1024x256 .bf16) : FVec F S1024x512 .f32 :=
  matmul dot_S1024x1024_S1024x512_S1024x512_1_0_0_1_n_n none xb
    (concatenate S1024x512 1 [⟨S1024x256, shapeCast S1024x256 wu shapeCasts_S1x1024x256_S1024x256⟩, ⟨S1024x256, shapeCast S1024x256 wg shapeCasts_S1x1024x256_S1024x256⟩] concatenates_S1024x256_S1024x256_S1024x512_d1)
    (constant S1024x512 .f32 0x00000000#32)

/-- The value half of a chunk. -/
def val (xb : FVec F S1024x1024 .bf16) (wu wg : Vec F S1x1024x256 .bf16) : FVec F S1024x256 .f32 :=
  extractStridedSlice S1024x256 ![0, 0] (both xb wu wg) slices_S1024x512_o0_0_S1024x256

/-- The gate half of a chunk. -/
def gate (xb : FVec F S1024x1024 .bf16) (wu wg : Vec F S1x1024x256 .bf16) : FVec F S1024x256 .f32 :=
  extractStridedSlice S1024x256 ![0, 256] (both xb wu wg) slices_S1024x512_o0_256_S1024x256

/-- The gate half for the eight rows beside the block: row 0 is the row before it, row 1 the row after it. -/
def edge (xe : FVec F S8x1024 .bf16) (wu wg : Vec F S1x1024x256 .bf16) : FVec F S8x256 .f32 :=
  extractStridedSlice S8x256 ![0, 256]
    (matmul dot_S8x1024_S1024x512_S8x512_1_0_0_1_n_n none xe
      (concatenate S1024x512 1 [⟨S1024x256, shapeCast S1024x256 wu shapeCasts_S1x1024x256_S1024x256⟩, ⟨S1024x256, shapeCast S1024x256 wg shapeCasts_S1x1024x256_S1024x256⟩] concatenates_S1024x256_S1024x256_S1024x512_d1)
      (constant S8x512 .f32 0x00000000#32))
    slices_S8x512_o0_256_S8x256

/-- The gates moved down one row, the row before the block on top. -/
def above (g : FVec F S1024x256 .f32) (ge : FVec F S8x256 .f32) : FVec F S1024x256 .f32 :=
  select (cmpi .eq (iota .tc S1024x256 32 [0] iota_S1024x256_d0_w32) (broadcast S1024x256 0#32))
    (broadcastTo S1024x256 (shapeCast S1x256 (extractStridedSlice S1x256 ![0, 0] ge slices_S8x256_o0_0_S1x256) shapeCasts_S1x256_S1x256) broadcasts_S1x256_S1024x256)
    (dynamicRotate 0 1#32 none g rotates_S1024x256_d0)

/-- The gates moved up one row, the row after the block at the bottom. -/
def below (g : FVec F S1024x256 .f32) (ge : FVec F S8x256 .f32) : FVec F S1024x256 .f32 :=
  select (cmpi .eq (iota .tc S1024x256 32 [0] iota_S1024x256_d0_w32) (broadcast S1024x256 1023#32))
    (broadcastTo S1024x256 (shapeCast S1x256 (extractStridedSlice S1x256 ![1, 0] ge slices_S8x256_o1_0_S1x256) shapeCasts_S1x256_S1x256) broadcasts_S1x256_S1024x256)
    (dynamicRotate 0 1023#32 none g rotates_S1024x256_d0)

/-- The convolution of the gates over three rows, with its bias. -/
def conv (g : FVec F S1024x256 .f32) (ge : FVec F S8x256 .f32) (cw : FVec F S3x256 .f32) (cb : Vec F S1x1x256 .f32) : FVec F S1024x256 .f32 :=
  addf (addf (addf (mulf (above g ge) (broadcastTo S1024x256 (extractStridedSlice S1x256 ![0, 0] cw slices_S3x256_o0_0_S1x256) broadcasts_S1x256_S1024x256))
      (mulf g (broadcastTo S1024x256 (extractStridedSlice S1x256 ![1, 0] cw slices_S3x256_o1_0_S1x256) broadcasts_S1x256_S1024x256)))
      (mulf (below g ge) (broadcastTo S1024x256 (extractStridedSlice S1x256 ![2, 0] cw slices_S3x256_o2_0_S1x256) broadcasts_S1x256_S1024x256)))
    (broadcastTo S1024x256 (shapeCast S1x256 cb shapeCasts_S1x1x256_S1x256) broadcasts_S1x256_S1024x256)

/-- A chunk of the hidden rows. -/
def chunk (xb : FVec F S1024x1024 .bf16) (xe : FVec F S8x1024 .bf16) (wu wg : Vec F S1x1024x256 .bf16) (cw : FVec F S3x256 .f32) (cb : Vec F S1x1x256 .f32) : FVec F S1024x256 .bf16 :=
  shapeCast S1024x256 (truncf .bf16 (mulf (mulf (conv (gate xb wu wg) (edge xe wu wg) cw cb) (logistic (conv (gate xb wu wg) (edge xe wu wg) cw cb))) (val xb wu wg)) bitsLt_bf16_f32) shapeCasts_S1024x256_S1024x256

/-- The hidden rows, chunk by chunk. -/
def hidL (xb : FVec F S1024x1024 .bf16) (xe : FVec F S8x1024 .bf16) (w : Vec F S1x1024x5632 .bf16) (cw : Vec F S1x3x2816 .f32) (cb : Vec F S1x1x2816 .f32) : List (View.Piece (Elt F) S1024x2816 .bf16) :=
  [⟨Rect.unit ![0, 2560] ![1024, 256] inb_S1024x2816_S1024x256_0_2560, chunk xb xe (View.ld w (Rect.unit ![0, 0, 2560] ![1, 1024, 256] inb_S1x1024x5632_S1x1024x256_0_0_2560)) (View.ld w (Rect.unit ![0, 0, 5376] ![1, 1024, 256] inb_S1x1024x5632_S1x1024x256_0_0_5376))
      (extractStridedSlice S3x256 ![0, 2560] (shapeCast S3x2816 cw shapeCasts_S1x3x2816_S3x2816) slices_S3x2816_o0_2560_S3x256) (View.ld cb (Rect.unit ![0, 0, 2560] ![1, 1, 256] inb_S1x1x2816_S1x1x256_0_0_2560))⟩,
    ⟨Rect.unit ![0, 2304] ![1024, 256] inb_S1024x2816_S1024x256_0_2304, chunk xb xe (View.ld w (Rect.unit ![0, 0, 2304] ![1, 1024, 256] inb_S1x1024x5632_S1x1024x256_0_0_2304)) (View.ld w (Rect.unit ![0, 0, 5120] ![1, 1024, 256] inb_S1x1024x5632_S1x1024x256_0_0_5120))
      (extractStridedSlice S3x256 ![0, 2304] (shapeCast S3x2816 cw shapeCasts_S1x3x2816_S3x2816) slices_S3x2816_o0_2304_S3x256) (View.ld cb (Rect.unit ![0, 0, 2304] ![1, 1, 256] inb_S1x1x2816_S1x1x256_0_0_2304))⟩,
    ⟨Rect.unit ![0, 2048] ![1024, 256] inb_S1024x2816_S1024x256_0_2048, chunk xb xe (View.ld w (Rect.unit ![0, 0, 2048] ![1, 1024, 256] inb_S1x1024x5632_S1x1024x256_0_0_2048)) (View.ld w (Rect.unit ![0, 0, 4864] ![1, 1024, 256] inb_S1x1024x5632_S1x1024x256_0_0_4864))
      (extractStridedSlice S3x256 ![0, 2048] (shapeCast S3x2816 cw shapeCasts_S1x3x2816_S3x2816) slices_S3x2816_o0_2048_S3x256) (View.ld cb (Rect.unit ![0, 0, 2048] ![1, 1, 256] inb_S1x1x2816_S1x1x256_0_0_2048))⟩,
    ⟨Rect.unit ![0, 1792] ![1024, 256] inb_S1024x2816_S1024x256_0_1792, chunk xb xe (View.ld w (Rect.unit ![0, 0, 1792] ![1, 1024, 256] inb_S1x1024x5632_S1x1024x256_0_0_1792)) (View.ld w (Rect.unit ![0, 0, 4608] ![1, 1024, 256] inb_S1x1024x5632_S1x1024x256_0_0_4608))
      (extractStridedSlice S3x256 ![0, 1792] (shapeCast S3x2816 cw shapeCasts_S1x3x2816_S3x2816) slices_S3x2816_o0_1792_S3x256) (View.ld cb (Rect.unit ![0, 0, 1792] ![1, 1, 256] inb_S1x1x2816_S1x1x256_0_0_1792))⟩,
    ⟨Rect.unit ![0, 1536] ![1024, 256] inb_S1024x2816_S1024x256_0_1536, chunk xb xe (View.ld w (Rect.unit ![0, 0, 1536] ![1, 1024, 256] inb_S1x1024x5632_S1x1024x256_0_0_1536)) (View.ld w (Rect.unit ![0, 0, 4352] ![1, 1024, 256] inb_S1x1024x5632_S1x1024x256_0_0_4352))
      (extractStridedSlice S3x256 ![0, 1536] (shapeCast S3x2816 cw shapeCasts_S1x3x2816_S3x2816) slices_S3x2816_o0_1536_S3x256) (View.ld cb (Rect.unit ![0, 0, 1536] ![1, 1, 256] inb_S1x1x2816_S1x1x256_0_0_1536))⟩,
    ⟨Rect.unit ![0, 1280] ![1024, 256] inb_S1024x2816_S1024x256_0_1280, chunk xb xe (View.ld w (Rect.unit ![0, 0, 1280] ![1, 1024, 256] inb_S1x1024x5632_S1x1024x256_0_0_1280)) (View.ld w (Rect.unit ![0, 0, 4096] ![1, 1024, 256] inb_S1x1024x5632_S1x1024x256_0_0_4096))
      (extractStridedSlice S3x256 ![0, 1280] (shapeCast S3x2816 cw shapeCasts_S1x3x2816_S3x2816) slices_S3x2816_o0_1280_S3x256) (View.ld cb (Rect.unit ![0, 0, 1280] ![1, 1, 256] inb_S1x1x2816_S1x1x256_0_0_1280))⟩,
    ⟨Rect.unit ![0, 1024] ![1024, 256] inb_S1024x2816_S1024x256_0_1024, chunk xb xe (View.ld w (Rect.unit ![0, 0, 1024] ![1, 1024, 256] inb_S1x1024x5632_S1x1024x256_0_0_1024)) (View.ld w (Rect.unit ![0, 0, 3840] ![1, 1024, 256] inb_S1x1024x5632_S1x1024x256_0_0_3840))
      (extractStridedSlice S3x256 ![0, 1024] (shapeCast S3x2816 cw shapeCasts_S1x3x2816_S3x2816) slices_S3x2816_o0_1024_S3x256) (View.ld cb (Rect.unit ![0, 0, 1024] ![1, 1, 256] inb_S1x1x2816_S1x1x256_0_0_1024))⟩,
    ⟨Rect.unit ![0, 768] ![1024, 256] inb_S1024x2816_S1024x256_0_768, chunk xb xe (View.ld w (Rect.unit ![0, 0, 768] ![1, 1024, 256] inb_S1x1024x5632_S1x1024x256_0_0_768)) (View.ld w (Rect.unit ![0, 0, 3584] ![1, 1024, 256] inb_S1x1024x5632_S1x1024x256_0_0_3584))
      (extractStridedSlice S3x256 ![0, 768] (shapeCast S3x2816 cw shapeCasts_S1x3x2816_S3x2816) slices_S3x2816_o0_768_S3x256) (View.ld cb (Rect.unit ![0, 0, 768] ![1, 1, 256] inb_S1x1x2816_S1x1x256_0_0_768))⟩,
    ⟨Rect.unit ![0, 512] ![1024, 256] inb_S1024x2816_S1024x256_0_512, chunk xb xe (View.ld w (Rect.unit ![0, 0, 512] ![1, 1024, 256] inb_S1x1024x5632_S1x1024x256_0_0_512)) (View.ld w (Rect.unit ![0, 0, 3328] ![1, 1024, 256] inb_S1x1024x5632_S1x1024x256_0_0_3328))
      (extractStridedSlice S3x256 ![0, 512] (shapeCast S3x2816 cw shapeCasts_S1x3x2816_S3x2816) slices_S3x2816_o0_512_S3x256) (View.ld cb (Rect.unit ![0, 0, 512] ![1, 1, 256] inb_S1x1x2816_S1x1x256_0_0_512))⟩,
    ⟨Rect.unit ![0, 256] ![1024, 256] inb_S1024x2816_S1024x256_0_256, chunk xb xe (View.ld w (Rect.unit ![0, 0, 256] ![1, 1024, 256] inb_S1x1024x5632_S1x1024x256_0_0_256)) (View.ld w (Rect.unit ![0, 0, 3072] ![1, 1024, 256] inb_S1x1024x5632_S1x1024x256_0_0_3072))
      (extractStridedSlice S3x256 ![0, 256] (shapeCast S3x2816 cw shapeCasts_S1x3x2816_S3x2816) slices_S3x2816_o0_256_S3x256) (View.ld cb (Rect.unit ![0, 0, 256] ![1, 1, 256] inb_S1x1x2816_S1x1x256_0_0_256))⟩,
    ⟨Rect.unit ![0, 0] ![1024, 256] inb_S1024x2816_S1024x256_0_0, chunk xb xe (View.ld w (Rect.unit ![0, 0, 0] ![1, 1024, 256] inb_S1x1024x5632_S1x1024x256_0_0_0)) (View.ld w (Rect.unit ![0, 0, 2816] ![1, 1024, 256] inb_S1x1024x5632_S1x1024x256_0_0_2816))
      (extractStridedSlice S3x256 ![0, 0] (shapeCast S3x2816 cw shapeCasts_S1x3x2816_S3x2816) slices_S3x2816_o0_0_S3x256) (View.ld cb (Rect.unit ![0, 0, 0] ![1, 1, 256] inb_S1x1x2816_S1x1x256_0_0_0))⟩]

/-- A half block plus its feed-forward rows, before the normalization. -/
def pre (x : FVec F S512x1024 .f32) (h : Vec F S512x2816 .bf16) (wo : Vec F S1x2816x1024 .bf16) : FVec F S512x1024 .f32 :=
  addf (mulf (broadcast S512x1024 (Scalar.ofBits .f32 0x3FB504F3#32)) x)
    (matmul dot_S512x2816_S2816x1024_S512x1024_1_0_0_1_n_n none h (shapeCast S2816x1024 wo shapeCasts_S1x2816x1024_S2816x1024) (constant S512x1024 .f32 0x00000000#32))

/-- Each row less its mean. -/
def centred (z : FVec F S512x1024 .f32) : FVec F S512x1024 .f32 :=
  subf z (broadcastTo S512x1024 (divf (shapeCast S512x1 (multiReduction .add [1] S512 z 0x00000000#32 reduces_S512x1024_S512 (.inl rfl) rfl) shapeCasts_S512_S512x1) (broadcast S512x1 (Scalar.ofBits .f32 0x44800000#32))) broadcasts_S512x1_S512x1024)

/-- The normalization of the rows of a half block. -/
def normed (z : FVec F S512x1024 .f32) (g b : FVec F S3x1024 .f32) : FVec F S512x1024 .f32 :=
  addf (mulf (mulf (centred z) (broadcastTo S512x1024 (rsqrt (addf (divf (shapeCast S512x1 (multiReduction .add [1] S512 (mulf (centred z) (centred z)) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024))
      (broadcastTo S512x1024 (extractStridedSlice S1x1024 ![2, 0] g slices_S3x1024_o2_0_S1x1024) broadcasts_S1x1024_S512x1024))
    (broadcastTo S512x1024 (extractStridedSlice S1x1024 ![2, 0] b slices_S3x1024_o2_0_S1x1024) broadcasts_S1x1024_S512x1024)

/-- The block's number within its sequence, as the body computes it. -/
def rem8 (i : grid0.Coords) : BitVec 32 :=
  Scalar.select (Scalar.andi (Scalar.xori (Scalar.cmpi .slt (Scalar.remsi (BitVec.ofNat 32 (i 0).val) 8#32) 0#32) 0#1) (Scalar.cmpi .ne (Scalar.remsi (BitVec.ofNat 32 (i 0).val) 8#32) 0#32))
    (Scalar.addi (Scalar.remsi (BitVec.ofNat 32 (i 0).val) 8#32) 8#32) (Scalar.remsi (BitVec.ofNat 32 (i 0).val) 8#32)

/-- Whether a block has a block of its own sequence before it, as the body computes it. -/
def prevBit (i : grid0.Coords) : BitVec 1 := Scalar.cmpi .ne (rem8 i) 0#32
/-- Whether a block has a block of its own sequence after it. -/
def nextBit (i : grid0.Coords) : BitVec 1 := Scalar.cmpi .ne (rem8 i) 7#32

/-- The rows beside a block. -/
def edges (i : grid0.Coords) (xp xn : Vec F S8x1024 .f32) : FVec F S8x1024 .bf16 :=
  k0_pay5 (prevBit i) (nextBit i) (View.ld xp (Rect.unit ![7, 0] ![1, 1024] inb_S8x1024_S1x1024_7_0)) (FloatOps.ofBits .f32 0#32)
    (View.ld xn (Rect.unit ![0, 0] ![1, 1024] inb_S8x1024_S1x1024_0_0))

/-- The blocks of a grid point. -/
structure Blocks (F : FTy → Type) where
  x0 : Vec F S1024x1024 .f32
  x1 : Vec F S8x1024 .f32
  x2 : Vec F S8x1024 .f32
  x3 : Vec F S1x1024x5632 .bf16
  x4 : Vec F S1x3x2816 .f32
  x5 : Vec F S1x1x2816 .f32
  x6 : Vec F S1x2816x1024 .bf16
  x7 : Vec F S1x3x1024 .f32
  x8 : Vec F S1x3x1024 .f32

section
variable (i : grid0.Coords) (B : Blocks F)

/-- The pieces of the hidden rows at a grid point. -/
def hidAt : List (View.Piece (Elt F) S1024x2816 .bf16) :=
  hidL (truncf .bf16 B.x0 bitsLt_bf16_f32) (edges i B.x1 B.x2) B.x3 B.x4 B.x5

/-- The lower and the upper half of the hidden rows, as the body loads them. -/
def hidLo : Vec F S512x2816 .bf16 :=
  (View.whole cc0_scratch0).readCov (hidAt i B) (Rect.unit (s := S1024x2816) ![0, 0] ![512, 2816] inb_S1024x2816_S512x2816_0_0).toLoadRect
@[inherit_doc hidLo]
def hidHi : Vec F S512x2816 .bf16 :=
  (View.whole cc0_scratch0).readCov (hidAt i B) (Rect.unit (s := S1024x2816) ![512, 0] ![512, 2816] inb_S1024x2816_S512x2816_512_0).toLoadRect

/-- The normalized rows of the two halves of a block. -/
def result : Vec F S1024x1024 .f32 := View.canon
    [⟨Rect.unit ![512, 0] ![512, 1024] inb_S1024x1024_S512x1024_512_0,
        normed (pre (extractStridedSlice S512x1024 ![512, 0] B.x0 slices_S1024x1024_o512_0_S512x1024)
          (hidHi i B) B.x6)
          (shapeCast S3x1024 B.x7 shapeCasts_S1x3x1024_S3x1024) (shapeCast S3x1024 B.x8 shapeCasts_S1x3x1024_S3x1024)⟩,
      ⟨Rect.unit ![0, 0] ![512, 1024] inb_S1024x1024_S512x1024_0_0,
        normed (pre (extractStridedSlice S512x1024 ![0, 0] B.x0 slices_S1024x1024_o0_0_S512x1024)
          (hidLo i B) B.x6)
          (shapeCast S3x1024 B.x7 shapeCasts_S1x3x1024_S3x1024) (shapeCast S3x1024 B.x8 shapeCasts_S1x3x1024_S3x1024)⟩]

end

variable (m : (ℓ : Loc nD τ sig) → Buf (Elt F) ℓ)

/-- The blocks the kernel reads at a grid point. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t⟩

/-- What the body leaves at a grid point: the normalized rows of its two halves. -/
theorem after_eq (c : Dev nD) (t : Fin cfg0.N) : (dats m 0 c).after 9 t = result (grid0.coords t) (blocks m c t) := by
  rw [after0_9]
  unfold outsAt0
  frame_out
  dsimp only [blocks, result, hidLo, hidHi, hidAt, hidL, chunk, conv, above, below, gate, val, both, edge, edges, prevBit, nextBit, rem8, normed, centred, pre,
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85]

end Cert.Kernel2Ideal.Ffn
-- ==== Proof.Ffn.Spec.lean ====
module

public import Idealize.ShloMosaic.Lib.Pointwise

@[expose] public section

noncomputable section

namespace Ffn

open Idealize.ShloMosaic

/-! # The feed-forward layer in sums: the gated rows, the convolution over three of them, the normalization -/

/-- A row times a column of the gate half of the first weights. -/
def gateDot (x : Fin 1024 → EReal) (w : Fin 1024 → Fin 5632 → EReal) (f : Fin 2816) : EReal := ∑ d, x d * w d ⟨2816 + f.val, by omega⟩

/-- A row times a column of the value half of the first weights. -/
def valDot (x : Fin 1024 → EReal) (w : Fin 1024 → Fin 5632 → EReal) (f : Fin 2816) : EReal := ∑ d, x d * w d ⟨f.val, by omega⟩

/-- A row of zeros has no gate. -/
theorem gateDot_zero (w : Fin 1024 → Fin 5632 → EReal) (f : Fin 2816) : gateDot (fun _ => 0) w f = 0 :=
  Finset.sum_eq_zero fun _ _ => zero_mul _

/-- Three neighbouring gates, the convolution's weights and bias, and the value: one hidden entry. -/
def mix (up mid dn c0 c1 c2 b v : EReal) : EReal :=
  (up * c0 + mid * c1 + dn * c2 + b) * Ideal.logistic (up * c0 + mid * c1 + dn * c2 + b) * v

/-- A hidden entry of row `R` of the two sequences of 8192 rows: a sequence's first row has no row before it, its last none after it. -/
def hidden (x : Fin 16384 → Fin 1024 → EReal) (w : Fin 1024 → Fin 5632 → EReal) (cw : Fin 3 → Fin 2816 → EReal) (cb : Fin 2816 → EReal)
    (R : Fin 16384) (f : Fin 2816) : EReal :=
  mix (if R.val % 8192 = 0 then 0 else gateDot (x ⟨R.val - 1, by omega⟩) w f) (gateDot (x R) w f)
    (if h : R.val % 8192 = 8191 then 0 else gateDot (x ⟨R.val + 1, by omega⟩) w f)
    (cw 0 f) (cw 1 f) (cw 2 f) (cb f) (valDot (x R) w f)

/-- A row scaled by the residual's weight, plus its hidden row through the second weights. -/
def residual (x : Fin 1024 → EReal) (h : Fin 2816 → EReal) (wo : Fin 2816 → Fin 1024 → EReal) (e : Fin 1024) : EReal :=
  Ideal.ofBits .f32 1068827891#32 * x e + ∑ f, h f * wo f e

/-- The mean of a row. -/
def mean (z : Fin 1024 → EReal) : EReal := Ideal.div (∑ e, z e) (Ideal.ofBits .f32 1149239296#32)

/-- The normalization of a row, at an entry. -/
def norm (z : Fin 1024 → EReal) (g b : EReal) (e : Fin 1024) : EReal :=
  (z e - mean z) * Ideal.rsqrt (mean (fun e => (z e - mean z) * (z e - mean z)) + Ideal.ofBits .f32 925353388#32) * g + b

/-- The feed-forward layer, at row `R` and column `e`. -/
def out (x : Fin 16384 → Fin 1024 → EReal) (w : Fin 1024 → Fin 5632 → EReal) (cw : Fin 3 → Fin 2816 → EReal) (cb : Fin 2816 → EReal)
    (wo : Fin 2816 → Fin 1024 → EReal) (g b : Fin 1024 → EReal) (R : Fin 16384) (e : Fin 1024) : EReal :=
  norm (residual (x R) (hidden x w cw cb R) wo) (g e) (b e) e

end Ffn

end
-- ==== Proof.Ffn.Hid.lean ====
module

public import proofs.«01_k».proof.Proof.Ffn.Body
public import proofs.«01_k».proof.Proof.Ffn.Spec

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

/-! # The hidden rows of a block, as sums -/

/-- The hidden rows of a block with the row `lo` before it and the row `hi` after it. -/
def hidden (x : FVec Ideal S1024x1024 .bf16) (lo hi : Fin 1024 → EReal) (w : Vec Ideal S1x1024x5632 .bf16) (cw : Vec Ideal S1x3x2816 .f32)
    (cb : Vec Ideal S1x1x2816 .f32) (r : Fin 1024) (f : Fin 2816) : EReal :=
  _root_.Ffn.mix (if r.val = 0 then _root_.Ffn.gateDot lo (fun d e => w (ix3 0 d e)) f else _root_.Ffn.gateDot (fun d => x (ix2 ⟨r.val - 1, by omega⟩ d)) (fun d e => w (ix3 0 d e)) f)
    (_root_.Ffn.gateDot (fun d => x (ix2 r d)) (fun d e => w (ix3 0 d e)) f)
    (if h : r.val = 1023 then _root_.Ffn.gateDot hi (fun d e => w (ix3 0 d e)) f else _root_.Ffn.gateDot (fun d => x (ix2 ⟨r.val + 1, by omega⟩ d)) (fun d e => w (ix3 0 d e)) f)
    (cw (ix3 0 0 f)) (cw (ix3 0 1 f)) (cw (ix3 0 2 f)) (cb (ix3 0 0 f)) (_root_.Ffn.valDot (fun d => x (ix2 r d)) (fun d e => w (ix3 0 d e)) f)

theorem val_apply (xb : FVec Ideal S1024x1024 .bf16) (wu wg : Vec Ideal S1x1024x256 .bf16) (j0 : Fin 1024) (j1 : Fin 256) :
    val xb wu wg (ix2 j0 j1) = ∑ d, xb (ix2 j0 d) * wu (ix3 0 d j1) := by
  pointwise [val, both]

theorem gate_apply (xb : FVec Ideal S1024x1024 .bf16) (wu wg : Vec Ideal S1x1024x256 .bf16) (j0 : Fin 1024) (j1 : Fin 256) :
    gate xb wu wg (ix2 j0 j1) = ∑ d, xb (ix2 j0 d) * wg (ix3 0 d j1) := by
  pointwise [gate, both]

theorem edge_apply (xb : FVec Ideal S8x1024 .bf16) (wu wg : Vec Ideal S1x1024x256 .bf16) (j0 : Fin 8) (j1 : Fin 256) :
    edge xb wu wg (ix2 j0 j1) = ∑ d, xb (ix2 j0 d) * wg (ix3 0 d j1) := by
  pointwise [edge]

/-- Comparing a row number with a literal row, as the body does. -/
theorem select_row {α : Type} (r : Fin 1024) (k : ℕ) (hk : k < 1024) (a b : α) :
    Scalar.select (IntOp.cmpi .eq (BitVec.ofNat 32 r.val) (BitVec.ofNat 32 k)) a b = if r.val = k then a else b := by
  have h : (BitVec.ofNat 32 r.val = BitVec.ofNat 32 k) ↔ r.val = k := by
    rw [← BitVec.toNat_inj]; simp only [BitVec.toNat_ofNat]
    rw [Nat.mod_eq_of_lt (by omega), Nat.mod_eq_of_lt (by omega)]
  by_cases e : r.val = k
  · rw [if_pos e]; simp [Scalar.select, IntOp.cmpi, e]
  · rw [if_neg e]
    have : ¬ (BitVec.ofNat 32 r.val = BitVec.ofNat 32 k) := fun q => e (h.mp q)
    simp [Scalar.select, IntOp.cmpi, beq_eq_false_iff_ne.mpr this]

theorem above_apply (g : FVec Ideal S1024x256 .f32) (ge : FVec Ideal S8x256 .f32) (j0 : Fin 1024) (j1 : Fin 256) :
    above g ge (ix2 j0 j1) = if j0.val = 0 then ge (ix2 0 j1) else g (ix2 ⟨j0.val - 1, by omega⟩ j1) := by
  pointwise [above]
  rw [select_row j0 0 (by omega)]
  split
  · rfl
  · congr 3; omega

theorem below_apply (g : FVec Ideal S1024x256 .f32) (ge : FVec Ideal S8x256 .f32) (j0 : Fin 1024) (j1 : Fin 256) :
    below g ge (ix2 j0 j1) = if h : j0.val = 1023 then ge (ix2 1 j1) else g (ix2 ⟨j0.val + 1, by omega⟩ j1) := by
  pointwise [below]
  rw [select_row j0 1023 (by omega)]
  split
  · rfl
  · congr 3; omega

/-- A chunk at an entry: columns `o` to `o + 256` of the hidden rows. -/
theorem chunk_apply (x : FVec Ideal S1024x1024 .bf16) (xe : FVec Ideal S8x1024 .bf16) (wu wg : Vec Ideal S1x1024x256 .bf16) (cwc : FVec Ideal S3x256 .f32)
    (cbc : Vec Ideal S1x1x256 .f32) (w : Vec Ideal S1x1024x5632 .bf16) (cw : Vec Ideal S1x3x2816 .f32) (cb : Vec Ideal S1x1x2816 .f32)
    (j0 : Fin 1024) (j1 : Fin 256) (f : Fin 2816)
    (hu : ∀ d, wu (ix3 0 d j1) = w (ix3 0 d ⟨f.val, by omega⟩)) (hg : ∀ d, wg (ix3 0 d j1) = w (ix3 0 d ⟨2816 + f.val, by omega⟩))
    (hc : ∀ k, cwc (ix2 k j1) = cw (ix3 0 k f)) (hb : cbc (ix3 0 0 j1) = cb (ix3 0 0 f)) :
    chunk x xe wu wg cwc cbc (ix2 j0 j1) = hidden x (fun d => xe (ix2 0 d)) (fun d => xe (ix2 1 d)) w cw cb j0 f := by
  have ha : conv (gate x wu wg) (edge xe wu wg) cwc cbc (ix2 j0 j1)
      = (if j0.val = 0 then _root_.Ffn.gateDot (fun d => xe (ix2 0 d)) (fun d e => w (ix3 0 d e)) f else _root_.Ffn.gateDot (fun d => x (ix2 ⟨j0.val - 1, by omega⟩ d)) (fun d e => w (ix3 0 d e)) f) * cw (ix3 0 0 f)
        + _root_.Ffn.gateDot (fun d => x (ix2 j0 d)) (fun d e => w (ix3 0 d e)) f * cw (ix3 0 1 f)
        + (if h : j0.val = 1023 then _root_.Ffn.gateDot (fun d => xe (ix2 1 d)) (fun d e => w (ix3 0 d e)) f else _root_.Ffn.gateDot (fun d => x (ix2 ⟨j0.val + 1, by omega⟩ d)) (fun d e => w (ix3 0 d e)) f) * cw (ix3 0 2 f)
        + cb (ix3 0 0 f) := by
    pointwise [conv]
    rw [above_apply, below_apply, edge_apply, edge_apply, gate_apply, gate_apply, hb]
    simp only [gate_apply, hg, hc, _root_.Ffn.gateDot]
  pointwise [chunk]
  rw [ha, val_apply]
  simp only [hu]
  rfl

/-- The hidden rows of a block are the chunks stored, all of them. -/
theorem canon_hidL (x : FVec Ideal S1024x1024 .bf16) (xe : FVec Ideal S8x1024 .bf16) (w : Vec Ideal S1x1024x5632 .bf16) (cw : Vec Ideal S1x3x2816 .f32)
    (cb : Vec Ideal S1x1x2816 .f32) (r : Fin 1024) (f : Fin 2816) :
    View.canon (hidL x xe w cw cb) (ix2 r f) = hidden x (fun d => xe (ix2 0 d)) (fun d => xe (ix2 1 d)) w cw cb r f := by
  unfold hidL
  canon_tiles z h
  all_goals
    idx_vars z
    obtain rfl : r = z0 := Fin.ext h0
    have h1' : f.val = _ := h1
    refine chunk_apply _ _ _ _ _ _ w cw cb r z1 f (fun d => ?_) (fun d => ?_) (fun k => ?_) ?_
    all_goals
      pointwise []
      congr 2
      simp only [Fin.ext_iff]
      omega

theorem pre_apply (x : FVec Ideal S512x1024 .f32) (h : Vec Ideal S512x2816 .bf16) (wo : Vec Ideal S1x2816x1024 .bf16) (r : Fin 512) (e : Fin 1024) :
    pre x h wo (ix2 r e) = _root_.Ffn.residual (fun e => x (ix2 r e)) (fun f => h (ix2 r f)) (fun f e => wo (ix3 0 f e)) e := by
  pointwise [pre]
  rfl

theorem normed_apply (z : FVec Ideal S512x1024 .f32) (g b : FVec Ideal S3x1024 .f32) (r : Fin 512) (e : Fin 1024) :
    normed z g b (ix2 r e) = _root_.Ffn.norm (fun e => z (ix2 r e)) (g (ix2 2 e)) (b (ix2 2 e)) e := by
  pointwise [normed, centred]
  rfl

/-- A half block at an entry: the normalized residual of its row. -/
theorem half_apply (x : FVec Ideal S512x1024 .f32) (h : Vec Ideal S512x2816 .bf16) (wo : Vec Ideal S1x2816x1024 .bf16) (g b : Vec Ideal S1x3x1024 .f32)
    (r : Fin 512) (e : Fin 1024) (X : Fin 1024 → EReal) (H : Fin 2816 → EReal) (hx : ∀ e, x (ix2 r e) = X e) (hh : ∀ f, h (ix2 r f) = H f) :
    normed (pre x h wo) (shapeCast S3x1024 g shapeCasts_S1x3x1024_S3x1024) (shapeCast S3x1024 b shapeCasts_S1x3x1024_S3x1024) (ix2 r e)
      = _root_.Ffn.norm (_root_.Ffn.residual X H (fun f e => wo (ix3 0 f e))) (g (ix3 0 2 e)) (b (ix3 0 2 e)) e := by
  rw [normed_apply]
  simp only [pre_apply, hx, hh]
  pointwise []

/-- The rows beside a block, at an entry. -/
theorem edges_apply (i : grid0.Coords) (xp xn : Vec Ideal S8x1024 .f32) (d : Fin 1024) :
    edges i xp xn (ix2 0 d) = Scalar.select (prevBit i) (xp (ix2 7 d)) (0 : EReal)
      ∧ edges i xp xn (ix2 1 d) = Scalar.select (nextBit i) (xn (ix2 0 d)) (0 : EReal) := by
  constructor <;> pointwise [edges, k0_pay5] <;> rfl

variable (i : grid0.Coords) (B : Blocks Ideal)

theorem cover (x : FVec Ideal S1024x1024 .bf16) (xe : FVec Ideal S8x1024 .bf16) (w : Vec Ideal S1x1024x5632 .bf16) (cw : Vec Ideal S1x3x2816 .f32)
    (cb : Vec Ideal S1x1x2816 .f32) (y : S1024x2816.Idx) : ∃ p ∈ hidL x xe w cw cb, y ∈ p.1.set := by
  unfold hidL
  exact View.cover_of_tiled_head _ _ _ (by rfl) y

/-- The hidden entries of a grid point. -/
def hidPt (r : Fin 1024) (f : Fin 2816) : EReal :=
  hidden B.x0 (fun d => edges i B.x1 B.x2 (ix2 0 d)) (fun d => edges i B.x1 B.x2 (ix2 1 d)) B.x3 B.x4 B.x5 r f

theorem hidLo_apply (r : Fin 512) (f : Fin 2816) : hidLo i B (ix2 r f) = hidPt i B ⟨r.val, by omega⟩ f := by
  unfold hidLo hidAt
  rw [View.readCov_eq_canon_ld _ _ _ (cover _ _ _ _ _)]
  have e : (Rect.unit (s := S1024x2816) ![0, 0] ![512, 2816] inb_S1024x2816_S512x2816_0_0).idx (ix2 r f) = ix2 ⟨r.val, by omega⟩ f := by
    funext a; apply Fin.ext; match a with
    | 0 => show 0 + 1 * r.val = r.val; omega
    | 1 => show 0 + 1 * f.val = f.val; omega
  rw [View.ld_apply]
  exact (congrArg _ e).trans (canon_hidL _ _ _ _ _ _ _)

theorem hidHi_apply (r : Fin 512) (f : Fin 2816) : hidHi i B (ix2 r f) = hidPt i B ⟨512 + r.val, by omega⟩ f := by
  unfold hidHi hidAt
  rw [View.readCov_eq_canon_ld _ _ _ (cover _ _ _ _ _)]
  have e : (Rect.unit (s := S1024x2816) ![512, 0] ![512, 2816] inb_S1024x2816_S512x2816_512_0).idx (ix2 r f) = ix2 ⟨512 + r.val, by omega⟩ f := by
    funext a; apply Fin.ext; match a with
    | 0 => show 512 + 1 * r.val = 512 + r.val; omega
    | 1 => show 0 + 1 * f.val = f.val; omega
  rw [View.ld_apply]
  exact (congrArg _ e).trans (canon_hidL _ _ _ _ _ _ _)

/-- What the body leaves at a grid point, at an entry. -/
theorem result_apply (r : Fin 1024) (e : Fin 1024) : result i B (ix2 r e)
    = _root_.Ffn.norm (_root_.Ffn.residual (fun e => B.x0 (ix2 r e)) (hidPt i B r) (fun f e => B.x6 (ix3 0 f e)))
        (B.x7 (ix3 0 2 e)) (B.x8 (ix3 0 2 e)) e := by
  unfold result
  canon_tiles z h
  · idx_vars z
    obtain rfl : e = z1 := Fin.ext h1
    obtain rfl : r = ⟨512 + z0.val, Nat.add_lt_add_left z0.isLt 512⟩ := Fin.ext h0
    refine half_apply _ _ _ _ _ _ _ _ _ (fun e' => ?_) (fun f => hidHi_apply i B z0 f)
    pointwise []
  · idx_vars z
    obtain rfl : e = z1 := Fin.ext h1
    obtain rfl : r = ⟨z0.val, Nat.lt_trans z0.isLt (by decide)⟩ := Fin.ext h0
    refine half_apply _ _ _ _ _ _ _ _ _ (fun e' => ?_) (fun f => hidLo_apply i B z0 f)
    pointwise []

end Cert.Kernel2Ideal.Ffn
-- ==== Proof.Ffn.Output.lean ====
module

public import proofs.«01_k».proof.Proof.Ffn.Hid

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

/-! # The blocks of a grid point are rows of the arrays; the result array -/

/-- The blocks of a point: its own rows, and the eight rows that end before them and begin after them. -/
theorem idx (t : Fin cfg0.N) : win0_0.index t = ![t.val, 0] ∧ win0_1.index t = ![128 * t.val - 1, 0] ∧ win0_2.index t = ![min (128 * t.val + 128) 2047, 0]
      ∧ win0_9.index t = ![t.val, 0] := by
  revert t; decide +kernel

/-- The weights' blocks are the first of their stacks at every point. -/
theorem idxP (t : Fin cfg0.N) : win0_3.index t = ![0, 0, 0] ∧ win0_4.index t = ![0, 0, 0] ∧ win0_5.index t = ![0, 0, 0]
      ∧ win0_6.index t = ![0, 0, 0] ∧ win0_7.index t = ![0, 0, 0] ∧ win0_8.index t = ![0, 0, 0] := by
  revert t; decide +kernel

/-- The body's test for a block before it: false at the first block of a sequence only. -/
theorem prev_eq (t : Fin cfg0.N) : prevBit (grid0.coords t) = if t.val % 8 = 0 then 0#1 else 1#1 := by
  revert t; decide +kernel

/-- The body's test for a block after it: false at the last block of a sequence only. -/
theorem next_eq (t : Fin cfg0.N) : nextBit (grid0.coords t) = if t.val % 8 = 7 then 0#1 else 1#1 := by
  revert t; decide +kernel

theorem pt_lt (t : Fin cfg0.N) : t.val < 16 := t.isLt

variable (m : (ℓ : Loc nD τ sig) → Buf (Elt Ideal) ℓ)

theorem row_lt (t : Fin cfg0.N) (r : Fin 1024) : 1024 * t.val + r.val < 16384 := by
  have := pt_lt t
  omega

/-- The rows of the input. -/
def xs (c : Dev nD) (R : Fin 16384) (d : Fin 1024) : EReal := m ((c.tc : Thread nD τ).loc main_arg0) (ix2 R d)

theorem blk_0 (c : Dev nD) (t : Fin cfg0.N) (r : Fin 1024) (d : Fin 1024) : iblk m c 0 t (ix2 r d) = xs m c ⟨1024 * t.val + r.val, row_lt t r⟩ d := by
  unfold xs
  blk_ext [iblk, V, idx t]

/-- The row before a point's rows. -/
theorem blk_1 (c : Dev nD) (t : Fin cfg0.N) (ht : ¬ t.val % 8 = 0) (d : Fin 1024) :
    iblk m c 1 t (ix2 7 d) = xs m c ⟨1024 * t.val - 1, by have := pt_lt t; omega⟩ d := by
  have := pt_lt t
  unfold xs
  blk_ext [iblk, V, idx t]

/-- The row after a point's rows. -/
theorem blk_2 (c : Dev nD) (t : Fin cfg0.N) (ht : ¬ t.val % 8 = 7) (d : Fin 1024) :
    iblk m c 2 t (ix2 0 d) = xs m c ⟨1024 * t.val + 1024, by have := pt_lt t; omega⟩ d := by
  have := pt_lt t
  unfold xs
  blk_ext [iblk, V, idx t]

theorem blk_3 (c : Dev nD) (t : Fin cfg0.N) (d : Fin 1024) (e : Fin 5632) :
    iblk m c 3 t (ix3 0 d e) = m ((c.tc : Thread nD τ).loc main_arg1) (ix3 0 d e) := by
  blk_ext [iblk, V, idxP t]

theorem blk_4 (c : Dev nD) (t : Fin cfg0.N) (k : Fin 3) (f : Fin 2816) :
    iblk m c 4 t (ix3 0 k f) = m ((c.tc : Thread nD τ).loc main_arg2) (ix3 0 k f) := by
  blk_ext [iblk, V, idxP t]

theorem blk_5 (c : Dev nD) (t : Fin cfg0.N) (f : Fin 2816) : iblk m c 5 t (ix3 0 0 f) = m ((c.tc : Thread nD τ).loc main_arg3) (ix2 0 f) := by
  unfold iblk
  show StableHlo.after hostOps0 (fun b => m (c, b)) (Proc.tc.devRef main_v0) ((win0_5.blk t).view.emb (ix3 0 0 f)) = _
  have e : (win0_5.blk t).view.emb (ix3 0 0 f) = (ix3 0 0 f : S2x1x2816.Idx) := by blk_ext [idxP t]
  rw [e]
  entry_read
  pointwise

theorem blk_6 (c : Dev nD) (t : Fin cfg0.N) (f : Fin 2816) (e : Fin 1024) :
    iblk m c 6 t (ix3 0 f e) = m ((c.tc : Thread nD τ).loc main_arg4) (ix3 0 f e) := by
  blk_ext [iblk, V, idxP t]

theorem blk_7 (c : Dev nD) (t : Fin cfg0.N) (e : Fin 1024) :
    iblk m c 7 t (ix3 0 2 e) = m ((c.tc : Thread nD τ).loc main_arg5) (ix3 0 2 e) := by
  blk_ext [iblk, V, idxP t]

theorem blk_8 (c : Dev nD) (t : Fin cfg0.N) (e : Fin 1024) :
    iblk m c 8 t (ix3 0 2 e) = m ((c.tc : Thread nD τ).loc main_arg6) (ix3 0 2 e) := by
  blk_ext [iblk, V, idxP t]

/-- The hidden entries of a point's row are those of its row of the array: the neighbours' gates are zero at a sequence's ends. -/
theorem hidPt_eq (c : Dev nD) (t : Fin cfg0.N) (r : Fin 1024) (f : Fin 2816) :
    hidPt (grid0.coords t) (blocks m c t) r f = _root_.Ffn.hidden (xs m c) (fun d e => m ((c.tc : Thread nD τ).loc main_arg1) (ix3 0 d e))
      (fun k f => m ((c.tc : Thread nD τ).loc main_arg2) (ix3 0 k f)) (fun f => m ((c.tc : Thread nD τ).loc main_arg3) (ix2 0 f))
      ⟨1024 * t.val + r.val, row_lt t r⟩ f := by
  have ht := pt_lt t
  have hr := r.isLt
  unfold hidPt hidden _root_.Ffn.hidden
  simp only [blocks, blk_0, blk_3, blk_4, blk_5]
  congr 1
  · by_cases h0 : r.val = 0
    · rw [if_pos h0]
      by_cases h1 : t.val % 8 = 0
      · rw [if_pos (by omega)]
        refine Eq.trans (congrArg (fun x => _root_.Ffn.gateDot x _ f) (funext fun d => ?_)) (_root_.Ffn.gateDot_zero _ f)
        rw [(edges_apply _ _ _ d).1, prev_eq, if_pos h1]
        rfl
      · rw [if_neg (by omega)]
        refine congrArg (fun x => _root_.Ffn.gateDot x _ f) (funext fun d => ?_)
        rw [(edges_apply _ _ _ d).1, prev_eq, if_neg h1]
        refine (blk_1 m c t h1 d).trans (congrArg (fun R => xs m c R d) (Fin.ext ?_))
        show 1024 * t.val - 1 = 1024 * t.val + r.val - 1
        omega
    · rw [if_neg h0, if_neg (by omega)]
      refine congrArg (fun R => _root_.Ffn.gateDot (xs m c R) _ f) (Fin.ext ?_)
      show 1024 * t.val + (r.val - 1) = 1024 * t.val + r.val - 1
      omega
  · by_cases h0 : r.val = 1023
    · rw [dif_pos h0]
      by_cases h1 : t.val % 8 = 7
      · rw [dif_pos (by omega)]
        refine Eq.trans (congrArg (fun x => _root_.Ffn.gateDot x _ f) (funext fun d => ?_)) (_root_.Ffn.gateDot_zero _ f)
        rw [(edges_apply _ _ _ d).2, next_eq, if_pos h1]
        rfl
      · rw [dif_neg (by omega)]
        refine congrArg (fun x => _root_.Ffn.gateDot x _ f) (funext fun d => ?_)
        rw [(edges_apply _ _ _ d).2, next_eq, if_neg h1]
        refine (blk_2 m c t h1 d).trans (congrArg (fun R => xs m c R d) (Fin.ext ?_))
        show 1024 * t.val + 1024 = 1024 * t.val + r.val + 1
        omega
    · rw [dif_neg h0, dif_neg (by omega)]
      refine congrArg (fun R => _root_.Ffn.gateDot (xs m c R) _ f) (Fin.ext ?_)
      show 1024 * t.val + (r.val + 1) = 1024 * t.val + r.val + 1
      omega

/-- The feed-forward layer of the kernel's arguments. -/
def want (c : Dev nD) : Vec Ideal S16384x1024 .f32 := fun j =>
  _root_.Ffn.out (xs m c) (fun d e => m ((c.tc : Thread nD τ).loc main_arg1) (ix3 0 d e))
      (fun k f => m ((c.tc : Thread nD τ).loc main_arg2) (ix3 0 k f)) (fun f => m ((c.tc : Thread nD τ).loc main_arg3) (ix2 0 f))
      (fun f e => m ((c.tc : Thread nD τ).loc main_arg4) (ix3 0 f e)) (fun e => m ((c.tc : Thread nD τ).loc main_arg5) (ix3 0 2 e))
      (fun e => m ((c.tc : Thread nD τ).loc main_arg6) (ix3 0 2 e)) (j 0) (j 1)

/-- What the body leaves at a point, at an entry, is the layer's result there. -/
theorem out_at (c : Dev nD) (t : Fin cfg0.N) (r e : Fin 1024) :
    (dats m 0 c).after 9 t (ix2 r e) = want m c (ix2 ⟨1024 * t.val + r.val, row_lt t r⟩ e) := by
  rw [after_eq, result_apply, show hidPt _ _ r = _ from funext (hidPt_eq m c t r)]
  simp only [blocks, blk_0, blk_6, blk_7, blk_8]
  rfl

/-- After the run the result array is the layer's result. -/
theorem array (c : Dev nD) : (dats m 0 c).arrAt 9 cfg0.N = want m c := by
  refine (dats m 0 c).arrAt_eq_of_covers 9 _ (by decide +kernel) fun t hf y => ?_
  blk_simp
  change S1024x1024.Idx at y
  idx_vars y
  rw [out_at m c t y0 y1]
  blk_ext [idx t]

end Cert.Kernel2Ideal.Ffn
-- ==== Proof.Ffn.Ref.lean ====
module

public import proofs.«01_k».proof.Proof.Gen.Reference2Ideal.Read
public import proofs.«01_k».proof.Proof.Ffn.Spec
public import Idealize.ShloMosaic.Lib.Pointwise

@[expose] public section

set_option maxRecDepth 16384

noncomputable section

namespace Cert.Reference2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference2Ideal.Read

variable (x0 : FVec Ideal S16384x1024 .f32) (x1 : FVec Ideal S2x1024x5632 .bf16) (x2 : FVec Ideal S2x3x2816 .f32) (x3 : FVec Ideal S2x2816 .f32)
  (x4 : FVec Ideal S2x2816x1024 .bf16) (x5 x6 : FVec Ideal S2x3x1024 .f32)

/-- The rows of the input, the taken layer's weights. -/
abbrev xs (R : Fin 16384) (d : Fin 1024) : EReal := x0 (ix2 R d)
@[inherit_doc xs]
abbrev ws (d : Fin 1024) (e : Fin 5632) : EReal := x1 (ix3 0 d e)

/-- Row `s` of sequence `b`. -/
def row (b : Fin 2) (s : Fin 8192) : Fin 16384 := ⟨b.val * 8192 + s.val, by omega⟩

theorem v4_at (b : Fin 2) (s : Fin 8192) (e : Fin 5632) : val_main_v4 (F := Ideal) x0 x1 (ix3 b s e) = ∑ d, x0 (ix2 (row b s) d) * x1 (ix3 0 d e) := by
  pointwise [val_main_v4, val_main_v3, val_main_v2, val_main_v1, val_main_v0]
  rfl

theorem cst_at : val_main_cst (F := Ideal) ix0 = 0 := by
  pointwise [val_main_cst]

/-- The gates of the row before, zero at a sequence's first row. -/
theorem v9_at (b : Fin 2) (s : Fin 8192) (f : Fin 2816) : val_main_v9 (F := Ideal) x0 x1 (ix3 b s f)
    = if (row b s).val % 8192 = 0 then 0 else _root_.Ffn.gateDot (xs x0 ⟨(row b s).val - 1, by omega⟩) (ws x1) f := by
  have hr : (row b s).val = b.val * 8192 + s.val := rfl
  pointwise [val_main_v9, val_main_v8, val_main_v7, val_main_v6]
  rw [cst_at]
  by_cases h : s.val < 1
  · exact (dif_pos h).trans (if_pos (show (row b s).val % 8192 = 0 by omega)).symm
  · have hs := s.isLt
    refine ((dif_neg h).trans (v4_at _ _ _ _ _)).trans (Eq.trans ?_ (if_neg (show ¬ (row b s).val % 8192 = 0 by omega)).symm)
    refine Finset.sum_congr rfl fun d _ => ?_
    refine congrArg (fun R => x0 (ix2 R d) * _) (Fin.ext ?_)
    show b.val * 8192 + (s.val - 1) = b.val * 8192 + s.val - 1
    omega

/-- The gates of the row after, zero at a sequence's last row. -/
theorem v11_at (b : Fin 2) (s : Fin 8192) (f : Fin 2816) : val_main_v11 (F := Ideal) x0 x1 (ix3 b s f)
    = if h : (row b s).val % 8192 = 8191 then 0 else _root_.Ffn.gateDot (xs x0 ⟨(row b s).val + 1, by omega⟩) (ws x1) f := by
  have hr : (row b s).val = b.val * 8192 + s.val := rfl
  pointwise [val_main_v11, val_main_v10, val_main_v7, val_main_v6]
  rw [cst_at]
  by_cases h : s.val < 8191
  · refine ((dif_pos h).trans (v4_at _ _ _ _ _)).trans (Eq.trans ?_ (dif_neg (show ¬ (row b s).val % 8192 = 8191 by omega)).symm)
    refine Finset.sum_congr rfl fun d _ => ?_
    refine congrArg (fun R => x0 (ix2 R d) * _) (Fin.ext ?_)
    show b.val * 8192 + (1 + s.val) = b.val * 8192 + s.val + 1
    omega
  · refine (dif_neg h).trans ?_
    rw [dif_pos (show (row b s).val % 8192 = 8191 by omega)]

/-- The hidden entries. -/
theorem v35_at (b : Fin 2) (s : Fin 8192) (f : Fin 2816) : val_main_v35 (F := Ideal) x0 x1 x2 x3 (ix3 b s f)
    = _root_.Ffn.hidden (xs x0) (ws x1) (fun k f => x2 (ix3 0 k f)) (fun f => x3 (ix2 0 f)) (row b s) f := by
  have h5 : val_main_v5 (F := Ideal) x0 x1 (ix3 b s f) = _root_.Ffn.valDot (xs x0 (row b s)) (ws x1) f := by
    pointwise [val_main_v5]
    rw [v4_at]
    rfl
  have h6 : val_main_v6 (F := Ideal) x0 x1 (ix3 b s f) = _root_.Ffn.gateDot (xs x0 (row b s)) (ws x1) f := by
    pointwise [val_main_v6]
    rw [v4_at]
    rfl
  have h33 : val_main_v33 (F := Ideal) x0 x1 x2 x3 (ix3 b s f) = val_main_v9 (F := Ideal) x0 x1 (ix3 b s f) * x2 (ix3 0 0 f)
      + val_main_v6 (F := Ideal) x0 x1 (ix3 b s f) * x2 (ix3 0 1 f) + val_main_v11 (F := Ideal) x0 x1 (ix3 b s f) * x2 (ix3 0 2 f) + x3 (ix2 0 f) := by
    pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33]
  pointwise [val_main_v34, val_main_v35, val_main_call0_v5, val_main_call0_v4, val_main_call0_v3, val_main_call0_v2, val_main_call0_v1, val_main_call0_v0, val_main_call0_cst, val_main_call0_cst_0]
  rw [h33, h5, h6, v9_at, v11_at]
  rfl

theorem v42_at (b : Fin 2) (s : Fin 8192) (e : Fin 1024) : val_main_v42 (F := Ideal) x0 x1 x2 x3 x4 (ix3 b s e)
    = _root_.Ffn.residual (xs x0 (row b s)) (_root_.Ffn.hidden (xs x0) (ws x1) (fun k f => x2 (ix3 0 k f)) (fun f => x3 (ix2 0 f)) (row b s))
        (fun f e => x4 (ix3 0 f e)) e := by
  pointwise [val_main_v36, val_main_v37, val_main_v38, val_main_v39, val_main_v40, val_main_v41, val_main_v42, val_main_v0, val_main_cst_0]
  simp only [v35_at]
  rfl

/-- The reference is the feed-forward layer. -/
theorem result_at (R : Fin 16384) (e : Fin 1024) : val_main_v71 (F := Ideal) x0 x1 x2 x3 x4 x5 x6 (ix2 R e)
    = _root_.Ffn.out (xs x0) (ws x1) (fun k f => x2 (ix3 0 k f)) (fun f => x3 (ix2 0 f)) (fun f e => x4 (ix3 0 f e)) (fun e => x5 (ix3 0 2 e))
        (fun e => x6 (ix3 0 2 e)) R e := by
  pointwise [val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_cst_1, val_main_cst_2, val_main_cst_3, val_main_cst_4, val_main_cst_5]
  have hR : row ⟨R.val / 8192, by omega⟩ ⟨R.val % 8192, by omega⟩ = R := Fin.ext (by show R.val / 8192 * 8192 + R.val % 8192 = R.val; omega)
  simp only [v42_at, hR, zero_add]
  rfl

end Cert.Reference2Ideal.Ffn
-- ==== Proof.Ffn.Run.lean ====
/- The claims of the feed-forward call: its frames and its value at the reals. -/
module

public import proofs.«01_k».proof.Defs
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ffn.Output
public import proofs.«01_k».proof.Proof.Ffn.Ref
public import Idealize.ShloMosaic.Lib.Claim
public import Idealize.ShloMosaic.Adequacy
public import Idealize.ShloMosaic.Init

@[expose] public section

noncomputable section

namespace Cert.Proof.Ffn

open Idealize.ShloMosaic Idealize.ShloMosaic.TcCoe Idealize.ShloMosaic.Tactic Idealize.SL.Sem

/-- The printed feed-forward body table is the idealized one: no operation was rewritten. -/
theorem bodies_eq : Kernel2.defs₀ (F := Bits) = Kernel2Ideal.defs₀ (F := Bits) := by
  unfold Kernel2.defs₀ Kernel2Ideal.defs₀
  refine congrArg _ (funext fun l => funext fun x => ?_)
  match l, x with
  | 0, (t, s) => rfl
  | ⟨_ + 1, h⟩, _ => exact absurd h (Nat.not_lt.2 (Nat.le_add_left _ _))

/-- The printed table of all bodies of the feed-forward program is the idealized one. -/
theorem defs_eq : Kernel2.defs (F := Bits) = Kernel2Ideal.defs (F := Bits) :=
  congrArg (Pipeline.defs (Kernel2.pcfgs (F := Bits))) bodies_eq

/-- The printed feed-forward call's frame, from the frame over any floats. -/
theorem frame_kernel : Cert.quiescent_Kernel2 := by
  intro m ρ _
  rw [defs_eq]
  exact Cert.Kernel2Ideal.Gen.frame (F := Bits) m ρ

/-- The idealized feed-forward call's frame. -/
theorem frame_kernelIdeal : Cert.quiescent_Kernel2Ideal := fun m ρ _ => Cert.Kernel2Ideal.Gen.frame (F := Ideal) m ρ

/-- The frame of the feed-forward reference, from its run. -/
theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's last value, as one array: the feed-forward layer of its rows. -/
theorem reference_eq (x0 : FVec Ideal Reference2Ideal.S16384x1024 .f32) (x1 : FVec Ideal Reference2Ideal.S2x1024x5632 .bf16)
    (x2 : FVec Ideal Reference2Ideal.S2x3x2816 .f32) (x3 : FVec Ideal Reference2Ideal.S2x2816 .f32)
    (x4 : FVec Ideal Reference2Ideal.S2x2816x1024 .bf16) (x5 x6 : FVec Ideal Reference2Ideal.S2x3x1024 .f32) :
    Cert.Reference2Ideal.Read.val_main_v71 (F := Ideal) x0 x1 x2 x3 x4 x5 x6 = fun j =>
      Ffn.out (fun R d => x0 (ix2 R d)) (fun d e => x1 (ix3 0 d e)) (fun k f => x2 (ix3 0 k f)) (fun f => x3 (ix2 0 f))
        (fun f e => x4 (ix3 0 f e)) (fun e => x5 (ix3 0 2 e)) (fun e => x6 (ix3 0 2 e)) (j 0) (j 1) := by
  funext j
  idx_vars j
  exact Cert.Reference2Ideal.Ffn.result_at x0 x1 x2 x3 x4 x5 x6 _ _

/-- At the reals the feed-forward call computes the reference's result. -/
theorem algebraic : Cert.algebraic_Kernel2Ideal_Reference2Ideal := by
  intro m g m' g' _ hagree
  refine ⟨Cert.Kernel2Ideal.Ffn.want m, ?_, ?_⟩
  · run_from (Cert.Kernel2Ideal.Value.run_blocks m g)
    exact Cert.Kernel2Ideal.Ffn.array m c
  · refine (θ_run _ _ _).mono (fun _ h c => ⟨(h c).1.trans ?_, (h c).2⟩) (Cert.Reference2Ideal.Value.run m' g')
    rw [Cert.Reference2Ideal.Read.val_main_v71_eq, reference_eq]
    obtain ⟨h0, h1, h2, h3, h4, h5, h6⟩ := hagree c
    rw [h0, h1, h2, h3, h4, h5, h6]
    rfl

end Cert.Proof.Ffn

end
-- ==== Proof.Ffn1.Output.lean ====
module

public import proofs.«01_k».proof.Proof.Ffn.Hid
public import proofs.«01_k».proof.Proof.Gen.Kernel3Ideal.Value

@[expose] public section

set_option maxRecDepth 16384

noncomputable section

namespace Cert.Kernel3Ideal.Ffn1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen
open Cert.Kernel2Ideal.Ffn (Blocks result result_apply hidPt edges edges_apply prevBit nextBit)

/-! # The blocks of a grid point are rows of the arrays; the result array -/

/-- The blocks of a point: its own rows, and the eight rows that end before them and begin after them. -/
theorem idx (t : Fin cfg0.N) : win0_0.index t = ![t.val, 0] ∧ win0_1.index t = ![128 * t.val - 1, 0] ∧ win0_2.index t = ![min (128 * t.val + 128) 2047, 0]
      ∧ win0_9.index t = ![t.val, 0] := by
  revert t; decide +kernel

/-- The weights' blocks are the second of their stacks at every point. -/
theorem idxP (t : Fin cfg0.N) : win0_3.index t = ![1, 0, 0] ∧ win0_4.index t = ![1, 0, 0] ∧ win0_5.index t = ![1, 0, 0]
      ∧ win0_6.index t = ![1, 0, 0] ∧ win0_7.index t = ![1, 0, 0] ∧ win0_8.index t = ![1, 0, 0] := by
  revert t; decide +kernel

/-- The body's test for a block before it: false at the first block of a sequence only. -/
theorem prev_eq (t : Fin cfg0.N) : prevBit (grid0.coords t) = if t.val % 8 = 0 then 0#1 else 1#1 := by
  revert t; decide +kernel

/-- The body's test for a block after it: false at the last block of a sequence only. -/
theorem next_eq (t : Fin cfg0.N) : nextBit (grid0.coords t) = if t.val % 8 = 7 then 0#1 else 1#1 := by
  revert t; decide +kernel

theorem pt_lt (t : Fin cfg0.N) : t.val < 16 := t.isLt

variable (m : (ℓ : Loc nD τ sig) → Buf (Elt Ideal) ℓ)

/-- The blocks the kernel reads at a grid point. -/
def blocks (c : Dev nD) (t : Fin cfg0.N) : Blocks Ideal :=
  ⟨iblk m c 0 t, iblk m c 1 t, iblk m c 2 t, iblk m c 3 t, iblk m c 4 t, iblk m c 5 t, iblk m c 6 t, iblk m c 7 t, iblk m c 8 t⟩

set_option maxHeartbeats 4000000 in
/-- The body of this layer's call computes what the first layer's does, of its own blocks. -/
theorem after_eq (c : Dev nD) (t : Fin cfg0.N) : (dats m 0 c).after 9 t = result (grid0.coords t) (blocks m c t) := by
  rw [after0_9]
  unfold outsAt0
  frame_out
  rfl

theorem row_lt (t : Fin cfg0.N) (r : Fin 1024) : 1024 * t.val + r.val < 16384 := by
  have := pt_lt t
  omega

/-- The rows of the input. -/
def xs (c : Dev nD) (R : Fin 16384) (d : Fin 1024) : EReal := m ((c.tc : Thread nD τ).loc main_arg0) (ix2 R d)

theorem blk_0 (c : Dev nD) (t : Fin cfg0.N) (r : Fin 1024) (d : Fin 1024) : iblk m c 0 t (ix2 r d) = xs m c ⟨1024 * t.val + r.val, row_lt t r⟩ d := by
  unfold xs
  blk_ext [iblk, V, idx t]

/-- The row before a point's rows. -/
theorem blk_1 (c : Dev nD) (t : Fin cfg0.N) (ht : ¬ t.val % 8 = 0) (d : Fin 1024) :
    iblk m c 1 t (ix2 7 d) = xs m c ⟨1024 * t.val - 1, by have := pt_lt t; omega⟩ d := by
  have := pt_lt t
  unfold xs
  blk_ext [iblk, V, idx t]

/-- The row after a point's rows. -/
theorem blk_2 (c : Dev nD) (t : Fin cfg0.N) (ht : ¬ t.val % 8 = 7) (d : Fin 1024) :
    iblk m c 2 t (ix2 0 d) = xs m c ⟨1024 * t.val + 1024, by have := pt_lt t; omega⟩ d := by
  have := pt_lt t
  unfold xs
  blk_ext [iblk, V, idx t]

theorem blk_3 (c : Dev nD) (t : Fin cfg0.N) (d : Fin 1024) (e : Fin 5632) :
    iblk m c 3 t (ix3 0 d e) = m ((c.tc : Thread nD τ).loc main_arg1) (ix3 1 d e) := by
  blk_ext [iblk, V, idxP t]

theorem blk_4 (c : Dev nD) (t : Fin cfg0.N) (k : Fin 3) (f : Fin 2816) :
    iblk m c 4 t (ix3 0 k f) = m ((c.tc : Thread nD τ).loc main_arg2) (ix3 1 k f) := by
  blk_ext [iblk, V, idxP t]

theorem blk_5 (c : Dev nD) (t : Fin cfg0.N) (f : Fin 2816) : iblk m c 5 t (ix3 0 0 f) = m ((c.tc : Thread nD τ).loc main_arg3) (ix2 1 f) := by
  unfold iblk
  show StableHlo.after hostOps0 (fun b => m (c, b)) (Proc.tc.devRef main_v0) ((win0_5.blk t).view.emb (ix3 0 0 f)) = _
  have e : (win0_5.blk t).view.emb (ix3 0 0 f) = (ix3 1 0 f : S2x1x2816.Idx) := by blk_ext [idxP t]
  rw [e]
  entry_read
  pointwise

theorem blk_6 (c : Dev nD) (t : Fin cfg0.N) (f : Fin 2816) (e : Fin 1024) :
    iblk m c 6 t (ix3 0 f e) = m ((c.tc : Thread nD τ).loc main_arg4) (ix3 1 f e) := by
  blk_ext [iblk, V, idxP t]

theorem blk_7 (c : Dev nD) (t : Fin cfg0.N) (e : Fin 1024) :
    iblk m c 7 t (ix3 0 2 e) = m ((c.tc : Thread nD τ).loc main_arg5) (ix3 1 2 e) := by
  blk_ext [iblk, V, idxP t]

theorem blk_8 (c : Dev nD) (t : Fin cfg0.N) (e : Fin 1024) :
    iblk m c 8 t (ix3 0 2 e) = m ((c.tc : Thread nD τ).loc main_arg6) (ix3 1 2 e) := by
  blk_ext [iblk, V, idxP t]

/-- The hidden entries of a point's row are those of its row of the array: the neighbours' gates are zero at a sequence's ends. -/
theorem hidPt_eq (c : Dev nD) (t : Fin cfg0.N) (r : Fin 1024) (f : Fin 2816) :
    hidPt (grid0.coords t) (blocks m c t) r f = _root_.Ffn.hidden (xs m c) (fun d e => m ((c.tc : Thread nD τ).loc main_arg1) (ix3 1 d e))
      (fun k f => m ((c.tc : Thread nD τ).loc main_arg2) (ix3 1 k f)) (fun f => m ((c.tc : Thread nD τ).loc main_arg3) (ix2 1 f))
      ⟨1024 * t.val + r.val, row_lt t r⟩ f := by
  have ht := pt_lt t
  have hr := r.isLt
  unfold hidPt Cert.Kernel2Ideal.Ffn.hidden _root_.Ffn.hidden
  simp only [blocks, blk_0, blk_3, blk_4, blk_5]
  congr 1
  · by_cases h0 : r.val = 0
    · rw [if_pos h0]
      by_cases h1 : t.val % 8 = 0
      · rw [if_pos (by omega)]
        refine Eq.trans (congrArg (fun x => _root_.Ffn.gateDot x _ f) (funext fun d => ?_)) (_root_.Ffn.gateDot_zero _ f)
        rw [(edges_apply _ _ _ d).1, prev_eq, if_pos h1]
        rfl
      · rw [if_neg (by omega)]
        refine congrArg (fun x => _root_.Ffn.gateDot x _ f) (funext fun d => ?_)
        rw [(edges_apply _ _ _ d).1, prev_eq, if_neg h1]
        refine (blk_1 m c t h1 d).trans (congrArg (fun R => xs m c R d) (Fin.ext ?_))
        show 1024 * t.val - 1 = 1024 * t.val + r.val - 1
        omega
    · rw [if_neg h0, if_neg (by omega)]
      refine congrArg (fun R => _root_.Ffn.gateDot (xs m c R) _ f) (Fin.ext ?_)
      show 1024 * t.val + (r.val - 1) = 1024 * t.val + r.val - 1
      omega
  · by_cases h0 : r.val = 1023
    · rw [dif_pos h0]
      by_cases h1 : t.val % 8 = 7
      · rw [dif_pos (by omega)]
        refine Eq.trans (congrArg (fun x => _root_.Ffn.gateDot x _ f) (funext fun d => ?_)) (_root_.Ffn.gateDot_zero _ f)
        rw [(edges_apply _ _ _ d).2, next_eq, if_pos h1]
        rfl
      · rw [dif_neg (by omega)]
        refine congrArg (fun x => _root_.Ffn.gateDot x _ f) (funext fun d => ?_)
        rw [(edges_apply _ _ _ d).2, next_eq, if_neg h1]
        refine (blk_2 m c t h1 d).trans (congrArg (fun R => xs m c R d) (Fin.ext ?_))
        show 1024 * t.val + 1024 = 1024 * t.val + r.val + 1
        omega
    · rw [dif_neg h0, dif_neg (by omega)]
      refine congrArg (fun R => _root_.Ffn.gateDot (xs m c R) _ f) (Fin.ext ?_)
      show 1024 * t.val + (r.val + 1) = 1024 * t.val + r.val + 1
      omega

/-- The feed-forward layer of the kernel's arguments. -/
def want (c : Dev nD) : Vec Ideal S16384x1024 .f32 := fun j =>
  _root_.Ffn.out (xs m c) (fun d e => m ((c.tc : Thread nD τ).loc main_arg1) (ix3 1 d e))
      (fun k f => m ((c.tc : Thread nD τ).loc main_arg2) (ix3 1 k f)) (fun f => m ((c.tc : Thread nD τ).loc main_arg3) (ix2 1 f))
      (fun f e => m ((c.tc : Thread nD τ).loc main_arg4) (ix3 1 f e)) (fun e => m ((c.tc : Thread nD τ).loc main_arg5) (ix3 1 2 e))
      (fun e => m ((c.tc : Thread nD τ).loc main_arg6) (ix3 1 2 e)) (j 0) (j 1)

/-- What the body leaves at a point, at an entry, is the layer's result there. -/
theorem out_at (c : Dev nD) (t : Fin cfg0.N) (r e : Fin 1024) :
    (dats m 0 c).after 9 t (ix2 r e) = want m c (ix2 ⟨1024 * t.val + r.val, row_lt t r⟩ e) := by
  rw [after_eq, result_apply, show hidPt _ _ r = _ from funext (hidPt_eq m c t r)]
  simp only [blocks, blk_0, blk_6, blk_7, blk_8]
  rfl

/-- After the run the result array is the layer's result. -/
theorem array (c : Dev nD) : (dats m 0 c).arrAt 9 cfg0.N = want m c := by
  refine (dats m 0 c).arrAt_eq_of_covers 9 _ (by decide +kernel) fun t hf y => ?_
  blk_simp
  change S1024x1024.Idx at y
  idx_vars y
  rw [out_at m c t y0 y1]
  blk_ext [idx t]

end Cert.Kernel3Ideal.Ffn1
-- ==== Proof.Ffn1.Ref.lean ====
module

public import proofs.«01_k».proof.Proof.Gen.Reference3Ideal.Read
public import proofs.«01_k».proof.Proof.Ffn.Spec
public import Idealize.ShloMosaic.Lib.Pointwise

@[expose] public section

set_option maxRecDepth 16384

noncomputable section

namespace Cert.Reference3Ideal.Ffn1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference3Ideal.Read

variable (x0 : FVec Ideal S16384x1024 .f32) (x1 : FVec Ideal S2x1024x5632 .bf16) (x2 : FVec Ideal S2x3x2816 .f32) (x3 : FVec Ideal S2x2816 .f32)
  (x4 : FVec Ideal S2x2816x1024 .bf16) (x5 x6 : FVec Ideal S2x3x1024 .f32)

/-- The rows of the input, the taken layer's weights. -/
abbrev xs (R : Fin 16384) (d : Fin 1024) : EReal := x0 (ix2 R d)
@[inherit_doc xs]
abbrev ws (d : Fin 1024) (e : Fin 5632) : EReal := x1 (ix3 1 d e)

/-- Row `s` of sequence `b`. -/
def row (b : Fin 2) (s : Fin 8192) : Fin 16384 := ⟨b.val * 8192 + s.val, by omega⟩

theorem v4_at (b : Fin 2) (s : Fin 8192) (e : Fin 5632) : val_main_v4 (F := Ideal) x0 x1 (ix3 b s e) = ∑ d, x0 (ix2 (row b s) d) * x1 (ix3 1 d e) := by
  pointwise [val_main_v4, val_main_v3, val_main_v2, val_main_v1, val_main_v0]
  rfl

theorem cst_at : val_main_cst (F := Ideal) ix0 = 0 := by
  pointwise [val_main_cst]

/-- The gates of the row before, zero at a sequence's first row. -/
theorem v9_at (b : Fin 2) (s : Fin 8192) (f : Fin 2816) : val_main_v9 (F := Ideal) x0 x1 (ix3 b s f)
    = if (row b s).val % 8192 = 0 then 0 else _root_.Ffn.gateDot (xs x0 ⟨(row b s).val - 1, by omega⟩) (ws x1) f := by
  have hr : (row b s).val = b.val * 8192 + s.val := rfl
  pointwise [val_main_v9, val_main_v8, val_main_v7, val_main_v6]
  rw [cst_at]
  by_cases h : s.val < 1
  · exact (dif_pos h).trans (if_pos (show (row b s).val % 8192 = 0 by omega)).symm
  · have hs := s.isLt
    refine ((dif_neg h).trans (v4_at _ _ _ _ _)).trans (Eq.trans ?_ (if_neg (show ¬ (row b s).val % 8192 = 0 by omega)).symm)
    refine Finset.sum_congr rfl fun d _ => ?_
    refine congrArg (fun R => x0 (ix2 R d) * _) (Fin.ext ?_)
    show b.val * 8192 + (s.val - 1) = b.val * 8192 + s.val - 1
    omega

/-- The gates of the row after, zero at a sequence's last row. -/
theorem v11_at (b : Fin 2) (s : Fin 8192) (f : Fin 2816) : val_main_v11 (F := Ideal) x0 x1 (ix3 b s f)
    = if h : (row b s).val % 8192 = 8191 then 0 else _root_.Ffn.gateDot (xs x0 ⟨(row b s).val + 1, by omega⟩) (ws x1) f := by
  have hr : (row b s).val = b.val * 8192 + s.val := rfl
  pointwise [val_main_v11, val_main_v10, val_main_v7, val_main_v6]
  rw [cst_at]
  by_cases h : s.val < 8191
  · refine ((dif_pos h).trans (v4_at _ _ _ _ _)).trans (Eq.trans ?_ (dif_neg (show ¬ (row b s).val % 8192 = 8191 by omega)).symm)
    refine Finset.sum_congr rfl fun d _ => ?_
    refine congrArg (fun R => x0 (ix2 R d) * _) (Fin.ext ?_)
    show b.val * 8192 + (1 + s.val) = b.val * 8192 + s.val + 1
    omega
  · refine (dif_neg h).trans ?_
    rw [dif_pos (show (row b s).val % 8192 = 8191 by omega)]

/-- The hidden entries. -/
theorem v35_at (b : Fin 2) (s : Fin 8192) (f : Fin 2816) : val_main_v35 (F := Ideal) x0 x1 x2 x3 (ix3 b s f)
    = _root_.Ffn.hidden (xs x0) (ws x1) (fun k f => x2 (ix3 1 k f)) (fun f => x3 (ix2 1 f)) (row b s) f := by
  have h5 : val_main_v5 (F := Ideal) x0 x1 (ix3 b s f) = _root_.Ffn.valDot (xs x0 (row b s)) (ws x1) f := by
    pointwise [val_main_v5]
    rw [v4_at]
    rfl
  have h6 : val_main_v6 (F := Ideal) x0 x1 (ix3 b s f) = _root_.Ffn.gateDot (xs x0 (row b s)) (ws x1) f := by
    pointwise [val_main_v6]
    rw [v4_at]
    rfl
  have h33 : val_main_v33 (F := Ideal) x0 x1 x2 x3 (ix3 b s f) = val_main_v9 (F := Ideal) x0 x1 (ix3 b s f) * x2 (ix3 1 0 f)
      + val_main_v6 (F := Ideal) x0 x1 (ix3 b s f) * x2 (ix3 1 1 f) + val_main_v11 (F := Ideal) x0 x1 (ix3 b s f) * x2 (ix3 1 2 f) + x3 (ix2 1 f) := by
    pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33]
  pointwise [val_main_v34, val_main_v35, val_main_call0_v5, val_main_call0_v4, val_main_call0_v3, val_main_call0_v2, val_main_call0_v1, val_main_call0_v0, val_main_call0_cst, val_main_call0_cst_0]
  rw [h33, h5, h6, v9_at, v11_at]
  rfl

theorem v42_at (b : Fin 2) (s : Fin 8192) (e : Fin 1024) : val_main_v42 (F := Ideal) x0 x1 x2 x3 x4 (ix3 b s e)
    = _root_.Ffn.residual (xs x0 (row b s)) (_root_.Ffn.hidden (xs x0) (ws x1) (fun k f => x2 (ix3 1 k f)) (fun f => x3 (ix2 1 f)) (row b s))
        (fun f e => x4 (ix3 1 f e)) e := by
  pointwise [val_main_v36, val_main_v37, val_main_v38, val_main_v39, val_main_v40, val_main_v41, val_main_v42, val_main_v0, val_main_cst_0]
  simp only [v35_at]
  rfl

/-- The reference is the feed-forward layer. -/
theorem result_at (R : Fin 16384) (e : Fin 1024) : val_main_v71 (F := Ideal) x0 x1 x2 x3 x4 x5 x6 (ix2 R e)
    = _root_.Ffn.out (xs x0) (ws x1) (fun k f => x2 (ix3 1 k f)) (fun f => x3 (ix2 1 f)) (fun f e => x4 (ix3 1 f e)) (fun e => x5 (ix3 1 2 e))
        (fun e => x6 (ix3 1 2 e)) R e := by
  pointwise [val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_cst_1, val_main_cst_2, val_main_cst_3, val_main_cst_4, val_main_cst_5]
  have hR : row ⟨R.val / 8192, by omega⟩ ⟨R.val % 8192, by omega⟩ = R := Fin.ext (by show R.val / 8192 * 8192 + R.val % 8192 = R.val; omega)
  simp only [v42_at, hR, zero_add]
  rfl

end Cert.Reference3Ideal.Ffn1
-- ==== Proof.Ffn1.Run.lean ====
/- The claims of the second layer's feed-forward call: its frames and its value at the reals. -/
module

public import proofs.«01_k».proof.Defs
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ffn1.Output
public import proofs.«01_k».proof.Proof.Ffn1.Ref
public import Idealize.ShloMosaic.Lib.Claim
public import Idealize.ShloMosaic.Adequacy
public import Idealize.ShloMosaic.Init

@[expose] public section

noncomputable section

namespace Cert.Proof.Ffn1

open Idealize.ShloMosaic Idealize.ShloMosaic.TcCoe Idealize.ShloMosaic.Tactic Idealize.SL.Sem

/-- The printed feed-forward body table is the idealized one: no operation was rewritten. -/
theorem bodies_eq : Kernel3.defs₀ (F := Bits) = Kernel3Ideal.defs₀ (F := Bits) := by
  unfold Kernel3.defs₀ Kernel3Ideal.defs₀
  refine congrArg _ (funext fun l => funext fun x => ?_)
  match l, x with
  | 0, (t, s) => rfl
  | ⟨_ + 1, h⟩, _ => exact absurd h (Nat.not_lt.2 (Nat.le_add_left _ _))

/-- The printed table of all bodies of the feed-forward program is the idealized one. -/
theorem defs_eq : Kernel3.defs (F := Bits) = Kernel3Ideal.defs (F := Bits) :=
  congrArg (Pipeline.defs (Kernel3.pcfgs (F := Bits))) bodies_eq

/-- The printed feed-forward call's frame, from the frame over any floats. -/
theorem frame_kernel : Cert.quiescent_Kernel3 := by
  intro m ρ _
  rw [defs_eq]
  exact Cert.Kernel3Ideal.Gen.frame (F := Bits) m ρ

/-- The idealized feed-forward call's frame. -/
theorem frame_kernelIdeal : Cert.quiescent_Kernel3Ideal := fun m ρ _ => Cert.Kernel3Ideal.Gen.frame (F := Ideal) m ρ

/-- The frame of the feed-forward reference, from its run. -/
theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's last value, as one array: the second feed-forward layer of its rows. -/
theorem reference_eq (x0 : FVec Ideal Reference3Ideal.S16384x1024 .f32) (x1 : FVec Ideal Reference3Ideal.S2x1024x5632 .bf16)
    (x2 : FVec Ideal Reference3Ideal.S2x3x2816 .f32) (x3 : FVec Ideal Reference3Ideal.S2x2816 .f32)
    (x4 : FVec Ideal Reference3Ideal.S2x2816x1024 .bf16) (x5 x6 : FVec Ideal Reference3Ideal.S2x3x1024 .f32) :
    Cert.Reference3Ideal.Read.val_main_v71 (F := Ideal) x0 x1 x2 x3 x4 x5 x6 = fun j =>
      Ffn.out (fun R d => x0 (ix2 R d)) (fun d e => x1 (ix3 1 d e)) (fun k f => x2 (ix3 1 k f)) (fun f => x3 (ix2 1 f))
        (fun f e => x4 (ix3 1 f e)) (fun e => x5 (ix3 1 2 e)) (fun e => x6 (ix3 1 2 e)) (j 0) (j 1) := by
  funext j
  idx_vars j
  exact Cert.Reference3Ideal.Ffn1.result_at x0 x1 x2 x3 x4 x5 x6 _ _

/-- At the reals the feed-forward call computes the reference's result. -/
theorem algebraic : Cert.algebraic_Kernel3Ideal_Reference3Ideal := by
  intro m g m' g' _ hagree
  refine ⟨Cert.Kernel3Ideal.Ffn1.want m, ?_, ?_⟩
  · run_from (Cert.Kernel3Ideal.Value.run_blocks m g)
    exact Cert.Kernel3Ideal.Ffn1.array m c
  · refine (θ_run _ _ _).mono (fun _ h c => ⟨(h c).1.trans ?_, (h c).2⟩) (Cert.Reference3Ideal.Value.run m' g')
    rw [Cert.Reference3Ideal.Read.val_main_v71_eq, reference_eq]
    obtain ⟨h0, h1, h2, h3, h4, h5, h6⟩ := hagree c
    rw [h0, h1, h2, h3, h4, h5, h6]
    rfl

end Cert.Proof.Ffn1

end
-- ==== Proof.Proj.Spec.lean ====
module

public import Idealize.ShloMosaic.Lib.Pointwise

@[expose] public section

noncomputable section

namespace Proj

open Idealize.ShloMosaic

/-! # The input projection in sums: one product of each row, rotary positions on two of its parts, gates -/

/-- A row times a column of the weights. -/
def dot (x : Fin 1024 → EReal) (w : Fin 1024 → Fin 7680 → EReal) (e : Fin 7680) : EReal := ∑ d, x d * w d e

/-- A 512-wide part of a row's product, from column `o` on. -/
def part (o : ℕ) (ho : o + 512 ≤ 7680) (x : Fin 1024 → EReal) (w : Fin 1024 → Fin 7680 → EReal) (e : Fin 512) : EReal :=
  dot x w ⟨o + e.val, by omega⟩

/-- A whole number below `2 ^ 31`, read from its 32-bit word. -/
def num (n : ℕ) : EReal := (((BitVec.ofNat 32 n).toInt : ℝ) : EReal)

/-- The angle of frequency `j` at position `s`: the position over `10000 ^ (2 j / 64)`. -/
def angle (s : Fin 8192) (j : Fin 32) : EReal :=
  num s.val * Ideal.pow (Ideal.ofBits .f32 0x461C4000#32)
    (Ideal.div (-num j.val * Ideal.ofBits .f32 0x40000000#32) (Ideal.ofBits .f32 0x42800000#32))

/-- Column `e`'s frequency: the two halves of a 64-wide head share 32 of them. -/
def freq (e : Fin 512) : Fin 32 := ⟨e.val % 32, by omega⟩

/-- Eight 64-wide heads, each turned by its position: the first half of a head with the second, frequency by frequency. -/
def rot (y : Fin 512 → EReal) (s : Fin 8192) (e : Fin 512) : EReal :=
  if h : e.val % 64 < 32 then y e * Ideal.cos (angle s (freq e)) - y ⟨e.val + 32, by omega⟩ * Ideal.sin (angle s (freq e))
  else y e * Ideal.cos (angle s (freq e)) + y ⟨e.val - 32, by omega⟩ * Ideal.sin (angle s (freq e))

/-- The query scale. -/
def scale : EReal := Ideal.ofBits .f32 0x3E000000#32

/-- The queries of the differential attention: turned, then scaled. -/
def query (x : Fin 1024 → EReal) (w : Fin 1024 → Fin 7680 → EReal) (s : Fin 8192) (e : Fin 512) : EReal :=
  rot (part 0 (by decide) x w) s e * scale

/-- The keys of the differential attention: turned. -/
def key (x : Fin 1024 → EReal) (w : Fin 1024 → Fin 7680 → EReal) (s : Fin 8192) (e : Fin 512) : EReal :=
  rot (part 512 (by decide) x w) s e

/-- A gate of a branch. -/
def gate (x : Fin 1024 → EReal) (w : Fin 1024 → Fin 7680 → EReal) (e : Fin 3072) : EReal :=
  Ideal.logistic (dot x w ⟨4608 + e.val, by omega⟩)

/-- The position of row `R` in its sequence of 8192 rows. -/
def pos (R : Fin 16384) : Fin 8192 := ⟨R.val % 8192, by omega⟩

/-- The column that a column is turned with. -/
def partner (e : Fin 512) : Fin 512 := if h : e.val % 64 < 32 then ⟨e.val + 32, by omega⟩ else ⟨e.val - 32, by omega⟩

/-- The sine of column `e`, negative in the first half of a head. -/
def signed (s : Fin 8192) (e : Fin 512) : EReal := if e.val % 64 < 32 then -Ideal.sin (angle s (freq e)) else Ideal.sin (angle s (freq e))

theorem scale_eq : scale = ((1 / 8 : ℝ) : EReal) := by
  unfold scale
  simp [Ideal.ofBits, Ideal.ieee]
  rw [← EReal.coe_mul]
  norm_num

/-- Turning with a signed sine. -/
theorem rot_eq (y : Fin 512 → EReal) (s : Fin 8192) (e : Fin 512) :
    y e * Ideal.cos (angle s (freq e)) + y (partner e) * signed s e = rot y s e := by
  unfold partner signed rot
  by_cases h : e.val % 64 < 32
  · rw [dif_pos h, if_pos h, dif_pos h, mul_neg, sub_eq_add_neg]
  · rw [dif_neg h, if_neg h, dif_neg h]

/-- The scale may be in the cosines and sines: it is a positive real, so it distributes over any two summands. -/
theorem rot_scaled (y : Fin 512 → EReal) (s : Fin 8192) (e : Fin 512) :
    y e * (Ideal.cos (angle s (freq e)) * scale) + y (partner e) * (signed s e * scale) = rot y s e * scale := by
  rw [← rot_eq, ← mul_assoc, ← mul_assoc]
  refine (EReal.right_distrib_of_nonneg_of_ne_top ?_ ?_ _ _).symm
  · rw [scale_eq]; exact EReal.coe_nonneg.2 (by norm_num)
  · rw [scale_eq]; exact EReal.coe_ne_top _

end Proj

end
-- ==== Proof.Proj.Body.lean ====
module

public import proofs.«01_k».proof.Proof.Gen.Kernel4Ideal.Value
public import proofs.«01_k».proof.Proof.Proj.Spec
public import proofs.«01_k».proof.Proof.Ffn.Spec
public import Idealize.ShloMosaic.Lib.Pointwise
public import Idealize.ShloMosaic.Lib.Pipeline.ValueKit

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

/-! # The projection's body as a function of its blocks -/

/-- Each row less its mean. -/
def centred (z : FVec F S512x1024 .f32) : FVec F S512x1024 .f32 :=
  subf z (broadcastTo S512x1024 (divf (shapeCast S512x1 (multiReduction .add [1] S512 z 0x00000000#32 reduces_S512x1024_S512 (.inl rfl) rfl) shapeCasts_S512_S512x1) (broadcast S512x1 (Scalar.ofBits .f32 0x44800000#32))) broadcasts_S512x1_S512x1024)

/-- The normalization of the embedded rows of a block. -/
def normed (z : FVec F S512x1024 .f32) (g b : Vec F S1x1024 .f32) : FVec F S512x1024 .f32 :=
  addf (mulf (mulf (centred z) (broadcastTo S512x1024 (rsqrt (addf (divf (shapeCast S512x1 (multiReduction .add [1] S512 (mulf (centred z) (centred z)) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024))
      (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- A block of rows times 512 columns of the weights. -/
def prod (x : FVec F S512x1024 .bf16) (w : Vec F S1x1024x512 .bf16) : FVec F S512x512 .f32 :=
  matmul dot_S512x1024_S1024x512_S512x512_1_0_0_1_n_n none x (shapeCast S1024x512 w shapeCasts_S1x1024x512_S1024x512) (constant S512x512 .f32 0x00000000#32)

/-- A lane's number within its head, as the body computes it. -/
def lane : IVec S512x128 32 := remsi (iota .tc S512x128 32 [1] iota_S512x128_d1_w32) (broadcast S512x128 (Scalar.select (Scalar.cmpi .eq 64#32 0#32) 1#32 64#32))

/-- The lanes in the first half of their head, as the body computes them. -/
def first : IVec S512x128 1 :=
  cmpi .slt
    (select
      (andi (xori (cmpi .slt lane (broadcast S512x128 0#32)) (broadcastTo S512x128 (broadcast S512x128 (Scalar.cmpi .slt (Scalar.select (Scalar.cmpi .eq 64#32 0#32) 1#32 64#32) 0#32)) broadcasts_S512x128_S512x128))
        (cmpi .ne lane (broadcast S512x128 0#32)))
      (addi lane (broadcast S512x128 (Scalar.select (Scalar.cmpi .eq 64#32 0#32) 1#32 64#32))) lane)
    (broadcast S512x128 32#32)

/-- Two heads side by side, turned: cosines times the lanes, signed sines times their partners. -/
def turn (y cs sn : FVec F S512x128 .f32) : FVec F S512x128 .f32 :=
  addf (mulf y cs) (mulf (select first (dynamicRotate 1 96#32 none y rotates_S512x128_d1) (dynamicRotate 1 32#32 none y rotates_S512x128_d1)) sn)

/-- Eight heads, turned two by two. -/
def turned (y : FVec F S512x512 .f32) (cs sn : FVec F S512x128 .f32) : FVec F S512x512 .bf16 :=
  truncf .bf16 (concatenate S512x512 1 [⟨S512x128, turn (extractStridedSlice S512x128 ![0, 0] y slices_S512x512_o0_0_S512x128) cs sn⟩,
    ⟨S512x128, turn (extractStridedSlice S512x128 ![0, 128] y slices_S512x512_o0_128_S512x128) cs sn⟩,
    ⟨S512x128, turn (extractStridedSlice S512x128 ![0, 256] y slices_S512x512_o0_256_S512x128) cs sn⟩,
    ⟨S512x128, turn (extractStridedSlice S512x128 ![0, 384] y slices_S512x512_o0_384_S512x128) cs sn⟩] concatenates_S512x128_S512x128_S512x128_S512x128_S512x512_d1) bitsLt_bf16_f32

/-- The gates of a block of rows. -/
def gates (x : FVec F S512x1024 .bf16) (w : Vec F S1x1024x3072 .bf16) : FVec F S512x3072 .bf16 :=
  truncf .bf16 (logistic (matmul dot_S512x1024_S1024x3072_S512x3072_1_0_0_1_n_n none x (shapeCast S1024x3072 w shapeCasts_S1x1024x3072_S1024x3072) (constant S512x3072 .f32 0x00000000#32))) bitsLt_bf16_f32

/-! ## The pieces at an index -/

theorem normed_apply (z : FVec Ideal S512x1024 .f32) (g b : Vec Ideal S1x1024 .f32) (r : Fin 512) (e : Fin 1024) :
    normed z g b (ix2 r e) = _root_.Ffn.norm (fun e => z (ix2 r e)) (g (ix2 0 e)) (b (ix2 0 e)) e := by
  pointwise [normed, centred]
  rfl

theorem prod_apply (x : FVec Ideal S512x1024 .bf16) (w : Vec Ideal S1x1024x512 .bf16) (r e : Fin 512) :
    prod x w (ix2 r e) = ∑ d, x (ix2 r d) * w (ix3 0 d e) := by
  pointwise [prod]

theorem gates_apply (x : FVec Ideal S512x1024 .bf16) (w : Vec Ideal S1x1024x3072 .bf16) (r : Fin 512) (e : Fin 3072) :
    gates x w (ix2 r e) = Ideal.logistic (∑ d, x (ix2 r d) * w (ix3 0 d e)) := by
  pointwise [gates]

/-- The first half of a head, by the lane's number. -/
theorem first_apply (r : Fin 512) (l : Fin 128) : first (ix2 r l) = if l.val % 64 < 32 then 1#1 else 0#1 := by
  pointwise [first, lane]
  revert l
  decide +kernel

theorem turn_apply (y cs sn : FVec Ideal S512x128 .f32) (r : Fin 512) (l : Fin 128) :
    turn y cs sn (ix2 r l) = y (ix2 r l) * cs (ix2 r l)
      + (if h : l.val % 64 < 32 then y (ix2 r ⟨l.val + 32, by omega⟩) else y (ix2 r ⟨l.val - 32, by omega⟩)) * sn (ix2 r l) := by
  pointwise [turn]
  rw [first_apply]
  by_cases h : l.val % 64 < 32
  · rw [if_pos h, dif_pos h]
    refine congrArg (fun z => _ + z * _) ((if_pos rfl).trans (congrArg (fun q => y (ix2 r q)) (Fin.ext ?_)))
    show (l.val + 128 - 96) % 128 = l.val + 32
    omega
  · rw [if_neg h, dif_neg h]
    refine congrArg (fun z => _ + z * _) ((if_neg (by decide)).trans (congrArg (fun q => y (ix2 r q)) (Fin.ext ?_)))
    show (l.val + 128 - 32) % 128 = l.val - 32
    omega

/-- A column's place in its pair of heads. -/
def lane128 (e : Fin 512) : Fin 128 := ⟨e.val % 128, by omega⟩

/-- Two heads of eight, turned, at a column of all eight. -/
theorem turn_heads (y : FVec Ideal S512x512 .f32) (z cs sn : FVec Ideal S512x128 .f32) (r e : Fin 512) (l : Fin 128) (k : ℕ) (hk : k < 4)
    (hl : e.val = 128 * k + l.val) (hz : ∀ q : Fin 128, z (ix2 r q) = y (ix2 r ⟨128 * k + q.val, by omega⟩)) :
    turn z cs sn (ix2 r l) = y (ix2 r e) * cs (ix2 r (lane128 e)) + y (ix2 r (_root_.Proj.partner e)) * sn (ix2 r (lane128 e)) := by
  have e1 : lane128 e = l := Fin.ext (by show e.val % 128 = l.val; omega)
  have e2 : (⟨128 * k + l.val, by omega⟩ : Fin 512) = e := Fin.ext hl.symm
  rw [turn_apply, hz, e1, e2]
  refine congrArg (fun q : EReal => y (ix2 r e) * cs (ix2 r l) + q * sn (ix2 r l)) ?_
  unfold _root_.Proj.partner
  by_cases h : l.val % 64 < 32
  · have h' : e.val % 64 < 32 := by omega
    rw [dif_pos h, dif_pos h', hz]
    exact congrArg (fun q => y (ix2 r q)) (Fin.ext (show 128 * k + (l.val + 32) = e.val + 32 by omega))
  · have h' : ¬ e.val % 64 < 32 := by omega
    rw [dif_neg h, dif_neg h', hz]
    exact congrArg (fun q => y (ix2 r q)) (Fin.ext (show 128 * k + (l.val - 32) = e.val - 32 by omega))

theorem turned_apply (y : FVec Ideal S512x512 .f32) (cs sn : FVec Ideal S512x128 .f32) (r e : Fin 512) :
    turned y cs sn (ix2 r e) = y (ix2 r e) * cs (ix2 r (lane128 e)) + y (ix2 r (_root_.Proj.partner e)) * sn (ix2 r (lane128 e)) := by
  have he := e.isLt
  pointwise [turned]
  by_cases h0 : e.val < 128
  · refine (dif_pos h0).trans (turn_heads y _ cs sn r e _ 0 (by decide) (show e.val = 128 * 0 + e.val by omega) fun q => ?_)
    pointwise []
  refine (dif_neg h0).trans ?_
  by_cases h1 : e.val - 128 < 128
  · refine (dif_pos h1).trans (turn_heads y _ cs sn r e _ 1 (by decide) (show e.val = 128 * 1 + (e.val - 128) by omega) fun q => ?_)
    pointwise []
  refine (dif_neg h1).trans ?_
  by_cases h2 : e.val - 128 - 128 < 128
  · refine (dif_pos h2).trans (turn_heads y _ cs sn r e _ 2 (by decide) (show e.val = 128 * 2 + (e.val - 128 - 128) by omega) fun q => ?_)
    pointwise []
  refine (dif_neg h2).trans (turn_heads y _ cs sn r e _ 3 (by decide) (show e.val = 128 * 3 + (e.val - 128 - 128 - 128) by omega) fun q => ?_)
  pointwise []

/-! ## What the body leaves in each result's block -/

variable (m : (ℓ : Loc nD τ sig) → Buf (Elt F) ℓ) (c : Dev nD) (t : Fin cfg0.N)

/-- The normed rows of a point. -/
def full_rows (c : Dev nD) (t : Fin cfg0.N) : FVec F S512x1024 .f32 := normed (View.ld (iblk m c 0 t) r0_0) (View.ld (iblk m c 1 t) r0_1) (View.ld (iblk m c 2 t) r0_1)

/-- The normed rows of a point, in the products' format. -/
def rows (c : Dev nD) (t : Fin cfg0.N) : FVec F S512x1024 .bf16 := truncf .bf16 (full_rows m c t) bitsLt_bf16_f32

/-- The point's part of the table of cosines and signed sines. -/
def tab (c : Dev nD) (t : Fin cfg0.N) : FVec F S512x512 .f32 := shapeCast S512x512 (View.ld (iblk m c 4 t) r0_2) shapeCasts_S512x512_S512x512

theorem after_xn : (dats m 0 c).after 5 t = View.canon [⟨r0_0, full_rows m c t⟩] := by
  rw [after0_5]
  unfold_out out0_5
  rfl

theorem after_qa : (dats m 0 c).after 6 t = View.canon [⟨r0_2, turned (prod (rows m c t) (View.ld (iblk m c 3 t) r0_3))
    (extractStridedSlice S512x128 ![0, 0] (tab m c t) slices_S512x512_o0_0_S512x128) (extractStridedSlice S512x128 ![0, 128] (tab m c t) slices_S512x512_o0_128_S512x128)⟩] := by
  rw [after0_6]
  unfold_out out0_6
  rfl

theorem after_ka : (dats m 0 c).after 7 t = View.canon [⟨r0_2, turned (prod (rows m c t) (View.ld (iblk m c 3 t) r0_4))
    (extractStridedSlice S512x128 ![0, 256] (tab m c t) slices_S512x512_o0_256_S512x128) (extractStridedSlice S512x128 ![0, 384] (tab m c t) slices_S512x512_o0_384_S512x128)⟩] := by
  rw [after0_7]
  unfold_out out0_7
  rfl

theorem after_va : (dats m 0 c).after 8 t = View.canon [⟨r0_2, truncf .bf16 (prod (rows m c t) (View.ld (iblk m c 3 t) r0_5)) bitsLt_bf16_f32⟩] := by
  rw [after0_8]
  unfold_out out0_8
  rfl

theorem after_qb : (dats m 0 c).after 9 t = View.canon [⟨r0_2, truncf .bf16 (mulf (prod (rows m c t) (View.ld (iblk m c 3 t) r0_6)) (broadcast S512x512 (Scalar.ofBits .f32 0x3E000000#32))) bitsLt_bf16_f32⟩] := by
  rw [after0_9]
  unfold_out out0_9
  rfl

theorem after_kb : (dats m 0 c).after 10 t = View.canon [⟨r0_2, truncf .bf16 (prod (rows m c t) (View.ld (iblk m c 3 t) r0_7)) bitsLt_bf16_f32⟩] := by
  rw [after0_10]
  unfold_out out0_10
  rfl

theorem after_vb : (dats m 0 c).after 11 t = View.canon [⟨r0_2, truncf .bf16 (prod (rows m c t) (View.ld (iblk m c 3 t) r0_8)) bitsLt_bf16_f32⟩] := by
  rw [after0_11]
  unfold_out out0_11
  rfl

theorem after_gb : (dats m 0 c).after 12 t = View.canon [⟨r0_2, truncf .bf16 (prod (rows m c t) (View.ld (iblk m c 3 t) r0_9)) bitsLt_bf16_f32⟩] := by
  rw [after0_12]
  unfold_out out0_12
  rfl

theorem after_u : (dats m 0 c).after 13 t = View.canon [⟨r0_2, truncf .bf16 (mulf (prod (rows m c t) (View.ld (iblk m c 3 t) r0_10)) (prod (rows m c t) (View.ld (iblk m c 3 t) r0_11))) bitsLt_bf16_f32⟩] := by
  rw [after0_13]
  unfold_out out0_13
  rfl

theorem after_gates : (dats m 0 c).after 14 t = View.canon [⟨r0_13, gates (rows m c t) (View.ld (iblk m c 3 t) r0_12)⟩] := by
  rw [after0_14]
  unfold_out out0_14
  rfl

/-- A block stored whole is what was stored. -/
theorem canon_whole (v : Vec Ideal S512x512 .bf16) (r e : Fin 512) : View.canon [⟨r0_2, v⟩] (ix2 r e) = v (ix2 r e) := by
  canon_tiles z h
  idx_vars z
  obtain rfl : r = z0 := Fin.ext h0
  obtain rfl : e = z1 := Fin.ext h1
  rfl

theorem canon_rows (v : Vec Ideal S512x1024 .f32) (r : Fin 512) (e : Fin 1024) : View.canon [⟨r0_0, v⟩] (ix2 r e) = v (ix2 r e) := by
  canon_tiles z h
  idx_vars z
  obtain rfl : r = z0 := Fin.ext h0
  obtain rfl : e = z1 := Fin.ext h1
  rfl

theorem canon_gates (v : Vec Ideal S512x3072 .bf16) (r : Fin 512) (e : Fin 3072) : View.canon [⟨r0_13, v⟩] (ix2 r e) = v (ix2 r e) := by
  canon_tiles z h
  idx_vars z
  obtain rfl : r = z0 := Fin.ext h0
  obtain rfl : e = z1 := Fin.ext h1
  rfl

end Cert.Kernel4Ideal.Proj
-- ==== Proof.Proj.Table.lean ====
module

public import Idealize.ShloMosaic.Lib.StableHlo.RunRead
public import Idealize.ShloMosaic.Lib.Tactic.CleanTypes
public import proofs.«01_k».proof.Proof.Proj.Body

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

/-! # The table of cosines and signed sines that the host computes before the call -/

/-- The frequencies. -/
def freqs : FVec F S32 .f32 :=
  Host.powf (broadcastInDim S32 ![] bcast_S_S32 (constant S_ .f32 0x461C4000#32))
    (Host.divf (mulf (Host.negf (sitofp .f32 (iotaInDim S32 32 0))) (broadcastInDim S32 ![] bcast_S_S32 (constant S_ .f32 0x40000000#32)))
      (broadcastInDim S32 ![] bcast_S_S32 (constant S_ .f32 0x42800000#32)))

/-- The angles, position by frequency. -/
def angles : FVec F S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1 freqs))

/-- Two 32-wide halves of a head, for two heads side by side. -/
def heads (a b : FVec F S8192x32 .f32) : FVec F S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128

/-- The query scale, everywhere. -/
def scales : FVec F S8192x128 .f32 := broadcastInDim S8192x128 ![] bcast_S_S8192x128 (constant S_ .f32 0x3E000000#32)

/-- Cosines and signed sines, scaled and plain. -/
def full (cs sn : FVec F S8192x128 .f32) : FVec F S8192x512 .f32 :=
  concatenate S8192x512 1 [⟨S8192x128, mulf cs scales⟩, ⟨S8192x128, mulf sn scales⟩, ⟨S8192x128, cs⟩, ⟨S8192x128, sn⟩] concatenates_S8192x128_S8192x128_S8192x128_S8192x128_S8192x512_d1

theorem cos_eq (V : Valuation τ sig (Elt F)) : (StableHlo.upto hostOps0 V 34 (Proc.tc.devRef main_v19) : Vec F S8192x128 .f32) = heads (Host.cos angles) (Host.cos angles) := by
  after_reads_simp
  rfl

theorem sin_eq (V : Valuation τ sig (Elt F)) : (StableHlo.upto hostOps0 V 34 (Proc.tc.devRef main_v24) : Vec F S8192x128 .f32) = heads (Host.negf (Host.sin angles)) (Host.sin angles) := by
  after_reads_simp
  rfl

theorem cos_scaled_eq (V : Valuation τ sig (Elt F)) : (StableHlo.upto hostOps0 V 34 (Proc.tc.devRef main_v26) : Vec F S8192x128 .f32) = mulf (heads (Host.cos angles) (Host.cos angles)) scales := by
  after_reads_simp
  rfl

theorem sin_scaled_eq (V : Valuation τ sig (Elt F)) : (StableHlo.upto hostOps0 V 34 (Proc.tc.devRef main_v28) : Vec F S8192x128 .f32) = mulf (heads (Host.negf (Host.sin angles)) (Host.sin angles)) scales := by
  after_reads_simp
  rfl

theorem table_eq (V : Valuation τ sig (Elt F)) :
    (StableHlo.after hostOps0 V (Proc.tc.devRef main_v29) : Vec F S8192x512 .f32)
      = full (heads (Host.cos angles) (Host.cos angles)) (heads (Host.negf (Host.sin angles)) (Host.sin angles)) := by
  after_reads_simp
  change concatenate S8192x512 1 [⟨S8192x128, (StableHlo.upto hostOps0 V 34 (Proc.tc.devRef main_v26) : Vec F S8192x128 .f32)⟩, ⟨S8192x128, (StableHlo.upto hostOps0 V 34 (Proc.tc.devRef main_v28) : Vec F S8192x128 .f32)⟩,
    ⟨S8192x128, (StableHlo.upto hostOps0 V 34 (Proc.tc.devRef main_v19) : Vec F S8192x128 .f32)⟩, ⟨S8192x128, (StableHlo.upto hostOps0 V 34 (Proc.tc.devRef main_v24) : Vec F S8192x128 .f32)⟩] concatenates_S8192x128_S8192x128_S8192x128_S8192x128_S8192x512_d1 = _
  rw [cos_eq, sin_eq, cos_scaled_eq, sin_scaled_eq]
  rfl

theorem angles_apply (s : Fin 8192) (j : Fin 32) : angles (F := Ideal) (ix2 s j) = _root_.Proj.angle s j := by
  pointwise [angles, freqs]
  rfl

theorem heads_apply (a b : FVec Ideal S8192x32 .f32) (s : Fin 8192) (l : Fin 128) :
    heads a b (ix2 s l) = if l.val % 64 < 32 then a (ix2 s ⟨l.val % 32, by omega⟩) else b (ix2 s ⟨l.val % 32, by omega⟩) := by
  pointwise [heads]
  by_cases h : l.val % 64 < 32
  · rw [dif_pos h, if_pos h]; congr 3; omega
  · rw [dif_neg h, if_neg h]; congr 3; omega

theorem full_apply (cs sn : FVec Ideal S8192x128 .f32) (s : Fin 8192) (l : Fin 128) :
    full cs sn (ix2 s ⟨l.val, by omega⟩) = cs (ix2 s l) * _root_.Proj.scale
    ∧ full cs sn (ix2 s ⟨128 + l.val, by omega⟩) = sn (ix2 s l) * _root_.Proj.scale
    ∧ full cs sn (ix2 s ⟨256 + l.val, by omega⟩) = cs (ix2 s l)
    ∧ full cs sn (ix2 s ⟨384 + l.val, by omega⟩) = sn (ix2 s l) := by
  refine ⟨?_, ?_, ?_, ?_⟩
  all_goals pointwise [full, scales]
  · rfl
  · rfl
  · rw [dif_neg (by omega), dif_neg (by omega), dif_pos (by omega)]; congr 3; omega
  · rw [dif_neg (by omega), dif_neg (by omega), dif_neg (by omega)]; congr 3; omega

end Cert.Kernel4Ideal.Proj
-- ==== Proof.Proj.Output.lean ====
module

public import proofs.«01_k».proof.Proof.Proj.Table

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

/-! # The blocks of a grid point are rows of the arrays; the result arrays -/

/-- The blocks of a point: 512 rows, of every array alike; the table's rows start over with each sequence. -/
theorem idx (t : Fin cfg0.N) : win0_0.index t = ![t.val, 0] ∧ win0_1.index t = ![0, 0] ∧ win0_2.index t = ![0, 0] ∧ win0_3.index t = ![0, 0, 0]
      ∧ win0_4.index t = ![t.val % 16, 0]
      ∧ win0_5.index t = ![t.val, 0] ∧ win0_6.index t = ![t.val, 0] ∧ win0_7.index t = ![t.val, 0] ∧ win0_8.index t = ![t.val, 0]
      ∧ win0_9.index t = ![t.val, 0] ∧ win0_10.index t = ![t.val, 0] ∧ win0_11.index t = ![t.val, 0] ∧ win0_12.index t = ![t.val, 0]
      ∧ win0_13.index t = ![t.val, 0] ∧ win0_14.index t = ![t.val, 0] := by
  revert t; decide +kernel

theorem pt_lt (t : Fin cfg0.N) : t.val < 32 := t.isLt

variable (m : (ℓ : Loc nD τ sig) → Buf (Elt Ideal) ℓ)

/-- Row `r` of a point's block, as a row of the arrays. -/
def at_row (t : Fin cfg0.N) (r : Fin 512) : Fin 16384 := ⟨512 * t.val + r.val, by have := pt_lt t; omega⟩

/-- The normed rows of the input. -/
def xs (c : Dev nD) (R : Fin 16384) (d : Fin 1024) : EReal :=
  _root_.Ffn.norm (fun d => m ((c.tc : Thread nD τ).loc main_arg0) (ix2 R d)) (m ((c.tc : Thread nD τ).loc main_arg1) (ix1 d)) (m ((c.tc : Thread nD τ).loc main_arg2) (ix1 d)) d

/-- The layer's weights. -/
def ws (c : Dev nD) (d : Fin 1024) (e : Fin 7680) : EReal := m ((c.tc : Thread nD τ).loc main_arg3) (ix3 0 d e)

theorem blk_x (c : Dev nD) (t : Fin cfg0.N) (r : Fin 512) (d : Fin 1024) : iblk m c 0 t (ix2 r d) = m ((c.tc : Thread nD τ).loc main_arg0) (ix2 (at_row t r) d) := by
  unfold at_row
  blk_ext [iblk, V, idx t]

theorem gain_eq (V : Valuation τ sig (Elt Ideal)) :
    (StableHlo.after hostOps0 V (Proc.tc.devRef main_v30) : Vec Ideal S1x1024 .f32) = shapeCast S1x1024 (V (Proc.tc.devRef main_arg1) : Vec Ideal S1024 .f32) shapeCasts_S1024_S1x1024 := by
  after_reads_simp
  rfl

theorem bias_eq (V : Valuation τ sig (Elt Ideal)) :
    (StableHlo.after hostOps0 V (Proc.tc.devRef main_v31) : Vec Ideal S1x1024 .f32) = shapeCast S1x1024 (V (Proc.tc.devRef main_arg2) : Vec Ideal S1024 .f32) shapeCasts_S1024_S1x1024 := by
  after_reads_simp
  rfl

theorem blk_g (c : Dev nD) (t : Fin cfg0.N) (d : Fin 1024) : iblk m c 1 t (ix2 0 d) = m ((c.tc : Thread nD τ).loc main_arg1) (ix1 d) := by
  have h : iblk m c 1 t (ix2 0 d) = (StableHlo.after hostOps0 (fun b => m (c, b)) (Proc.tc.devRef main_v30) : Vec Ideal S1x1024 .f32) (ix2 0 d) := by
    blk_ext [iblk, V, idx t]
  rw [h, gain_eq]
  pointwise []

theorem blk_b (c : Dev nD) (t : Fin cfg0.N) (d : Fin 1024) : iblk m c 2 t (ix2 0 d) = m ((c.tc : Thread nD τ).loc main_arg2) (ix1 d) := by
  have h : iblk m c 2 t (ix2 0 d) = (StableHlo.after hostOps0 (fun b => m (c, b)) (Proc.tc.devRef main_v31) : Vec Ideal S1x1024 .f32) (ix2 0 d) := by
    blk_ext [iblk, V, idx t]
  rw [h, bias_eq]
  pointwise []

theorem full_rows_apply (c : Dev nD) (t : Fin cfg0.N) (r : Fin 512) (d : Fin 1024) : full_rows m c t (ix2 r d) = xs m c (at_row t r) d := by
  have hx : ∀ e : Fin 1024, View.ld (iblk m c 0 t) r0_0 (ix2 r e) = m ((c.tc : Thread nD τ).loc main_arg0) (ix2 (at_row t r) e) := fun e => by
    refine Eq.trans ?_ (blk_x m c t r e)
    pointwise []
  have hg : View.ld (iblk m c 1 t) r0_1 (ix2 0 d) = m ((c.tc : Thread nD τ).loc main_arg1) (ix1 d) := by
    refine Eq.trans ?_ (blk_g m c t d)
    pointwise []
  have hb : View.ld (iblk m c 2 t) r0_1 (ix2 0 d) = m ((c.tc : Thread nD τ).loc main_arg2) (ix1 d) := by
    refine Eq.trans ?_ (blk_b m c t d)
    pointwise []
  exact (normed_apply _ _ _ r d).trans (congrFun (congr (congrArg₂ (fun z g b => _root_.Ffn.norm z g b) (funext hx) hg) hb) d)

theorem rows_apply (c : Dev nD) (t : Fin cfg0.N) (r : Fin 512) (d : Fin 1024) : rows m c t (ix2 r d) = xs m c (at_row t r) d := full_rows_apply m c t r d

theorem blk_w (c : Dev nD) (t : Fin cfg0.N) (d : Fin 1024) (e : Fin 7680) : iblk m c 3 t (ix3 0 d e) = ws m c d e := by
  unfold ws
  blk_ext [iblk, V, idx t]

/-- The table as the host operations before the call leave it. -/
def table (c : Dev nD) : Vec Ideal S8192x512 .f32 := StableHlo.after hostOps0 (fun b => m (c, b)) (Proc.tc.devRef main_v29)

theorem tab_apply (c : Dev nD) (t : Fin cfg0.N) (r l : Fin 512) : tab m c t (ix2 r l) = table m c (ix2 (_root_.Proj.pos (at_row t r)) l) := by
  have := pt_lt t
  pointwise [tab]
  unfold table _root_.Proj.pos at_row
  blk_ext [iblk, V, idx t]

/-! ## The table's four parts -/

theorem heads_cos (s : Fin 8192) (e : Fin 512) :
    heads (F := Ideal) (Host.cos angles) (Host.cos angles) (ix2 s (lane128 e)) = Ideal.cos (_root_.Proj.angle s (_root_.Proj.freq e)) := by
  rw [heads_apply, ite_self]
  refine (show _ = Ideal.cos (angles (F := Ideal) (ix2 s ⟨(lane128 e).val % 32, by omega⟩)) from rfl).trans ?_
  rw [angles_apply]
  exact congrArg (fun j => Ideal.cos (_root_.Proj.angle s j)) (Fin.ext (show e.val % 128 % 32 = e.val % 32 by omega))

theorem heads_sin (s : Fin 8192) (e : Fin 512) :
    heads (F := Ideal) (Host.negf (Host.sin angles)) (Host.sin angles) (ix2 s (lane128 e)) = _root_.Proj.signed s e := by
  have hj : (⟨(lane128 e).val % 32, by omega⟩ : Fin 32) = _root_.Proj.freq e := Fin.ext (show e.val % 128 % 32 = e.val % 32 by omega)
  have hl : (lane128 e).val % 64 = e.val % 64 := (show e.val % 128 % 64 = e.val % 64 by omega)
  rw [heads_apply, hl, hj]
  unfold _root_.Proj.signed
  by_cases h : e.val % 64 < 32
  · rw [if_pos h, if_pos h, ← angles_apply]; rfl
  · rw [if_neg h, if_neg h, ← angles_apply]; rfl

theorem table_apply (c : Dev nD) (s : Fin 8192) (e : Fin 512) :
    table m c (ix2 s ⟨(lane128 e).val, by omega⟩) = Ideal.cos (_root_.Proj.angle s (_root_.Proj.freq e)) * _root_.Proj.scale
    ∧ table m c (ix2 s ⟨128 + (lane128 e).val, by omega⟩) = _root_.Proj.signed s e * _root_.Proj.scale
    ∧ table m c (ix2 s ⟨256 + (lane128 e).val, by omega⟩) = Ideal.cos (_root_.Proj.angle s (_root_.Proj.freq e))
    ∧ table m c (ix2 s ⟨384 + (lane128 e).val, by omega⟩) = _root_.Proj.signed s e := by
  unfold table
  rw [table_eq, ← heads_cos, ← heads_sin]
  exact full_apply _ _ s (lane128 e)

theorem tab_0 (c : Dev nD) (t : Fin cfg0.N) (r : Fin 512) (e : Fin 512) :
    extractStridedSlice S512x128 ![0, 0] (tab m c t) slices_S512x512_o0_0_S512x128 (ix2 r (lane128 e))
      = Ideal.cos (_root_.Proj.angle (_root_.Proj.pos (at_row t r)) (_root_.Proj.freq e)) * _root_.Proj.scale := by
  rw [← (table_apply m c _ e).1, ← tab_apply]
  pointwise []

theorem tab_128 (c : Dev nD) (t : Fin cfg0.N) (r : Fin 512) (e : Fin 512) :
    extractStridedSlice S512x128 ![0, 128] (tab m c t) slices_S512x512_o0_128_S512x128 (ix2 r (lane128 e))
      = _root_.Proj.signed (_root_.Proj.pos (at_row t r)) e * _root_.Proj.scale := by
  rw [← (table_apply m c _ e).2.1, ← tab_apply]
  pointwise []

theorem tab_256 (c : Dev nD) (t : Fin cfg0.N) (r : Fin 512) (e : Fin 512) :
    extractStridedSlice S512x128 ![0, 256] (tab m c t) slices_S512x512_o0_256_S512x128 (ix2 r (lane128 e))
      = Ideal.cos (_root_.Proj.angle (_root_.Proj.pos (at_row t r)) (_root_.Proj.freq e)) := by
  rw [← (table_apply m c _ e).2.2.1, ← tab_apply]
  pointwise []

theorem tab_384 (c : Dev nD) (t : Fin cfg0.N) (r : Fin 512) (e : Fin 512) :
    extractStridedSlice S512x128 ![0, 384] (tab m c t) slices_S512x512_o0_384_S512x128 (ix2 r (lane128 e))
      = _root_.Proj.signed (_root_.Proj.pos (at_row t r)) e := by
  rw [← (table_apply m c _ e).2.2.2, ← tab_apply]
  pointwise []

/-! ## The parts of a row's product -/

theorem prod_0 (c : Dev nD) (t : Fin cfg0.N) (r e : Fin 512) :
    prod (rows m c t) (View.ld (iblk m c 3 t) r0_3) (ix2 r e) = _root_.Proj.part 0 (by decide) (xs m c (at_row t r)) (ws m c) e := by
  rw [prod_apply]
  unfold _root_.Proj.part _root_.Proj.dot
  refine Finset.sum_congr rfl fun d _ => ?_
  rw [rows_apply, ← blk_w m c t]
  pointwise []

theorem prod_512 (c : Dev nD) (t : Fin cfg0.N) (r e : Fin 512) :
    prod (rows m c t) (View.ld (iblk m c 3 t) r0_4) (ix2 r e) = _root_.Proj.part 512 (by decide) (xs m c (at_row t r)) (ws m c) e := by
  rw [prod_apply]
  unfold _root_.Proj.part _root_.Proj.dot
  refine Finset.sum_congr rfl fun d _ => ?_
  rw [rows_apply, ← blk_w m c t]
  pointwise []

theorem prod_1024 (c : Dev nD) (t : Fin cfg0.N) (r e : Fin 512) :
    prod (rows m c t) (View.ld (iblk m c 3 t) r0_5) (ix2 r e) = _root_.Proj.part 1024 (by decide) (xs m c (at_row t r)) (ws m c) e := by
  rw [prod_apply]
  unfold _root_.Proj.part _root_.Proj.dot
  refine Finset.sum_congr rfl fun d _ => ?_
  rw [rows_apply, ← blk_w m c t]
  pointwise []

theorem prod_1536 (c : Dev nD) (t : Fin cfg0.N) (r e : Fin 512) :
    prod (rows m c t) (View.ld (iblk m c 3 t) r0_6) (ix2 r e) = _root_.Proj.part 1536 (by decide) (xs m c (at_row t r)) (ws m c) e := by
  rw [prod_apply]
  unfold _root_.Proj.part _root_.Proj.dot
  refine Finset.sum_congr rfl fun d _ => ?_
  rw [rows_apply, ← blk_w m c t]
  pointwise []

theorem prod_2048 (c : Dev nD) (t : Fin cfg0.N) (r e : Fin 512) :
    prod (rows m c t) (View.ld (iblk m c 3 t) r0_7) (ix2 r e) = _root_.Proj.part 2048 (by decide) (xs m c (at_row t r)) (ws m c) e := by
  rw [prod_apply]
  unfold _root_.Proj.part _root_.Proj.dot
  refine Finset.sum_congr rfl fun d _ => ?_
  rw [rows_apply, ← blk_w m c t]
  pointwise []

theorem prod_2560 (c : Dev nD) (t : Fin cfg0.N) (r e : Fin 512) :
    prod (rows m c t) (View.ld (iblk m c 3 t) r0_8) (ix2 r e) = _root_.Proj.part 2560 (by decide) (xs m c (at_row t r)) (ws m c) e := by
  rw [prod_apply]
  unfold _root_.Proj.part _root_.Proj.dot
  refine Finset.sum_congr rfl fun d _ => ?_
  rw [rows_apply, ← blk_w m c t]
  pointwise []

theorem prod_3072 (c : Dev nD) (t : Fin cfg0.N) (r e : Fin 512) :
    prod (rows m c t) (View.ld (iblk m c 3 t) r0_9) (ix2 r e) = _root_.Proj.part 3072 (by decide) (xs m c (at_row t r)) (ws m c) e := by
  rw [prod_apply]
  unfold _root_.Proj.part _root_.Proj.dot
  refine Finset.sum_congr rfl fun d _ => ?_
  rw [rows_apply, ← blk_w m c t]
  pointwise []

theorem prod_3584 (c : Dev nD) (t : Fin cfg0.N) (r e : Fin 512) :
    prod (rows m c t) (View.ld (iblk m c 3 t) r0_10) (ix2 r e) = _root_.Proj.part 3584 (by decide) (xs m c (at_row t r)) (ws m c) e := by
  rw [prod_apply]
  unfold _root_.Proj.part _root_.Proj.dot
  refine Finset.sum_congr rfl fun d _ => ?_
  rw [rows_apply, ← blk_w m c t]
  pointwise []

theorem prod_4096 (c : Dev nD) (t : Fin cfg0.N) (r e : Fin 512) :
    prod (rows m c t) (View.ld (iblk m c 3 t) r0_11) (ix2 r e) = _root_.Proj.part 4096 (by decide) (xs m c (at_row t r)) (ws m c) e := by
  rw [prod_apply]
  unfold _root_.Proj.part _root_.Proj.dot
  refine Finset.sum_congr rfl fun d _ => ?_
  rw [rows_apply, ← blk_w m c t]
  pointwise []

/-! ## The result arrays -/

/-- The normed rows. -/
def want_xn (c : Dev nD) : Vec Ideal S16384x1024 .f32 := fun j => xs m c (j 0) (j 1)

theorem at_xn (c : Dev nD) (t : Fin cfg0.N) (r : Fin 512) (e : Fin 1024) : (dats m 0 c).after 5 t (ix2 r e) = want_xn m c (ix2 (at_row t r) e) := by
  rw [after_xn, canon_rows]
  exact full_rows_apply m c t r e

theorem array_xn (c : Dev nD) : (dats m 0 c).arrAt 5 cfg0.N = want_xn m c := by
  refine (dats m 0 c).arrAt_eq_of_covers 5 _ (by decide +kernel) fun t hf y => ?_
  blk_simp
  change S512x1024.Idx at y
  idx_vars y
  rw [at_xn m c t y0 y1]
  unfold at_row
  blk_ext [idx t]

/-- The queries of the differential attention. -/
def want_qa (c : Dev nD) : Vec Ideal S16384x512 .bf16 := fun j => _root_.Proj.query (xs m c (j 0)) (ws m c) (_root_.Proj.pos (j 0)) (j 1)

theorem at_qa (c : Dev nD) (t : Fin cfg0.N) (r : Fin 512) (e : Fin 512) : (dats m 0 c).after 6 t (ix2 r e) = want_qa m c (ix2 (at_row t r) e) := by
  rw [after_qa, canon_whole]
  rw [turned_apply, prod_0, prod_0, tab_0, tab_128]
  exact _root_.Proj.rot_scaled _ _ _

theorem array_qa (c : Dev nD) : (dats m 0 c).arrAt 6 cfg0.N = want_qa m c := by
  refine (dats m 0 c).arrAt_eq_of_covers 6 _ (by decide +kernel) fun t hf y => ?_
  blk_simp
  change S512x512.Idx at y
  idx_vars y
  rw [at_qa m c t y0 y1]
  unfold at_row
  blk_ext [idx t]

/-- The keys of the differential attention. -/
def want_ka (c : Dev nD) : Vec Ideal S16384x512 .bf16 := fun j => _root_.Proj.key (xs m c (j 0)) (ws m c) (_root_.Proj.pos (j 0)) (j 1)

theorem at_ka (c : Dev nD) (t : Fin cfg0.N) (r : Fin 512) (e : Fin 512) : (dats m 0 c).after 7 t (ix2 r e) = want_ka m c (ix2 (at_row t r) e) := by
  rw [after_ka, canon_whole]
  rw [turned_apply, prod_512, prod_512, tab_256, tab_384]
  exact _root_.Proj.rot_eq _ _ _

theorem array_ka (c : Dev nD) : (dats m 0 c).arrAt 7 cfg0.N = want_ka m c := by
  refine (dats m 0 c).arrAt_eq_of_covers 7 _ (by decide +kernel) fun t hf y => ?_
  blk_simp
  change S512x512.Idx at y
  idx_vars y
  rw [at_ka m c t y0 y1]
  unfold at_row
  blk_ext [idx t]

/-- The values of the differential attention. -/
def want_va (c : Dev nD) : Vec Ideal S16384x512 .bf16 := fun j => _root_.Proj.part 1024 (by decide) (xs m c (j 0)) (ws m c) (j 1)

theorem at_va (c : Dev nD) (t : Fin cfg0.N) (r : Fin 512) (e : Fin 512) : (dats m 0 c).after 8 t (ix2 r e) = want_va m c (ix2 (at_row t r) e) := by
  rw [after_va, canon_whole]
  exact prod_1024 m c t r e

theorem array_va (c : Dev nD) : (dats m 0 c).arrAt 8 cfg0.N = want_va m c := by
  refine (dats m 0 c).arrAt_eq_of_covers 8 _ (by decide +kernel) fun t hf y => ?_
  blk_simp
  change S512x512.Idx at y
  idx_vars y
  rw [at_va m c t y0 y1]
  unfold at_row
  blk_ext [idx t]

/-- The scaled queries of the neighbourhood attention. -/
def want_qb (c : Dev nD) : Vec Ideal S16384x512 .bf16 := fun j => _root_.Proj.part 1536 (by decide) (xs m c (j 0)) (ws m c) (j 1) * _root_.Proj.scale

theorem at_qb (c : Dev nD) (t : Fin cfg0.N) (r : Fin 512) (e : Fin 512) : (dats m 0 c).after 9 t (ix2 r e) = want_qb m c (ix2 (at_row t r) e) := by
  rw [after_qb, canon_whole]
  exact congrArg (fun q : EReal => q * _root_.Proj.scale) (prod_1536 m c t r e)

theorem array_qb (c : Dev nD) : (dats m 0 c).arrAt 9 cfg0.N = want_qb m c := by
  refine (dats m 0 c).arrAt_eq_of_covers 9 _ (by decide +kernel) fun t hf y => ?_
  blk_simp
  change S512x512.Idx at y
  idx_vars y
  rw [at_qb m c t y0 y1]
  unfold at_row
  blk_ext [idx t]

/-- The keys of the neighbourhood attention. -/
def want_kb (c : Dev nD) : Vec Ideal S16384x512 .bf16 := fun j => _root_.Proj.part 2048 (by decide) (xs m c (j 0)) (ws m c) (j 1)

theorem at_kb (c : Dev nD) (t : Fin cfg0.N) (r : Fin 512) (e : Fin 512) : (dats m 0 c).after 10 t (ix2 r e) = want_kb m c (ix2 (at_row t r) e) := by
  rw [after_kb, canon_whole]
  exact prod_2048 m c t r e

theorem array_kb (c : Dev nD) : (dats m 0 c).arrAt 10 cfg0.N = want_kb m c := by
  refine (dats m 0 c).arrAt_eq_of_covers 10 _ (by decide +kernel) fun t hf y => ?_
  blk_simp
  change S512x512.Idx at y
  idx_vars y
  rw [at_kb m c t y0 y1]
  unfold at_row
  blk_ext [idx t]

/-- The values of the neighbourhood attention. -/
def want_vb (c : Dev nD) : Vec Ideal S16384x512 .bf16 := fun j => _root_.Proj.part 2560 (by decide) (xs m c (j 0)) (ws m c) (j 1)

theorem at_vb (c : Dev nD) (t : Fin cfg0.N) (r : Fin 512) (e : Fin 512) : (dats m 0 c).after 11 t (ix2 r e) = want_vb m c (ix2 (at_row t r) e) := by
  rw [after_vb, canon_whole]
  exact prod_2560 m c t r e

theorem array_vb (c : Dev nD) : (dats m 0 c).arrAt 11 cfg0.N = want_vb m c := by
  refine (dats m 0 c).arrAt_eq_of_covers 11 _ (by decide +kernel) fun t hf y => ?_
  blk_simp
  change S512x512.Idx at y
  idx_vars y
  rw [at_vb m c t y0 y1]
  unfold at_row
  blk_ext [idx t]

/-- The gates of the neighbourhood attention, before its logistic. -/
def want_gb (c : Dev nD) : Vec Ideal S16384x512 .bf16 := fun j => _root_.Proj.part 3072 (by decide) (xs m c (j 0)) (ws m c) (j 1)

theorem at_gb (c : Dev nD) (t : Fin cfg0.N) (r : Fin 512) (e : Fin 512) : (dats m 0 c).after 12 t (ix2 r e) = want_gb m c (ix2 (at_row t r) e) := by
  rw [after_gb, canon_whole]
  exact prod_3072 m c t r e

theorem array_gb (c : Dev nD) : (dats m 0 c).arrAt 12 cfg0.N = want_gb m c := by
  refine (dats m 0 c).arrAt_eq_of_covers 12 _ (by decide +kernel) fun t hf y => ?_
  blk_simp
  change S512x512.Idx at y
  idx_vars y
  rw [at_gb m c t y0 y1]
  unfold at_row
  blk_ext [idx t]

/-- The third branch, one part gating another. -/
def want_u (c : Dev nD) : Vec Ideal S16384x512 .bf16 := fun j => _root_.Proj.part 3584 (by decide) (xs m c (j 0)) (ws m c) (j 1) * _root_.Proj.part 4096 (by decide) (xs m c (j 0)) (ws m c) (j 1)

theorem at_u (c : Dev nD) (t : Fin cfg0.N) (r : Fin 512) (e : Fin 512) : (dats m 0 c).after 13 t (ix2 r e) = want_u m c (ix2 (at_row t r) e) := by
  rw [after_u, canon_whole]
  exact congrArg₂ (fun q q' : EReal => q * q') (prod_3584 m c t r e) (prod_4096 m c t r e)

theorem array_u (c : Dev nD) : (dats m 0 c).arrAt 13 cfg0.N = want_u m c := by
  refine (dats m 0 c).arrAt_eq_of_covers 13 _ (by decide +kernel) fun t hf y => ?_
  blk_simp
  change S512x512.Idx at y
  idx_vars y
  rw [at_u m c t y0 y1]
  unfold at_row
  blk_ext [idx t]

/-- The gates of the three branches. -/
def want_gates (c : Dev nD) : Vec Ideal S16384x3072 .bf16 := fun j => _root_.Proj.gate (xs m c (j 0)) (ws m c) (j 1)

theorem at_gates (c : Dev nD) (t : Fin cfg0.N) (r : Fin 512) (e : Fin 3072) : (dats m 0 c).after 14 t (ix2 r e) = want_gates m c (ix2 (at_row t r) e) := by
  rw [after_gates, canon_gates]
  rw [gates_apply]
  refine congrArg Ideal.logistic (Finset.sum_congr rfl fun d _ => ?_)
  rw [rows_apply, ← blk_w m c t]
  pointwise []

theorem array_gates (c : Dev nD) : (dats m 0 c).arrAt 14 cfg0.N = want_gates m c := by
  refine (dats m 0 c).arrAt_eq_of_covers 14 _ (by decide +kernel) fun t hf y => ?_
  blk_simp
  change S512x3072.Idx at y
  idx_vars y
  rw [at_gates m c t y0 y1]
  unfold at_row
  blk_ext [idx t]

end Cert.Kernel4Ideal.Proj
-- ==== Proof.Proj.Ref.lean ====
module

public import proofs.«01_k».proof.Proof.Gen.Reference4Ideal.Read
public import proofs.«01_k».proof.Proof.Proj.Spec
public import proofs.«01_k».proof.Proof.Ffn.Spec
public import Idealize.ShloMosaic.Lib.Pointwise

@[expose] public section

set_option maxRecDepth 16384

noncomputable section

namespace Cert.Reference4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference4Ideal.Read

variable (x0 : FVec Ideal S16384x1024 .f32) (x1 x2 : FVec Ideal S1024 .f32) (x3 : FVec Ideal S2x1024x7680 .bf16)

/-! # The reference's values at an index -/

/-- The normed rows of the input. -/
def xs (R : Fin 16384) (d : Fin 1024) : EReal := _root_.Ffn.norm (fun d => x0 (ix2 R d)) (x1 (ix1 d)) (x2 (ix1 d)) d

/-- The layer's weights. -/
def ws (d : Fin 1024) (e : Fin 7680) : EReal := x3 (ix3 0 d e)

theorem norm_at (R : Fin 16384) (e : Fin 1024) : val_main_v23 (F := Ideal) x0 x1 x2 (ix2 R e) = xs x0 x1 x2 R e := by
  unfold xs
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

theorem dot_at (R : Fin 16384) (e : Fin 7680) : val_main_v27 (F := Ideal) x0 x1 x2 x3 (ix2 R e) = _root_.Proj.dot (xs x0 x1 x2 R) (ws x3) e := by
  unfold _root_.Proj.dot ws
  pointwise [val_main_v27, val_main_v26, val_main_v25, val_main_v24]
  exact Finset.sum_congr rfl fun d _ => congrArg (fun q : EReal => q * _) (norm_at x0 x1 x2 R d)

theorem angle_at (s : Fin 8192) (j : Fin 32) : val_main_v52 (F := Ideal) (ix2 s j) = _root_.Proj.angle s j := by
  unfold _root_.Proj.angle _root_.Proj.num
  pointwise [val_main_v52, val_main_v51, val_main_v50, val_main_v49, val_main_v48, val_main_v47, val_main_v46, val_main_v45, val_main_v44, val_main_v43, val_main_v42, val_main_v41, val_main_v40, val_main_v39, val_main_v38, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  rfl

theorem angle_at' (s : Fin 8192) (j : Fin 32) : val_main_v91 (F := Ideal) (ix2 s j) = _root_.Proj.angle s j := by
  unfold _root_.Proj.angle _root_.Proj.num
  pointwise [val_main_v91, val_main_v90, val_main_v89, val_main_v88, val_main_v87, val_main_v86, val_main_v85, val_main_v84, val_main_v83, val_main_v82, val_main_v81, val_main_v80, val_main_v79, val_main_v78, val_main_v77, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  rfl

/-- Row `s` of sequence `b`. -/
def row (b : Fin 2) (s : Fin 8192) : Fin 16384 := ⟨b.val * 8192 + s.val, by omega⟩

/-- Column `j` of head `h`. -/
def col (h : Fin 8) (j : Fin 64) : Fin 512 := ⟨h.val * 64 + j.val, by omega⟩

theorem heads_q (b : Fin 2) (s : Fin 8192) (h : Fin 8) (j : Fin 64) : val_main_v37 (F := Ideal) x0 x1 x2 x3 (ix4 b s h j) = _root_.Proj.part 0 (by decide) (xs x0 x1 x2 (row b s)) (ws x3) (col h j) := by
  unfold _root_.Proj.part
  rw [← dot_at]
  pointwise [val_main_v37, val_main_v28]
  rfl

theorem low_q (b : Fin 2) (s : Fin 8192) (h : Fin 8) (j : Fin 32) : val_main_v65 (F := Ideal) x0 x1 x2 x3 (ix4 b s h j)
    = _root_.Proj.part 0 (by decide) (xs x0 x1 x2 (row b s)) (ws x3) (col h ⟨j.val, by omega⟩) * Ideal.cos (_root_.Proj.angle s j) - _root_.Proj.part 0 (by decide) (xs x0 x1 x2 (row b s)) (ws x3) (col h ⟨32 + j.val, by omega⟩) * Ideal.sin (_root_.Proj.angle s j) := by
  rw [← heads_q, ← heads_q, ← angle_at]
  pointwise [val_main_v65, val_main_v64, val_main_v63, val_main_v62, val_main_v61, val_main_v60, val_main_v59, val_main_v58, val_main_v57, val_main_v56, val_main_v56, val_main_v54, val_main_v55, val_main_v53]

theorem high_q (b : Fin 2) (s : Fin 8192) (h : Fin 8) (j : Fin 32) : val_main_v72 (F := Ideal) x0 x1 x2 x3 (ix4 b s h j)
    = _root_.Proj.part 0 (by decide) (xs x0 x1 x2 (row b s)) (ws x3) (col h ⟨32 + j.val, by omega⟩) * Ideal.cos (_root_.Proj.angle s j) + _root_.Proj.part 0 (by decide) (xs x0 x1 x2 (row b s)) (ws x3) (col h ⟨j.val, by omega⟩) * Ideal.sin (_root_.Proj.angle s j) := by
  rw [← heads_q, ← heads_q, ← angle_at]
  pointwise [val_main_v72, val_main_v71, val_main_v70, val_main_v69, val_main_v68, val_main_v67, val_main_v66, val_main_v57, val_main_v58, val_main_v56, val_main_v56, val_main_v54, val_main_v55, val_main_v53]

theorem rot_q (b : Fin 2) (s : Fin 8192) (h : Fin 8) (j : Fin 64) : val_main_v73 (F := Ideal) x0 x1 x2 x3 (ix4 b s h j) = _root_.Proj.rot (_root_.Proj.part 0 (by decide) (xs x0 x1 x2 (row b s)) (ws x3)) s (col h j) := by
  have hc : (col h j).val = h.val * 64 + j.val := rfl
  have hjl := j.isLt
  pointwise [val_main_v73]
  unfold _root_.Proj.rot
  by_cases hj : j.val < 32
  · have hf : _root_.Proj.freq (col h j) = ⟨j.val, hj⟩ := Fin.ext (show (h.val * 64 + j.val) % 32 = j.val by omega)
    rw [dif_pos (show (col h j).val % 64 < 32 by omega), hf]
    refine (dif_pos hj).trans ((low_q x0 x1 x2 x3 b s h ⟨j.val, hj⟩).trans ?_)
    refine congrArg (fun q : Fin 512 => _root_.Proj.part 0 (by decide) (xs x0 x1 x2 (row b s)) (ws x3) (col h j) * _ - _root_.Proj.part 0 (by decide) (xs x0 x1 x2 (row b s)) (ws x3) q * _) (Fin.ext ?_)
    show h.val * 64 + (32 + j.val) = h.val * 64 + j.val + 32
    omega
  · have hf : _root_.Proj.freq (col h j) = ⟨j.val - 32, by omega⟩ := Fin.ext (show (h.val * 64 + j.val) % 32 = j.val - 32 by omega)
    rw [dif_neg (show ¬ (col h j).val % 64 < 32 by omega), hf]
    refine (dif_neg hj).trans ((high_q x0 x1 x2 x3 b s h ⟨j.val - 32, by omega⟩).trans ?_)
    refine congrArg₂ (fun p q : Fin 512 => _root_.Proj.part 0 (by decide) (xs x0 x1 x2 (row b s)) (ws x3) p * Ideal.cos _ + _root_.Proj.part 0 (by decide) (xs x0 x1 x2 (row b s)) (ws x3) q * Ideal.sin _) (Fin.ext ?_) (Fin.ext ?_)
    · show h.val * 64 + (32 + (j.val - 32)) = h.val * 64 + j.val
      omega
    · show h.val * 64 + (j.val - 32) = h.val * 64 + j.val - 32
      omega

theorem heads_k (b : Fin 2) (s : Fin 8192) (h : Fin 8) (j : Fin 64) : val_main_v76 (F := Ideal) x0 x1 x2 x3 (ix4 b s h j) = _root_.Proj.part 512 (by decide) (xs x0 x1 x2 (row b s)) (ws x3) (col h j) := by
  unfold _root_.Proj.part
  rw [← dot_at]
  pointwise [val_main_v76, val_main_v29]
  rfl

theorem low_k (b : Fin 2) (s : Fin 8192) (h : Fin 8) (j : Fin 32) : val_main_v104 (F := Ideal) x0 x1 x2 x3 (ix4 b s h j)
    = _root_.Proj.part 512 (by decide) (xs x0 x1 x2 (row b s)) (ws x3) (col h ⟨j.val, by omega⟩) * Ideal.cos (_root_.Proj.angle s j) - _root_.Proj.part 512 (by decide) (xs x0 x1 x2 (row b s)) (ws x3) (col h ⟨32 + j.val, by omega⟩) * Ideal.sin (_root_.Proj.angle s j) := by
  rw [← heads_k, ← heads_k, ← angle_at']
  pointwise [val_main_v104, val_main_v103, val_main_v102, val_main_v101, val_main_v100, val_main_v99, val_main_v98, val_main_v97, val_main_v96, val_main_v95, val_main_v95, val_main_v93, val_main_v94, val_main_v92]

theorem high_k (b : Fin 2) (s : Fin 8192) (h : Fin 8) (j : Fin 32) : val_main_v111 (F := Ideal) x0 x1 x2 x3 (ix4 b s h j)
    = _root_.Proj.part 512 (by decide) (xs x0 x1 x2 (row b s)) (ws x3) (col h ⟨32 + j.val, by omega⟩) * Ideal.cos (_root_.Proj.angle s j) + _root_.Proj.part 512 (by decide) (xs x0 x1 x2 (row b s)) (ws x3) (col h ⟨j.val, by omega⟩) * Ideal.sin (_root_.Proj.angle s j) := by
  rw [← heads_k, ← heads_k, ← angle_at']
  pointwise [val_main_v111, val_main_v110, val_main_v109, val_main_v108, val_main_v107, val_main_v106, val_main_v105, val_main_v96, val_main_v97, val_main_v95, val_main_v95, val_main_v93, val_main_v94, val_main_v92]

theorem rot_k (b : Fin 2) (s : Fin 8192) (h : Fin 8) (j : Fin 64) : val_main_v112 (F := Ideal) x0 x1 x2 x3 (ix4 b s h j) = _root_.Proj.rot (_root_.Proj.part 512 (by decide) (xs x0 x1 x2 (row b s)) (ws x3)) s (col h j) := by
  have hc : (col h j).val = h.val * 64 + j.val := rfl
  have hjl := j.isLt
  pointwise [val_main_v112]
  unfold _root_.Proj.rot
  by_cases hj : j.val < 32
  · have hf : _root_.Proj.freq (col h j) = ⟨j.val, hj⟩ := Fin.ext (show (h.val * 64 + j.val) % 32 = j.val by omega)
    rw [dif_pos (show (col h j).val % 64 < 32 by omega), hf]
    refine (dif_pos hj).trans ((low_k x0 x1 x2 x3 b s h ⟨j.val, hj⟩).trans ?_)
    refine congrArg (fun q : Fin 512 => _root_.Proj.part 512 (by decide) (xs x0 x1 x2 (row b s)) (ws x3) (col h j) * _ - _root_.Proj.part 512 (by decide) (xs x0 x1 x2 (row b s)) (ws x3) q * _) (Fin.ext ?_)
    show h.val * 64 + (32 + j.val) = h.val * 64 + j.val + 32
    omega
  · have hf : _root_.Proj.freq (col h j) = ⟨j.val - 32, by omega⟩ := Fin.ext (show (h.val * 64 + j.val) % 32 = j.val - 32 by omega)
    rw [dif_neg (show ¬ (col h j).val % 64 < 32 by omega), hf]
    refine (dif_neg hj).trans ((high_k x0 x1 x2 x3 b s h ⟨j.val - 32, by omega⟩).trans ?_)
    refine congrArg₂ (fun p q : Fin 512 => _root_.Proj.part 512 (by decide) (xs x0 x1 x2 (row b s)) (ws x3) p * Ideal.cos _ + _root_.Proj.part 512 (by decide) (xs x0 x1 x2 (row b s)) (ws x3) q * Ideal.sin _) (Fin.ext ?_) (Fin.ext ?_)
    · show h.val * 64 + (32 + (j.val - 32)) = h.val * 64 + j.val
      omega
    · show h.val * 64 + (j.val - 32) = h.val * 64 + j.val - 32
      omega

/-! ## The results -/

theorem query_at (R : Fin 16384) (e : Fin 512) : val_main_v125 (F := Ideal) x0 x1 x2 x3 (ix2 R e) = _root_.Proj.query (xs x0 x1 x2 R) (ws x3) (_root_.Proj.pos R) e := by
  have hr := R.isLt
  have e1 : row ⟨R.val / 8192, by omega⟩ (_root_.Proj.pos R) = R := Fin.ext (show R.val / 8192 * 8192 + R.val % 8192 = R.val by omega)
  have e2 : col ⟨e.val / 64, by omega⟩ ⟨e.val % 64, by omega⟩ = e := Fin.ext (show e.val / 64 * 64 + e.val % 64 = e.val by omega)
  have h := rot_q x0 x1 x2 x3 ⟨R.val / 8192, by omega⟩ (_root_.Proj.pos R) ⟨e.val / 64, by omega⟩ ⟨e.val % 64, by omega⟩
  rw [e1, e2] at h
  unfold _root_.Proj.query _root_.Proj.scale
  rw [← h]
  pointwise [val_main_v125, val_main_v113, val_main_v75, val_main_v74, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  rfl

theorem key_at (R : Fin 16384) (e : Fin 512) : val_main_v126 (F := Ideal) x0 x1 x2 x3 (ix2 R e) = _root_.Proj.key (xs x0 x1 x2 R) (ws x3) (_root_.Proj.pos R) e := by
  have hr := R.isLt
  have e1 : row ⟨R.val / 8192, by omega⟩ (_root_.Proj.pos R) = R := Fin.ext (show R.val / 8192 * 8192 + R.val % 8192 = R.val by omega)
  have e2 : col ⟨e.val / 64, by omega⟩ ⟨e.val % 64, by omega⟩ = e := Fin.ext (show e.val / 64 * 64 + e.val % 64 = e.val by omega)
  have h := rot_k x0 x1 x2 x3 ⟨R.val / 8192, by omega⟩ (_root_.Proj.pos R) ⟨e.val / 64, by omega⟩ ⟨e.val % 64, by omega⟩
  rw [e1, e2] at h
  unfold _root_.Proj.key
  rw [← h]
  pointwise [val_main_v126, val_main_v114]
  rfl

theorem va_at (R : Fin 16384) (e : Fin 512) : val_main_v127 (F := Ideal) x0 x1 x2 x3 (ix2 R e) = _root_.Proj.part 1024 (by decide) (xs x0 x1 x2 R) (ws x3) e := by
  unfold _root_.Proj.part
  rw [← dot_at]
  pointwise [val_main_v127, val_main_v30]

theorem qb_at (R : Fin 16384) (e : Fin 512) : val_main_v128 (F := Ideal) x0 x1 x2 x3 (ix2 R e) = _root_.Proj.part 1536 (by decide) (xs x0 x1 x2 R) (ws x3) e * _root_.Proj.scale := by
  unfold _root_.Proj.part _root_.Proj.scale
  rw [← dot_at]
  pointwise [val_main_v128, val_main_v116, val_main_v115, val_main_v31, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]

theorem kb_at (R : Fin 16384) (e : Fin 512) : val_main_v129 (F := Ideal) x0 x1 x2 x3 (ix2 R e) = _root_.Proj.part 2048 (by decide) (xs x0 x1 x2 R) (ws x3) e := by
  unfold _root_.Proj.part
  rw [← dot_at]
  pointwise [val_main_v129, val_main_v32]

theorem vb_at (R : Fin 16384) (e : Fin 512) : val_main_v130 (F := Ideal) x0 x1 x2 x3 (ix2 R e) = _root_.Proj.part 2560 (by decide) (xs x0 x1 x2 R) (ws x3) e := by
  unfold _root_.Proj.part
  rw [← dot_at]
  pointwise [val_main_v130, val_main_v33]

theorem gb_at (R : Fin 16384) (e : Fin 512) : val_main_v131 (F := Ideal) x0 x1 x2 x3 (ix2 R e) = _root_.Proj.part 3072 (by decide) (xs x0 x1 x2 R) (ws x3) e := by
  unfold _root_.Proj.part
  rw [← dot_at]
  pointwise [val_main_v131, val_main_v34]

theorem u_at (R : Fin 16384) (e : Fin 512) : val_main_v132 (F := Ideal) x0 x1 x2 x3 (ix2 R e) = _root_.Proj.part 3584 (by decide) (xs x0 x1 x2 R) (ws x3) e * _root_.Proj.part 4096 (by decide) (xs x0 x1 x2 R) (ws x3) e := by
  unfold _root_.Proj.part
  rw [← dot_at, ← dot_at]
  pointwise [val_main_v132, val_main_v117, val_main_v35, val_main_v36]

theorem gate_at (R : Fin 16384) (e : Fin 3072) : val_main_v133 (F := Ideal) x0 x1 x2 x3 (ix2 R e) = _root_.Proj.gate (xs x0 x1 x2 R) (ws x3) e := by
  unfold _root_.Proj.gate
  rw [← dot_at]
  pointwise [val_main_v133, val_main_v124, val_main_v123, val_main_v122, val_main_v121, val_main_v120, val_main_v119, val_main_v118, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  rfl

end Cert.Reference4Ideal.Proj
-- ==== Proof.Proj.Run.lean ====
/- The claims of the the first layer's input projection: its frames and its value at the reals. -/
module

public import proofs.«01_k».proof.Defs
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Proj.Output
public import proofs.«01_k».proof.Proof.Proj.Ref
public import Idealize.ShloMosaic.Lib.Claim
public import Idealize.ShloMosaic.Adequacy
public import Idealize.ShloMosaic.Init

@[expose] public section

set_option maxHeartbeats 4000000

noncomputable section

namespace Cert.Proof.Proj

open Idealize.ShloMosaic Idealize.ShloMosaic.TcCoe Idealize.ShloMosaic.Tactic Idealize.SL.Sem

/-- Part 1 of the printed body is the idealized one. -/
theorem part1_eq : @Kernel4.k0_part1 Bits _ _ = @Kernel4Ideal.k0_part1 Bits _ _ := rfl

/-- Part 2 of the printed body is the idealized one. -/
theorem part2_eq : @Kernel4.k0_part2 Bits _ _ = @Kernel4Ideal.k0_part2 Bits _ _ := rfl

/-- Part 3 of the printed body is the idealized one. -/
theorem part3_eq : @Kernel4.k0_part3 Bits _ _ = @Kernel4Ideal.k0_part3 Bits _ _ := rfl

/-- Part 4 of the printed body is the idealized one. -/
theorem part4_eq : @Kernel4.k0_part4 Bits _ _ = @Kernel4Ideal.k0_part4 Bits _ _ := rfl

/-- The printed body is the idealized one: no operation was rewritten. -/
theorem body_eq : @Kernel4.cc0_input_proj Bits _ _ = @Kernel4Ideal.cc0_input_proj Bits _ _ := by
  unfold Kernel4.cc0_input_proj Kernel4Ideal.cc0_input_proj
  rw [part1_eq, part2_eq, part3_eq, part4_eq]
  rfl

/-- The printed input projection body table is the idealized one. -/
theorem bodies_eq : Kernel4.defs₀ (F := Bits) = Kernel4Ideal.defs₀ (F := Bits) := by
  unfold Kernel4.defs₀ Kernel4Ideal.defs₀
  rw [body_eq]
  refine congrArg _ (funext fun l => funext fun x => ?_)
  match l, x with
  | 0, (t, s) => rfl
  | ⟨_ + 1, h⟩, _ => exact absurd h (Nat.not_lt.2 (Nat.le_add_left _ _))

/-- The printed table of all bodies of the input projection program is the idealized one. -/
theorem defs_eq : Kernel4.defs (F := Bits) = Kernel4Ideal.defs (F := Bits) :=
  congrArg (Pipeline.defs (Kernel4.pcfgs (F := Bits))) bodies_eq

/-- The printed input projection call's frame, from the frame over any floats. -/
theorem frame_kernel : Cert.quiescent_Kernel4 := by
  intro m ρ _
  rw [defs_eq]
  exact Cert.Kernel4Ideal.Gen.frame (F := Bits) m ρ

/-- The idealized input projection call's frame. -/
theorem frame_kernelIdeal : Cert.quiescent_Kernel4Ideal := fun m ρ _ => Cert.Kernel4Ideal.Gen.frame (F := Ideal) m ρ

/-- The frame of the input projection reference, from its run. -/
theorem frame_referenceIdeal : Cert.quiescent_Reference4Ideal := fun m ρ _ =>
  (θ_run Cert.Reference4Ideal.defs _ _).mono (fun r h => ⟨fun c => (h c).2.2.2.2.2.2.2.2.2.2, sem_eq_zero_of_no_sems (by decide) r.2⟩)
    (Cert.Reference4Ideal.Value.run (F := Ideal) m ρ)

theorem ref_xn (x0 : FVec Ideal Reference4Ideal.S16384x1024 .f32) (x1 x2 : FVec Ideal Reference4Ideal.S1024 .f32) :
    Cert.Reference4Ideal.Read.val_main_v23 (F := Ideal) x0 x1 x2 = fun j => Cert.Reference4Ideal.Proj.xs x0 x1 x2 (j 0) (j 1) := by
  funext j
  idx_vars j
  exact Cert.Reference4Ideal.Proj.norm_at x0 x1 x2 _ _

theorem ref_qa (x0 : FVec Ideal Reference4Ideal.S16384x1024 .f32) (x1 x2 : FVec Ideal Reference4Ideal.S1024 .f32) (x3 : FVec Ideal Reference4Ideal.S2x1024x7680 .bf16) :
    Cert.Reference4Ideal.Read.val_main_v125 (F := Ideal) x0 x1 x2 x3 = fun j => _root_.Proj.query (Cert.Reference4Ideal.Proj.xs x0 x1 x2 (j 0)) (Cert.Reference4Ideal.Proj.ws x3) (_root_.Proj.pos (j 0)) (j 1) := by
  funext j
  idx_vars j
  exact Cert.Reference4Ideal.Proj.query_at x0 x1 x2 x3 _ _

theorem ref_ka (x0 : FVec Ideal Reference4Ideal.S16384x1024 .f32) (x1 x2 : FVec Ideal Reference4Ideal.S1024 .f32) (x3 : FVec Ideal Reference4Ideal.S2x1024x7680 .bf16) :
    Cert.Reference4Ideal.Read.val_main_v126 (F := Ideal) x0 x1 x2 x3 = fun j => _root_.Proj.key (Cert.Reference4Ideal.Proj.xs x0 x1 x2 (j 0)) (Cert.Reference4Ideal.Proj.ws x3) (_root_.Proj.pos (j 0)) (j 1) := by
  funext j
  idx_vars j
  exact Cert.Reference4Ideal.Proj.key_at x0 x1 x2 x3 _ _

theorem ref_va (x0 : FVec Ideal Reference4Ideal.S16384x1024 .f32) (x1 x2 : FVec Ideal Reference4Ideal.S1024 .f32) (x3 : FVec Ideal Reference4Ideal.S2x1024x7680 .bf16) :
    Cert.Reference4Ideal.Read.val_main_v127 (F := Ideal) x0 x1 x2 x3 = fun j => _root_.Proj.part 1024 (by decide) (Cert.Reference4Ideal.Proj.xs x0 x1 x2 (j 0)) (Cert.Reference4Ideal.Proj.ws x3) (j 1) := by
  funext j
  idx_vars j
  exact Cert.Reference4Ideal.Proj.va_at x0 x1 x2 x3 _ _

theorem ref_qb (x0 : FVec Ideal Reference4Ideal.S16384x1024 .f32) (x1 x2 : FVec Ideal Reference4Ideal.S1024 .f32) (x3 : FVec Ideal Reference4Ideal.S2x1024x7680 .bf16) :
    Cert.Reference4Ideal.Read.val_main_v128 (F := Ideal) x0 x1 x2 x3 = fun j => _root_.Proj.part 1536 (by decide) (Cert.Reference4Ideal.Proj.xs x0 x1 x2 (j 0)) (Cert.Reference4Ideal.Proj.ws x3) (j 1) * _root_.Proj.scale := by
  funext j
  idx_vars j
  exact Cert.Reference4Ideal.Proj.qb_at x0 x1 x2 x3 _ _

theorem ref_kb (x0 : FVec Ideal Reference4Ideal.S16384x1024 .f32) (x1 x2 : FVec Ideal Reference4Ideal.S1024 .f32) (x3 : FVec Ideal Reference4Ideal.S2x1024x7680 .bf16) :
    Cert.Reference4Ideal.Read.val_main_v129 (F := Ideal) x0 x1 x2 x3 = fun j => _root_.Proj.part 2048 (by decide) (Cert.Reference4Ideal.Proj.xs x0 x1 x2 (j 0)) (Cert.Reference4Ideal.Proj.ws x3) (j 1) := by
  funext j
  idx_vars j
  exact Cert.Reference4Ideal.Proj.kb_at x0 x1 x2 x3 _ _

theorem ref_vb (x0 : FVec Ideal Reference4Ideal.S16384x1024 .f32) (x1 x2 : FVec Ideal Reference4Ideal.S1024 .f32) (x3 : FVec Ideal Reference4Ideal.S2x1024x7680 .bf16) :
    Cert.Reference4Ideal.Read.val_main_v130 (F := Ideal) x0 x1 x2 x3 = fun j => _root_.Proj.part 2560 (by decide) (Cert.Reference4Ideal.Proj.xs x0 x1 x2 (j 0)) (Cert.Reference4Ideal.Proj.ws x3) (j 1) := by
  funext j
  idx_vars j
  exact Cert.Reference4Ideal.Proj.vb_at x0 x1 x2 x3 _ _

theorem ref_gb (x0 : FVec Ideal Reference4Ideal.S16384x1024 .f32) (x1 x2 : FVec Ideal Reference4Ideal.S1024 .f32) (x3 : FVec Ideal Reference4Ideal.S2x1024x7680 .bf16) :
    Cert.Reference4Ideal.Read.val_main_v131 (F := Ideal) x0 x1 x2 x3 = fun j => _root_.Proj.part 3072 (by decide) (Cert.Reference4Ideal.Proj.xs x0 x1 x2 (j 0)) (Cert.Reference4Ideal.Proj.ws x3) (j 1) := by
  funext j
  idx_vars j
  exact Cert.Reference4Ideal.Proj.gb_at x0 x1 x2 x3 _ _

theorem ref_u (x0 : FVec Ideal Reference4Ideal.S16384x1024 .f32) (x1 x2 : FVec Ideal Reference4Ideal.S1024 .f32) (x3 : FVec Ideal Reference4Ideal.S2x1024x7680 .bf16) :
    Cert.Reference4Ideal.Read.val_main_v132 (F := Ideal) x0 x1 x2 x3 = fun j => _root_.Proj.part 3584 (by decide) (Cert.Reference4Ideal.Proj.xs x0 x1 x2 (j 0)) (Cert.Reference4Ideal.Proj.ws x3) (j 1) * _root_.Proj.part 4096 (by decide) (Cert.Reference4Ideal.Proj.xs x0 x1 x2 (j 0)) (Cert.Reference4Ideal.Proj.ws x3) (j 1) := by
  funext j
  idx_vars j
  exact Cert.Reference4Ideal.Proj.u_at x0 x1 x2 x3 _ _

theorem ref_gates (x0 : FVec Ideal Reference4Ideal.S16384x1024 .f32) (x1 x2 : FVec Ideal Reference4Ideal.S1024 .f32) (x3 : FVec Ideal Reference4Ideal.S2x1024x7680 .bf16) :
    Cert.Reference4Ideal.Read.val_main_v133 (F := Ideal) x0 x1 x2 x3 = fun j => _root_.Proj.gate (Cert.Reference4Ideal.Proj.xs x0 x1 x2 (j 0)) (Cert.Reference4Ideal.Proj.ws x3) (j 1) := by
  funext j
  idx_vars j
  exact Cert.Reference4Ideal.Proj.gate_at x0 x1 x2 x3 _ _

/-- At the reals the input projection call computes the reference's results. -/
theorem algebraic : Cert.algebraic_Kernel4Ideal_Reference4Ideal := by
  intro m g m' g' _ hagree
  refine ⟨Cert.Kernel4Ideal.Proj.want_xn m, Cert.Kernel4Ideal.Proj.want_qa m, Cert.Kernel4Ideal.Proj.want_ka m, Cert.Kernel4Ideal.Proj.want_va m, Cert.Kernel4Ideal.Proj.want_qb m, Cert.Kernel4Ideal.Proj.want_kb m, Cert.Kernel4Ideal.Proj.want_vb m, Cert.Kernel4Ideal.Proj.want_gb m, Cert.Kernel4Ideal.Proj.want_u m, Cert.Kernel4Ideal.Proj.want_gates m, ?_, ?_⟩
  · refine (θ_run _ _ _).mono (fun _ h c => ?_) (Cert.Kernel4Ideal.Value.run_blocks m g)
    obtain ⟨h0, h1, h2, h3, h4, h5, h6, h7, h8, h9, h⟩ := h c
    exact ⟨h0.trans (Cert.Kernel4Ideal.Proj.array_xn m c), h1.trans (Cert.Kernel4Ideal.Proj.array_qa m c), h2.trans (Cert.Kernel4Ideal.Proj.array_ka m c), h3.trans (Cert.Kernel4Ideal.Proj.array_va m c), h4.trans (Cert.Kernel4Ideal.Proj.array_qb m c), h5.trans (Cert.Kernel4Ideal.Proj.array_kb m c), h6.trans (Cert.Kernel4Ideal.Proj.array_vb m c), h7.trans (Cert.Kernel4Ideal.Proj.array_gb m c), h8.trans (Cert.Kernel4Ideal.Proj.array_u m c), h9.trans (Cert.Kernel4Ideal.Proj.array_gates m c), h⟩
  · refine (θ_run _ _ _).mono (fun _ h c => ?_) (Cert.Reference4Ideal.Value.run m' g')
    obtain ⟨h0, h1, h2, h3, h4, h5, h6, h7, h8, h9, h⟩ := h c
    obtain ⟨a0, a1, a2, a3⟩ := hagree c
    refine ⟨h0.trans ?_, h1.trans ?_, h2.trans ?_, h3.trans ?_, h4.trans ?_, h5.trans ?_, h6.trans ?_, h7.trans ?_, h8.trans ?_, h9.trans ?_, h⟩
    · refine (Cert.Reference4Ideal.Read.val_main_v23_eq (m' (c.tc.loc Cert.Reference4Ideal.main_arg0)) (m' (c.tc.loc Cert.Reference4Ideal.main_arg1)) (m' (c.tc.loc Cert.Reference4Ideal.main_arg2))).trans ?_
      rw [ref_xn, a0, a1, a2]
      rfl
    · refine (Cert.Reference4Ideal.Read.val_main_v125_eq m' c).trans ?_
      rw [ref_qa, a0, a1, a2, a3]
      rfl
    · refine (Cert.Reference4Ideal.Read.val_main_v126_eq m' c).trans ?_
      rw [ref_ka, a0, a1, a2, a3]
      rfl
    · refine (Cert.Reference4Ideal.Read.val_main_v127_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3))).trans ?_
      rw [ref_va, a0, a1, a2, a3]
      rfl
    · refine (Cert.Reference4Ideal.Read.val_main_v128_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3))).trans ?_
      rw [ref_qb, a0, a1, a2, a3]
      rfl
    · refine (Cert.Reference4Ideal.Read.val_main_v129_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3))).trans ?_
      rw [ref_kb, a0, a1, a2, a3]
      rfl
    · refine (Cert.Reference4Ideal.Read.val_main_v130_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3))).trans ?_
      rw [ref_vb, a0, a1, a2, a3]
      rfl
    · refine (Cert.Reference4Ideal.Read.val_main_v131_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3))).trans ?_
      rw [ref_gb, a0, a1, a2, a3]
      rfl
    · refine (Cert.Reference4Ideal.Read.val_main_v132_eq m' c).trans ?_
      rw [ref_u, a0, a1, a2, a3]
      rfl
    · refine (Cert.Reference4Ideal.Read.val_main_v133_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3))).trans ?_
      rw [ref_gates, a0, a1, a2, a3]
      rfl

end Cert.Proof.Proj

end
-- ==== Proof.Proj1.Body.lean ====
module

public import proofs.«01_k».proof.Proof.Gen.Kernel5Ideal.Value
public import proofs.«01_k».proof.Proof.Proj.Spec
public import Idealize.ShloMosaic.Lib.Pointwise
public import Idealize.ShloMosaic.Lib.Pipeline.ValueKit

@[expose] public section

set_option maxRecDepth 16384

noncomputable section

namespace Cert.Kernel5Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

/-! # The projection's body as a function of its blocks -/

/-- A block of rows times 512 columns of the weights. -/
def prod (x : FVec F S512x1024 .bf16) (w : Vec F S1x1024x512 .bf16) : FVec F S512x512 .f32 :=
  matmul dot_S512x1024_S1024x512_S512x512_1_0_0_1_n_n none x (shapeCast S1024x512 w shapeCasts_S1x1024x512_S1024x512) (constant S512x512 .f32 0x00000000#32)

/-- A lane's number within its head, as the body computes it. -/
def lane : IVec S512x128 32 := remsi (iota .tc S512x128 32 [1] iota_S512x128_d1_w32) (broadcast S512x128 (Scalar.select (Scalar.cmpi .eq 64#32 0#32) 1#32 64#32))

/-- The lanes in the first half of their head, as the body computes them. -/
def first : IVec S512x128 1 :=
  cmpi .slt
    (select
      (andi (xori (cmpi .slt lane (broadcast S512x128 0#32)) (broadcastTo S512x128 (broadcast S512x128 (Scalar.cmpi .slt (Scalar.select (Scalar.cmpi .eq 64#32 0#32) 1#32 64#32) 0#32)) broadcasts_S512x128_S512x128))
        (cmpi .ne lane (broadcast S512x128 0#32)))
      (addi lane (broadcast S512x128 (Scalar.select (Scalar.cmpi .eq 64#32 0#32) 1#32 64#32))) lane)
    (broadcast S512x128 32#32)

/-- Two heads side by side, turned: cosines times the lanes, signed sines times their partners. -/
def turn (y cs sn : FVec F S512x128 .f32) : FVec F S512x128 .f32 :=
  addf (mulf y cs) (mulf (select first (dynamicRotate 1 96#32 none y rotates_S512x128_d1) (dynamicRotate 1 32#32 none y rotates_S512x128_d1)) sn)

/-- Eight heads, turned two by two. -/
def turned (y : FVec F S512x512 .f32) (cs sn : FVec F S512x128 .f32) : FVec F S512x512 .bf16 :=
  truncf .bf16 (concatenate S512x512 1 [⟨S512x128, turn (extractStridedSlice S512x128 ![0, 0] y slices_S512x512_o0_0_S512x128) cs sn⟩,
    ⟨S512x128, turn (extractStridedSlice S512x128 ![0, 128] y slices_S512x512_o0_128_S512x128) cs sn⟩,
    ⟨S512x128, turn (extractStridedSlice S512x128 ![0, 256] y slices_S512x512_o0_256_S512x128) cs sn⟩,
    ⟨S512x128, turn (extractStridedSlice S512x128 ![0, 384] y slices_S512x512_o0_384_S512x128) cs sn⟩] concatenates_S512x128_S512x128_S512x128_S512x128_S512x512_d1) bitsLt_bf16_f32

/-- The gates of a block of rows. -/
def gates (x : FVec F S512x1024 .bf16) (w : Vec F S1x1024x3072 .bf16) : FVec F S512x3072 .bf16 :=
  truncf .bf16 (logistic (matmul dot_S512x1024_S1024x3072_S512x3072_1_0_0_1_n_n none x (shapeCast S1024x3072 w shapeCasts_S1x1024x3072_S1024x3072) (constant S512x3072 .f32 0x00000000#32))) bitsLt_bf16_f32

/-! ## The pieces at an index -/

theorem prod_apply (x : FVec Ideal S512x1024 .bf16) (w : Vec Ideal S1x1024x512 .bf16) (r e : Fin 512) :
    prod x w (ix2 r e) = ∑ d, x (ix2 r d) * w (ix3 0 d e) := by
  pointwise [prod]

theorem gates_apply (x : FVec Ideal S512x1024 .bf16) (w : Vec Ideal S1x1024x3072 .bf16) (r : Fin 512) (e : Fin 3072) :
    gates x w (ix2 r e) = Ideal.logistic (∑ d, x (ix2 r d) * w (ix3 0 d e)) := by
  pointwise [gates]

/-- The first half of a head, by the lane's number. -/
theorem first_apply (r : Fin 512) (l : Fin 128) : first (ix2 r l) = if l.val % 64 < 32 then 1#1 else 0#1 := by
  pointwise [first, lane]
  revert l
  decide +kernel

theorem turn_apply (y cs sn : FVec Ideal S512x128 .f32) (r : Fin 512) (l : Fin 128) :
    turn y cs sn (ix2 r l) = y (ix2 r l) * cs (ix2 r l)
      + (if h : l.val % 64 < 32 then y (ix2 r ⟨l.val + 32, by omega⟩) else y (ix2 r ⟨l.val - 32, by omega⟩)) * sn (ix2 r l) := by
  pointwise [turn]
  rw [first_apply]
  by_cases h : l.val % 64 < 32
  · rw [if_pos h, dif_pos h]
    refine congrArg (fun z => _ + z * _) ((if_pos rfl).trans (congrArg (fun q => y (ix2 r q)) (Fin.ext ?_)))
    show (l.val + 128 - 96) % 128 = l.val + 32
    omega
  · rw [if_neg h, dif_neg h]
    refine congrArg (fun z => _ + z * _) ((if_neg (by decide)).trans (congrArg (fun q => y (ix2 r q)) (Fin.ext ?_)))
    show (l.val + 128 - 32) % 128 = l.val - 32
    omega

/-- A column's place in its pair of heads. -/
def lane128 (e : Fin 512) : Fin 128 := ⟨e.val % 128, by omega⟩

/-- Two heads of eight, turned, at a column of all eight. -/
theorem turn_heads (y : FVec Ideal S512x512 .f32) (z cs sn : FVec Ideal S512x128 .f32) (r e : Fin 512) (l : Fin 128) (k : ℕ) (hk : k < 4)
    (hl : e.val = 128 * k + l.val) (hz : ∀ q : Fin 128, z (ix2 r q) = y (ix2 r ⟨128 * k + q.val, by omega⟩)) :
    turn z cs sn (ix2 r l) = y (ix2 r e) * cs (ix2 r (lane128 e)) + y (ix2 r (_root_.Proj.partner e)) * sn (ix2 r (lane128 e)) := by
  have e1 : lane128 e = l := Fin.ext (by show e.val % 128 = l.val; omega)
  have e2 : (⟨128 * k + l.val, by omega⟩ : Fin 512) = e := Fin.ext hl.symm
  rw [turn_apply, hz, e1, e2]
  refine congrArg (fun q : EReal => y (ix2 r e) * cs (ix2 r l) + q * sn (ix2 r l)) ?_
  unfold _root_.Proj.partner
  by_cases h : l.val % 64 < 32
  · have h' : e.val % 64 < 32 := by omega
    rw [dif_pos h, dif_pos h', hz]
    exact congrArg (fun q => y (ix2 r q)) (Fin.ext (show 128 * k + (l.val + 32) = e.val + 32 by omega))
  · have h' : ¬ e.val % 64 < 32 := by omega
    rw [dif_neg h, dif_neg h', hz]
    exact congrArg (fun q => y (ix2 r q)) (Fin.ext (show 128 * k + (l.val - 32) = e.val - 32 by omega))

theorem turned_apply (y : FVec Ideal S512x512 .f32) (cs sn : FVec Ideal S512x128 .f32) (r e : Fin 512) :
    turned y cs sn (ix2 r e) = y (ix2 r e) * cs (ix2 r (lane128 e)) + y (ix2 r (_root_.Proj.partner e)) * sn (ix2 r (lane128 e)) := by
  have he := e.isLt
  pointwise [turned]
  by_cases h0 : e.val < 128
  · refine (dif_pos h0).trans (turn_heads y _ cs sn r e _ 0 (by decide) (show e.val = 128 * 0 + e.val by omega) fun q => ?_)
    pointwise []
  refine (dif_neg h0).trans ?_
  by_cases h1 : e.val - 128 < 128
  · refine (dif_pos h1).trans (turn_heads y _ cs sn r e _ 1 (by decide) (show e.val = 128 * 1 + (e.val - 128) by omega) fun q => ?_)
    pointwise []
  refine (dif_neg h1).trans ?_
  by_cases h2 : e.val - 128 - 128 < 128
  · refine (dif_pos h2).trans (turn_heads y _ cs sn r e _ 2 (by decide) (show e.val = 128 * 2 + (e.val - 128 - 128) by omega) fun q => ?_)
    pointwise []
  refine (dif_neg h2).trans (turn_heads y _ cs sn r e _ 3 (by decide) (show e.val = 128 * 3 + (e.val - 128 - 128 - 128) by omega) fun q => ?_)
  pointwise []

/-! ## What the body leaves in each result's block -/

variable (m : (ℓ : Loc nD τ sig) → Buf (Elt F) ℓ) (c : Dev nD) (t : Fin cfg0.N)

/-- The rows of a point, in the products' format. -/
def rows (c : Dev nD) (t : Fin cfg0.N) : FVec F S512x1024 .bf16 := truncf .bf16 (View.ld (iblk m c 0 t) r0_0) bitsLt_bf16_f32

/-- The point's part of the table of cosines and signed sines. -/
def tab (c : Dev nD) (t : Fin cfg0.N) : FVec F S512x512 .f32 := shapeCast S512x512 (View.ld (iblk m c 2 t) r0_1) shapeCasts_S512x512_S512x512

theorem after_qa : (dats m 0 c).after 3 t = View.canon [⟨r0_1, turned (prod (rows m c t) (View.ld (iblk m c 1 t) r0_2))
    (extractStridedSlice S512x128 ![0, 0] (tab m c t) slices_S512x512_o0_0_S512x128) (extractStridedSlice S512x128 ![0, 128] (tab m c t) slices_S512x512_o0_128_S512x128)⟩] := by
  rw [after0_3]
  unfold_out out0_3
  rfl

theorem after_ka : (dats m 0 c).after 4 t = View.canon [⟨r0_1, turned (prod (rows m c t) (View.ld (iblk m c 1 t) r0_3))
    (extractStridedSlice S512x128 ![0, 256] (tab m c t) slices_S512x512_o0_256_S512x128) (extractStridedSlice S512x128 ![0, 384] (tab m c t) slices_S512x512_o0_384_S512x128)⟩] := by
  rw [after0_4]
  unfold_out out0_4
  rfl

theorem after_va : (dats m 0 c).after 5 t = View.canon [⟨r0_1, truncf .bf16 (prod (rows m c t) (View.ld (iblk m c 1 t) r0_4)) bitsLt_bf16_f32⟩] := by
  rw [after0_5]
  unfold_out out0_5
  rfl

theorem after_qb : (dats m 0 c).after 6 t = View.canon [⟨r0_1, truncf .bf16 (mulf (prod (rows m c t) (View.ld (iblk m c 1 t) r0_5)) (broadcast S512x512 (Scalar.ofBits .f32 0x3E000000#32))) bitsLt_bf16_f32⟩] := by
  rw [after0_6]
  unfold_out out0_6
  rfl

theorem after_kb : (dats m 0 c).after 7 t = View.canon [⟨r0_1, truncf .bf16 (prod (rows m c t) (View.ld (iblk m c 1 t) r0_6)) bitsLt_bf16_f32⟩] := by
  rw [after0_7]
  unfold_out out0_7
  rfl

theorem after_vb : (dats m 0 c).after 8 t = View.canon [⟨r0_1, truncf .bf16 (prod (rows m c t) (View.ld (iblk m c 1 t) r0_7)) bitsLt_bf16_f32⟩] := by
  rw [after0_8]
  unfold_out out0_8
  rfl

theorem after_gb : (dats m 0 c).after 9 t = View.canon [⟨r0_1, truncf .bf16 (prod (rows m c t) (View.ld (iblk m c 1 t) r0_8)) bitsLt_bf16_f32⟩] := by
  rw [after0_9]
  unfold_out out0_9
  rfl

theorem after_u : (dats m 0 c).after 10 t = View.canon [⟨r0_1, truncf .bf16 (mulf (prod (rows m c t) (View.ld (iblk m c 1 t) r0_9)) (prod (rows m c t) (View.ld (iblk m c 1 t) r0_10))) bitsLt_bf16_f32⟩] := by
  rw [after0_10]
  unfold_out out0_10
  rfl

theorem after_gates : (dats m 0 c).after 11 t = View.canon [⟨r0_12, gates (rows m c t) (View.ld (iblk m c 1 t) r0_11)⟩] := by
  rw [after0_11]
  unfold_out out0_11
  rfl

/-- A block stored whole is what was stored. -/
theorem canon_whole (v : Vec Ideal S512x512 .bf16) (r e : Fin 512) : View.canon [⟨r0_1, v⟩] (ix2 r e) = v (ix2 r e) := by
  canon_tiles z h
  idx_vars z
  obtain rfl : r = z0 := Fin.ext h0
  obtain rfl : e = z1 := Fin.ext h1
  rfl

theorem canon_gates (v : Vec Ideal S512x3072 .bf16) (r : Fin 512) (e : Fin 3072) : View.canon [⟨r0_12, v⟩] (ix2 r e) = v (ix2 r e) := by
  canon_tiles z h
  idx_vars z
  obtain rfl : r = z0 := Fin.ext h0
  obtain rfl : e = z1 := Fin.ext h1
  rfl

end Cert.Kernel5Ideal.Proj
-- ==== Proof.Proj1.Table.lean ====
module

public import Idealize.ShloMosaic.Lib.StableHlo.RunRead
public import Idealize.ShloMosaic.Lib.Tactic.CleanTypes
public import proofs.«01_k».proof.Proof.Proj1.Body

@[expose] public section

set_option maxRecDepth 16384

noncomputable section

namespace Cert.Kernel5Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

/-! # The table of cosines and signed sines that the host computes before the call -/

/-- The frequencies. -/
def freqs : FVec F S32 .f32 :=
  Host.powf (broadcastInDim S32 ![] bcast_S_S32 (constant S_ .f32 0x461C4000#32))
    (Host.divf (mulf (Host.negf (sitofp .f32 (iotaInDim S32 32 0))) (broadcastInDim S32 ![] bcast_S_S32 (constant S_ .f32 0x40000000#32)))
      (broadcastInDim S32 ![] bcast_S_S32 (constant S_ .f32 0x42800000#32)))

/-- The angles, position by frequency. -/
def angles : FVec F S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1 freqs))

/-- Two 32-wide halves of a head, for two heads side by side. -/
def heads (a b : FVec F S8192x32 .f32) : FVec F S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128

/-- The query scale, everywhere. -/
def scales : FVec F S8192x128 .f32 := broadcastInDim S8192x128 ![] bcast_S_S8192x128 (constant S_ .f32 0x3E000000#32)

/-- Cosines and signed sines, scaled and plain. -/
def full (cs sn : FVec F S8192x128 .f32) : FVec F S8192x512 .f32 :=
  concatenate S8192x512 1 [⟨S8192x128, mulf cs scales⟩, ⟨S8192x128, mulf sn scales⟩, ⟨S8192x128, cs⟩, ⟨S8192x128, sn⟩] concatenates_S8192x128_S8192x128_S8192x128_S8192x128_S8192x512_d1

theorem cos_eq (V : Valuation τ sig (Elt F)) : (StableHlo.upto hostOps0 V 34 (Proc.tc.devRef main_v19) : Vec F S8192x128 .f32) = heads (Host.cos angles) (Host.cos angles) := by
  after_reads_simp
  rfl

theorem sin_eq (V : Valuation τ sig (Elt F)) : (StableHlo.upto hostOps0 V 34 (Proc.tc.devRef main_v24) : Vec F S8192x128 .f32) = heads (Host.negf (Host.sin angles)) (Host.sin angles) := by
  after_reads_simp
  rfl

theorem cos_scaled_eq (V : Valuation τ sig (Elt F)) : (StableHlo.upto hostOps0 V 34 (Proc.tc.devRef main_v26) : Vec F S8192x128 .f32) = mulf (heads (Host.cos angles) (Host.cos angles)) scales := by
  after_reads_simp
  rfl

theorem sin_scaled_eq (V : Valuation τ sig (Elt F)) : (StableHlo.upto hostOps0 V 34 (Proc.tc.devRef main_v28) : Vec F S8192x128 .f32) = mulf (heads (Host.negf (Host.sin angles)) (Host.sin angles)) scales := by
  after_reads_simp
  rfl

theorem table_eq (V : Valuation τ sig (Elt F)) :
    (StableHlo.after hostOps0 V (Proc.tc.devRef main_v29) : Vec F S8192x512 .f32)
      = full (heads (Host.cos angles) (Host.cos angles)) (heads (Host.negf (Host.sin angles)) (Host.sin angles)) := by
  after_reads_simp
  change concatenate S8192x512 1 [⟨S8192x128, (StableHlo.upto hostOps0 V 34 (Proc.tc.devRef main_v26) : Vec F S8192x128 .f32)⟩, ⟨S8192x128, (StableHlo.upto hostOps0 V 34 (Proc.tc.devRef main_v28) : Vec F S8192x128 .f32)⟩,
    ⟨S8192x128, (StableHlo.upto hostOps0 V 34 (Proc.tc.devRef main_v19) : Vec F S8192x128 .f32)⟩, ⟨S8192x128, (StableHlo.upto hostOps0 V 34 (Proc.tc.devRef main_v24) : Vec F S8192x128 .f32)⟩] concatenates_S8192x128_S8192x128_S8192x128_S8192x128_S8192x512_d1 = _
  rw [cos_eq, sin_eq, cos_scaled_eq, sin_scaled_eq]
  rfl

theorem angles_apply (s : Fin 8192) (j : Fin 32) : angles (F := Ideal) (ix2 s j) = _root_.Proj.angle s j := by
  pointwise [angles, freqs]
  rfl

theorem heads_apply (a b : FVec Ideal S8192x32 .f32) (s : Fin 8192) (l : Fin 128) :
    heads a b (ix2 s l) = if l.val % 64 < 32 then a (ix2 s ⟨l.val % 32, by omega⟩) else b (ix2 s ⟨l.val % 32, by omega⟩) := by
  pointwise [heads]
  by_cases h : l.val % 64 < 32
  · rw [dif_pos h, if_pos h]; congr 3; omega
  · rw [dif_neg h, if_neg h]; congr 3; omega

theorem full_apply (cs sn : FVec Ideal S8192x128 .f32) (s : Fin 8192) (l : Fin 128) :
    full cs sn (ix2 s ⟨l.val, by omega⟩) = cs (ix2 s l) * _root_.Proj.scale
    ∧ full cs sn (ix2 s ⟨128 + l.val, by omega⟩) = sn (ix2 s l) * _root_.Proj.scale
    ∧ full cs sn (ix2 s ⟨256 + l.val, by omega⟩) = cs (ix2 s l)
    ∧ full cs sn (ix2 s ⟨384 + l.val, by omega⟩) = sn (ix2 s l) := by
  refine ⟨?_, ?_, ?_, ?_⟩
  all_goals pointwise [full, scales]
  · rfl
  · rfl
  · rw [dif_neg (by omega), dif_neg (by omega), dif_pos (by omega)]; congr 3; omega
  · rw [dif_neg (by omega), dif_neg (by omega), dif_neg (by omega)]; congr 3; omega

end Cert.Kernel5Ideal.Proj
-- ==== Proof.Proj1.Output.lean ====
module

public import proofs.«01_k».proof.Proof.Proj1.Table

@[expose] public section

set_option maxRecDepth 16384

noncomputable section

namespace Cert.Kernel5Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

/-! # The blocks of a grid point are rows of the arrays; the result arrays -/

/-- The blocks of a point: 512 rows, of every array alike; the table's rows start over with each sequence. -/
theorem idx (t : Fin cfg0.N) : win0_0.index t = ![t.val, 0] ∧ win0_1.index t = ![1, 0, 0] ∧ win0_2.index t = ![t.val % 16, 0]
      ∧ win0_3.index t = ![t.val, 0] ∧ win0_4.index t = ![t.val, 0] ∧ win0_5.index t = ![t.val, 0] ∧ win0_6.index t = ![t.val, 0]
      ∧ win0_7.index t = ![t.val, 0] ∧ win0_8.index t = ![t.val, 0] ∧ win0_9.index t = ![t.val, 0] ∧ win0_10.index t = ![t.val, 0]
      ∧ win0_11.index t = ![t.val, 0] := by
  revert t; decide +kernel

theorem pt_lt (t : Fin cfg0.N) : t.val < 32 := t.isLt

variable (m : (ℓ : Loc nD τ sig) → Buf (Elt Ideal) ℓ)

/-- Row `r` of a point's block, as a row of the arrays. -/
def at_row (t : Fin cfg0.N) (r : Fin 512) : Fin 16384 := ⟨512 * t.val + r.val, by have := pt_lt t; omega⟩

/-- The rows of the input. -/
def xs (c : Dev nD) (R : Fin 16384) (d : Fin 1024) : EReal := m ((c.tc : Thread nD τ).loc main_arg0) (ix2 R d)

/-- The layer's weights. -/
def ws (c : Dev nD) (d : Fin 1024) (e : Fin 7680) : EReal := m ((c.tc : Thread nD τ).loc main_arg1) (ix3 1 d e)

theorem rows_apply (c : Dev nD) (t : Fin cfg0.N) (r : Fin 512) (d : Fin 1024) : rows m c t (ix2 r d) = xs m c (at_row t r) d := by
  pointwise [rows]
  unfold xs at_row
  blk_ext [iblk, V, idx t]

theorem blk_w (c : Dev nD) (t : Fin cfg0.N) (d : Fin 1024) (e : Fin 7680) : iblk m c 1 t (ix3 0 d e) = ws m c d e := by
  unfold ws
  blk_ext [iblk, V, idx t]

/-- The table as the host operations before the call leave it. -/
def table (c : Dev nD) : Vec Ideal S8192x512 .f32 := StableHlo.after hostOps0 (fun b => m (c, b)) (Proc.tc.devRef main_v29)

theorem tab_apply (c : Dev nD) (t : Fin cfg0.N) (r l : Fin 512) : tab m c t (ix2 r l) = table m c (ix2 (_root_.Proj.pos (at_row t r)) l) := by
  have := pt_lt t
  pointwise [tab]
  unfold table _root_.Proj.pos at_row
  blk_ext [iblk, V, idx t]

/-! ## The table's four parts -/

theorem heads_cos (s : Fin 8192) (e : Fin 512) :
    heads (F := Ideal) (Host.cos angles) (Host.cos angles) (ix2 s (lane128 e)) = Ideal.cos (_root_.Proj.angle s (_root_.Proj.freq e)) := by
  rw [heads_apply, ite_self]
  refine (show _ = Ideal.cos (angles (F := Ideal) (ix2 s ⟨(lane128 e).val % 32, by omega⟩)) from rfl).trans ?_
  rw [angles_apply]
  exact congrArg (fun j => Ideal.cos (_root_.Proj.angle s j)) (Fin.ext (show e.val % 128 % 32 = e.val % 32 by omega))

theorem heads_sin (s : Fin 8192) (e : Fin 512) :
    heads (F := Ideal) (Host.negf (Host.sin angles)) (Host.sin angles) (ix2 s (lane128 e)) = _root_.Proj.signed s e := by
  have hj : (⟨(lane128 e).val % 32, by omega⟩ : Fin 32) = _root_.Proj.freq e := Fin.ext (show e.val % 128 % 32 = e.val % 32 by omega)
  have hl : (lane128 e).val % 64 = e.val % 64 := (show e.val % 128 % 64 = e.val % 64 by omega)
  rw [heads_apply, hl, hj]
  unfold _root_.Proj.signed
  by_cases h : e.val % 64 < 32
  · rw [if_pos h, if_pos h, ← angles_apply]; rfl
  · rw [if_neg h, if_neg h, ← angles_apply]; rfl

theorem table_apply (c : Dev nD) (s : Fin 8192) (e : Fin 512) :
    table m c (ix2 s ⟨(lane128 e).val, by omega⟩) = Ideal.cos (_root_.Proj.angle s (_root_.Proj.freq e)) * _root_.Proj.scale
    ∧ table m c (ix2 s ⟨128 + (lane128 e).val, by omega⟩) = _root_.Proj.signed s e * _root_.Proj.scale
    ∧ table m c (ix2 s ⟨256 + (lane128 e).val, by omega⟩) = Ideal.cos (_root_.Proj.angle s (_root_.Proj.freq e))
    ∧ table m c (ix2 s ⟨384 + (lane128 e).val, by omega⟩) = _root_.Proj.signed s e := by
  unfold table
  rw [table_eq, ← heads_cos, ← heads_sin]
  exact full_apply _ _ s (lane128 e)

theorem tab_0 (c : Dev nD) (t : Fin cfg0.N) (r : Fin 512) (e : Fin 512) :
    extractStridedSlice S512x128 ![0, 0] (tab m c t) slices_S512x512_o0_0_S512x128 (ix2 r (lane128 e))
      = Ideal.cos (_root_.Proj.angle (_root_.Proj.pos (at_row t r)) (_root_.Proj.freq e)) * _root_.Proj.scale := by
  rw [← (table_apply m c _ e).1, ← tab_apply]
  pointwise []

theorem tab_128 (c : Dev nD) (t : Fin cfg0.N) (r : Fin 512) (e : Fin 512) :
    extractStridedSlice S512x128 ![0, 128] (tab m c t) slices_S512x512_o0_128_S512x128 (ix2 r (lane128 e))
      = _root_.Proj.signed (_root_.Proj.pos (at_row t r)) e * _root_.Proj.scale := by
  rw [← (table_apply m c _ e).2.1, ← tab_apply]
  pointwise []

theorem tab_256 (c : Dev nD) (t : Fin cfg0.N) (r : Fin 512) (e : Fin 512) :
    extractStridedSlice S512x128 ![0, 256] (tab m c t) slices_S512x512_o0_256_S512x128 (ix2 r (lane128 e))
      = Ideal.cos (_root_.Proj.angle (_root_.Proj.pos (at_row t r)) (_root_.Proj.freq e)) := by
  rw [← (table_apply m c _ e).2.2.1, ← tab_apply]
  pointwise []

theorem tab_384 (c : Dev nD) (t : Fin cfg0.N) (r : Fin 512) (e : Fin 512) :
    extractStridedSlice S512x128 ![0, 384] (tab m c t) slices_S512x512_o0_384_S512x128 (ix2 r (lane128 e))
      = _root_.Proj.signed (_root_.Proj.pos (at_row t r)) e := by
  rw [← (table_apply m c _ e).2.2.2, ← tab_apply]
  pointwise []

/-! ## The parts of a row's product -/

theorem prod_0 (c : Dev nD) (t : Fin cfg0.N) (r e : Fin 512) :
    prod (rows m c t) (View.ld (iblk m c 1 t) r0_2) (ix2 r e) = _root_.Proj.part 0 (by decide) (xs m c (at_row t r)) (ws m c) e := by
  rw [prod_apply]
  unfold _root_.Proj.part _root_.Proj.dot
  refine Finset.sum_congr rfl fun d _ => ?_
  rw [rows_apply, ← blk_w m c t]
  pointwise []

theorem prod_512 (c : Dev nD) (t : Fin cfg0.N) (r e : Fin 512) :
    prod (rows m c t) (View.ld (iblk m c 1 t) r0_3) (ix2 r e) = _root_.Proj.part 512 (by decide) (xs m c (at_row t r)) (ws m c) e := by
  rw [prod_apply]
  unfold _root_.Proj.part _root_.Proj.dot
  refine Finset.sum_congr rfl fun d _ => ?_
  rw [rows_apply, ← blk_w m c t]
  pointwise []

theorem prod_1024 (c : Dev nD) (t : Fin cfg0.N) (r e : Fin 512) :
    prod (rows m c t) (View.ld (iblk m c 1 t) r0_4) (ix2 r e) = _root_.Proj.part 1024 (by decide) (xs m c (at_row t r)) (ws m c) e := by
  rw [prod_apply]
  unfold _root_.Proj.part _root_.Proj.dot
  refine Finset.sum_congr rfl fun d _ => ?_
  rw [rows_apply, ← blk_w m c t]
  pointwise []

theorem prod_1536 (c : Dev nD) (t : Fin cfg0.N) (r e : Fin 512) :
    prod (rows m c t) (View.ld (iblk m c 1 t) r0_5) (ix2 r e) = _root_.Proj.part 1536 (by decide) (xs m c (at_row t r)) (ws m c) e := by
  rw [prod_apply]
  unfold _root_.Proj.part _root_.Proj.dot
  refine Finset.sum_congr rfl fun d _ => ?_
  rw [rows_apply, ← blk_w m c t]
  pointwise []

theorem prod_2048 (c : Dev nD) (t : Fin cfg0.N) (r e : Fin 512) :
    prod (rows m c t) (View.ld (iblk m c 1 t) r0_6) (ix2 r e) = _root_.Proj.part 2048 (by decide) (xs m c (at_row t r)) (ws m c) e := by
  rw [prod_apply]
  unfold _root_.Proj.part _root_.Proj.dot
  refine Finset.sum_congr rfl fun d _ => ?_
  rw [rows_apply, ← blk_w m c t]
  pointwise []

theorem prod_2560 (c : Dev nD) (t : Fin cfg0.N) (r e : Fin 512) :
    prod (rows m c t) (View.ld (iblk m c 1 t) r0_7) (ix2 r e) = _root_.Proj.part 2560 (by decide) (xs m c (at_row t r)) (ws m c) e := by
  rw [prod_apply]
  unfold _root_.Proj.part _root_.Proj.dot
  refine Finset.sum_congr rfl fun d _ => ?_
  rw [rows_apply, ← blk_w m c t]
  pointwise []

theorem prod_3072 (c : Dev nD) (t : Fin cfg0.N) (r e : Fin 512) :
    prod (rows m c t) (View.ld (iblk m c 1 t) r0_8) (ix2 r e) = _root_.Proj.part 3072 (by decide) (xs m c (at_row t r)) (ws m c) e := by
  rw [prod_apply]
  unfold _root_.Proj.part _root_.Proj.dot
  refine Finset.sum_congr rfl fun d _ => ?_
  rw [rows_apply, ← blk_w m c t]
  pointwise []

theorem prod_3584 (c : Dev nD) (t : Fin cfg0.N) (r e : Fin 512) :
    prod (rows m c t) (View.ld (iblk m c 1 t) r0_9) (ix2 r e) = _root_.Proj.part 3584 (by decide) (xs m c (at_row t r)) (ws m c) e := by
  rw [prod_apply]
  unfold _root_.Proj.part _root_.Proj.dot
  refine Finset.sum_congr rfl fun d _ => ?_
  rw [rows_apply, ← blk_w m c t]
  pointwise []

theorem prod_4096 (c : Dev nD) (t : Fin cfg0.N) (r e : Fin 512) :
    prod (rows m c t) (View.ld (iblk m c 1 t) r0_10) (ix2 r e) = _root_.Proj.part 4096 (by decide) (xs m c (at_row t r)) (ws m c) e := by
  rw [prod_apply]
  unfold _root_.Proj.part _root_.Proj.dot
  refine Finset.sum_congr rfl fun d _ => ?_
  rw [rows_apply, ← blk_w m c t]
  pointwise []

/-! ## The result arrays -/

/-- The queries of the differential attention. -/
def want_qa (c : Dev nD) : Vec Ideal S16384x512 .bf16 := fun j => _root_.Proj.query (xs m c (j 0)) (ws m c) (_root_.Proj.pos (j 0)) (j 1)

theorem at_qa (c : Dev nD) (t : Fin cfg0.N) (r : Fin 512) (e : Fin 512) : (dats m 0 c).after 3 t (ix2 r e) = want_qa m c (ix2 (at_row t r) e) := by
  rw [after_qa, canon_whole]
  rw [turned_apply, prod_0, prod_0, tab_0, tab_128]
  exact _root_.Proj.rot_scaled _ _ _

theorem array_qa (c : Dev nD) : (dats m 0 c).arrAt 3 cfg0.N = want_qa m c := by
  refine (dats m 0 c).arrAt_eq_of_covers 3 _ (by decide +kernel) fun t hf y => ?_
  blk_simp
  change S512x512.Idx at y
  idx_vars y
  rw [at_qa m c t y0 y1]
  unfold at_row
  blk_ext [idx t]

/-- The keys of the differential attention. -/
def want_ka (c : Dev nD) : Vec Ideal S16384x512 .bf16 := fun j => _root_.Proj.key (xs m c (j 0)) (ws m c) (_root_.Proj.pos (j 0)) (j 1)

theorem at_ka (c : Dev nD) (t : Fin cfg0.N) (r : Fin 512) (e : Fin 512) : (dats m 0 c).after 4 t (ix2 r e) = want_ka m c (ix2 (at_row t r) e) := by
  rw [after_ka, canon_whole]
  rw [turned_apply, prod_512, prod_512, tab_256, tab_384]
  exact _root_.Proj.rot_eq _ _ _

theorem array_ka (c : Dev nD) : (dats m 0 c).arrAt 4 cfg0.N = want_ka m c := by
  refine (dats m 0 c).arrAt_eq_of_covers 4 _ (by decide +kernel) fun t hf y => ?_
  blk_simp
  change S512x512.Idx at y
  idx_vars y
  rw [at_ka m c t y0 y1]
  unfold at_row
  blk_ext [idx t]

/-- The values of the differential attention. -/
def want_va (c : Dev nD) : Vec Ideal S16384x512 .bf16 := fun j => _root_.Proj.part 1024 (by decide) (xs m c (j 0)) (ws m c) (j 1)

theorem at_va (c : Dev nD) (t : Fin cfg0.N) (r : Fin 512) (e : Fin 512) : (dats m 0 c).after 5 t (ix2 r e) = want_va m c (ix2 (at_row t r) e) := by
  rw [after_va, canon_whole]
  exact prod_1024 m c t r e

theorem array_va (c : Dev nD) : (dats m 0 c).arrAt 5 cfg0.N = want_va m c := by
  refine (dats m 0 c).arrAt_eq_of_covers 5 _ (by decide +kernel) fun t hf y => ?_
  blk_simp
  change S512x512.Idx at y
  idx_vars y
  rw [at_va m c t y0 y1]
  unfold at_row
  blk_ext [idx t]

/-- The scaled queries of the neighbourhood attention. -/
def want_qb (c : Dev nD) : Vec Ideal S16384x512 .bf16 := fun j => _root_.Proj.part 1536 (by decide) (xs m c (j 0)) (ws m c) (j 1) * _root_.Proj.scale

theorem at_qb (c : Dev nD) (t : Fin cfg0.N) (r : Fin 512) (e : Fin 512) : (dats m 0 c).after 6 t (ix2 r e) = want_qb m c (ix2 (at_row t r) e) := by
  rw [after_qb, canon_whole]
  exact congrArg (fun q : EReal => q * _root_.Proj.scale) (prod_1536 m c t r e)

theorem array_qb (c : Dev nD) : (dats m 0 c).arrAt 6 cfg0.N = want_qb m c := by
  refine (dats m 0 c).arrAt_eq_of_covers 6 _ (by decide +kernel) fun t hf y => ?_
  blk_simp
  change S512x512.Idx at y
  idx_vars y
  rw [at_qb m c t y0 y1]
  unfold at_row
  blk_ext [idx t]

/-- The keys of the neighbourhood attention. -/
def want_kb (c : Dev nD) : Vec Ideal S16384x512 .bf16 := fun j => _root_.Proj.part 2048 (by decide) (xs m c (j 0)) (ws m c) (j 1)

theorem at_kb (c : Dev nD) (t : Fin cfg0.N) (r : Fin 512) (e : Fin 512) : (dats m 0 c).after 7 t (ix2 r e) = want_kb m c (ix2 (at_row t r) e) := by
  rw [after_kb, canon_whole]
  exact prod_2048 m c t r e

theorem array_kb (c : Dev nD) : (dats m 0 c).arrAt 7 cfg0.N = want_kb m c := by
  refine (dats m 0 c).arrAt_eq_of_covers 7 _ (by decide +kernel) fun t hf y => ?_
  blk_simp
  change S512x512.Idx at y
  idx_vars y
  rw [at_kb m c t y0 y1]
  unfold at_row
  blk_ext [idx t]

/-- The values of the neighbourhood attention. -/
def want_vb (c : Dev nD) : Vec Ideal S16384x512 .bf16 := fun j => _root_.Proj.part 2560 (by decide) (xs m c (j 0)) (ws m c) (j 1)

theorem at_vb (c : Dev nD) (t : Fin cfg0.N) (r : Fin 512) (e : Fin 512) : (dats m 0 c).after 8 t (ix2 r e) = want_vb m c (ix2 (at_row t r) e) := by
  rw [after_vb, canon_whole]
  exact prod_2560 m c t r e

theorem array_vb (c : Dev nD) : (dats m 0 c).arrAt 8 cfg0.N = want_vb m c := by
  refine (dats m 0 c).arrAt_eq_of_covers 8 _ (by decide +kernel) fun t hf y => ?_
  blk_simp
  change S512x512.Idx at y
  idx_vars y
  rw [at_vb m c t y0 y1]
  unfold at_row
  blk_ext [idx t]

/-- The gates of the neighbourhood attention, before its logistic. -/
def want_gb (c : Dev nD) : Vec Ideal S16384x512 .bf16 := fun j => _root_.Proj.part 3072 (by decide) (xs m c (j 0)) (ws m c) (j 1)

theorem at_gb (c : Dev nD) (t : Fin cfg0.N) (r : Fin 512) (e : Fin 512) : (dats m 0 c).after 9 t (ix2 r e) = want_gb m c (ix2 (at_row t r) e) := by
  rw [after_gb, canon_whole]
  exact prod_3072 m c t r e

theorem array_gb (c : Dev nD) : (dats m 0 c).arrAt 9 cfg0.N = want_gb m c := by
  refine (dats m 0 c).arrAt_eq_of_covers 9 _ (by decide +kernel) fun t hf y => ?_
  blk_simp
  change S512x512.Idx at y
  idx_vars y
  rw [at_gb m c t y0 y1]
  unfold at_row
  blk_ext [idx t]

/-- The third branch, one part gating another. -/
def want_u (c : Dev nD) : Vec Ideal S16384x512 .bf16 := fun j => _root_.Proj.part 3584 (by decide) (xs m c (j 0)) (ws m c) (j 1) * _root_.Proj.part 4096 (by decide) (xs m c (j 0)) (ws m c) (j 1)

theorem at_u (c : Dev nD) (t : Fin cfg0.N) (r : Fin 512) (e : Fin 512) : (dats m 0 c).after 10 t (ix2 r e) = want_u m c (ix2 (at_row t r) e) := by
  rw [after_u, canon_whole]
  exact congrArg₂ (fun q q' : EReal => q * q') (prod_3584 m c t r e) (prod_4096 m c t r e)

theorem array_u (c : Dev nD) : (dats m 0 c).arrAt 10 cfg0.N = want_u m c := by
  refine (dats m 0 c).arrAt_eq_of_covers 10 _ (by decide +kernel) fun t hf y => ?_
  blk_simp
  change S512x512.Idx at y
  idx_vars y
  rw [at_u m c t y0 y1]
  unfold at_row
  blk_ext [idx t]

/-- The gates of the three branches. -/
def want_gates (c : Dev nD) : Vec Ideal S16384x3072 .bf16 := fun j => _root_.Proj.gate (xs m c (j 0)) (ws m c) (j 1)

theorem at_gates (c : Dev nD) (t : Fin cfg0.N) (r : Fin 512) (e : Fin 3072) : (dats m 0 c).after 11 t (ix2 r e) = want_gates m c (ix2 (at_row t r) e) := by
  rw [after_gates, canon_gates]
  rw [gates_apply]
  refine congrArg Ideal.logistic (Finset.sum_congr rfl fun d _ => ?_)
  rw [rows_apply, ← blk_w m c t]
  pointwise []

theorem array_gates (c : Dev nD) : (dats m 0 c).arrAt 11 cfg0.N = want_gates m c := by
  refine (dats m 0 c).arrAt_eq_of_covers 11 _ (by decide +kernel) fun t hf y => ?_
  blk_simp
  change S512x3072.Idx at y
  idx_vars y
  rw [at_gates m c t y0 y1]
  unfold at_row
  blk_ext [idx t]

end Cert.Kernel5Ideal.Proj
-- ==== Proof.Proj1.Ref.lean ====
module

public import proofs.«01_k».proof.Proof.Gen.Reference5Ideal.Read
public import proofs.«01_k».proof.Proof.Proj.Spec
public import Idealize.ShloMosaic.Lib.Pointwise

@[expose] public section

set_option maxRecDepth 16384

noncomputable section

namespace Cert.Reference5Ideal.Proj1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference5Ideal.Read

variable (x0 : FVec Ideal S16384x1024 .f32) (x1 : FVec Ideal S2x1024x7680 .bf16)

/-! # The reference's values at an index -/

/-- The rows of the input. -/
def xs (R : Fin 16384) (d : Fin 1024) : EReal := x0 (ix2 R d)

/-- The layer's weights. -/
def ws (d : Fin 1024) (e : Fin 7680) : EReal := x1 (ix3 1 d e)

theorem dot_at (R : Fin 16384) (e : Fin 7680) : val_main_v3 (F := Ideal) x0 x1 (ix2 R e) = _root_.Proj.dot (xs x0 R) (ws x1) e := by
  unfold _root_.Proj.dot xs ws
  pointwise [val_main_v3, val_main_v2, val_main_v1, val_main_v0]

theorem angle_at (s : Fin 8192) (j : Fin 32) : val_main_v28 (F := Ideal) (ix2 s j) = _root_.Proj.angle s j := by
  unfold _root_.Proj.angle _root_.Proj.num
  pointwise [val_main_v28, val_main_v27, val_main_v26, val_main_v25, val_main_v24, val_main_v23, val_main_v22, val_main_v21, val_main_v20, val_main_v19, val_main_v18, val_main_v17, val_main_v16, val_main_v15, val_main_v14, val_main_cst, val_main_cst_0, val_main_cst_1, val_main_cst_2, val_main_cst_3, val_main_cst_4, val_main_cst_5, val_main_cst_6, val_main_cst_7, val_main_cst_8]
  rfl

theorem angle_at' (s : Fin 8192) (j : Fin 32) : val_main_v67 (F := Ideal) (ix2 s j) = _root_.Proj.angle s j := by
  unfold _root_.Proj.angle _root_.Proj.num
  pointwise [val_main_v67, val_main_v66, val_main_v65, val_main_v64, val_main_v63, val_main_v62, val_main_v61, val_main_v60, val_main_v59, val_main_v58, val_main_v57, val_main_v56, val_main_v55, val_main_v54, val_main_v53, val_main_cst, val_main_cst_0, val_main_cst_1, val_main_cst_2, val_main_cst_3, val_main_cst_4, val_main_cst_5, val_main_cst_6, val_main_cst_7, val_main_cst_8]
  rfl

/-- Row `s` of sequence `b`. -/
def row (b : Fin 2) (s : Fin 8192) : Fin 16384 := ⟨b.val * 8192 + s.val, by omega⟩

/-- Column `j` of head `h`. -/
def col (h : Fin 8) (j : Fin 64) : Fin 512 := ⟨h.val * 64 + j.val, by omega⟩

theorem heads_q (b : Fin 2) (s : Fin 8192) (h : Fin 8) (j : Fin 64) : val_main_v13 (F := Ideal) x0 x1 (ix4 b s h j) = _root_.Proj.part 0 (by decide) (xs x0 (row b s)) (ws x1) (col h j) := by
  unfold _root_.Proj.part
  rw [← dot_at]
  pointwise [val_main_v13, val_main_v4]
  rfl

theorem low_q (b : Fin 2) (s : Fin 8192) (h : Fin 8) (j : Fin 32) : val_main_v41 (F := Ideal) x0 x1 (ix4 b s h j)
    = _root_.Proj.part 0 (by decide) (xs x0 (row b s)) (ws x1) (col h ⟨j.val, by omega⟩) * Ideal.cos (_root_.Proj.angle s j) - _root_.Proj.part 0 (by decide) (xs x0 (row b s)) (ws x1) (col h ⟨32 + j.val, by omega⟩) * Ideal.sin (_root_.Proj.angle s j) := by
  rw [← heads_q, ← heads_q, ← angle_at]
  pointwise [val_main_v41, val_main_v40, val_main_v39, val_main_v38, val_main_v37, val_main_v36, val_main_v35, val_main_v34, val_main_v33, val_main_v32, val_main_v32, val_main_v30, val_main_v31, val_main_v29]

theorem high_q (b : Fin 2) (s : Fin 8192) (h : Fin 8) (j : Fin 32) : val_main_v48 (F := Ideal) x0 x1 (ix4 b s h j)
    = _root_.Proj.part 0 (by decide) (xs x0 (row b s)) (ws x1) (col h ⟨32 + j.val, by omega⟩) * Ideal.cos (_root_.Proj.angle s j) + _root_.Proj.part 0 (by decide) (xs x0 (row b s)) (ws x1) (col h ⟨j.val, by omega⟩) * Ideal.sin (_root_.Proj.angle s j) := by
  rw [← heads_q, ← heads_q, ← angle_at]
  pointwise [val_main_v48, val_main_v47, val_main_v46, val_main_v45, val_main_v44, val_main_v43, val_main_v42, val_main_v33, val_main_v34, val_main_v32, val_main_v32, val_main_v30, val_main_v31, val_main_v29]

theorem rot_q (b : Fin 2) (s : Fin 8192) (h : Fin 8) (j : Fin 64) : val_main_v49 (F := Ideal) x0 x1 (ix4 b s h j) = _root_.Proj.rot (_root_.Proj.part 0 (by decide) (xs x0 (row b s)) (ws x1)) s (col h j) := by
  have hc : (col h j).val = h.val * 64 + j.val := rfl
  have hjl := j.isLt
  pointwise [val_main_v49]
  unfold _root_.Proj.rot
  by_cases hj : j.val < 32
  · have hf : _root_.Proj.freq (col h j) = ⟨j.val, hj⟩ := Fin.ext (show (h.val * 64 + j.val) % 32 = j.val by omega)
    rw [dif_pos (show (col h j).val % 64 < 32 by omega), hf]
    refine (dif_pos hj).trans ((low_q x0 x1 b s h ⟨j.val, hj⟩).trans ?_)
    refine congrArg (fun q : Fin 512 => _root_.Proj.part 0 (by decide) (xs x0 (row b s)) (ws x1) (col h j) * _ - _root_.Proj.part 0 (by decide) (xs x0 (row b s)) (ws x1) q * _) (Fin.ext ?_)
    show h.val * 64 + (32 + j.val) = h.val * 64 + j.val + 32
    omega
  · have hf : _root_.Proj.freq (col h j) = ⟨j.val - 32, by omega⟩ := Fin.ext (show (h.val * 64 + j.val) % 32 = j.val - 32 by omega)
    rw [dif_neg (show ¬ (col h j).val % 64 < 32 by omega), hf]
    refine (dif_neg hj).trans ((high_q x0 x1 b s h ⟨j.val - 32, by omega⟩).trans ?_)
    refine congrArg₂ (fun p q : Fin 512 => _root_.Proj.part 0 (by decide) (xs x0 (row b s)) (ws x1) p * Ideal.cos _ + _root_.Proj.part 0 (by decide) (xs x0 (row b s)) (ws x1) q * Ideal.sin _) (Fin.ext ?_) (Fin.ext ?_)
    · show h.val * 64 + (32 + (j.val - 32)) = h.val * 64 + j.val
      omega
    · show h.val * 64 + (j.val - 32) = h.val * 64 + j.val - 32
      omega

theorem heads_k (b : Fin 2) (s : Fin 8192) (h : Fin 8) (j : Fin 64) : val_main_v52 (F := Ideal) x0 x1 (ix4 b s h j) = _root_.Proj.part 512 (by decide) (xs x0 (row b s)) (ws x1) (col h j) := by
  unfold _root_.Proj.part
  rw [← dot_at]
  pointwise [val_main_v52, val_main_v5]
  rfl

theorem low_k (b : Fin 2) (s : Fin 8192) (h : Fin 8) (j : Fin 32) : val_main_v80 (F := Ideal) x0 x1 (ix4 b s h j)
    = _root_.Proj.part 512 (by decide) (xs x0 (row b s)) (ws x1) (col h ⟨j.val, by omega⟩) * Ideal.cos (_root_.Proj.angle s j) - _root_.Proj.part 512 (by decide) (xs x0 (row b s)) (ws x1) (col h ⟨32 + j.val, by omega⟩) * Ideal.sin (_root_.Proj.angle s j) := by
  rw [← heads_k, ← heads_k, ← angle_at']
  pointwise [val_main_v80, val_main_v79, val_main_v78, val_main_v77, val_main_v76, val_main_v75, val_main_v74, val_main_v73, val_main_v72, val_main_v71, val_main_v71, val_main_v69, val_main_v70, val_main_v68]

theorem high_k (b : Fin 2) (s : Fin 8192) (h : Fin 8) (j : Fin 32) : val_main_v87 (F := Ideal) x0 x1 (ix4 b s h j)
    = _root_.Proj.part 512 (by decide) (xs x0 (row b s)) (ws x1) (col h ⟨32 + j.val, by omega⟩) * Ideal.cos (_root_.Proj.angle s j) + _root_.Proj.part 512 (by decide) (xs x0 (row b s)) (ws x1) (col h ⟨j.val, by omega⟩) * Ideal.sin (_root_.Proj.angle s j) := by
  rw [← heads_k, ← heads_k, ← angle_at']
  pointwise [val_main_v87, val_main_v86, val_main_v85, val_main_v84, val_main_v83, val_main_v82, val_main_v81, val_main_v72, val_main_v73, val_main_v71, val_main_v71, val_main_v69, val_main_v70, val_main_v68]

theorem rot_k (b : Fin 2) (s : Fin 8192) (h : Fin 8) (j : Fin 64) : val_main_v88 (F := Ideal) x0 x1 (ix4 b s h j) = _root_.Proj.rot (_root_.Proj.part 512 (by decide) (xs x0 (row b s)) (ws x1)) s (col h j) := by
  have hc : (col h j).val = h.val * 64 + j.val := rfl
  have hjl := j.isLt
  pointwise [val_main_v88]
  unfold _root_.Proj.rot
  by_cases hj : j.val < 32
  · have hf : _root_.Proj.freq (col h j) = ⟨j.val, hj⟩ := Fin.ext (show (h.val * 64 + j.val) % 32 = j.val by omega)
    rw [dif_pos (show (col h j).val % 64 < 32 by omega), hf]
    refine (dif_pos hj).trans ((low_k x0 x1 b s h ⟨j.val, hj⟩).trans ?_)
    refine congrArg (fun q : Fin 512 => _root_.Proj.part 512 (by decide) (xs x0 (row b s)) (ws x1) (col h j) * _ - _root_.Proj.part 512 (by decide) (xs x0 (row b s)) (ws x1) q * _) (Fin.ext ?_)
    show h.val * 64 + (32 + j.val) = h.val * 64 + j.val + 32
    omega
  · have hf : _root_.Proj.freq (col h j) = ⟨j.val - 32, by omega⟩ := Fin.ext (show (h.val * 64 + j.val) % 32 = j.val - 32 by omega)
    rw [dif_neg (show ¬ (col h j).val % 64 < 32 by omega), hf]
    refine (dif_neg hj).trans ((high_k x0 x1 b s h ⟨j.val - 32, by omega⟩).trans ?_)
    refine congrArg₂ (fun p q : Fin 512 => _root_.Proj.part 512 (by decide) (xs x0 (row b s)) (ws x1) p * Ideal.cos _ + _root_.Proj.part 512 (by decide) (xs x0 (row b s)) (ws x1) q * Ideal.sin _) (Fin.ext ?_) (Fin.ext ?_)
    · show h.val * 64 + (32 + (j.val - 32)) = h.val * 64 + j.val
      omega
    · show h.val * 64 + (j.val - 32) = h.val * 64 + j.val - 32
      omega

/-! ## The results -/

theorem query_at (R : Fin 16384) (e : Fin 512) : val_main_v101 (F := Ideal) x0 x1 (ix2 R e) = _root_.Proj.query (xs x0 R) (ws x1) (_root_.Proj.pos R) e := by
  have hr := R.isLt
  have e1 : row ⟨R.val / 8192, by omega⟩ (_root_.Proj.pos R) = R := Fin.ext (show R.val / 8192 * 8192 + R.val % 8192 = R.val by omega)
  have e2 : col ⟨e.val / 64, by omega⟩ ⟨e.val % 64, by omega⟩ = e := Fin.ext (show e.val / 64 * 64 + e.val % 64 = e.val by omega)
  have h := rot_q x0 x1 ⟨R.val / 8192, by omega⟩ (_root_.Proj.pos R) ⟨e.val / 64, by omega⟩ ⟨e.val % 64, by omega⟩
  rw [e1, e2] at h
  unfold _root_.Proj.query _root_.Proj.scale
  rw [← h]
  pointwise [val_main_v101, val_main_v89, val_main_v51, val_main_v50, val_main_cst, val_main_cst_0, val_main_cst_1, val_main_cst_2, val_main_cst_3, val_main_cst_4, val_main_cst_5, val_main_cst_6, val_main_cst_7, val_main_cst_8]
  rfl

theorem key_at (R : Fin 16384) (e : Fin 512) : val_main_v102 (F := Ideal) x0 x1 (ix2 R e) = _root_.Proj.key (xs x0 R) (ws x1) (_root_.Proj.pos R) e := by
  have hr := R.isLt
  have e1 : row ⟨R.val / 8192, by omega⟩ (_root_.Proj.pos R) = R := Fin.ext (show R.val / 8192 * 8192 + R.val % 8192 = R.val by omega)
  have e2 : col ⟨e.val / 64, by omega⟩ ⟨e.val % 64, by omega⟩ = e := Fin.ext (show e.val / 64 * 64 + e.val % 64 = e.val by omega)
  have h := rot_k x0 x1 ⟨R.val / 8192, by omega⟩ (_root_.Proj.pos R) ⟨e.val / 64, by omega⟩ ⟨e.val % 64, by omega⟩
  rw [e1, e2] at h
  unfold _root_.Proj.key
  rw [← h]
  pointwise [val_main_v102, val_main_v90]
  rfl

theorem va_at (R : Fin 16384) (e : Fin 512) : val_main_v103 (F := Ideal) x0 x1 (ix2 R e) = _root_.Proj.part 1024 (by decide) (xs x0 R) (ws x1) e := by
  unfold _root_.Proj.part
  rw [← dot_at]
  pointwise [val_main_v103, val_main_v6]

theorem qb_at (R : Fin 16384) (e : Fin 512) : val_main_v104 (F := Ideal) x0 x1 (ix2 R e) = _root_.Proj.part 1536 (by decide) (xs x0 R) (ws x1) e * _root_.Proj.scale := by
  unfold _root_.Proj.part _root_.Proj.scale
  rw [← dot_at]
  pointwise [val_main_v104, val_main_v92, val_main_v91, val_main_v7, val_main_cst, val_main_cst_0, val_main_cst_1, val_main_cst_2, val_main_cst_3, val_main_cst_4, val_main_cst_5, val_main_cst_6, val_main_cst_7, val_main_cst_8]

theorem kb_at (R : Fin 16384) (e : Fin 512) : val_main_v105 (F := Ideal) x0 x1 (ix2 R e) = _root_.Proj.part 2048 (by decide) (xs x0 R) (ws x1) e := by
  unfold _root_.Proj.part
  rw [← dot_at]
  pointwise [val_main_v105, val_main_v8]

theorem vb_at (R : Fin 16384) (e : Fin 512) : val_main_v106 (F := Ideal) x0 x1 (ix2 R e) = _root_.Proj.part 2560 (by decide) (xs x0 R) (ws x1) e := by
  unfold _root_.Proj.part
  rw [← dot_at]
  pointwise [val_main_v106, val_main_v9]

theorem gb_at (R : Fin 16384) (e : Fin 512) : val_main_v107 (F := Ideal) x0 x1 (ix2 R e) = _root_.Proj.part 3072 (by decide) (xs x0 R) (ws x1) e := by
  unfold _root_.Proj.part
  rw [← dot_at]
  pointwise [val_main_v107, val_main_v10]

theorem u_at (R : Fin 16384) (e : Fin 512) : val_main_v108 (F := Ideal) x0 x1 (ix2 R e) = _root_.Proj.part 3584 (by decide) (xs x0 R) (ws x1) e * _root_.Proj.part 4096 (by decide) (xs x0 R) (ws x1) e := by
  unfold _root_.Proj.part
  rw [← dot_at, ← dot_at]
  pointwise [val_main_v108, val_main_v93, val_main_v11, val_main_v12]

theorem gate_at (R : Fin 16384) (e : Fin 3072) : val_main_v109 (F := Ideal) x0 x1 (ix2 R e) = _root_.Proj.gate (xs x0 R) (ws x1) e := by
  unfold _root_.Proj.gate
  rw [← dot_at]
  pointwise [val_main_v109, val_main_v100, val_main_v99, val_main_v98, val_main_v97, val_main_v96, val_main_v95, val_main_v94, val_main_cst, val_main_cst_0, val_main_cst_1, val_main_cst_2, val_main_cst_3, val_main_cst_4, val_main_cst_5, val_main_cst_6, val_main_cst_7, val_main_cst_8]
  rfl

end Cert.Reference5Ideal.Proj1
-- ==== Proof.Proj1.Run.lean ====
/- The claims of the the second layer's input projection: its frames and its value at the reals. -/
module

public import proofs.«01_k».proof.Defs
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Proj1.Output
public import proofs.«01_k».proof.Proof.Proj1.Ref
public import Idealize.ShloMosaic.Lib.Claim
public import Idealize.ShloMosaic.Adequacy
public import Idealize.ShloMosaic.Init

@[expose] public section

set_option maxHeartbeats 4000000

noncomputable section

namespace Cert.Proof.Proj1

open Idealize.ShloMosaic Idealize.ShloMosaic.TcCoe Idealize.ShloMosaic.Tactic Idealize.SL.Sem

/-- Part 1 of the printed body is the idealized one. -/
theorem part1_eq : @Kernel5.k0_part1 Bits _ _ = @Kernel5Ideal.k0_part1 Bits _ _ := rfl

/-- Part 2 of the printed body is the idealized one. -/
theorem part2_eq : @Kernel5.k0_part2 Bits _ _ = @Kernel5Ideal.k0_part2 Bits _ _ := rfl

/-- Part 3 of the printed body is the idealized one. -/
theorem part3_eq : @Kernel5.k0_part3 Bits _ _ = @Kernel5Ideal.k0_part3 Bits _ _ := rfl

/-- The printed body is the idealized one: no operation was rewritten. -/
theorem body_eq : @Kernel5.cc0_input_proj Bits _ _ = @Kernel5Ideal.cc0_input_proj Bits _ _ := by
  unfold Kernel5.cc0_input_proj Kernel5Ideal.cc0_input_proj
  rw [part1_eq, part2_eq, part3_eq]
  rfl

/-- The printed input projection body table is the idealized one. -/
theorem bodies_eq : Kernel5.defs₀ (F := Bits) = Kernel5Ideal.defs₀ (F := Bits) := by
  unfold Kernel5.defs₀ Kernel5Ideal.defs₀
  rw [body_eq]
  refine congrArg _ (funext fun l => funext fun x => ?_)
  match l, x with
  | 0, (t, s) => rfl
  | ⟨_ + 1, h⟩, _ => exact absurd h (Nat.not_lt.2 (Nat.le_add_left _ _))

/-- The printed table of all bodies of the input projection program is the idealized one. -/
theorem defs_eq : Kernel5.defs (F := Bits) = Kernel5Ideal.defs (F := Bits) :=
  congrArg (Pipeline.defs (Kernel5.pcfgs (F := Bits))) bodies_eq

/-- The printed input projection call's frame, from the frame over any floats. -/
theorem frame_kernel : Cert.quiescent_Kernel5 := by
  intro m ρ _
  rw [defs_eq]
  exact Cert.Kernel5Ideal.Gen.frame (F := Bits) m ρ

/-- The idealized input projection call's frame. -/
theorem frame_kernelIdeal : Cert.quiescent_Kernel5Ideal := fun m ρ _ => Cert.Kernel5Ideal.Gen.frame (F := Ideal) m ρ

/-- The frame of the input projection reference, from its run. -/
theorem frame_referenceIdeal : Cert.quiescent_Reference5Ideal := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

theorem ref_qa (x0 : FVec Ideal Reference5Ideal.S16384x1024 .f32) (x1 : FVec Ideal Reference5Ideal.S2x1024x7680 .bf16) :
    Cert.Reference5Ideal.Read.val_main_v101 (F := Ideal) x0 x1 = fun j => _root_.Proj.query (Cert.Reference5Ideal.Proj1.xs x0 (j 0)) (Cert.Reference5Ideal.Proj1.ws x1) (_root_.Proj.pos (j 0)) (j 1) := by
  funext j
  idx_vars j
  exact Cert.Reference5Ideal.Proj1.query_at x0 x1 _ _

theorem ref_ka (x0 : FVec Ideal Reference5Ideal.S16384x1024 .f32) (x1 : FVec Ideal Reference5Ideal.S2x1024x7680 .bf16) :
    Cert.Reference5Ideal.Read.val_main_v102 (F := Ideal) x0 x1 = fun j => _root_.Proj.key (Cert.Reference5Ideal.Proj1.xs x0 (j 0)) (Cert.Reference5Ideal.Proj1.ws x1) (_root_.Proj.pos (j 0)) (j 1) := by
  funext j
  idx_vars j
  exact Cert.Reference5Ideal.Proj1.key_at x0 x1 _ _

theorem ref_va (x0 : FVec Ideal Reference5Ideal.S16384x1024 .f32) (x1 : FVec Ideal Reference5Ideal.S2x1024x7680 .bf16) :
    Cert.Reference5Ideal.Read.val_main_v103 (F := Ideal) x0 x1 = fun j => _root_.Proj.part 1024 (by decide) (Cert.Reference5Ideal.Proj1.xs x0 (j 0)) (Cert.Reference5Ideal.Proj1.ws x1) (j 1) := by
  funext j
  idx_vars j
  exact Cert.Reference5Ideal.Proj1.va_at x0 x1 _ _

theorem ref_qb (x0 : FVec Ideal Reference5Ideal.S16384x1024 .f32) (x1 : FVec Ideal Reference5Ideal.S2x1024x7680 .bf16) :
    Cert.Reference5Ideal.Read.val_main_v104 (F := Ideal) x0 x1 = fun j => _root_.Proj.part 1536 (by decide) (Cert.Reference5Ideal.Proj1.xs x0 (j 0)) (Cert.Reference5Ideal.Proj1.ws x1) (j 1) * _root_.Proj.scale := by
  funext j
  idx_vars j
  exact Cert.Reference5Ideal.Proj1.qb_at x0 x1 _ _

theorem ref_kb (x0 : FVec Ideal Reference5Ideal.S16384x1024 .f32) (x1 : FVec Ideal Reference5Ideal.S2x1024x7680 .bf16) :
    Cert.Reference5Ideal.Read.val_main_v105 (F := Ideal) x0 x1 = fun j => _root_.Proj.part 2048 (by decide) (Cert.Reference5Ideal.Proj1.xs x0 (j 0)) (Cert.Reference5Ideal.Proj1.ws x1) (j 1) := by
  funext j
  idx_vars j
  exact Cert.Reference5Ideal.Proj1.kb_at x0 x1 _ _

theorem ref_vb (x0 : FVec Ideal Reference5Ideal.S16384x1024 .f32) (x1 : FVec Ideal Reference5Ideal.S2x1024x7680 .bf16) :
    Cert.Reference5Ideal.Read.val_main_v106 (F := Ideal) x0 x1 = fun j => _root_.Proj.part 2560 (by decide) (Cert.Reference5Ideal.Proj1.xs x0 (j 0)) (Cert.Reference5Ideal.Proj1.ws x1) (j 1) := by
  funext j
  idx_vars j
  exact Cert.Reference5Ideal.Proj1.vb_at x0 x1 _ _

theorem ref_gb (x0 : FVec Ideal Reference5Ideal.S16384x1024 .f32) (x1 : FVec Ideal Reference5Ideal.S2x1024x7680 .bf16) :
    Cert.Reference5Ideal.Read.val_main_v107 (F := Ideal) x0 x1 = fun j => _root_.Proj.part 3072 (by decide) (Cert.Reference5Ideal.Proj1.xs x0 (j 0)) (Cert.Reference5Ideal.Proj1.ws x1) (j 1) := by
  funext j
  idx_vars j
  exact Cert.Reference5Ideal.Proj1.gb_at x0 x1 _ _

theorem ref_u (x0 : FVec Ideal Reference5Ideal.S16384x1024 .f32) (x1 : FVec Ideal Reference5Ideal.S2x1024x7680 .bf16) :
    Cert.Reference5Ideal.Read.val_main_v108 (F := Ideal) x0 x1 = fun j => _root_.Proj.part 3584 (by decide) (Cert.Reference5Ideal.Proj1.xs x0 (j 0)) (Cert.Reference5Ideal.Proj1.ws x1) (j 1) * _root_.Proj.part 4096 (by decide) (Cert.Reference5Ideal.Proj1.xs x0 (j 0)) (Cert.Reference5Ideal.Proj1.ws x1) (j 1) := by
  funext j
  idx_vars j
  exact Cert.Reference5Ideal.Proj1.u_at x0 x1 _ _

theorem ref_gates (x0 : FVec Ideal Reference5Ideal.S16384x1024 .f32) (x1 : FVec Ideal Reference5Ideal.S2x1024x7680 .bf16) :
    Cert.Reference5Ideal.Read.val_main_v109 (F := Ideal) x0 x1 = fun j => _root_.Proj.gate (Cert.Reference5Ideal.Proj1.xs x0 (j 0)) (Cert.Reference5Ideal.Proj1.ws x1) (j 1) := by
  funext j
  idx_vars j
  exact Cert.Reference5Ideal.Proj1.gate_at x0 x1 _ _

/-- At the reals the input projection call computes the reference's results. -/
theorem algebraic : Cert.algebraic_Kernel5Ideal_Reference5Ideal := by
  intro m g m' g' _ hagree
  refine ⟨Cert.Kernel5Ideal.Proj.want_qa m, Cert.Kernel5Ideal.Proj.want_ka m, Cert.Kernel5Ideal.Proj.want_va m, Cert.Kernel5Ideal.Proj.want_qb m, Cert.Kernel5Ideal.Proj.want_kb m, Cert.Kernel5Ideal.Proj.want_vb m, Cert.Kernel5Ideal.Proj.want_gb m, Cert.Kernel5Ideal.Proj.want_u m, Cert.Kernel5Ideal.Proj.want_gates m, ?_, ?_⟩
  · refine (θ_run _ _ _).mono (fun _ h c => ?_) (Cert.Kernel5Ideal.Value.run_blocks m g)
    obtain ⟨h0, h1, h2, h3, h4, h5, h6, h7, h8, h⟩ := h c
    exact ⟨h0.trans (Cert.Kernel5Ideal.Proj.array_qa m c), h1.trans (Cert.Kernel5Ideal.Proj.array_ka m c), h2.trans (Cert.Kernel5Ideal.Proj.array_va m c), h3.trans (Cert.Kernel5Ideal.Proj.array_qb m c), h4.trans (Cert.Kernel5Ideal.Proj.array_kb m c), h5.trans (Cert.Kernel5Ideal.Proj.array_vb m c), h6.trans (Cert.Kernel5Ideal.Proj.array_gb m c), h7.trans (Cert.Kernel5Ideal.Proj.array_u m c), h8.trans (Cert.Kernel5Ideal.Proj.array_gates m c), h⟩
  · refine (θ_run _ _ _).mono (fun _ h c => ?_) (Cert.Reference5Ideal.Value.run m' g')
    obtain ⟨h0, h1, h2, h3, h4, h5, h6, h7, h8, h⟩ := h c
    obtain ⟨a0, a1⟩ := hagree c
    refine ⟨h0.trans ?_, h1.trans ?_, h2.trans ?_, h3.trans ?_, h4.trans ?_, h5.trans ?_, h6.trans ?_, h7.trans ?_, h8.trans ?_, h⟩
    · rw [Cert.Reference5Ideal.Read.val_main_v101_eq, ref_qa, a0, a1]
      rfl
    · rw [Cert.Reference5Ideal.Read.val_main_v102_eq, ref_ka, a0, a1]
      rfl
    · rw [Cert.Reference5Ideal.Read.val_main_v103_eq, ref_va, a0, a1]
      rfl
    · rw [Cert.Reference5Ideal.Read.val_main_v104_eq, ref_qb, a0, a1]
      rfl
    · rw [Cert.Reference5Ideal.Read.val_main_v105_eq, ref_kb, a0, a1]
      rfl
    · rw [Cert.Reference5Ideal.Read.val_main_v106_eq, ref_vb, a0, a1]
      rfl
    · rw [Cert.Reference5Ideal.Read.val_main_v107_eq, ref_gb, a0, a1]
      rfl
    · rw [Cert.Reference5Ideal.Read.val_main_v108_eq, ref_u, a0, a1]
      rfl
    · rw [Cert.Reference5Ideal.Read.val_main_v109_eq, ref_gates, a0, a1]
      rfl

end Cert.Proof.Proj1

end
-- ==== Proof.Attn1.Steps.lean ====
module

public import proofs.«01_k».proof.Proof.Gen.Kernel6Ideal.Skeleton
public import proofs.«01_k».proof.Proof.Gen.Kernel6Ideal.Loops
public import Idealize.ShloMosaic.Lib.Pipeline.FrameBody
public import Idealize.ShloMosaic.Lib.Tactic

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

/-! # The body of the attention call as a sequence of steps

One trip of the kernel's loop handles one tile of 512 query rows.  Here the trip is written as a
sequence of six kinds of steps, each stated once for any buffer, any row offset and any chunk of 256
rows, and the printed trip is shown to be that sequence. -/

/-- A chunk of 256 rows of a 1024-row buffer of scores lies inside it. -/
theorem inbS (c : Fin 4) : ∀ a, (![256 * c.val, 0] : Fin 2 → ℕ) a + S256x2048.size a ≤ S1024x2048.size a := fun a =>
  match a with
  | 0 => by show 256 * c.val + 256 ≤ 1024; omega
  | 1 => by show 0 + 2048 ≤ 2048; omega

/-- A chunk of 256 rows of a 1024-row buffer of row maxima lies inside it. -/
theorem inbX (c : Fin 4) : ∀ a, (![256 * c.val, 0] : Fin 2 → ℕ) a + S256x128.size a ≤ S1024x128.size a := fun a =>
  match a with
  | 0 => by show 256 * c.val + 256 ≤ 1024; omega
  | 1 => by show 0 + 128 ≤ 128; omega

/-- A chunk of 256 rows of the accumulator lies inside it. -/
theorem inbA (c : Fin 4) : ∀ a, (![256 * c.val, 0] : Fin 2 → ℕ) a + S256x256.size a ≤ S1024x256.size a := fun a =>
  match a with
  | 0 => by show 256 * c.val + 256 ≤ 1024; omega
  | 1 => by show 0 + 256 ≤ 256; omega

/-- A block of 2048 keys lies inside the 8192 keys. -/
theorem inbK (j : Fin 4) : ∀ a, (![2048 * j.val, 0] : Fin 2 → ℕ) a + S2048x128.size a ≤ S8192x128.size a := fun a =>
  match a with
  | 0 => by show 2048 * j.val + 2048 ≤ 8192; omega
  | 1 => by show 0 + 128 ≤ 128; omega

/-- One of the two halves of the stacked queries lies inside the stack. -/
theorem inbH (h : Fin 2) : ∀ a, (![512 * h.val, 0] : Fin 2 → ℕ) a + S512x128.size a ≤ S1024x128.size a := fun a =>
  match a with
  | 0 => by show 512 * h.val + 512 ≤ 1024; omega
  | 1 => by show 0 + 128 ≤ 128; omega

/-- A read of a window. -/
def ld {s : Shape} {e : EltTy} (m : Memref sig .tc .vmem s e) (off size : Fin s.rank → ℕ) (inb : ∀ a, off a + size a ≤ s.size a)
    (hl : m.view.LoadsAt (Rect.unit (s := s) off size inb).toLoadRect) :
    Prog (TpuEff nD τ sig (Elt F) Λ₀ .tc) (Vec F (Rect.unit (s := s) off size inb).shape e) :=
  Prog.lift (.load m (Rect.unit (s := s) off size inb).toLoadRect hl)

/-- The scores of the stacked queries against one block of keys, and their maxima per lane. -/
def scores (mq : Memref sig .tc .vmem S1024x128 .bf16) (mk : Memref sig .tc .vmem S8192x128 .bf16)
    (ms : Memref sig .tc .vmem S1024x2048 .f32) (mx : Memref sig .tc .vmem S1024x128 .f32) (j : Fin 4) :
    Prog (TpuEff nD τ sig (Elt F) Λ₀ .tc) PUnit := do
  let q : Vec F S1024x128 .bf16 ← Prog.lift (.load mq (Rect.unit (s := S1024x128) ![0, 0] S1024x128.size inb_S1024x128_S1024x128_0_0).toLoadRect (View.loadsAt_vmem h_S1024x128))
  let k : Vec F S2048x128 .bf16 ← Prog.lift (.load mk (Rect.unit (s := S8192x128) ![2048 * j.val, 0] S2048x128.size (inbK j)).toLoadRect (View.loadsAt_vmem h_S2048x128))
  let _s : Vec F S1024x2048 .f32 ← Prog.lift (.load ms (Rect.unit (s := S1024x2048) ![0, 0] S1024x2048.size inb_S1024x2048_S1024x2048_0_0).toLoadRect (View.loadsAt_vmem h_S1024x2048))
  Prog.lift (.store ms (Rect.unit (s := S1024x2048) ![0, 0] S1024x2048.size inb_S1024x2048_S1024x2048_0_0) (k0_pay3 q k) Finset.univ (View.stores_vmem_bits_univ h_S1024x2048 rfl) (.inl rfl))
  let _x : Vec F S1024x128 .f32 ← Prog.lift (.load mx (Rect.unit (s := S1024x128) ![0, 0] S1024x128.size inb_S1024x128_S1024x128_0_0).toLoadRect (View.loadsAt_vmem h_S1024x128))
  Prog.lift (.store mx (Rect.unit (s := S1024x128) ![0, 0] S1024x128.size inb_S1024x128_S1024x128_0_0) (k0_pay4 q k) Finset.univ (View.stores_vmem_bits_univ h_S1024x128 rfl) (.inl rfl))

/-- One block of values, with a block of ones beside it. -/
def values (mv : Memref sig .tc .vmem S8192x128 .bf16) (ones : FVec F S2048x128 .bf16) (j : Fin 4) :
    Prog (TpuEff nD τ sig (Elt F) Λ₀ .tc) (FVec F S2048x256 .bf16) := do
  let v : Vec F S2048x128 .bf16 ← Prog.lift (.load mv (Rect.unit (s := S8192x128) ![2048 * j.val, 0] S2048x128.size (inbK j)).toLoadRect (View.loadsAt_vmem h_S2048x128))
  pure (k0_pay5 ones v)

/-- The first update of a chunk's running maximum and accumulator: what was there is overwritten. -/
def first (ms : Memref sig .tc .vmem S1024x2048 .f32) (mx mm : Memref sig .tc .vmem S1024x128 .f32)
    (ma : Memref sig .tc .vmem S1024x256 .f32) (vx : FVec F S2048x256 .bf16) (c : Fin 4) :
    Prog (TpuEff nD τ sig (Elt F) Λ₀ .tc) PUnit := do
  let s : Vec F S256x2048 .f32 ← Prog.lift (.load ms (Rect.unit (s := S1024x2048) ![256 * c.val, 0] S256x2048.size (inbS c)).toLoadRect (View.loadsAt_vmem h_S256x2048))
  let x : Vec F S256x128 .f32 ← Prog.lift (.load mx (Rect.unit (s := S1024x128) ![256 * c.val, 0] S256x128.size (inbX c)).toLoadRect (View.loadsAt_vmem h_S256x128))
  let _a : Vec F S256x256 .f32 ← Prog.lift (.load ma (Rect.unit (s := S1024x256) ![256 * c.val, 0] S256x256.size (inbA c)).toLoadRect (View.loadsAt_vmem h_S256x256))
  Prog.lift (.store ma (Rect.unit (s := S1024x256) ![256 * c.val, 0] S256x256.size (inbA c)) (k0_pay7 vx s x) Finset.univ (View.stores_vmem_bits_univ h_S256x256 rfl) (.inl rfl))
  let _m : Vec F S256x128 .f32 ← Prog.lift (.load mm (Rect.unit (s := S1024x128) ![256 * c.val, 0] S256x128.size (inbX c)).toLoadRect (View.loadsAt_vmem h_S256x128))
  Prog.lift (.store mm (Rect.unit (s := S1024x128) ![256 * c.val, 0] S256x128.size (inbX c)) (k0_pay8 x) Finset.univ (View.stores_vmem_bits_univ h_S256x128 rfl) (.inl rfl))

/-- A later update of a chunk's running maximum and accumulator. -/
def later (ms : Memref sig .tc .vmem S1024x2048 .f32) (mx mm : Memref sig .tc .vmem S1024x128 .f32)
    (ma : Memref sig .tc .vmem S1024x256 .f32) (vx : FVec F S2048x256 .bf16) (c : Fin 4) :
    Prog (TpuEff nD τ sig (Elt F) Λ₀ .tc) PUnit := do
  let s : Vec F S256x2048 .f32 ← Prog.lift (.load ms (Rect.unit (s := S1024x2048) ![256 * c.val, 0] S256x2048.size (inbS c)).toLoadRect (View.loadsAt_vmem h_S256x2048))
  let x : Vec F S256x128 .f32 ← Prog.lift (.load mx (Rect.unit (s := S1024x128) ![256 * c.val, 0] S256x128.size (inbX c)).toLoadRect (View.loadsAt_vmem h_S256x128))
  let m : Vec F S256x128 .f32 ← Prog.lift (.load mm (Rect.unit (s := S1024x128) ![256 * c.val, 0] S256x128.size (inbX c)).toLoadRect (View.loadsAt_vmem h_S256x128))
  let a : Vec F S256x256 .f32 ← Prog.lift (.load ma (Rect.unit (s := S1024x256) ![256 * c.val, 0] S256x256.size (inbA c)).toLoadRect (View.loadsAt_vmem h_S256x256))
  let _a : Vec F S256x256 .f32 ← Prog.lift (.load ma (Rect.unit (s := S1024x256) ![256 * c.val, 0] S256x256.size (inbA c)).toLoadRect (View.loadsAt_vmem h_S256x256))
  Prog.lift (.store ma (Rect.unit (s := S1024x256) ![256 * c.val, 0] S256x256.size (inbA c)) (k0_pay99 vx s x m a) Finset.univ (View.stores_vmem_bits_univ h_S256x256 rfl) (.inl rfl))
  let _m : Vec F S256x128 .f32 ← Prog.lift (.load mm (Rect.unit (s := S1024x128) ![256 * c.val, 0] S256x128.size (inbX c)).toLoadRect (View.loadsAt_vmem h_S256x128))
  Prog.lift (.store mm (Rect.unit (s := S1024x128) ![256 * c.val, 0] S256x128.size (inbX c)) (k0_pay100 x m) Finset.univ (View.stores_vmem_bits_univ h_S256x128 rfl) (.inl rfl))

/-- The two masked copies of the query tile, one above the other; the tile starts at `off`. -/
def stack (mq : Memref sig .tc .vmem S8192x128 .bf16) (m : Memref sig .tc .vmem S1024x128 .bf16) (hm : m.IsWhole)
    (v0 : IVec S512x128 32) (off : Fin 2 → ℕ) (inb : ∀ a, off a + S512x128.size a ≤ S8192x128.size a) :
    Prog (TpuEff nD τ sig (Elt F) Λ₀ .tc) PUnit := do
  let q : Vec F S512x128 .bf16 ← Prog.lift (.load mq (Rect.unit (s := S8192x128) off S512x128.size inb).toLoadRect (View.loadsAt_vmem h_S512x128))
  let _u : Vec F S512x128 .bf16 ← Prog.lift (.load m (Rect.unit (s := S1024x128) ![0, 0] S512x128.size inb_S1024x128_S512x128_0_0).toLoadRect (View.loadsAt_vmem h_S512x128))
  Prog.lift (.store m (Rect.unit (s := S1024x128) ![0, 0] S512x128.size inb_S1024x128_S512x128_0_0) (k0_pay67 v0 q) Finset.univ (View.stores_vmem h_S512x128 (hm.storeExact_slice rfl _ packedbf16_S1024x128_S512x128_0_0) (fun _ => rfl)) (.inl rfl))
  let _w : Vec F S512x128 .bf16 ← Prog.lift (.load m (Rect.unit (s := S1024x128) ![512, 0] S512x128.size inb_S1024x128_S512x128_512_0).toLoadRect (View.loadsAt_vmem h_S512x128))
  Prog.lift (.store m (Rect.unit (s := S1024x128) ![512, 0] S512x128.size inb_S1024x128_S512x128_512_0) (k0_pay68 v0 q) Finset.univ (View.stores_vmem h_S512x128 (hm.storeExact_slice rfl _ packedbf16_S1024x128_S512x128_512_0) (fun _ => rfl)) (.inl rfl))

/-- The first half's chunk of row `r`, among the four chunks. -/
def lo (r : Fin 2) : Fin 4 := ⟨r.val, by omega⟩

/-- The second half's chunk of row `r`, among the four chunks. -/
def hi (r : Fin 2) : Fin 4 := ⟨r.val + 2, by omega⟩

/-- The end of 256 rows of the tile: the two normalised accumulators are combined, normalised and written. -/
def finish (ma : Memref sig .tc .vmem S1024x256 .f32) (mg : Memref sig .tc .vmem S1x1x128 .f32)
    (mo : Memref sig .tc .vmem S8192x128 .bf16) (hmo : mo.IsWhole) (lam : FVec F S1x1 .f32) (k0_t1 : Fin k0_t1_loop.trips) (r : Fin 2) :
    Prog (TpuEff nD τ sig (Elt F) Λ₀ .tc) PUnit := do
  let a : Vec F S256x256 .f32 ← Prog.lift (.load ma (Rect.unit (s := S1024x256) ![256 * (lo r).val, 0] S256x256.size (inbA (lo r))).toLoadRect (View.loadsAt_vmem h_S256x256))
  let b : Vec F S256x256 .f32 ← Prog.lift (.load ma (Rect.unit (s := S1024x256) ![256 * (hi r).val, 0] S256x256.size (inbA (hi r))).toLoadRect (View.loadsAt_vmem h_S256x256))
  let g : Vec F S1x1x128 .f32 ← Prog.lift (.load mg (Rect.unit (s := S1x1x128) ![0, 0, 0] S1x1x128.size inb_S1x1x128_S1x1x128_0_0_0).toLoadRect (View.loadsAt_vmem h_S1x1x128))
  let _o : Vec F S256x128 .bf16 ← Prog.lift (.load mo (Rect.unit (s := S8192x128) (k0_off2 k0_t1 (BitVec.ofNat 32 (256 * r.val))) S256x128.size (k0_off2_inb k0_t1 r)).toLoadRect (View.loadsAt_vmem h_S256x128))
  Prog.lift (.store mo (Rect.unit (s := S8192x128) (k0_off2 k0_t1 (BitVec.ofNat 32 (256 * r.val))) S256x128.size (k0_off2_inb k0_t1 r)) (k0_pay101 lam a b g) Finset.univ (View.stores_vmem h_S256x128 (hmo.storeExact_slice rfl _ (k0_off2_packedbf16 k0_t1 r)) (fun _ => rfl)) (.inl rfl))

/-- One trip of the loop, as steps. -/
def trip (arg2 : Memref sig .tc .vmem S8192x128 .bf16) (arg3 : Memref sig .tc .vmem S8192x128 .bf16) (arg4 : Memref sig .tc .vmem S8192x128 .bf16)
    (arg9 : Memref sig .tc .vmem S1x1x128 .f32) (arg10 : Memref sig .tc .vmem S8192x128 .bf16) (harg10 : arg10.IsWhole)
    (arg11 : Memref sig .tc .vmem S1024x128 .bf16) (harg11 : arg11.IsWhole) (arg12 : Memref sig .tc .vmem S1024x128 .f32)
    (arg13 : Memref sig .tc .vmem S1024x256 .f32) (arg14 arg15 : Memref sig .tc .vmem S1024x2048 .f32) (arg16 arg17 : Memref sig .tc .vmem S1024x128 .f32)
    (v0 : IVec S512x128 32) (v7 : FVec F S2048x128 .bf16) (v26 : FVec F S1x1 .f32) (k0_t1 : Fin k0_t1_loop.trips) :
    Prog (TpuEff nD τ sig (Elt F) Λ₀ .tc) Unit := do
  scores arg11 arg3 arg15 arg17 1
  let x0 ← values arg4 v7 0
  first arg14 arg16 arg12 arg13 x0 0
  first arg14 arg16 arg12 arg13 x0 1
  first arg14 arg16 arg12 arg13 x0 2
  first arg14 arg16 arg12 arg13 x0 3
  scores arg11 arg3 arg14 arg16 2
  let x1 ← values arg4 v7 1
  later arg15 arg17 arg12 arg13 x1 0
  later arg15 arg17 arg12 arg13 x1 1
  later arg15 arg17 arg12 arg13 x1 2
  later arg15 arg17 arg12 arg13 x1 3
  scores arg11 arg3 arg15 arg17 3
  let x2 ← values arg4 v7 2
  later arg14 arg16 arg12 arg13 x2 0
  later arg14 arg16 arg12 arg13 x2 1
  later arg14 arg16 arg12 arg13 x2 2
  later arg14 arg16 arg12 arg13 x2 3
  stack arg2 arg11 harg11 v0 (k0_off1 k0_t1) (k0_off1_inb k0_t1)
  scores arg11 arg3 arg14 arg16 0
  let x3 ← values arg4 v7 3
  later arg15 arg17 arg12 arg13 x3 0
  later arg15 arg17 arg12 arg13 x3 1
  later arg15 arg17 arg12 arg13 x3 2
  finish arg13 arg9 arg10 harg10 v26 k0_t1 0
  later arg15 arg17 arg12 arg13 x3 3
  finish arg13 arg9 arg10 harg10 v26 k0_t1 1
  pure ⟨⟩

set_option maxRecDepth 65536 in
set_option maxHeartbeats 4000000 in
/-- The printed trip is the sequence of steps. -/
theorem body_eq_trip (i : grid0.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x128 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x256 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S1024x128 .f32) (harg16 : arg16.IsWhole) (arg17 : Memref sig .tc .vmem S1024x128 .f32) (harg17 : arg17.IsWhole) (v0 : IVec S512x128 32) (v7 : FVec F S2048x128 .bf16) (v26 : FVec F S1x1 .f32) (t : Fin k0_t1_loop.trips) (u : Unit) :
    k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v7 v26 t u
      = trip arg2 arg3 arg4 arg9 arg10 harg10 arg11 harg11 arg12 arg13 arg14 arg15 arg16 arg17 v0 v7 v26 t := by
  simp only [k0_t1_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel,
    trip, scores, values, first, later, stack, finish, Prog.lift, Prog.bind_op, Prog.bind_ret, Prog.pure_eq_ret]
  rfl

set_option maxRecDepth 65536 in
set_option maxHeartbeats 4000000 in
/-- The printed body: the prologue, then the trips. -/
theorem body_eq (i : grid0.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x128 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x256 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S1024x128 .f32) (harg16 : arg16.IsWhole) (arg17 : Memref sig .tc .vmem S1024x128 .f32) (harg17 : arg17.IsWhole) :
    cc0_diff_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (do
      let v8 : Vec F S1x1x64 .f32 ← Prog.lift (.load arg5 (Rect.unit (s := S1x1x64) ![0, 0, 0] S1x1x64.size inb_S1x1x64_S1x1x64_0_0_0).toLoadRect (View.loadsAt_vmem h_S1x1x64))
      let v10 : Vec F S1x1x64 .f32 ← Prog.lift (.load arg6 (Rect.unit (s := S1x1x64) ![0, 0, 0] S1x1x64.size inb_S1x1x64_S1x1x64_0_0_0).toLoadRect (View.loadsAt_vmem h_S1x1x64))
      let v16 : Vec F S1x1x64 .f32 ← Prog.lift (.load arg7 (Rect.unit (s := S1x1x64) ![0, 0, 0] S1x1x64.size inb_S1x1x64_S1x1x64_0_0_0).toLoadRect (View.loadsAt_vmem h_S1x1x64))
      let v18 : Vec F S1x1x64 .f32 ← Prog.lift (.load arg8 (Rect.unit (s := S1x1x64) ![0, 0, 0] S1x1x64.size inb_S1x1x64_S1x1x64_0_0_0).toLoadRect (View.loadsAt_vmem h_S1x1x64))
      stack arg2 arg11 harg11 (iota .tc S512x128 32 [1] iota_S512x128_d1_w32) ![0, 0] inb_S8192x128_S512x128_0_0
      scores arg11 arg3 arg14 arg16 0
      Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iota .tc S512x128 32 [1] iota_S512x128_d1_w32) k0_pay102 (k0_pay103 v8 v10 v16 v18))
      pure ⟨⟩) := by
  simp only [cc0_diff_attention_eq_skeleton, cc0_diff_attention_skel, k0_part17_eq_skeleton, k0_part17_skel, k0_part18_eq_skeleton, k0_part18_skel,
    scores, stack, Prog.lift, Prog.bind_op, Prog.bind_ret, Prog.pure_eq_ret]
  rfl

end Cert.Kernel6Ideal.Attn
-- ==== Proof.Attn1.Triples.lean ====
module

public import proofs.«01_k».proof.Proof.Attn1.Steps
public import Idealize.ShloMosaic.Lib.Pipeline.FrameBody
public import Idealize.ShloMosaic.Lib.Ring
public import Idealize.ShloMosaic.Lib.Tactic
public import Idealize.ShloMosaic.Lib.VecWindow
public import Idealize.ShloMosaic.Lib.Pipeline.TableIdle
public import Idealize.ShloMosaic.Lib.ReshapeSlab

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

/-! # What each step does to the buffers -/

/-- A load of a window reads the window of the buffer's contents. -/
theorem load_owns {s : Shape} {e : EltTy} {α : Type} (c : Dev nD) {m : Memref sig .tc .vmem s e} {off size : Fin s.rank → ℕ}
    {inb : ∀ a, off a + size a ≤ s.size a} {hl : m.view.LoadsAt (Rect.unit (s := s) off size inb).toLoadRect}
    {k : ((Rect.unit (s := s) off size inb).shape.Idx → Elt F e) → Prog (TpuEff nD τ sig (Elt F) Λ₀ .tc) α} {Q : α → sProp 𝕄} (X : s.Idx → Elt F e) :
    (owns (c : Thread nD τ) m fullShare X : sProp 𝕄)
      ⊢ iprop((owns (c : Thread nD τ) m fullShare X -∗ wp frame (wpE (defs₀ (F := F)) Variants.none (c : Thread nD τ) none) Set.univ (k (VecWindow.window X off size inb)) Q)
          -∗ wp frame (wpE (defs₀ (F := F)) Variants.none (c : Thread nD τ) none) Set.univ (.op (.load m (Rect.unit (s := s) off size inb).toLoadRect hl) k) Q) := by
  rw [owns_eq_rep, ← View.readAt_rep_unit (Val := Elt F) m.view X inb rfl inb]
  exact wp_load Variants.none (c : Thread nD τ) none Set.univ (View.setOn_subset_set _ _)

/-- A store of a window puts the payload over the window of the buffer's contents. -/
theorem store_owns {s : Shape} {e : EltTy} {α : Type} (c : Dev nD) {m : Memref sig .tc .vmem s e} {off size : Fin s.rank → ℕ}
    {inb : ∀ a, off a + size a ≤ s.size a} {w : (Rect.unit (s := s) off size inb).shape.Idx → Elt F e}
    {hx : (m.access (Rect.unit (s := s) off size inb)).Stores Finset.univ} {hm : Finset.univ = Finset.univ ∨ ∀ a, (Rect.unit (s := s) off size inb).stride a = 1}
    {k : PUnit → Prog (TpuEff nD τ sig (Elt F) Λ₀ .tc) α} {Q : α → sProp 𝕄} (X : s.Idx → Elt F e) :
    (owns (c : Thread nD τ) m fullShare X : sProp 𝕄)
      ⊢ iprop((owns (c : Thread nD τ) m fullShare (VecWindow.put X off size w) -∗ wp frame (wpE (defs₀ (F := F)) Variants.none (c : Thread nD τ) none) Set.univ (k ⟨⟩) Q)
          -∗ wp frame (wpE (defs₀ (F := F)) Variants.none (c : Thread nD τ) none) Set.univ (.op (.store m (Rect.unit (s := s) off size inb) w Finset.univ hx hm) k) Q) := by
  rw [owns_eq_rep]
  have hS : (m.access (Rect.unit (s := s) off size inb)).set ⊆ m.view.set :=
    Finset.Subset.trans (Memref.set_access_subset_setOn m _) (View.setOn_subset_set m.view _)
  have h := wp_store_writes₀ (defs := defs₀ (F := F)) Variants.none (c : Thread nD τ) none Set.univ (m := m) (r := Rect.unit (s := s) off size inb)
    (w := w) (hx := hx) (hm := hm) (k := k) (Q := Q) (S := m.view.set) (f := m.view.rep X) hS
  refine h.trans (wand_mono_left (wand_mono_left ?_))
  rw [owns_eq_rep]
  exact pointsTo_rep_of_read _ _ _ _ _ (View.read_writes_rep_unit m.view X inb w rfl)

/-- A window of the whole buffer's sizes is the buffer's contents. -/
theorem window_full {α : Type} {s : Shape} (x : s.Idx → α) (off : Fin s.rank → ℕ) (inb : ∀ a, off a + s.size a ≤ s.size a) :
    VecWindow.window x off s.size inb = x := by
  funext y
  exact congrArg x (funext fun a => Fin.ext (by
    show off a + 1 * (y a).val = (y a).val
    have := inb a
    omega))

/-- A payload of the whole buffer's sizes replaces the contents. -/
theorem put_full {α : Type} {s : Shape} (x : s.Idx → α) (off : Fin s.rank → ℕ) (inb : ∀ a, off a + s.size a ≤ s.size a) (w : s.Idx → α) :
    VecWindow.put x off s.size w = w := by
  have h := VecWindow.window_put_same x off s.size inb w
  rwa [window_full] at h

/-- Block `j` of 2048 rows of the keys or the values. -/
def blockOf (K : Vec F S8192x128 .bf16) (j : Fin 4) : Vec F S2048x128 .bf16 := VecWindow.window (s := S8192x128) K ![2048 * j.val, 0] S2048x128.size (inbK j)
/-- Chunk `r` of 256 rows of a buffer of scores. -/
def chunkS (S : Vec F S1024x2048 .f32) (r : Fin 4) : Vec F S256x2048 .f32 := VecWindow.window (s := S1024x2048) S ![256 * r.val, 0] S256x2048.size (inbS r)
/-- Chunk `r` of 256 rows of a buffer of maxima. -/
def chunkX (X : Vec F S1024x128 .f32) (r : Fin 4) : Vec F S256x128 .f32 := VecWindow.window (s := S1024x128) X ![256 * r.val, 0] S256x128.size (inbX r)
/-- Chunk `r` of 256 rows of an accumulator. -/
def chunkA (A : Vec F S1024x256 .f32) (r : Fin 4) : Vec F S256x256 .f32 := VecWindow.window (s := S1024x256) A ![256 * r.val, 0] S256x256.size (inbA r)

/-- The buffer of running maxima holds `V`, chunk by chunk. -/
def maxs (c : Dev nD) (m : Memref sig .tc .vmem S1024x128 .f32) (V : Fin 4 → Vec F S256x128 .f32) : sProp 𝕄 :=
  iprop(∃ X : Vec F S1024x128 .f32, owns (c : Thread nD τ) m fullShare X ∗ ⌜∀ r, chunkX X r = V r⌝)

/-- The accumulator holds `V`, chunk by chunk. -/
def accs (c : Dev nD) (m : Memref sig .tc .vmem S1024x256 .f32) (V : Fin 4 → Vec F S256x256 .f32) : sProp 𝕄 :=
  iprop(∃ X : Vec F S1024x256 .f32, owns (c : Thread nD τ) m fullShare X ∗ ⌜∀ r, chunkA X r = V r⌝)

theorem maxs_of_owns (c : Dev nD) (m : Memref sig .tc .vmem S1024x128 .f32) (X : Vec F S1024x128 .f32) :
    (owns (c : Thread nD τ) m fullShare X : sProp 𝕄) ⊢ maxs c m (chunkX X) := by
  unfold maxs
  iintro H; iexists X; isplitl; · iexact H
  ipureintro; exact fun _ => rfl

theorem accs_of_owns (c : Dev nD) (m : Memref sig .tc .vmem S1024x256 .f32) (X : Vec F S1024x256 .f32) :
    (owns (c : Thread nD τ) m fullShare X : sProp 𝕄) ⊢ accs c m (chunkA X) := by
  unfold accs
  iintro H; iexists X; isplitl; · iexact H
  ipureintro; exact fun _ => rfl

/-- Writing one chunk of the maxima changes that chunk alone. -/
theorem chunkX_put (X : Vec F S1024x128 .f32) (V : Fin 4 → Vec F S256x128 .f32) (h : ∀ r, chunkX X r = V r) (b : Fin 4) (w : Vec F S256x128 .f32) :
    ∀ r, chunkX (VecWindow.put (s := S1024x128) X ![256 * b.val, 0] S256x128.size w) r = Function.update V b w r := fun r => by
  by_cases e : r = b
  · subst e; rw [Function.update_self]; exact VecWindow.window_put_same (s := S1024x128) X _ _ (inbX r) w
  · rw [Function.update_of_ne e, ← h r]
    refine VecWindow.window_put_of_disjoint (s := S1024x128) X _ _ _ _ (inbX r) w 0 ?_
    have : r.val ≠ b.val := fun q => e (Fin.ext q)
    show 256 * r.val + 256 ≤ 256 * b.val ∨ 256 * b.val + 256 ≤ 256 * r.val
    omega

/-- Writing one chunk of the accumulator changes that chunk alone. -/
theorem chunkA_put (X : Vec F S1024x256 .f32) (V : Fin 4 → Vec F S256x256 .f32) (h : ∀ r, chunkA X r = V r) (b : Fin 4) (w : Vec F S256x256 .f32) :
    ∀ r, chunkA (VecWindow.put (s := S1024x256) X ![256 * b.val, 0] S256x256.size w) r = Function.update V b w r := fun r => by
  by_cases e : r = b
  · subst e; rw [Function.update_self]; exact VecWindow.window_put_same (s := S1024x256) X _ _ (inbA r) w
  · rw [Function.update_of_ne e, ← h r]
    refine VecWindow.window_put_of_disjoint (s := S1024x256) X _ _ _ _ (inbA r) w 0 ?_
    have : r.val ≠ b.val := fun q => e (Fin.ext q)
    show 256 * r.val + 256 ≤ 256 * b.val ∨ 256 * b.val + 256 ≤ 256 * r.val
    omega

/-- The scores step leaves the scores and their lane maxima in its two buffers. -/
theorem wp_scores (c : Dev nD) {mq : Memref sig .tc .vmem S1024x128 .bf16} {mk : Memref sig .tc .vmem S8192x128 .bf16}
    {ms : Memref sig .tc .vmem S1024x2048 .f32} {mx : Memref sig .tc .vmem S1024x128 .f32} (j : Fin 4)
    (Q : Vec F S1024x128 .bf16) (K : Vec F S8192x128 .bf16) (S : Vec F S1024x2048 .f32) (X : Vec F S1024x128 .f32) (Φ : PUnit → sProp 𝕄) :
    iprop(owns (c : Thread nD τ) mq fullShare Q ∗ owns (c : Thread nD τ) mk fullShare K ∗ owns (c : Thread nD τ) ms fullShare S ∗ owns (c : Thread nD τ) mx fullShare X
      ∗ ((owns (c : Thread nD τ) mq fullShare Q ∗ owns (c : Thread nD τ) mk fullShare K ∗ owns (c : Thread nD τ) ms fullShare (k0_pay3 Q (blockOf K j))
          ∗ owns (c : Thread nD τ) mx fullShare (k0_pay4 Q (blockOf K j))) -∗ Φ ⟨⟩))
      ⊢ wp frame (wpE (defs₀ (F := F)) Variants.none (c : Thread nD τ) none) Set.univ (scores mq mk ms mx j) Φ := by
  simp only [scores, Prog.lift, Prog.bind_op, Prog.bind_ret]
  iintro ⟨Hq, Hk, Hs, Hx, HΦ⟩
  iapply (load_owns c Q) $$ Hq; iintro Hq
  iapply (load_owns c K) $$ Hk; iintro Hk
  iapply (load_owns c S) $$ Hs; iintro Hs
  iapply (store_owns c S) $$ Hs; iintro Hs
  iapply (load_owns c X) $$ Hx; iintro Hx
  iapply (store_owns c X) $$ Hx; iintro Hx
  rw [wp_ret]; imodintro
  rw [window_full (s := S1024x128) Q, put_full (s := S1024x2048) S _ inb_S1024x2048_S1024x2048_0_0, put_full (s := S1024x128) X _ inb_S1024x128_S1024x128_0_0]
  iapply HΦ
  isplitl [Hq]; · iexact Hq
  isplitl [Hk]; · iexact Hk
  isplitl [Hs]; · iexact Hs
  iexact Hx

/-- The values step reads a block of values and sets the ones beside it. -/
theorem wp_values (c : Dev nD) {mv : Memref sig .tc .vmem S8192x128 .bf16} (ones : FVec F S2048x128 .bf16) (j : Fin 4)
    (V : Vec F S8192x128 .bf16) (Φ : FVec F S2048x256 .bf16 → sProp 𝕄) :
    iprop(owns (c : Thread nD τ) mv fullShare V ∗ (owns (c : Thread nD τ) mv fullShare V -∗ Φ (k0_pay5 ones (blockOf V j))))
      ⊢ wp frame (wpE (defs₀ (F := F)) Variants.none (c : Thread nD τ) none) Set.univ (values mv ones j) Φ := by
  simp only [values, blockOf, Prog.lift, Prog.bind_op, Prog.bind_ret, Prog.pure_eq_ret]
  iintro ⟨Hv, HΦ⟩
  iapply (load_owns c V) $$ Hv; iintro Hv
  rw [wp_ret]; imodintro
  iapply HΦ $$ Hv

/-- The first update of chunk `b`. -/
theorem wp_first (c : Dev nD) {ms : Memref sig .tc .vmem S1024x2048 .f32} {mx mm : Memref sig .tc .vmem S1024x128 .f32}
    {ma : Memref sig .tc .vmem S1024x256 .f32} (vx : FVec F S2048x256 .bf16) (b : Fin 4)
    (S : Vec F S1024x2048 .f32) (X : Vec F S1024x128 .f32) (V : Fin 4 → Vec F S256x128 .f32) (U : Fin 4 → Vec F S256x256 .f32) (Φ : PUnit → sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X ∗ maxs c mm (Function.update V b (k0_pay8 (chunkX X b)))
          ∗ accs c ma (Function.update U b (k0_pay7 vx (chunkS S b) (chunkX X b)))) -∗ Φ ⟨⟩))
      ⊢ wp frame (wpE (defs₀ (F := F)) Variants.none (c : Thread nD τ) none) Set.univ (first ms mx mm ma vx b) Φ := by
  simp only [first, Prog.lift, Prog.bind_op, Prog.bind_ret, maxs, accs]
  iintro ⟨Hs, Hx, ⟨%M, Hm, %hM⟩, ⟨%A, Ha, %hA⟩, HΦ⟩
  iapply (load_owns c S) $$ Hs; iintro Hs
  iapply (load_owns c X) $$ Hx; iintro Hx
  iapply (load_owns c A) $$ Ha; iintro Ha
  iapply (store_owns c A) $$ Ha; iintro Ha
  iapply (load_owns c M) $$ Hm; iintro Hm
  iapply (store_owns c M) $$ Hm; iintro Hm
  rw [wp_ret]; imodintro
  iapply HΦ
  isplitl [Hs]; · iexact Hs
  isplitl [Hx]; · iexact Hx
  isplitl [Hm]
  · iexists _; isplitl [Hm]; · iexact Hm
    ipureintro; exact chunkX_put M V hM b _
  iexists _; isplitl [Ha]; · iexact Ha
  ipureintro; exact chunkA_put A U hA b _

/-- A later update of chunk `b`. -/
theorem wp_later (c : Dev nD) {ms : Memref sig .tc .vmem S1024x2048 .f32} {mx mm : Memref sig .tc .vmem S1024x128 .f32}
    {ma : Memref sig .tc .vmem S1024x256 .f32} (vx : FVec F S2048x256 .bf16) (b : Fin 4)
    (S : Vec F S1024x2048 .f32) (X : Vec F S1024x128 .f32) (V : Fin 4 → Vec F S256x128 .f32) (U : Fin 4 → Vec F S256x256 .f32) (Φ : PUnit → sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X ∗ maxs c mm (Function.update V b (k0_pay100 (chunkX X b) (V b)))
          ∗ accs c ma (Function.update U b (k0_pay99 vx (chunkS S b) (chunkX X b) (V b) (U b)))) -∗ Φ ⟨⟩))
      ⊢ wp frame (wpE (defs₀ (F := F)) Variants.none (c : Thread nD τ) none) Set.univ (later ms mx mm ma vx b) Φ := by
  simp only [later, Prog.lift, Prog.bind_op, Prog.bind_ret, maxs, accs]
  iintro ⟨Hs, Hx, ⟨%M, Hm, %hM⟩, ⟨%A, Ha, %hA⟩, HΦ⟩
  iapply (load_owns c S) $$ Hs; iintro Hs
  iapply (load_owns c X) $$ Hx; iintro Hx
  iapply (load_owns c M) $$ Hm; iintro Hm
  iapply (load_owns c A) $$ Ha; iintro Ha
  iapply (load_owns c A) $$ Ha; iintro Ha
  iapply (store_owns c A) $$ Ha; iintro Ha
  iapply (load_owns c M) $$ Hm; iintro Hm
  iapply (store_owns c M) $$ Hm; iintro Hm
  rw [wp_ret]; imodintro
  iapply HΦ
  isplitl [Hs]; · iexact Hs
  isplitl [Hx]; · iexact Hx
  isplitl [Hm]
  · iexists _; isplitl [Hm]; · iexact Hm
    ipureintro; rw [← hM b]; exact chunkX_put M V hM b _
  iexists _; isplitl [Ha]; · iexact Ha
  ipureintro; rw [← hM b, ← hA b]; exact chunkA_put A U hA b _

/-- The four updates of a block, chunk after chunk. -/
theorem update_all {α : Fin 4 → Type} (V w : (i : Fin 4) → α i) :
    Function.update (Function.update (Function.update (Function.update V 0 (w 0)) 1 (w 1)) 2 (w 2)) 3 (w 3) = w := by
  funext i; fin_cases i <;> simp [Function.update]

/-- The two masked copies of a query tile, the one for the first head's columns above the one for the second's. -/
def stackOf (v0 : IVec S512x128 32) (q : Vec F S512x128 .bf16) : Vec F S1024x128 .bf16 := fun i =>
  if h : (i 0).val < 512 then k0_pay67 v0 q (fun a => match a with | 0 => ⟨(i 0).val, h⟩ | 1 => ⟨(i 1).val, (i 1).isLt⟩)
  else k0_pay68 v0 q (fun a => match a with | 0 => ⟨(i 0).val - 512, by have := (i 0).isLt; change (i 0).val < 1024 at this; show _ < 512; omega⟩ | 1 => ⟨(i 1).val, (i 1).isLt⟩)

/-- The two half puts of the stack step give the stacked tile. -/
theorem put_put_stack (v0 : IVec S512x128 32) (q : Vec F S512x128 .bf16) (X : Vec F S1024x128 .bf16) :
    VecWindow.put (s := S1024x128) (VecWindow.put (s := S1024x128) X ![0, 0] S512x128.size (k0_pay67 v0 q)) ![512, 0] S512x128.size (k0_pay68 v0 q) = stackOf v0 q := by
  funext i
  have h0 : (i 0).val < 1024 := (i 0).isLt
  have h1 : (i 1).val < 128 := (i 1).isLt
  unfold VecWindow.put stackOf
  by_cases h : (i 0).val < 512
  · rw [dif_neg (fun hh => by have := (hh 0).1; change 512 ≤ (i 0).val at this; omega),
      dif_pos (fun a => match a with
        | 0 => ⟨Nat.zero_le _, by show (i 0).val < 0 + 512; omega⟩
        | 1 => ⟨Nat.zero_le _, by show (i 1).val < 0 + 128; omega⟩), dif_pos h]
    exact congrArg _ (funext fun a => by fin_cases a <;> rfl)
  · rw [dif_pos (fun a => match a with
        | 0 => ⟨by show 512 ≤ (i 0).val; omega, by show (i 0).val < 512 + 512; omega⟩
        | 1 => ⟨Nat.zero_le _, by show (i 1).val < 0 + 128; omega⟩), dif_neg h]
    exact congrArg _ (funext fun a => by fin_cases a <;> rfl)

/-- The stack step leaves the stacked tile in its buffer. -/
theorem wp_stack (c : Dev nD) {mq : Memref sig .tc .vmem S8192x128 .bf16} {m : Memref sig .tc .vmem S1024x128 .bf16} (hm : m.IsWhole)
    (v0 : IVec S512x128 32) (off : Fin 2 → ℕ) (inb : ∀ a, off a + S512x128.size a ≤ S8192x128.size a)
    (q : Vec F S8192x128 .bf16) (X : Vec F S1024x128 .bf16) (Φ : PUnit → sProp 𝕄) :
    iprop(owns (c : Thread nD τ) mq fullShare q ∗ owns (c : Thread nD τ) m fullShare X
      ∗ ((owns (c : Thread nD τ) mq fullShare q ∗ owns (c : Thread nD τ) m fullShare (stackOf v0 (VecWindow.window (s := S8192x128) q off S512x128.size inb))) -∗ Φ ⟨⟩))
      ⊢ wp frame (wpE (defs₀ (F := F)) Variants.none (c : Thread nD τ) none) Set.univ (stack mq m hm v0 off inb) Φ := by
  simp only [stack, Prog.lift, Prog.bind_op, Prog.bind_ret]
  iintro ⟨Hq, Hm, HΦ⟩
  iapply (load_owns c q) $$ Hq; iintro Hq
  iapply (load_owns c X) $$ Hm; iintro Hm
  iapply (store_owns c X) $$ Hm; iintro Hm
  iapply (load_owns c _) $$ Hm; iintro Hm
  iapply (store_owns c _) $$ Hm; iintro Hm
  rw [wp_ret]; imodintro
  rw [put_put_stack]
  iapply HΦ
  isplitl [Hq]; · iexact Hq
  iexact Hm

/-- A block of 256 rows of the result lies inside it. -/
theorem inbO (b : Fin 32) : ∀ a, (![256 * b.val, 0] : Fin 2 → ℕ) a + S256x128.size a ≤ S8192x128.size a := fun a =>
  match a with
  | 0 => by show 256 * b.val + 256 ≤ 8192; omega
  | 1 => by show 0 + 128 ≤ 128; omega

/-- Block `b` of 256 rows of the result. -/
def chunkO (Y : Vec F S8192x128 .bf16) (b : Fin 32) : Vec F S256x128 .bf16 := VecWindow.window (s := S8192x128) Y ![256 * b.val, 0] S256x128.size (inbO b)

/-- The result's buffer holds `O` in its first `n` blocks of 256 rows. -/
def outs (c : Dev nD) (m : Memref sig .tc .vmem S8192x128 .bf16) (O : Fin 32 → Vec F S256x128 .bf16) (n : ℕ) : sProp 𝕄 :=
  iprop(∃ Y : Vec F S8192x128 .bf16, owns (c : Thread nD τ) m fullShare Y ∗ ⌜∀ b : Fin 32, b.val < n → chunkO Y b = O b⌝)

/-- Writing the next block of the result. -/
theorem chunkO_put (Y : Vec F S8192x128 .bf16) (O : Fin 32 → Vec F S256x128 .bf16) (n : Fin 32) (off : Fin 2 → ℕ) (hoff : off = ![256 * n.val, 0])
    (h : ∀ b : Fin 32, b.val < n.val → chunkO Y b = O b) :
    ∀ b : Fin 32, b.val < n.val + 1 → chunkO (VecWindow.put (s := S8192x128) Y off S256x128.size (O n)) b = O b := fun b hb => by
  subst hoff
  by_cases e : b = n
  · subst e; exact VecWindow.window_put_same (s := S8192x128) Y _ _ (inbO b) _
  · have : b.val ≠ n.val := fun q => e (Fin.ext q)
    rw [← h b (by omega)]
    refine VecWindow.window_put_of_disjoint (s := S8192x128) Y _ _ _ _ (inbO b) _ 0 ?_
    show 256 * b.val + 256 ≤ 256 * n.val ∨ 256 * n.val + 256 ≤ 256 * b.val
    omega

/-- The finishing step writes the next block of the result. -/
theorem wp_finish (c : Dev nD) {ma : Memref sig .tc .vmem S1024x256 .f32} {mg : Memref sig .tc .vmem S1x1x128 .f32}
    {mo : Memref sig .tc .vmem S8192x128 .bf16} (hmo : mo.IsWhole) (lam : FVec F S1x1 .f32) (t : Fin k0_t1_loop.trips) (r : Fin 2)
    (U : Fin 4 → Vec F S256x256 .f32) (g : Vec F S1x1x128 .f32) (O : Fin 32 → Vec F S256x128 .bf16) (n : Fin 32)
    (hn : k0_off2 t (BitVec.ofNat 32 (256 * r.val)) = ![256 * n.val, 0]) (hO : k0_pay101 lam (U (lo r)) (U (hi r)) g = O n) (Φ : PUnit → sProp 𝕄) :
    iprop(accs c ma U ∗ owns (c : Thread nD τ) mg fullShare g ∗ outs c mo O n.val
      ∗ ((accs c ma U ∗ owns (c : Thread nD τ) mg fullShare g ∗ outs c mo O (n.val + 1)) -∗ Φ ⟨⟩))
      ⊢ wp frame (wpE (defs₀ (F := F)) Variants.none (c : Thread nD τ) none) Set.univ (finish ma mg mo hmo lam t r) Φ := by
  simp only [finish, Prog.lift, Prog.bind_op, Prog.bind_ret, accs, outs]
  iintro ⟨⟨%A, Ha, %hA⟩, Hg, ⟨%Y, Hy, %hY⟩, HΦ⟩
  iapply (load_owns c A) $$ Ha; iintro Ha
  iapply (load_owns c A) $$ Ha; iintro Ha
  iapply (load_owns c g) $$ Hg; iintro Hg
  iapply (load_owns c Y) $$ Hy; iintro Hy
  iapply (store_owns c Y) $$ Hy; iintro Hy
  rw [wp_ret]; imodintro
  iapply HΦ
  isplitl [Ha]
  · iexists A; isplitl [Ha]; · iexact Ha
    ipureintro; exact hA
  isplitl [Hg]; · iexact Hg
  iexists _; isplitl [Hy]; · iexact Hy
  ipureintro
  rw [window_full (s := S1x1x128) g]
  have e : k0_pay101 lam (chunkA A (lo r)) (chunkA A (hi r)) g = O n := by rw [hA, hA]; exact hO
  change k0_pay101 lam (VecWindow.window (s := S1024x256) A ![256 * (lo r).val, 0] S256x256.size (inbA (lo r))) (VecWindow.window (s := S1024x256) A ![256 * (hi r).val, 0] S256x256.size (inbA (hi r))) g = O n at e
  rw [e]
  exact chunkO_put Y O n _ hn hY

end Cert.Kernel6Ideal.Attn
-- ==== Proof.Attn1.Trip.lean ====
module

public import proofs.«01_k».proof.Proof.Attn1.Triples

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

/-! # One trip of the loop -/

/-- Three updates in a row, each from the value before it. -/
theorem update_three {α : Type} (V : Fin 4 → α) (f : Fin 4 → α → α) :
    Function.update (Function.update (Function.update V 0 (f 0 (V 0))) 1 (f 1 ((Function.update V 0 (f 0 (V 0))) 1))) 2
      (f 2 ((Function.update (Function.update V 0 (f 0 (V 0))) 1 (f 1 ((Function.update V 0 (f 0 (V 0))) 1))) 2))
      = Function.update (fun r => f r (V r)) 3 (V 3) := by
  funext i; fin_cases i <;> simp [Function.update]

/-- Three updates of the accumulator in a row, the maxima updated beside it. -/
theorem update_three₂ {α β : Type} (V : Fin 4 → α) (U : Fin 4 → β) (f : Fin 4 → α → β → β) (h : Fin 4 → α → α) :
    Function.update (Function.update (Function.update U 0 (f 0 (V 0) (U 0))) 1
        (f 1 ((Function.update V 0 (h 0 (V 0))) 1) ((Function.update U 0 (f 0 (V 0) (U 0))) 1))) 2
      (f 2 ((Function.update (Function.update V 0 (h 0 (V 0))) 1 (h 1 ((Function.update V 0 (h 0 (V 0))) 1))) 2)
        ((Function.update (Function.update U 0 (f 0 (V 0) (U 0))) 1
        (f 1 ((Function.update V 0 (h 0 (V 0))) 1) ((Function.update U 0 (f 0 (V 0) (U 0))) 1))) 2))
      = Function.update (fun r => f r (V r) (U r)) 3 (U 3) := by
  funext i; fin_cases i <;> simp [Function.update]

/-- The first update of all four chunks. -/
theorem wp_first4 (c : Dev nD) {ms : Memref sig .tc .vmem S1024x2048 .f32} {mx mm : Memref sig .tc .vmem S1024x128 .f32}
    {ma : Memref sig .tc .vmem S1024x256 .f32} (vx : FVec F S2048x256 .bf16)
    (S : Vec F S1024x2048 .f32) (X : Vec F S1024x128 .f32) (V : Fin 4 → Vec F S256x128 .f32) (U : Fin 4 → Vec F S256x256 .f32) (Φ : sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X ∗ maxs c mm (fun r => k0_pay8 (chunkX X r))
          ∗ accs c ma (fun r => k0_pay7 vx (chunkS S r) (chunkX X r))) -∗ Φ))
      ⊢ wp frame (wpE (defs₀ (F := F)) Variants.none (c : Thread nD τ) none) Set.univ (first ms mx mm ma vx 0) (fun _ => wp frame (wpE (defs₀ (F := F)) Variants.none (c : Thread nD τ) none) Set.univ (first ms mx mm ma vx 1) (fun _ =>
          wp frame (wpE (defs₀ (F := F)) Variants.none (c : Thread nD τ) none) Set.univ (first ms mx mm ma vx 2) (fun _ => wp frame (wpE (defs₀ (F := F)) Variants.none (c : Thread nD τ) none) Set.univ (first ms mx mm ma vx 3) (fun _ => Φ)))) := by
  iintro ⟨Hs, Hx, Hm, Ha, HΦ⟩
  iapply (wp_first c vx 0 S X _ _ _)
  isplitl [Hs]; · iexact Hs
  isplitl [Hx]; · iexact Hx
  isplitl [Hm]; · iexact Hm
  isplitl [Ha]; · iexact Ha
  iintro ⟨Hs, Hx, Hm, Ha⟩
  iapply (wp_first c vx 1 S X _ _ _)
  isplitl [Hs]; · iexact Hs
  isplitl [Hx]; · iexact Hx
  isplitl [Hm]; · iexact Hm
  isplitl [Ha]; · iexact Ha
  iintro ⟨Hs, Hx, Hm, Ha⟩
  iapply (wp_first c vx 2 S X _ _ _)
  isplitl [Hs]; · iexact Hs
  isplitl [Hx]; · iexact Hx
  isplitl [Hm]; · iexact Hm
  isplitl [Ha]; · iexact Ha
  iintro ⟨Hs, Hx, Hm, Ha⟩
  iapply (wp_first c vx 3 S X _ _ _)
  isplitl [Hs]; · iexact Hs
  isplitl [Hx]; · iexact Hx
  isplitl [Hm]; · iexact Hm
  isplitl [Ha]; · iexact Ha
  iintro ⟨Hs, Hx, Hm, Ha⟩
  have eM := update_all V (fun r => k0_pay8 (chunkX X r))
  have eA := update_all U (fun r => k0_pay7 vx (chunkS S r) (chunkX X r))
  rw [eM, eA]
  iapply HΦ
  isplitl [Hs]; · iexact Hs
  isplitl [Hx]; · iexact Hx
  isplitl [Hm]; · iexact Hm
  iexact Ha

/-- The later update of the first three chunks. -/
theorem wp_later3 (c : Dev nD) {ms : Memref sig .tc .vmem S1024x2048 .f32} {mx mm : Memref sig .tc .vmem S1024x128 .f32}
    {ma : Memref sig .tc .vmem S1024x256 .f32} (vx : FVec F S2048x256 .bf16)
    (S : Vec F S1024x2048 .f32) (X : Vec F S1024x128 .f32) (V : Fin 4 → Vec F S256x128 .f32) (U : Fin 4 → Vec F S256x256 .f32) (Φ : sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X
          ∗ maxs c mm (Function.update (fun r => k0_pay100 (chunkX X r) (V r)) 3 (V 3))
          ∗ accs c ma (Function.update (fun r => k0_pay99 vx (chunkS S r) (chunkX X r) (V r) (U r)) 3 (U 3))) -∗ Φ))
      ⊢ wp frame (wpE (defs₀ (F := F)) Variants.none (c : Thread nD τ) none) Set.univ (later ms mx mm ma vx 0) (fun _ => wp frame (wpE (defs₀ (F := F)) Variants.none (c : Thread nD τ) none) Set.univ (later ms mx mm ma vx 1) (fun _ =>
          wp frame (wpE (defs₀ (F := F)) Variants.none (c : Thread nD τ) none) Set.univ (later ms mx mm ma vx 2) (fun _ => Φ))) := by
  iintro ⟨Hs, Hx, Hm, Ha, HΦ⟩
  iapply (wp_later c vx 0 S X _ _ _)
  isplitl [Hs]; · iexact Hs
  isplitl [Hx]; · iexact Hx
  isplitl [Hm]; · iexact Hm
  isplitl [Ha]; · iexact Ha
  iintro ⟨Hs, Hx, Hm, Ha⟩
  iapply (wp_later c vx 1 S X _ _ _)
  isplitl [Hs]; · iexact Hs
  isplitl [Hx]; · iexact Hx
  isplitl [Hm]; · iexact Hm
  isplitl [Ha]; · iexact Ha
  iintro ⟨Hs, Hx, Hm, Ha⟩
  iapply (wp_later c vx 2 S X _ _ _)
  isplitl [Hs]; · iexact Hs
  isplitl [Hx]; · iexact Hx
  isplitl [Hm]; · iexact Hm
  isplitl [Ha]; · iexact Ha
  iintro ⟨Hs, Hx, Hm, Ha⟩
  have eM := update_three V (fun r v => k0_pay100 (chunkX X r) v)
  have eA := update_three₂ V U (fun r v u => k0_pay99 vx (chunkS S r) (chunkX X r) v u) (fun r v => k0_pay100 (chunkX X r) v)
  rw [eM, eA]
  iapply HΦ
  isplitl [Hs]; · iexact Hs
  isplitl [Hx]; · iexact Hx
  isplitl [Hm]; · iexact Hm
  iexact Ha

/-- The later update of the fourth chunk, after the first three. -/
theorem wp_later_last (c : Dev nD) {ms : Memref sig .tc .vmem S1024x2048 .f32} {mx mm : Memref sig .tc .vmem S1024x128 .f32}
    {ma : Memref sig .tc .vmem S1024x256 .f32} (vx : FVec F S2048x256 .bf16)
    (S : Vec F S1024x2048 .f32) (X : Vec F S1024x128 .f32) (V : Fin 4 → Vec F S256x128 .f32) (U : Fin 4 → Vec F S256x256 .f32) (Φ : PUnit → sProp 𝕄) :
    iprop(owns (c : Thread nD τ) ms fullShare S ∗ owns (c : Thread nD τ) mx fullShare X
          ∗ maxs c mm (Function.update (fun r => k0_pay100 (chunkX X r) (V r)) 3 (V 3))
          ∗ accs c ma (Function.update (fun r => k0_pay99 vx (chunkS S r) (chunkX X r) (V r) (U r)) 3 (U 3))
      ∗ ((owns (c : Thread nD τ) ms fullShare S ∗ owns (c : Thread nD τ) mx fullShare X
          ∗ maxs c mm (fun r => k0_pay100 (chunkX X r) (V r))
          ∗ accs c ma (fun r => k0_pay99 vx (chunkS S r) (chunkX X r) (V r) (U r))) -∗ Φ ⟨⟩))
      ⊢ wp frame (wpE (defs₀ (F := F)) Variants.none (c : Thread nD τ) none) Set.univ (later ms mx mm ma vx 3) Φ := by
  iintro ⟨Hs, Hx, Hm, Ha, HΦ⟩
  iapply (wp_later c vx 3 S X _ _ _)
  isplitl [Hs]; · iexact Hs
  isplitl [Hx]; · iexact Hx
  isplitl [Hm]; · iexact Hm
  isplitl [Ha]; · iexact Ha
  iintro ⟨Hs, Hx, Hm, Ha⟩
  rw [Function.update_self, Function.update_self, Function.update_idem, Function.update_idem]
  have eM := Function.update_eq_self 3 (fun r => k0_pay100 (chunkX X r) (V r))
  have eA := Function.update_eq_self 3 (fun r => k0_pay99 vx (chunkS S r) (chunkX X r) (V r) (U r))
  rw [eM, eA]
  iapply HΦ
  isplitl [Hs]; · iexact Hs
  isplitl [Hx]; · iexact Hx
  isplitl [Hm]; · iexact Hm
  iexact Ha

/-- The later update of all four chunks. -/
theorem wp_later4 (c : Dev nD) {ms : Memref sig .tc .vmem S1024x2048 .f32} {mx mm : Memref sig .tc .vmem S1024x128 .f32}
    {ma : Memref sig .tc .vmem S1024x256 .f32} (vx : FVec F S2048x256 .bf16)
    (S : Vec F S1024x2048 .f32) (X : Vec F S1024x128 .f32) (V : Fin 4 → Vec F S256x128 .f32) (U : Fin 4 → Vec F S256x256 .f32) (Φ : sProp 𝕄) :
    iprop(owns (c : Thread nD τ) ms fullShare S ∗ owns (c : Thread nD τ) mx fullShare X ∗ maxs c mm V ∗ accs c ma U
      ∗ ((owns (c : Thread nD τ) ms fullShare S ∗ owns (c : Thread nD τ) mx fullShare X
          ∗ maxs c mm (fun r => k0_pay100 (chunkX X r) (V r))
          ∗ accs c ma (fun r => k0_pay99 vx (chunkS S r) (chunkX X r) (V r) (U r))) -∗ Φ))
      ⊢ wp frame (wpE (defs₀ (F := F)) Variants.none (c : Thread nD τ) none) Set.univ (later ms mx mm ma vx 0) (fun _ => wp frame (wpE (defs₀ (F := F)) Variants.none (c : Thread nD τ) none) Set.univ (later ms mx mm ma vx 1) (fun _ =>
          wp frame (wpE (defs₀ (F := F)) Variants.none (c : Thread nD τ) none) Set.univ (later ms mx mm ma vx 2) (fun _ => wp frame (wpE (defs₀ (F := F)) Variants.none (c : Thread nD τ) none) Set.univ (later ms mx mm ma vx 3) (fun _ => Φ)))) := by
  iintro ⟨Hs, Hx, Hm, Ha, HΦ⟩
  iapply (wp_later3 c vx S X _ _ _)
  isplitl [Hs]; · iexact Hs
  isplitl [Hx]; · iexact Hx
  isplitl [Hm]; · iexact Hm
  isplitl [Ha]; · iexact Ha
  iintro ⟨Hs, Hx, Hm, Ha⟩
  iapply (wp_later_last c vx S X _ _ _)
  isplitl [Hs]; · iexact Hs
  isplitl [Hx]; · iexact Hx
  isplitl [Hm]; · iexact Hm
  isplitl [Ha]; · iexact Ha
  iintro ⟨Hs, Hx, Hm, Ha⟩
  iapply HΦ
  isplitl [Hs]; · iexact Hs
  isplitl [Hx]; · iexact Hx
  isplitl [Hm]; · iexact Hm
  iexact Ha

/-! ## The values of a trip -/

/-- The column of each entry of a tile. -/
def lanes : IVec S512x128 32 := iota .tc S512x128 32 [1] iota_S512x128_d1_w32

/-- Tile `t` of 512 query rows lies inside the queries. -/
theorem inbT (t : Fin 16) : ∀ a, (![512 * t.val, 0] : Fin 2 → ℕ) a + S512x128.size a ≤ S8192x128.size a := fun a =>
  match a with
  | 0 => by show 512 * t.val + 512 ≤ 8192; omega
  | 1 => by show 0 + 128 ≤ 128; omega

/-- Tile `t` of the queries. -/
def tileOf (q : Vec F S8192x128 .bf16) (t : Fin 16) : Vec F S512x128 .bf16 := VecWindow.window (s := S8192x128) q ![512 * t.val, 0] S512x128.size (inbT t)
/-- The stacked tile `t`. -/
def qs (q : Vec F S8192x128 .bf16) (t : Fin 16) : Vec F S1024x128 .bf16 := stackOf lanes (tileOf q t)
/-- The scores of the stacked tile `t` against block `j` of the keys. -/
def sc (q k : Vec F S8192x128 .bf16) (t : Fin 16) (j : Fin 4) : Vec F S1024x2048 .f32 := k0_pay3 (qs q t) (blockOf k j)
/-- Their lane maxima. -/
def mx (q k : Vec F S8192x128 .bf16) (t : Fin 16) (j : Fin 4) : Vec F S1024x128 .f32 := k0_pay4 (qs q t) (blockOf k j)
/-- Block `j` of the values, ones beside it. -/
def vx (v : Vec F S8192x128 .bf16) (j : Fin 4) : FVec F S2048x256 .bf16 := k0_pay5 k0_pay102 (blockOf v j)

/-- The running maximum of chunk `r` after block `n`. -/
def runM (q k : Vec F S8192x128 .bf16) (t : Fin 16) : ℕ → Fin 4 → Vec F S256x128 .f32
  | 0 => fun r => k0_pay8 (chunkX (mx q k t 0) r)
  | n + 1 => fun r => k0_pay100 (chunkX (mx q k t (Fin.ofNat 4 (n + 1))) r) (runM q k t n r)

/-- The accumulator of chunk `r` after block `n`. -/
def runA (q k v : Vec F S8192x128 .bf16) (t : Fin 16) : ℕ → Fin 4 → Vec F S256x256 .f32
  | 0 => fun r => k0_pay7 (vx v 0) (chunkS (sc q k t 0) r) (chunkX (mx q k t 0) r)
  | n + 1 => fun r => k0_pay99 (vx v (Fin.ofNat 4 (n + 1))) (chunkS (sc q k t (Fin.ofNat 4 (n + 1))) r) (chunkX (mx q k t (Fin.ofNat 4 (n + 1))) r)
      (runM q k t n r) (runA q k v t n r)

/-- Rows `256 r …` of tile `t` of the result. -/
def outOf (lam : FVec F S1x1 .f32) (g : Vec F S1x1x128 .f32) (q k v : Vec F S8192x128 .bf16) (t : Fin 16) (r : Fin 2) : Vec F S256x128 .bf16 :=
  k0_pay101 lam (runA q k v t 3 (lo r)) (runA q k v t 3 (hi r)) g

/-- Block `b` of 256 rows of the result. -/
def outBlk (lam : FVec F S1x1 .f32) (g : Vec F S1x1x128 .f32) (q k v : Vec F S8192x128 .bf16) (b : Fin 32) : Vec F S256x128 .bf16 :=
  outOf lam g q k v ⟨b.val / 2, by omega⟩ ⟨b.val % 2, by omega⟩

/-- The tile prepared before trip `n`: the last one again at the end. -/
def tl (n : ℕ) : Fin 16 := ⟨min n 15, by omega⟩

theorem tile_next (q : Vec F S8192x128 .bf16) (t : Fin k0_t1_loop.trips) :
    VecWindow.window (s := S8192x128) q (k0_off1 t) S512x128.size (k0_off1_inb t) = tileOf q (tl (t.val + 1)) := by
  have h := Gen.k0_off1_eq t
  have key : ∀ (off off' : Fin 2 → ℕ) (_ : off = off') (i : ∀ a, off a + S512x128.size a ≤ S8192x128.size a) (i' : ∀ a, off' a + S512x128.size a ≤ S8192x128.size a),
      VecWindow.window (s := S8192x128) q off S512x128.size i = VecWindow.window (s := S8192x128) q off' S512x128.size i' := by
    intro off off' e i i'; subst e; rfl
  exact key _ _ h _ _

/-- What is held before trip `n`. -/
def held (c : Dev nD) (arg2 arg3 arg4 : Memref sig .tc .vmem S8192x128 .bf16) (arg9 : Memref sig .tc .vmem S1x1x128 .f32)
    (arg10 : Memref sig .tc .vmem S8192x128 .bf16) (arg11 : Memref sig .tc .vmem S1024x128 .bf16) (arg12 : Memref sig .tc .vmem S1024x128 .f32)
    (arg13 : Memref sig .tc .vmem S1024x256 .f32) (arg14 arg15 : Memref sig .tc .vmem S1024x2048 .f32) (arg16 arg17 : Memref sig .tc .vmem S1024x128 .f32)
    (lam : FVec F S1x1 .f32) (g : Vec F S1x1x128 .f32) (q k v : Vec F S8192x128 .bf16) (n : ℕ) : sProp 𝕄 :=
  iprop(owns (c : Thread nD τ) arg2 fullShare q ∗ owns (c : Thread nD τ) arg3 fullShare k ∗ owns (c : Thread nD τ) arg4 fullShare v
    ∗ owns (c : Thread nD τ) arg9 fullShare g ∗ outs c arg10 (outBlk lam g q k v) (2 * n)
    ∗ owns (c : Thread nD τ) arg11 fullShare (qs q (tl n)) ∗ (∃ V, maxs c arg12 V) ∗ (∃ U, accs c arg13 U)
    ∗ owns (c : Thread nD τ) arg14 fullShare (sc q k (tl n) 0) ∗ (∃ S : Vec F S1024x2048 .f32, owns (c : Thread nD τ) arg15 fullShare S)
    ∗ owns (c : Thread nD τ) arg16 fullShare (mx q k (tl n) 0) ∗ (∃ X : Vec F S1024x128 .f32, owns (c : Thread nD τ) arg17 fullShare X))

set_option maxHeartbeats 1000000 in
/-- One trip: from what is held before trip `t` to what is held before the next. -/
theorem wp_trip (c : Dev nD) (arg2 arg3 arg4 : Memref sig .tc .vmem S8192x128 .bf16) (arg9 : Memref sig .tc .vmem S1x1x128 .f32)
    (arg10 : Memref sig .tc .vmem S8192x128 .bf16) (harg10 : arg10.IsWhole) (arg11 : Memref sig .tc .vmem S1024x128 .bf16) (harg11 : arg11.IsWhole) (arg12 : Memref sig .tc .vmem S1024x128 .f32)
    (arg13 : Memref sig .tc .vmem S1024x256 .f32) (arg14 arg15 : Memref sig .tc .vmem S1024x2048 .f32) (arg16 arg17 : Memref sig .tc .vmem S1024x128 .f32)
    (lam : FVec F S1x1 .f32) (g : Vec F S1x1x128 .f32) (q k v : Vec F S8192x128 .bf16) (t : Fin k0_t1_loop.trips) :
    held c arg2 arg3 arg4 arg9 arg10 arg11 arg12 arg13 arg14 arg15 arg16 arg17 lam g q k v t.val
      ⊢ wp frame (wpE (defs₀ (F := F)) Variants.none (c : Thread nD τ) none) Set.univ (trip arg2 arg3 arg4 arg9 arg10 harg10 arg11 harg11 arg12 arg13 arg14 arg15 arg16 arg17 lanes k0_pay102 lam t)
          (fun _ => held c arg2 arg3 arg4 arg9 arg10 arg11 arg12 arg13 arg14 arg15 arg16 arg17 lam g q k v (t.val + 1)) := by
  have ht : t.val < 16 := t.isLt
  have hb0 : 2 * t.val < 32 := by omega
  have hb1 : 2 * t.val + 1 < 32 := by omega
  have htl : ∀ (r : ℕ) (hr : r < 2), (⟨(2 * t.val + r) / 2, by omega⟩ : Fin 16) = tl t.val := fun r hr => Fin.ext (by
    show (2 * t.val + r) / 2 = min t.val 15
    omega)
  have hO : ∀ (r : Fin 2) (h : 2 * t.val + r.val < 32), outOf lam g q k v (tl t.val) r = outBlk lam g q k v ⟨2 * t.val + r.val, h⟩ := fun r h => by
    have e : (⟨(2 * t.val + r.val) % 2, by omega⟩ : Fin 2) = r := Fin.ext (by show (2 * t.val + r.val) % 2 = r.val; omega)
    show _ = outOf lam g q k v ⟨(2 * t.val + r.val) / 2, _⟩ ⟨(2 * t.val + r.val) % 2, _⟩
    rw [htl r.val r.isLt, e]
  have hoff : ∀ r : Fin 2, k0_off2 t (BitVec.ofNat 32 (256 * r.val)) = ![256 * (2 * t.val + r.val), 0] := fun r => by
    rw [Gen.k0_off2_eq t r]
    have : 512 * t.val + 256 * r.val = 256 * (2 * t.val + r.val) := by omega
    rw [this]
  unfold trip held
  simp only [wp_bind]
  iintro ⟨Hq, Hk, Hv, Hg, Ho, Hu, ⟨%V, Hm⟩, ⟨%U, Ha⟩, Hs, ⟨%S', Hs'⟩, Hx, ⟨%X', Hx'⟩⟩
  iapply (wp_scores c 1 (qs q _) k _ _ _)
  isplitl [Hu]; · iexact Hu
  isplitl [Hk]; · iexact Hk
  isplitl [Hs']; · iexact Hs'
  isplitl [Hx']; · iexact Hx'
  iintro ⟨Hu, Hk, Hs', Hx'⟩
  iapply (wp_values c k0_pay102 0 v _)
  isplitl [Hv]; · iexact Hv
  iintro Hv
  iapply (wp_first4 c (vx v 0) (sc q k (tl t.val) 0) (mx q k (tl t.val) 0) V U _)
  isplitl [Hs]; · iexact Hs
  isplitl [Hx]; · iexact Hx
  isplitl [Hm]; · iexact Hm
  isplitl [Ha]; · iexact Ha
  iintro ⟨Hs, Hx, Hm, Ha⟩
  iapply (wp_scores c 2 (qs q _) k _ _ _)
  isplitl [Hu]; · iexact Hu
  isplitl [Hk]; · iexact Hk
  isplitl [Hs]; · iexact Hs
  isplitl [Hx]; · iexact Hx
  iintro ⟨Hu, Hk, Hs, Hx⟩
  iapply (wp_values c k0_pay102 1 v _)
  isplitl [Hv]; · iexact Hv
  iintro Hv
  iapply (wp_later4 c (vx v 1) (sc q k (tl t.val) 1) (mx q k (tl t.val) 1) (runM q k (tl t.val) 0) (runA q k v (tl t.val) 0) _)
  isplitl [Hs']; · iexact Hs'
  isplitl [Hx']; · iexact Hx'
  isplitl [Hm]; · iexact Hm
  isplitl [Ha]; · iexact Ha
  iintro ⟨Hs', Hx', Hm, Ha⟩
  iapply (wp_scores c 3 (qs q _) k _ _ _)
  isplitl [Hu]; · iexact Hu
  isplitl [Hk]; · iexact Hk
  isplitl [Hs']; · iexact Hs'
  isplitl [Hx']; · iexact Hx'
  iintro ⟨Hu, Hk, Hs', Hx'⟩
  iapply (wp_values c k0_pay102 2 v _)
  isplitl [Hv]; · iexact Hv
  iintro Hv
  iapply (wp_later4 c (vx v 2) (sc q k (tl t.val) 2) (mx q k (tl t.val) 2) (runM q k (tl t.val) 1) (runA q k v (tl t.val) 1) _)
  isplitl [Hs]; · iexact Hs
  isplitl [Hx]; · iexact Hx
  isplitl [Hm]; · iexact Hm
  isplitl [Ha]; · iexact Ha
  iintro ⟨Hs, Hx, Hm, Ha⟩
  iapply (wp_stack c harg11 lanes _ _ q _ _)
  isplitl [Hq]; · iexact Hq
  isplitl [Hu]; · iexact Hu
  iintro ⟨Hq, Hu⟩
  rw [tile_next]
  iapply (wp_scores c 0 (qs q _) k _ _ _)
  isplitl [Hu]; · iexact Hu
  isplitl [Hk]; · iexact Hk
  isplitl [Hs]; · iexact Hs
  isplitl [Hx]; · iexact Hx
  iintro ⟨Hu, Hk, Hs, Hx⟩
  iapply (wp_values c k0_pay102 3 v _)
  isplitl [Hv]; · iexact Hv
  iintro Hv
  iapply (wp_later3 c (vx v 3) (sc q k (tl t.val) 3) (mx q k (tl t.val) 3) (runM q k (tl t.val) 2) (runA q k v (tl t.val) 2) _)
  isplitl [Hs']; · iexact Hs'
  isplitl [Hx']; · iexact Hx'
  isplitl [Hm]; · iexact Hm
  isplitl [Ha]; · iexact Ha
  iintro ⟨Hs', Hx', Hm, Ha⟩
  iapply (wp_finish c harg10 lam t 0 (Function.update (runA q k v (tl t.val) 3) 3 (runA q k v (tl t.val) 2 3)) g (outBlk lam g q k v) ⟨2 * t.val + 0, hb0⟩ (hoff 0) (by rw [Function.update_of_ne (by decide), Function.update_of_ne (by decide)]; exact hO 0 hb0))
  isplitl [Ha]; · iexact Ha
  isplitl [Hg]; · iexact Hg
  isplitl [Ho]; · iexact Ho
  iintro ⟨Ha, Hg, Ho⟩
  iapply (wp_later_last c (vx v 3) (sc q k (tl t.val) 3) (mx q k (tl t.val) 3) (runM q k (tl t.val) 2) (runA q k v (tl t.val) 2) _)
  isplitl [Hs']; · iexact Hs'
  isplitl [Hx']; · iexact Hx'
  isplitl [Hm]; · iexact Hm
  isplitl [Ha]; · iexact Ha
  iintro ⟨Hs', Hx', Hm, Ha⟩
  iapply (wp_finish c harg10 lam t 1 (runA q k v (tl t.val) 3) g (outBlk lam g q k v) ⟨2 * t.val + 1, hb1⟩ (hoff 1) (hO 1 hb1))
  isplitl [Ha]; · iexact Ha
  isplitl [Hg]; · iexact Hg
  isplitl [Ho]; · iexact Ho
  iintro ⟨Ha, Hg, Ho⟩
  rw [Prog.pure_eq_ret, wp_ret]; imodintro
  isplitl [Hq]; · iexact Hq
  isplitl [Hk]; · iexact Hk
  isplitl [Hv]; · iexact Hv
  isplitl [Hg]; · iexact Hg
  isplitl [Ho]; · iexact Ho
  isplitl [Hu]; · iexact Hu
  isplitl [Hm]; · iexists _; iexact Hm
  isplitl [Ha]; · iexists _; iexact Ha
  isplitl [Hs]; · iexact Hs
  isplitl [Hs']; · iexists _; iexact Hs'
  isplitl [Hx]; · iexact Hx
  iexists _; iexact Hx'

end Cert.Kernel6Ideal.Attn
-- ==== Proof.Attn1.Body.lean ====
module

public import proofs.«01_k».proof.Proof.Attn1.Trip

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

/-! # The body of the attention call -/

/-- The result from its 32 blocks of 256 rows. -/
def outArr (O : Fin 32 → Vec F S256x128 .bf16) : Vec F S8192x128 .bf16 := fun i =>
  O ⟨(i 0).val / 256, by have : (i 0).val < 8192 := (i 0).isLt; omega⟩
    (fun a => match a with | 0 => ⟨(i 0).val % 256, Nat.mod_lt _ (by decide)⟩ | 1 => ⟨(i 1).val, (i 1).isLt⟩)

/-- A buffer whose 32 blocks are known is the result. -/
theorem eq_outArr (Y : Vec F S8192x128 .bf16) (O : Fin 32 → Vec F S256x128 .bf16) (h : ∀ b : Fin 32, b.val < 32 → chunkO Y b = O b) : Y = outArr O := by
  funext i
  have hi : (i 0).val < 8192 := (i 0).isLt
  have e := congrFun (h ⟨(i 0).val / 256, by omega⟩ (by show (i 0).val / 256 < 32; omega))
    (fun a => match a with | 0 => ⟨(i 0).val % 256, Nat.mod_lt _ (by decide)⟩ | 1 => ⟨(i 1).val, (i 1).isLt⟩)
  refine Eq.trans (congrArg Y (funext fun a => Fin.ext ?_)) e
  match a with
  | 0 => show (i 0).val = 256 * ((i 0).val / 256) + 1 * ((i 0).val % 256); omega
  | 1 => show (i 1).val = 0 + 1 * (i 1).val; omega

set_option maxHeartbeats 1000000 in
/-- The loop: sixteen trips. -/
theorem wp_loop (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x128 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x256 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S1024x128 .f32) (harg16 : arg16.IsWhole) (arg17 : Memref sig .tc .vmem S1024x128 .f32) (harg17 : arg17.IsWhole)
    (lam : FVec F S1x1 .f32) (g : Vec F S1x1x128 .f32) (q k v : Vec F S8192x128 .bf16) (Φ : Unit → sProp 𝕄) :
    iprop(held c arg2 arg3 arg4 arg9 arg10 arg11 arg12 arg13 arg14 arg15 arg16 arg17 lam g q k v 0
      ∗ (held c arg2 arg3 arg4 arg9 arg10 arg11 arg12 arg13 arg14 arg15 arg16 arg17 lam g q k v 16 -∗ Φ ⟨⟩))
      ⊢ wp frame (wpE (defs₀ (F := F)) Variants.none (c : Thread nD τ) none) Set.univ (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 lanes k0_pay102 lam)) Φ := by
  have h := Scf.wp_for frame (wpE (defs₀ (F := F)) Variants.none (c : Thread nD τ) none) Set.univ k0_t1_loop.lb k0_t1_loop.ub k0_t1_loop.st k0_t1_ok ()
    (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 lanes k0_pay102 lam)
    (fun n _ => held (F := F) c arg2 arg3 arg4 arg9 arg10 arg11 arg12 arg13 arg14 arg15 arg16 arg17 lam g q k v n)
    (fun t u => by
      rw [body_eq_trip]
      exact wp_trip c arg2 arg3 arg4 arg9 arg10 harg10 arg11 harg11 arg12 arg13 arg14 arg15 arg16 arg17 lam g q k v t) (Q := Φ)
  refine Entails.trans (sep_mono_right ?_) h
  refine forall_intro fun u => ?_
  exact .rfl

set_option maxHeartbeats 1000000 in
/-- The body: from its inputs, and whatever the other buffers hold, to the result. -/
theorem wp_body (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x128 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x256 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S1024x128 .f32) (harg16 : arg16.IsWhole) (arg17 : Memref sig .tc .vmem S1024x128 .f32) (harg17 : arg17.IsWhole)
    (q k v : Vec F S8192x128 .bf16) (l1 l2 l3 l4 : Vec F S1x1x64 .f32) (g : Vec F S1x1x128 .f32) (Φ : PUnit → sProp 𝕄) :
    iprop(owns (c : Thread nD τ) arg2 fullShare q ∗ owns (c : Thread nD τ) arg3 fullShare k ∗ owns (c : Thread nD τ) arg4 fullShare v ∗ owns (c : Thread nD τ) arg5 fullShare l1 ∗ owns (c : Thread nD τ) arg6 fullShare l2 ∗ owns (c : Thread nD τ) arg7 fullShare l3 ∗ owns (c : Thread nD τ) arg8 fullShare l4 ∗ owns (c : Thread nD τ) arg9 fullShare g ∗ (∃ Y : Vec F S8192x128 .bf16, owns (c : Thread nD τ) arg10 fullShare Y) ∗ (∃ X : Vec F S1024x128 .bf16, owns (c : Thread nD τ) arg11 fullShare X) ∗ (∃ X : Vec F S1024x128 .f32, owns (c : Thread nD τ) arg12 fullShare X) ∗ (∃ X : Vec F S1024x256 .f32, owns (c : Thread nD τ) arg13 fullShare X) ∗ (∃ X : Vec F S1024x2048 .f32, owns (c : Thread nD τ) arg14 fullShare X) ∗ (∃ X : Vec F S1024x2048 .f32, owns (c : Thread nD τ) arg15 fullShare X) ∗ (∃ X : Vec F S1024x128 .f32, owns (c : Thread nD τ) arg16 fullShare X) ∗ (∃ X : Vec F S1024x128 .f32, owns (c : Thread nD τ) arg17 fullShare X)
      ∗ ((owns (c : Thread nD τ) arg2 fullShare q ∗ owns (c : Thread nD τ) arg3 fullShare k ∗ owns (c : Thread nD τ) arg4 fullShare v ∗ owns (c : Thread nD τ) arg5 fullShare l1 ∗ owns (c : Thread nD τ) arg6 fullShare l2 ∗ owns (c : Thread nD τ) arg7 fullShare l3 ∗ owns (c : Thread nD τ) arg8 fullShare l4 ∗ owns (c : Thread nD τ) arg9 fullShare g ∗ owns (c : Thread nD τ) arg10 fullShare (outArr (outBlk (k0_pay103 l1 l2 l3 l4) g q k v)) ∗ (∃ X : Vec F S1024x128 .bf16, owns (c : Thread nD τ) arg11 fullShare X) ∗ (∃ X : Vec F S1024x128 .f32, owns (c : Thread nD τ) arg12 fullShare X) ∗ (∃ X : Vec F S1024x256 .f32, owns (c : Thread nD τ) arg13 fullShare X) ∗ (∃ X : Vec F S1024x2048 .f32, owns (c : Thread nD τ) arg14 fullShare X) ∗ (∃ X : Vec F S1024x2048 .f32, owns (c : Thread nD τ) arg15 fullShare X) ∗ (∃ X : Vec F S1024x128 .f32, owns (c : Thread nD τ) arg16 fullShare X) ∗ (∃ X : Vec F S1024x128 .f32, owns (c : Thread nD τ) arg17 fullShare X)) -∗ Φ ⟨⟩))
      ⊢ wp frame (wpE (defs₀ (F := F)) Variants.none (c : Thread nD τ) none) Set.univ (cc0_diff_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Φ := by
  rw [body_eq]
  simp only [Prog.lift, Prog.bind_op, Prog.bind_ret]
  iintro ⟨H2, H3, H4, H5, H6, H7, H8, H9, ⟨%Y, Ho⟩, ⟨%X11, H11⟩, ⟨%X12, H12⟩, ⟨%X13, H13⟩, ⟨%X14, H14⟩, ⟨%X15, H15⟩, ⟨%X16, H16⟩, ⟨%X17, H17⟩, HΦ⟩
  iapply (load_owns c l1) $$ H5; iintro H5
  iapply (load_owns c l2) $$ H6; iintro H6
  iapply (load_owns c l3) $$ H7; iintro H7
  iapply (load_owns c l4) $$ H8; iintro H8
  rw [window_full (s := S1x1x64) l1, window_full (s := S1x1x64) l2, window_full (s := S1x1x64) l3, window_full (s := S1x1x64) l4]
  simp only [wp_bind]
  iapply (wp_stack c harg11 lanes _ _ q X11 _)
  isplitl [H2]; · iexact H2
  isplitl [H11]; · iexact H11
  iintro ⟨H2, H11⟩
  iapply (wp_scores c 0 (qs q (tl 0)) k X14 X16 _)
  isplitl [H11]; · iexact H11
  isplitl [H3]; · iexact H3
  isplitl [H14]; · iexact H14
  isplitl [H16]; · iexact H16
  iintro ⟨H11, H3, H14, H16⟩
  iapply (wp_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay103 l1 l2 l3 l4) g q k v _)
  unfold held
  isplitl [H2 H3 H4 H9 Ho H11 H12 H13 H14 H15 H16 H17]
  · isplitl [H2]; · iexact H2
    isplitl [H3]; · iexact H3
    isplitl [H4]; · iexact H4
    isplitl [H9]; · iexact H9
    isplitl [Ho]
    · unfold outs
      iexists Y; isplitl [Ho]; · iexact Ho
      ipureintro; intro b hb; exact absurd hb (Nat.not_lt_zero _)
    isplitl [H11]; · iexact H11
    isplitl [H12]; · iexists _; iapply (maxs_of_owns c arg12 X12) $$ H12
    isplitl [H13]; · iexists _; iapply (accs_of_owns c arg13 X13) $$ H13
    isplitl [H14]; · iexact H14
    isplitl [H15]; · iexists X15; iexact H15
    isplitl [H16]; · iexact H16
    iexists X17; iexact H17
  unfold outs maxs accs
  iintro ⟨H2, H3, H4, H9, ⟨%Z, Ho, %hZ⟩, H11, ⟨%V, %X12', H12, %_⟩, ⟨%U, %X13', H13, %_⟩, H14, ⟨%X15', H15⟩, H16, ⟨%X17', H17⟩⟩
  rw [Prog.pure_eq_ret, wp_ret]; imodintro
  rw [eq_outArr Z _ hZ]
  iapply HΦ
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ho]; · iexact Ho
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.Kernel6Ideal.Attn
-- ==== Proof.Attn1.Run.lean ====
module

public import proofs.«01_k».proof.Proof.Attn1.Body
public import proofs.«01_k».proof.Proof.Gen.Kernel6Ideal.Frame
public import Idealize.ShloMosaic.Lib.Claim

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the attention call, and its frame -/

/-- The result's block at a grid point, from the blocks of the inputs there. -/
def out (c : Dev nD) (t : Fin cfg0.N) : Vec F S8192x128 .bf16 :=
  outArr (outBlk (k0_pay103 (iblk m c 3 t) (iblk m c 4 t) (iblk m c 5 t) (iblk m c 6 t)) (iblk m c 7 t) (iblk m c 0 t) (iblk m c 1 t) (iblk m c 2 t))

/-- The proof data of the pipeline: the inputs' blocks stay, the result's block is `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out m c t
  Φ _ := Pipeline.ΦA spec0 c
  q _ := fullShare
  owed _ := 0

theorem A_eq (c : Dev nD) : ∀ w, (dats m 0 c).A w = V m c (Pipeline.arrRef spec0 w) := fun w => by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = out m c t := by dsimp only [dats]

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at point `t`. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2, before_3, before_4, before_5, before_6, before_7]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, show (dats m 0 c).Φ t.castSucc = Pipeline.ΦA spec0 c from rfl]
  unfold Pipeline.ΦA
  rw [scopedRest0_eq]
  simp only [← owns_whole]
  iintro ⟨⟨⟨S0, S1, S2, S3, S4, S5, S6⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_body c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, S0, S1, S2, S3, S4, S5, S6⟩
  isplitl [S0 S1 S2 S3 S4 S5 S6 Hr]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The call of the body at point `t` is the body on the point's buffers. -/
theorem defs₀_row (t : Fin cfg0.N) : defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1000000 in
/-- Every execution ends, with the pipeline's arrays at what the proof data say, every other unscoped buffer as the region found it, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hΦ := fun _ _ => rfl)

/-- The same without the counters. -/
theorem run : θ_run defs (onTc (τ := τ) (main (F := F))) (s₀ m ρ) (Pipeline.FramePost cfgs (dats m) 0 (V m)) :=
  (θ_run defs _ _).mono (fun _ h => h.1) (run_quiescent m ρ)

/-- The frame at any floats: the argument arrays end unchanged, and every counter is zero at the end. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_quiescent m ρ))

end Cert.Kernel6Ideal.Attn
-- ==== Proof.Attn.Spec.lean ====
module

public import Idealize.ShloMosaic.Lib.Pointwise
public import Idealize.ShloMosaic.Lib.IdealHost
public import Idealize.ShloMosaic.Lib.Pipeline.ValueKit

@[expose] public section

noncomputable section

namespace Attn

open Idealize.ShloMosaic

/-! # Differential attention of one head, over the reals

Program-free: what one head of the layer computes from its queries, keys and values, and the two facts
about exponential sums by which a softmax is the same whatever number is subtracted from its scores. -/

/-- The score of query row `s` against key row `c` in map `n` of the two maps: the dot product over the
    64 columns that belong to the map. -/
def score (Q K : Fin 8192 → Fin 128 → ℝ) (n : Fin 2) (s c : Fin 8192) : ℝ :=
  ∑ x : Fin 64, Q s ⟨64 * n.val + x.val, by omega⟩ * K c ⟨64 * n.val + x.val, by omega⟩

/-- The softmax-weighted mean of the values `v` at the scores `s`. -/
def mean {n : ℕ} (s v : Fin n → ℝ) : ℝ := (∑ c, Real.exp (s c) * v c) / ∑ c, Real.exp (s c)

/-- The difference of the two maps' means, the second weighted by `lam`. -/
def mixed (lam : ℝ) (Q K V : Fin 8192 → Fin 128 → ℝ) (s : Fin 8192) (d : Fin 128) : ℝ :=
  mean (score Q K 0 s) (fun c => V c d) - lam * mean (score Q K 1 s) (fun c => V c d)

/-- The normalization of a row by its root mean square, scaled by the gain and by 0.8. -/
def normed (o : Fin 128 → EReal) (g : EReal) (d : Fin 128) : EReal :=
  o d * Ideal.rsqrt (Ideal.div (∑ x, o x * o x) (Ideal.ofBits .f32 0x43000000#32) + Ideal.ofBits .f32 0x3727C5AC#32) * g
    * Ideal.ofBits .f32 0x3F4CCCCD#32

/-- The mixing weight from the four vectors that parametrize it. -/
def weight (q1 k1 q2 k2 : Fin 64 → EReal) : EReal :=
  Ideal.exp (∑ x, q1 x * k1 x) - Ideal.exp (∑ x, q2 x * k2 x) + Ideal.ofBits .f32 0x3E4CCCCD#32

/-- A finite sum of reals, read among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- A sum of products of reals, read among the extended reals. -/
theorem coe_sum_mul {ι : Type} [Fintype ι] (f g : ι → ℝ) :
    (∑ i, (f i : EReal) * (g i : EReal)) = ((∑ i, f i * g i : ℝ) : EReal) := by
  rw [coe_sum]; exact Finset.sum_congr rfl fun i _ => (EReal.coe_mul _ _).symm

/-- The maximum of finitely many reals, at least one of them, is a real. -/
theorem fold_max_real {n : ℕ} (f : Fin (n + 1) → EReal) (hf : ∀ i, ∃ r : ℝ, f i = r) :
    ∃ r : ℝ, Finset.univ.fold max (⊥ : EReal) f = r := by
  refine ⟨(Finset.univ.fold max (⊥ : EReal) f).toReal, (EReal.coe_toReal ?_ ?_).symm⟩
  · refine ne_of_lt ((Finset.fold_max_lt _).2 ⟨bot_lt_top, fun i _ => ?_⟩)
    obtain ⟨r, h⟩ := hf i; rw [h]; exact EReal.coe_lt_top r
  · refine ne_of_gt (lt_of_lt_of_le ?_ ((Finset.le_fold_max _).2 (Or.inr ⟨0, Finset.mem_univ _, le_rfl⟩)))
    obtain ⟨r, h⟩ := hf 0; rw [h]; exact EReal.bot_lt_coe r

/-- The pattern of minus infinity denotes minus infinity. -/
theorem ofBits_neg_inf : Ideal.ofBits .f32 0xFF800000#32 = ⊥ := by
  simp [Ideal.ofBits, Ideal.ieee]

/-- The pattern of infinity denotes infinity. -/
theorem ofBits_inf : Ideal.ofBits .f32 0x7F800000#32 = ⊤ := by
  simp [Ideal.ofBits, Ideal.ieee]

theorem ofBits_inf_bf16 : Ideal.ofBits .bf16 0x7F80#16 = ⊤ := by
  simp [Ideal.ofBits, Ideal.ieee]

/-- The pattern of 0.2 denotes a real. -/
theorem ofBits_fifth : ∃ r : ℝ, Ideal.ofBits .f32 0x3E4CCCCD#32 = r := by
  refine ⟨_, by simp only [Ideal.ofBits, Ideal.ieee]; rw [if_neg (by decide), if_neg (by decide)]⟩

/-- The mixing weight of real vectors is a real. -/
theorem weight_real (q1 k1 q2 k2 : Fin 64 → EReal) (h1 : ∀ x, ∃ r : ℝ, q1 x = r) (h2 : ∀ x, ∃ r : ℝ, k1 x = r)
    (h3 : ∀ x, ∃ r : ℝ, q2 x = r) (h4 : ∀ x, ∃ r : ℝ, k2 x = r) : ∃ r : ℝ, weight q1 k1 q2 k2 = r := by
  choose a ha using h1; choose b hb using h2; choose e he using h3; choose f hf using h4
  obtain ⟨w, hw⟩ := ofBits_fifth
  unfold weight
  simp only [ha, hb, he, hf, coe_sum_mul, hw, Ideal.exp_coe]
  exact ⟨_, by rw [← EReal.coe_sub, ← EReal.coe_add]⟩

/-- One step of the running sum: the old sum, rescaled from the old maximum to the new one, plus the new
    block's sum at the new maximum, is the longer sum at the new maximum. -/
theorem rescale {n : ℕ} (S W : ℕ → Fin n → ℝ) (m : ℕ) (M M' : ℝ) :
    (∑ j ∈ Finset.range m, ∑ c, Real.exp (S j c - M) * W j c) * Real.exp (M - M') + ∑ c, Real.exp (S m c - M') * W m c
      = ∑ j ∈ Finset.range (m + 1), ∑ c, Real.exp (S j c - M') * W j c := by
  rw [Finset.sum_range_succ, Finset.sum_mul]
  congr 1
  refine Finset.sum_congr rfl fun j _ => ?_
  rw [Finset.sum_mul]
  refine Finset.sum_congr rfl fun c _ => ?_
  have : Real.exp (S j c - M') = Real.exp (S j c - M) * Real.exp (M - M') := by rw [← Real.exp_add]; congr 1; ring
  rw [this]; ring

/-- A softmax-weighted mean does not depend on the number subtracted from the scores. -/
theorem mean_shift {n : ℕ} (s v : Fin n → ℝ) (M : ℝ) :
    (∑ c, Real.exp (s c - M) * v c) / ∑ c, Real.exp (s c - M) = mean s v := by
  unfold mean
  have h : ∀ x, Real.exp (x - M) = Real.exp x * Real.exp (-M) := fun x => by rw [← Real.exp_add, sub_eq_add_neg]
  have e1 : ∑ c, Real.exp (s c - M) * v c = (∑ c, Real.exp (s c) * v c) * Real.exp (-M) := by
    rw [Finset.sum_mul]; exact Finset.sum_congr rfl fun c _ => by rw [h]; ring
  have e2 : ∑ c, Real.exp (s c - M) = (∑ c, Real.exp (s c)) * Real.exp (-M) := by
    rw [Finset.sum_mul]; exact Finset.sum_congr rfl fun c _ => h _
  rw [e1, e2, mul_div_mul_right _ _ (Real.exp_ne_zero _)]

/-- A nonempty sum of exponentials is not zero. -/
theorem sum_exp_ne {n : ℕ} (s : Fin (n + 1) → ℝ) : ∑ c, Real.exp (s c) ≠ 0 :=
  (Finset.sum_pos (fun _ _ => Real.exp_pos _) Finset.univ_nonempty).ne'

/-- The quotient of two reals, the lower one not zero, read among the extended reals. -/
theorem div_coe_coe (x y : ℝ) (h : y ≠ 0) : Ideal.div (x : EReal) (y : EReal) = ((x / y : ℝ) : EReal) := by
  rw [Ideal.div_coe h, ← EReal.coe_mul, mul_one_div]

/-- A sum over the 8192 rows, as four blocks of 2048. -/
theorem sum_blocks (f : Fin 8192 → ℝ) :
    ∑ i, f i = ∑ j ∈ Finset.range 4, ∑ c : Fin 2048, f (Fin.ofNat 8192 (j * 2048 + c.val)) := by
  have h := Finset.sum_range (n := 8192) (fun i => f (Fin.ofNat 8192 i))
  have e : ∑ i, f i = ∑ i : Fin 8192, f (Fin.ofNat 8192 i.val) :=
    Finset.sum_congr rfl fun i _ => congrArg f (Fin.ext (by simp [Fin.ofNat, Nat.mod_eq_of_lt i.isLt]))
  rw [e, ← h]
  refine (Finset.sum_range_mul_split 4 2048 fun i => f (Fin.ofNat 8192 i)).trans ?_
  exact Finset.sum_congr rfl fun j _ => Finset.sum_range _

end Attn

end
-- ==== Proof.Attn1.Spec.lean ====
module

public import proofs.«01_k».proof.Proof.Attn.Spec

@[expose] public section

noncomputable section

namespace Attn1

open Idealize.ShloMosaic

/-! # The second layer's constants

Scores, means and their facts are those of the first layer; the mixing weight's constant and the factor of
the normalized row differ. -/

/-- The normalization of a row by its root mean square, scaled by the gain and by one minus the second layer's constant. -/
def normed (o : Fin 128 → EReal) (g : EReal) (d : Fin 128) : EReal :=
  o d * Ideal.rsqrt (Ideal.div (∑ x, o x * o x) (Ideal.ofBits .f32 0x43000000#32) + Ideal.ofBits .f32 0x3727C5AC#32) * g
    * Ideal.ofBits .f32 0x3F24FD5C#32

/-- The mixing weight from the four vectors that parametrize it. -/
def weight (q1 k1 q2 k2 : Fin 64 → EReal) : EReal :=
  Ideal.exp (∑ x, q1 x * k1 x) - Ideal.exp (∑ x, q2 x * k2 x) + Ideal.ofBits .f32 0x3EB60549#32

/-- The pattern of the second layer's constant denotes a real. -/
theorem ofBits_init : ∃ r : ℝ, Ideal.ofBits .f32 0x3EB60549#32 = r := by
  refine ⟨_, by simp only [Ideal.ofBits, Ideal.ieee]; rw [if_neg (by decide), if_neg (by decide)]⟩

/-- The mixing weight of real vectors is a real. -/
theorem weight_real (q1 k1 q2 k2 : Fin 64 → EReal) (h1 : ∀ x, ∃ r : ℝ, q1 x = r) (h2 : ∀ x, ∃ r : ℝ, k1 x = r)
    (h3 : ∀ x, ∃ r : ℝ, q2 x = r) (h4 : ∀ x, ∃ r : ℝ, k2 x = r) : ∃ r : ℝ, weight q1 k1 q2 k2 = r := by
  choose a ha using h1; choose b hb using h2; choose e he using h3; choose f hf using h4
  obtain ⟨w, hw⟩ := ofBits_init
  unfold weight
  simp only [ha, hb, he, hf, _root_.Attn.coe_sum_mul, hw, Ideal.exp_coe]
  exact ⟨_, by rw [← EReal.coe_sub, ← EReal.coe_add]⟩

end Attn1

end
-- ==== Proof.Attn1.Values.lean ====
module

public import proofs.«01_k».proof.Proof.Attn1.Trip
public import proofs.«01_k».proof.Proof.Attn1.Spec
public import Idealize.ShloMosaic.Lib.Pointwise

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

/-! # The body's values over the extended reals

Each stored value read at an index, at real inputs. -/

/-- The scores of a stacked query tile against a key block. -/
theorem scores_at (q : Vec Ideal S1024x128 .bf16) (k : Vec Ideal S2048x128 .bf16) (i : Fin 1024) (c : Fin 2048) :
    k0_pay3 q k (ix2 i c) = ∑ x : Fin 128, q (ix2 i x) * k (ix2 c x) := by
  pointwise [k0_pay3, k0_pay2]

theorem dots_at (q : Vec Ideal S1024x128 .bf16) (k : Vec Ideal S2048x128 .bf16) (i : Fin 1024) (c : Fin 2048) :
    k0_pay2 q k (ix2 i c) = ∑ x : Fin 128, q (ix2 i x) * k (ix2 c x) := by
  pointwise [k0_pay2]

/-- The larger of two reals is a real. -/
theorem max_real {a b : EReal} (ha : ∃ r : ℝ, a = r) (hb : ∃ r : ℝ, b = r) : ∃ r : ℝ, max a b = r := by
  rcases le_total a b with h | h
  · rw [max_eq_right h]; exact hb
  · rw [max_eq_left h]; exact ha

/-- The lane maxima of real scores are real. -/
theorem laneMax_real (q : Vec Ideal S1024x128 .bf16) (k : Vec Ideal S2048x128 .bf16) (i : Fin 1024)
    (h : ∀ c : Fin 2048, ∃ r : ℝ, k0_pay2 q k (ix2 i c) = r) (c : Fin 128) : ∃ r : ℝ, k0_pay4 q k (ix2 i c) = r := by
  unfold k0_pay4
  generalize k0_pay2 q k = s at h
  pointwise
  repeat' first | exact h _ | refine max_real ?_ ?_

/-- The values with the block of ones beside them, at a column of the values. -/
theorem vals_at (v : Vec Ideal S2048x128 .bf16) (i : Fin 2048) (d : Fin 256) (h : d.val < 128) :
    k0_pay5 k0_pay102 v (ix2 i d) = v (ix2 i ⟨d.val, h⟩) := by
  pointwise [k0_pay5, k0_pay102]
  rw [dif_pos h]

/-- The values with the block of ones beside them, at the column of ones. -/
theorem vals_ones (v : Vec Ideal S2048x128 .bf16) (i : Fin 2048) : k0_pay5 k0_pay102 v (ix2 i (128 : Fin 256)) = (1 : EReal) := by
  pointwise [k0_pay5, k0_pay102]

/-- The values with the block of ones beside them are real where the values are. -/
theorem vals_real (v : Vec Ideal S2048x128 .bf16) (hv : ∀ i d, ∃ r : ℝ, v (ix2 i d) = r) (i : Fin 2048) (d : Fin 256) :
    ∃ r : ℝ, k0_pay5 k0_pay102 v (ix2 i d) = r := by
  by_cases h : d.val < 128
  · rw [vals_at v i d h]; exact hv _ _
  · pointwise [k0_pay5, k0_pay102]
    rw [dif_neg h]
    unfold Scalar.select
    split
    · exact ⟨1, by simp⟩
    · exact ⟨0, by simp⟩

/-- The row maxima of a chunk, the same in every lane. -/
theorem rowMax_at (x : Vec Ideal S256x128 .f32) (i : Fin 256) (hx : ∀ c, ∃ r : ℝ, x (ix2 i c) = r) :
    ∃ r : ℝ, ∀ c, k0_pay6 x (ix2 i c) = r := by
  obtain ⟨r, hr⟩ := _root_.Attn.fold_max_real (n := 127) (fun c => x (ix2 i c)) hx
  refine ⟨r, fun c => ?_⟩
  pointwise [k0_pay6]
  rw [_root_.Attn.ofBits_neg_inf]; exact hr

/-- The running maxima after another block, the same in every lane when they were before. -/
theorem nextMax_at (x m : Vec Ideal S256x128 .f32) (i : Fin 256) (hx : ∀ c, ∃ r : ℝ, x (ix2 i c) = r) (M : ℝ)
    (hm : ∀ c, m (ix2 i c) = M) : ∃ r : ℝ, ∀ c, k0_pay98 x m (ix2 i c) = r := by
  obtain ⟨r, hr⟩ := _root_.Attn.fold_max_real (n := 127) (fun c => x (ix2 i c)) hx
  obtain ⟨r', hr'⟩ := max_real ⟨M, rfl⟩ ⟨r, rfl⟩
  refine ⟨r', fun c => ?_⟩
  pointwise [k0_pay98]
  rw [_root_.Attn.ofBits_neg_inf, hm, ← hr', ← hr]

/-- Sixteen copies of a block side by side, where the block's rows are constant. -/
theorem sixteen_at (y : FVec Ideal S256x128 .f32) (M : Fin 256 → EReal) (hy : ∀ i c, y (ix2 i c) = M i) :
    concatenate S256x2048 1 [⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩] concatenates_S256x128_S256x128_S256x128_S256x128_S256x128_S256x128_S256x128_S256x128_S256x128_S256x128_S256x128_S256x128_S256x128_S256x128_S256x128_S256x128_S256x2048_d1
      = fun j => M (j 0) := by
  funext j
  refine (concatenate_replicate_apply (s₁ := S256x128) (t := S256x2048) 1 16 y _ rfl j
    (ix2 (j 0) ⟨(j 1).val % 128, Nat.mod_lt _ (by decide)⟩) rfl fun b hb => ?_).trans (hy _ _)
  match b with
  | 0 => rfl
  | 1 => exact absurd rfl hb

/-- The first block's sums. -/
theorem firstSum_at (w : FVec Ideal S2048x256 .bf16) (s : Vec Ideal S256x2048 .f32) (x : Vec Ideal S256x128 .f32)
    (S : Fin 256 → Fin 2048 → ℝ) (W : Fin 2048 → Fin 256 → ℝ) (M : Fin 256 → ℝ) (hs : ∀ i c, s (ix2 i c) = S i c)
    (hw : ∀ c d, w (ix2 c d) = W c d) (hM : ∀ i c, k0_pay6 x (ix2 i c) = M i) (i d : Fin 256) :
    k0_pay7 w s x (ix2 i d) = ((∑ c, Real.exp (S i c - M i) * W c d : ℝ) : EReal) := by
  unfold k0_pay7
  generalize k0_pay6 x = y at hM
  rw [sixteen_at y (fun i => (M i : EReal)) hM]
  pointwise
  simp only [hs, hw, ← EReal.coe_sub, Ideal.exp_coe]
  exact _root_.Attn.coe_sum_mul _ _

/-- The sums after another block: the sums before, rescaled, plus the block's. -/
theorem nextSum_at (w : FVec Ideal S2048x256 .bf16) (s : Vec Ideal S256x2048 .f32) (x m : Vec Ideal S256x128 .f32)
    (a : Vec Ideal S256x256 .f32) (S : Fin 256 → Fin 2048 → ℝ) (W : Fin 2048 → Fin 256 → ℝ) (M M' : Fin 256 → ℝ)
    (A : Fin 256 → Fin 256 → ℝ) (hs : ∀ i c, s (ix2 i c) = S i c) (hw : ∀ c d, w (ix2 c d) = W c d)
    (hm : ∀ i c, m (ix2 i c) = M i) (hM : ∀ i c, k0_pay98 x m (ix2 i c) = M' i) (ha : ∀ i d, a (ix2 i d) = A i d)
    (i d : Fin 256) :
    k0_pay99 w s x m a (ix2 i d)
      = ((A i d * Real.exp (M i - M' i) + ∑ c, Real.exp (S i c - M' i) * W c d : ℝ) : EReal) := by
  unfold k0_pay99
  generalize k0_pay98 x m = y at hM
  rw [sixteen_at y (fun i => (M' i : EReal)) hM]
  pointwise
  simp only [hs, hw, hm, hM, ha, dite_eq_ite, ite_self, ← EReal.coe_sub, Ideal.exp_coe]
  rw [_root_.Attn.coe_sum_mul, EReal.coe_add, EReal.coe_mul]

/-- The finished rows: the two maps' quotients combined and normalized. -/
theorem finish_at (l : FVec Ideal S1x1 .f32) (a b : Vec Ideal S256x256 .f32) (g : Vec Ideal S1x1x128 .f32) (i : Fin 256) (d : Fin 128) :
    k0_pay101 l a b g (ix2 i d) = _root_.Attn1.normed (fun x => Ideal.div (a (ix2 i ⟨x.val, by omega⟩)) (a (ix2 i 128))
        - l (ix2 0 0) * Ideal.div (b (ix2 i ⟨x.val, by omega⟩)) (b (ix2 i 128))) (g (ix3 0 0 d)) d := by
  pointwise [k0_pay101]
  rfl

/-- The mixing weight. -/
theorem weight_at (l a b g : Vec Ideal S1x1x64 .f32) (i j : Fin 1) :
    k0_pay103 l a b g (ix2 i j) = _root_.Attn1.weight (fun x => l (ix3 0 0 x)) (fun x => a (ix3 0 0 x)) (fun x => b (ix3 0 0 x)) (fun x => g (ix3 0 0 x)) := by
  pointwise [k0_pay103]
  rfl

end Cert.Kernel6Ideal.Attn

end
-- ==== Proof.Attn1.Blocks.lean ====
module

public import proofs.«01_k».proof.Proof.Attn1.Values

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

/-! # Reads of the blocks, tiles and chunks -/

variable {F : FTy → Type} [FloatOps F]

/-- Row `c` of key block `j` is row `2048 j + c` of the keys. -/
theorem blockOf_at (k : Vec F S8192x128 .bf16) (j : Fin 4) (c : Fin 2048) (x : Fin 128) :
    blockOf k j (ix2 c x) = k (ix2 (Fin.ofNat 8192 (j.val * 2048 + c.val)) x) := by
  have h : j.val * 2048 + c.val < 8192 := by omega
  refine congrArg k (funext fun a => Fin.ext ?_)
  match a with
  | 0 => show 2048 * j.val + 1 * c.val = (j.val * 2048 + c.val) % 8192; rw [Nat.mod_eq_of_lt h]; omega
  | 1 => show 0 + 1 * x.val = x.val; omega

/-- Row `i` of chunk `r` is row `256 r + i` of the scores. -/
theorem chunkS_at (s : Vec F S1024x2048 .f32) (r : Fin 4) (i : Fin 256) (c : Fin 2048) :
    chunkS s r (ix2 i c) = s (ix2 ⟨256 * r.val + i.val, by omega⟩ c) := by
  refine congrArg s (funext fun a => Fin.ext ?_)
  match a with
  | 0 => show 256 * r.val + 1 * i.val = 256 * r.val + i.val; omega
  | 1 => show 0 + 1 * c.val = c.val; omega

/-- Row `i` of chunk `r` is row `256 r + i` of the lane maxima. -/
theorem chunkX_at (s : Vec F S1024x128 .f32) (r : Fin 4) (i : Fin 256) (c : Fin 128) :
    chunkX s r (ix2 i c) = s (ix2 ⟨256 * r.val + i.val, by omega⟩ c) := by
  refine congrArg s (funext fun a => Fin.ext ?_)
  match a with
  | 0 => show 256 * r.val + 1 * i.val = 256 * r.val + i.val; omega
  | 1 => show 0 + 1 * c.val = c.val; omega

/-- Row `i` of query tile `t` is row `512 t + i` of the queries. -/
theorem tileOf_at (q : Vec F S8192x128 .bf16) (t : Fin 16) (i : Fin 512) (x : Fin 128) :
    tileOf q t (ix2 i x) = q (ix2 ⟨512 * t.val + i.val, by omega⟩ x) := by
  refine congrArg q (funext fun a => Fin.ext ?_)
  match a with
  | 0 => show 512 * t.val + 1 * i.val = 512 * t.val + i.val; omega
  | 1 => show 0 + 1 * x.val = x.val; omega

/-- A lane number below 64, as the word comparison says it. -/
theorem lane_lt : ∀ x : Fin 128, (IntOp.cmpi CmpIPredicate.slt (BitVec.ofNat 32 x.val) 64#32 = 1#1) ↔ x.val < 64 := by decide +kernel

/-- A lane number from 64 on, as the word comparison says it. -/
theorem lane_ge : ∀ x : Fin 128, (IntOp.cmpi CmpIPredicate.sge (BitVec.ofNat 32 x.val) 64#32 = 1#1) ↔ ¬ x.val < 64 := by decide +kernel

/-- The upper half of the stacked tile keeps the first map's columns. -/
theorem qs_upper (q : Vec Ideal S8192x128 .bf16) (t : Fin 16) (i : Fin 512) (x : Fin 128) :
    qs q t (ix2 ⟨i.val, by omega⟩ x) = if x.val < 64 then q (ix2 ⟨512 * t.val + i.val, by omega⟩ x) else (0 : EReal) := by
  have h : qs q t (ix2 ⟨i.val, by omega⟩ x) = k0_pay67 lanes (tileOf q t) (ix2 i x) := by
    refine (dif_pos (show ((ix2 (⟨i.val, by omega⟩ : Fin 1024) x) 0).val < 512 from i.isLt)).trans ?_
    exact congrArg (k0_pay67 lanes (tileOf q t)) (funext fun a => match a with | 0 => rfl | 1 => rfl)
  rw [h, ← tileOf_at q t i x]
  pointwise [k0_pay67, k0_pay66, lanes]
  rw [show (Scalar.select (IntOp.cmpi CmpIPredicate.slt (BitVec.ofNat 32 x.val) 64#32) (tileOf q t (ix2 i x)) (0 : EReal))
    = if IntOp.cmpi CmpIPredicate.slt (BitVec.ofNat 32 x.val) 64#32 = 1#1 then tileOf q t (ix2 i x) else (0 : EReal) from rfl, if_congr (lane_lt x) rfl rfl]

/-- The lower half of the stacked tile keeps the second map's columns. -/
theorem qs_lower (q : Vec Ideal S8192x128 .bf16) (t : Fin 16) (i : Fin 512) (x : Fin 128) :
    qs q t (ix2 ⟨512 + i.val, by omega⟩ x) = if x.val < 64 then (0 : EReal) else q (ix2 ⟨512 * t.val + i.val, by omega⟩ x) := by
  have h : qs q t (ix2 ⟨512 + i.val, by omega⟩ x) = k0_pay68 lanes (tileOf q t) (ix2 i x) := by
    refine (dif_neg (show ¬ ((ix2 (⟨512 + i.val, by omega⟩ : Fin 1024) x) 0).val < 512 by show ¬ 512 + i.val < 512; omega)).trans ?_
    refine congrArg (k0_pay68 lanes (tileOf q t)) (funext fun a => Fin.ext ?_)
    match a with
    | 0 => show 512 + i.val - 512 = i.val; omega
    | 1 => rfl
  rw [h, ← tileOf_at q t i x]
  pointwise [k0_pay68, k0_pay66, lanes]
  rw [show (Scalar.select (IntOp.cmpi CmpIPredicate.sge (BitVec.ofNat 32 x.val) 64#32) (tileOf q t (ix2 i x)) (0 : EReal))
    = if IntOp.cmpi CmpIPredicate.sge (BitVec.ofNat 32 x.val) 64#32 = 1#1 then tileOf q t (ix2 i x) else (0 : EReal) from rfl, if_congr (lane_ge x) rfl rfl, ite_not]

/-- The score buffer's entries: row `i` of the upper half is scored by the first map, of the lower half by the second. -/
theorem dots_upper (q k : Vec Ideal S8192x128 .bf16) (Q K : Fin 8192 → Fin 128 → ℝ) (hq : ∀ i x, q (ix2 i x) = Q i x)
    (hk : ∀ i x, k (ix2 i x) = K i x) (t : Fin 16) (j : Fin 4) (i : Fin 512) (c : Fin 2048) :
    k0_pay2 (qs q t) (blockOf k j) (ix2 ⟨i.val, by omega⟩ c)
      = ((_root_.Attn.score Q K 0 ⟨512 * t.val + i.val, by omega⟩ (Fin.ofNat 8192 (j.val * 2048 + c.val)) : ℝ) : EReal) := by
  rw [dots_at]
  simp only [blockOf_at, hk, qs_upper, hq]
  refine (Fin.sum_univ_add (a := 64) (b := 64) _).trans ?_
  unfold _root_.Attn.score
  rw [← _root_.Attn.coe_sum_mul]
  refine Eq.trans (congrArg₂ (· + ·) (Finset.sum_congr rfl fun x _ => ?_) (Finset.sum_eq_zero fun x _ => ?_)) (add_zero _)
  · rw [if_pos (show (Fin.castAdd 64 x).val < 64 from x.isLt)]
    have e : (Fin.castAdd 64 x : Fin 128) = ⟨64 * (0 : Fin 2).val + x.val, by omega⟩ := Fin.ext (by simp)
    rw [e]
  · rw [if_neg (show ¬ (Fin.natAdd 64 x).val < 64 by simp), zero_mul]

theorem dots_lower (q k : Vec Ideal S8192x128 .bf16) (Q K : Fin 8192 → Fin 128 → ℝ) (hq : ∀ i x, q (ix2 i x) = Q i x)
    (hk : ∀ i x, k (ix2 i x) = K i x) (t : Fin 16) (j : Fin 4) (i : Fin 512) (c : Fin 2048) :
    k0_pay2 (qs q t) (blockOf k j) (ix2 ⟨512 + i.val, by omega⟩ c)
      = ((_root_.Attn.score Q K 1 ⟨512 * t.val + i.val, by omega⟩ (Fin.ofNat 8192 (j.val * 2048 + c.val)) : ℝ) : EReal) := by
  rw [dots_at]
  simp only [blockOf_at, hk, qs_lower, hq]
  refine (Fin.sum_univ_add (a := 64) (b := 64) _).trans ?_
  unfold _root_.Attn.score
  rw [← _root_.Attn.coe_sum_mul]
  refine Eq.trans (congrArg₂ (· + ·) (Finset.sum_eq_zero fun x _ => ?_) (Finset.sum_congr rfl fun x _ => ?_)) (zero_add _)
  · rw [if_pos (show (Fin.castAdd 64 x).val < 64 from x.isLt), zero_mul]
  · rw [if_neg (show ¬ (Fin.natAdd 64 x).val < 64 by simp)]
    have e : (Fin.natAdd 64 x : Fin 128) = ⟨64 * (1 : Fin 2).val + x.val, by omega⟩ := Fin.ext (by simp; omega)
    rw [e]

end Cert.Kernel6Ideal.Attn

end
-- ==== Proof.Attn1.Online.lean ====
module

public import proofs.«01_k».proof.Proof.Attn1.Blocks
public import proofs.«01_k».proof.Proof.Attn1.Values
public import proofs.«01_k».proof.Proof.Attn1.Body

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

/-! # The running sums

Over the four key blocks of a trip a chunk's running maximum stays some real per row, and its accumulator is the
sum, over the blocks so far, of the exponentials of the scores above that real, times the values. -/

/-- What is stored as the running maximum after the first block is the chunk's row maximum. -/
theorem firstMax_eq (x : Vec Ideal S256x128 .f32) (i : Fin 256) (c : Fin 128) : k0_pay8 x (ix2 i c) = k0_pay6 x (ix2 i c) := by
  unfold k0_pay8
  generalize k0_pay6 x = y
  pointwise

/-- What is stored as the running maximum after a later block. -/
theorem laterMax_eq (x m : Vec Ideal S256x128 .f32) (i : Fin 256) (c : Fin 128) : k0_pay100 x m (ix2 i c) = k0_pay98 x m (ix2 i c) := by
  unfold k0_pay100
  generalize k0_pay98 x m = y
  pointwise

/-- After block `n` of the four the running maximum of chunk `r` is a real `M i` per row, and the accumulator
    is the sum over the blocks so far, at that real. -/
theorem run_at (q k v : Vec Ideal S8192x128 .bf16) (t : Fin 16) (r : Fin 4) (S : ℕ → Fin 256 → Fin 2048 → ℝ)
    (W : ℕ → Fin 2048 → Fin 256 → ℝ) (hs : ∀ (j : Fin 4) i c, chunkS (sc q k t j) r (ix2 i c) = S j.val i c)
    (hx : ∀ (j : Fin 4) i c, ∃ a : ℝ, chunkX (mx q k t j) r (ix2 i c) = a) (hw : ∀ (j : Fin 4) c d, vx v j (ix2 c d) = W j.val c d) :
    ∀ n ≤ 3, ∃ M : Fin 256 → ℝ, (∀ i c, runM q k t n r (ix2 i c) = M i)
      ∧ ∀ i d, runA q k v t n r (ix2 i d) = ((∑ j ∈ Finset.range (n + 1), ∑ c, Real.exp (S j i c - M i) * W j c d : ℝ) : EReal) := by
  intro n
  induction n with
  | zero =>
    intro _
    choose M hM using fun i => rowMax_at (chunkX (mx q k t 0) r) i (hx 0 i)
    refine ⟨M, fun i c => (firstMax_eq _ i c).trans (hM i c), fun i d => ?_⟩
    refine (firstSum_at (vx v 0) (chunkS (sc q k t 0) r) _ (S 0) (W 0) M (hs 0) (hw 0) hM i d).trans ?_
    rw [Finset.sum_range_one]
  | succ n ih =>
    intro hn
    obtain ⟨M, hm, ha⟩ := ih (by omega)
    have hj : (Fin.ofNat 4 (n + 1)).val = n + 1 := Nat.mod_eq_of_lt (by omega)
    choose M' hM' using fun i => nextMax_at (chunkX (mx q k t (Fin.ofNat 4 (n + 1))) r) (runM q k t n r) i (hx _ i) (M i) (hm i)
    refine ⟨M', fun i c => (laterMax_eq _ _ i c).trans (hM' i c), fun i d => ?_⟩
    refine (nextSum_at (vx v (Fin.ofNat 4 (n + 1))) (chunkS (sc q k t (Fin.ofNat 4 (n + 1))) r) _ _ _ (S (n + 1)) (W (n + 1)) M M' _
      (fun i c => by rw [hs, hj]) (fun c d => by rw [hw, hj]) hm hM' ha i d).trans ?_
    exact congrArg _ (_root_.Attn.rescale (fun j => S j i) (fun j c => W j c d) (n + 1) (M i) (M' i))

/-- The two maps' rows of scores: chunk `r` of the upper two holds map 0, of the lower two map 1. -/
theorem chunk_scores (q k : Vec Ideal S8192x128 .bf16) (Q K : Fin 8192 → Fin 128 → ℝ) (hq : ∀ i x, q (ix2 i x) = Q i x)
    (hk : ∀ i x, k (ix2 i x) = K i x) (t : Fin 16) (r : Fin 2) (j : Fin 4) (i : Fin 256) (c : Fin 2048) :
    chunkS (sc q k t j) (lo r) (ix2 i c)
        = ((_root_.Attn.score Q K 0 ⟨512 * t.val + (256 * r.val + i.val), by omega⟩ (Fin.ofNat 8192 (j.val * 2048 + c.val)) : ℝ) : EReal)
      ∧ chunkS (sc q k t j) (hi r) (ix2 i c)
        = ((_root_.Attn.score Q K 1 ⟨512 * t.val + (256 * r.val + i.val), by omega⟩ (Fin.ofNat 8192 (j.val * 2048 + c.val)) : ℝ) : EReal) := by
  constructor
  · rw [chunkS_at]
    refine Eq.trans ?_ (dots_upper q k Q K hq hk t j ⟨256 * r.val + i.val, by omega⟩ c)
    exact (scores_at _ _ _ _).trans (dots_at _ _ _ _).symm
  · rw [chunkS_at]
    refine Eq.trans ?_ (dots_lower q k Q K hq hk t j ⟨256 * r.val + i.val, by omega⟩ c)
    refine (scores_at _ _ _ _).trans (Eq.trans ?_ (dots_at _ _ _ _).symm)
    have e : (⟨256 * (hi r).val + i.val, by have := (hi r).isLt; omega⟩ : Fin 1024) = ⟨512 + (256 * r.val + i.val), by omega⟩ :=
      Fin.ext (show 256 * (r.val + 2) + i.val = 512 + (256 * r.val + i.val) by omega)
    rw [e]

/-- Every score of a stacked tile is a real. -/
theorem dots_real (q k : Vec Ideal S8192x128 .bf16) (Q K : Fin 8192 → Fin 128 → ℝ) (hq : ∀ i x, q (ix2 i x) = Q i x)
    (hk : ∀ i x, k (ix2 i x) = K i x) (t : Fin 16) (j : Fin 4) (i : Fin 1024) (c : Fin 2048) :
    ∃ a : ℝ, k0_pay2 (qs q t) (blockOf k j) (ix2 i c) = a := by
  by_cases h : i.val < 512
  · exact ⟨_, dots_upper q k Q K hq hk t j ⟨i.val, h⟩ c⟩
  · have e : i = ⟨512 + (⟨i.val - 512, by omega⟩ : Fin 512).val, by show 512 + (i.val - 512) < 1024; omega⟩ :=
      Fin.ext (show i.val = 512 + (i.val - 512) by omega)
    rw [e]
    exact ⟨_, dots_lower q k Q K hq hk t j ⟨i.val - 512, by omega⟩ c⟩

/-- The lane maxima of every chunk are real. -/
theorem chunk_real (q k : Vec Ideal S8192x128 .bf16) (Q K : Fin 8192 → Fin 128 → ℝ) (hq : ∀ i x, q (ix2 i x) = Q i x)
    (hk : ∀ i x, k (ix2 i x) = K i x) (t : Fin 16) (r : Fin 4) (j : Fin 4) (i : Fin 256) (c : Fin 128) :
    ∃ a : ℝ, chunkX (mx q k t j) r (ix2 i c) = a := by
  rw [chunkX_at]
  exact laneMax_real _ _ _ (dots_real q k Q K hq hk t j _) c

/-- A chunk's quotient of a column of sums by the column of ones is the softmax-weighted mean of the values. -/
theorem quotient_at (q k v : Vec Ideal S8192x128 .bf16) (V : Fin 8192 → Fin 128 → ℝ) (hv : ∀ i x, v (ix2 i x) = V i x) (t : Fin 16) (r : Fin 4)
    (f : Fin 256 → Fin 8192 → ℝ) (hs : ∀ (j : Fin 4) i c, chunkS (sc q k t j) r (ix2 i c) = f i (Fin.ofNat 8192 (j.val * 2048 + c.val)))
    (hx : ∀ (j : Fin 4) i c, ∃ a : ℝ, chunkX (mx q k t j) r (ix2 i c) = a) (i : Fin 256) (d : Fin 128) :
    Ideal.div (runA q k v t 3 r (ix2 i ⟨d.val, by omega⟩)) (runA q k v t 3 r (ix2 i 128))
      = ((_root_.Attn.mean (f i) (fun c => V c d) : ℝ) : EReal) := by
  have hvb : ∀ (j : Fin 4) c d, ∃ a : ℝ, vx v j (ix2 c d) = a := fun j c d =>
    vals_real _ (fun c d => by rw [blockOf_at]; exact ⟨_, hv _ _⟩) c d
  choose W hW using hvb
  obtain ⟨M, -, hA⟩ := run_at q k v t r (fun j i c => f i (Fin.ofNat 8192 (j * 2048 + c.val))) (fun j c d => W (Fin.ofNat 4 j) c d)
    hs hx (fun j c d => by rw [hW]; congr 2; exact Fin.ext (Nat.mod_eq_of_lt j.isLt).symm) 3 le_rfl
  rw [hA, hA]
  have hn : ∀ j < 4, ∀ c, W (Fin.ofNat 4 j) c ⟨d.val, by omega⟩ = V (Fin.ofNat 8192 (j * 2048 + c.val)) d := fun j hj c => by
    have h := (hW (Fin.ofNat 4 j) c ⟨d.val, by omega⟩).symm.trans ((vals_at _ c ⟨d.val, by omega⟩ d.isLt).trans ((blockOf_at _ _ _ _).trans (hv _ _)))
    have e := EReal.coe_injective h
    rw [e]
    congr 2
    exact congrArg (· * 2048 + c.val) (Nat.mod_eq_of_lt hj)
  have ho : ∀ j c, W (Fin.ofNat 4 j) c 128 = 1 := fun j c =>
    EReal.coe_injective ((hW _ _ _).symm.trans ((vals_ones _ c).trans EReal.coe_one.symm))
  rw [Finset.sum_congr rfl fun j hj => Finset.sum_congr rfl fun c _ => by rw [hn j (Finset.mem_range.1 hj) c]]
  simp only [ho, mul_one]
  rw [← _root_.Attn.sum_blocks (fun c => Real.exp (f i c - M i) * V c d), ← _root_.Attn.sum_blocks (fun c => Real.exp (f i c - M i)),
    _root_.Attn.div_coe_coe _ _ (_root_.Attn.sum_exp_ne _), _root_.Attn.mean_shift]

/-- One block of 256 rows of the result. -/
theorem outOf_at (lam : FVec Ideal S1x1 .f32) (g : Vec Ideal S1x1x128 .f32) (q k v : Vec Ideal S8192x128 .bf16) (l : ℝ)
    (Q K V : Fin 8192 → Fin 128 → ℝ) (hl : lam (ix2 0 0) = l) (hq : ∀ i x, q (ix2 i x) = Q i x) (hk : ∀ i x, k (ix2 i x) = K i x)
    (hv : ∀ i x, v (ix2 i x) = V i x) (t : Fin 16) (r : Fin 2) (i : Fin 256) (d : Fin 128) :
    outOf lam g q k v t r (ix2 i d)
      = _root_.Attn1.normed (fun x => ((_root_.Attn.mixed l Q K V ⟨512 * t.val + (256 * r.val + i.val), by omega⟩ x : ℝ) : EReal)) (g (ix3 0 0 d)) d := by
  unfold outOf
  rw [finish_at]
  refine congrArg (fun o => _root_.Attn1.normed o (g (ix3 0 0 d)) d) (funext fun x => ?_)
  rw [quotient_at q k v V hv t (lo r) (fun i => _root_.Attn.score Q K 0 ⟨512 * t.val + (256 * r.val + i.val), by omega⟩)
      (fun j i c => (chunk_scores q k Q K hq hk t r j i c).1) (fun j i c => chunk_real q k Q K hq hk t _ j i c),
    quotient_at q k v V hv t (hi r) (fun i => _root_.Attn.score Q K 1 ⟨512 * t.val + (256 * r.val + i.val), by omega⟩)
      (fun j i c => (chunk_scores q k Q K hq hk t r j i c).2) (fun j i c => chunk_real q k Q K hq hk t _ j i c), hl]
  rw [← EReal.coe_mul, ← EReal.coe_sub]
  rfl

/-- The result of one head at row `s`, column `d`. -/
theorem outArr_at (lam : FVec Ideal S1x1 .f32) (g : Vec Ideal S1x1x128 .f32) (q k v : Vec Ideal S8192x128 .bf16) (l : ℝ)
    (Q K V : Fin 8192 → Fin 128 → ℝ) (hl : lam (ix2 0 0) = l) (hq : ∀ i x, q (ix2 i x) = Q i x) (hk : ∀ i x, k (ix2 i x) = K i x)
    (hv : ∀ i x, v (ix2 i x) = V i x) (s : Fin 8192) (d : Fin 128) :
    outArr (outBlk lam g q k v) (ix2 s d)
      = _root_.Attn1.normed (fun x => ((_root_.Attn.mixed l Q K V s x : ℝ) : EReal)) (g (ix3 0 0 d)) d := by
  have h : outArr (outBlk lam g q k v) (ix2 s d)
      = outOf lam g q k v ⟨s.val / 256 / 2, by omega⟩ ⟨s.val / 256 % 2, by omega⟩ (ix2 ⟨s.val % 256, Nat.mod_lt _ (by decide)⟩ d) := by
    refine congrArg (outOf lam g q k v ⟨s.val / 256 / 2, by omega⟩ ⟨s.val / 256 % 2, by omega⟩) (funext fun a => ?_)
    match a with
    | 0 => rfl
    | 1 => rfl
  rw [h, outOf_at lam g q k v l Q K V hl hq hk hv]
  have e : (⟨512 * (s.val / 256 / 2) + (256 * (s.val / 256 % 2) + s.val % 256), by omega⟩ : Fin 8192) = s := Fin.ext (by show 512 * (s.val / 256 / 2) + (256 * (s.val / 256 % 2) + s.val % 256) = s.val; omega)
  show _root_.Attn1.normed (fun x => ((_root_.Attn.mixed l Q K V ⟨512 * (s.val / 256 / 2) + (256 * (s.val / 256 % 2) + s.val % 256), _⟩ x : ℝ) : EReal)) _ _ = _
  rw [e]

end Cert.Kernel6Ideal.Attn

end
-- ==== Proof.Ref1.Stages.lean ====
module

public import proofs.«01_k».proof.Proof.Gen.Reference6Ideal.Run
public import proofs.«01_k».proof.Proof.Attn1.Spec
public import Idealize.ShloMosaic.Lib.Pointwise

@[expose] public section

set_option maxRecDepth 16384

noncomputable section

namespace Cert.Reference6Ideal.Stages

open Cert.Reference6Ideal Cert.Reference6Ideal.Gen Idealize.ShloMosaic Idealize.ShloMosaic.TcCoe Idealize.ShloMosaic.Tactic Idealize.SL.Sem

/-! # The reference's result, stage by stage

The reference's composed term cut at its named intermediate arrays, each stage read at an index. -/

/-- Queries or keys laid out by batch, head, map and row. -/
def heads (x : FVec Ideal S16384x512 .bf16) : FVec Ideal S2x4x2x8192x64 .f32 :=
  transpose S2x4x2x8192x64 [0, 2, 3, 1, 4] (shapeCast S2x8192x4x2x64 (extf .f32 x bitsLt_bf16_f32) shapeCasts_S16384x512_S2x8192x4x2x64) transposes_S2x8192x4x2x64_S2x4x2x8192x64_0_2_3_1_4

/-- Values laid out by batch, head and row. -/
def vals (x : FVec Ideal S16384x512 .bf16) : FVec Ideal S2x4x8192x128 .f32 :=
  transpose S2x4x8192x128 [0, 2, 1, 3] (shapeCast S2x8192x4x128 (extf .f32 x bitsLt_bf16_f32) shapeCasts_S16384x512_S2x8192x4x128) transposes_S2x8192x4x128_S2x4x8192x128_0_2_1_3

/-- The taken layer's row of a stack of two. -/
def row (a : FVec Ideal S2x64 .f32) : FVec Ideal S64 .f32 := shapeCast S64 (extractStridedSlice S1x64 ![1, 0] a slices_S2x64_S1x64_1_0) shapeCasts_S1x64_S64

/-- The mixing weight. -/
def lam (a b e f : FVec Ideal S2x64 .f32) : FVec Ideal S_ .f32 :=
  addf (subf (Host.exp (Host.reduceAdd (mulf (row a) (row b)) (constant S_ .f32 0x00000000#32) reducesTo_S64_S_d0 h_S_))
    (Host.exp (Host.reduceAdd (mulf (row e) (row f)) (constant S_ .f32 0x00000000#32) reducesTo_S64_S_d0 h_S_))) (constant S_ .f32 0x3EB60549#32)

/-- The scores. -/
def scores (q k : FVec Ideal S2x4x2x8192x64 .f32) : FVec Ideal S2x4x2x8192x8192 .f32 :=
  Host.dotGeneral dot_S2x4x2x8192x64_S2x4x2x8192x64_S2x4x2x8192x8192_4_4_3_3_012_012 none q k

/-- The row maxima of the scores. -/
def maxs (s : FVec Ideal S2x4x2x8192x8192 .f32) : FVec Ideal S2x4x2x8192 .f32 :=
  maximumf (broadcastInDim S2x4x2x8192 ![] bcast_S_S2x4x2x8192 (constant S_ .f32 0xFF800000#32))
    (Host.reduce FloatOps.maximumf s (constant S_ .f32 0xFF800000#32) reducesTo_S2x4x2x8192x8192_S2x4x2x8192_d4 h_S_)

/-- A value per row, in every column. -/
def spread (x : FVec Ideal S2x4x2x8192 .f32) : FVec Ideal S2x4x2x8192x8192 .f32 :=
  broadcastInDim S2x4x2x8192x8192 ![0, 1, 2, 3, 4] bcast_S2x4x2x8192x1_S2x4x2x8192x8192_0_1_2_3_4
    (broadcastInDim S2x4x2x8192x1 ![0, 1, 2, 3] bcast_S2x4x2x8192_S2x4x2x8192x1_0_1_2_3 x)

/-- The exponentials of the scores above a value per row. -/
def exps (s : FVec Ideal S2x4x2x8192x8192 .f32) (x : FVec Ideal S2x4x2x8192 .f32) : FVec Ideal S2x4x2x8192x8192 .f32 := Host.exp (subf s (spread x))

/-- The exponentials over their row sums. -/
def probs (e : FVec Ideal S2x4x2x8192x8192 .f32) : FVec Ideal S2x4x2x8192x8192 .f32 :=
  Host.divf e (spread (Host.reduceAdd e (constant S_ .f32 0x00000000#32) reducesTo_S2x4x2x8192x8192_S2x4x2x8192_d4 h_S_))

/-- The two maps' weights, the second subtracted with the mixing weight. -/
def weights (l : FVec Ideal S_ .f32) (p : FVec Ideal S2x4x2x8192x8192 .f32) : FVec Ideal S2x4x8192x8192 .f32 :=
  subf (shapeCast S2x4x8192x8192 (extractStridedSlice S2x4x1x8192x8192 ![0, 0, 0, 0, 0] p slices_S2x4x2x8192x8192_S2x4x1x8192x8192_0_0_0_0_0) shapeCasts_S2x4x1x8192x8192_S2x4x8192x8192)
    (mulf (broadcastInDim S2x4x8192x8192 ![] bcast_S_S2x4x8192x8192 l)
      (shapeCast S2x4x8192x8192 (extractStridedSlice S2x4x1x8192x8192 ![0, 0, 1, 0, 0] p slices_S2x4x2x8192x8192_S2x4x1x8192x8192_0_0_1_0_0) shapeCasts_S2x4x1x8192x8192_S2x4x8192x8192))

/-- The weighted values. -/
def outs (w : FVec Ideal S2x4x8192x8192 .f32) (v : FVec Ideal S2x4x8192x128 .f32) : FVec Ideal S2x4x8192x128 .f32 :=
  Host.dotGeneral dot_S2x4x8192x8192_S2x4x8192x128_S2x4x8192x128_3_2_2_3_01_01 none w v

/-- The normalized rows. -/
def norms (o : FVec Ideal S2x4x8192x128 .f32) (g : FVec Ideal S2x128 .f32) : FVec Ideal S2x4x8192x128 .f32 :=
  mulf (mulf (mulf o (broadcastInDim S2x4x8192x128 ![0, 1, 2, 3] bcast_S2x4x8192x1_S2x4x8192x128_0_1_2_3
        (Host.rsqrt (addf (Host.divf (broadcastInDim S2x4x8192x1 ![0, 1, 2] bcast_S2x4x8192_S2x4x8192x1_0_1_2
            (Host.reduceAdd (mulf o o) (constant S_ .f32 0x00000000#32) reducesTo_S2x4x8192x128_S2x4x8192_d3 h_S_))
          (broadcastInDim S2x4x8192x1 ![] bcast_S_S2x4x8192x1 (constant S_ .f32 0x43000000#32)))
          (broadcastInDim S2x4x8192x1 ![] bcast_S_S2x4x8192x1 (constant S_ .f32 0x3727C5AC#32))))))
      (broadcastInDim S2x4x8192x128 ![0, 1, 2, 3] bcast_S1x1x1x128_S2x4x8192x128_0_1_2_3 (broadcastInDim S1x1x1x128 ![3] bcast_S128_S1x1x1x128_3
        (shapeCast S128 (extractStridedSlice S1x128 ![1, 0] g slices_S2x128_S1x128_1_0) shapeCasts_S1x128_S128))))
    (broadcastInDim S2x4x8192x128 ![] bcast_S_S2x4x8192x128 (constant S_ .f32 0x3F24FD5C#32))

/-- The rows laid out as the result. -/
def lay (y : FVec Ideal S2x4x8192x128 .f32) : FVec Ideal S16384x512 .bf16 :=
  truncf .bf16 (shapeCast S16384x512 (transpose S2x8192x4x128 [0, 2, 1, 3] y transposes_S2x4x8192x128_S2x8192x4x128_0_2_1_3) shapeCasts_S2x8192x4x128_S16384x512) bitsLt_bf16_f32

/-- The reference's result as its stages compose. -/
def result (q k v : FVec Ideal S16384x512 .bf16) (a b e f : FVec Ideal S2x64 .f32) (g : FVec Ideal S2x128 .f32) : FVec Ideal S16384x512 .bf16 :=
  lay (norms (outs (weights (lam a b e f) (probs (exps (scores (heads q) (heads k)) (maxs (scores (heads q) (heads k)))))) (vals v)) g)

/-- The printed result is the composition of the stages. -/
theorem result_eq (m : (ℓ : Loc nD τ sig) → Buf (Elt Ideal) ℓ) (c : Dev nD) :
    Cert.Reference6Ideal.Value.res_main_v64 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- Queries or keys of batch `b`, head `h`, map `n`: row `s`, column `d`. -/
theorem heads_at (x : FVec Ideal S16384x512 .bf16) (b : Fin 2) (h : Fin 4) (n : Fin 2) (s : Fin 8192) (d : Fin 64) :
    heads x (ix5 b h n s d) = x (ix2 ⟨8192 * b.val + s.val, by omega⟩ ⟨128 * h.val + (64 * n.val + d.val), by omega⟩) := by
  pointwise [heads]
  exact congrArg x (congrArg₂ ix2 (Fin.ext (show b.val * 8192 + s.val = 8192 * b.val + s.val by omega))
    (Fin.ext (show h.val * 128 + n.val * 64 + d.val = 128 * h.val + (64 * n.val + d.val) by omega)))

/-- Values of batch `b`, head `h`. -/
theorem vals_at (x : FVec Ideal S16384x512 .bf16) (b : Fin 2) (h : Fin 4) (s : Fin 8192) (d : Fin 128) :
    vals x (ix4 b h s d) = x (ix2 ⟨8192 * b.val + s.val, by omega⟩ ⟨128 * h.val + d.val, by omega⟩) := by
  pointwise [vals]
  exact congrArg x (congrArg₂ ix2 (Fin.ext (show b.val * 8192 + s.val = 8192 * b.val + s.val by omega))
    (Fin.ext (show h.val * 128 + d.val = 128 * h.val + d.val by omega)))

/-- The mixing weight is the weight of the four vectors. -/
theorem lam_at (a b e f : FVec Ideal S2x64 .f32) :
    lam a b e f ix0 = _root_.Attn1.weight (fun x => a (ix2 1 x)) (fun x => b (ix2 1 x)) (fun x => e (ix2 1 x)) (fun x => f (ix2 1 x)) := by
  pointwise [lam, row]
  rfl

/-- A score is a dot product over the 64 columns of its map. -/
theorem scores_at (q k : FVec Ideal S2x4x2x8192x64 .f32) (b : Fin 2) (h : Fin 4) (n : Fin 2) (s c : Fin 8192) :
    scores q k (ix5 b h n s c) = ∑ d : Fin 64, q (ix5 b h n s d) * k (ix5 b h n c d) := by
  pointwise [scores]

/-- The row maxima of real scores are real. -/
theorem maxs_at (s : FVec Ideal S2x4x2x8192x8192 .f32) (hs : ∀ j, ∃ r : ℝ, s j = r) (j : S2x4x2x8192.Idx) : ∃ r : ℝ, maxs s j = r := by
  have h : S2x4x2x8192x8192.Reduces [4] S2x4x2x8192 := by decide
  obtain ⟨r, hr⟩ := _root_.Attn.fold_max_real (n := 8191) (s ∘ h.lift j) fun k => hs _
  refine ⟨r, ?_⟩
  unfold maxs
  rw [maximumf_apply, Host.reduce_eq_fold_single FloatOps.maximumf s _ _ h]
  refine Eq.trans (congrArg₂ max (?_ : _ = (⊥ : EReal)) ?_) (max_eq_right bot_le)
  · exact _root_.Attn.ofBits_neg_inf
  · refine Eq.trans ?_ hr
    exact congrArg (fun z => Finset.fold max z (s ∘ h.lift j) Finset.univ) _root_.Attn.ofBits_neg_inf

/-- The exponential of a score above its row's value. -/
theorem exps_at (s : FVec Ideal S2x4x2x8192x8192 .f32) (x : FVec Ideal S2x4x2x8192 .f32) (b : Fin 2) (h : Fin 4) (n : Fin 2) (i c : Fin 8192) :
    exps s x (ix5 b h n i c) = Ideal.exp (s (ix5 b h n i c) - x (ix4 b h n i)) := by
  pointwise [exps, spread]

/-- An exponential over the sum of its row. -/
theorem probs_at (e : FVec Ideal S2x4x2x8192x8192 .f32) (b : Fin 2) (h : Fin 4) (n : Fin 2) (i c : Fin 8192) :
    probs e (ix5 b h n i c) = Ideal.div (e (ix5 b h n i c)) (∑ x : Fin 8192, e (ix5 b h n i x)) := by
  pointwise [probs, spread]

/-- The combined weight of one key row. -/
theorem weights_at (l : FVec Ideal S_ .f32) (p : FVec Ideal S2x4x2x8192x8192 .f32) (b : Fin 2) (h : Fin 4) (i c : Fin 8192) :
    weights l p (ix4 b h i c) = p (ix5 b h 0 i c) - l ix0 * p (ix5 b h 1 i c) := by
  pointwise [weights]

/-- A weighted sum of the values. -/
theorem outs_at (w : FVec Ideal S2x4x8192x8192 .f32) (v : FVec Ideal S2x4x8192x128 .f32) (b : Fin 2) (h : Fin 4) (i : Fin 8192) (d : Fin 128) :
    outs w v (ix4 b h i d) = ∑ c : Fin 8192, w (ix4 b h i c) * v (ix4 b h c d) := by
  pointwise [outs]

/-- The normalized row at a column. -/
theorem norms_at (o : FVec Ideal S2x4x8192x128 .f32) (g : FVec Ideal S2x128 .f32) (b : Fin 2) (h : Fin 4) (i : Fin 8192) (d : Fin 128) :
    norms o g (ix4 b h i d) = _root_.Attn1.normed (fun x => o (ix4 b h i x)) (g (ix2 1 d)) d := by
  pointwise [norms]
  rfl

/-- Row `s` of batch `b`, column `d` of head `h` in the result. -/
theorem lay_at (y : FVec Ideal S2x4x8192x128 .f32) (b : Fin 2) (h : Fin 4) (s : Fin 8192) (d : Fin 128) :
    lay y (ix2 ⟨8192 * b.val + s.val, by omega⟩ ⟨128 * h.val + d.val, by omega⟩) = y (ix4 b h s d) := by
  pointwise [lay]
  trace_state

/-- The softmax-weighted difference of the two maps, as the reference sums it, is the difference of their means. -/
theorem outs_mixed (l : ℝ) (S : Fin 2 → Fin 8192 → ℝ) (V : Fin 8192 → ℝ) (M : Fin 2 → ℝ) :
    (∑ c : Fin 8192, (Ideal.div (Ideal.exp ((S 0 c : EReal) - M 0)) (∑ x : Fin 8192, Ideal.exp ((S 0 x : EReal) - M 0))
        - (l : EReal) * Ideal.div (Ideal.exp ((S 1 c : EReal) - M 1)) (∑ x : Fin 8192, Ideal.exp ((S 1 x : EReal) - M 1))) * (V c : EReal))
      = ((_root_.Attn.mean (S 0) V - l * _root_.Attn.mean (S 1) V : ℝ) : EReal) := by
  simp only [← EReal.coe_sub, Ideal.exp_coe, ← _root_.Attn.coe_sum]
  rw [← _root_.Attn.mean_shift (S 0) V (M 0), ← _root_.Attn.mean_shift (S 1) V (M 1)]
  simp only [_root_.Attn.div_coe_coe _ _ (_root_.Attn.sum_exp_ne (n := 8191) _), ← EReal.coe_mul, ← EReal.coe_sub]
  rw [← _root_.Attn.coe_sum]
  congr 1
  rw [Finset.sum_div, Finset.sum_div, Finset.mul_sum, ← Finset.sum_sub_distrib]
  exact Finset.sum_congr rfl fun c _ => by ring

/-- The reference's result at row `s` of batch `b`, column `d` of head `h`. -/
theorem result_at (q k v : FVec Ideal S16384x512 .bf16) (a e f g' : FVec Ideal S2x64 .f32) (g : FVec Ideal S2x128 .f32)
    (hq : ∀ j, ∃ r : ℝ, q j = r) (hk : ∀ j, ∃ r : ℝ, k j = r) (b : Fin 2) (h : Fin 4) (l : ℝ)
    (hl : _root_.Attn1.weight (fun x => a (ix2 1 x)) (fun x => e (ix2 1 x)) (fun x => f (ix2 1 x)) (fun x => g' (ix2 1 x)) = l)
    (Q K V : Fin 8192 → Fin 128 → ℝ)
    (hQ : ∀ s x, q (ix2 ⟨8192 * b.val + s.val, by omega⟩ ⟨128 * h.val + x.val, by omega⟩) = Q s x)
    (hK : ∀ s x, k (ix2 ⟨8192 * b.val + s.val, by omega⟩ ⟨128 * h.val + x.val, by omega⟩) = K s x)
    (hV : ∀ s x, v (ix2 ⟨8192 * b.val + s.val, by omega⟩ ⟨128 * h.val + x.val, by omega⟩) = V s x) (s : Fin 8192) (d : Fin 128) :
    result q k v a e f g' g (ix2 ⟨8192 * b.val + s.val, by omega⟩ ⟨128 * h.val + d.val, by omega⟩)
      = _root_.Attn1.normed (fun x => ((_root_.Attn.mixed l Q K V s x : ℝ) : EReal)) (g (ix2 1 d)) d := by
  unfold result
  rw [lay_at, norms_at]
  have hs : ∀ (n : Fin 2) (i c : Fin 8192), scores (heads q) (heads k) (ix5 b h n i c) = ((_root_.Attn.score Q K n i c : ℝ) : EReal) := fun n i c => by
    rw [scores_at]
    unfold _root_.Attn.score
    rw [← _root_.Attn.coe_sum_mul]
    refine Finset.sum_congr rfl fun x _ => ?_
    rw [heads_at, heads_at]
    exact congrArg₂ (· * ·) (hQ i ⟨64 * n.val + x.val, by omega⟩) (hK c ⟨64 * n.val + x.val, by omega⟩)
  have hr : ∀ j, ∃ r : ℝ, scores (heads q) (heads k) j = r := fun j => by
    idx_vars j
    rw [scores_at]
    choose A hA using fun x => hq x
    choose B hB using fun x => hk x
    simp only [heads_at, hA, hB, _root_.Attn.coe_sum_mul]
    exact ⟨_, rfl⟩
  choose M hM using fun n : Fin 2 => maxs_at _ hr (ix4 b h n s)
  refine congrArg (fun o => _root_.Attn1.normed o (g (ix2 1 d)) d) (funext fun x => ?_)
  rw [outs_at]
  simp only [weights_at, probs_at, exps_at, hs, hM, vals_at, hV, lam_at, hl]
  exact outs_mixed l (fun n => _root_.Attn.score Q K n s) (fun c => V c x) M

end Cert.Reference6Ideal.Stages

end
-- ==== Proof.Attn1.Output.lean ====
module

public import proofs.«01_k».proof.Defs
public import proofs.«01_k».proof.Proof.Gen.Pre_finite6
public import proofs.«01_k».proof.Proof.Attn1.Run
public import proofs.«01_k».proof.Proof.Attn1.Online
public import proofs.«01_k».proof.Proof.Ref1.Stages
public import Idealize.ShloMosaic.Lib.Pipeline.ValueKit

@[expose] public section

set_option maxRecDepth 16384

noncomputable section

namespace Cert.Kernel6Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

/-! # The kernel's result array

Each grid point's block of the result is the reference's result there, so the array after the run is the
reference's result of the kernel's arguments. -/

/-- A float whose magnitude is below infinity is a real. -/
theorem real_of_lt_top {x y : EReal} (hy : y = ⊤) (h : Ideal.cmp .olt (max x (-x)) y = 1#1) : ∃ r : ℝ, x = r := by
  subst hy
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  rw [max_lt_iff] at h'
  refine ⟨x.toReal, (EReal.coe_toReal (ne_of_lt h'.1) fun e => ?_).symm⟩
  rw [e] at h'
  exact absurd h'.2 (by simp)

/-- The blocks of a point: its coordinates are the batch and the head. -/
theorem idx (t : Fin cfg0.N) :
    win0_0.index t = ![(grid0.coords t 0).val, (grid0.coords t 1).val] ∧ win0_1.index t = ![(grid0.coords t 0).val, (grid0.coords t 1).val]
      ∧ win0_2.index t = ![(grid0.coords t 0).val, (grid0.coords t 1).val] ∧ win0_8.index t = ![(grid0.coords t 0).val, (grid0.coords t 1).val] := by
  revert t; decide +kernel

variable (m : (ℓ : Loc nD τ sig) → Buf (Elt Ideal) ℓ)

/-- A point's batch is below 2, so its rows are rows of the arrays. -/
theorem row_lt (t : Fin cfg0.N) (s : Fin 8192) : 8192 * (grid0.coords t 0).val + s.val < 16384 := by
  have : (grid0.coords t 0).val < 2 := (grid0.coords t 0).isLt
  omega

/-- A point's head is below 4, so its columns are columns of the arrays. -/
theorem col_lt (t : Fin cfg0.N) (x : Fin 128) : 128 * (grid0.coords t 1).val + x.val < 512 := by
  have : (grid0.coords t 1).val < 4 := (grid0.coords t 1).isLt
  omega

/-- The parameter blocks are the second of their stacks at every point. -/
theorem idxP (t : Fin cfg0.N) : win0_3.index t = ![1, 0, 0] ∧ win0_4.index t = ![1, 0, 0] ∧ win0_5.index t = ![1, 0, 0]
      ∧ win0_6.index t = ![1, 0, 0] ∧ win0_7.index t = ![1, 0, 0] := by
  revert t; decide +kernel

/-- The query block of a point, read from the query array. -/
theorem blk_0 (c : Dev nD) (t : Fin cfg0.N) (s : Fin 8192) (x : Fin 128) :
    iblk m c 0 t (ix2 s x) = m ((c.tc : Thread nD τ).loc main_arg0) (ix2 ⟨8192 * (grid0.coords t 0).val + s.val, row_lt t s⟩ ⟨128 * (grid0.coords t 1).val + x.val, col_lt t x⟩) := by
  blk_ext [iblk, V, idx t]

/-- The key block of a point, read from the key array. -/
theorem blk_1 (c : Dev nD) (t : Fin cfg0.N) (s : Fin 8192) (x : Fin 128) :
    iblk m c 1 t (ix2 s x) = m ((c.tc : Thread nD τ).loc main_arg1) (ix2 ⟨8192 * (grid0.coords t 0).val + s.val, row_lt t s⟩ ⟨128 * (grid0.coords t 1).val + x.val, col_lt t x⟩) := by
  blk_ext [iblk, V, idx t]

/-- The value block of a point, read from the value array. -/
theorem blk_2 (c : Dev nD) (t : Fin cfg0.N) (s : Fin 8192) (x : Fin 128) :
    iblk m c 2 t (ix2 s x) = m ((c.tc : Thread nD τ).loc main_arg2) (ix2 ⟨8192 * (grid0.coords t 0).val + s.val, row_lt t s⟩ ⟨128 * (grid0.coords t 1).val + x.val, col_lt t x⟩) := by
  blk_ext [iblk, V, idx t]

/-- Parameter block 3 of a point is the second row of its argument. -/
theorem blk_3 (c : Dev nD) (t : Fin cfg0.N) (x : Fin 64) :
    iblk m c 3 t (ix3 0 0 x) = m ((c.tc : Thread nD τ).loc main_arg3) (ix2 1 x) := by
  unfold iblk
  show StableHlo.after hostOps0 (fun b => m (c, b)) (Proc.tc.devRef main_v0) ((win0_3.blk t).view.emb (ix3 0 0 x)) = _
  have e : (win0_3.blk t).view.emb (ix3 0 0 x) = (ix3 1 0 x : S2x1x64.Idx) := by blk_ext [idxP t]
  rw [e]
  entry_read
  pointwise

/-- Parameter block 4 of a point is the second row of its argument. -/
theorem blk_4 (c : Dev nD) (t : Fin cfg0.N) (x : Fin 64) :
    iblk m c 4 t (ix3 0 0 x) = m ((c.tc : Thread nD τ).loc main_arg4) (ix2 1 x) := by
  unfold iblk
  show StableHlo.after hostOps0 (fun b => m (c, b)) (Proc.tc.devRef main_v1) ((win0_4.blk t).view.emb (ix3 0 0 x)) = _
  have e : (win0_4.blk t).view.emb (ix3 0 0 x) = (ix3 1 0 x : S2x1x64.Idx) := by blk_ext [idxP t]
  rw [e]
  entry_read
  pointwise

/-- Parameter block 5 of a point is the second row of its argument. -/
theorem blk_5 (c : Dev nD) (t : Fin cfg0.N) (x : Fin 64) :
    iblk m c 5 t (ix3 0 0 x) = m ((c.tc : Thread nD τ).loc main_arg5) (ix2 1 x) := by
  unfold iblk
  show StableHlo.after hostOps0 (fun b => m (c, b)) (Proc.tc.devRef main_v2) ((win0_5.blk t).view.emb (ix3 0 0 x)) = _
  have e : (win0_5.blk t).view.emb (ix3 0 0 x) = (ix3 1 0 x : S2x1x64.Idx) := by blk_ext [idxP t]
  rw [e]
  entry_read
  pointwise

/-- Parameter block 6 of a point is the second row of its argument. -/
theorem blk_6 (c : Dev nD) (t : Fin cfg0.N) (x : Fin 64) :
    iblk m c 6 t (ix3 0 0 x) = m ((c.tc : Thread nD τ).loc main_arg6) (ix2 1 x) := by
  unfold iblk
  show StableHlo.after hostOps0 (fun b => m (c, b)) (Proc.tc.devRef main_v3) ((win0_6.blk t).view.emb (ix3 0 0 x)) = _
  have e : (win0_6.blk t).view.emb (ix3 0 0 x) = (ix3 1 0 x : S2x1x64.Idx) := by blk_ext [idxP t]
  rw [e]
  entry_read
  pointwise

/-- Parameter block 7 of a point is the second row of its argument. -/
theorem blk_7 (c : Dev nD) (t : Fin cfg0.N) (x : Fin 128) :
    iblk m c 7 t (ix3 0 0 x) = m ((c.tc : Thread nD τ).loc main_arg7) (ix2 1 x) := by
  unfold iblk
  show StableHlo.after hostOps0 (fun b => m (c, b)) (Proc.tc.devRef main_v4) ((win0_7.blk t).view.emb (ix3 0 0 x)) = _
  have e : (win0_7.blk t).view.emb (ix3 0 0 x) = (ix3 1 0 x : S2x1x128.Idx) := by blk_ext [idxP t]
  rw [e]
  entry_read
  pointwise

/-- The reference's result of the kernel's arguments. -/
def want (c : Dev nD) : Vec Ideal S16384x512 .bf16 :=
  Cert.Reference6Ideal.Stages.result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- What the precondition gives: the queries, keys and values, and the taken rows of the four weight vectors, are reals. -/
structure Reals (c : Dev nD) : Prop where
  q : ∀ j, ∃ r : ℝ, m ((c.tc : Thread nD τ).loc main_arg0) j = (r : EReal)
  k : ∀ j, ∃ r : ℝ, m ((c.tc : Thread nD τ).loc main_arg1) j = (r : EReal)
  v : ∀ j, ∃ r : ℝ, m ((c.tc : Thread nD τ).loc main_arg2) j = (r : EReal)
  l1 : ∀ x : Fin 64, ∃ r : ℝ, m ((c.tc : Thread nD τ).loc main_arg3) (ix2 1 x) = (r : EReal)
  l2 : ∀ x : Fin 64, ∃ r : ℝ, m ((c.tc : Thread nD τ).loc main_arg4) (ix2 1 x) = (r : EReal)
  l3 : ∀ x : Fin 64, ∃ r : ℝ, m ((c.tc : Thread nD τ).loc main_arg5) (ix2 1 x) = (r : EReal)
  l4 : ∀ x : Fin 64, ∃ r : ℝ, m ((c.tc : Thread nD τ).loc main_arg6) (ix2 1 x) = (r : EReal)

/-- The precondition, read at its elements. -/
theorem real_of_pre [Cert.Pre_finite6.Facts] (h : Cert.Pre_Kernel6Ideal_finite6 m) (c : Dev nD) : Reals m c := by
  obtain ⟨h0, h1, h2, h3, h4, h5, h6⟩ := h c
  refine ⟨fun j => ?_, fun j => ?_, fun j => ?_, fun x => ?_, fun x => ?_, fun x => ?_, fun x => ?_⟩
  · exact real_of_lt_top _root_.Attn.ofBits_inf_bf16 (congrFun h0 j)
  · exact real_of_lt_top _root_.Attn.ofBits_inf_bf16 (congrFun h1 j)
  · exact real_of_lt_top _root_.Attn.ofBits_inf_bf16 (congrFun h2 j)
  · have e := congrFun h3 (ix1 x)
    pointwise [Cert.Pre_finite6.fn, Cert.Pre_finite6.fn_part1] at e
    exact real_of_lt_top _root_.Attn.ofBits_inf e
  · have e := congrFun h4 (ix1 x)
    pointwise [Cert.Pre_finite6.fn, Cert.Pre_finite6.fn_part1] at e
    exact real_of_lt_top _root_.Attn.ofBits_inf e
  · have e := congrFun h5 (ix1 x)
    pointwise [Cert.Pre_finite6.fn, Cert.Pre_finite6.fn_part1] at e
    exact real_of_lt_top _root_.Attn.ofBits_inf e
  · have e := congrFun h6 (ix1 x)
    pointwise [Cert.Pre_finite6.fn, Cert.Pre_finite6.fn_part1] at e
    exact real_of_lt_top _root_.Attn.ofBits_inf e

/-- A point's block of the result, at row `s` and column `x`, is the reference's result there. -/
theorem out_at (c : Dev nD) (h : Reals m c) (t : Fin cfg0.N) (s : Fin 8192) (x : Fin 128) :
    out m c t (ix2 s x) = want m c (ix2 ⟨8192 * (grid0.coords t 0).val + s.val, row_lt t s⟩ ⟨128 * (grid0.coords t 1).val + x.val, col_lt t x⟩) := by
  have hb : (grid0.coords t 0).val < 2 := (grid0.coords t 0).isLt
  have hh : (grid0.coords t 1).val < 4 := (grid0.coords t 1).isLt
  obtain ⟨l, hl⟩ := _root_.Attn1.weight_real _ _ _ _ h.l1 h.l2 h.l3 h.l4
  choose Q hQ using h.q
  choose K hK using h.k
  choose V' hV using h.v
  have e := Cert.Reference6Ideal.Stages.result_at (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    h.q h.k ⟨(grid0.coords t 0).val, hb⟩ ⟨(grid0.coords t 1).val, hh⟩ l hl _ _ _ (fun s x => hQ _) (fun s x => hK _) (fun s x => hV _) s x
  refine Eq.trans ?_ e.symm
  refine (outArr_at (k0_pay103 (iblk m c 3 t) (iblk m c 4 t) (iblk m c 5 t) (iblk m c 6 t)) (iblk m c 7 t) (iblk m c 0 t) (iblk m c 1 t)
    (iblk m c 2 t) l _ _ _ ?_ (fun s x => (blk_0 m c t s x).trans (hQ _)) (fun s x => (blk_1 m c t s x).trans (hK _))
    (fun s x => (blk_2 m c t s x).trans (hV _)) s x).trans ?_
  · refine (weight_at (iblk m c 3 t) (iblk m c 4 t) (iblk m c 5 t) (iblk m c 6 t) 0 0).trans (Eq.trans ?_ hl)
    rw [funext (blk_3 m c t), funext (blk_4 m c t), funext (blk_5 m c t), funext (blk_6 m c t)]
  · rw [blk_7]

/-- After the run the result array is the reference's result. -/
theorem array (c : Dev nD) (h : Reals m c) : (dats m 0 c).arrAt 8 cfg0.N = want m c := by
  refine (dats m 0 c).arrAt_eq_of_covers 8 _ (by decide +kernel) fun t hf y => ?_
  blk_simp
  rw [after_8]
  change S8192x128.Idx at y
  idx_vars y
  rw [out_at m c h t y0 y1]
  blk_ext [idx t]

end Cert.Kernel6Ideal.Attn

end
-- ==== Proof.Attn1.Claims.lean ====
/- The claims about the second layer's attention call. -/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Pre_finite6
public import proofs.«01_k».proof.Proof.Attn1.Run
public import proofs.«01_k».proof.Proof.Attn1.Output
public import Idealize.ShloMosaic.Lib.Claim
public import Idealize.ShloMosaic.Adequacy
public import Idealize.ShloMosaic.Init

@[expose] public section

noncomputable section

namespace Cert.Proof.Attn1

open Idealize.ShloMosaic Idealize.SL.Sem

/-- The printed kernel's body table is the idealized kernel's: no operation was rewritten. -/
theorem bodies_eq : Kernel6.defs₀ (F := Bits) = Kernel6Ideal.defs₀ (F := Bits) := by
  unfold Kernel6.defs₀ Kernel6Ideal.defs₀
  refine congrArg _ (funext fun l => funext fun x => ?_)
  match l, x with
  | 0, (t, s) => rfl
  | ⟨_ + 1, h⟩, _ => exact absurd h (Nat.not_lt.2 (Nat.le_add_left _ _))

/-- The printed kernel's table of all bodies is the idealized kernel's. -/
theorem defs_eq : Kernel6.defs (F := Bits) = Kernel6Ideal.defs (F := Bits) :=
  congrArg (Pipeline.defs (Kernel6.pcfgs (F := Bits))) bodies_eq

/-- The printed kernel's frame, from the run over any floats. -/
theorem frame_kernel : Cert.quiescent_Kernel6 := by
  intro m ρ _
  rw [defs_eq]
  exact Cert.Kernel6Ideal.Attn.frame_any (F := Bits) m ρ

/-- The idealized kernel's frame. -/
theorem frame_kernelIdeal : Cert.quiescent_Kernel6Ideal := fun m ρ _ => Cert.Kernel6Ideal.Attn.frame_any (F := Ideal) m ρ

/-- The reference's frame, from its generated run. -/
theorem frame_referenceIdeal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- At the reals the second layer's attention call computes the reference's result. -/
theorem algebraic : Cert.algebraic_Kernel6Ideal_Reference6Ideal_pre_finite6 := by
  intro m g m' g' hpre hagree
  refine ⟨Cert.Kernel6Ideal.Attn.want m, ?_, ?_⟩
  · run_from (Cert.Kernel6Ideal.Attn.run m g)
    exact Cert.Kernel6Ideal.Attn.array m c (Cert.Kernel6Ideal.Attn.real_of_pre m hpre c)
  · refine (θ_run _ _ _).mono (fun _ h c => ⟨(h c).1.trans ?_, (h c).2⟩) (Cert.Reference6Ideal.Value.run m' g')
    rw [Cert.Reference6Ideal.Stages.result_eq]
    obtain ⟨h0, h1, h2, h3, h4, h5, h6, h7⟩ := hagree c
    rw [h0, h1, h2, h3, h4, h5, h6, h7]
    rfl

end Cert.Proof.Attn1

end
-- ==== Proof.Merge.Body.lean ====
module

public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.Kernel7Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

/-! # The merge and memory attention body as a function of its blocks -/

/-- The block's number within its sequence, as the body computes it. -/
def rem16 (i : grid0.Coords) : BitVec 32 :=
  Scalar.select (Scalar.andi (Scalar.xori (Scalar.cmpi .slt (Scalar.remsi (BitVec.ofNat 32 (i 0).val) 16#32) 0#32) 0#1) (Scalar.cmpi .ne (Scalar.remsi (BitVec.ofNat 32 (i 0).val) 16#32) 0#32))
    (Scalar.addi (Scalar.remsi (BitVec.ofNat 32 (i 0).val) 16#32) 16#32) (Scalar.remsi (BitVec.ofNat 32 (i 0).val) 16#32)

/-- Whether a block has a block of its own sequence before it, as the body computes it. -/
def prevBit (i : grid0.Coords) : BitVec 1 := Scalar.cmpi .ne (rem16 i) 0#32
/-- Whether a block has a block of its own sequence after it. -/
def nextBit (i : grid0.Coords) : BitVec 1 := Scalar.cmpi .ne (rem16 i) 15#32

/-- A row beside the block, or zeros where the sequence ends. -/
def beside (b : BitVec 1) (x : Vec F S1x512 .bf16) : FVec F S1x512 .f32 :=
  Scalar.select b (extf .f32 x bitsLt_bf16_f32) (broadcast S1x512 (Scalar.ofBits .f32 0x00000000#32))

/-- The rows moved down one, the row before the block on top. -/
def above (u : FVec F S512x512 .f32) (x : FVec F S1x512 .f32) : FVec F S512x512 .f32 :=
  select (cmpi .eq (iota .tc S512x512 32 [0] iota_S512x512_d0_w32) (broadcast S512x512 0#32))
    (broadcastTo S512x512 (shapeCast S1x512 x shapeCasts_S1x512_S1x512) broadcasts_S1x512_S512x512)
    (dynamicRotate 0 1#32 none u rotates_S512x512_d0)

/-- The rows moved up one, the row after the block at the bottom. -/
def below (u : FVec F S512x512 .f32) (x : FVec F S1x512 .f32) : FVec F S512x512 .f32 :=
  select (cmpi .eq (iota .tc S512x512 32 [0] iota_S512x512_d0_w32) (broadcast S512x512 511#32))
    (broadcastTo S512x512 (shapeCast S1x512 x shapeCasts_S1x512_S1x512) broadcasts_S1x512_S512x512)
    (dynamicRotate 0 511#32 none u rotates_S512x512_d0)

/-- A row of the convolution's weights, under every row of the block. -/
def tap0 (cw : Vec F S1x3x512 .f32) : FVec F S512x512 .f32 :=
  broadcastTo S512x512 (extractStridedSlice S1x512 ![0, 0] (shapeCast S3x512 cw shapeCasts_S1x3x512_S3x512) slices_S3x512_o0_0_S1x512) broadcasts_S1x512_S512x512
@[inherit_doc tap0]
def tap1 (cw : Vec F S1x3x512 .f32) : FVec F S512x512 .f32 :=
  broadcastTo S512x512 (extractStridedSlice S1x512 ![1, 0] (shapeCast S3x512 cw shapeCasts_S1x3x512_S3x512) slices_S3x512_o1_0_S1x512) broadcasts_S1x512_S512x512
@[inherit_doc tap0]
def tap2 (cw : Vec F S1x3x512 .f32) : FVec F S512x512 .f32 :=
  broadcastTo S512x512 (extractStridedSlice S1x512 ![2, 0] (shapeCast S3x512 cw shapeCasts_S1x3x512_S3x512) slices_S3x512_o2_0_S1x512) broadcasts_S1x512_S512x512

/-- The third branch's rows: their gates times the convolution of their inputs. -/
def third (u : FVec F S512x512 .f32) (lo hi : FVec F S1x512 .f32) (cw : Vec F S1x3x512 .f32) (gb : Vec F S512x512 .bf16) : FVec F S512x512 .bf16 :=
  truncf .bf16 (mulf (extf .f32 gb bitsLt_bf16_f32) (addf (addf (mulf (above u lo) (tap0 cw)) (mulf u (tap1 cw))) (mulf (below u hi) (tap2 cw)))) bitsLt_bf16_f32

/-- A branch of a half block through its weights. -/
def branch (y : FVec F S256x512 .bf16) (w : Vec F S1x1x512x1024 .bf16) : FVec F S256x1024 .f32 :=
  matmul dot_S256x512_S512x1024_S256x1024_1_0_0_1_n_n none y (shapeCast S512x1024 w shapeCasts_S1x1x512x1024_S512x1024) (constant S256x1024 .f32 0x00000000#32)

/-- The three branches of a half block, weighted by their gates. -/
def merged (g : Vec F S256x3072 .bf16) (ya yb yt : FVec F S256x512 .bf16) (w0 w1 w2 : Vec F S1x1x512x1024 .bf16) : FVec F S256x1024 .f32 :=
  addf (addf (mulf (extractStridedSlice S256x1024 ![0, 0] (extf .f32 g bitsLt_bf16_f32) slices_S256x3072_o0_0_S256x1024) (branch ya w0))
      (mulf (extractStridedSlice S256x1024 ![0, 1024] (extf .f32 g bitsLt_bf16_f32) slices_S256x3072_o0_1024_S256x1024) (branch yb w1)))
    (mulf (extractStridedSlice S256x1024 ![0, 2048] (extf .f32 g bitsLt_bf16_f32) slices_S256x3072_o0_2048_S256x1024) (branch yt w2))

/-- Half a block through a square of weights. -/
def through (h : FVec F S256x1024 .f32) (w : Vec F S1x1024x1024 .bf16) : FVec F S256x1024 .f32 :=
  matmul dot_S256x1024_S1024x1024_S256x1024_1_0_0_1_n_n none (truncf .bf16 h bitsLt_bf16_f32) (shapeCast S1024x1024 w shapeCasts_S1x1024x1024_S1024x1024) (constant S256x1024 .f32 0x00000000#32)

/-- Half a block scaled by the residual's weight, plus what is added to it. -/
def plus (x y : FVec F S256x1024 .f32) : FVec F S256x1024 .f32 := addf (mulf (broadcast S256x1024 (Scalar.ofBits .f32 0x3FB504F3#32)) x) y

/-- Each row less its mean. -/
def centred (z : FVec F S256x1024 .f32) : FVec F S256x1024 .f32 :=
  subf z (broadcastTo S256x1024 (divf (shapeCast S256x1 (multiReduction .add [1] S256 z 0x00000000#32 reduces_S256x1024_S256 (.inl rfl) rfl) shapeCasts_S256_S256x1) (broadcast S256x1 (Scalar.ofBits .f32 0x44800000#32))) broadcasts_S256x1_S256x1024)

/-- The normalization of the rows of a half block. -/
def normed (z : FVec F S256x1024 .f32) (g b : FVec F S1x1024 .f32) : FVec F S256x1024 .f32 :=
  addf (mulf (mulf (centred z) (broadcastTo S256x1024 (rsqrt (addf (divf (shapeCast S256x1 (multiReduction .add [1] S256 (mulf (centred z) (centred z)) 0x00000000#32 reduces_S256x1024_S256 (.inl rfl) rfl) shapeCasts_S256_S256x1) (broadcast S256x1 (Scalar.ofBits .f32 0x44800000#32))) (broadcast S256x1 (Scalar.ofBits .f32 0x3727C5AC#32)))) broadcasts_S256x1_S256x1024))
      (broadcastTo S256x1024 g broadcasts_S1x1024_S256x1024))
    (broadcastTo S256x1024 b broadcasts_S1x1024_S256x1024)

/-- The parameters of the first and of the second normalization. -/
def row0 (g : Vec F S1x3x1024 .f32) : FVec F S1x1024 .f32 := extractStridedSlice S1x1024 ![0, 0] (shapeCast S3x1024 g shapeCasts_S1x3x1024_S3x1024) slices_S3x1024_o0_0_S1x1024
@[inherit_doc row0]
def row1 (g : Vec F S1x3x1024 .f32) : FVec F S1x1024 .f32 := extractStridedSlice S1x1024 ![1, 0] (shapeCast S3x1024 g shapeCasts_S1x3x1024_S3x1024) slices_S3x1024_o1_0_S1x1024

/-- The queries of a half block's rows. -/
def query (x : FVec F S256x1024 .f32) (w : Vec F S1x1024x1024 .bf16) : FVec F S256x1024 .f32 := mulf (through x w) (broadcast S256x1024 (Scalar.ofBits .f32 0x3D800000#32))

/-- The scores of a head. -/
def scores (q : FVec F S256x256 .f32) (k : FVec F S256x256 .bf16) : FVec F S256x256 .f32 :=
  matmul dot_S256x256_S256x256_S256x256_1_1_0_0_n_n none (truncf .bf16 q bitsLt_bf16_f32) k (constant S256x256 .f32 0x00000000#32)

/-- The exponentials of the scores above the largest of their row. -/
def expo (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- A head: the values weighted by the exponentials, over the sum of these. -/
def head (q : FVec F S256x256 .f32) (k v : FVec F S256x256 .bf16) : FVec F S256x256 .f32 :=
  divf (matmul dot_S256x256_S256x256_S256x256_1_0_0_1_n_n none (truncf .bf16 (expo (scores q k)) bitsLt_bf16_f32) v (constant S256x256 .f32 0x00000000#32))
    (broadcastTo S256x256 (shapeCast S256x1 (multiReduction .add [1] S256 (expo (scores q k)) 0x00000000#32 reduces_S256x256_S256 (.inl rfl) rfl) shapeCasts_S256_S256x1) broadcasts_S256x1_S256x256)

/-- The four heads of a half block, side by side. -/
def att (q : FVec F S256x1024 .f32) (k v : Vec F S256x1024 .bf16) : FVec F S256x1024 .f32 :=
  concatenate S256x1024 1
    [⟨S256x256, head (extractStridedSlice S256x256 ![0, 0] q slices_S256x1024_o0_0_S256x256) (extractStridedSlice S256x256 ![0, 0] k slices_S256x1024_o0_0_S256x256) (extractStridedSlice S256x256 ![0, 0] v slices_S256x1024_o0_0_S256x256)⟩,
      ⟨S256x256, head (extractStridedSlice S256x256 ![0, 256] q slices_S256x1024_o0_256_S256x256) (extractStridedSlice S256x256 ![0, 256] k slices_S256x1024_o0_256_S256x256) (extractStridedSlice S256x256 ![0, 256] v slices_S256x1024_o0_256_S256x256)⟩,
      ⟨S256x256, head (extractStridedSlice S256x256 ![0, 512] q slices_S256x1024_o0_512_S256x256) (extractStridedSlice S256x256 ![0, 512] k slices_S256x1024_o0_512_S256x256) (extractStridedSlice S256x256 ![0, 512] v slices_S256x1024_o0_512_S256x256)⟩,
      ⟨S256x256, head (extractStridedSlice S256x256 ![0, 768] q slices_S256x1024_o0_768_S256x256) (extractStridedSlice S256x256 ![0, 768] k slices_S256x1024_o0_768_S256x256) (extractStridedSlice S256x256 ![0, 768] v slices_S256x1024_o0_768_S256x256)⟩]
    concatenates_S256x256_S256x256_S256x256_S256x256_S256x1024_d1

/-- A half block's rows after the merge, from the sum that is normalized, and what the body makes of them. -/
def finish (x1 : FVec F S256x1024 .f32) (k v : Vec F S256x1024 .bf16) (wq wo : Vec F S1x1024x1024 .bf16) (g b : Vec F S1x3x1024 .f32) : FVec F S256x1024 .f32 :=
  normed (plus x1 (through (att (query x1 wq) k v) wo)) (row1 g) (row1 b)

/-! ## The body's steps are these functions -/

section steps

variable (z x h q : FVec F S256x1024 .f32) (g b : Vec F S1x3x1024 .f32) (k v : Vec F S256x1024 .bf16) (w : Vec F S1x1024x1024 .bf16)

theorem step_third (i : grid0.Coords) (u : Vec F S512x512 .bf16) (lo hi : Vec F S1x512 .bf16) (cw : Vec F S1x3x512 .f32) (gb : Vec F S512x512 .bf16) :
    k0_pay6 (k0_pay2 u) (k0_pay3 i lo) (k0_pay4 i hi) (iota .tc S512x512 32 [0] iota_S512x512_d0_w32) k0_pay5 1#32 cw gb
      = third (extf .f32 u bitsLt_bf16_f32) (beside (prevBit i) lo) (beside (nextBit i) hi) cw gb := rfl

theorem step_lo (y : FVec F S512x512 .bf16) (gs : Vec F S256x3072 .bf16) (ya yb : Vec F S256x512 .bf16) (w0 w1 w2 : Vec F S1x1x512x1024 .bf16) :
    k0_pay11 y (k0_pay9 gs) (k0_pay10 gs) ya w0 yb w1 w2 x w
      = plus x (through (merged gs ya yb (extractStridedSlice S256x512 ![0, 0] y slices_S512x512_o0_0_S256x512) w0 w1 w2) w) := rfl

theorem step_hi (y : FVec F S512x512 .bf16) (gs : Vec F S256x3072 .bf16) (ya yb : Vec F S256x512 .bf16) (w0 w1 w2 : Vec F S1x1x512x1024 .bf16) :
    k0_pay14 y (k0_pay12 gs) (k0_pay13 gs) ya w0 yb w1 w2 x w
      = plus x (through (merged gs ya yb (extractStridedSlice S256x512 ![256, 0] y slices_S512x512_o256_0_S256x512) w0 w1 w2) w) := rfl

theorem step_norm : k0_pay19 (k0_pay15 (k0_pay7 g)) (k0_pay16 (k0_pay8 b)) (k0_pay17 z) (k0_pay18 z) = normed z (row0 g) (row0 b) := rfl

theorem step_norm' : k0_pay20 (k0_pay7 g) (k0_pay8 b) z = normed z (row0 g) (row0 b) := rfl

theorem step_query : k0_pay21 (k0_pay15 (k0_pay7 g)) (k0_pay16 (k0_pay8 b)) (k0_pay17 z) (k0_pay18 z) w = query (normed z (row0 g) (row0 b)) w := rfl

theorem step_query' : k0_pay23 (k0_pay22 (k0_pay7 g) (k0_pay8 b) z w) (Scalar.ofBits .f32 0x3D800000#32) = query (normed z (row0 g) (row0 b)) w := rfl

theorem step_att : k0_pay35 (k0_pay29 k v q (k0_pay24 k v q) (k0_pay25 k v q) (k0_pay27 k q) (k0_pay28 k v q)) w = through (att q k v) w := rfl

theorem step_att' : k0_pay36 k v q (k0_pay30 k v q) (k0_pay32 k q) (k0_pay33 v) (k0_pay34 k q) (constant S256x256 .f32 0x00000000#32) w = through (att q k v) w := rfl

theorem step_out : k0_pay37 (k0_pay7 g) (k0_pay8 b) x h = normed (plus x h) (row1 g) (row1 b) := rfl

theorem step_out' : k0_pay1 (k0_pay38 (k0_pay7 g)) (k0_pay39 (k0_pay8 b)) (k0_pay40 x h) (k0_pay41 x h) = normed (plus x h) (row1 g) (row1 b) := rfl

end steps

/-- The blocks the body reads at a grid point, in the order of its windows. -/
structure Blocks (F : FTy → Type) where
  x0 : Vec F S512x1024 .f32
  x1 : Vec F S512x512 .bf16
  x2 : Vec F S512x512 .bf16
  x3 : Vec F S512x512 .bf16
  x4 : Vec F S512x512 .bf16
  x5 : Vec F S16x512 .bf16
  x6 : Vec F S16x512 .bf16
  x7 : Vec F S512x3072 .bf16
  x8 : Vec F S1x3x512 .f32
  x9 : Vec F S1x3x512x1024 .bf16
  x10 : Vec F S1x1024x1024 .bf16
  x11 : Vec F S256x1024 .bf16
  x12 : Vec F S256x1024 .bf16
  x13 : Vec F S1x1024x1024 .bf16
  x14 : Vec F S1x1024x1024 .bf16
  x15 : Vec F S1x3x1024 .f32
  x16 : Vec F S1x3x1024 .f32

variable (i : grid0.Coords) (B : Blocks F)

/-- The third branch of a grid point's rows. -/
def thirdAt : FVec F S512x512 .bf16 :=
  third (extf .f32 (View.ld B.x4 r0_0 : Vec F S512x512 .bf16) bitsLt_bf16_f32) (beside (prevBit i) (View.ld B.x5 r0_1)) (beside (nextBit i) (View.ld B.x6 r0_2))
    (View.ld B.x8 r0_3) (View.ld B.x3 r0_0)

/-- The lower and the upper half of a grid point's rows, merged and normalized. -/
def lower : FVec F S256x1024 .f32 :=
  normed (plus (View.ld B.x0 r0_11) (through (merged (View.ld B.x7 r0_6) (View.ld B.x1 r0_7) (View.ld B.x2 r0_7)
      (extractStridedSlice S256x512 ![0, 0] (thirdAt i B) slices_S512x512_o0_0_S256x512) (View.ld B.x9 r0_8) (View.ld B.x9 r0_9) (View.ld B.x9 r0_10)) (View.ld B.x10 r0_12)))
    (row0 (View.ld B.x15 r0_4)) (row0 (View.ld B.x16 r0_4))
@[inherit_doc lower]
def upper : FVec F S256x1024 .f32 :=
  normed (plus (View.ld B.x0 r0_15) (through (merged (View.ld B.x7 r0_13) (View.ld B.x1 r0_14) (View.ld B.x2 r0_14)
      (extractStridedSlice S256x512 ![256, 0] (thirdAt i B) slices_S512x512_o256_0_S256x512) (View.ld B.x9 r0_8) (View.ld B.x9 r0_9) (View.ld B.x9 r0_10)) (View.ld B.x10 r0_12)))
    (row0 (View.ld B.x15 r0_4)) (row0 (View.ld B.x16 r0_4))

/-- What the body makes of rows after the merge, at a grid point. -/
def finishAt (x1 : FVec F S256x1024 .f32) : FVec F S256x1024 .f32 :=
  finish x1 (View.ld B.x11 r0_5) (View.ld B.x12 r0_5) (View.ld B.x13 r0_12) (View.ld B.x14 r0_12) (View.ld B.x15 r0_4) (View.ld B.x16 r0_4)

/-- What the body leaves at a grid point: its two halves. -/
theorem out_eq : out0_17 i B.x0 B.x1 B.x2 B.x3 B.x4 B.x5 B.x6 B.x7 B.x8 B.x9 B.x10 B.x11 B.x12 B.x13 B.x14 B.x15 B.x16 = View.canon [⟨r0_15, finishAt B (upper i B)⟩, ⟨r0_11, finishAt B (lower i B)⟩] := by
  unfold out0_17 k0_pay54 k0_pay53 k0_pay52 k0_pay51 k0_pay50 k0_pay49 k0_pay48 k0_pay47 k0_pay46 k0_pay45 k0_pay44 k0_pay43 k0_pay42
  unfold finishAt finish upper lower thirdAt
  rw [step_third, step_lo, step_hi]
  rw [step_norm, step_norm', step_query, step_query', step_att, step_att', step_out, step_out']

end Cert.Kernel7Ideal.Merge
-- ==== Proof.Merge.Spec.lean ====
module

public import proofs.«01_k».proof.Proof.Ffn.Spec
public import proofs.«01_k».proof.Proof.Attn.Spec

@[expose] public section

noncomputable section

namespace Merge

open Idealize.ShloMosaic

/-! # The branch merge and the attention over the memory, in sums

Program-free: what a row of the layer becomes between its three branches and its feed-forward block, and why
the weights of the attention may be divided by their sum before or after the weighted sum of the values. -/

/-- The arguments of one layer's merge: rows, branches, gates, weights, the memory's keys and values, the two normalizations' parameters. -/
structure Args where
  x : Fin 16384 → Fin 1024 → EReal
  ya : Fin 16384 → Fin 512 → EReal
  yb : Fin 16384 → Fin 512 → EReal
  gb : Fin 16384 → Fin 512 → EReal
  u : Fin 16384 → Fin 512 → EReal
  gates : Fin 16384 → Fin 3072 → EReal
  cw : Fin 3 → Fin 512 → EReal
  wb : Fin 3 → Fin 512 → Fin 1024 → EReal
  wm : Fin 1024 → Fin 1024 → EReal
  kv : Fin 512 → Fin 2048 → EReal
  wq : Fin 1024 → Fin 1024 → EReal
  wo : Fin 1024 → Fin 1024 → EReal
  g : Fin 3 → Fin 1024 → EReal
  b : Fin 3 → Fin 1024 → EReal

/-- The third branch at a row: its gate times the convolution over the row before, the row and the row after. -/
def third (gb up mid dn c0 c1 c2 : EReal) : EReal := gb * (up * c0 + mid * c1 + dn * c2)

/-- The three branches of a row through their weights, each weighted by its gates. -/
def merged (g : Fin 3072 → EReal) (a b t : Fin 512 → EReal) (w0 w1 w2 : Fin 512 → Fin 1024 → EReal) (e : Fin 1024) : EReal :=
  g ⟨e.val, by omega⟩ * (∑ f, a f * w0 f e) + g ⟨1024 + e.val, by omega⟩ * (∑ f, b f * w1 f e) + g ⟨2048 + e.val, by omega⟩ * (∑ f, t f * w2 f e)

/-- A row scaled by the residual's weight, plus another row through a square of weights. -/
def residual (x h : Fin 1024 → EReal) (w : Fin 1024 → Fin 1024 → EReal) (e : Fin 1024) : EReal :=
  Ideal.ofBits .f32 1068827891#32 * x e + ∑ d, h d * w d e

/-- A row's queries. -/
def query (x : Fin 1024 → EReal) (w : Fin 1024 → Fin 1024 → EReal) (e : Fin 1024) : EReal :=
  (∑ d, x d * w d e) * Ideal.ofBits .f32 1031798784#32

/-- The score of a row's queries `q` against the keys `k` of a memory row, in head `h` of four. -/
def score (q k : Fin 1024 → EReal) (h : Fin 4) : EReal := ∑ d : Fin 256, q ⟨256 * h.val + d.val, by omega⟩ * k ⟨256 * h.val + d.val, by omega⟩

/-- The exponential of a score above the largest one. -/
def expo (s : Fin 256 → EReal) (j : Fin 256) : EReal := Ideal.exp (s j - Finset.univ.fold max ⊥ s)

/-- The values weighted by the scores' exponentials, over the sum of the exponentials. -/
def attend (s v : Fin 256 → EReal) : EReal := Ideal.div (∑ j, expo s j * v j) (∑ j, expo s j)

/-- The values weighted by the scores' softmax. -/
def weighted (s v : Fin 256 → EReal) : EReal := ∑ j, v j * Ideal.div (expo s j) (∑ j, expo s j)

/-- A nonnegative real factor goes into a sum, whatever its terms are. -/
theorem sum_mul_real {ι : Type} (t : Finset ι) (f : ι → EReal) (a : ℝ) (ha : 0 ≤ a) : (∑ i ∈ t, f i) * (a : EReal) = ∑ i ∈ t, f i * (a : EReal) := by
  classical
  induction t using Finset.induction_on with
  | empty => simp
  | insert i t h ih =>
    rw [Finset.sum_insert h, Finset.sum_insert h, ← ih, mul_comm, EReal.left_distrib_of_nonneg_of_ne_top (EReal.coe_nonneg.2 ha) (EReal.coe_ne_top a),
      mul_comm, mul_comm (a : EReal)]

/-- With real scores the weights may be divided by their sum before or after the values are weighted; the values are arbitrary. -/
theorem weighted_eq (s v : Fin 256 → EReal) (hs : ∀ j, ∃ r : ℝ, s j = r) : weighted s v = attend s v := by
  obtain ⟨M, hM⟩ := Attn.fold_max_real (n := 255) s hs
  choose r hr using hs
  have he : ∀ j, expo s j = (Real.exp (r j - M) : ℝ) := fun j => by
    rw [expo, hM, hr, ← EReal.coe_sub, Ideal.exp_coe]
  have hsum : ∑ j, expo s j = ((∑ j, Real.exp (r j - M) : ℝ) : EReal) := by
    rw [Attn.coe_sum]; exact Finset.sum_congr rfl fun j _ => he j
  have hpos : 0 < ∑ j, Real.exp (r j - M) := Finset.sum_pos (fun _ _ => Real.exp_pos _) Finset.univ_nonempty
  unfold weighted attend
  rw [hsum, Ideal.div_coe hpos.ne', sum_mul_real _ _ _ (by positivity)]
  refine Finset.sum_congr rfl fun j _ => ?_
  rw [Ideal.div_coe hpos.ne', ← mul_assoc, mul_comm (v j)]

namespace Args

variable (A : Args)

/-- The third branch at row `R`: a sequence's first row has no row before it, its last none after it. -/
def yt (R : Fin 16384) (f : Fin 512) : EReal :=
  third (A.gb R f) (if R.val % 8192 = 0 then 0 else A.u ⟨R.val - 1, by omega⟩ f) (A.u R f)
    (if h : R.val % 8192 = 8191 then 0 else A.u ⟨R.val + 1, by omega⟩ f) (A.cw 0 f) (A.cw 1 f) (A.cw 2 f)

/-- The merged branches of row `R`. -/
def mix (R : Fin 16384) : Fin 1024 → EReal := merged (A.gates R) (A.ya R) (A.yb R) (A.yt R) (A.wb 0) (A.wb 1) (A.wb 2)

/-- Row `R` after the merge: the normalized residual. -/
def x1 (R : Fin 16384) (e : Fin 1024) : EReal := Ffn.norm (residual (A.x R) (A.mix R) A.wm) (A.g 0 e) (A.b 0 e) e

/-- The keys and the values of memory row `j` of sequence `b`. -/
def key (b : Fin 2) (j : Fin 256) (e : Fin 1024) : EReal := A.kv ⟨256 * b.val + j.val, by omega⟩ ⟨e.val, by omega⟩
@[inherit_doc key]
def value (b : Fin 2) (j : Fin 256) (e : Fin 1024) : EReal := A.kv ⟨256 * b.val + j.val, by omega⟩ ⟨1024 + e.val, by omega⟩

/-- The scores of row `R` over its sequence's memory rows, in a head. -/
def scores (R : Fin 16384) (h : Fin 4) (j : Fin 256) : EReal := score (query (A.x1 R) A.wq) (A.key ⟨R.val / 8192, by omega⟩ j) h

/-- What row `R` reads from the memory. -/
def att (R : Fin 16384) (e : Fin 1024) : EReal := attend (A.scores R ⟨e.val / 256, by omega⟩) (fun j => A.value ⟨R.val / 8192, by omega⟩ j e)

/-- The result at row `R`: the normalized residual of what it reads from the memory. -/
def out (R : Fin 16384) (e : Fin 1024) : EReal := Ffn.norm (residual (A.x1 R) (A.att R) A.wo) (A.g 1 e) (A.b 1 e) e

end Args

/-! ## Which values are reals -/

/-- A value that is neither infinity. -/
def IsReal (x : EReal) : Prop := ∃ r : ℝ, x = r

/-- A float whose magnitude is below infinity is a real. -/
theorem real_of_lt_top {x y : EReal} (hy : y = ⊤) (h : Ideal.cmp .olt (max x (-x)) y = 1#1) : IsReal x := by
  subst hy
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  rw [max_lt_iff] at h'
  refine ⟨x.toReal, (EReal.coe_toReal (ne_of_lt h'.1) fun e => ?_).symm⟩
  rw [e] at h'
  exact absurd h'.2 (by simp)

theorem IsReal.zero : IsReal 0 := ⟨0, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type} [Fintype ι] {f : ι → EReal} (h : ∀ i, IsReal (f i)) : IsReal (∑ i, f i) := by
  choose r hr using h
  exact ⟨∑ i, r i, by rw [Attn.coe_sum]; exact Finset.sum_congr rfl fun i _ => hr i⟩

/-- The residual's weight, the queries' scale, the row length and the normalization's small addend are reals, the last two positive. -/
theorem alpha_real : IsReal (Ideal.ofBits .f32 1068827891#32) :=
  ⟨_, by simp only [Ideal.ofBits, Ideal.ieee]; rw [if_neg (by decide), if_neg (by decide)]⟩
@[inherit_doc alpha_real]
theorem scale_real : IsReal (Ideal.ofBits .f32 1031798784#32) :=
  ⟨_, by simp only [Ideal.ofBits, Ideal.ieee]; rw [if_neg (by decide), if_neg (by decide)]⟩
@[inherit_doc alpha_real]
theorem length_eq : Ideal.ofBits .f32 1149239296#32 = ((1024 : ℝ) : EReal) := by
  simp only [Ideal.ofBits, Ideal.ieee]
  rw [if_neg (by decide), if_neg (by decide), if_neg (by decide)]
  refine congrArg (fun r : ℝ => (r : EReal)) ?_
  rw [show (BitVec.extractLsb' 0 23 1149239296#32).toNat = 0 by decide, show (BitVec.extractLsb' 23 8 1149239296#32).toNat = 137 by decide]
  norm_num
@[inherit_doc alpha_real]
theorem eps_pos : ∃ r : ℝ, 0 < r ∧ Ideal.ofBits .f32 925353388#32 = r := by
  refine ⟨_, ?_, by simp only [Ideal.ofBits, Ideal.ieee]; rw [if_neg (by decide), if_neg (by decide)]⟩
  rw [if_neg (by decide)]
  positivity

/-- The mean of a row of reals is a real, and not negative if they are not. -/
theorem mean_real (z : Fin 1024 → EReal) (r : Fin 1024 → ℝ) (h : ∀ e, z e = r e) : Ffn.mean z = (((∑ e, r e) / 1024 : ℝ) : EReal) := by
  unfold Ffn.mean
  rw [show ∑ e, z e = ((∑ e, r e : ℝ) : EReal) by rw [Attn.coe_sum]; exact Finset.sum_congr rfl fun e _ => h e, length_eq,
    Attn.div_coe_coe _ _ (by norm_num)]

/-- The normalization of a row of reals with real parameters is a real. -/
theorem norm_real (z : Fin 1024 → EReal) (g b : EReal) (e : Fin 1024) (hz : ∀ e, IsReal (z e)) (hg : IsReal g) (hb : IsReal b) : IsReal (Ffn.norm z g b e) := by
  choose r hr using hz
  obtain ⟨ε, hε, he⟩ := eps_pos
  unfold Ffn.norm
  have hm := mean_real z r hr
  have hv := mean_real (fun e => (z e - Ffn.mean z) * (z e - Ffn.mean z)) (fun e => (r e - (∑ e, r e) / 1024) * (r e - (∑ e, r e) / 1024)) fun e => by
    rw [hm, hr, ← EReal.coe_sub, ← EReal.coe_mul]
  have hp : 0 < (∑ e, (r e - (∑ e, r e) / 1024) * (r e - (∑ e, r e) / 1024)) / 1024 + ε :=
    add_pos_of_nonneg_of_pos (div_nonneg (Finset.sum_nonneg fun _ _ => mul_self_nonneg _) (by norm_num)) hε
  rw [hv, he, ← EReal.coe_add, Ideal.rsqrt_coe, if_neg hp.not_gt, if_neg hp.ne', hm, hr]
  exact ((IsReal.mul (IsReal.sub ⟨_, rfl⟩ ⟨_, rfl⟩) ⟨_, rfl⟩).mul hg).add hb

/-- A layer's arguments from which the scores over the memory are computed are reals. -/
structure Args.Finite (A : Args) : Prop where
  x : ∀ R e, IsReal (A.x R e)
  ya : ∀ R e, IsReal (A.ya R e)
  yb : ∀ R e, IsReal (A.yb R e)
  gb : ∀ R e, IsReal (A.gb R e)
  u : ∀ R e, IsReal (A.u R e)
  gates : ∀ R e, IsReal (A.gates R e)
  cw : ∀ k f, IsReal (A.cw k f)
  wb : ∀ k f e, IsReal (A.wb k f e)
  wm : ∀ d e, IsReal (A.wm d e)
  kv : ∀ R (e : Fin 1024), IsReal (A.kv R ⟨e.val, by omega⟩)
  wq : ∀ d e, IsReal (A.wq d e)
  g : ∀ e, IsReal (A.g 0 e)
  b : ∀ e, IsReal (A.b 0 e)

theorem Args.Finite.yt {A : Args} (h : A.Finite) (R : Fin 16384) (f : Fin 512) : IsReal (A.yt R f) := by
  unfold Args.yt third
  refine (h.gb R f).mul (((IsReal.mul ?_ (h.cw 0 f)).add ((h.u R f).mul (h.cw 1 f))).add (IsReal.mul ?_ (h.cw 2 f)))
  · split
    · exact IsReal.zero
    · exact h.u _ f
  · split
    · exact IsReal.zero
    · exact h.u _ f

theorem Args.Finite.mix {A : Args} (h : A.Finite) (R : Fin 16384) (e : Fin 1024) : IsReal (A.mix R e) :=
  (((h.gates R _).mul (IsReal.sum fun f => (h.ya R f).mul (h.wb 0 f e))).add ((h.gates R _).mul (IsReal.sum fun f => (h.yb R f).mul (h.wb 1 f e)))).add
    ((h.gates R _).mul (IsReal.sum fun f => (h.yt R f).mul (h.wb 2 f e)))

theorem Args.Finite.x1 {A : Args} (h : A.Finite) (R : Fin 16384) (e : Fin 1024) : IsReal (A.x1 R e) :=
  norm_real _ _ _ e (fun e => (alpha_real.mul (h.x R e)).add (IsReal.sum fun d => (h.mix R d).mul (h.wm d e))) (h.g e) (h.b e)

theorem query_real (x : Fin 1024 → EReal) (w : Fin 1024 → Fin 1024 → EReal) (hx : ∀ d, IsReal (x d)) (hw : ∀ d e, IsReal (w d e)) (e : Fin 1024) : IsReal (query x w e) :=
  (IsReal.sum fun d => (hx d).mul (hw d e)).mul scale_real

theorem score_real (q k : Fin 1024 → EReal) (hq : ∀ e, IsReal (q e)) (hk : ∀ e, IsReal (k e)) (h : Fin 4) : IsReal (score q k h) :=
  IsReal.sum fun d => (hq ⟨256 * h.val + d.val, by omega⟩).mul (hk ⟨256 * h.val + d.val, by omega⟩)

theorem Args.Finite.scores {A : Args} (hA : A.Finite) (R : Fin 16384) (h : Fin 4) (j : Fin 256) : IsReal (A.scores R h j) :=
  score_real _ _ (query_real _ _ (hA.x1 R) hA.wq) (fun e => hA.kv ⟨256 * (R.val / 8192) + j.val, by omega⟩ e) h

/-- With real scores, what a row reads from the memory by softmax weights. -/
theorem Args.Finite.att {A : Args} (h : A.Finite) (R : Fin 16384) (e : Fin 1024) :
    weighted (A.scores R ⟨e.val / 256, by omega⟩) (fun j => A.value ⟨R.val / 8192, by omega⟩ j e) = A.att R e :=
  weighted_eq _ _ (h.scores R _)

end Merge

end
-- ==== Proof.Merge.Vals.lean ====
module

public import proofs.«01_k».proof.Proof.Merge.Body
public import proofs.«01_k».proof.Proof.Merge.Spec

@[expose] public section

set_option maxRecDepth 16384

noncomputable section

namespace Cert.Kernel7Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

/-! # The body's functions, entry by entry -/

/-- Comparing a row number with a literal row, as the body does. -/
theorem select_row {α : Type} (r : Fin 512) (k : ℕ) (hk : k < 512) (a b : α) :
    Scalar.select (IntOp.cmpi .eq (BitVec.ofNat 32 r.val) (BitVec.ofNat 32 k)) a b = if r.val = k then a else b := by
  have h : (BitVec.ofNat 32 r.val = BitVec.ofNat 32 k) ↔ r.val = k := by
    rw [← BitVec.toNat_inj]; simp only [BitVec.toNat_ofNat]
    rw [Nat.mod_eq_of_lt (by omega), Nat.mod_eq_of_lt (by omega)]
  by_cases e : r.val = k
  · rw [if_pos e]; simp [Scalar.select, IntOp.cmpi, e]
  · rw [if_neg e]
    have : ¬ (BitVec.ofNat 32 r.val = BitVec.ofNat 32 k) := fun q => e (h.mp q)
    simp [Scalar.select, IntOp.cmpi, beq_eq_false_iff_ne.mpr this]

theorem above_apply (u : FVec Ideal S512x512 .f32) (x : FVec Ideal S1x512 .f32) (r f : Fin 512) :
    above u x (ix2 r f) = if r.val = 0 then x (ix2 0 f) else u (ix2 ⟨r.val - 1, by omega⟩ f) := by
  pointwise [above]
  rw [select_row r 0 (by omega)]
  split
  · rfl
  · congr 3; omega

theorem below_apply (u : FVec Ideal S512x512 .f32) (x : FVec Ideal S1x512 .f32) (r f : Fin 512) :
    below u x (ix2 r f) = if h : r.val = 511 then x (ix2 0 f) else u (ix2 ⟨r.val + 1, by omega⟩ f) := by
  pointwise [below]
  rw [select_row r 511 (by omega)]
  split
  · rfl
  · congr 3; omega

theorem third_apply (u : FVec Ideal S512x512 .f32) (lo hi : FVec Ideal S1x512 .f32) (cw : Vec Ideal S1x3x512 .f32) (gb : Vec Ideal S512x512 .bf16) (r f : Fin 512) :
    third u lo hi cw gb (ix2 r f) = _root_.Merge.third (gb (ix2 r f)) (if r.val = 0 then lo (ix2 0 f) else u (ix2 ⟨r.val - 1, by omega⟩ f)) (u (ix2 r f))
      (if h : r.val = 511 then hi (ix2 0 f) else u (ix2 ⟨r.val + 1, by omega⟩ f)) (cw (ix3 0 0 f)) (cw (ix3 0 1 f)) (cw (ix3 0 2 f)) := by
  pointwise [third, tap0, tap1, tap2]
  rw [above_apply, below_apply]
  rfl

theorem branch_apply (y : FVec Ideal S256x512 .bf16) (w : Vec Ideal S1x1x512x1024 .bf16) (r : Fin 256) (e : Fin 1024) :
    branch y w (ix2 r e) = ∑ f, y (ix2 r f) * w (ix4 0 0 f e) := by
  pointwise [branch]

theorem merged_apply (g : Vec Ideal S256x3072 .bf16) (ya yb yt : FVec Ideal S256x512 .bf16) (w0 w1 w2 : Vec Ideal S1x1x512x1024 .bf16) (r : Fin 256) (e : Fin 1024) :
    merged g ya yb yt w0 w1 w2 (ix2 r e) = _root_.Merge.merged (fun e => g (ix2 r e)) (fun f => ya (ix2 r f)) (fun f => yb (ix2 r f)) (fun f => yt (ix2 r f))
      (fun f e => w0 (ix4 0 0 f e)) (fun f e => w1 (ix4 0 0 f e)) (fun f e => w2 (ix4 0 0 f e)) e := by
  pointwise [merged]
  rw [branch_apply, branch_apply, branch_apply]
  unfold _root_.Merge.merged
  congr 3

theorem plus_apply (x h : FVec Ideal S256x1024 .f32) (w : Vec Ideal S1x1024x1024 .bf16) (r : Fin 256) (e : Fin 1024) :
    plus x (through h w) (ix2 r e) = _root_.Merge.residual (fun e => x (ix2 r e)) (fun d => h (ix2 r d)) (fun d e => w (ix3 0 d e)) e := by
  pointwise [plus, through]
  rfl

theorem normed_apply (z : FVec Ideal S256x1024 .f32) (g b : FVec Ideal S1x1024 .f32) (r : Fin 256) (e : Fin 1024) :
    normed z g b (ix2 r e) = _root_.Ffn.norm (fun e => z (ix2 r e)) (g (ix2 0 e)) (b (ix2 0 e)) e := by
  pointwise [normed, centred]
  rfl

theorem row0_apply (g : Vec Ideal S1x3x1024 .f32) (e : Fin 1024) : row0 g (ix2 0 e) = g (ix3 0 0 e) := by
  pointwise [row0]

theorem row1_apply (g : Vec Ideal S1x3x1024 .f32) (e : Fin 1024) : row1 g (ix2 0 e) = g (ix3 0 1 e) := by
  pointwise [row1]

theorem query_apply (x : FVec Ideal S256x1024 .f32) (w : Vec Ideal S1x1024x1024 .bf16) (r : Fin 256) (e : Fin 1024) :
    query x w (ix2 r e) = _root_.Merge.query (fun d => x (ix2 r d)) (fun d e => w (ix3 0 d e)) e := by
  pointwise [query, through]
  rfl

theorem scores_apply (q : FVec Ideal S256x256 .f32) (k : FVec Ideal S256x256 .bf16) (r j : Fin 256) :
    scores q k (ix2 r j) = ∑ d, q (ix2 r d) * k (ix2 j d) := by
  pointwise [scores]

theorem expo_apply (s : FVec Ideal S256x256 .f32) (r j : Fin 256) : expo s (ix2 r j) = _root_.Merge.expo (fun j => s (ix2 r j)) j := by
  pointwise [expo]
  unfold _root_.Merge.expo
  rw [_root_.Attn.ofBits_neg_inf]

theorem head_apply (q : FVec Ideal S256x256 .f32) (k v : FVec Ideal S256x256 .bf16) (r f : Fin 256) :
    head q k v (ix2 r f) = _root_.Merge.attend (fun j => ∑ d, q (ix2 r d) * k (ix2 j d)) (fun j => v (ix2 j f)) := by
  pointwise [head]
  simp only [expo_apply, scores_apply]
  rfl

/-- A head at a column of all four. -/
theorem head_at (q : FVec Ideal S256x1024 .f32) (k v : Vec Ideal S256x1024 .bf16) (r : Fin 256) (e : Fin 1024) (f : Fin 256) (o : ℕ) (h : Fin 4)
    (qh : FVec Ideal S256x256 .f32) (kh vh : FVec Ideal S256x256 .bf16) (he : e.val = 256 * h.val + f.val)
    (hq : ∀ d : Fin 256, qh (ix2 r d) = q (ix2 r ⟨256 * h.val + d.val, by omega⟩))
    (hk : ∀ j d : Fin 256, kh (ix2 j d) = k (ix2 j ⟨256 * h.val + d.val, by omega⟩))
    (hv : ∀ j d : Fin 256, vh (ix2 j d) = v (ix2 j ⟨256 * h.val + d.val, by omega⟩)) :
    head qh kh vh (ix2 r f) = _root_.Merge.attend (fun j => _root_.Merge.score (fun e => q (ix2 r e)) (fun e => k (ix2 j e)) ⟨e.val / 256, by omega⟩) (fun j => v (ix2 j e)) := by
  have e1 : (⟨e.val / 256, by omega⟩ : Fin 4) = h := Fin.ext (by show e.val / 256 = h.val; omega)
  have e2 : (⟨256 * h.val + f.val, by omega⟩ : Fin 1024) = e := Fin.ext he.symm
  rw [head_apply, e1]
  simp only [hq, hk, hv, e2]
  rfl

theorem att_apply (q : FVec Ideal S256x1024 .f32) (k v : Vec Ideal S256x1024 .bf16) (r : Fin 256) (e : Fin 1024) :
    att q k v (ix2 r e) = _root_.Merge.attend (fun j => _root_.Merge.score (fun e => q (ix2 r e)) (fun e => k (ix2 j e)) ⟨e.val / 256, by omega⟩) (fun j => v (ix2 j e)) := by
  have he := e.isLt
  pointwise [att]
  by_cases h0 : e.val < 256
  · refine (dif_pos h0).trans (head_at q k v r e _ 0 0 _ _ _ (show e.val = 256 * 0 + e.val by omega) (fun d => ?_) (fun j d => ?_) fun j d => ?_) <;> pointwise []
  refine (dif_neg h0).trans ?_
  by_cases h1 : e.val - 256 < 256
  · refine (dif_pos h1).trans (head_at q k v r e _ 1 1 _ _ _ (show e.val = 256 * 1 + (e.val - 256) by omega) (fun d => ?_) (fun j d => ?_) fun j d => ?_) <;> pointwise []
  refine (dif_neg h1).trans ?_
  by_cases h2 : e.val - 256 - 256 < 256
  · refine (dif_pos h2).trans (head_at q k v r e _ 2 2 _ _ _ (show e.val = 256 * 2 + (e.val - 256 - 256) by omega) (fun d => ?_) (fun j d => ?_) fun j d => ?_) <;> pointwise []
  refine (dif_neg h2).trans (head_at q k v r e _ 3 3 _ _ _ (show e.val = 256 * 3 + (e.val - 256 - 256 - 256) by omega) (fun d => ?_) (fun j d => ?_) fun j d => ?_) <;> pointwise []

/-- What the body makes of a half block whose row `r` is row `R` after the merge, at row `r`. -/
theorem finish_at (A : _root_.Merge.Args) (R : Fin 16384) (x1 : FVec Ideal S256x1024 .f32) (k v : Vec Ideal S256x1024 .bf16) (wq wo : Vec Ideal S1x1024x1024 .bf16) (g b : Vec Ideal S1x3x1024 .f32)
    (r : Fin 256) (hx : ∀ e, x1 (ix2 r e) = A.x1 R e) (hk : ∀ j e, k (ix2 j e) = A.key ⟨R.val / 8192, by omega⟩ j e) (hv : ∀ j e, v (ix2 j e) = A.value ⟨R.val / 8192, by omega⟩ j e)
    (hq : ∀ d e, wq (ix3 0 d e) = A.wq d e) (ho : ∀ d e, wo (ix3 0 d e) = A.wo d e) (hg : ∀ e, g (ix3 0 1 e) = A.g 1 e) (hb : ∀ e, b (ix3 0 1 e) = A.b 1 e) (e : Fin 1024) :
    finish x1 k v wq wo g b (ix2 r e) = A.out R e := by
  unfold finish
  rw [normed_apply, row1_apply, row1_apply]
  simp only [plus_apply, att_apply, query_apply, hx, hk, hv, hq, ho, hg, hb]
  rfl

/-- A half block's row `r` after the merge, when its blocks' rows are those of row `R`. -/
theorem half_at (A : _root_.Merge.Args) (R : Fin 16384) (x : FVec Ideal S256x1024 .f32) (gs : Vec Ideal S256x3072 .bf16) (ya yb yt : FVec Ideal S256x512 .bf16) (w0 w1 w2 : Vec Ideal S1x1x512x1024 .bf16)
    (wm : Vec Ideal S1x1024x1024 .bf16) (g b : Vec Ideal S1x3x1024 .f32) (r : Fin 256)
    (hx : ∀ e, x (ix2 r e) = A.x R e) (hs : ∀ e, gs (ix2 r e) = A.gates R e) (ha : ∀ f, ya (ix2 r f) = A.ya R f) (hb : ∀ f, yb (ix2 r f) = A.yb R f) (ht : ∀ f, yt (ix2 r f) = A.yt R f)
    (h0 : ∀ f e, w0 (ix4 0 0 f e) = A.wb 0 f e) (h1 : ∀ f e, w1 (ix4 0 0 f e) = A.wb 1 f e) (h2 : ∀ f e, w2 (ix4 0 0 f e) = A.wb 2 f e)
    (hm : ∀ d e, wm (ix3 0 d e) = A.wm d e) (hg : ∀ e, g (ix3 0 0 e) = A.g 0 e) (hb' : ∀ e, b (ix3 0 0 e) = A.b 0 e) (e : Fin 1024) :
    normed (plus x (through (merged gs ya yb yt w0 w1 w2) wm)) (row0 g) (row0 b) (ix2 r e) = A.x1 R e := by
  rw [normed_apply, row0_apply, row0_apply]
  simp only [plus_apply, merged_apply, hx, hs, ha, hb, ht, h0, h1, h2, hm, hg, hb']
  rfl

end Cert.Kernel7Ideal.Merge
-- ==== Proof.Merge.Point.lean ====
module

public import proofs.«01_k».proof.Proof.Merge.Vals

@[expose] public section

set_option maxRecDepth 16384

noncomputable section

namespace Cert.Kernel7Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

/-! # What the body leaves at a grid point, in the rows of the layer -/

/-- The body's test for a block before it: false at the first block of a sequence only. -/
theorem prev_eq (t : Fin cfg0.N) : prevBit (grid0.coords t) = if t.val % 16 = 0 then 0#1 else 1#1 := by
  revert t; decide +kernel

/-- The body's test for a block after it: false at the last block of a sequence only. -/
theorem next_eq (t : Fin cfg0.N) : nextBit (grid0.coords t) = if t.val % 16 = 15 then 0#1 else 1#1 := by
  revert t; decide +kernel

theorem pt_lt (t : Fin cfg0.N) : t.val < 32 := t.isLt

theorem row_lt (t : Fin cfg0.N) (r : Fin 512) : 512 * t.val + r.val < 16384 := by
  have := pt_lt t
  omega

/-! ## The loads -/

section loads

theorem ld_0 (x : Vec Ideal S512x512 .bf16) (s f : Fin 512) : (View.ld x r0_0 : Vec Ideal S512x512 .bf16) (ix2 s f) = x (ix2 s f) := by
  pointwise []

theorem ld_1 (x : Vec Ideal S16x512 .bf16) (f : Fin 512) : (View.ld x r0_1 : Vec Ideal S1x512 .bf16) (ix2 0 f) = x (ix2 15 f) := by
  pointwise []

theorem ld_2 (x : Vec Ideal S16x512 .bf16) (f : Fin 512) : (View.ld x r0_2 : Vec Ideal S1x512 .bf16) (ix2 0 f) = x (ix2 0 f) := by
  pointwise []

theorem ld_3 (x : Vec Ideal S1x3x512 .f32) (k : Fin 3) (f : Fin 512) : (View.ld x r0_3 : Vec Ideal S1x3x512 .f32) (ix3 0 k f) = x (ix3 0 k f) := by
  pointwise []

theorem ld_4 (x : Vec Ideal S1x3x1024 .f32) (k : Fin 3) (d : Fin 1024) : (View.ld x r0_4 : Vec Ideal S1x3x1024 .f32) (ix3 0 k d) = x (ix3 0 k d) := by
  pointwise []

theorem ld_5 (x : Vec Ideal S256x1024 .bf16) (r : Fin 256) (d : Fin 1024) : (View.ld x r0_5 : Vec Ideal S256x1024 .bf16) (ix2 r d) = x (ix2 r d) := by
  pointwise []

theorem ld_6 (x : Vec Ideal S512x3072 .bf16) (r : Fin 256) (d : Fin 3072) : (View.ld x r0_6 : Vec Ideal S256x3072 .bf16) (ix2 r d) = x (ix2 ⟨r.val, by omega⟩ d) := by
  pointwise []

theorem ld_7 (x : Vec Ideal S512x512 .bf16) (r : Fin 256) (f : Fin 512) : (View.ld x r0_7 : Vec Ideal S256x512 .bf16) (ix2 r f) = x (ix2 ⟨r.val, by omega⟩ f) := by
  pointwise []

theorem ld_8 (x : Vec Ideal S1x3x512x1024 .bf16) (f : Fin 512) (d : Fin 1024) : (View.ld x r0_8 : Vec Ideal S1x1x512x1024 .bf16) (ix4 0 0 f d) = x (ix4 0 0 f d) := by
  pointwise []

theorem ld_9 (x : Vec Ideal S1x3x512x1024 .bf16) (f : Fin 512) (d : Fin 1024) : (View.ld x r0_9 : Vec Ideal S1x1x512x1024 .bf16) (ix4 0 0 f d) = x (ix4 0 1 f d) := by
  pointwise []

theorem ld_10 (x : Vec Ideal S1x3x512x1024 .bf16) (f : Fin 512) (d : Fin 1024) : (View.ld x r0_10 : Vec Ideal S1x1x512x1024 .bf16) (ix4 0 0 f d) = x (ix4 0 2 f d) := by
  pointwise []

theorem ld_11 (x : Vec Ideal S512x1024 .f32) (r : Fin 256) (d : Fin 1024) : (View.ld x r0_11 : Vec Ideal S256x1024 .f32) (ix2 r d) = x (ix2 ⟨r.val, by omega⟩ d) := by
  pointwise []

theorem ld_12 (x : Vec Ideal S1x1024x1024 .bf16) (d e : Fin 1024) : (View.ld x r0_12 : Vec Ideal S1x1024x1024 .bf16) (ix3 0 d e) = x (ix3 0 d e) := by
  pointwise []

theorem ld_13 (x : Vec Ideal S512x3072 .bf16) (r : Fin 256) (d : Fin 3072) : (View.ld x r0_13 : Vec Ideal S256x3072 .bf16) (ix2 r d) = x (ix2 ⟨256 + r.val, by omega⟩ d) := by
  pointwise []

theorem ld_14 (x : Vec Ideal S512x512 .bf16) (r : Fin 256) (f : Fin 512) : (View.ld x r0_14 : Vec Ideal S256x512 .bf16) (ix2 r f) = x (ix2 ⟨256 + r.val, by omega⟩ f) := by
  pointwise []

theorem ld_15 (x : Vec Ideal S512x1024 .f32) (r : Fin 256) (d : Fin 1024) : (View.ld x r0_15 : Vec Ideal S256x1024 .f32) (ix2 r d) = x (ix2 ⟨256 + r.val, by omega⟩ d) := by
  pointwise []

theorem ld_ext (x : Vec Ideal S512x512 .bf16) (s f : Fin 512) : (extf .f32 (View.ld x r0_0 : Vec Ideal S512x512 .bf16) bitsLt_bf16_f32 : FVec Ideal S512x512 .f32) (ix2 s f) = x (ix2 s f) := by
  pointwise []

end loads

theorem half_lo (y : FVec Ideal S512x512 .bf16) (r : Fin 256) (f : Fin 512) :
    extractStridedSlice S256x512 ![0, 0] y slices_S512x512_o0_0_S256x512 (ix2 r f) = y (ix2 ⟨r.val, by omega⟩ f) := by
  pointwise []

theorem half_hi (y : FVec Ideal S512x512 .bf16) (r : Fin 256) (f : Fin 512) :
    extractStridedSlice S256x512 ![256, 0] y slices_S512x512_o256_0_S256x512 (ix2 r f) = y (ix2 ⟨256 + r.val, by omega⟩ f) := by
  pointwise []

theorem beside_one (x : Vec Ideal S1x512 .bf16) (f : Fin 512) : beside 1#1 x (ix2 0 f) = x (ix2 0 f) := rfl

theorem beside_zero (x : Vec Ideal S1x512 .bf16) (f : Fin 512) : beside 0#1 x (ix2 0 f) = 0 := by
  rw [show beside 0#1 x = broadcast S1x512 (Scalar.ofBits .f32 0x00000000#32) from rfl]
  pointwise []

/-! ## What the body leaves -/

/-- The blocks of a grid point hold the rows of a layer's arguments that the point needs. -/
structure Reads (A : _root_.Merge.Args) (t : Fin cfg0.N) (B : Blocks Ideal) : Prop where
  x0 : ∀ (r : Fin 512) (e : Fin 1024), B.x0 (ix2 r e) = A.x ⟨512 * t.val + r.val, row_lt t r⟩ e
  x1 : ∀ (r : Fin 512) (e : Fin 512), B.x1 (ix2 r e) = A.ya ⟨512 * t.val + r.val, row_lt t r⟩ e
  x2 : ∀ (r : Fin 512) (e : Fin 512), B.x2 (ix2 r e) = A.yb ⟨512 * t.val + r.val, row_lt t r⟩ e
  x3 : ∀ (r : Fin 512) (e : Fin 512), B.x3 (ix2 r e) = A.gb ⟨512 * t.val + r.val, row_lt t r⟩ e
  x4 : ∀ (r : Fin 512) (e : Fin 512), B.x4 (ix2 r e) = A.u ⟨512 * t.val + r.val, row_lt t r⟩ e
  x5 : ∀ (ht : ¬ t.val % 16 = 0) (f : Fin 512), B.x5 (ix2 15 f) = A.u ⟨512 * t.val - 1, by have := pt_lt t; omega⟩ f
  x6 : ∀ (ht : ¬ t.val % 16 = 15) (f : Fin 512), B.x6 (ix2 0 f) = A.u ⟨512 * t.val + 512, by have := pt_lt t; omega⟩ f
  x7 : ∀ (r : Fin 512) (e : Fin 3072), B.x7 (ix2 r e) = A.gates ⟨512 * t.val + r.val, row_lt t r⟩ e
  x8 : ∀ (k : Fin 3) (f : Fin 512), B.x8 (ix3 0 k f) = A.cw k f
  x9 : ∀ (k : Fin 3) (f : Fin 512) (e : Fin 1024), B.x9 (ix4 0 k f e) = A.wb k f e
  x10 : ∀ (d e : Fin 1024), B.x10 (ix3 0 d e) = A.wm d e
  x11 : ∀ (j : Fin 256) (e : Fin 1024), B.x11 (ix2 j e) = A.key ⟨t.val / 16, by have := pt_lt t; omega⟩ j e
  x12 : ∀ (j : Fin 256) (e : Fin 1024), B.x12 (ix2 j e) = A.value ⟨t.val / 16, by have := pt_lt t; omega⟩ j e
  x13 : ∀ (d e : Fin 1024), B.x13 (ix3 0 d e) = A.wq d e
  x14 : ∀ (d e : Fin 1024), B.x14 (ix3 0 d e) = A.wo d e
  x15 : ∀ (k : Fin 3) (e : Fin 1024), B.x15 (ix3 0 k e) = A.g k e
  x16 : ∀ (k : Fin 3) (e : Fin 1024), B.x16 (ix3 0 k e) = A.b k e

variable {A : _root_.Merge.Args} {t : Fin cfg0.N} {B : Blocks Ideal} (hB : Reads A t B)
include hB

theorem thirdAt_row (r f : Fin 512) (R : Fin 16384) (hR : R.val = 512 * t.val + r.val) : thirdAt (grid0.coords t) B (ix2 r f) = A.yt R f := by
  have ht := pt_lt t
  have hr := r.isLt
  have eR : (⟨512 * t.val + r.val, row_lt t r⟩ : Fin 16384) = R := Fin.ext hR.symm
  unfold thirdAt _root_.Merge.Args.yt
  rw [third_apply]
  congr 1
  · exact ((ld_0 _ r f).trans (hB.x3 r f)).trans (congrArg (fun R => A.gb R f) eR)
  · by_cases h0 : r.val = 0
    · rw [if_pos h0]
      by_cases h1 : t.val % 16 = 0
      · rw [if_pos (by omega), prev_eq, if_pos h1, beside_zero]
      · rw [if_neg (by omega), prev_eq, if_neg h1, beside_one]
        refine ((ld_1 _ f).trans (hB.x5 h1 f)).trans (congrArg (fun R => A.u R f) (Fin.ext ?_))
        show 512 * t.val - 1 = R.val - 1
        omega
    · rw [if_neg h0, if_neg (by omega)]
      refine ((ld_ext _ _ f).trans (hB.x4 _ f)).trans (congrArg (fun R => A.u R f) (Fin.ext ?_))
      show 512 * t.val + (r.val - 1) = R.val - 1
      omega
  · exact ((ld_ext _ r f).trans (hB.x4 r f)).trans (congrArg (fun R => A.u R f) eR)
  · by_cases h0 : r.val = 511
    · rw [dif_pos h0]
      by_cases h1 : t.val % 16 = 15
      · rw [dif_pos (by omega), next_eq, if_pos h1, beside_zero]
      · rw [dif_neg (by omega), next_eq, if_neg h1, beside_one]
        refine ((ld_2 _ f).trans (hB.x6 h1 f)).trans (congrArg (fun R => A.u R f) (Fin.ext ?_))
        show 512 * t.val + 512 = R.val + 1
        omega
    · rw [dif_neg h0, dif_neg (by omega)]
      refine ((ld_ext _ _ f).trans (hB.x4 _ f)).trans (congrArg (fun R => A.u R f) (Fin.ext ?_))
      show 512 * t.val + (r.val + 1) = R.val + 1
      omega
  · exact (ld_3 _ 0 f).trans (hB.x8 0 f)
  · exact (ld_3 _ 1 f).trans (hB.x8 1 f)
  · exact (ld_3 _ 2 f).trans (hB.x8 2 f)

theorem thirdAt_apply (r f : Fin 512) : thirdAt (grid0.coords t) B (ix2 r f) = A.yt ⟨512 * t.val + r.val, row_lt t r⟩ f := thirdAt_row hB r f _ rfl

theorem lower_apply (r : Fin 256) (e : Fin 1024) : lower (grid0.coords t) B (ix2 r e) = A.x1 ⟨512 * t.val + r.val, row_lt t ⟨r.val, by omega⟩⟩ e :=
  half_at A _ _ _ _ _ _ _ _ _ _ _ _ r (fun e => (ld_11 _ r e).trans (hB.x0 _ e)) (fun e => (ld_6 _ r e).trans (hB.x7 _ e))
    (fun f => (ld_7 _ r f).trans (hB.x1 _ f)) (fun f => (ld_7 _ r f).trans (hB.x2 _ f))
    (fun f => (half_lo _ r f).trans (thirdAt_apply hB _ f)) (fun f e => (ld_8 _ f e).trans (hB.x9 0 f e)) (fun f e => (ld_9 _ f e).trans (hB.x9 1 f e))
    (fun f e => (ld_10 _ f e).trans (hB.x9 2 f e)) (fun d e => (ld_12 _ d e).trans (hB.x10 d e)) (fun e => (ld_4 _ 0 e).trans (hB.x15 0 e))
    (fun e => (ld_4 _ 0 e).trans (hB.x16 0 e)) e

theorem upper_apply (r : Fin 256) (e : Fin 1024) : upper (grid0.coords t) B (ix2 r e) = A.x1 ⟨512 * t.val + (256 + r.val), row_lt t ⟨256 + r.val, by omega⟩⟩ e :=
  half_at A _ _ _ _ _ _ _ _ _ _ _ _ r (fun e => (ld_15 _ r e).trans (hB.x0 _ e)) (fun e => (ld_13 _ r e).trans (hB.x7 _ e))
    (fun f => (ld_14 _ r f).trans (hB.x1 _ f)) (fun f => (ld_14 _ r f).trans (hB.x2 _ f))
    (fun f => (half_hi _ r f).trans (thirdAt_apply hB _ f)) (fun f e => (ld_8 _ f e).trans (hB.x9 0 f e)) (fun f e => (ld_9 _ f e).trans (hB.x9 1 f e))
    (fun f e => (ld_10 _ f e).trans (hB.x9 2 f e)) (fun d e => (ld_12 _ d e).trans (hB.x10 d e)) (fun e => (ld_4 _ 0 e).trans (hB.x15 0 e))
    (fun e => (ld_4 _ 0 e).trans (hB.x16 0 e)) e

/-- What the body makes of a row that is a row after the merge is the layer's result there. -/
theorem finishAt_apply (x1 : FVec Ideal S256x1024 .f32) (r : Fin 256) (R : Fin 16384) (hb : R.val / 8192 = t.val / 16) (hx : ∀ e, x1 (ix2 r e) = A.x1 R e) (e : Fin 1024) :
    finishAt B x1 (ix2 r e) = A.out R e := by
  have ht := pt_lt t
  have eb : (⟨t.val / 16, by omega⟩ : Fin 2) = ⟨R.val / 8192, by omega⟩ := Fin.ext hb.symm
  exact finish_at A R x1 _ _ _ _ _ _ r hx (fun j e => (ld_5 _ j e).trans ((hB.x11 j e).trans (congrArg (fun b => A.key b j e) eb)))
    (fun j e => (ld_5 _ j e).trans ((hB.x12 j e).trans (congrArg (fun b => A.value b j e) eb)))
    (fun d e => (ld_12 _ d e).trans (hB.x13 d e)) (fun d e => (ld_12 _ d e).trans (hB.x14 d e)) (fun e => (ld_4 _ 1 e).trans (hB.x15 1 e))
    (fun e => (ld_4 _ 1 e).trans (hB.x16 1 e)) e

/-- What the body leaves at a point, at an entry, is the layer's result there. -/
theorem out_at (r : Fin 512) (e : Fin 1024) : out0_17 (grid0.coords t) B.x0 B.x1 B.x2 B.x3 B.x4 B.x5 B.x6 B.x7 B.x8 B.x9 B.x10 B.x11 B.x12 B.x13 B.x14 B.x15 B.x16 (ix2 r e) = A.out ⟨512 * t.val + r.val, row_lt t r⟩ e := by
  have ht := pt_lt t
  rw [out_eq]
  canon_tiles z h
  · idx_vars z
    obtain rfl : e = z1 := Fin.ext h1
    obtain rfl : r = ⟨256 + z0.val, Nat.add_lt_add_left z0.isLt 256⟩ := Fin.ext h0
    exact finishAt_apply hB _ z0 _ (by show (512 * t.val + (256 + z0.val)) / 8192 = _; omega) (upper_apply hB z0) e
  · idx_vars z
    obtain rfl : e = z1 := Fin.ext h1
    obtain rfl : r = ⟨z0.val, Nat.lt_trans z0.isLt (by decide)⟩ := Fin.ext h0
    exact finishAt_apply hB _ z0 _ (by show (512 * t.val + z0.val) / 8192 = _; omega) (lower_apply hB z0) e

end Cert.Kernel7Ideal.Merge
-- ==== Proof.Merge.Output.lean ====
module

public import proofs.«01_k».proof.Proof.Merge.Point

@[expose] public section

set_option maxRecDepth 16384

noncomputable section

namespace Cert.Kernel7Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

/-! # The blocks of a grid point are rows of the arrays; the result array -/

/-- The blocks of a point's own rows. -/
theorem idx (t : Fin cfg0.N) : win0_0.index t = ![t.val, 0] ∧ win0_1.index t = ![t.val, 0] ∧ win0_2.index t = ![t.val, 0] ∧ win0_3.index t = ![t.val, 0]
      ∧ win0_4.index t = ![t.val, 0] ∧ win0_7.index t = ![t.val, 0] ∧ win0_17.index t = ![t.val, 0] := by
  revert t; decide +kernel

/-- The sixteen rows that end before a point's rows and begin after them, and the memory of its sequence. -/
theorem idxB (t : Fin cfg0.N) : win0_5.index t = ![32 * t.val - 1, 0] ∧ win0_6.index t = ![min (32 * t.val + 32) 1023, 0]
      ∧ win0_11.index t = ![t.val / 16, 0] ∧ win0_12.index t = ![t.val / 16, 1] := by
  revert t; decide +kernel

/-- The weights' blocks are those of the layer at every point. -/
theorem idxP (t : Fin cfg0.N) : win0_8.index t = ![0, 0, 0] ∧ win0_9.index t = ![0, 0, 0, 0] ∧ win0_10.index t = ![0, 0, 0] ∧ win0_13.index t = ![0, 0, 0]
      ∧ win0_14.index t = ![0, 0, 0] ∧ win0_15.index t = ![0, 0, 0] ∧ win0_16.index t = ![0, 0, 0] := by
  revert t; decide +kernel

variable (m : (ℓ : Loc nD τ sig) → Buf (Elt Ideal) ℓ)

/-- The layer's arguments. -/
def args (c : Dev nD) : _root_.Merge.Args where
  x R e := m ((c.tc : Thread nD τ).loc main_arg0) (ix2 R e)
  ya R f := m ((c.tc : Thread nD τ).loc main_arg1) (ix2 R f)
  yb R f := m ((c.tc : Thread nD τ).loc main_arg2) (ix2 R f)
  gb R f := m ((c.tc : Thread nD τ).loc main_arg3) (ix2 R f)
  u R f := m ((c.tc : Thread nD τ).loc main_arg4) (ix2 R f)
  gates R e := m ((c.tc : Thread nD τ).loc main_arg5) (ix2 R e)
  cw k f := m ((c.tc : Thread nD τ).loc main_arg6) (ix3 0 k f)
  wb k f e := m ((c.tc : Thread nD τ).loc main_arg7) (ix4 0 k f e)
  wm d e := m ((c.tc : Thread nD τ).loc main_arg8) (ix3 0 d e)
  kv j e := m ((c.tc : Thread nD τ).loc main_arg9) (ix2 j e)
  wq d e := m ((c.tc : Thread nD τ).loc main_arg10) (ix3 0 d e)
  wo d e := m ((c.tc : Thread nD τ).loc main_arg11) (ix3 0 d e)
  g k e := m ((c.tc : Thread nD τ).loc main_arg12) (ix3 0 k e)
  b k e := m ((c.tc : Thread nD τ).loc main_arg13) (ix3 0 k e)

variable (c : Dev nD) (t : Fin cfg0.N)

/-- The blocks of a grid point. -/
def blocks : Blocks Ideal := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

set_option maxHeartbeats 4000000 in
/-- They hold the rows the point needs. -/
theorem reads : Reads (args m c) t (blocks m c t) where
  x0 r e := by
    show iblk m c 0 t (ix2 r e) = _
    unfold args
    blk_ext [iblk, V, idx t]
  x1 r e := by
    show iblk m c 1 t (ix2 r e) = _
    unfold args
    blk_ext [iblk, V, idx t]
  x2 r e := by
    show iblk m c 2 t (ix2 r e) = _
    unfold args
    blk_ext [iblk, V, idx t]
  x3 r e := by
    show iblk m c 3 t (ix2 r e) = _
    unfold args
    blk_ext [iblk, V, idx t]
  x4 r e := by
    show iblk m c 4 t (ix2 r e) = _
    unfold args
    blk_ext [iblk, V, idx t]
  x5 ht f := by
    have := pt_lt t
    show iblk m c 5 t (ix2 15 f) = _
    unfold args
    blk_ext [iblk, V, idxB t]
  x6 ht f := by
    have := pt_lt t
    show iblk m c 6 t (ix2 0 f) = _
    unfold args
    blk_ext [iblk, V, idxB t]
  x7 r e := by
    show iblk m c 7 t (ix2 r e) = _
    unfold args
    blk_ext [iblk, V, idx t]
  x8 k f := by
    show iblk m c 8 t (ix3 0 k f) = _
    unfold args
    blk_ext [iblk, V, idxP t]
  x9 k f e := by
    show iblk m c 9 t (ix4 0 k f e) = _
    unfold args
    blk_ext [iblk, V, idxP t]
  x10 d e := by
    show iblk m c 10 t (ix3 0 d e) = _
    unfold args
    blk_ext [iblk, V, idxP t]
  x11 j e := by
    have := pt_lt t
    show iblk m c 11 t (ix2 j e) = _
    unfold args _root_.Merge.Args.key
    blk_ext [iblk, V, idxB t]
  x12 j e := by
    have := pt_lt t
    show iblk m c 12 t (ix2 j e) = _
    unfold args _root_.Merge.Args.value
    blk_ext [iblk, V, idxB t]
  x13 d e := by
    show iblk m c 13 t (ix3 0 d e) = _
    unfold args
    blk_ext [iblk, V, idxP t]
  x14 d e := by
    show iblk m c 14 t (ix3 0 d e) = _
    unfold args
    blk_ext [iblk, V, idxP t]
  x15 k e := by
    show iblk m c 15 t (ix3 0 k e) = _
    unfold args
    blk_ext [iblk, V, idxP t]
  x16 k e := by
    show iblk m c 16 t (ix3 0 k e) = _
    unfold args
    blk_ext [iblk, V, idxP t]

/-- The layer's result for the kernel's arguments. -/
def want : Vec Ideal S16384x1024 .f32 := fun j => (args m c).out (j 0) (j 1)

/-- After the run the result array is the layer's result. -/
theorem array : (dats m 0 c).arrAt 17 cfg0.N = want m c := by
  refine (dats m 0 c).arrAt_eq_of_covers 17 _ (by decide +kernel) fun t hf y => ?_
  blk_simp
  change S512x1024.Idx at y
  idx_vars y
  rw [after0_17]
  refine (out_at (reads m c t) y0 y1).trans ?_
  show want m c (ix2 ⟨512 * t.val + y0.val, row_lt t y0⟩ y1) = _
  blk_ext [idx t]

end Cert.Kernel7Ideal.Merge
-- ==== Proof.Merge.Ref.lean ====
module

public import proofs.«01_k».proof.Proof.Gen.Reference7Ideal.Read
public import proofs.«01_k».proof.Proof.Merge.Spec
public import Idealize.ShloMosaic.Lib.Pointwise

@[expose] public section

set_option maxRecDepth 16384

noncomputable section

namespace Cert.Reference7Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference7Ideal.Read

variable (x0 : FVec Ideal S16384x1024 .f32) (x1 x2 x3 x4 : FVec Ideal S16384x512 .bf16) (x5 : FVec Ideal S16384x3072 .bf16) (x6 : FVec Ideal S2x3x512 .f32)
  (x7 : FVec Ideal S2x3x512x1024 .bf16) (x8 : FVec Ideal S2x1024x1024 .bf16) (x9 : FVec Ideal S512x2048 .bf16) (x10 x11 : FVec Ideal S2x1024x1024 .bf16)
  (x12 x13 : FVec Ideal S2x3x1024 .f32)

/-- The layer's arguments. -/
def args : _root_.Merge.Args where
  x R e := x0 (ix2 R e)
  ya R f := x1 (ix2 R f)
  yb R f := x2 (ix2 R f)
  gb R f := x3 (ix2 R f)
  u R f := x4 (ix2 R f)
  gates R e := x5 (ix2 R e)
  cw k f := x6 (ix3 0 k f)
  wb k f e := x7 (ix4 0 k f e)
  wm d e := x8 (ix3 0 d e)
  kv j e := x9 (ix2 j e)
  wq d e := x10 (ix3 0 d e)
  wo d e := x11 (ix3 0 d e)
  g k e := x12 (ix3 0 k e)
  b k e := x13 (ix3 0 k e)

/-- Row `s` of sequence `b`. -/
def row (b : Fin 2) (s : Fin 8192) : Fin 16384 := ⟨b.val * 8192 + s.val, by omega⟩

theorem row_split (R : Fin 16384) : row ⟨R.val / 8192, by omega⟩ ⟨R.val % 8192, by omega⟩ = R :=
  Fin.ext (by show R.val / 8192 * 8192 + R.val % 8192 = R.val; omega)

theorem v1_at (b : Fin 2) (s : Fin 8192) (f : Fin 512) : val_main_v1 (F := Ideal) x4 (ix3 b s f) = x4 (ix2 (row b s) f) := by
  pointwise [val_main_v1, val_main_v0]
  rfl

theorem cst_at : val_main_cst (F := Ideal) ix0 = 0 := by
  pointwise [val_main_cst]

/-- The row before, zero at a sequence's first row. -/
theorem v5_at (b : Fin 2) (s : Fin 8192) (f : Fin 512) : val_main_v5 (F := Ideal) x4 (ix3 b s f)
    = if (row b s).val % 8192 = 0 then 0 else x4 (ix2 ⟨(row b s).val - 1, by omega⟩ f) := by
  have hr : (row b s).val = b.val * 8192 + s.val := rfl
  pointwise [val_main_v5, val_main_v4, val_main_v3]
  rw [cst_at]
  by_cases h : s.val < 1
  · exact (dif_pos h).trans (if_pos (show (row b s).val % 8192 = 0 by omega)).symm
  · have hs := s.isLt
    refine ((dif_neg h).trans (v1_at _ _ _ _)).trans (Eq.trans ?_ (if_neg (show ¬ (row b s).val % 8192 = 0 by omega)).symm)
    refine congrArg (fun R => x4 (ix2 R f)) (Fin.ext ?_)
    show b.val * 8192 + (s.val - 1) = b.val * 8192 + s.val - 1
    omega

/-- The row after, zero at a sequence's last row. -/
theorem v7_at (b : Fin 2) (s : Fin 8192) (f : Fin 512) : val_main_v7 (F := Ideal) x4 (ix3 b s f)
    = if h : (row b s).val % 8192 = 8191 then 0 else x4 (ix2 ⟨(row b s).val + 1, by omega⟩ f) := by
  have hr : (row b s).val = b.val * 8192 + s.val := rfl
  pointwise [val_main_v7, val_main_v6, val_main_v3]
  rw [cst_at]
  by_cases h : s.val < 8191
  · refine ((dif_pos h).trans (v1_at _ _ _ _)).trans (Eq.trans ?_ (dif_neg (show ¬ (row b s).val % 8192 = 8191 by omega)).symm)
    refine congrArg (fun R => x4 (ix2 R f)) (Fin.ext ?_)
    show b.val * 8192 + (1 + s.val) = b.val * 8192 + s.val + 1
    omega
  · refine (dif_neg h).trans ?_
    rw [dif_pos (show (row b s).val % 8192 = 8191 by omega)]

/-- A row between its neighbours. -/
theorem near (R : Fin 16384) (f : Fin 512) (b : Fin 2) (s : Fin 8192) (h : row b s = R) :
    val_main_v5 (F := Ideal) x4 (ix3 b s f) = (if R.val % 8192 = 0 then 0 else x4 (ix2 ⟨R.val - 1, by omega⟩ f))
    ∧ val_main_v1 (F := Ideal) x4 (ix3 b s f) = x4 (ix2 R f)
    ∧ val_main_v7 (F := Ideal) x4 (ix3 b s f) = (if h : R.val % 8192 = 8191 then 0 else x4 (ix2 ⟨R.val + 1, by omega⟩ f)) := by
  subst h
  exact ⟨v5_at x4 b s f, v1_at x4 b s f, v7_at x4 b s f⟩

/-- The third branch. -/
theorem v27_at (R : Fin 16384) (f : Fin 512) : val_main_v27 (F := Ideal) x3 x4 x6 (ix2 R f) = (args x0 x1 x2 x3 x4 x5 x6 x7 x8 x9 x10 x11 x12 x13).yt R f := by
  have h24 : ∀ b s, val_main_v24 (F := Ideal) x4 x6 (ix3 b s f) = val_main_v5 (F := Ideal) x4 (ix3 b s f) * x6 (ix3 0 0 f)
      + val_main_v1 (F := Ideal) x4 (ix3 b s f) * x6 (ix3 0 1 f) + val_main_v7 (F := Ideal) x4 (ix3 b s f) * x6 (ix3 0 2 f) := by
    intro b s
    pointwise [val_main_v8, val_main_v9, val_main_v10, val_main_v11, val_main_v12, val_main_v13, val_main_v14, val_main_v15, val_main_v16, val_main_v17, val_main_v18, val_main_v19, val_main_v20, val_main_v21, val_main_v22, val_main_v23, val_main_v24]
  pointwise [val_main_v27, val_main_v26, val_main_v25]
  obtain ⟨e5, e1, e7⟩ := near x4 R f _ _ (row_split R)
  rw [h24, e5, e1, e7]
  rfl

/-- The merged branches. -/
theorem v49_at (R : Fin 16384) (e : Fin 1024) : val_main_v49 (F := Ideal) x1 x2 x3 x4 x5 x6 x7 (ix2 R e) = (args x0 x1 x2 x3 x4 x5 x6 x7 x8 x9 x10 x11 x12 x13).mix R e := by
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v2]
  simp only [v27_at x0 x1 x2 x3 x4 x5 x6 x7 x8 x9 x10 x11 x12 x13]
  rfl

theorem v56_at (R : Fin 16384) (e : Fin 1024) : val_main_v56 (F := Ideal) x0 x1 x2 x3 x4 x5 x6 x7 x8 (ix2 R e) = _root_.Merge.residual ((args x0 x1 x2 x3 x4 x5 x6 x7 x8 x9 x10 x11 x12 x13).x R) ((args x0 x1 x2 x3 x4 x5 x6 x7 x8 x9 x10 x11 x12 x13).mix R) (args x0 x1 x2 x3 x4 x5 x6 x7 x8 x9 x10 x11 x12 x13).wm e := by
  pointwise [val_main_v50, val_main_v51, val_main_v52, val_main_v53, val_main_v54, val_main_v55, val_main_v56, val_main_cst_0]
  simp only [v49_at x0 x1 x2 x3 x4 x5 x6 x7 x8 x9 x10 x11 x12 x13]
  rfl

/-- The rows after the merge. -/
theorem v84_at (R : Fin 16384) (e : Fin 1024) : val_main_v84 (F := Ideal) x0 x1 x2 x3 x4 x5 x6 x7 x8 x12 x13 (ix2 R e) = (args x0 x1 x2 x3 x4 x5 x6 x7 x8 x9 x10 x11 x12 x13).x1 R e := by
  pointwise [val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_cst_1, val_main_cst_2, val_main_cst_3, val_main_cst_4, val_main_cst_5]
  simp only [v56_at x0 x1 x2 x3 x4 x5 x6 x7 x8 x9 x10 x11 x12 x13, zero_add]
  rfl

/-- The queries, a head's at its columns. -/
theorem v91_at (b : Fin 2) (s : Fin 8192) (h : Fin 4) (d : Fin 256) : val_main_v91 (F := Ideal) x0 x1 x2 x3 x4 x5 x6 x7 x8 x10 x12 x13 (ix4 b s h d)
    = _root_.Merge.query ((args x0 x1 x2 x3 x4 x5 x6 x7 x8 x9 x10 x11 x12 x13).x1 (row b s)) (args x0 x1 x2 x3 x4 x5 x6 x7 x8 x9 x10 x11 x12 x13).wq ⟨256 * h.val + d.val, by omega⟩ := by
  have h88 : ∀ R e, val_main_v88 (F := Ideal) x0 x1 x2 x3 x4 x5 x6 x7 x8 x10 x12 x13 (ix2 R e) = ∑ d, (args x0 x1 x2 x3 x4 x5 x6 x7 x8 x9 x10 x11 x12 x13).x1 R d * (args x0 x1 x2 x3 x4 x5 x6 x7 x8 x9 x10 x11 x12 x13).wq d e := by
    intro R e
    pointwise [val_main_v85, val_main_v86, val_main_v87, val_main_v88]
    simp only [v84_at x0 x1 x2 x3 x4 x5 x6 x7 x8 x9 x10 x11 x12 x13]
    rfl
  pointwise [val_main_v89, val_main_v90, val_main_v91, val_main_cst_6]
  rw [h88]
  unfold _root_.Merge.query
  have e1 : h.val * 256 + d.val = 256 * h.val + d.val := by omega
  simp only [e1]
  rfl

theorem v94_at (b : Fin 2) (j : Fin 256) (h : Fin 4) (d : Fin 256) : val_main_v94 (F := Ideal) x9 (ix4 b j h d) = (args x0 x1 x2 x3 x4 x5 x6 x7 x8 x9 x10 x11 x12 x13).key b j ⟨256 * h.val + d.val, by omega⟩ := by
  pointwise [val_main_v94, val_main_v93, val_main_v92]
  unfold args _root_.Merge.Args.key
  congr 2
  all_goals (simp only [Fin.ext_iff]; omega)

theorem v97_at (b : Fin 2) (j : Fin 256) (h : Fin 4) (d : Fin 256) : val_main_v97 (F := Ideal) x9 (ix4 b j h d) = (args x0 x1 x2 x3 x4 x5 x6 x7 x8 x9 x10 x11 x12 x13).value b j ⟨256 * h.val + d.val, by omega⟩ := by
  pointwise [val_main_v97, val_main_v96, val_main_v95]
  unfold args _root_.Merge.Args.value
  congr 2
  all_goals (simp only [Fin.ext_iff]; omega)

theorem pos (b : Fin 2) (s : Fin 8192) : (⟨(row b s).val / 8192, by omega⟩ : Fin 2) = b :=
  Fin.ext (by show (b.val * 8192 + s.val) / 8192 = b.val; omega)

/-- The scores over the memory. -/
theorem v98_at (b : Fin 2) (h : Fin 4) (s : Fin 8192) (j : Fin 256) : val_main_v98 (F := Ideal) x0 x1 x2 x3 x4 x5 x6 x7 x8 x9 x10 x12 x13 (ix4 b h s j) = (args x0 x1 x2 x3 x4 x5 x6 x7 x8 x9 x10 x11 x12 x13).scores (row b s) h j := by
  pointwise [val_main_v98]
  simp only [v91_at x0 x1 x2 x3 x4 x5 x6 x7 x8 x9 x10 x11 x12 x13, v94_at x0 x1 x2 x3 x4 x5 x6 x7 x8 x9 x10 x11 x12 x13]
  unfold _root_.Merge.Args.scores _root_.Merge.score
  rw [pos]

/-- The maximum over the last axis. -/
theorem max_at (x : FVec Ideal S2x4x8192x256 .f32) (b : Fin 2) (h : Fin 4) (s : Fin 8192) :
    Host.reduce FloatOps.maximumf x (val_main_cst_7 (F := Ideal)) Gen.reducesTo_S2x4x8192x256_S2x4x8192_d3 Gen.h_S_ (ix3 b h s) = Finset.univ.fold max (⊥ : EReal) (fun j => x (ix4 b h s j)) := by
  have hr : S2x4x8192x256.Reduces [3] S2x4x8192 := by decide
  have e : x ∘ hr.lift (ix3 b h s) = fun j : Fin 256 => x (ix4 b h s j) := funext fun j => congrArg x (funext fun a => Fin.ext (by
    match a with | ⟨0, _⟩ => rfl | ⟨1, _⟩ => rfl | ⟨2, _⟩ => rfl | ⟨3, _⟩ => rfl))
  rw [Host.reduce_eq_fold_single FloatOps.maximumf x _ _ hr, e]
  exact congrArg (fun z => Finset.fold max z (fun j : Fin 256 => x (ix4 b h s j)) Finset.univ) _root_.Attn.ofBits_neg_inf

/-- The largest score. -/
theorem v101_at (b : Fin 2) (h : Fin 4) (s : Fin 8192) : val_main_v101 (F := Ideal) x0 x1 x2 x3 x4 x5 x6 x7 x8 x9 x10 x12 x13 (ix3 b h s)
    = Finset.univ.fold max ⊥ ((args x0 x1 x2 x3 x4 x5 x6 x7 x8 x9 x10 x11 x12 x13).scores (row b s) h) := by
  unfold val_main_v101 val_main_v99
  rw [maximumf_apply, max_at]
  refine (congrArg₂ max (?_ : _ = (⊥ : EReal)) ?_).trans (max_eq_right bot_le)
  · exact _root_.Attn.ofBits_neg_inf
  · exact congrArg (fun f => Finset.univ.fold max ⊥ f) (funext fun j => v98_at x0 x1 x2 x3 x4 x5 x6 x7 x8 x9 x10 x11 x12 x13 b h s j)

theorem v105_at (b : Fin 2) (h : Fin 4) (s : Fin 8192) (j : Fin 256) : val_main_v105 (F := Ideal) x0 x1 x2 x3 x4 x5 x6 x7 x8 x9 x10 x12 x13 (ix4 b h s j)
    = _root_.Merge.expo ((args x0 x1 x2 x3 x4 x5 x6 x7 x8 x9 x10 x11 x12 x13).scores (row b s) h) j := by
  pointwise [val_main_v102, val_main_v103, val_main_v104, val_main_v105]
  rw [v98_at x0 x1 x2 x3 x4 x5 x6 x7 x8 x9 x10 x11 x12 x13, v101_at x0 x1 x2 x3 x4 x5 x6 x7 x8 x9 x10 x11 x12 x13]
  rfl

/-- The softmax of the scores. -/
theorem v109_at (b : Fin 2) (h : Fin 4) (s : Fin 8192) (j : Fin 256) : val_main_v109 (F := Ideal) x0 x1 x2 x3 x4 x5 x6 x7 x8 x9 x10 x12 x13 (ix4 b h s j)
    = Ideal.div (_root_.Merge.expo ((args x0 x1 x2 x3 x4 x5 x6 x7 x8 x9 x10 x11 x12 x13).scores (row b s) h) j) (∑ j, _root_.Merge.expo ((args x0 x1 x2 x3 x4 x5 x6 x7 x8 x9 x10 x11 x12 x13).scores (row b s) h) j) := by
  pointwise [val_main_v106, val_main_v107, val_main_v108, val_main_v109, val_main_cst_9]
  simp only [v105_at x0 x1 x2 x3 x4 x5 x6 x7 x8 x9 x10 x11 x12 x13, zero_add]

/-- What a row reads from the memory. -/
theorem v112_at (R : Fin 16384) (e : Fin 1024) : val_main_v112 (F := Ideal) x0 x1 x2 x3 x4 x5 x6 x7 x8 x9 x10 x12 x13 (ix2 R e)
    = _root_.Merge.weighted ((args x0 x1 x2 x3 x4 x5 x6 x7 x8 x9 x10 x11 x12 x13).scores R ⟨e.val / 256, by omega⟩) (fun j => (args x0 x1 x2 x3 x4 x5 x6 x7 x8 x9 x10 x11 x12 x13).value ⟨R.val / 8192, by omega⟩ j e) := by
  have h111 : ∀ (b : Fin 2) (s : Fin 8192) (h : Fin 4) (d : Fin 256), val_main_v111 (F := Ideal) x0 x1 x2 x3 x4 x5 x6 x7 x8 x9 x10 x12 x13 (ix4 b s h d)
      = _root_.Merge.weighted ((args x0 x1 x2 x3 x4 x5 x6 x7 x8 x9 x10 x11 x12 x13).scores (row b s) h) (fun j => (args x0 x1 x2 x3 x4 x5 x6 x7 x8 x9 x10 x11 x12 x13).value b j ⟨256 * h.val + d.val, by omega⟩) := by
    intro b s h d
    pointwise [val_main_v110, val_main_v111]
    simp only [v109_at x0 x1 x2 x3 x4 x5 x6 x7 x8 x9 x10 x11 x12 x13, v97_at x0 x1 x2 x3 x4 x5 x6 x7 x8 x9 x10 x11 x12 x13]
    rfl
  pointwise [val_main_v112]
  refine (h111 _ _ _ _).trans ?_
  have e1 : row ⟨R.val / 8192, by omega⟩ ⟨R.val % 8192, by omega⟩ = R := row_split R
  have e2 : (⟨256 * (e.val / 256) + e.val % 256, by omega⟩ : Fin 1024) = e := Fin.ext (by show 256 * (e.val / 256) + e.val % 256 = e.val; omega)
  rw [e1]
  exact congrArg (_root_.Merge.weighted _) (funext fun j => congrArg ((args x0 x1 x2 x3 x4 x5 x6 x7 x8 x9 x10 x11 x12 x13).value _ j) e2)

theorem v119_at (R : Fin 16384) (e : Fin 1024) (h : (args x0 x1 x2 x3 x4 x5 x6 x7 x8 x9 x10 x11 x12 x13).Finite) : val_main_v119 (F := Ideal) x0 x1 x2 x3 x4 x5 x6 x7 x8 x9 x10 x11 x12 x13 (ix2 R e) = _root_.Merge.residual ((args x0 x1 x2 x3 x4 x5 x6 x7 x8 x9 x10 x11 x12 x13).x1 R) ((args x0 x1 x2 x3 x4 x5 x6 x7 x8 x9 x10 x11 x12 x13).att R) (args x0 x1 x2 x3 x4 x5 x6 x7 x8 x9 x10 x11 x12 x13).wo e := by
  pointwise [val_main_v113, val_main_v114, val_main_v115, val_main_v116, val_main_v117, val_main_v118, val_main_v119, val_main_cst_10]
  simp only [v84_at x0 x1 x2 x3 x4 x5 x6 x7 x8 x9 x10 x11 x12 x13, v112_at x0 x1 x2 x3 x4 x5 x6 x7 x8 x9 x10 x11 x12 x13, h.att]
  rfl

/-- The reference's result. -/
theorem result_at (h : (args x0 x1 x2 x3 x4 x5 x6 x7 x8 x9 x10 x11 x12 x13).Finite) (R : Fin 16384) (e : Fin 1024) : val_main_v147 (F := Ideal) x0 x1 x2 x3 x4 x5 x6 x7 x8 x9 x10 x11 x12 x13 (ix2 R e) = (args x0 x1 x2 x3 x4 x5 x6 x7 x8 x9 x10 x11 x12 x13).out R e := by
  pointwise [val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_cst_11, val_main_cst_12, val_main_cst_13, val_main_cst_14, val_main_cst_15]
  simp only [fun R e => v119_at x0 x1 x2 x3 x4 x5 x6 x7 x8 x9 x10 x11 x12 x13 R e h, zero_add]
  rfl

end Cert.Reference7Ideal.Merge
-- ==== Proof.Merge.Run.lean ====
/- The claims of the merge and memory attention call: its frames and its value at the reals. -/
module

public import proofs.«01_k».proof.Defs
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Merge.Output
public import proofs.«01_k».proof.Proof.Merge.Ref
public import Idealize.ShloMosaic.Lib.Claim
public import Idealize.ShloMosaic.Adequacy
public import Idealize.ShloMosaic.Init

@[expose] public section

noncomputable section

namespace Cert.Proof.Merge

open Idealize.ShloMosaic Idealize.ShloMosaic.TcCoe Idealize.ShloMosaic.Tactic Idealize.SL.Sem

set_option maxHeartbeats 4000000 in
/-- The printed merge body table is the idealized one: no operation was rewritten. -/
theorem bodies_eq : Kernel7.defs₀ (F := Bits) = Kernel7Ideal.defs₀ (F := Bits) := by
  unfold Kernel7.defs₀ Kernel7Ideal.defs₀
  refine congrArg _ (funext fun l => funext fun x => ?_)
  match l, x with
  | 0, (t, s) => rfl
  | ⟨_ + 1, h⟩, _ => exact absurd h (Nat.not_lt.2 (Nat.le_add_left _ _))

/-- The printed table of all bodies of the merge program is the idealized one. -/
theorem defs_eq : Kernel7.defs (F := Bits) = Kernel7Ideal.defs (F := Bits) :=
  congrArg (Pipeline.defs (Kernel7.pcfgs (F := Bits))) bodies_eq

/-- The printed merge call's frame, from the frame over any floats. -/
theorem frame_kernel : Cert.quiescent_Kernel7 := by
  intro m ρ _
  rw [defs_eq]
  exact Cert.Kernel7Ideal.Gen.frame (F := Bits) m ρ

/-- The idealized merge call's frame. -/
theorem frame_kernelIdeal : Cert.quiescent_Kernel7Ideal := fun m ρ _ => Cert.Kernel7Ideal.Gen.frame (F := Ideal) m ρ

/-- The frame of the merge reference, from its run. -/
theorem frame_referenceIdeal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The precondition, read at its elements: the arguments the scores are computed from are reals. -/
theorem finite_of_pre (m : (ℓ : Loc Kernel7Ideal.nD Kernel7Ideal.τ Kernel7Ideal.sig) → Buf (Elt Ideal) ℓ) (h : Cert.Pre_Kernel7Ideal_finite7 m)
    (c : Dev Kernel7Ideal.nD) : (Cert.Kernel7Ideal.Merge.args m c).Finite := by
  obtain ⟨h0, h1, h2, h3, h4, h5, h6, h7, h8, h9, h10, h11, h12⟩ := h c
  refine ⟨?_, ?_, ?_, ?_, ?_, ?_, ?_, ?_, ?_, ?_, ?_, ?_, ?_⟩
  · intro R e
    exact _root_.Merge.real_of_lt_top _root_.Attn.ofBits_inf (congrFun h0 (ix2 R e))
  · intro R e
    exact _root_.Merge.real_of_lt_top _root_.Attn.ofBits_inf_bf16 (congrFun h1 (ix2 R e))
  · intro R e
    exact _root_.Merge.real_of_lt_top _root_.Attn.ofBits_inf_bf16 (congrFun h2 (ix2 R e))
  · intro R e
    exact _root_.Merge.real_of_lt_top _root_.Attn.ofBits_inf_bf16 (congrFun h3 (ix2 R e))
  · intro R e
    exact _root_.Merge.real_of_lt_top _root_.Attn.ofBits_inf_bf16 (congrFun h4 (ix2 R e))
  · intro R e
    exact _root_.Merge.real_of_lt_top _root_.Attn.ofBits_inf_bf16 (congrFun h5 (ix2 R e))
  · intro k f
    have e' := congrFun h6 (ix2 k f)
    pointwise [Cert.Pre_finite7.fn, Cert.Pre_finite7.fn_part1, Cert.Pre_finite7.fn_part2] at e'
    exact _root_.Merge.real_of_lt_top _root_.Attn.ofBits_inf e'
  · intro k f e
    have e' := congrFun h7 (ix3 k f e)
    pointwise [Cert.Pre_finite7.fn, Cert.Pre_finite7.fn_part1, Cert.Pre_finite7.fn_part2] at e'
    exact _root_.Merge.real_of_lt_top _root_.Attn.ofBits_inf_bf16 e'
  · intro d e
    have e' := congrFun h8 (ix2 d e)
    pointwise [Cert.Pre_finite7.fn, Cert.Pre_finite7.fn_part1, Cert.Pre_finite7.fn_part2] at e'
    exact _root_.Merge.real_of_lt_top _root_.Attn.ofBits_inf_bf16 e'
  · intro R e
    have e' := congrFun h9 (ix2 R e)
    pointwise [Cert.Pre_finite7.fn, Cert.Pre_finite7.fn_part1, Cert.Pre_finite7.fn_part2] at e'
    exact _root_.Merge.real_of_lt_top _root_.Attn.ofBits_inf_bf16 e'
  · intro d e
    have e' := congrFun h10 (ix2 d e)
    pointwise [Cert.Pre_finite7.fn, Cert.Pre_finite7.fn_part1, Cert.Pre_finite7.fn_part2] at e'
    exact _root_.Merge.real_of_lt_top _root_.Attn.ofBits_inf_bf16 e'
  · intro e
    have e' := congrFun h11 (ix1 e)
    pointwise [Cert.Pre_finite7.fn, Cert.Pre_finite7.fn_part1, Cert.Pre_finite7.fn_part2] at e'
    exact _root_.Merge.real_of_lt_top _root_.Attn.ofBits_inf e'
  · intro e
    have e' := congrFun h12 (ix1 e)
    pointwise [Cert.Pre_finite7.fn, Cert.Pre_finite7.fn_part1, Cert.Pre_finite7.fn_part2] at e'
    exact _root_.Merge.real_of_lt_top _root_.Attn.ofBits_inf e'

/-- The reference's last value, as one array: the merge layer of its rows. -/
theorem reference_eq (x0 : FVec Ideal Reference7Ideal.S16384x1024 .f32) (x1 x2 x3 x4 : FVec Ideal Reference7Ideal.S16384x512 .bf16)
    (x5 : FVec Ideal Reference7Ideal.S16384x3072 .bf16) (x6 : FVec Ideal Reference7Ideal.S2x3x512 .f32) (x7 : FVec Ideal Reference7Ideal.S2x3x512x1024 .bf16)
    (x8 : FVec Ideal Reference7Ideal.S2x1024x1024 .bf16) (x9 : FVec Ideal Reference7Ideal.S512x2048 .bf16) (x10 x11 : FVec Ideal Reference7Ideal.S2x1024x1024 .bf16)
    (x12 x13 : FVec Ideal Reference7Ideal.S2x3x1024 .f32) (h : (Cert.Reference7Ideal.Merge.args x0 x1 x2 x3 x4 x5 x6 x7 x8 x9 x10 x11 x12 x13).Finite) :
    Cert.Reference7Ideal.Read.val_main_v147 (F := Ideal) x0 x1 x2 x3 x4 x5 x6 x7 x8 x9 x10 x11 x12 x13 = fun j => (Cert.Reference7Ideal.Merge.args x0 x1 x2 x3 x4 x5 x6 x7 x8 x9 x10 x11 x12 x13).out (j 0) (j 1) := by
  funext j
  idx_vars j
  exact Cert.Reference7Ideal.Merge.result_at x0 x1 x2 x3 x4 x5 x6 x7 x8 x9 x10 x11 x12 x13 h _ _

/-- At the reals the merge call computes the reference's result. -/
theorem algebraic : Cert.algebraic_Kernel7Ideal_Reference7Ideal_pre_finite7 := by
  intro m g m' g' hpre hagree
  refine ⟨Cert.Kernel7Ideal.Merge.want m, ?_, ?_⟩
  · run_from (Cert.Kernel7Ideal.Value.run_blocks m g)
    exact Cert.Kernel7Ideal.Merge.array m c
  · refine (θ_run _ _ _).mono (fun _ h c => ⟨(h c).1.trans ?_, (h c).2⟩) (Cert.Reference7Ideal.Value.run m' g')
    obtain ⟨h0, h1, h2, h3, h4, h5, h6, h7, h8, h9, h10, h11, h12, h13⟩ := hagree c
    have hf : (Cert.Reference7Ideal.Merge.args (m' ((c.tc : Thread Reference7Ideal.nD Reference7Ideal.τ).loc Reference7Ideal.main_arg0)) (m' ((c.tc : Thread Reference7Ideal.nD Reference7Ideal.τ).loc Reference7Ideal.main_arg1)) (m' ((c.tc : Thread Reference7Ideal.nD Reference7Ideal.τ).loc Reference7Ideal.main_arg2)) (m' ((c.tc : Thread Reference7Ideal.nD Reference7Ideal.τ).loc Reference7Ideal.main_arg3)) (m' ((c.tc : Thread Reference7Ideal.nD Reference7Ideal.τ).loc Reference7Ideal.main_arg4)) (m' ((c.tc : Thread Reference7Ideal.nD Reference7Ideal.τ).loc Reference7Ideal.main_arg5)) (m' ((c.tc : Thread Reference7Ideal.nD Reference7Ideal.τ).loc Reference7Ideal.main_arg6)) (m' ((c.tc : Thread Reference7Ideal.nD Reference7Ideal.τ).loc Reference7Ideal.main_arg7)) (m' ((c.tc : Thread Reference7Ideal.nD Reference7Ideal.τ).loc Reference7Ideal.main_arg8)) (m' ((c.tc : Thread Reference7Ideal.nD Reference7Ideal.τ).loc Reference7Ideal.main_arg9)) (m' ((c.tc : Thread Reference7Ideal.nD Reference7Ideal.τ).loc Reference7Ideal.main_arg10)) (m' ((c.tc : Thread Reference7Ideal.nD Reference7Ideal.τ).loc Reference7Ideal.main_arg11)) (m' ((c.tc : Thread Reference7Ideal.nD Reference7Ideal.τ).loc Reference7Ideal.main_arg12)) (m' ((c.tc : Thread Reference7Ideal.nD Reference7Ideal.τ).loc Reference7Ideal.main_arg13))).Finite := by
      rw [h0, h1, h2, h3, h4, h5, h6, h7, h8, h9, h10, h11, h12, h13]
      exact finite_of_pre m hpre c
    rw [Cert.Reference7Ideal.Read.val_main_v147_eq]
    refine (reference_eq (m' ((c.tc : Thread Reference7Ideal.nD Reference7Ideal.τ).loc Reference7Ideal.main_arg0)) (m' ((c.tc : Thread Reference7Ideal.nD Reference7Ideal.τ).loc Reference7Ideal.main_arg1)) (m' ((c.tc : Thread Reference7Ideal.nD Reference7Ideal.τ).loc Reference7Ideal.main_arg2)) (m' ((c.tc : Thread Reference7Ideal.nD Reference7Ideal.τ).loc Reference7Ideal.main_arg3)) (m' ((c.tc : Thread Reference7Ideal.nD Reference7Ideal.τ).loc Reference7Ideal.main_arg4)) (m' ((c.tc : Thread Reference7Ideal.nD Reference7Ideal.τ).loc Reference7Ideal.main_arg5)) (m' ((c.tc : Thread Reference7Ideal.nD Reference7Ideal.τ).loc Reference7Ideal.main_arg6)) (m' ((c.tc : Thread Reference7Ideal.nD Reference7Ideal.τ).loc Reference7Ideal.main_arg7)) (m' ((c.tc : Thread Reference7Ideal.nD Reference7Ideal.τ).loc Reference7Ideal.main_arg8)) (m' ((c.tc : Thread Reference7Ideal.nD Reference7Ideal.τ).loc Reference7Ideal.main_arg9)) (m' ((c.tc : Thread Reference7Ideal.nD Reference7Ideal.τ).loc Reference7Ideal.main_arg10)) (m' ((c.tc : Thread Reference7Ideal.nD Reference7Ideal.τ).loc Reference7Ideal.main_arg11)) (m' ((c.tc : Thread Reference7Ideal.nD Reference7Ideal.τ).loc Reference7Ideal.main_arg12)) (m' ((c.tc : Thread Reference7Ideal.nD Reference7Ideal.τ).loc Reference7Ideal.main_arg13)) hf).trans ?_
    rw [h0, h1, h2, h3, h4, h5, h6, h7, h8, h9, h10, h11, h12, h13]
    rfl

end Cert.Proof.Merge

end
-- ==== Proof.Merge1.Output.lean ====
module

public import proofs.«01_k».proof.Proof.Merge.Point
public import proofs.«01_k».proof.Proof.Gen.Kernel8Ideal
public import proofs.«01_k».proof.Proof.Gen.Kernel8Ideal.Frame
public import proofs.«01_k».proof.Proof.Gen.Kernel8Ideal.Value

@[expose] public section

set_option maxRecDepth 16384

noncomputable section

namespace Cert.Kernel8Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

/-! # The blocks of a grid point are rows of the arrays; the result array -/

/-- The blocks of a point's own rows. -/
theorem idx (t : Fin cfg0.N) : win0_0.index t = ![t.val, 0] ∧ win0_1.index t = ![t.val, 0] ∧ win0_2.index t = ![t.val, 0] ∧ win0_3.index t = ![t.val, 0]
      ∧ win0_4.index t = ![t.val, 0] ∧ win0_7.index t = ![t.val, 0] ∧ win0_17.index t = ![t.val, 0] := by
  revert t; decide +kernel

/-- The sixteen rows that end before a point's rows and begin after them, and the memory of its sequence. -/
theorem idxB (t : Fin cfg0.N) : win0_5.index t = ![32 * t.val - 1, 0] ∧ win0_6.index t = ![min (32 * t.val + 32) 1023, 0]
      ∧ win0_11.index t = ![t.val / 16, 0] ∧ win0_12.index t = ![t.val / 16, 1] := by
  revert t; decide +kernel

/-- The weights' blocks are those of the layer at every point. -/
theorem idxP (t : Fin cfg0.N) : win0_8.index t = ![1, 0, 0] ∧ win0_9.index t = ![1, 0, 0, 0] ∧ win0_10.index t = ![1, 0, 0] ∧ win0_13.index t = ![1, 0, 0]
      ∧ win0_14.index t = ![1, 0, 0] ∧ win0_15.index t = ![1, 0, 0] ∧ win0_16.index t = ![1, 0, 0] := by
  revert t; decide +kernel

variable (m : (ℓ : Loc nD τ sig) → Buf (Elt Ideal) ℓ)

/-- The layer's arguments. -/
def args (c : Dev nD) : _root_.Merge.Args where
  x R e := m ((c.tc : Thread nD τ).loc main_arg0) (ix2 R e)
  ya R f := m ((c.tc : Thread nD τ).loc main_arg1) (ix2 R f)
  yb R f := m ((c.tc : Thread nD τ).loc main_arg2) (ix2 R f)
  gb R f := m ((c.tc : Thread nD τ).loc main_arg3) (ix2 R f)
  u R f := m ((c.tc : Thread nD τ).loc main_arg4) (ix2 R f)
  gates R e := m ((c.tc : Thread nD τ).loc main_arg5) (ix2 R e)
  cw k f := m ((c.tc : Thread nD τ).loc main_arg6) (ix3 1 k f)
  wb k f e := m ((c.tc : Thread nD τ).loc main_arg7) (ix4 1 k f e)
  wm d e := m ((c.tc : Thread nD τ).loc main_arg8) (ix3 1 d e)
  kv j e := m ((c.tc : Thread nD τ).loc main_arg9) (ix2 j e)
  wq d e := m ((c.tc : Thread nD τ).loc main_arg10) (ix3 1 d e)
  wo d e := m ((c.tc : Thread nD τ).loc main_arg11) (ix3 1 d e)
  g k e := m ((c.tc : Thread nD τ).loc main_arg12) (ix3 1 k e)
  b k e := m ((c.tc : Thread nD τ).loc main_arg13) (ix3 1 k e)

variable (c : Dev nD) (t : Fin cfg0.N)

/-- The blocks of a grid point. -/
def blocks : Kernel7Ideal.Merge.Blocks Ideal := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

set_option maxHeartbeats 4000000 in
/-- They hold the rows the point needs. -/
theorem reads : Kernel7Ideal.Merge.Reads (args m c) t (blocks m c t) where
  x0 r e := by
    show iblk m c 0 t (ix2 r e) = _
    unfold args
    blk_ext [iblk, V, idx t]
  x1 r e := by
    show iblk m c 1 t (ix2 r e) = _
    unfold args
    blk_ext [iblk, V, idx t]
  x2 r e := by
    show iblk m c 2 t (ix2 r e) = _
    unfold args
    blk_ext [iblk, V, idx t]
  x3 r e := by
    show iblk m c 3 t (ix2 r e) = _
    unfold args
    blk_ext [iblk, V, idx t]
  x4 r e := by
    show iblk m c 4 t (ix2 r e) = _
    unfold args
    blk_ext [iblk, V, idx t]
  x5 ht f := by
    have := Kernel7Ideal.Merge.pt_lt t
    show iblk m c 5 t (ix2 15 f) = _
    unfold args
    blk_ext [iblk, V, idxB t]
  x6 ht f := by
    have := Kernel7Ideal.Merge.pt_lt t
    show iblk m c 6 t (ix2 0 f) = _
    unfold args
    blk_ext [iblk, V, idxB t]
  x7 r e := by
    show iblk m c 7 t (ix2 r e) = _
    unfold args
    blk_ext [iblk, V, idx t]
  x8 k f := by
    show iblk m c 8 t (ix3 0 k f) = _
    unfold args
    blk_ext [iblk, V, idxP t]
  x9 k f e := by
    show iblk m c 9 t (ix4 0 k f e) = _
    unfold args
    blk_ext [iblk, V, idxP t]
  x10 d e := by
    show iblk m c 10 t (ix3 0 d e) = _
    unfold args
    blk_ext [iblk, V, idxP t]
  x11 j e := by
    have := Kernel7Ideal.Merge.pt_lt t
    show iblk m c 11 t (ix2 j e) = _
    unfold args _root_.Merge.Args.key
    blk_ext [iblk, V, idxB t]
  x12 j e := by
    have := Kernel7Ideal.Merge.pt_lt t
    show iblk m c 12 t (ix2 j e) = _
    unfold args _root_.Merge.Args.value
    blk_ext [iblk, V, idxB t]
  x13 d e := by
    show iblk m c 13 t (ix3 0 d e) = _
    unfold args
    blk_ext [iblk, V, idxP t]
  x14 d e := by
    show iblk m c 14 t (ix3 0 d e) = _
    unfold args
    blk_ext [iblk, V, idxP t]
  x15 k e := by
    show iblk m c 15 t (ix3 0 k e) = _
    unfold args
    blk_ext [iblk, V, idxP t]
  x16 k e := by
    show iblk m c 16 t (ix3 0 k e) = _
    unfold args
    blk_ext [iblk, V, idxP t]

/-- The layer's result for the kernel's arguments. -/
def want : Vec Ideal S16384x1024 .f32 := fun j => (args m c).out (j 0) (j 1)

set_option maxHeartbeats 4000000 in
/-- The body of this layer's call computes what the first layer's does, of its own blocks. -/
theorem out_same : @out0_17 Ideal _ = @Kernel7Ideal.Gen.out0_17 Ideal _ := rfl

/-- After the run the result array is the layer's result. -/
theorem array : (dats m 0 c).arrAt 17 cfg0.N = want m c := by
  refine (dats m 0 c).arrAt_eq_of_covers 17 _ (by decide +kernel) fun t hf y => ?_
  blk_simp
  change S512x1024.Idx at y
  idx_vars y
  rw [after0_17, out_same]
  refine (Kernel7Ideal.Merge.out_at (reads m c t) y0 y1).trans ?_
  show want m c (ix2 ⟨512 * t.val + y0.val, Kernel7Ideal.Merge.row_lt t y0⟩ y1) = _
  blk_ext [idx t]

end Cert.Kernel8Ideal.Merge
-- ==== Proof.Merge1.Ref.lean ====
module

public import proofs.«01_k».proof.Proof.Gen.Reference8Ideal.Read
public import proofs.«01_k».proof.Proof.Merge.Spec
public import Idealize.ShloMosaic.Lib.Pointwise

@[expose] public section

set_option maxRecDepth 16384

noncomputable section

namespace Cert.Reference8Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference8Ideal.Read

variable (x0 : FVec Ideal S16384x1024 .f32) (x1 x2 x3 x4 : FVec Ideal S16384x512 .bf16) (x5 : FVec Ideal S16384x3072 .bf16) (x6 : FVec Ideal S2x3x512 .f32)
  (x7 : FVec Ideal S2x3x512x1024 .bf16) (x8 : FVec Ideal S2x1024x1024 .bf16) (x9 : FVec Ideal S512x2048 .bf16) (x10 x11 : FVec Ideal S2x1024x1024 .bf16)
  (x12 x13 : FVec Ideal S2x3x1024 .f32)

/-- The layer's arguments. -/
def args : _root_.Merge.Args where
  x R e := x0 (ix2 R e)
  ya R f := x1 (ix2 R f)
  yb R f := x2 (ix2 R f)
  gb R f := x3 (ix2 R f)
  u R f := x4 (ix2 R f)
  gates R e := x5 (ix2 R e)
  cw k f := x6 (ix3 1 k f)
  wb k f e := x7 (ix4 1 k f e)
  wm d e := x8 (ix3 1 d e)
  kv j e := x9 (ix2 j e)
  wq d e := x10 (ix3 1 d e)
  wo d e := x11 (ix3 1 d e)
  g k e := x12 (ix3 1 k e)
  b k e := x13 (ix3 1 k e)

/-- Row `s` of sequence `b`. -/
def row (b : Fin 2) (s : Fin 8192) : Fin 16384 := ⟨b.val * 8192 + s.val, by omega⟩

theorem row_split (R : Fin 16384) : row ⟨R.val / 8192, by omega⟩ ⟨R.val % 8192, by omega⟩ = R :=
  Fin.ext (by show R.val / 8192 * 8192 + R.val % 8192 = R.val; omega)

theorem v1_at (b : Fin 2) (s : Fin 8192) (f : Fin 512) : val_main_v1 (F := Ideal) x4 (ix3 b s f) = x4 (ix2 (row b s) f) := by
  pointwise [val_main_v1, val_main_v0]
  rfl

theorem cst_at : val_main_cst (F := Ideal) ix0 = 0 := by
  pointwise [val_main_cst]

/-- The row before, zero at a sequence's first row. -/
theorem v5_at (b : Fin 2) (s : Fin 8192) (f : Fin 512) : val_main_v5 (F := Ideal) x4 (ix3 b s f)
    = if (row b s).val % 8192 = 0 then 0 else x4 (ix2 ⟨(row b s).val - 1, by omega⟩ f) := by
  have hr : (row b s).val = b.val * 8192 + s.val := rfl
  pointwise [val_main_v5, val_main_v4, val_main_v3]
  rw [cst_at]
  by_cases h : s.val < 1
  · exact (dif_pos h).trans (if_pos (show (row b s).val % 8192 = 0 by omega)).symm
  · have hs := s.isLt
    refine ((dif_neg h).trans (v1_at _ _ _ _)).trans (Eq.trans ?_ (if_neg (show ¬ (row b s).val % 8192 = 0 by omega)).symm)
    refine congrArg (fun R => x4 (ix2 R f)) (Fin.ext ?_)
    show b.val * 8192 + (s.val - 1) = b.val * 8192 + s.val - 1
    omega

/-- The row after, zero at a sequence's last row. -/
theorem v7_at (b : Fin 2) (s : Fin 8192) (f : Fin 512) : val_main_v7 (F := Ideal) x4 (ix3 b s f)
    = if h : (row b s).val % 8192 = 8191 then 0 else x4 (ix2 ⟨(row b s).val + 1, by omega⟩ f) := by
  have hr : (row b s).val = b.val * 8192 + s.val := rfl
  pointwise [val_main_v7, val_main_v6, val_main_v3]
  rw [cst_at]
  by_cases h : s.val < 8191
  · refine ((dif_pos h).trans (v1_at _ _ _ _)).trans (Eq.trans ?_ (dif_neg (show ¬ (row b s).val % 8192 = 8191 by omega)).symm)
    refine congrArg (fun R => x4 (ix2 R f)) (Fin.ext ?_)
    show b.val * 8192 + (1 + s.val) = b.val * 8192 + s.val + 1
    omega
  · refine (dif_neg h).trans ?_
    rw [dif_pos (show (row b s).val % 8192 = 8191 by omega)]

/-- A row between its neighbours. -/
theorem near (R : Fin 16384) (f : Fin 512) (b : Fin 2) (s : Fin 8192) (h : row b s = R) :
    val_main_v5 (F := Ideal) x4 (ix3 b s f) = (if R.val % 8192 = 0 then 0 else x4 (ix2 ⟨R.val - 1, by omega⟩ f))
    ∧ val_main_v1 (F := Ideal) x4 (ix3 b s f) = x4 (ix2 R f)
    ∧ val_main_v7 (F := Ideal) x4 (ix3 b s f) = (if h : R.val % 8192 = 8191 then 0 else x4 (ix2 ⟨R.val + 1, by omega⟩ f)) := by
  subst h
  exact ⟨v5_at x4 b s f, v1_at x4 b s f, v7_at x4 b s f⟩

/-- The third branch. -/
theorem v27_at (R : Fin 16384) (f : Fin 512) : val_main_v27 (F := Ideal) x3 x4 x6 (ix2 R f) = (args x0 x1 x2 x3 x4 x5 x6 x7 x8 x9 x10 x11 x12 x13).yt R f := by
  have h24 : ∀ b s, val_main_v24 (F := Ideal) x4 x6 (ix3 b s f) = val_main_v5 (F := Ideal) x4 (ix3 b s f) * x6 (ix3 1 0 f)
      + val_main_v1 (F := Ideal) x4 (ix3 b s f) * x6 (ix3 1 1 f) + val_main_v7 (F := Ideal) x4 (ix3 b s f) * x6 (ix3 1 2 f) := by
    intro b s
    pointwise [val_main_v8, val_main_v9, val_main_v10, val_main_v11, val_main_v12, val_main_v13, val_main_v14, val_main_v15, val_main_v16, val_main_v17, val_main_v18, val_main_v19, val_main_v20, val_main_v21, val_main_v22, val_main_v23, val_main_v24]
  pointwise [val_main_v27, val_main_v26, val_main_v25]
  obtain ⟨e5, e1, e7⟩ := near x4 R f _ _ (row_split R)
  rw [h24, e5, e1, e7]
  rfl

/-- The merged branches. -/
theorem v49_at (R : Fin 16384) (e : Fin 1024) : val_main_v49 (F := Ideal) x1 x2 x3 x4 x5 x6 x7 (ix2 R e) = (args x0 x1 x2 x3 x4 x5 x6 x7 x8 x9 x10 x11 x12 x13).mix R e := by
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v2]
  simp only [v27_at x0 x1 x2 x3 x4 x5 x6 x7 x8 x9 x10 x11 x12 x13]
  rfl

theorem v56_at (R : Fin 16384) (e : Fin 1024) : val_main_v56 (F := Ideal) x0 x1 x2 x3 x4 x5 x6 x7 x8 (ix2 R e) = _root_.Merge.residual ((args x0 x1 x2 x3 x4 x5 x6 x7 x8 x9 x10 x11 x12 x13).x R) ((args x0 x1 x2 x3 x4 x5 x6 x7 x8 x9 x10 x11 x12 x13).mix R) (args x0 x1 x2 x3 x4 x5 x6 x7 x8 x9 x10 x11 x12 x13).wm e := by
  pointwise [val_main_v50, val_main_v51, val_main_v52, val_main_v53, val_main_v54, val_main_v55, val_main_v56, val_main_cst_0]
  simp only [v49_at x0 x1 x2 x3 x4 x5 x6 x7 x8 x9 x10 x11 x12 x13]
  rfl

/-- The rows after the merge. -/
theorem v84_at (R : Fin 16384) (e : Fin 1024) : val_main_v84 (F := Ideal) x0 x1 x2 x3 x4 x5 x6 x7 x8 x12 x13 (ix2 R e) = (args x0 x1 x2 x3 x4 x5 x6 x7 x8 x9 x10 x11 x12 x13).x1 R e := by
  pointwise [val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_cst_1, val_main_cst_2, val_main_cst_3, val_main_cst_4, val_main_cst_5]
  simp only [v56_at x0 x1 x2 x3 x4 x5 x6 x7 x8 x9 x10 x11 x12 x13, zero_add]
  rfl

/-- The queries, a head's at its columns. -/
theorem v91_at (b : Fin 2) (s : Fin 8192) (h : Fin 4) (d : Fin 256) : val_main_v91 (F := Ideal) x0 x1 x2 x3 x4 x5 x6 x7 x8 x10 x12 x13 (ix4 b s h d)
    = _root_.Merge.query ((args x0 x1 x2 x3 x4 x5 x6 x7 x8 x9 x10 x11 x12 x13).x1 (row b s)) (args x0 x1 x2 x3 x4 x5 x6 x7 x8 x9 x10 x11 x12 x13).wq ⟨256 * h.val + d.val, by omega⟩ := by
  have h88 : ∀ R e, val_main_v88 (F := Ideal) x0 x1 x2 x3 x4 x5 x6 x7 x8 x10 x12 x13 (ix2 R e) = ∑ d, (args x0 x1 x2 x3 x4 x5 x6 x7 x8 x9 x10 x11 x12 x13).x1 R d * (args x0 x1 x2 x3 x4 x5 x6 x7 x8 x9 x10 x11 x12 x13).wq d e := by
    intro R e
    pointwise [val_main_v85, val_main_v86, val_main_v87, val_main_v88]
    simp only [v84_at x0 x1 x2 x3 x4 x5 x6 x7 x8 x9 x10 x11 x12 x13]
    rfl
  pointwise [val_main_v89, val_main_v90, val_main_v91, val_main_cst_6]
  rw [h88]
  unfold _root_.Merge.query
  have e1 : h.val * 256 + d.val = 256 * h.val + d.val := by omega
  simp only [e1]
  rfl

theorem v94_at (b : Fin 2) (j : Fin 256) (h : Fin 4) (d : Fin 256) : val_main_v94 (F := Ideal) x9 (ix4 b j h d) = (args x0 x1 x2 x3 x4 x5 x6 x7 x8 x9 x10 x11 x12 x13).key b j ⟨256 * h.val + d.val, by omega⟩ := by
  pointwise [val_main_v94, val_main_v93, val_main_v92]
  unfold args _root_.Merge.Args.key
  congr 2
  all_goals (simp only [Fin.ext_iff]; omega)

theorem v97_at (b : Fin 2) (j : Fin 256) (h : Fin 4) (d : Fin 256) : val_main_v97 (F := Ideal) x9 (ix4 b j h d) = (args x0 x1 x2 x3 x4 x5 x6 x7 x8 x9 x10 x11 x12 x13).value b j ⟨256 * h.val + d.val, by omega⟩ := by
  pointwise [val_main_v97, val_main_v96, val_main_v95]
  unfold args _root_.Merge.Args.value
  congr 2
  all_goals (simp only [Fin.ext_iff]; omega)

theorem pos (b : Fin 2) (s : Fin 8192) : (⟨(row b s).val / 8192, by omega⟩ : Fin 2) = b :=
  Fin.ext (by show (b.val * 8192 + s.val) / 8192 = b.val; omega)

/-- The scores over the memory. -/
theorem v98_at (b : Fin 2) (h : Fin 4) (s : Fin 8192) (j : Fin 256) : val_main_v98 (F := Ideal) x0 x1 x2 x3 x4 x5 x6 x7 x8 x9 x10 x12 x13 (ix4 b h s j) = (args x0 x1 x2 x3 x4 x5 x6 x7 x8 x9 x10 x11 x12 x13).scores (row b s) h j := by
  pointwise [val_main_v98]
  simp only [v91_at x0 x1 x2 x3 x4 x5 x6 x7 x8 x9 x10 x11 x12 x13, v94_at x0 x1 x2 x3 x4 x5 x6 x7 x8 x9 x10 x11 x12 x13]
  unfold _root_.Merge.Args.scores _root_.Merge.score
  rw [pos]

/-- The maximum over the last axis. -/
theorem max_at (x : FVec Ideal S2x4x8192x256 .f32) (b : Fin 2) (h : Fin 4) (s : Fin 8192) :
    Host.reduce FloatOps.maximumf x (val_main_cst_7 (F := Ideal)) Gen.reducesTo_S2x4x8192x256_S2x4x8192_d3 Gen.h_S_ (ix3 b h s) = Finset.univ.fold max (⊥ : EReal) (fun j => x (ix4 b h s j)) := by
  have hr : S2x4x8192x256.Reduces [3] S2x4x8192 := by decide
  have e : x ∘ hr.lift (ix3 b h s) = fun j : Fin 256 => x (ix4 b h s j) := funext fun j => congrArg x (funext fun a => Fin.ext (by
    match a with | ⟨0, _⟩ => rfl | ⟨1, _⟩ => rfl | ⟨2, _⟩ => rfl | ⟨3, _⟩ => rfl))
  rw [Host.reduce_eq_fold_single FloatOps.maximumf x _ _ hr, e]
  exact congrArg (fun z => Finset.fold max z (fun j : Fin 256 => x (ix4 b h s j)) Finset.univ) _root_.Attn.ofBits_neg_inf

/-- The largest score. -/
theorem v101_at (b : Fin 2) (h : Fin 4) (s : Fin 8192) : val_main_v101 (F := Ideal) x0 x1 x2 x3 x4 x5 x6 x7 x8 x9 x10 x12 x13 (ix3 b h s)
    = Finset.univ.fold max ⊥ ((args x0 x1 x2 x3 x4 x5 x6 x7 x8 x9 x10 x11 x12 x13).scores (row b s) h) := by
  unfold val_main_v101 val_main_v99
  rw [maximumf_apply, max_at]
  refine (congrArg₂ max (?_ : _ = (⊥ : EReal)) ?_).trans (max_eq_right bot_le)
  · exact _root_.Attn.ofBits_neg_inf
  · exact congrArg (fun f => Finset.univ.fold max ⊥ f) (funext fun j => v98_at x0 x1 x2 x3 x4 x5 x6 x7 x8 x9 x10 x11 x12 x13 b h s j)

theorem v105_at (b : Fin 2) (h : Fin 4) (s : Fin 8192) (j : Fin 256) : val_main_v105 (F := Ideal) x0 x1 x2 x3 x4 x5 x6 x7 x8 x9 x10 x12 x13 (ix4 b h s j)
    = _root_.Merge.expo ((args x0 x1 x2 x3 x4 x5 x6 x7 x8 x9 x10 x11 x12 x13).scores (row b s) h) j := by
  pointwise [val_main_v102, val_main_v103, val_main_v104, val_main_v105]
  rw [v98_at x0 x1 x2 x3 x4 x5 x6 x7 x8 x9 x10 x11 x12 x13, v101_at x0 x1 x2 x3 x4 x5 x6 x7 x8 x9 x10 x11 x12 x13]
  rfl

/-- The softmax of the scores. -/
theorem v109_at (b : Fin 2) (h : Fin 4) (s : Fin 8192) (j : Fin 256) : val_main_v109 (F := Ideal) x0 x1 x2 x3 x4 x5 x6 x7 x8 x9 x10 x12 x13 (ix4 b h s j)
    = Ideal.div (_root_.Merge.expo ((args x0 x1 x2 x3 x4 x5 x6 x7 x8 x9 x10 x11 x12 x13).scores (row b s) h) j) (∑ j, _root_.Merge.expo ((args x0 x1 x2 x3 x4 x5 x6 x7 x8 x9 x10 x11 x12 x13).scores (row b s) h) j) := by
  pointwise [val_main_v106, val_main_v107, val_main_v108, val_main_v109, val_main_cst_9]
  simp only [v105_at x0 x1 x2 x3 x4 x5 x6 x7 x8 x9 x10 x11 x12 x13, zero_add]

/-- What a row reads from the memory. -/
theorem v112_at (R : Fin 16384) (e : Fin 1024) : val_main_v112 (F := Ideal) x0 x1 x2 x3 x4 x5 x6 x7 x8 x9 x10 x12 x13 (ix2 R e)
    = _root_.Merge.weighted ((args x0 x1 x2 x3 x4 x5 x6 x7 x8 x9 x10 x11 x12 x13).scores R ⟨e.val / 256, by omega⟩) (fun j => (args x0 x1 x2 x3 x4 x5 x6 x7 x8 x9 x10 x11 x12 x13).value ⟨R.val / 8192, by omega⟩ j e) := by
  have h111 : ∀ (b : Fin 2) (s : Fin 8192) (h : Fin 4) (d : Fin 256), val_main_v111 (F := Ideal) x0 x1 x2 x3 x4 x5 x6 x7 x8 x9 x10 x12 x13 (ix4 b s h d)
      = _root_.Merge.weighted ((args x0 x1 x2 x3 x4 x5 x6 x7 x8 x9 x10 x11 x12 x13).scores (row b s) h) (fun j => (args x0 x1 x2 x3 x4 x5 x6 x7 x8 x9 x10 x11 x12 x13).value b j ⟨256 * h.val + d.val, by omega⟩) := by
    intro b s h d
    pointwise [val_main_v110, val_main_v111]
    simp only [v109_at x0 x1 x2 x3 x4 x5 x6 x7 x8 x9 x10 x11 x12 x13, v97_at x0 x1 x2 x3 x4 x5 x6 x7 x8 x9 x10 x11 x12 x13]
    rfl
  pointwise [val_main_v112]
  refine (h111 _ _ _ _).trans ?_
  have e1 : row ⟨R.val / 8192, by omega⟩ ⟨R.val % 8192, by omega⟩ = R := row_split R
  have e2 : (⟨256 * (e.val / 256) + e.val % 256, by omega⟩ : Fin 1024) = e := Fin.ext (by show 256 * (e.val / 256) + e.val % 256 = e.val; omega)
  rw [e1]
  exact congrArg (_root_.Merge.weighted _) (funext fun j => congrArg ((args x0 x1 x2 x3 x4 x5 x6 x7 x8 x9 x10 x11 x12 x13).value _ j) e2)

theorem v119_at (R : Fin 16384) (e : Fin 1024) (h : (args x0 x1 x2 x3 x4 x5 x6 x7 x8 x9 x10 x11 x12 x13).Finite) : val_main_v119 (F := Ideal) x0 x1 x2 x3 x4 x5 x6 x7 x8 x9 x10 x11 x12 x13 (ix2 R e) = _root_.Merge.residual ((args x0 x1 x2 x3 x4 x5 x6 x7 x8 x9 x10 x11 x12 x13).x1 R) ((args x0 x1 x2 x3 x4 x5 x6 x7 x8 x9 x10 x11 x12 x13).att R) (args x0 x1 x2 x3 x4 x5 x6 x7 x8 x9 x10 x11 x12 x13).wo e := by
  pointwise [val_main_v113, val_main_v114, val_main_v115, val_main_v116, val_main_v117, val_main_v118, val_main_v119, val_main_cst_10]
  simp only [v84_at x0 x1 x2 x3 x4 x5 x6 x7 x8 x9 x10 x11 x12 x13, v112_at x0 x1 x2 x3 x4 x5 x6 x7 x8 x9 x10 x11 x12 x13, h.att]
  rfl

/-- The reference's result. -/
theorem result_at (h : (args x0 x1 x2 x3 x4 x5 x6 x7 x8 x9 x10 x11 x12 x13).Finite) (R : Fin 16384) (e : Fin 1024) : val_main_v147 (F := Ideal) x0 x1 x2 x3 x4 x5 x6 x7 x8 x9 x10 x11 x12 x13 (ix2 R e) = (args x0 x1 x2 x3 x4 x5 x6 x7 x8 x9 x10 x11 x12 x13).out R e := by
  pointwise [val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_cst_11, val_main_cst_12, val_main_cst_13, val_main_cst_14, val_main_cst_15]
  simp only [fun R e => v119_at x0 x1 x2 x3 x4 x5 x6 x7 x8 x9 x10 x11 x12 x13 R e h, zero_add]
  rfl

end Cert.Reference8Ideal.Merge
-- ==== Proof.Merge1.Run.lean ====
/- The claims of the second layer's merge and memory attention call: its frames and its value at the reals. -/
module

public import proofs.«01_k».proof.Defs
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.Merge1.Output
public import proofs.«01_k».proof.Proof.Merge.Spec
public import proofs.«01_k».proof.Proof.Merge1.Ref
public import Idealize.ShloMosaic.Lib.Claim
public import Idealize.ShloMosaic.Adequacy
public import Idealize.ShloMosaic.Init

@[expose] public section

noncomputable section

namespace Cert.Proof.Merge1

open Idealize.ShloMosaic Idealize.ShloMosaic.TcCoe Idealize.ShloMosaic.Tactic Idealize.SL.Sem

set_option maxHeartbeats 4000000 in
/-- The printed merge body table is the idealized one: no operation was rewritten. -/
theorem bodies_eq : Kernel8.defs₀ (F := Bits) = Kernel8Ideal.defs₀ (F := Bits) := by
  unfold Kernel8.defs₀ Kernel8Ideal.defs₀
  refine congrArg _ (funext fun l => funext fun x => ?_)
  match l, x with
  | 0, (t, s) => rfl
  | ⟨_ + 1, h⟩, _ => exact absurd h (Nat.not_lt.2 (Nat.le_add_left _ _))

/-- The printed table of all bodies of the merge program is the idealized one. -/
theorem defs_eq : Kernel8.defs (F := Bits) = Kernel8Ideal.defs (F := Bits) :=
  congrArg (Pipeline.defs (Kernel8.pcfgs (F := Bits))) bodies_eq

/-- The printed merge call's frame, from the frame over any floats. -/
theorem frame_kernel : Cert.quiescent_Kernel8 := by
  intro m ρ _
  rw [defs_eq]
  exact Cert.Kernel8Ideal.Gen.frame (F := Bits) m ρ

/-- The idealized merge call's frame. -/
theorem frame_kernelIdeal : Cert.quiescent_Kernel8Ideal := fun m ρ _ => Cert.Kernel8Ideal.Gen.frame (F := Ideal) m ρ

/-- The frame of the merge reference, from its run. -/
theorem frame_referenceIdeal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The precondition, read at its elements: the arguments the scores are computed from are reals. -/
theorem finite_of_pre (m : (ℓ : Loc Kernel8Ideal.nD Kernel8Ideal.τ Kernel8Ideal.sig) → Buf (Elt Ideal) ℓ) (h : Cert.Pre_Kernel8Ideal_finite8 m)
    (c : Dev Kernel8Ideal.nD) : (Cert.Kernel8Ideal.Merge.args m c).Finite := by
  obtain ⟨h0, h1, h2, h3, h4, h5, h6, h7, h8, h9, h10, h11, h12⟩ := h c
  refine ⟨?_, ?_, ?_, ?_, ?_, ?_, ?_, ?_, ?_, ?_, ?_, ?_, ?_⟩
  · intro R e
    exact _root_.Merge.real_of_lt_top _root_.Attn.ofBits_inf (congrFun h0 (ix2 R e))
  · intro R e
    exact _root_.Merge.real_of_lt_top _root_.Attn.ofBits_inf_bf16 (congrFun h1 (ix2 R e))
  · intro R e
    exact _root_.Merge.real_of_lt_top _root_.Attn.ofBits_inf_bf16 (congrFun h2 (ix2 R e))
  · intro R e
    exact _root_.Merge.real_of_lt_top _root_.Attn.ofBits_inf_bf16 (congrFun h3 (ix2 R e))
  · intro R e
    exact _root_.Merge.real_of_lt_top _root_.Attn.ofBits_inf_bf16 (congrFun h4 (ix2 R e))
  · intro R e
    exact _root_.Merge.real_of_lt_top _root_.Attn.ofBits_inf_bf16 (congrFun h5 (ix2 R e))
  · intro k f
    have e' := congrFun h6 (ix2 k f)
    pointwise [Cert.Pre_finite8.fn, Cert.Pre_finite8.fn_part1, Cert.Pre_finite8.fn_part2] at e'
    exact _root_.Merge.real_of_lt_top _root_.Attn.ofBits_inf e'
  · intro k f e
    have e' := congrFun h7 (ix3 k f e)
    pointwise [Cert.Pre_finite8.fn, Cert.Pre_finite8.fn_part1, Cert.Pre_finite8.fn_part2] at e'
    exact _root_.Merge.real_of_lt_top _root_.Attn.ofBits_inf_bf16 e'
  · intro d e
    have e' := congrFun h8 (ix2 d e)
    pointwise [Cert.Pre_finite8.fn, Cert.Pre_finite8.fn_part1, Cert.Pre_finite8.fn_part2] at e'
    exact _root_.Merge.real_of_lt_top _root_.Attn.ofBits_inf_bf16 e'
  · intro R e
    have e' := congrFun h9 (ix2 R e)
    pointwise [Cert.Pre_finite8.fn, Cert.Pre_finite8.fn_part1, Cert.Pre_finite8.fn_part2] at e'
    exact _root_.Merge.real_of_lt_top _root_.Attn.ofBits_inf_bf16 e'
  · intro d e
    have e' := congrFun h10 (ix2 d e)
    pointwise [Cert.Pre_finite8.fn, Cert.Pre_finite8.fn_part1, Cert.Pre_finite8.fn_part2] at e'
    exact _root_.Merge.real_of_lt_top _root_.Attn.ofBits_inf_bf16 e'
  · intro e
    have e' := congrFun h11 (ix1 e)
    pointwise [Cert.Pre_finite8.fn, Cert.Pre_finite8.fn_part1, Cert.Pre_finite8.fn_part2] at e'
    exact _root_.Merge.real_of_lt_top _root_.Attn.ofBits_inf e'
  · intro e
    have e' := congrFun h12 (ix1 e)
    pointwise [Cert.Pre_finite8.fn, Cert.Pre_finite8.fn_part1, Cert.Pre_finite8.fn_part2] at e'
    exact _root_.Merge.real_of_lt_top _root_.Attn.ofBits_inf e'

/-- The reference's last value, as one array: the merge layer of its rows. -/
theorem reference_eq (x0 : FVec Ideal Reference8Ideal.S16384x1024 .f32) (x1 x2 x3 x4 : FVec Ideal Reference8Ideal.S16384x512 .bf16)
    (x5 : FVec Ideal Reference8Ideal.S16384x3072 .bf16) (x6 : FVec Ideal Reference8Ideal.S2x3x512 .f32) (x7 : FVec Ideal Reference8Ideal.S2x3x512x1024 .bf16)
    (x8 : FVec Ideal Reference8Ideal.S2x1024x1024 .bf16) (x9 : FVec Ideal Reference8Ideal.S512x2048 .bf16) (x10 x11 : FVec Ideal Reference8Ideal.S2x1024x1024 .bf16)
    (x12 x13 : FVec Ideal Reference8Ideal.S2x3x1024 .f32) (h : (Cert.Reference8Ideal.Merge.args x0 x1 x2 x3 x4 x5 x6 x7 x8 x9 x10 x11 x12 x13).Finite) :
    Cert.Reference8Ideal.Read.val_main_v147 (F := Ideal) x0 x1 x2 x3 x4 x5 x6 x7 x8 x9 x10 x11 x12 x13 = fun j => (Cert.Reference8Ideal.Merge.args x0 x1 x2 x3 x4 x5 x6 x7 x8 x9 x10 x11 x12 x13).out (j 0) (j 1) := by
  funext j
  idx_vars j
  exact Cert.Reference8Ideal.Merge.result_at x0 x1 x2 x3 x4 x5 x6 x7 x8 x9 x10 x11 x12 x13 h _ _

/-- At the reals the merge call computes the reference's result. -/
theorem algebraic : Cert.algebraic_Kernel8Ideal_Reference8Ideal_pre_finite8 := by
  intro m g m' g' hpre hagree
  refine ⟨Cert.Kernel8Ideal.Merge.want m, ?_, ?_⟩
  · run_from (Cert.Kernel8Ideal.Value.run_blocks m g)
    exact Cert.Kernel8Ideal.Merge.array m c
  · refine (θ_run _ _ _).mono (fun _ h c => ⟨(h c).1.trans ?_, (h c).2⟩) (Cert.Reference8Ideal.Value.run m' g')
    obtain ⟨h0, h1, h2, h3, h4, h5, h6, h7, h8, h9, h10, h11, h12, h13⟩ := hagree c
    have hf : (Cert.Reference8Ideal.Merge.args (m' ((c.tc : Thread Reference8Ideal.nD Reference8Ideal.τ).loc Reference8Ideal.main_arg0)) (m' ((c.tc : Thread Reference8Ideal.nD Reference8Ideal.τ).loc Reference8Ideal.main_arg1)) (m' ((c.tc : Thread Reference8Ideal.nD Reference8Ideal.τ).loc Reference8Ideal.main_arg2)) (m' ((c.tc : Thread Reference8Ideal.nD Reference8Ideal.τ).loc Reference8Ideal.main_arg3)) (m' ((c.tc : Thread Reference8Ideal.nD Reference8Ideal.τ).loc Reference8Ideal.main_arg4)) (m' ((c.tc : Thread Reference8Ideal.nD Reference8Ideal.τ).loc Reference8Ideal.main_arg5)) (m' ((c.tc : Thread Reference8Ideal.nD Reference8Ideal.τ).loc Reference8Ideal.main_arg6)) (m' ((c.tc : Thread Reference8Ideal.nD Reference8Ideal.τ).loc Reference8Ideal.main_arg7)) (m' ((c.tc : Thread Reference8Ideal.nD Reference8Ideal.τ).loc Reference8Ideal.main_arg8)) (m' ((c.tc : Thread Reference8Ideal.nD Reference8Ideal.τ).loc Reference8Ideal.main_arg9)) (m' ((c.tc : Thread Reference8Ideal.nD Reference8Ideal.τ).loc Reference8Ideal.main_arg10)) (m' ((c.tc : Thread Reference8Ideal.nD Reference8Ideal.τ).loc Reference8Ideal.main_arg11)) (m' ((c.tc : Thread Reference8Ideal.nD Reference8Ideal.τ).loc Reference8Ideal.main_arg12)) (m' ((c.tc : Thread Reference8Ideal.nD Reference8Ideal.τ).loc Reference8Ideal.main_arg13))).Finite := by
      rw [h0, h1, h2, h3, h4, h5, h6, h7, h8, h9, h10, h11, h12, h13]
      exact finite_of_pre m hpre c
    rw [Cert.Reference8Ideal.Read.val_main_v147_eq]
    refine (reference_eq (m' ((c.tc : Thread Reference8Ideal.nD Reference8Ideal.τ).loc Reference8Ideal.main_arg0)) (m' ((c.tc : Thread Reference8Ideal.nD Reference8Ideal.τ).loc Reference8Ideal.main_arg1)) (m' ((c.tc : Thread Reference8Ideal.nD Reference8Ideal.τ).loc Reference8Ideal.main_arg2)) (m' ((c.tc : Thread Reference8Ideal.nD Reference8Ideal.τ).loc Reference8Ideal.main_arg3)) (m' ((c.tc : Thread Reference8Ideal.nD Reference8Ideal.τ).loc Reference8Ideal.main_arg4)) (m' ((c.tc : Thread Reference8Ideal.nD Reference8Ideal.τ).loc Reference8Ideal.main_arg5)) (m' ((c.tc : Thread Reference8Ideal.nD Reference8Ideal.τ).loc Reference8Ideal.main_arg6)) (m' ((c.tc : Thread Reference8Ideal.nD Reference8Ideal.τ).loc Reference8Ideal.main_arg7)) (m' ((c.tc : Thread Reference8Ideal.nD Reference8Ideal.τ).loc Reference8Ideal.main_arg8)) (m' ((c.tc : Thread Reference8Ideal.nD Reference8Ideal.τ).loc Reference8Ideal.main_arg9)) (m' ((c.tc : Thread Reference8Ideal.nD Reference8Ideal.τ).loc Reference8Ideal.main_arg10)) (m' ((c.tc : Thread Reference8Ideal.nD Reference8Ideal.τ).loc Reference8Ideal.main_arg11)) (m' ((c.tc : Thread Reference8Ideal.nD Reference8Ideal.τ).loc Reference8Ideal.main_arg12)) (m' ((c.tc : Thread Reference8Ideal.nD Reference8Ideal.τ).loc Reference8Ideal.main_arg13)) hf).trans ?_
    rw [h0, h1, h2, h3, h4, h5, h6, h7, h8, h9, h10, h11, h12, h13]
    rfl

end Cert.Proof.Merge1

end
-- ==== Proof.Mem.Run.lean ====
/- The claims of the call that computes the memory's keys and values: its frames and its value at the reals. -/
module

public import proofs.«01_k».proof.Defs
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel9Ideal.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal.Gen

/-! # The memory rows through the weights of their keys and values -/

/-- The blocks of a point: its own rows, and the layer's weights. -/
theorem idx (t : Fin cfg0.N) : win0_0.index t = ![t.val, 0] ∧ win0_1.index t = ![0, 0, 0] ∧ win0_2.index t = ![t.val, 0] := by
  revert t; decide +kernel

theorem pt_lt (t : Fin cfg0.N) : t.val < 2 := t.isLt

variable (m : (ℓ : Loc nD τ sig) → Buf (Elt Ideal) ℓ)

theorem row_lt (t : Fin cfg0.N) (r : Fin 256) : 256 * t.val + r.val < 512 := by
  have := pt_lt t
  omega

theorem blk_0 (c : Dev nD) (t : Fin cfg0.N) (r : Fin 256) (d : Fin 1024) :
    iblk m c 0 t (ix2 r d) = m ((c.tc : Thread nD τ).loc main_arg0) (ix2 ⟨256 * t.val + r.val, row_lt t r⟩ d) := by
  blk_ext [iblk, V, idx t]

theorem blk_1 (c : Dev nD) (t : Fin cfg0.N) (d : Fin 1024) (e : Fin 2048) :
    iblk m c 1 t (ix3 0 d e) = m ((c.tc : Thread nD τ).loc main_arg1) (ix3 0 d e) := by
  blk_ext [iblk, V, idx t]

/-- Every memory row times the layer's weights. -/
def want (c : Dev nD) : Vec Ideal S512x2048 .bf16 := fun j =>
  ∑ d : Fin 1024, (show EReal from m ((c.tc : Thread nD τ).loc main_arg0) (ix2 (j 0) d)) * (show EReal from m ((c.tc : Thread nD τ).loc main_arg1) (ix3 0 d (j 1)))

/-- The stored block at an entry. -/
theorem out_at (c : Dev nD) (t : Fin cfg0.N) (r : Fin 256) (e : Fin 2048) :
    (dats m 0 c).after 2 t (ix2 r e) = want m c (ix2 ⟨256 * t.val + r.val, row_lt t r⟩ e) := by
  rw [after0_2]
  unfold out0_2 k0_pay1
  canon_tiles z h
  idx_vars z
  obtain rfl : r = z0 := Fin.ext h0
  obtain rfl : e = z1 := Fin.ext h1
  pointwise []
  simp only [blk_0, blk_1]
  rfl

/-- After the run the result array is the product. -/
theorem array (c : Dev nD) : (dats m 0 c).arrAt 2 cfg0.N = want m c := by
  refine (dats m 0 c).arrAt_eq_of_covers 2 _ (by decide +kernel) fun t hf y => ?_
  blk_simp
  change S256x2048.Idx at y
  idx_vars y
  rw [out_at m c t y0 y1]
  blk_ext [idx t]

end Cert.Kernel9Ideal.Mem

namespace Cert.Proof.Mem

open Idealize.ShloMosaic Idealize.ShloMosaic.TcCoe Idealize.ShloMosaic.Tactic Idealize.SL.Sem

/-- The printed body table is the idealized one: no operation was rewritten. -/
theorem bodies_eq : Kernel9.defs₀ (F := Bits) = Kernel9Ideal.defs₀ (F := Bits) := by
  unfold Kernel9.defs₀ Kernel9Ideal.defs₀
  refine congrArg _ (funext fun l => funext fun x => ?_)
  match l, x with
  | 0, (t, s) => rfl
  | ⟨_ + 1, h⟩, _ => exact absurd h (Nat.not_lt.2 (Nat.le_add_left _ _))

/-- The printed table of all bodies is the idealized one. -/
theorem defs_eq : Kernel9.defs (F := Bits) = Kernel9Ideal.defs (F := Bits) :=
  congrArg (Pipeline.defs (Kernel9.pcfgs (F := Bits))) bodies_eq

/-- The printed call's frame, from the frame over any floats. -/
theorem frame_kernel : Cert.quiescent_Kernel9 := by
  intro m ρ _
  rw [defs_eq]
  exact Cert.Kernel9Ideal.Gen.frame (F := Bits) m ρ

/-- The idealized call's frame. -/
theorem frame_kernelIdeal : Cert.quiescent_Kernel9Ideal := fun m ρ _ => Cert.Kernel9Ideal.Gen.frame (F := Ideal) m ρ

/-- The reference's frame, from its run. -/
theorem frame_referenceIdeal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference's result, as one array. -/
theorem reference_eq (x0 : FVec Ideal Reference9Ideal.S512x1024 .f32) (x1 : FVec Ideal Reference9Ideal.S2x1024x2048 .bf16) :
    Cert.Reference9Ideal.Read.val_main_v4 (F := Ideal) x0 x1 = fun j => ∑ d : Fin 1024, x0 (ix2 (j 0) d) * x1 (ix3 0 d (j 1)) := by
  funext j
  idx_vars j
  pointwise [Cert.Reference9Ideal.Read.val_main_v0, Cert.Reference9Ideal.Read.val_main_v1, Cert.Reference9Ideal.Read.val_main_v2, Cert.Reference9Ideal.Read.val_main_v3, Cert.Reference9Ideal.Read.val_main_v4]

/-- At the reals the call computes the reference's result. -/
theorem algebraic : Cert.algebraic_Kernel9Ideal_Reference9Ideal := by
  intro m g m' g' _ hagree
  refine ⟨Cert.Kernel9Ideal.Mem.want m, ?_, ?_⟩
  · run_from (Cert.Kernel9Ideal.Value.run_blocks m g)
    exact Cert.Kernel9Ideal.Mem.array m c
  · refine (θ_run _ _ _).mono (fun _ h c => ⟨(h c).1.trans ?_, (h c).2⟩) (Cert.Reference9Ideal.Value.run m' g')
    rw [Cert.Reference9Ideal.Read.val_main_v4_eq, reference_eq]
    obtain ⟨h0, h1⟩ := hagree c
    rw [h0, h1]
    rfl

end Cert.Proof.Mem

end
-- ==== Proof.Mem1.Run.lean ====
/- The claims of the call that computes the memory's keys and values: its frames and its value at the reals. -/
module

public import proofs.«01_k».proof.Defs
public import proofs.«01_k».proof.Proof.Gen.Kernel10
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel10Ideal.Mem1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal.Gen

/-! # The memory rows through the weights of their keys and values -/

/-- The blocks of a point: its own rows, and the layer's weights. -/
theorem idx (t : Fin cfg0.N) : win0_0.index t = ![t.val, 0] ∧ win0_1.index t = ![1, 0, 0] ∧ win0_2.index t = ![t.val, 0] := by
  revert t; decide +kernel

theorem pt_lt (t : Fin cfg0.N) : t.val < 2 := t.isLt

variable (m : (ℓ : Loc nD τ sig) → Buf (Elt Ideal) ℓ)

theorem row_lt (t : Fin cfg0.N) (r : Fin 256) : 256 * t.val + r.val < 512 := by
  have := pt_lt t
  omega

theorem blk_0 (c : Dev nD) (t : Fin cfg0.N) (r : Fin 256) (d : Fin 1024) :
    iblk m c 0 t (ix2 r d) = m ((c.tc : Thread nD τ).loc main_arg0) (ix2 ⟨256 * t.val + r.val, row_lt t r⟩ d) := by
  blk_ext [iblk, V, idx t]

theorem blk_1 (c : Dev nD) (t : Fin cfg0.N) (d : Fin 1024) (e : Fin 2048) :
    iblk m c 1 t (ix3 0 d e) = m ((c.tc : Thread nD τ).loc main_arg1) (ix3 1 d e) := by
  blk_ext [iblk, V, idx t]

/-- Every memory row times the layer's weights. -/
def want (c : Dev nD) : Vec Ideal S512x2048 .bf16 := fun j =>
  ∑ d : Fin 1024, (show EReal from m ((c.tc : Thread nD τ).loc main_arg0) (ix2 (j 0) d)) * (show EReal from m ((c.tc : Thread nD τ).loc main_arg1) (ix3 1 d (j 1)))

/-- The stored block at an entry. -/
theorem out_at (c : Dev nD) (t : Fin cfg0.N) (r : Fin 256) (e : Fin 2048) :
    (dats m 0 c).after 2 t (ix2 r e) = want m c (ix2 ⟨256 * t.val + r.val, row_lt t r⟩ e) := by
  rw [after0_2]
  unfold out0_2 k0_pay1
  canon_tiles z h
  idx_vars z
  obtain rfl : r = z0 := Fin.ext h0
  obtain rfl : e = z1 := Fin.ext h1
  pointwise []
  simp only [blk_0, blk_1]
  rfl

/-- After the run the result array is the product. -/
theorem array (c : Dev nD) : (dats m 0 c).arrAt 2 cfg0.N = want m c := by
  refine (dats m 0 c).arrAt_eq_of_covers 2 _ (by decide +kernel) fun t hf y => ?_
  blk_simp
  change S256x2048.Idx at y
  idx_vars y
  rw [out_at m c t y0 y1]
  blk_ext [idx t]

end Cert.Kernel10Ideal.Mem1

namespace Cert.Proof.Mem1

open Idealize.ShloMosaic Idealize.ShloMosaic.TcCoe Idealize.ShloMosaic.Tactic Idealize.SL.Sem

/-- The printed body table is the idealized one: no operation was rewritten. -/
theorem bodies_eq : Kernel10.defs₀ (F := Bits) = Kernel10Ideal.defs₀ (F := Bits) := by
  unfold Kernel10.defs₀ Kernel10Ideal.defs₀
  refine congrArg _ (funext fun l => funext fun x => ?_)
  match l, x with
  | 0, (t, s) => rfl
  | ⟨_ + 1, h⟩, _ => exact absurd h (Nat.not_lt.2 (Nat.le_add_left _ _))

/-- The printed table of all bodies is the idealized one. -/
theorem defs_eq : Kernel10.defs (F := Bits) = Kernel10Ideal.defs (F := Bits) :=
  congrArg (Pipeline.defs (Kernel10.pcfgs (F := Bits))) bodies_eq

/-- The printed call's frame, from the frame over any floats. -/
theorem frame_kernel : Cert.quiescent_Kernel10 := by
  intro m ρ _
  rw [defs_eq]
  exact Cert.Kernel10Ideal.Gen.frame (F := Bits) m ρ

/-- The idealized call's frame. -/
theorem frame_kernelIdeal : Cert.quiescent_Kernel10Ideal := fun m ρ _ => Cert.Kernel10Ideal.Gen.frame (F := Ideal) m ρ

/-- The reference's frame, from its run. -/
theorem frame_referenceIdeal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference's result, as one array. -/
theorem reference_eq (x0 : FVec Ideal Reference10Ideal.S512x1024 .f32) (x1 : FVec Ideal Reference10Ideal.S2x1024x2048 .bf16) :
    Cert.Reference10Ideal.Read.val_main_v4 (F := Ideal) x0 x1 = fun j => ∑ d : Fin 1024, x0 (ix2 (j 0) d) * x1 (ix3 1 d (j 1)) := by
  funext j
  idx_vars j
  pointwise [Cert.Reference10Ideal.Read.val_main_v0, Cert.Reference10Ideal.Read.val_main_v1, Cert.Reference10Ideal.Read.val_main_v2, Cert.Reference10Ideal.Read.val_main_v3, Cert.Reference10Ideal.Read.val_main_v4]

/-- At the reals the call computes the reference's result. -/
theorem algebraic : Cert.algebraic_Kernel10Ideal_Reference10Ideal := by
  intro m g m' g' _ hagree
  refine ⟨Cert.Kernel10Ideal.Mem1.want m, ?_, ?_⟩
  · run_from (Cert.Kernel10Ideal.Value.run_blocks m g)
    exact Cert.Kernel10Ideal.Mem1.array m c
  · refine (θ_run _ _ _).mono (fun _ h c => ⟨(h c).1.trans ?_, (h c).2⟩) (Cert.Reference10Ideal.Value.run m' g')
    rw [Cert.Reference10Ideal.Read.val_main_v4_eq, reference_eq]
    obtain ⟨h0, h1⟩ := hagree c
    rw [h0, h1]
    rfl

end Cert.Proof.Mem1

end
-- ==== Proof.Attn.Values.lean ====
module

public import proofs.«01_k».proof.Proof.Attn.Trip
public import proofs.«01_k».proof.Proof.Attn.Spec
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-! # The body's values over the extended reals

Each stored value read at an index, at real inputs. -/

/-- The scores of a stacked query tile against a key block. -/
theorem scores_at (q : Vec Ideal S1024x128 .bf16) (k : Vec Ideal S2048x128 .bf16) (i : Fin 1024) (c : Fin 2048) :
    k0_pay3 q k (ix2 i c) = ∑ x : Fin 128, q (ix2 i x) * k (ix2 c x) := by
  pointwise [k0_pay3, k0_pay2]

theorem dots_at (q : Vec Ideal S1024x128 .bf16) (k : Vec Ideal S2048x128 .bf16) (i : Fin 1024) (c : Fin 2048) :
    k0_pay2 q k (ix2 i c) = ∑ x : Fin 128, q (ix2 i x) * k (ix2 c x) := by
  pointwise [k0_pay2]

/-- The larger of two reals is a real. -/
theorem max_real {a b : EReal} (ha : ∃ r : ℝ, a = r) (hb : ∃ r : ℝ, b = r) : ∃ r : ℝ, max a b = r := by
  rcases le_total a b with h | h
  · rw [max_eq_right h]; exact hb
  · rw [max_eq_left h]; exact ha

/-- The lane maxima of real scores are real. -/
theorem laneMax_real (q : Vec Ideal S1024x128 .bf16) (k : Vec Ideal S2048x128 .bf16) (i : Fin 1024)
    (h : ∀ c : Fin 2048, ∃ r : ℝ, k0_pay2 q k (ix2 i c) = r) (c : Fin 128) : ∃ r : ℝ, k0_pay4 q k (ix2 i c) = r := by
  unfold k0_pay4
  generalize k0_pay2 q k = s at h
  pointwise
  repeat' first | exact h _ | refine max_real ?_ ?_

/-- The values with the block of ones beside them, at a column of the values. -/
theorem vals_at (v : Vec Ideal S2048x128 .bf16) (i : Fin 2048) (d : Fin 256) (h : d.val < 128) :
    k0_pay5 k0_pay102 v (ix2 i d) = v (ix2 i ⟨d.val, h⟩) := by
  pointwise [k0_pay5, k0_pay102]
  rw [dif_pos h]

/-- The values with the block of ones beside them, at the column of ones. -/
theorem vals_ones (v : Vec Ideal S2048x128 .bf16) (i : Fin 2048) : k0_pay5 k0_pay102 v (ix2 i (128 : Fin 256)) = (1 : EReal) := by
  pointwise [k0_pay5, k0_pay102]

/-- The values with the block of ones beside them are real where the values are. -/
theorem vals_real (v : Vec Ideal S2048x128 .bf16) (hv : ∀ i d, ∃ r : ℝ, v (ix2 i d) = r) (i : Fin 2048) (d : Fin 256) :
    ∃ r : ℝ, k0_pay5 k0_pay102 v (ix2 i d) = r := by
  by_cases h : d.val < 128
  · rw [vals_at v i d h]; exact hv _ _
  · pointwise [k0_pay5, k0_pay102]
    rw [dif_neg h]
    unfold Scalar.select
    split
    · exact ⟨1, by simp⟩
    · exact ⟨0, by simp⟩

/-- The row maxima of a chunk, the same in every lane. -/
theorem rowMax_at (x : Vec Ideal S256x128 .f32) (i : Fin 256) (hx : ∀ c, ∃ r : ℝ, x (ix2 i c) = r) :
    ∃ r : ℝ, ∀ c, k0_pay6 x (ix2 i c) = r := by
  obtain ⟨r, hr⟩ := _root_.Attn.fold_max_real (n := 127) (fun c => x (ix2 i c)) hx
  refine ⟨r, fun c => ?_⟩
  pointwise [k0_pay6]
  rw [_root_.Attn.ofBits_neg_inf]; exact hr

/-- The running maxima after another block, the same in every lane when they were before. -/
theorem nextMax_at (x m : Vec Ideal S256x128 .f32) (i : Fin 256) (hx : ∀ c, ∃ r : ℝ, x (ix2 i c) = r) (M : ℝ)
    (hm : ∀ c, m (ix2 i c) = M) : ∃ r : ℝ, ∀ c, k0_pay98 x m (ix2 i c) = r := by
  obtain ⟨r, hr⟩ := _root_.Attn.fold_max_real (n := 127) (fun c => x (ix2 i c)) hx
  obtain ⟨r', hr'⟩ := max_real ⟨M, rfl⟩ ⟨r, rfl⟩
  refine ⟨r', fun c => ?_⟩
  pointwise [k0_pay98]
  rw [_root_.Attn.ofBits_neg_inf, hm, ← hr', ← hr]

/-- Sixteen copies of a block side by side, where the block's rows are constant. -/
theorem sixteen_at (y : FVec Ideal S256x128 .f32) (M : Fin 256 → EReal) (hy : ∀ i c, y (ix2 i c) = M i) :
    concatenate S256x2048 1 [⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩] concatenates_S256x128_S256x128_S256x128_S256x128_S256x128_S256x128_S256x128_S256x128_S256x128_S256x128_S256x128_S256x128_S256x128_S256x128_S256x128_S256x128_S256x2048_d1
      = fun j => M (j 0) := by
  funext j
  refine (concatenate_replicate_apply (s₁ := S256x128) (t := S256x2048) 1 16 y _ rfl j
    (ix2 (j 0) ⟨(j 1).val % 128, Nat.mod_lt _ (by decide)⟩) rfl fun b hb => ?_).trans (hy _ _)
  match b with
  | 0 => rfl
  | 1 => exact absurd rfl hb

/-- The first block's sums. -/
theorem firstSum_at (w : FVec Ideal S2048x256 .bf16) (s : Vec Ideal S256x2048 .f32) (x : Vec Ideal S256x128 .f32)
    (S : Fin 256 → Fin 2048 → ℝ) (W : Fin 2048 → Fin 256 → ℝ) (M : Fin 256 → ℝ) (hs : ∀ i c, s (ix2 i c) = S i c)
    (hw : ∀ c d, w (ix2 c d) = W c d) (hM : ∀ i c, k0_pay6 x (ix2 i c) = M i) (i d : Fin 256) :
    k0_pay7 w s x (ix2 i d) = ((∑ c, Real.exp (S i c - M i) * W c d : ℝ) : EReal) := by
  unfold k0_pay7
  generalize k0_pay6 x = y at hM
  rw [sixteen_at y (fun i => (M i : EReal)) hM]
  pointwise
  simp only [hs, hw, ← EReal.coe_sub, Ideal.exp_coe]
  exact _root_.Attn.coe_sum_mul _ _

/-- The sums after another block: the sums before, rescaled, plus the block's. -/
theorem nextSum_at (w : FVec Ideal S2048x256 .bf16) (s : Vec Ideal S256x2048 .f32) (x m : Vec Ideal S256x128 .f32)
    (a : Vec Ideal S256x256 .f32) (S : Fin 256 → Fin 2048 → ℝ) (W : Fin 2048 → Fin 256 → ℝ) (M M' : Fin 256 → ℝ)
    (A : Fin 256 → Fin 256 → ℝ) (hs : ∀ i c, s (ix2 i c) = S i c) (hw : ∀ c d, w (ix2 c d) = W c d)
    (hm : ∀ i c, m (ix2 i c) = M i) (hM : ∀ i c, k0_pay98 x m (ix2 i c) = M' i) (ha : ∀ i d, a (ix2 i d) = A i d)
    (i d : Fin 256) :
    k0_pay99 w s x m a (ix2 i d)
      = ((A i d * Real.exp (M i - M' i) + ∑ c, Real.exp (S i c - M' i) * W c d : ℝ) : EReal) := by
  unfold k0_pay99
  generalize k0_pay98 x m = y at hM
  rw [sixteen_at y (fun i => (M' i : EReal)) hM]
  pointwise
  simp only [hs, hw, hm, hM, ha, dite_eq_ite, ite_self, ← EReal.coe_sub, Ideal.exp_coe]
  rw [_root_.Attn.coe_sum_mul, EReal.coe_add, EReal.coe_mul]

/-- The finished rows: the two maps' quotients combined and normalized. -/
theorem finish_at (l : FVec Ideal S1x1 .f32) (a b : Vec Ideal S256x256 .f32) (g : Vec Ideal S1x1x128 .f32) (i : Fin 256) (d : Fin 128) :
    k0_pay101 l a b g (ix2 i d) = _root_.Attn.normed (fun x => Ideal.div (a (ix2 i ⟨x.val, by omega⟩)) (a (ix2 i 128))
        - l (ix2 0 0) * Ideal.div (b (ix2 i ⟨x.val, by omega⟩)) (b (ix2 i 128))) (g (ix3 0 0 d)) d := by
  pointwise [k0_pay101]
  rfl

/-- The mixing weight. -/
theorem weight_at (l a b g : Vec Ideal S1x1x64 .f32) (i j : Fin 1) :
    k0_pay103 l a b g (ix2 i j) = _root_.Attn.weight (fun x => l (ix3 0 0 x)) (fun x => a (ix3 0 0 x)) (fun x => b (ix3 0 0 x)) (fun x => g (ix3 0 0 x)) := by
  pointwise [k0_pay103]
  rfl

end Cert.KernelIdeal.Attn

end
-- ==== Proof.Attn.Blocks.lean ====
module

public import proofs.«01_k».proof.Proof.Attn.Values

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-! # Reads of the blocks, tiles and chunks -/

variable {F : FTy → Type} [FloatOps F]

/-- Row `c` of key block `j` is row `2048 j + c` of the keys. -/
theorem blockOf_at (k : Vec F S8192x128 .bf16) (j : Fin 4) (c : Fin 2048) (x : Fin 128) :
    blockOf k j (ix2 c x) = k (ix2 (Fin.ofNat 8192 (j.val * 2048 + c.val)) x) := by
  have h : j.val * 2048 + c.val < 8192 := by omega
  refine congrArg k (funext fun a => Fin.ext ?_)
  match a with
  | 0 => show 2048 * j.val + 1 * c.val = (j.val * 2048 + c.val) % 8192; rw [Nat.mod_eq_of_lt h]; omega
  | 1 => show 0 + 1 * x.val = x.val; omega

/-- Row `i` of chunk `r` is row `256 r + i` of the scores. -/
theorem chunkS_at (s : Vec F S1024x2048 .f32) (r : Fin 4) (i : Fin 256) (c : Fin 2048) :
    chunkS s r (ix2 i c) = s (ix2 ⟨256 * r.val + i.val, by omega⟩ c) := by
  refine congrArg s (funext fun a => Fin.ext ?_)
  match a with
  | 0 => show 256 * r.val + 1 * i.val = 256 * r.val + i.val; omega
  | 1 => show 0 + 1 * c.val = c.val; omega

/-- Row `i` of chunk `r` is row `256 r + i` of the lane maxima. -/
theorem chunkX_at (s : Vec F S1024x128 .f32) (r : Fin 4) (i : Fin 256) (c : Fin 128) :
    chunkX s r (ix2 i c) = s (ix2 ⟨256 * r.val + i.val, by omega⟩ c) := by
  refine congrArg s (funext fun a => Fin.ext ?_)
  match a with
  | 0 => show 256 * r.val + 1 * i.val = 256 * r.val + i.val; omega
  | 1 => show 0 + 1 * c.val = c.val; omega

/-- Row `i` of query tile `t` is row `512 t + i` of the queries. -/
theorem tileOf_at (q : Vec F S8192x128 .bf16) (t : Fin 16) (i : Fin 512) (x : Fin 128) :
    tileOf q t (ix2 i x) = q (ix2 ⟨512 * t.val + i.val, by omega⟩ x) := by
  refine congrArg q (funext fun a => Fin.ext ?_)
  match a with
  | 0 => show 512 * t.val + 1 * i.val = 512 * t.val + i.val; omega
  | 1 => show 0 + 1 * x.val = x.val; omega

/-- A lane number below 64, as the word comparison says it. -/
theorem lane_lt : ∀ x : Fin 128, (IntOp.cmpi CmpIPredicate.slt (BitVec.ofNat 32 x.val) 64#32 = 1#1) ↔ x.val < 64 := by decide +kernel

/-- A lane number from 64 on, as the word comparison says it. -/
theorem lane_ge : ∀ x : Fin 128, (IntOp.cmpi CmpIPredicate.sge (BitVec.ofNat 32 x.val) 64#32 = 1#1) ↔ ¬ x.val < 64 := by decide +kernel

/-- The upper half of the stacked tile keeps the first map's columns. -/
theorem qs_upper (q : Vec Ideal S8192x128 .bf16) (t : Fin 16) (i : Fin 512) (x : Fin 128) :
    qs q t (ix2 ⟨i.val, by omega⟩ x) = if x.val < 64 then q (ix2 ⟨512 * t.val + i.val, by omega⟩ x) else (0 : EReal) := by
  have h : qs q t (ix2 ⟨i.val, by omega⟩ x) = k0_pay67 lanes (tileOf q t) (ix2 i x) := by
    refine (dif_pos (show ((ix2 (⟨i.val, by omega⟩ : Fin 1024) x) 0).val < 512 from i.isLt)).trans ?_
    exact congrArg (k0_pay67 lanes (tileOf q t)) (funext fun a => match a with | 0 => rfl | 1 => rfl)
  rw [h, ← tileOf_at q t i x]
  pointwise [k0_pay67, k0_pay66, lanes]
  rw [show (Scalar.select (IntOp.cmpi CmpIPredicate.slt (BitVec.ofNat 32 x.val) 64#32) (tileOf q t (ix2 i x)) (0 : EReal))
    = if IntOp.cmpi CmpIPredicate.slt (BitVec.ofNat 32 x.val) 64#32 = 1#1 then tileOf q t (ix2 i x) else (0 : EReal) from rfl, if_congr (lane_lt x) rfl rfl]

/-- The lower half of the stacked tile keeps the second map's columns. -/
theorem qs_lower (q : Vec Ideal S8192x128 .bf16) (t : Fin 16) (i : Fin 512) (x : Fin 128) :
    qs q t (ix2 ⟨512 + i.val, by omega⟩ x) = if x.val < 64 then (0 : EReal) else q (ix2 ⟨512 * t.val + i.val, by omega⟩ x) := by
  have h : qs q t (ix2 ⟨512 + i.val, by omega⟩ x) = k0_pay68 lanes (tileOf q t) (ix2 i x) := by
    refine (dif_neg (show ¬ ((ix2 (⟨512 + i.val, by omega⟩ : Fin 1024) x) 0).val < 512 by show ¬ 512 + i.val < 512; omega)).trans ?_
    refine congrArg (k0_pay68 lanes (tileOf q t)) (funext fun a => Fin.ext ?_)
    match a with
    | 0 => show 512 + i.val - 512 = i.val; omega
    | 1 => rfl
  rw [h, ← tileOf_at q t i x]
  pointwise [k0_pay68, k0_pay66, lanes]
  rw [show (Scalar.select (IntOp.cmpi CmpIPredicate.sge (BitVec.ofNat 32 x.val) 64#32) (tileOf q t (ix2 i x)) (0 : EReal))
    = if IntOp.cmpi CmpIPredicate.sge (BitVec.ofNat 32 x.val) 64#32 = 1#1 then tileOf q t (ix2 i x) else (0 : EReal) from rfl, if_congr (lane_ge x) rfl rfl, ite_not]

/-- The score buffer's entries: row `i` of the upper half is scored by the first map, of the lower half by the second. -/
theorem dots_upper (q k : Vec Ideal S8192x128 .bf16) (Q K : Fin 8192 → Fin 128 → ℝ) (hq : ∀ i x, q (ix2 i x) = Q i x)
    (hk : ∀ i x, k (ix2 i x) = K i x) (t : Fin 16) (j : Fin 4) (i : Fin 512) (c : Fin 2048) :
    k0_pay2 (qs q t) (blockOf k j) (ix2 ⟨i.val, by omega⟩ c)
      = ((_root_.Attn.score Q K 0 ⟨512 * t.val + i.val, by omega⟩ (Fin.ofNat 8192 (j.val * 2048 + c.val)) : ℝ) : EReal) := by
  rw [dots_at]
  simp only [blockOf_at, hk, qs_upper, hq]
  refine (Fin.sum_univ_add (a := 64) (b := 64) _).trans ?_
  unfold _root_.Attn.score
  rw [← _root_.Attn.coe_sum_mul]
  refine Eq.trans (congrArg₂ (· + ·) (Finset.sum_congr rfl fun x _ => ?_) (Finset.sum_eq_zero fun x _ => ?_)) (add_zero _)
  · rw [if_pos (show (Fin.castAdd 64 x).val < 64 from x.isLt)]
    have e : (Fin.castAdd 64 x : Fin 128) = ⟨64 * (0 : Fin 2).val + x.val, by omega⟩ := Fin.ext (by simp)
    rw [e]
  · rw [if_neg (show ¬ (Fin.natAdd 64 x).val < 64 by simp), zero_mul]

theorem dots_lower (q k : Vec Ideal S8192x128 .bf16) (Q K : Fin 8192 → Fin 128 → ℝ) (hq : ∀ i x, q (ix2 i x) = Q i x)
    (hk : ∀ i x, k (ix2 i x) = K i x) (t : Fin 16) (j : Fin 4) (i : Fin 512) (c : Fin 2048) :
    k0_pay2 (qs q t) (blockOf k j) (ix2 ⟨512 + i.val, by omega⟩ c)
      = ((_root_.Attn.score Q K 1 ⟨512 * t.val + i.val, by omega⟩ (Fin.ofNat 8192 (j.val * 2048 + c.val)) : ℝ) : EReal) := by
  rw [dots_at]
  simp only [blockOf_at, hk, qs_lower, hq]
  refine (Fin.sum_univ_add (a := 64) (b := 64) _).trans ?_
  unfold _root_.Attn.score
  rw [← _root_.Attn.coe_sum_mul]
  refine Eq.trans (congrArg₂ (· + ·) (Finset.sum_eq_zero fun x _ => ?_) (Finset.sum_congr rfl fun x _ => ?_)) (zero_add _)
  · rw [if_pos (show (Fin.castAdd 64 x).val < 64 from x.isLt), zero_mul]
  · rw [if_neg (show ¬ (Fin.natAdd 64 x).val < 64 by simp)]
    have e : (Fin.natAdd 64 x : Fin 128) = ⟨64 * (1 : Fin 2).val + x.val, by omega⟩ := Fin.ext (by simp; omega)
    rw [e]

end Cert.KernelIdeal.Attn

end
-- ==== Proof.Attn.Online.lean ====
module

public import proofs.«01_k».proof.Proof.Attn.Blocks
public import proofs.«01_k».proof.Proof.Attn.Values
public import proofs.«01_k».proof.Proof.Attn.Body

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-! # The running sums

Over the four key blocks of a trip a chunk's running maximum stays some real per row, and its accumulator is the
sum, over the blocks so far, of the exponentials of the scores above that real, times the values. -/

/-- What is stored as the running maximum after the first block is the chunk's row maximum. -/
theorem firstMax_eq (x : Vec Ideal S256x128 .f32) (i : Fin 256) (c : Fin 128) : k0_pay8 x (ix2 i c) = k0_pay6 x (ix2 i c) := by
  unfold k0_pay8
  generalize k0_pay6 x = y
  pointwise

/-- What is stored as the running maximum after a later block. -/
theorem laterMax_eq (x m : Vec Ideal S256x128 .f32) (i : Fin 256) (c : Fin 128) : k0_pay100 x m (ix2 i c) = k0_pay98 x m (ix2 i c) := by
  unfold k0_pay100
  generalize k0_pay98 x m = y
  pointwise

/-- After block `n` of the four the running maximum of chunk `r` is a real `M i` per row, and the accumulator
    is the sum over the blocks so far, at that real. -/
theorem run_at (q k v : Vec Ideal S8192x128 .bf16) (t : Fin 16) (r : Fin 4) (S : ℕ → Fin 256 → Fin 2048 → ℝ)
    (W : ℕ → Fin 2048 → Fin 256 → ℝ) (hs : ∀ (j : Fin 4) i c, chunkS (sc q k t j) r (ix2 i c) = S j.val i c)
    (hx : ∀ (j : Fin 4) i c, ∃ a : ℝ, chunkX (mx q k t j) r (ix2 i c) = a) (hw : ∀ (j : Fin 4) c d, vx v j (ix2 c d) = W j.val c d) :
    ∀ n ≤ 3, ∃ M : Fin 256 → ℝ, (∀ i c, runM q k t n r (ix2 i c) = M i)
      ∧ ∀ i d, runA q k v t n r (ix2 i d) = ((∑ j ∈ Finset.range (n + 1), ∑ c, Real.exp (S j i c - M i) * W j c d : ℝ) : EReal) := by
  intro n
  induction n with
  | zero =>
    intro _
    choose M hM using fun i => rowMax_at (chunkX (mx q k t 0) r) i (hx 0 i)
    refine ⟨M, fun i c => (firstMax_eq _ i c).trans (hM i c), fun i d => ?_⟩
    refine (firstSum_at (vx v 0) (chunkS (sc q k t 0) r) _ (S 0) (W 0) M (hs 0) (hw 0) hM i d).trans ?_
    rw [Finset.sum_range_one]
  | succ n ih =>
    intro hn
    obtain ⟨M, hm, ha⟩ := ih (by omega)
    have hj : (Fin.ofNat 4 (n + 1)).val = n + 1 := Nat.mod_eq_of_lt (by omega)
    choose M' hM' using fun i => nextMax_at (chunkX (mx q k t (Fin.ofNat 4 (n + 1))) r) (runM q k t n r) i (hx _ i) (M i) (hm i)
    refine ⟨M', fun i c => (laterMax_eq _ _ i c).trans (hM' i c), fun i d => ?_⟩
    refine (nextSum_at (vx v (Fin.ofNat 4 (n + 1))) (chunkS (sc q k t (Fin.ofNat 4 (n + 1))) r) _ _ _ (S (n + 1)) (W (n + 1)) M M' _
      (fun i c => by rw [hs, hj]) (fun c d => by rw [hw, hj]) hm hM' ha i d).trans ?_
    exact congrArg _ (_root_.Attn.rescale (fun j => S j i) (fun j c => W j c d) (n + 1) (M i) (M' i))

/-- The two maps' rows of scores: chunk `r` of the upper two holds map 0, of the lower two map 1. -/
theorem chunk_scores (q k : Vec Ideal S8192x128 .bf16) (Q K : Fin 8192 → Fin 128 → ℝ) (hq : ∀ i x, q (ix2 i x) = Q i x)
    (hk : ∀ i x, k (ix2 i x) = K i x) (t : Fin 16) (r : Fin 2) (j : Fin 4) (i : Fin 256) (c : Fin 2048) :
    chunkS (sc q k t j) (lo r) (ix2 i c)
        = ((_root_.Attn.score Q K 0 ⟨512 * t.val + (256 * r.val + i.val), by omega⟩ (Fin.ofNat 8192 (j.val * 2048 + c.val)) : ℝ) : EReal)
      ∧ chunkS (sc q k t j) (hi r) (ix2 i c)
        = ((_root_.Attn.score Q K 1 ⟨512 * t.val + (256 * r.val + i.val), by omega⟩ (Fin.ofNat 8192 (j.val * 2048 + c.val)) : ℝ) : EReal) := by
  constructor
  · rw [chunkS_at]
    refine Eq.trans ?_ (dots_upper q k Q K hq hk t j ⟨256 * r.val + i.val, by omega⟩ c)
    exact (scores_at _ _ _ _).trans (dots_at _ _ _ _).symm
  · rw [chunkS_at]
    refine Eq.trans ?_ (dots_lower q k Q K hq hk t j ⟨256 * r.val + i.val, by omega⟩ c)
    refine (scores_at _ _ _ _).trans (Eq.trans ?_ (dots_at _ _ _ _).symm)
    have e : (⟨256 * (hi r).val + i.val, by have := (hi r).isLt; omega⟩ : Fin 1024) = ⟨512 + (256 * r.val + i.val), by omega⟩ :=
      Fin.ext (show 256 * (r.val + 2) + i.val = 512 + (256 * r.val + i.val) by omega)
    rw [e]

/-- Every score of a stacked tile is a real. -/
theorem dots_real (q k : Vec Ideal S8192x128 .bf16) (Q K : Fin 8192 → Fin 128 → ℝ) (hq : ∀ i x, q (ix2 i x) = Q i x)
    (hk : ∀ i x, k (ix2 i x) = K i x) (t : Fin 16) (j : Fin 4) (i : Fin 1024) (c : Fin 2048) :
    ∃ a : ℝ, k0_pay2 (qs q t) (blockOf k j) (ix2 i c) = a := by
  by_cases h : i.val < 512
  · exact ⟨_, dots_upper q k Q K hq hk t j ⟨i.val, h⟩ c⟩
  · have e : i = ⟨512 + (⟨i.val - 512, by omega⟩ : Fin 512).val, by show 512 + (i.val - 512) < 1024; omega⟩ :=
      Fin.ext (show i.val = 512 + (i.val - 512) by omega)
    rw [e]
    exact ⟨_, dots_lower q k Q K hq hk t j ⟨i.val - 512, by omega⟩ c⟩

/-- The lane maxima of every chunk are real. -/
theorem chunk_real (q k : Vec Ideal S8192x128 .bf16) (Q K : Fin 8192 → Fin 128 → ℝ) (hq : ∀ i x, q (ix2 i x) = Q i x)
    (hk : ∀ i x, k (ix2 i x) = K i x) (t : Fin 16) (r : Fin 4) (j : Fin 4) (i : Fin 256) (c : Fin 128) :
    ∃ a : ℝ, chunkX (mx q k t j) r (ix2 i c) = a := by
  rw [chunkX_at]
  exact laneMax_real _ _ _ (dots_real q k Q K hq hk t j _) c

/-- A chunk's quotient of a column of sums by the column of ones is the softmax-weighted mean of the values. -/
theorem quotient_at (q k v : Vec Ideal S8192x128 .bf16) (V : Fin 8192 → Fin 128 → ℝ) (hv : ∀ i x, v (ix2 i x) = V i x) (t : Fin 16) (r : Fin 4)
    (f : Fin 256 → Fin 8192 → ℝ) (hs : ∀ (j : Fin 4) i c, chunkS (sc q k t j) r (ix2 i c) = f i (Fin.ofNat 8192 (j.val * 2048 + c.val)))
    (hx : ∀ (j : Fin 4) i c, ∃ a : ℝ, chunkX (mx q k t j) r (ix2 i c) = a) (i : Fin 256) (d : Fin 128) :
    Ideal.div (runA q k v t 3 r (ix2 i ⟨d.val, by omega⟩)) (runA q k v t 3 r (ix2 i 128))
      = ((_root_.Attn.mean (f i) (fun c => V c d) : ℝ) : EReal) := by
  have hvb : ∀ (j : Fin 4) c d, ∃ a : ℝ, vx v j (ix2 c d) = a := fun j c d =>
    vals_real _ (fun c d => by rw [blockOf_at]; exact ⟨_, hv _ _⟩) c d
  choose W hW using hvb
  obtain ⟨M, -, hA⟩ := run_at q k v t r (fun j i c => f i (Fin.ofNat 8192 (j * 2048 + c.val))) (fun j c d => W (Fin.ofNat 4 j) c d)
    hs hx (fun j c d => by rw [hW]; congr 2; exact Fin.ext (Nat.mod_eq_of_lt j.isLt).symm) 3 le_rfl
  rw [hA, hA]
  have hn : ∀ j < 4, ∀ c, W (Fin.ofNat 4 j) c ⟨d.val, by omega⟩ = V (Fin.ofNat 8192 (j * 2048 + c.val)) d := fun j hj c => by
    have h := (hW (Fin.ofNat 4 j) c ⟨d.val, by omega⟩).symm.trans ((vals_at _ c ⟨d.val, by omega⟩ d.isLt).trans ((blockOf_at _ _ _ _).trans (hv _ _)))
    have e := EReal.coe_injective h
    rw [e]
    congr 2
    exact congrArg (· * 2048 + c.val) (Nat.mod_eq_of_lt hj)
  have ho : ∀ j c, W (Fin.ofNat 4 j) c 128 = 1 := fun j c =>
    EReal.coe_injective ((hW _ _ _).symm.trans ((vals_ones _ c).trans EReal.coe_one.symm))
  rw [Finset.sum_congr rfl fun j hj => Finset.sum_congr rfl fun c _ => by rw [hn j (Finset.mem_range.1 hj) c]]
  simp only [ho, mul_one]
  rw [← _root_.Attn.sum_blocks (fun c => Real.exp (f i c - M i) * V c d), ← _root_.Attn.sum_blocks (fun c => Real.exp (f i c - M i)),
    _root_.Attn.div_coe_coe _ _ (_root_.Attn.sum_exp_ne _), _root_.Attn.mean_shift]

/-- One block of 256 rows of the result. -/
theorem outOf_at (lam : FVec Ideal S1x1 .f32) (g : Vec Ideal S1x1x128 .f32) (q k v : Vec Ideal S8192x128 .bf16) (l : ℝ)
    (Q K V : Fin 8192 → Fin 128 → ℝ) (hl : lam (ix2 0 0) = l) (hq : ∀ i x, q (ix2 i x) = Q i x) (hk : ∀ i x, k (ix2 i x) = K i x)
    (hv : ∀ i x, v (ix2 i x) = V i x) (t : Fin 16) (r : Fin 2) (i : Fin 256) (d : Fin 128) :
    outOf lam g q k v t r (ix2 i d)
      = _root_.Attn.normed (fun x => ((_root_.Attn.mixed l Q K V ⟨512 * t.val + (256 * r.val + i.val), by omega⟩ x : ℝ) : EReal)) (g (ix3 0 0 d)) d := by
  unfold outOf
  rw [finish_at]
  refine congrArg (fun o => _root_.Attn.normed o (g (ix3 0 0 d)) d) (funext fun x => ?_)
  rw [quotient_at q k v V hv t (lo r) (fun i => _root_.Attn.score Q K 0 ⟨512 * t.val + (256 * r.val + i.val), by omega⟩)
      (fun j i c => (chunk_scores q k Q K hq hk t r j i c).1) (fun j i c => chunk_real q k Q K hq hk t _ j i c),
    quotient_at q k v V hv t (hi r) (fun i => _root_.Attn.score Q K 1 ⟨512 * t.val + (256 * r.val + i.val), by omega⟩)
      (fun j i c => (chunk_scores q k Q K hq hk t r j i c).2) (fun j i c => chunk_real q k Q K hq hk t _ j i c), hl]
  rw [← EReal.coe_mul, ← EReal.coe_sub]
  rfl

/-- The result of one head at row `s`, column `d`. -/
theorem outArr_at (lam : FVec Ideal S1x1 .f32) (g : Vec Ideal S1x1x128 .f32) (q k v : Vec Ideal S8192x128 .bf16) (l : ℝ)
    (Q K V : Fin 8192 → Fin 128 → ℝ) (hl : lam (ix2 0 0) = l) (hq : ∀ i x, q (ix2 i x) = Q i x) (hk : ∀ i x, k (ix2 i x) = K i x)
    (hv : ∀ i x, v (ix2 i x) = V i x) (s : Fin 8192) (d : Fin 128) :
    outArr (outBlk lam g q k v) (ix2 s d)
      = _root_.Attn.normed (fun x => ((_root_.Attn.mixed l Q K V s x : ℝ) : EReal)) (g (ix3 0 0 d)) d := by
  have h : outArr (outBlk lam g q k v) (ix2 s d)
      = outOf lam g q k v ⟨s.val / 256 / 2, by omega⟩ ⟨s.val / 256 % 2, by omega⟩ (ix2 ⟨s.val % 256, Nat.mod_lt _ (by decide)⟩ d) := by
    refine congrArg (outOf lam g q k v ⟨s.val / 256 / 2, by omega⟩ ⟨s.val / 256 % 2, by omega⟩) (funext fun a => ?_)
    match a with
    | 0 => rfl
    | 1 => rfl
  rw [h, outOf_at lam g q k v l Q K V hl hq hk hv]
  have e : (⟨512 * (s.val / 256 / 2) + (256 * (s.val / 256 % 2) + s.val % 256), by omega⟩ : Fin 8192) = s := Fin.ext (by show 512 * (s.val / 256 / 2) + (256 * (s.val / 256 % 2) + s.val % 256) = s.val; omega)
  show _root_.Attn.normed (fun x => ((_root_.Attn.mixed l Q K V ⟨512 * (s.val / 256 / 2) + (256 * (s.val / 256 % 2) + s.val % 256), _⟩ x : ℝ) : EReal)) _ _ = _
  rw [e]

end Cert.KernelIdeal.Attn

end
-- ==== Proof.Ref.Stages.lean ====
module

public import proofs.«01_k».proof.Proof.Gen.ReferenceIdeal.Run
public import proofs.«01_k».proof.Proof.Attn.Spec
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe Idealize.ShloMosaic.Tactic Idealize.SL.Sem

/-! # The reference's result, stage by stage

The reference's composed term cut at its named intermediate arrays, each stage read at an index. -/

/-- Queries or keys laid out by batch, head, map and row. -/
def heads (x : FVec Ideal S16384x512 .bf16) : FVec Ideal S2x4x2x8192x64 .f32 :=
  transpose S2x4x2x8192x64 [0, 2, 3, 1, 4] (shapeCast S2x8192x4x2x64 (extf .f32 x bitsLt_bf16_f32) shapeCasts_S16384x512_S2x8192x4x2x64) transposes_S2x8192x4x2x64_S2x4x2x8192x64_0_2_3_1_4

/-- Values laid out by batch, head and row. -/
def vals (x : FVec Ideal S16384x512 .bf16) : FVec Ideal S2x4x8192x128 .f32 :=
  transpose S2x4x8192x128 [0, 2, 1, 3] (shapeCast S2x8192x4x128 (extf .f32 x bitsLt_bf16_f32) shapeCasts_S16384x512_S2x8192x4x128) transposes_S2x8192x4x128_S2x4x8192x128_0_2_1_3

/-- The taken layer's row of a stack of two. -/
def row (a : FVec Ideal S2x64 .f32) : FVec Ideal S64 .f32 := shapeCast S64 (extractStridedSlice S1x64 ![0, 0] a slices_S2x64_S1x64_0_0) shapeCasts_S1x64_S64

/-- The mixing weight. -/
def lam (a b e f : FVec Ideal S2x64 .f32) : FVec Ideal S_ .f32 :=
  addf (subf (Host.exp (Host.reduceAdd (mulf (row a) (row b)) (constant S_ .f32 0x00000000#32) reducesTo_S64_S_d0 h_S_))
    (Host.exp (Host.reduceAdd (mulf (row e) (row f)) (constant S_ .f32 0x00000000#32) reducesTo_S64_S_d0 h_S_))) (constant S_ .f32 0x3E4CCCCD#32)

/-- The scores. -/
def scores (q k : FVec Ideal S2x4x2x8192x64 .f32) : FVec Ideal S2x4x2x8192x8192 .f32 :=
  Host.dotGeneral dot_S2x4x2x8192x64_S2x4x2x8192x64_S2x4x2x8192x8192_4_4_3_3_012_012 none q k

/-- The row maxima of the scores. -/
def maxs (s : FVec Ideal S2x4x2x8192x8192 .f32) : FVec Ideal S2x4x2x8192 .f32 :=
  maximumf (broadcastInDim S2x4x2x8192 ![] bcast_S_S2x4x2x8192 (constant S_ .f32 0xFF800000#32))
    (Host.reduce FloatOps.maximumf s (constant S_ .f32 0xFF800000#32) reducesTo_S2x4x2x8192x8192_S2x4x2x8192_d4 h_S_)

/-- A value per row, in every column. -/
def spread (x : FVec Ideal S2x4x2x8192 .f32) : FVec Ideal S2x4x2x8192x8192 .f32 :=
  broadcastInDim S2x4x2x8192x8192 ![0, 1, 2, 3, 4] bcast_S2x4x2x8192x1_S2x4x2x8192x8192_0_1_2_3_4
    (broadcastInDim S2x4x2x8192x1 ![0, 1, 2, 3] bcast_S2x4x2x8192_S2x4x2x8192x1_0_1_2_3 x)

/-- The exponentials of the scores above a value per row. -/
def exps (s : FVec Ideal S2x4x2x8192x8192 .f32) (x : FVec Ideal S2x4x2x8192 .f32) : FVec Ideal S2x4x2x8192x8192 .f32 := Host.exp (subf s (spread x))

/-- The exponentials over their row sums. -/
def probs (e : FVec Ideal S2x4x2x8192x8192 .f32) : FVec Ideal S2x4x2x8192x8192 .f32 :=
  Host.divf e (spread (Host.reduceAdd e (constant S_ .f32 0x00000000#32) reducesTo_S2x4x2x8192x8192_S2x4x2x8192_d4 h_S_))

/-- The two maps' weights, the second subtracted with the mixing weight. -/
def weights (l : FVec Ideal S_ .f32) (p : FVec Ideal S2x4x2x8192x8192 .f32) : FVec Ideal S2x4x8192x8192 .f32 :=
  subf (shapeCast S2x4x8192x8192 (extractStridedSlice S2x4x1x8192x8192 ![0, 0, 0, 0, 0] p slices_S2x4x2x8192x8192_S2x4x1x8192x8192_0_0_0_0_0) shapeCasts_S2x4x1x8192x8192_S2x4x8192x8192)
    (mulf (broadcastInDim S2x4x8192x8192 ![] bcast_S_S2x4x8192x8192 l)
      (shapeCast S2x4x8192x8192 (extractStridedSlice S2x4x1x8192x8192 ![0, 0, 1, 0, 0] p slices_S2x4x2x8192x8192_S2x4x1x8192x8192_0_0_1_0_0) shapeCasts_S2x4x1x8192x8192_S2x4x8192x8192))

/-- The weighted values. -/
def outs (w : FVec Ideal S2x4x8192x8192 .f32) (v : FVec Ideal S2x4x8192x128 .f32) : FVec Ideal S2x4x8192x128 .f32 :=
  Host.dotGeneral dot_S2x4x8192x8192_S2x4x8192x128_S2x4x8192x128_3_2_2_3_01_01 none w v

/-- The normalized rows. -/
def norms (o : FVec Ideal S2x4x8192x128 .f32) (g : FVec Ideal S2x128 .f32) : FVec Ideal S2x4x8192x128 .f32 :=
  mulf (mulf (mulf o (broadcastInDim S2x4x8192x128 ![0, 1, 2, 3] bcast_S2x4x8192x1_S2x4x8192x128_0_1_2_3
        (Host.rsqrt (addf (Host.divf (broadcastInDim S2x4x8192x1 ![0, 1, 2] bcast_S2x4x8192_S2x4x8192x1_0_1_2
            (Host.reduceAdd (mulf o o) (constant S_ .f32 0x00000000#32) reducesTo_S2x4x8192x128_S2x4x8192_d3 h_S_))
          (broadcastInDim S2x4x8192x1 ![] bcast_S_S2x4x8192x1 (constant S_ .f32 0x43000000#32)))
          (broadcastInDim S2x4x8192x1 ![] bcast_S_S2x4x8192x1 (constant S_ .f32 0x3727C5AC#32))))))
      (broadcastInDim S2x4x8192x128 ![0, 1, 2, 3] bcast_S1x1x1x128_S2x4x8192x128_0_1_2_3 (broadcastInDim S1x1x1x128 ![3] bcast_S128_S1x1x1x128_3
        (shapeCast S128 (extractStridedSlice S1x128 ![0, 0] g slices_S2x128_S1x128_0_0) shapeCasts_S1x128_S128))))
    (broadcastInDim S2x4x8192x128 ![] bcast_S_S2x4x8192x128 (constant S_ .f32 0x3F4CCCCD#32))

/-- The rows laid out as the result. -/
def lay (y : FVec Ideal S2x4x8192x128 .f32) : FVec Ideal S16384x512 .bf16 :=
  truncf .bf16 (shapeCast S16384x512 (transpose S2x8192x4x128 [0, 2, 1, 3] y transposes_S2x4x8192x128_S2x8192x4x128_0_2_1_3) shapeCasts_S2x8192x4x128_S16384x512) bitsLt_bf16_f32

/-- The reference's result as its stages compose. -/
def result (q k v : FVec Ideal S16384x512 .bf16) (a b e f : FVec Ideal S2x64 .f32) (g : FVec Ideal S2x128 .f32) : FVec Ideal S16384x512 .bf16 :=
  lay (norms (outs (weights (lam a b e f) (probs (exps (scores (heads q) (heads k)) (maxs (scores (heads q) (heads k)))))) (vals v)) g)

/-- The printed result is the composition of the stages. -/
theorem result_eq (m : (ℓ : Loc nD τ sig) → Buf (Elt Ideal) ℓ) (c : Dev nD) :
    Cert.ReferenceIdeal.Value.res_main_v64 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- Queries or keys of batch `b`, head `h`, map `n`: row `s`, column `d`. -/
theorem heads_at (x : FVec Ideal S16384x512 .bf16) (b : Fin 2) (h : Fin 4) (n : Fin 2) (s : Fin 8192) (d : Fin 64) :
    heads x (ix5 b h n s d) = x (ix2 ⟨8192 * b.val + s.val, by omega⟩ ⟨128 * h.val + (64 * n.val + d.val), by omega⟩) := by
  pointwise [heads]
  exact congrArg x (congrArg₂ ix2 (Fin.ext (show b.val * 8192 + s.val = 8192 * b.val + s.val by omega))
    (Fin.ext (show h.val * 128 + n.val * 64 + d.val = 128 * h.val + (64 * n.val + d.val) by omega)))

/-- Values of batch `b`, head `h`. -/
theorem vals_at (x : FVec Ideal S16384x512 .bf16) (b : Fin 2) (h : Fin 4) (s : Fin 8192) (d : Fin 128) :
    vals x (ix4 b h s d) = x (ix2 ⟨8192 * b.val + s.val, by omega⟩ ⟨128 * h.val + d.val, by omega⟩) := by
  pointwise [vals]
  exact congrArg x (congrArg₂ ix2 (Fin.ext (show b.val * 8192 + s.val = 8192 * b.val + s.val by omega))
    (Fin.ext (show h.val * 128 + d.val = 128 * h.val + d.val by omega)))

/-- The mixing weight is the weight of the four vectors. -/
theorem lam_at (a b e f : FVec Ideal S2x64 .f32) :
    lam a b e f ix0 = _root_.Attn.weight (fun x => a (ix2 0 x)) (fun x => b (ix2 0 x)) (fun x => e (ix2 0 x)) (fun x => f (ix2 0 x)) := by
  pointwise [lam, row]
  rfl

/-- A score is a dot product over the 64 columns of its map. -/
theorem scores_at (q k : FVec Ideal S2x4x2x8192x64 .f32) (b : Fin 2) (h : Fin 4) (n : Fin 2) (s c : Fin 8192) :
    scores q k (ix5 b h n s c) = ∑ d : Fin 64, q (ix5 b h n s d) * k (ix5 b h n c d) := by
  pointwise [scores]

/-- The row maxima of real scores are real. -/
theorem maxs_at (s : FVec Ideal S2x4x2x8192x8192 .f32) (hs : ∀ j, ∃ r : ℝ, s j = r) (j : S2x4x2x8192.Idx) : ∃ r : ℝ, maxs s j = r := by
  have h : S2x4x2x8192x8192.Reduces [4] S2x4x2x8192 := by decide
  obtain ⟨r, hr⟩ := _root_.Attn.fold_max_real (n := 8191) (s ∘ h.lift j) fun k => hs _
  refine ⟨r, ?_⟩
  unfold maxs
  rw [maximumf_apply, Host.reduce_eq_fold_single FloatOps.maximumf s _ _ h]
  refine Eq.trans (congrArg₂ max (?_ : _ = (⊥ : EReal)) ?_) (max_eq_right bot_le)
  · exact _root_.Attn.ofBits_neg_inf
  · refine Eq.trans ?_ hr
    exact congrArg (fun z => Finset.fold max z (s ∘ h.lift j) Finset.univ) _root_.Attn.ofBits_neg_inf

/-- The exponential of a score above its row's value. -/
theorem exps_at (s : FVec Ideal S2x4x2x8192x8192 .f32) (x : FVec Ideal S2x4x2x8192 .f32) (b : Fin 2) (h : Fin 4) (n : Fin 2) (i c : Fin 8192) :
    exps s x (ix5 b h n i c) = Ideal.exp (s (ix5 b h n i c) - x (ix4 b h n i)) := by
  pointwise [exps, spread]

/-- An exponential over the sum of its row. -/
theorem probs_at (e : FVec Ideal S2x4x2x8192x8192 .f32) (b : Fin 2) (h : Fin 4) (n : Fin 2) (i c : Fin 8192) :
    probs e (ix5 b h n i c) = Ideal.div (e (ix5 b h n i c)) (∑ x : Fin 8192, e (ix5 b h n i x)) := by
  pointwise [probs, spread]

/-- The combined weight of one key row. -/
theorem weights_at (l : FVec Ideal S_ .f32) (p : FVec Ideal S2x4x2x8192x8192 .f32) (b : Fin 2) (h : Fin 4) (i c : Fin 8192) :
    weights l p (ix4 b h i c) = p (ix5 b h 0 i c) - l ix0 * p (ix5 b h 1 i c) := by
  pointwise [weights]

/-- A weighted sum of the values. -/
theorem outs_at (w : FVec Ideal S2x4x8192x8192 .f32) (v : FVec Ideal S2x4x8192x128 .f32) (b : Fin 2) (h : Fin 4) (i : Fin 8192) (d : Fin 128) :
    outs w v (ix4 b h i d) = ∑ c : Fin 8192, w (ix4 b h i c) * v (ix4 b h c d) := by
  pointwise [outs]

/-- The normalized row at a column. -/
theorem norms_at (o : FVec Ideal S2x4x8192x128 .f32) (g : FVec Ideal S2x128 .f32) (b : Fin 2) (h : Fin 4) (i : Fin 8192) (d : Fin 128) :
    norms o g (ix4 b h i d) = _root_.Attn.normed (fun x => o (ix4 b h i x)) (g (ix2 0 d)) d := by
  pointwise [norms]
  rfl

/-- Row `s` of batch `b`, column `d` of head `h` in the result. -/
theorem lay_at (y : FVec Ideal S2x4x8192x128 .f32) (b : Fin 2) (h : Fin 4) (s : Fin 8192) (d : Fin 128) :
    lay y (ix2 ⟨8192 * b.val + s.val, by omega⟩ ⟨128 * h.val + d.val, by omega⟩) = y (ix4 b h s d) := by
  pointwise [lay]
  trace_state

/-- The softmax-weighted difference of the two maps, as the reference sums it, is the difference of their means. -/
theorem outs_mixed (l : ℝ) (S : Fin 2 → Fin 8192 → ℝ) (V : Fin 8192 → ℝ) (M : Fin 2 → ℝ) :
    (∑ c : Fin 8192, (Ideal.div (Ideal.exp ((S 0 c : EReal) - M 0)) (∑ x : Fin 8192, Ideal.exp ((S 0 x : EReal) - M 0))
        - (l : EReal) * Ideal.div (Ideal.exp ((S 1 c : EReal) - M 1)) (∑ x : Fin 8192, Ideal.exp ((S 1 x : EReal) - M 1))) * (V c : EReal))
      = ((_root_.Attn.mean (S 0) V - l * _root_.Attn.mean (S 1) V : ℝ) : EReal) := by
  simp only [← EReal.coe_sub, Ideal.exp_coe, ← _root_.Attn.coe_sum]
  rw [← _root_.Attn.mean_shift (S 0) V (M 0), ← _root_.Attn.mean_shift (S 1) V (M 1)]
  simp only [_root_.Attn.div_coe_coe _ _ (_root_.Attn.sum_exp_ne (n := 8191) _), ← EReal.coe_mul, ← EReal.coe_sub]
  rw [← _root_.Attn.coe_sum]
  congr 1
  rw [Finset.sum_div, Finset.sum_div, Finset.mul_sum, ← Finset.sum_sub_distrib]
  exact Finset.sum_congr rfl fun c _ => by ring

/-- The reference's result at row `s` of batch `b`, column `d` of head `h`. -/
theorem result_at (q k v : FVec Ideal S16384x512 .bf16) (a e f g' : FVec Ideal S2x64 .f32) (g : FVec Ideal S2x128 .f32)
    (hq : ∀ j, ∃ r : ℝ, q j = r) (hk : ∀ j, ∃ r : ℝ, k j = r) (b : Fin 2) (h : Fin 4) (l : ℝ)
    (hl : _root_.Attn.weight (fun x => a (ix2 0 x)) (fun x => e (ix2 0 x)) (fun x => f (ix2 0 x)) (fun x => g' (ix2 0 x)) = l)
    (Q K V : Fin 8192 → Fin 128 → ℝ)
    (hQ : ∀ s x, q (ix2 ⟨8192 * b.val + s.val, by omega⟩ ⟨128 * h.val + x.val, by omega⟩) = Q s x)
    (hK : ∀ s x, k (ix2 ⟨8192 * b.val + s.val, by omega⟩ ⟨128 * h.val + x.val, by omega⟩) = K s x)
    (hV : ∀ s x, v (ix2 ⟨8192 * b.val + s.val, by omega⟩ ⟨128 * h.val + x.val, by omega⟩) = V s x) (s : Fin 8192) (d : Fin 128) :
    result q k v a e f g' g (ix2 ⟨8192 * b.val + s.val, by omega⟩ ⟨128 * h.val + d.val, by omega⟩)
      = _root_.Attn.normed (fun x => ((_root_.Attn.mixed l Q K V s x : ℝ) : EReal)) (g (ix2 0 d)) d := by
  unfold result
  rw [lay_at, norms_at]
  have hs : ∀ (n : Fin 2) (i c : Fin 8192), scores (heads q) (heads k) (ix5 b h n i c) = ((_root_.Attn.score Q K n i c : ℝ) : EReal) := fun n i c => by
    rw [scores_at]
    unfold _root_.Attn.score
    rw [← _root_.Attn.coe_sum_mul]
    refine Finset.sum_congr rfl fun x _ => ?_
    rw [heads_at, heads_at]
    exact congrArg₂ (· * ·) (hQ i ⟨64 * n.val + x.val, by omega⟩) (hK c ⟨64 * n.val + x.val, by omega⟩)
  have hr : ∀ j, ∃ r : ℝ, scores (heads q) (heads k) j = r := fun j => by
    idx_vars j
    rw [scores_at]
    choose A hA using fun x => hq x
    choose B hB using fun x => hk x
    simp only [heads_at, hA, hB, _root_.Attn.coe_sum_mul]
    exact ⟨_, rfl⟩
  choose M hM using fun n : Fin 2 => maxs_at _ hr (ix4 b h n s)
  refine congrArg (fun o => _root_.Attn.normed o (g (ix2 0 d)) d) (funext fun x => ?_)
  rw [outs_at]
  simp only [weights_at, probs_at, exps_at, hs, hM, vals_at, hV, lam_at, hl]
  exact outs_mixed l (fun n => _root_.Attn.score Q K n s) (fun c => V c x) M

end Cert.ReferenceIdeal.Stages

end
-- ==== Proof.Attn.Output.lean ====
module

public import proofs.«01_k».proof.Defs
public import proofs.«01_k».proof.Proof.Gen.Pre_finite
public import proofs.«01_k».proof.Proof.Attn.Run
public import proofs.«01_k».proof.Proof.Attn.Online
public import proofs.«01_k».proof.Proof.Ref.Stages
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-! # The kernel's result array

Each grid point's block of the result is the reference's result there, so the array after the run is the
reference's result of the kernel's arguments. -/

/-- A float whose magnitude is below infinity is a real. -/
theorem real_of_lt_top {x y : EReal} (hy : y = ⊤) (h : Ideal.cmp .olt (max x (-x)) y = 1#1) : ∃ r : ℝ, x = r := by
  subst hy
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  rw [max_lt_iff] at h'
  refine ⟨x.toReal, (EReal.coe_toReal (ne_of_lt h'.1) fun e => ?_).symm⟩
  rw [e] at h'
  exact absurd h'.2 (by simp)

/-- The blocks of a point: its coordinates are the batch and the head. -/
theorem idx (t : Fin cfg0.N) :
    win0_0.index t = ![(grid0.coords t 0).val, (grid0.coords t 1).val] ∧ win0_1.index t = ![(grid0.coords t 0).val, (grid0.coords t 1).val]
      ∧ win0_2.index t = ![(grid0.coords t 0).val, (grid0.coords t 1).val] ∧ win0_8.index t = ![(grid0.coords t 0).val, (grid0.coords t 1).val] := by
  revert t; decide +kernel

variable (m : (ℓ : Loc nD τ sig) → Buf (Elt Ideal) ℓ)

/-- A point's batch is below 2, so its rows are rows of the arrays. -/
theorem row_lt (t : Fin cfg0.N) (s : Fin 8192) : 8192 * (grid0.coords t 0).val + s.val < 16384 := by
  have : (grid0.coords t 0).val < 2 := (grid0.coords t 0).isLt
  omega

/-- A point's head is below 4, so its columns are columns of the arrays. -/
theorem col_lt (t : Fin cfg0.N) (x : Fin 128) : 128 * (grid0.coords t 1).val + x.val < 512 := by
  have : (grid0.coords t 1).val < 4 := (grid0.coords t 1).isLt
  omega

/-- The parameter blocks are the first of their stacks at every point. -/
theorem idxP (t : Fin cfg0.N) : win0_3.index t = ![0, 0, 0] ∧ win0_4.index t = ![0, 0, 0] ∧ win0_5.index t = ![0, 0, 0]
      ∧ win0_6.index t = ![0, 0, 0] ∧ win0_7.index t = ![0, 0, 0] := by
  revert t; decide +kernel

/-- The query block of a point, read from the query array. -/
theorem blk_0 (c : Dev nD) (t : Fin cfg0.N) (s : Fin 8192) (x : Fin 128) :
    iblk m c 0 t (ix2 s x) = m ((c.tc : Thread nD τ).loc main_arg0) (ix2 ⟨8192 * (grid0.coords t 0).val + s.val, row_lt t s⟩ ⟨128 * (grid0.coords t 1).val + x.val, col_lt t x⟩) := by
  blk_ext [iblk, V, idx t]

/-- The key block of a point, read from the key array. -/
theorem blk_1 (c : Dev nD) (t : Fin cfg0.N) (s : Fin 8192) (x : Fin 128) :
    iblk m c 1 t (ix2 s x) = m ((c.tc : Thread nD τ).loc main_arg1) (ix2 ⟨8192 * (grid0.coords t 0).val + s.val, row_lt t s⟩ ⟨128 * (grid0.coords t 1).val + x.val, col_lt t x⟩) := by
  blk_ext [iblk, V, idx t]

/-- The value block of a point, read from the value array. -/
theorem blk_2 (c : Dev nD) (t : Fin cfg0.N) (s : Fin 8192) (x : Fin 128) :
    iblk m c 2 t (ix2 s x) = m ((c.tc : Thread nD τ).loc main_arg2) (ix2 ⟨8192 * (grid0.coords t 0).val + s.val, row_lt t s⟩ ⟨128 * (grid0.coords t 1).val + x.val, col_lt t x⟩) := by
  blk_ext [iblk, V, idx t]

/-- Parameter block 3 of a point is the first row of its argument. -/
theorem blk_3 (c : Dev nD) (t : Fin cfg0.N) (x : Fin 64) :
    iblk m c 3 t (ix3 0 0 x) = m ((c.tc : Thread nD τ).loc main_arg3) (ix2 0 x) := by
  unfold iblk
  show StableHlo.after hostOps0 (fun b => m (c, b)) (Proc.tc.devRef main_v0) ((win0_3.blk t).view.emb (ix3 0 0 x)) = _
  have e : (win0_3.blk t).view.emb (ix3 0 0 x) = (ix3 0 0 x : S2x1x64.Idx) := by blk_ext [idxP t]
  rw [e]
  entry_read
  pointwise

/-- Parameter block 4 of a point is the first row of its argument. -/
theorem blk_4 (c : Dev nD) (t : Fin cfg0.N) (x : Fin 64) :
    iblk m c 4 t (ix3 0 0 x) = m ((c.tc : Thread nD τ).loc main_arg4) (ix2 0 x) := by
  unfold iblk
  show StableHlo.after hostOps0 (fun b => m (c, b)) (Proc.tc.devRef main_v1) ((win0_4.blk t).view.emb (ix3 0 0 x)) = _
  have e : (win0_4.blk t).view.emb (ix3 0 0 x) = (ix3 0 0 x : S2x1x64.Idx) := by blk_ext [idxP t]
  rw [e]
  entry_read
  pointwise

/-- Parameter block 5 of a point is the first row of its argument. -/
theorem blk_5 (c : Dev nD) (t : Fin cfg0.N) (x : Fin 64) :
    iblk m c 5 t (ix3 0 0 x) = m ((c.tc : Thread nD τ).loc main_arg5) (ix2 0 x) := by
  unfold iblk
  show StableHlo.after hostOps0 (fun b => m (c, b)) (Proc.tc.devRef main_v2) ((win0_5.blk t).view.emb (ix3 0 0 x)) = _
  have e : (win0_5.blk t).view.emb (ix3 0 0 x) = (ix3 0 0 x : S2x1x64.Idx) := by blk_ext [idxP t]
  rw [e]
  entry_read
  pointwise

/-- Parameter block 6 of a point is the first row of its argument. -/
theorem blk_6 (c : Dev nD) (t : Fin cfg0.N) (x : Fin 64) :
    iblk m c 6 t (ix3 0 0 x) = m ((c.tc : Thread nD τ).loc main_arg6) (ix2 0 x) := by
  unfold iblk
  show StableHlo.after hostOps0 (fun b => m (c, b)) (Proc.tc.devRef main_v3) ((win0_6.blk t).view.emb (ix3 0 0 x)) = _
  have e : (win0_6.blk t).view.emb (ix3 0 0 x) = (ix3 0 0 x : S2x1x64.Idx) := by blk_ext [idxP t]
  rw [e]
  entry_read
  pointwise

/-- Parameter block 7 of a point is the first row of its argument. -/
theorem blk_7 (c : Dev nD) (t : Fin cfg0.N) (x : Fin 128) :
    iblk m c 7 t (ix3 0 0 x) = m ((c.tc : Thread nD τ).loc main_arg7) (ix2 0 x) := by
  unfold iblk
  show StableHlo.after hostOps0 (fun b => m (c, b)) (Proc.tc.devRef main_v4) ((win0_7.blk t).view.emb (ix3 0 0 x)) = _
  have e : (win0_7.blk t).view.emb (ix3 0 0 x) = (ix3 0 0 x : S2x1x128.Idx) := by blk_ext [idxP t]
  rw [e]
  entry_read
  pointwise

/-- The reference's result of the kernel's arguments. -/
def want (c : Dev nD) : Vec Ideal S16384x512 .bf16 :=
  Cert.ReferenceIdeal.Stages.result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- What the precondition gives: the queries, keys and values, and the taken rows of the four weight vectors, are reals. -/
structure Reals (c : Dev nD) : Prop where
  q : ∀ j, ∃ r : ℝ, m ((c.tc : Thread nD τ).loc main_arg0) j = (r : EReal)
  k : ∀ j, ∃ r : ℝ, m ((c.tc : Thread nD τ).loc main_arg1) j = (r : EReal)
  v : ∀ j, ∃ r : ℝ, m ((c.tc : Thread nD τ).loc main_arg2) j = (r : EReal)
  l1 : ∀ x : Fin 64, ∃ r : ℝ, m ((c.tc : Thread nD τ).loc main_arg3) (ix2 0 x) = (r : EReal)
  l2 : ∀ x : Fin 64, ∃ r : ℝ, m ((c.tc : Thread nD τ).loc main_arg4) (ix2 0 x) = (r : EReal)
  l3 : ∀ x : Fin 64, ∃ r : ℝ, m ((c.tc : Thread nD τ).loc main_arg5) (ix2 0 x) = (r : EReal)
  l4 : ∀ x : Fin 64, ∃ r : ℝ, m ((c.tc : Thread nD τ).loc main_arg6) (ix2 0 x) = (r : EReal)

/-- The precondition, read at its elements. -/
theorem real_of_pre [Cert.Pre_finite.Facts] (h : Cert.Pre_KernelIdeal_finite m) (c : Dev nD) : Reals m c := by
  obtain ⟨h0, h1, h2, h3, h4, h5, h6⟩ := h c
  refine ⟨fun j => ?_, fun j => ?_, fun j => ?_, fun x => ?_, fun x => ?_, fun x => ?_, fun x => ?_⟩
  · exact real_of_lt_top _root_.Attn.ofBits_inf_bf16 (congrFun h0 j)
  · exact real_of_lt_top _root_.Attn.ofBits_inf_bf16 (congrFun h1 j)
  · exact real_of_lt_top _root_.Attn.ofBits_inf_bf16 (congrFun h2 j)
  · have e := congrFun h3 (ix1 x)
    pointwise [Cert.Pre_finite.fn, Cert.Pre_finite.fn_part1] at e
    exact real_of_lt_top _root_.Attn.ofBits_inf e
  · have e := congrFun h4 (ix1 x)
    pointwise [Cert.Pre_finite.fn, Cert.Pre_finite.fn_part1] at e
    exact real_of_lt_top _root_.Attn.ofBits_inf e
  · have e := congrFun h5 (ix1 x)
    pointwise [Cert.Pre_finite.fn, Cert.Pre_finite.fn_part1] at e
    exact real_of_lt_top _root_.Attn.ofBits_inf e
  · have e := congrFun h6 (ix1 x)
    pointwise [Cert.Pre_finite.fn, Cert.Pre_finite.fn_part1] at e
    exact real_of_lt_top _root_.Attn.ofBits_inf e

/-- A point's block of the result, at row `s` and column `x`, is the reference's result there. -/
theorem out_at (c : Dev nD) (h : Reals m c) (t : Fin cfg0.N) (s : Fin 8192) (x : Fin 128) :
    out m c t (ix2 s x) = want m c (ix2 ⟨8192 * (grid0.coords t 0).val + s.val, row_lt t s⟩ ⟨128 * (grid0.coords t 1).val + x.val, col_lt t x⟩) := by
  have hb : (grid0.coords t 0).val < 2 := (grid0.coords t 0).isLt
  have hh : (grid0.coords t 1).val < 4 := (grid0.coords t 1).isLt
  obtain ⟨l, hl⟩ := _root_.Attn.weight_real _ _ _ _ h.l1 h.l2 h.l3 h.l4
  choose Q hQ using h.q
  choose K hK using h.k
  choose V' hV using h.v
  have e := Cert.ReferenceIdeal.Stages.result_at (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    h.q h.k ⟨(grid0.coords t 0).val, hb⟩ ⟨(grid0.coords t 1).val, hh⟩ l hl _ _ _ (fun s x => hQ _) (fun s x => hK _) (fun s x => hV _) s x
  refine Eq.trans ?_ e.symm
  refine (outArr_at (k0_pay103 (iblk m c 3 t) (iblk m c 4 t) (iblk m c 5 t) (iblk m c 6 t)) (iblk m c 7 t) (iblk m c 0 t) (iblk m c 1 t)
    (iblk m c 2 t) l _ _ _ ?_ (fun s x => (blk_0 m c t s x).trans (hQ _)) (fun s x => (blk_1 m c t s x).trans (hK _))
    (fun s x => (blk_2 m c t s x).trans (hV _)) s x).trans ?_
  · refine (weight_at (iblk m c 3 t) (iblk m c 4 t) (iblk m c 5 t) (iblk m c 6 t) 0 0).trans (Eq.trans ?_ hl)
    rw [funext (blk_3 m c t), funext (blk_4 m c t), funext (blk_5 m c t), funext (blk_6 m c t)]
  · rw [blk_7]

/-- After the run the result array is the reference's result. -/
theorem array (c : Dev nD) (h : Reals m c) : (dats m 0 c).arrAt 8 cfg0.N = want m c := by
  refine (dats m 0 c).arrAt_eq_of_covers 8 _ (by decide +kernel) fun t hf y => ?_
  blk_simp
  rw [after_8]
  change S8192x128.Idx at y
  idx_vars y
  rw [out_at m c h t y0 y1]
  blk_ext [idx t]

end Cert.KernelIdeal.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Attn.Run
public import proofs.«01_k».proof.Proof.Ffn.Run
public import proofs.«01_k».proof.Proof.Ffn1.Run
public import proofs.«01_k».proof.Proof.Proj.Run
public import proofs.«01_k».proof.Proof.Proj1.Run
public import proofs.«01_k».proof.Proof.Attn1.Claims
public import proofs.«01_k».proof.Proof.Merge.Run
public import proofs.«01_k».proof.Proof.Merge1.Run
public import proofs.«01_k».proof.Proof.Mem.Run
public import proofs.«01_k».proof.Proof.Mem1.Run
public import proofs.«01_k».proof.Proof.Attn.Output
public import Idealize.ShloMosaic.Lib.Claim
public import Idealize.ShloMosaic.Adequacy
public import Idealize.ShloMosaic.Init

@[expose] public section

noncomputable section

namespace Cert.Proof

open Idealize.ShloMosaic Idealize.SL.Sem

/-- The printed kernel's body table is the idealized kernel's: no operation was rewritten. -/
theorem bodies_eq : Kernel.defs₀ (F := Bits) = KernelIdeal.defs₀ (F := Bits) := by
  unfold Kernel.defs₀ KernelIdeal.defs₀
  refine congrArg _ (funext fun l => funext fun x => ?_)
  match l, x with
  | 0, (t, s) => rfl
  | ⟨_ + 1, h⟩, _ => exact absurd h (Nat.not_lt.2 (Nat.le_add_left _ _))

/-- The printed kernel's table of all bodies is the idealized kernel's. -/
theorem defs_eq : Kernel.defs (F := Bits) = KernelIdeal.defs (F := Bits) :=
  congrArg (Pipeline.defs (Kernel.pcfgs (F := Bits))) bodies_eq

/-- The printed kernel's frame, from the run over any floats. -/
theorem frame_kernel : Cert.quiescent_Kernel := by
  intro m ρ _
  rw [defs_eq]
  exact Cert.KernelIdeal.Attn.frame_any (F := Bits) m ρ

/-- The idealized kernel's frame. -/
theorem frame_kernelIdeal : Cert.quiescent_KernelIdeal := fun m ρ _ => Cert.KernelIdeal.Attn.frame_any (F := Ideal) m ρ

/-- The reference's frame, from its generated run. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the reals the attention call computes the reference's result. -/
theorem algebraic : Cert.algebraic_KernelIdeal_ReferenceIdeal_pre_finite := by
  intro m g m' g' hpre hagree
  refine ⟨Cert.KernelIdeal.Attn.want m, ?_, ?_⟩
  · run_from (Cert.KernelIdeal.Attn.run m g)
    exact Cert.KernelIdeal.Attn.array m c (Cert.KernelIdeal.Attn.real_of_pre m hpre c)
  · refine (θ_run _ _ _).mono (fun _ h c => ⟨(h c).1.trans ?_, (h c).2⟩) (Cert.ReferenceIdeal.Value.run m' g')
    rw [Cert.ReferenceIdeal.Stages.result_eq]
    obtain ⟨h0, h1, h2, h3, h4, h5, h6, h7⟩ := hagree c
    rw [h0, h1, h2, h3, h4, h5, h6, h7]
    rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts, Cert.Pre_finite6.Gen.facts, Cert.Pre_finite7.Gen.facts, Cert.Pre_finite8.Gen.facts,
    frame_kernel, frame_kernelIdeal, fun m ρ _ => frame_kernelIdeal m ρ trivial, frame_referenceIdeal,
    fun m ρ _ => frame_referenceIdeal m ρ trivial,
    Ffn.frame_kernel, Ffn.frame_kernelIdeal, Ffn.frame_referenceIdeal,
    Ffn1.frame_kernel, Ffn1.frame_kernelIdeal, Ffn1.frame_referenceIdeal,
    Proj.frame_kernel, Proj.frame_kernelIdeal, Proj.frame_referenceIdeal,
    Proj1.frame_kernel, Proj1.frame_kernelIdeal, Proj1.frame_referenceIdeal,
    Attn1.frame_kernel, Attn1.frame_kernelIdeal, fun m ρ _ => Attn1.frame_kernelIdeal m ρ trivial, Attn1.frame_referenceIdeal, fun m ρ _ => Attn1.frame_referenceIdeal m ρ trivial,
    Merge.frame_kernel, Merge.frame_kernelIdeal, fun m ρ _ => Merge.frame_kernelIdeal m ρ trivial, Merge.frame_referenceIdeal, fun m ρ _ => Merge.frame_referenceIdeal m ρ trivial,
    Merge1.frame_kernel, Merge1.frame_kernelIdeal, fun m ρ _ => Merge1.frame_kernelIdeal m ρ trivial, Merge1.frame_referenceIdeal, fun m ρ _ => Merge1.frame_referenceIdeal m ρ trivial,
    Mem.frame_kernel, Mem.frame_kernelIdeal, Mem.frame_referenceIdeal,
    Mem1.frame_kernel, Mem1.frame_kernelIdeal, Mem1.frame_referenceIdeal,
    trivial, algebraic, trivial, Ffn.algebraic, trivial, Ffn1.algebraic, trivial, Proj.algebraic, trivial, Proj1.algebraic, trivial, Attn1.algebraic, trivial, Merge.algebraic, trivial, Merge1.algebraic, trivial, Mem.algebraic, trivial, Mem1.algebraic⟩

end Cert.Proof

end
